-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))) = (fun _ => 1#1)

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite_latent [hPre_finite_latent : Cert.Pre_finite_latent.Facts] (m : (ℓ : Loc Cert.LatIdeal.nD Cert.LatIdeal.τ Cert.LatIdeal.sig) → Buf (Elt Ideal) ℓ) : Prop :=
  ∀ c : Dev Cert.LatIdeal.nD,
    (Cert.Pre_finite_latent.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7)) (m ((c.tc : Thread Cert.LatIdeal.nD Cert.LatIdeal.τ).loc Cert.LatIdeal.main_arg8)) (m ((c.tc : Thread Cert.LatIdeal.nD Cert.LatIdeal.τ).loc Cert.LatIdeal.main_arg9)) (m ((c.tc : Thread Cert.LatIdeal.nD Cert.LatIdeal.τ).loc Cert.LatIdeal.main_arg10)) (m ((c.tc : Thread Cert.LatIdeal.nD Cert.LatIdeal.τ).loc Cert.LatIdeal.main_arg11)) (m ((c.tc : Thread Cert.LatIdeal.nD Cert.LatIdeal.τ).loc Cert.LatIdeal.main_arg12)) (m ((c.tc : Thread Cert.LatIdeal.nD Cert.LatIdeal.τ).loc Cert.LatIdeal.main_arg13)) (m ((c.tc : Thread Cert.LatIdeal.nD Cert.LatIdeal.τ).loc Cert.LatIdeal.main_arg14)) (m ((c.tc : Thread Cert.LatIdeal.nD Cert.LatIdeal.τ).loc Cert.LatIdeal.main_arg15)) (m ((c.tc : Thread Cert.LatIdeal.nD Cert.LatIdeal.τ).loc Cert.LatIdeal.main_arg16)) (m ((c.tc : Thread Cert.LatIdeal.nD Cert.LatIdeal.τ).loc Cert.LatIdeal.main_arg17))) = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_finite_latent [hPre_finite_latent : Cert.Pre_finite_latent.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_finite_latent.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7)) (m ((c.tc : Thread Cert.LatRefIdeal.nD Cert.LatRefIdeal.τ).loc Cert.LatRefIdeal.main_arg8)) (m ((c.tc : Thread Cert.LatRefIdeal.nD Cert.LatRefIdeal.τ).loc Cert.LatRefIdeal.main_arg9)) (m ((c.tc : Thread Cert.LatRefIdeal.nD Cert.LatRefIdeal.τ).loc Cert.LatRefIdeal.main_arg10)) (m ((c.tc : Thread Cert.LatRefIdeal.nD Cert.LatRefIdeal.τ).loc Cert.LatRefIdeal.main_arg11)) (m ((c.tc : Thread Cert.LatRefIdeal.nD Cert.LatRefIdeal.τ).loc Cert.LatRefIdeal.main_arg12)) (m ((c.tc : Thread Cert.LatRefIdeal.nD Cert.LatRefIdeal.τ).loc Cert.LatRefIdeal.main_arg13)) (m ((c.tc : Thread Cert.LatRefIdeal.nD Cert.LatRefIdeal.τ).loc Cert.LatRefIdeal.main_arg14)) (m ((c.tc : Thread Cert.LatRefIdeal.nD Cert.LatRefIdeal.τ).loc Cert.LatRefIdeal.main_arg15)) (m ((c.tc : Thread Cert.LatRefIdeal.nD Cert.LatRefIdeal.τ).loc Cert.LatRefIdeal.main_arg16)) (m ((c.tc : Thread Cert.LatRefIdeal.nD Cert.LatRefIdeal.τ).loc Cert.LatRefIdeal.main_arg17))) = (fun _ => 1#1)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6)
      ∧ r.2.mem ((c.tc : Thread Cert.Lat.nD Cert.Lat.τ).loc Cert.Lat.main_arg7) = m ((c.tc : Thread Cert.Lat.nD Cert.Lat.τ).loc Cert.Lat.main_arg7)
      ∧ r.2.mem ((c.tc : Thread Cert.Lat.nD Cert.Lat.τ).loc Cert.Lat.main_arg8) = m ((c.tc : Thread Cert.Lat.nD Cert.Lat.τ).loc Cert.Lat.main_arg8)
      ∧ r.2.mem ((c.tc : Thread Cert.Lat.nD Cert.Lat.τ).loc Cert.Lat.main_arg9) = m ((c.tc : Thread Cert.Lat.nD Cert.Lat.τ).loc Cert.Lat.main_arg9)
      ∧ r.2.mem ((c.tc : Thread Cert.Lat.nD Cert.Lat.τ).loc Cert.Lat.main_arg10) = m ((c.tc : Thread Cert.Lat.nD Cert.Lat.τ).loc Cert.Lat.main_arg10)
      ∧ r.2.mem ((c.tc : Thread Cert.Lat.nD Cert.Lat.τ).loc Cert.Lat.main_arg11) = m ((c.tc : Thread Cert.Lat.nD Cert.Lat.τ).loc Cert.Lat.main_arg11)
      ∧ r.2.mem ((c.tc : Thread Cert.Lat.nD Cert.Lat.τ).loc Cert.Lat.main_arg12) = m ((c.tc : Thread Cert.Lat.nD Cert.Lat.τ).loc Cert.Lat.main_arg12)
      ∧ r.2.mem ((c.tc : Thread Cert.Lat.nD Cert.Lat.τ).loc Cert.Lat.main_arg13) = m ((c.tc : Thread Cert.Lat.nD Cert.Lat.τ).loc Cert.Lat.main_arg13)
      ∧ r.2.mem ((c.tc : Thread Cert.Lat.nD Cert.Lat.τ).loc Cert.Lat.main_arg14) = m ((c.tc : Thread Cert.Lat.nD Cert.Lat.τ).loc Cert.Lat.main_arg14)
      ∧ r.2.mem ((c.tc : Thread Cert.Lat.nD Cert.Lat.τ).loc Cert.Lat.main_arg15) = m ((c.tc : Thread Cert.Lat.nD Cert.Lat.τ).loc Cert.Lat.main_arg15)
      ∧ r.2.mem ((c.tc : Thread Cert.Lat.nD Cert.Lat.τ).loc Cert.Lat.main_arg16) = m ((c.tc : Thread Cert.Lat.nD Cert.Lat.τ).loc Cert.Lat.main_arg16)
      ∧ r.2.mem ((c.tc : Thread Cert.Lat.nD Cert.Lat.τ).loc Cert.Lat.main_arg17) = m ((c.tc : Thread Cert.Lat.nD Cert.Lat.τ).loc Cert.Lat.main_arg17))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
      ∧ r.2.mem ((c.tc : Thread Cert.LatIdeal.nD Cert.LatIdeal.τ).loc Cert.LatIdeal.main_arg10) = m ((c.tc : Thread Cert.LatIdeal.nD Cert.LatIdeal.τ).loc Cert.LatIdeal.main_arg10)
      ∧ r.2.mem ((c.tc : Thread Cert.LatIdeal.nD Cert.LatIdeal.τ).loc Cert.LatIdeal.main_arg11) = m ((c.tc : Thread Cert.LatIdeal.nD Cert.LatIdeal.τ).loc Cert.LatIdeal.main_arg11)
      ∧ r.2.mem ((c.tc : Thread Cert.LatIdeal.nD Cert.LatIdeal.τ).loc Cert.LatIdeal.main_arg12) = m ((c.tc : Thread Cert.LatIdeal.nD Cert.LatIdeal.τ).loc Cert.LatIdeal.main_arg12)
      ∧ r.2.mem ((c.tc : Thread Cert.LatIdeal.nD Cert.LatIdeal.τ).loc Cert.LatIdeal.main_arg13) = m ((c.tc : Thread Cert.LatIdeal.nD Cert.LatIdeal.τ).loc Cert.LatIdeal.main_arg13)
      ∧ r.2.mem ((c.tc : Thread Cert.LatIdeal.nD Cert.LatIdeal.τ).loc Cert.LatIdeal.main_arg14) = m ((c.tc : Thread Cert.LatIdeal.nD Cert.LatIdeal.τ).loc Cert.LatIdeal.main_arg14)
      ∧ r.2.mem ((c.tc : Thread Cert.LatIdeal.nD Cert.LatIdeal.τ).loc Cert.LatIdeal.main_arg15) = m ((c.tc : Thread Cert.LatIdeal.nD Cert.LatIdeal.τ).loc Cert.LatIdeal.main_arg15)
      ∧ r.2.mem ((c.tc : Thread Cert.LatIdeal.nD Cert.LatIdeal.τ).loc Cert.LatIdeal.main_arg16) = m ((c.tc : Thread Cert.LatIdeal.nD Cert.LatIdeal.τ).loc Cert.LatIdeal.main_arg16)
      ∧ r.2.mem ((c.tc : Thread Cert.LatIdeal.nD Cert.LatIdeal.τ).loc Cert.LatIdeal.main_arg17) = m ((c.tc : Thread Cert.LatIdeal.nD Cert.LatIdeal.τ).loc Cert.LatIdeal.main_arg17))
      ∧ r.2.sem = fun _ => 0)

def quiescent_LatIdeal_pre_finite_latent [hLatIdeal : Cert.LatIdeal.Facts] [hPre_finite_latent : Cert.Pre_finite_latent.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite_latent m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
      ∧ r.2.mem ((c.tc : Thread Cert.LatIdeal.nD Cert.LatIdeal.τ).loc Cert.LatIdeal.main_arg10) = m ((c.tc : Thread Cert.LatIdeal.nD Cert.LatIdeal.τ).loc Cert.LatIdeal.main_arg10)
      ∧ r.2.mem ((c.tc : Thread Cert.LatIdeal.nD Cert.LatIdeal.τ).loc Cert.LatIdeal.main_arg11) = m ((c.tc : Thread Cert.LatIdeal.nD Cert.LatIdeal.τ).loc Cert.LatIdeal.main_arg11)
      ∧ r.2.mem ((c.tc : Thread Cert.LatIdeal.nD Cert.LatIdeal.τ).loc Cert.LatIdeal.main_arg12) = m ((c.tc : Thread Cert.LatIdeal.nD Cert.LatIdeal.τ).loc Cert.LatIdeal.main_arg12)
      ∧ r.2.mem ((c.tc : Thread Cert.LatIdeal.nD Cert.LatIdeal.τ).loc Cert.LatIdeal.main_arg13) = m ((c.tc : Thread Cert.LatIdeal.nD Cert.LatIdeal.τ).loc Cert.LatIdeal.main_arg13)
      ∧ r.2.mem ((c.tc : Thread Cert.LatIdeal.nD Cert.LatIdeal.τ).loc Cert.LatIdeal.main_arg14) = m ((c.tc : Thread Cert.LatIdeal.nD Cert.LatIdeal.τ).loc Cert.LatIdeal.main_arg14)
      ∧ r.2.mem ((c.tc : Thread Cert.LatIdeal.nD Cert.LatIdeal.τ).loc Cert.LatIdeal.main_arg15) = m ((c.tc : Thread Cert.LatIdeal.nD Cert.LatIdeal.τ).loc Cert.LatIdeal.main_arg15)
      ∧ r.2.mem ((c.tc : Thread Cert.LatIdeal.nD Cert.LatIdeal.τ).loc Cert.LatIdeal.main_arg16) = m ((c.tc : Thread Cert.LatIdeal.nD Cert.LatIdeal.τ).loc Cert.LatIdeal.main_arg16)
      ∧ r.2.mem ((c.tc : Thread Cert.LatIdeal.nD Cert.LatIdeal.τ).loc Cert.LatIdeal.main_arg17) = m ((c.tc : Thread Cert.LatIdeal.nD Cert.LatIdeal.τ).loc Cert.LatIdeal.main_arg17))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9)
      ∧ r.2.mem ((c.tc : Thread Cert.LatRefIdeal.nD Cert.LatRefIdeal.τ).loc Cert.LatRefIdeal.main_arg10) = m ((c.tc : Thread Cert.LatRefIdeal.nD Cert.LatRefIdeal.τ).loc Cert.LatRefIdeal.main_arg10)
      ∧ r.2.mem ((c.tc : Thread Cert.LatRefIdeal.nD Cert.LatRefIdeal.τ).loc Cert.LatRefIdeal.main_arg11) = m ((c.tc : Thread Cert.LatRefIdeal.nD Cert.LatRefIdeal.τ).loc Cert.LatRefIdeal.main_arg11)
      ∧ r.2.mem ((c.tc : Thread Cert.LatRefIdeal.nD Cert.LatRefIdeal.τ).loc Cert.LatRefIdeal.main_arg12) = m ((c.tc : Thread Cert.LatRefIdeal.nD Cert.LatRefIdeal.τ).loc Cert.LatRefIdeal.main_arg12)
      ∧ r.2.mem ((c.tc : Thread Cert.LatRefIdeal.nD Cert.LatRefIdeal.τ).loc Cert.LatRefIdeal.main_arg13) = m ((c.tc : Thread Cert.LatRefIdeal.nD Cert.LatRefIdeal.τ).loc Cert.LatRefIdeal.main_arg13)
      ∧ r.2.mem ((c.tc : Thread Cert.LatRefIdeal.nD Cert.LatRefIdeal.τ).loc Cert.LatRefIdeal.main_arg14) = m ((c.tc : Thread Cert.LatRefIdeal.nD Cert.LatRefIdeal.τ).loc Cert.LatRefIdeal.main_arg14)
      ∧ r.2.mem ((c.tc : Thread Cert.LatRefIdeal.nD Cert.LatRefIdeal.τ).loc Cert.LatRefIdeal.main_arg15) = m ((c.tc : Thread Cert.LatRefIdeal.nD Cert.LatRefIdeal.τ).loc Cert.LatRefIdeal.main_arg15)
      ∧ r.2.mem ((c.tc : Thread Cert.LatRefIdeal.nD Cert.LatRefIdeal.τ).loc Cert.LatRefIdeal.main_arg16) = m ((c.tc : Thread Cert.LatRefIdeal.nD Cert.LatRefIdeal.τ).loc Cert.LatRefIdeal.main_arg16)
      ∧ r.2.mem ((c.tc : Thread Cert.LatRefIdeal.nD Cert.LatRefIdeal.τ).loc Cert.LatRefIdeal.main_arg17) = m ((c.tc : Thread Cert.LatRefIdeal.nD Cert.LatRefIdeal.τ).loc Cert.LatRefIdeal.main_arg17))
      ∧ r.2.sem = fun _ => 0)

def quiescent_LatRefIdeal_pre_finite_latent [hLatRefIdeal : Cert.LatRefIdeal.Facts] [hPre_finite_latent : Cert.Pre_finite_latent.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_finite_latent m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9)
      ∧ r.2.mem ((c.tc : Thread Cert.LatRefIdeal.nD Cert.LatRefIdeal.τ).loc Cert.LatRefIdeal.main_arg10) = m ((c.tc : Thread Cert.LatRefIdeal.nD Cert.LatRefIdeal.τ).loc Cert.LatRefIdeal.main_arg10)
      ∧ r.2.mem ((c.tc : Thread Cert.LatRefIdeal.nD Cert.LatRefIdeal.τ).loc Cert.LatRefIdeal.main_arg11) = m ((c.tc : Thread Cert.LatRefIdeal.nD Cert.LatRefIdeal.τ).loc Cert.LatRefIdeal.main_arg11)
      ∧ r.2.mem ((c.tc : Thread Cert.LatRefIdeal.nD Cert.LatRefIdeal.τ).loc Cert.LatRefIdeal.main_arg12) = m ((c.tc : Thread Cert.LatRefIdeal.nD Cert.LatRefIdeal.τ).loc Cert.LatRefIdeal.main_arg12)
      ∧ r.2.mem ((c.tc : Thread Cert.LatRefIdeal.nD Cert.LatRefIdeal.τ).loc Cert.LatRefIdeal.main_arg13) = m ((c.tc : Thread Cert.LatRefIdeal.nD Cert.LatRefIdeal.τ).loc Cert.LatRefIdeal.main_arg13)
      ∧ r.2.mem ((c.tc : Thread Cert.LatRefIdeal.nD Cert.LatRefIdeal.τ).loc Cert.LatRefIdeal.main_arg14) = m ((c.tc : Thread Cert.LatRefIdeal.nD Cert.LatRefIdeal.τ).loc Cert.LatRefIdeal.main_arg14)
      ∧ r.2.mem ((c.tc : Thread Cert.LatRefIdeal.nD Cert.LatRefIdeal.τ).loc Cert.LatRefIdeal.main_arg15) = m ((c.tc : Thread Cert.LatRefIdeal.nD Cert.LatRefIdeal.τ).loc Cert.LatRefIdeal.main_arg15)
      ∧ r.2.mem ((c.tc : Thread Cert.LatRefIdeal.nD Cert.LatRefIdeal.τ).loc Cert.LatRefIdeal.main_arg16) = m ((c.tc : Thread Cert.LatRefIdeal.nD Cert.LatRefIdeal.τ).loc Cert.LatRefIdeal.main_arg16)
      ∧ r.2.mem ((c.tc : Thread Cert.LatRefIdeal.nD Cert.LatRefIdeal.τ).loc Cert.LatRefIdeal.main_arg17) = m ((c.tc : Thread Cert.LatRefIdeal.nD Cert.LatRefIdeal.τ).loc Cert.LatRefIdeal.main_arg17))
      ∧ r.2.sem = fun _ => 0)

def preserves_Tail_TailIdeal : Prop :=
  True

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v6_0)) (v1 : (c : Dev Cert.TailIdeal.nD) → Buf (Elt Ideal) ((c.tc : Thread Cert.TailIdeal.nD Cert.TailIdeal.τ).loc Cert.TailIdeal.main_v6_1)) (v2 : (c : Dev Cert.TailIdeal.nD) → Buf (Elt Ideal) ((c.tc : Thread Cert.TailIdeal.nD Cert.TailIdeal.τ).loc Cert.TailIdeal.main_v6_2)) (v3 : (c : Dev Cert.TailIdeal.nD) → Buf (Elt Ideal) ((c.tc : Thread Cert.TailIdeal.nD Cert.TailIdeal.τ).loc Cert.TailIdeal.main_v6_3)) (v4 : (c : Dev Cert.TailIdeal.nD) → Buf (Elt Ideal) ((c.tc : Thread Cert.TailIdeal.nD Cert.TailIdeal.τ).loc Cert.TailIdeal.main_v6_4)) (v5 : (c : Dev Cert.TailIdeal.nD) → Buf (Elt Ideal) ((c.tc : Thread Cert.TailIdeal.nD Cert.TailIdeal.τ).loc Cert.TailIdeal.main_v6_5)) (v6 : (c : Dev Cert.TailIdeal.nD) → Buf (Elt Ideal) ((c.tc : Thread Cert.TailIdeal.nD Cert.TailIdeal.τ).loc Cert.TailIdeal.main_v6_6)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6_0) = v0 c
          ∧ r.2.mem ((c.tc : Thread Cert.TailIdeal.nD Cert.TailIdeal.τ).loc Cert.TailIdeal.main_v6_1) = v1 c
          ∧ r.2.mem ((c.tc : Thread Cert.TailIdeal.nD Cert.TailIdeal.τ).loc Cert.TailIdeal.main_v6_2) = v2 c
          ∧ r.2.mem ((c.tc : Thread Cert.TailIdeal.nD Cert.TailIdeal.τ).loc Cert.TailIdeal.main_v6_3) = v3 c
          ∧ r.2.mem ((c.tc : Thread Cert.TailIdeal.nD Cert.TailIdeal.τ).loc Cert.TailIdeal.main_v6_4) = v4 c
          ∧ r.2.mem ((c.tc : Thread Cert.TailIdeal.nD Cert.TailIdeal.τ).loc Cert.TailIdeal.main_v6_5) = v5 c
          ∧ r.2.mem ((c.tc : Thread Cert.TailIdeal.nD Cert.TailIdeal.τ).loc Cert.TailIdeal.main_v6_6) = v6 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v67) = v0 c
          ∧ r.2.mem ((c.tc : Thread Cert.TailRefIdeal.nD Cert.TailRefIdeal.τ).loc Cert.TailRefIdeal.main_v69) = v1 c
          ∧ r.2.mem ((c.tc : Thread Cert.TailRefIdeal.nD Cert.TailRefIdeal.τ).loc Cert.TailRefIdeal.main_v71) = v2 c
          ∧ r.2.mem ((c.tc : Thread Cert.TailRefIdeal.nD Cert.TailRefIdeal.τ).loc Cert.TailRefIdeal.main_v73) = v3 c
          ∧ r.2.mem ((c.tc : Thread Cert.TailRefIdeal.nD Cert.TailRefIdeal.τ).loc Cert.TailRefIdeal.main_v75) = v4 c
          ∧ r.2.mem ((c.tc : Thread Cert.TailRefIdeal.nD Cert.TailRefIdeal.τ).loc Cert.TailRefIdeal.main_v76) = v5 c
          ∧ r.2.mem ((c.tc : Thread Cert.TailRefIdeal.nD Cert.TailRefIdeal.τ).loc Cert.TailRefIdeal.main_v77) = v6 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_Attn_AttnIdeal : Prop :=
  True

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v49_0)) (v1 : (c : Dev Cert.AttnIdeal.nD) → Buf (Elt Ideal) ((c.tc : Thread Cert.AttnIdeal.nD Cert.AttnIdeal.τ).loc Cert.AttnIdeal.main_v49_1)) (v2 : (c : Dev Cert.AttnIdeal.nD) → Buf (Elt Ideal) ((c.tc : Thread Cert.AttnIdeal.nD Cert.AttnIdeal.τ).loc Cert.AttnIdeal.main_v49_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v49_0) = v0 c
          ∧ r.2.mem ((c.tc : Thread Cert.AttnIdeal.nD Cert.AttnIdeal.τ).loc Cert.AttnIdeal.main_v49_1) = v1 c
          ∧ r.2.mem ((c.tc : Thread Cert.AttnIdeal.nD Cert.AttnIdeal.τ).loc Cert.AttnIdeal.main_v49_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v74) = v0 c
          ∧ r.2.mem ((c.tc : Thread Cert.AttnRefIdeal.nD Cert.AttnRefIdeal.τ).loc Cert.AttnRefIdeal.main_v77) = v1 c
          ∧ r.2.mem ((c.tc : Thread Cert.AttnRefIdeal.nD Cert.AttnRefIdeal.τ).loc Cert.AttnRefIdeal.main_v81) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Conv_ConvIdeal : Prop :=
  True

def algebraic_ConvIdeal_ConvRefIdeal_pre_finite_conv [hConvIdeal : Cert.ConvIdeal.Facts] [hConvRefIdeal : Cert.ConvRefIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v52_0)) (v1 : (c : Dev Cert.ConvIdeal.nD) → Buf (Elt Ideal) ((c.tc : Thread Cert.ConvIdeal.nD Cert.ConvIdeal.τ).loc Cert.ConvIdeal.main_v52_1)) (v2 : (c : Dev Cert.ConvIdeal.nD) → Buf (Elt Ideal) ((c.tc : Thread Cert.ConvIdeal.nD Cert.ConvIdeal.τ).loc Cert.ConvIdeal.main_v52_2)) (v3 : (c : Dev Cert.ConvIdeal.nD) → Buf (Elt Ideal) ((c.tc : Thread Cert.ConvIdeal.nD Cert.ConvIdeal.τ).loc Cert.ConvIdeal.main_v52_3)) (v4 : (c : Dev Cert.ConvIdeal.nD) → Buf (Elt Ideal) ((c.tc : Thread Cert.ConvIdeal.nD Cert.ConvIdeal.τ).loc Cert.ConvIdeal.main_v52_4)) (v5 : (c : Dev Cert.ConvIdeal.nD) → Buf (Elt Ideal) ((c.tc : Thread Cert.ConvIdeal.nD Cert.ConvIdeal.τ).loc Cert.ConvIdeal.main_v52_5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v52_0) = v0 c
          ∧ r.2.mem ((c.tc : Thread Cert.ConvIdeal.nD Cert.ConvIdeal.τ).loc Cert.ConvIdeal.main_v52_1) = v1 c
          ∧ r.2.mem ((c.tc : Thread Cert.ConvIdeal.nD Cert.ConvIdeal.τ).loc Cert.ConvIdeal.main_v52_2) = v2 c
          ∧ r.2.mem ((c.tc : Thread Cert.ConvIdeal.nD Cert.ConvIdeal.τ).loc Cert.ConvIdeal.main_v52_3) = v3 c
          ∧ r.2.mem ((c.tc : Thread Cert.ConvIdeal.nD Cert.ConvIdeal.τ).loc Cert.ConvIdeal.main_v52_4) = v4 c
          ∧ r.2.mem ((c.tc : Thread Cert.ConvIdeal.nD Cert.ConvIdeal.τ).loc Cert.ConvIdeal.main_v52_5) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v116) = v0 c
          ∧ r.2.mem ((c.tc : Thread Cert.ConvRefIdeal.nD Cert.ConvRefIdeal.τ).loc Cert.ConvRefIdeal.main_v132) = v1 c
          ∧ r.2.mem ((c.tc : Thread Cert.ConvRefIdeal.nD Cert.ConvRefIdeal.τ).loc Cert.ConvRefIdeal.main_v134) = v2 c
          ∧ r.2.mem ((c.tc : Thread Cert.ConvRefIdeal.nD Cert.ConvRefIdeal.τ).loc Cert.ConvRefIdeal.main_v51) = v3 c
          ∧ r.2.mem ((c.tc : Thread Cert.ConvRefIdeal.nD Cert.ConvRefIdeal.τ).loc Cert.ConvRefIdeal.main_v135) = v4 c
          ∧ r.2.mem ((c.tc : Thread Cert.ConvRefIdeal.nD Cert.ConvRefIdeal.τ).loc Cert.ConvRefIdeal.main_v136) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Lat_LatIdeal : Prop :=
  True

def algebraic_LatIdeal_LatRefIdeal_pre_finite_latent [hLatIdeal : Cert.LatIdeal.Facts] [hLatRefIdeal : Cert.LatRefIdeal.Facts] [hPre_finite_latent : Cert.Pre_finite_latent.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_finite_latent m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)
      ∧ m' ((c.tc : Thread Cert.LatRefIdeal.nD Cert.LatRefIdeal.τ).loc Cert.LatRefIdeal.main_arg7) = m ((c.tc : Thread Cert.LatIdeal.nD Cert.LatIdeal.τ).loc Cert.LatIdeal.main_arg7)
      ∧ m' ((c.tc : Thread Cert.LatRefIdeal.nD Cert.LatRefIdeal.τ).loc Cert.LatRefIdeal.main_arg8) = m ((c.tc : Thread Cert.LatIdeal.nD Cert.LatIdeal.τ).loc Cert.LatIdeal.main_arg8)
      ∧ m' ((c.tc : Thread Cert.LatRefIdeal.nD Cert.LatRefIdeal.τ).loc Cert.LatRefIdeal.main_arg9) = m ((c.tc : Thread Cert.LatIdeal.nD Cert.LatIdeal.τ).loc Cert.LatIdeal.main_arg9)
      ∧ m' ((c.tc : Thread Cert.LatRefIdeal.nD Cert.LatRefIdeal.τ).loc Cert.LatRefIdeal.main_arg10) = m ((c.tc : Thread Cert.LatIdeal.nD Cert.LatIdeal.τ).loc Cert.LatIdeal.main_arg10)
      ∧ m' ((c.tc : Thread Cert.LatRefIdeal.nD Cert.LatRefIdeal.τ).loc Cert.LatRefIdeal.main_arg11) = m ((c.tc : Thread Cert.LatIdeal.nD Cert.LatIdeal.τ).loc Cert.LatIdeal.main_arg11)
      ∧ m' ((c.tc : Thread Cert.LatRefIdeal.nD Cert.LatRefIdeal.τ).loc Cert.LatRefIdeal.main_arg12) = m ((c.tc : Thread Cert.LatIdeal.nD Cert.LatIdeal.τ).loc Cert.LatIdeal.main_arg12)
      ∧ m' ((c.tc : Thread Cert.LatRefIdeal.nD Cert.LatRefIdeal.τ).loc Cert.LatRefIdeal.main_arg13) = m ((c.tc : Thread Cert.LatIdeal.nD Cert.LatIdeal.τ).loc Cert.LatIdeal.main_arg13)
      ∧ m' ((c.tc : Thread Cert.LatRefIdeal.nD Cert.LatRefIdeal.τ).loc Cert.LatRefIdeal.main_arg14) = m ((c.tc : Thread Cert.LatIdeal.nD Cert.LatIdeal.τ).loc Cert.LatIdeal.main_arg14)
      ∧ m' ((c.tc : Thread Cert.LatRefIdeal.nD Cert.LatRefIdeal.τ).loc Cert.LatRefIdeal.main_arg15) = m ((c.tc : Thread Cert.LatIdeal.nD Cert.LatIdeal.τ).loc Cert.LatIdeal.main_arg15)
      ∧ m' ((c.tc : Thread Cert.LatRefIdeal.nD Cert.LatRefIdeal.τ).loc Cert.LatRefIdeal.main_arg16) = m ((c.tc : Thread Cert.LatIdeal.nD Cert.LatIdeal.τ).loc Cert.LatIdeal.main_arg16)
      ∧ m' ((c.tc : Thread Cert.LatRefIdeal.nD Cert.LatRefIdeal.τ).loc Cert.LatRefIdeal.main_arg17) = m ((c.tc : Thread Cert.LatIdeal.nD Cert.LatIdeal.τ).loc Cert.LatIdeal.main_arg17)) →
    ∃ (v0 : (c : Dev Cert.LatIdeal.nD) → Buf (Elt Ideal) ((c.tc : Thread Cert.LatIdeal.nD Cert.LatIdeal.τ).loc Cert.LatIdeal.main_v70_0)) (v1 : (c : Dev Cert.LatIdeal.nD) → Buf (Elt Ideal) ((c.tc : Thread Cert.LatIdeal.nD Cert.LatIdeal.τ).loc Cert.LatIdeal.main_v70_1)) (v2 : (c : Dev Cert.LatIdeal.nD) → Buf (Elt Ideal) ((c.tc : Thread Cert.LatIdeal.nD Cert.LatIdeal.τ).loc Cert.LatIdeal.main_v70_2)) (v3 : (c : Dev Cert.LatIdeal.nD) → Buf (Elt Ideal) ((c.tc : Thread Cert.LatIdeal.nD Cert.LatIdeal.τ).loc Cert.LatIdeal.main_v70_3)) (v4 : (c : Dev Cert.LatIdeal.nD) → Buf (Elt Ideal) ((c.tc : Thread Cert.LatIdeal.nD Cert.LatIdeal.τ).loc Cert.LatIdeal.main_v70_4)) (v5 : (c : Dev Cert.LatIdeal.nD) → Buf (Elt Ideal) ((c.tc : Thread Cert.LatIdeal.nD Cert.LatIdeal.τ).loc Cert.LatIdeal.main_v70_5)) (v6 : (c : Dev Cert.LatIdeal.nD) → Buf (Elt Ideal) ((c.tc : Thread Cert.LatIdeal.nD Cert.LatIdeal.τ).loc Cert.LatIdeal.main_v70_6)) (v7 : (c : Dev Cert.LatIdeal.nD) → Buf (Elt Ideal) ((c.tc : Thread Cert.LatIdeal.nD Cert.LatIdeal.τ).loc Cert.LatIdeal.main_v70_7)) (v8 : (c : Dev Cert.LatIdeal.nD) → Buf (Elt Ideal) ((c.tc : Thread Cert.LatIdeal.nD Cert.LatIdeal.τ).loc Cert.LatIdeal.main_v70_8)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v70_0) = v0 c
          ∧ r.2.mem ((c.tc : Thread Cert.LatIdeal.nD Cert.LatIdeal.τ).loc Cert.LatIdeal.main_v70_1) = v1 c
          ∧ r.2.mem ((c.tc : Thread Cert.LatIdeal.nD Cert.LatIdeal.τ).loc Cert.LatIdeal.main_v70_2) = v2 c
          ∧ r.2.mem ((c.tc : Thread Cert.LatIdeal.nD Cert.LatIdeal.τ).loc Cert.LatIdeal.main_v70_3) = v3 c
          ∧ r.2.mem ((c.tc : Thread Cert.LatIdeal.nD Cert.LatIdeal.τ).loc Cert.LatIdeal.main_v70_4) = v4 c
          ∧ r.2.mem ((c.tc : Thread Cert.LatIdeal.nD Cert.LatIdeal.τ).loc Cert.LatIdeal.main_v70_5) = v5 c
          ∧ r.2.mem ((c.tc : Thread Cert.LatIdeal.nD Cert.LatIdeal.τ).loc Cert.LatIdeal.main_v70_6) = v6 c
          ∧ r.2.mem ((c.tc : Thread Cert.LatIdeal.nD Cert.LatIdeal.τ).loc Cert.LatIdeal.main_v70_7) = v7 c
          ∧ r.2.mem ((c.tc : Thread Cert.LatIdeal.nD Cert.LatIdeal.τ).loc Cert.LatIdeal.main_v70_8) = v8 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
          ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
          ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
          ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
          ∧ r.2.mem ((c.tc : Thread Cert.LatIdeal.nD Cert.LatIdeal.τ).loc Cert.LatIdeal.main_arg10) = m ((c.tc : Thread Cert.LatIdeal.nD Cert.LatIdeal.τ).loc Cert.LatIdeal.main_arg10)
          ∧ r.2.mem ((c.tc : Thread Cert.LatIdeal.nD Cert.LatIdeal.τ).loc Cert.LatIdeal.main_arg11) = m ((c.tc : Thread Cert.LatIdeal.nD Cert.LatIdeal.τ).loc Cert.LatIdeal.main_arg11)
          ∧ r.2.mem ((c.tc : Thread Cert.LatIdeal.nD Cert.LatIdeal.τ).loc Cert.LatIdeal.main_arg12) = m ((c.tc : Thread Cert.LatIdeal.nD Cert.LatIdeal.τ).loc Cert.LatIdeal.main_arg12)
          ∧ r.2.mem ((c.tc : Thread Cert.LatIdeal.nD Cert.LatIdeal.τ).loc Cert.LatIdeal.main_arg13) = m ((c.tc : Thread Cert.LatIdeal.nD Cert.LatIdeal.τ).loc Cert.LatIdeal.main_arg13)
          ∧ r.2.mem ((c.tc : Thread Cert.LatIdeal.nD Cert.LatIdeal.τ).loc Cert.LatIdeal.main_arg14) = m ((c.tc : Thread Cert.LatIdeal.nD Cert.LatIdeal.τ).loc Cert.LatIdeal.main_arg14)
          ∧ r.2.mem ((c.tc : Thread Cert.LatIdeal.nD Cert.LatIdeal.τ).loc Cert.LatIdeal.main_arg15) = m ((c.tc : Thread Cert.LatIdeal.nD Cert.LatIdeal.τ).loc Cert.LatIdeal.main_arg15)
          ∧ r.2.mem ((c.tc : Thread Cert.LatIdeal.nD Cert.LatIdeal.τ).loc Cert.LatIdeal.main_arg16) = m ((c.tc : Thread Cert.LatIdeal.nD Cert.LatIdeal.τ).loc Cert.LatIdeal.main_arg16)
          ∧ r.2.mem ((c.tc : Thread Cert.LatIdeal.nD Cert.LatIdeal.τ).loc Cert.LatIdeal.main_arg17) = m ((c.tc : Thread Cert.LatIdeal.nD Cert.LatIdeal.τ).loc Cert.LatIdeal.main_arg17))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v244) = v0 c
          ∧ r.2.mem ((c.tc : Thread Cert.LatRefIdeal.nD Cert.LatRefIdeal.τ).loc Cert.LatRefIdeal.main_v247) = v1 c
          ∧ r.2.mem ((c.tc : Thread Cert.LatRefIdeal.nD Cert.LatRefIdeal.τ).loc Cert.LatRefIdeal.main_v215) = v2 c
          ∧ r.2.mem ((c.tc : Thread Cert.LatRefIdeal.nD Cert.LatRefIdeal.τ).loc Cert.LatRefIdeal.main_v250) = v3 c
          ∧ r.2.mem ((c.tc : Thread Cert.LatRefIdeal.nD Cert.LatRefIdeal.τ).loc Cert.LatRefIdeal.main_v241) = v4 c
          ∧ r.2.mem ((c.tc : Thread Cert.LatRefIdeal.nD Cert.LatRefIdeal.τ).loc Cert.LatRefIdeal.main_v251) = v5 c
          ∧ r.2.mem ((c.tc : Thread Cert.LatRefIdeal.nD Cert.LatRefIdeal.τ).loc Cert.LatRefIdeal.main_v252) = v6 c
          ∧ r.2.mem ((c.tc : Thread Cert.LatRefIdeal.nD Cert.LatRefIdeal.τ).loc Cert.LatRefIdeal.main_v253) = v7 c
          ∧ r.2.mem ((c.tc : Thread Cert.LatRefIdeal.nD Cert.LatRefIdeal.τ).loc Cert.LatRefIdeal.main_v254) = v8 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
          ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7)
          ∧ r.2.mem ((c.tc : Thread Cert.LatRefIdeal.nD Cert.LatRefIdeal.τ).loc Cert.LatRefIdeal.main_arg8) = m' ((c.tc : Thread Cert.LatRefIdeal.nD Cert.LatRefIdeal.τ).loc Cert.LatRefIdeal.main_arg8)
          ∧ r.2.mem ((c.tc : Thread Cert.LatRefIdeal.nD Cert.LatRefIdeal.τ).loc Cert.LatRefIdeal.main_arg9) = m' ((c.tc : Thread Cert.LatRefIdeal.nD Cert.LatRefIdeal.τ).loc Cert.LatRefIdeal.main_arg9)
          ∧ r.2.mem ((c.tc : Thread Cert.LatRefIdeal.nD Cert.LatRefIdeal.τ).loc Cert.LatRefIdeal.main_arg10) = m' ((c.tc : Thread Cert.LatRefIdeal.nD Cert.LatRefIdeal.τ).loc Cert.LatRefIdeal.main_arg10)
          ∧ r.2.mem ((c.tc : Thread Cert.LatRefIdeal.nD Cert.LatRefIdeal.τ).loc Cert.LatRefIdeal.main_arg11) = m' ((c.tc : Thread Cert.LatRefIdeal.nD Cert.LatRefIdeal.τ).loc Cert.LatRefIdeal.main_arg11)
          ∧ r.2.mem ((c.tc : Thread Cert.LatRefIdeal.nD Cert.LatRefIdeal.τ).loc Cert.LatRefIdeal.main_arg12) = m' ((c.tc : Thread Cert.LatRefIdeal.nD Cert.LatRefIdeal.τ).loc Cert.LatRefIdeal.main_arg12)
          ∧ r.2.mem ((c.tc : Thread Cert.LatRefIdeal.nD Cert.LatRefIdeal.τ).loc Cert.LatRefIdeal.main_arg13) = m' ((c.tc : Thread Cert.LatRefIdeal.nD Cert.LatRefIdeal.τ).loc Cert.LatRefIdeal.main_arg13)
          ∧ r.2.mem ((c.tc : Thread Cert.LatRefIdeal.nD Cert.LatRefIdeal.τ).loc Cert.LatRefIdeal.main_arg14) = m' ((c.tc : Thread Cert.LatRefIdeal.nD Cert.LatRefIdeal.τ).loc Cert.LatRefIdeal.main_arg14)
          ∧ r.2.mem ((c.tc : Thread Cert.LatRefIdeal.nD Cert.LatRefIdeal.τ).loc Cert.LatRefIdeal.main_arg15) = m' ((c.tc : Thread Cert.LatRefIdeal.nD Cert.LatRefIdeal.τ).loc Cert.LatRefIdeal.main_arg15)
          ∧ r.2.mem ((c.tc : Thread Cert.LatRefIdeal.nD Cert.LatRefIdeal.τ).loc Cert.LatRefIdeal.main_arg16) = m' ((c.tc : Thread Cert.LatRefIdeal.nD Cert.LatRefIdeal.τ).loc Cert.LatRefIdeal.main_arg16)
          ∧ r.2.mem ((c.tc : Thread Cert.LatRefIdeal.nD Cert.LatRefIdeal.τ).loc Cert.LatRefIdeal.main_arg17) = m' ((c.tc : Thread Cert.LatRefIdeal.nD Cert.LatRefIdeal.τ).loc Cert.LatRefIdeal.main_arg17))

def Claim : Prop :=
  ∃ (hTail : Cert.Tail.Facts) (hTailIdeal : Cert.TailIdeal.Facts) (hTailRefIdeal : Cert.TailRefIdeal.Facts) (hAttn : Cert.Attn.Facts) (hAttnIdeal : Cert.AttnIdeal.Facts) (hAttnRefIdeal : Cert.AttnRefIdeal.Facts) (hConv : Cert.Conv.Facts) (hConvIdeal : Cert.ConvIdeal.Facts) (hConvRefIdeal : Cert.ConvRefIdeal.Facts) (hLat : Cert.Lat.Facts) (hLatIdeal : Cert.LatIdeal.Facts) (hLatRefIdeal : Cert.LatRefIdeal.Facts) (hPre_finite_tail : Cert.Pre_finite_tail.Facts) (hPre_finite_attention : Cert.Pre_finite_attention.Facts) (hPre_finite_conv : Cert.Pre_finite_conv.Facts) (hPre_finite_latent : Cert.Pre_finite_latent.Facts),
    quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_Lat (hLat := hLat)
    ∧ quiescent_LatIdeal (hLatIdeal := hLatIdeal)
    ∧ quiescent_LatIdeal_pre_finite_latent (hLatIdeal := hLatIdeal) (hPre_finite_latent := hPre_finite_latent)
    ∧ quiescent_LatRefIdeal (hLatRefIdeal := hLatRefIdeal)
    ∧ quiescent_LatRefIdeal_pre_finite_latent (hLatRefIdeal := hLatRefIdeal) (hPre_finite_latent := hPre_finite_latent)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Conv_ConvIdeal
    ∧ algebraic_ConvIdeal_ConvRefIdeal_pre_finite_conv (hConvIdeal := hConvIdeal) (hConvRefIdeal := hConvRefIdeal) (hPre_finite_conv := hPre_finite_conv)
    ∧ preserves_Lat_LatIdeal
    ∧ algebraic_LatIdeal_LatRefIdeal_pre_finite_latent (hLatIdeal := hLatIdeal) (hLatRefIdeal := hLatRefIdeal) (hPre_finite_latent := hPre_finite_latent)
-- ==== Pre_finite_attention.lean ====
abbrev S2x4096x8x64 : Shape := ⟨4, ![2, 4096, 8, 64]⟩
abbrev S2x4096x8x32 : Shape := ⟨4, ![2, 4096, 8, 32]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x8x32 : S_.BroadcastsInDim S2x4096x8x32 (![] : Fin 0 → Fin S2x4096x8x32.rank)
  reducesTo_S2x4096x8x32_S_d0_1_2_3 : S2x4096x8x32.ReducesTo [0, 1, 2, 3] S_

variable [Facts]

def fn_part1 {F : FTy → Type} [FloatOps F] (main_arg4 : FVec F S2x4096x8x64 .f32) (main_arg5 : FVec F S2x4096x8x64 .f32) (main_v13 : IVec S_ 1) (main_v16 : IVec S2x4096x8x32 1) : IVec S_ 1 :=
  let main_c_5 : IVec S_ 1 := constantI S_ 1 1#1
  let main_v17 : IVec S_ 1 := (fun x v => Host.reduce IntOp.andi x v reducesTo_S2x4096x8x32_S_d0_1_2_3 h_S_) main_v16 main_c_5
  let main_v18 : IVec S_ 1 := andi main_v13 main_v17
  let main_v19 : FVec F S2x4096x8x64 .f32 := Host.absf main_arg4
  let main_cst_6 : FVec F S_ .f32 := constant S_ .f32 0x7F800000#32
  let main_v20 : FVec F S2x4096x8x64 .f32 := broadcastInDim S2x4096x8x64 ![] bcast_S_S2x4096x8x64 main_cst_6
  let main_v21 : IVec S2x4096x8x64 1 := cmpf .olt main_v19 main_v20
  let main_c_7 : IVec S_ 1 := constantI S_ 1 1#1
  let main_v22 : IVec S_ 1 := (fun x v => Host.reduce IntOp.andi x v reducesTo_S2x4096x8x64_S_d0_1_2_3 h_S_) main_v21 main_c_7
  let main_v23 : IVec S_ 1 := andi main_v18 main_v22
  let main_v24 : FVec F S2x4096x8x64 .f32 := Host.absf main_arg5
  let main_cst_8 : FVec F S_ .f32 := constant S_ .f32 0x7F800000#32
  let main_v25 : FVec F S2x4096x8x64 .f32 := broadcastInDim S2x4096x8x64 ![] bcast_S_S2x4096x8x64 main_cst_8
  let main_v26 : IVec S2x4096x8x64 1 := cmpf .olt main_v24 main_v25
  let main_c_9 : IVec S_ 1 := constantI S_ 1 1#1
  let main_v27 : IVec S_ 1 := (fun x v => Host.reduce IntOp.andi x v reducesTo_S2x4096x8x64_S_d0_1_2_3 h_S_) main_v26 main_c_9
  let main_v28 : IVec S_ 1 := andi main_v23 main_v27
  main_v28

def fn {F : FTy → Type} [FloatOps F] (main_arg0 : FVec F S2x4096x8x64 .f32) (main_arg1 : FVec F S2x4096x8x32 .f32) (main_arg2 : FVec F S2x4096x8x64 .f32) (main_arg3 : FVec F S2x4096x8x32 .f32) (main_arg4 : FVec F S2x4096x8x64 .f32) (main_arg5 : FVec F S2x4096x8x64 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x8x32 .f32 := Host.absf main_arg1
  let main_cst_0 : FVec F S_ .f32 := constant S_ .f32 0x7F800000#32
  let main_v5 : FVec F S2x4096x8x32 .f32 := broadcastInDim S2x4096x8x32 ![] bcast_S_S2x4096x8x32 main_cst_0
  let main_v6 : IVec S2x4096x8x32 1 := cmpf .olt main_v4 main_v5
  let main_c_1 : IVec S_ 1 := constantI S_ 1 1#1
  let main_v7 : IVec S_ 1 := (fun x v => Host.reduce IntOp.andi x v reducesTo_S2x4096x8x32_S_d0_1_2_3 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  let main_v14 : FVec F S2x4096x8x32 .f32 := Host.absf main_arg3
  let main_cst_4 : FVec F S_ .f32 := constant S_ .f32 0x7F800000#32
  let main_v15 : FVec F S2x4096x8x32 .f32 := broadcastInDim S2x4096x8x32 ![] bcast_S_S2x4096x8x32 main_cst_4
  let main_v16 : IVec S2x4096x8x32 1 := cmpf .olt main_v14 main_v15
  fn_part1 (F := F) main_arg4 main_arg5 main_v13 main_v16
-- ==== Pre_finite_conv.lean ====
abbrev S2x4096x1024 : Shape := ⟨3, ![2, 4096, 1024]⟩
abbrev S1024 : Shape := ⟨1, ![1024]⟩
abbrev S1024x4096 : Shape := ⟨2, ![1024, 4096]⟩
abbrev S3x1024 : Shape := ⟨2, ![3, 1024]⟩
abbrev S1024x1024 : Shape := ⟨2, ![1024, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S3x1024 : S_.BroadcastsInDim S3x1024 (![] : Fin 0 → Fin S3x1024.rank)
  reducesTo_S3x1024_S_d0_1 : S3x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S2x4096x1024 .f32) (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S2x4096x1024 .f32 := Host.absf main_arg5
  let main_cst_8 : FVec F S_ .f32 := constant S_ .f32 0x7F800000#32
  let main_v25 : FVec F S2x4096x1024 .f32 := broadcastInDim S2x4096x1024 ![] bcast_S_S2x4096x1024 main_cst_8
  let main_v26 : IVec S2x4096x1024 1 := cmpf .olt main_v24 main_v25
  let main_c_9 : IVec S_ 1 := constantI S_ 1 1#1
  let main_v27 : IVec S_ 1 := (fun x v => Host.reduce IntOp.andi x v reducesTo_S2x4096x1024_S_d0_1_2 h_S_) main_v26 main_c_9
  let main_v28 : IVec S_ 1 := andi main_v23 main_v27
  main_v28

def fn {F : FTy → Type} [FloatOps F] (main_arg0 : FVec F S2x4096x1024 .f32) (main_arg1 : FVec F S1024 .f32) (main_arg2 : FVec F S1024x4096 .f32) (main_arg3 : FVec F S3x1024 .f32) (main_arg4 : FVec F S1024x1024 .f32) (main_arg5 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S3x1024 .f32 := Host.absf main_arg3
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_arg4 main_arg5 main_v13 main_v16
-- ==== Pre_finite_latent.lean ====
abbrev S2x4096x1024 : Shape := ⟨3, ![2, 4096, 1024]⟩
abbrev S2x4096x16 : Shape := ⟨3, ![2, 4096, 16]⟩
abbrev S1024 : Shape := ⟨1, ![1024]⟩
abbrev S1024x288 : Shape := ⟨2, ![1024, 288]⟩
abbrev S256 : Shape := ⟨1, ![256]⟩
abbrev S256x1024 : Shape := ⟨2, ![256, 1024]⟩
abbrev S1024x896 : Shape := ⟨2, ![1024, 896]⟩
abbrev S384 : Shape := ⟨1, ![384]⟩
abbrev S384x768 : Shape := ⟨2, ![384, 768]⟩
abbrev S2x4096x8x64 : Shape := ⟨4, ![2, 4096, 8, 64]⟩
abbrev S2x4096x8x32 : Shape := ⟨4, ![2, 4096, 8, 32]⟩
abbrev S2x4096x512 : Shape := ⟨3, ![2, 4096, 512]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x16 : S_.BroadcastsInDim S2x4096x16 (![] : Fin 0 → Fin S2x4096x16.rank)
  reducesTo_S2x4096x16_S_d0_1_2 : S2x4096x16.ReducesTo [0, 1, 2] S_
  bcast_S_S1024 : S_.BroadcastsInDim S1024 (![] : Fin 0 → Fin S1024.rank)
  reducesTo_S1024_S_d0 : S1024.ReducesTo [0] S_
  bcast_S_S1024x288 : S_.BroadcastsInDim S1024x288 (![] : Fin 0 → Fin S1024x288.rank)
  reducesTo_S1024x288_S_d0_1 : S1024x288.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024x896 : S_.BroadcastsInDim S1024x896 (![] : Fin 0 → Fin S1024x896.rank)
  reducesTo_S1024x896_S_d0_1 : S1024x896.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  bcast_S_S2x4096x8x32 : S_.BroadcastsInDim S2x4096x8x32 (![] : Fin 0 → Fin S2x4096x8x32.rank)
  reducesTo_S2x4096x8x32_S_d0_1_2_3 : S2x4096x8x32.ReducesTo [0, 1, 2, 3] S_
  bcast_S_S2x4096x512 : S_.BroadcastsInDim S2x4096x512 (![] : Fin 0 → Fin S2x4096x512.rank)
  reducesTo_S2x4096x512_S_d0_1_2 : S2x4096x512.ReducesTo [0, 1, 2] S_

variable [Facts]

def fn_part5 {F : FTy → Type} [FloatOps F] (main_v83 : IVec S_ 1) (main_v84 : FVec F S2x4096x1024 .f32) (main_cst_32 : FVec F S_ .f32) : IVec S_ 1 :=
  let main_v85 : FVec F S2x4096x1024 .f32 := broadcastInDim S2x4096x1024 ![] bcast_S_S2x4096x1024 main_cst_32
  let main_v86 : IVec S2x4096x1024 1 := cmpf .olt main_v84 main_v85
  let main_c_33 : IVec S_ 1 := constantI S_ 1 1#1
  let main_v87 : IVec S_ 1 := (fun x v => Host.reduce IntOp.andi x v reducesTo_S2x4096x1024_S_d0_1_2 h_S_) main_v86 main_c_33
  let main_v88 : IVec S_ 1 := andi main_v83 main_v87
  main_v88

def fn_part4 {F : FTy → Type} [FloatOps F] (main_arg14 : FVec F S2x4096x8x32 .f32) (main_arg15 : FVec F S2x4096x8x64 .f32) (main_arg16 : FVec F S2x4096x512 .f32) (main_arg17 : FVec F S2x4096x1024 .f32) (main_v63 : IVec S_ 1) (main_v67 : IVec S_ 1) : IVec S_ 1 :=
  let main_v68 : IVec S_ 1 := andi main_v63 main_v67
  let main_v69 : FVec F S2x4096x8x32 .f32 := Host.absf main_arg14
  let main_cst_26 : FVec F S_ .f32 := constant S_ .f32 0x7F800000#32
  let main_v70 : FVec F S2x4096x8x32 .f32 := broadcastInDim S2x4096x8x32 ![] bcast_S_S2x4096x8x32 main_cst_26
  let main_v71 : IVec S2x4096x8x32 1 := cmpf .olt main_v69 main_v70
  let main_c_27 : IVec S_ 1 := constantI S_ 1 1#1
  let main_v72 : IVec S_ 1 := (fun x v => Host.reduce IntOp.andi x v reducesTo_S2x4096x8x32_S_d0_1_2_3 h_S_) main_v71 main_c_27
  let main_v73 : IVec S_ 1 := andi main_v68 main_v72
  let main_v74 : FVec F S2x4096x8x64 .f32 := Host.absf main_arg15
  let main_cst_28 : FVec F S_ .f32 := constant S_ .f32 0x7F800000#32
  let main_v75 : FVec F S2x4096x8x64 .f32 := broadcastInDim S2x4096x8x64 ![] bcast_S_S2x4096x8x64 main_cst_28
  let main_v76 : IVec S2x4096x8x64 1 := cmpf .olt main_v74 main_v75
  let main_c_29 : IVec S_ 1 := constantI S_ 1 1#1
  let main_v77 : IVec S_ 1 := (fun x v => Host.reduce IntOp.andi x v reducesTo_S2x4096x8x64_S_d0_1_2_3 h_S_) main_v76 main_c_29
  let main_v78 : IVec S_ 1 := andi main_v73 main_v77
  let main_v79 : FVec F S2x4096x512 .f32 := Host.absf main_arg16
  let main_cst_30 : FVec F S_ .f32 := constant S_ .f32 0x7F800000#32
  let main_v80 : FVec F S2x4096x512 .f32 := broadcastInDim S2x4096x512 ![] bcast_S_S2x4096x512 main_cst_30
  let main_v81 : IVec S2x4096x512 1 := cmpf .olt main_v79 main_v80
  let main_c_31 : IVec S_ 1 := constantI S_ 1 1#1
  let main_v82 : IVec S_ 1 := (fun x v => Host.reduce IntOp.andi x v reducesTo_S2x4096x512_S_d0_1_2 h_S_) main_v81 main_c_31
  let main_v83 : IVec S_ 1 := andi main_v78 main_v82
  let main_v84 : FVec F S2x4096x1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S2x4096x8x64 .f32) (main_arg12 : FVec F S2x4096x8x32 .f32) (main_arg13 : FVec F S2x4096x8x64 .f32) (main_arg14 : FVec F S2x4096x8x32 .f32) (main_arg15 : FVec F S2x4096x8x64 .f32) (main_arg16 : FVec F S2x4096x512 .f32) (main_arg17 : FVec F S2x4096x1024 .f32) (main_v48 : IVec S_ 1) (main_v49 : FVec F S384x768 .f32) (main_v50 : FVec F S384x768 .f32) : IVec S_ 1 :=
  let main_v51 : IVec S384x768 1 := cmpf .olt main_v49 main_v50
  let main_c_19 : IVec S_ 1 := constantI S_ 1 1#1
  let main_v52 : IVec S_ 1 := (fun x v => Host.reduce IntOp.andi x v reducesTo_S384x768_S_d0_1 h_S_) main_v51 main_c_19
  let main_v53 : IVec S_ 1 := andi main_v48 main_v52
  let main_v54 : FVec F S2x4096x8x64 .f32 := Host.absf main_arg11
  let main_cst_20 : FVec F S_ .f32 := constant S_ .f32 0x7F800000#32
  let main_v55 : FVec F S2x4096x8x64 .f32 := broadcastInDim S2x4096x8x64 ![] bcast_S_S2x4096x8x64 main_cst_20
  let main_v56 : IVec S2x4096x8x64 1 := cmpf .olt main_v54 main_v55
  let main_c_21 : IVec S_ 1 := constantI S_ 1 1#1
  let main_v57 : IVec S_ 1 := (fun x v => Host.reduce IntOp.andi x v reducesTo_S2x4096x8x64_S_d0_1_2_3 h_S_) main_v56 main_c_21
  let main_v58 : IVec S_ 1 := andi main_v53 main_v57
  let main_v59 : FVec F S2x4096x8x32 .f32 := Host.absf main_arg12
  let main_cst_22 : FVec F S_ .f32 := constant S_ .f32 0x7F800000#32
  let main_v60 : FVec F S2x4096x8x32 .f32 := broadcastInDim S2x4096x8x32 ![] bcast_S_S2x4096x8x32 main_cst_22
  let main_v61 : IVec S2x4096x8x32 1 := cmpf .olt main_v59 main_v60
  let main_c_23 : IVec S_ 1 := constantI S_ 1 1#1
  let main_v62 : IVec S_ 1 := (fun x v => Host.reduce IntOp.andi x v reducesTo_S2x4096x8x32_S_d0_1_2_3 h_S_) main_v61 main_c_23
  let main_v63 : IVec S_ 1 := andi main_v58 main_v62
  let main_v64 : FVec F S2x4096x8x64 .f32 := Host.absf main_arg13
  let main_cst_24 : FVec F S_ .f32 := constant S_ .f32 0x7F800000#32
  let main_v65 : FVec F S2x4096x8x64 .f32 := broadcastInDim S2x4096x8x64 ![] bcast_S_S2x4096x8x64 main_cst_24
  let main_v66 : IVec S2x4096x8x64 1 := cmpf .olt main_v64 main_v65
  let main_c_25 : IVec S_ 1 := constantI S_ 1 1#1
  let main_v67 : IVec S_ 1 := (fun x v => Host.reduce IntOp.andi x v reducesTo_S2x4096x8x64_S_d0_1_2_3 h_S_) main_v66 main_c_25
  fn_part4 (F := F) main_arg14 main_arg15 main_arg16 main_arg17 main_v63 main_v67

def fn_part2 {F : FTy → Type} [FloatOps F] (main_arg7 : FVec F S1024 .f32) (main_arg8 : FVec F S1024x896 .f32) (main_arg9 : FVec F S384 .f32) (main_arg10 : FVec F S384x768 .f32) (main_arg11 : FVec F S2x4096x8x64 .f32) (main_arg12 : FVec F S2x4096x8x32 .f32) (main_arg13 : FVec F S2x4096x8x64 .f32) (main_arg14 : FVec F S2x4096x8x32 .f32) (main_arg15 : FVec F S2x4096x8x64 .f32) (main_arg16 : FVec F S2x4096x512 .f32) (main_arg17 : FVec F S2x4096x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x896 .f32 := Host.absf main_arg8
  let main_cst_14 : FVec F S_ .f32 := constant S_ .f32 0x7F800000#32
  let main_v40 : FVec F S1024x896 .f32 := broadcastInDim S1024x896 ![] bcast_S_S1024x896 main_cst_14
  let main_v41 : IVec S1024x896 1 := cmpf .olt main_v39 main_v40
  let main_c_15 : IVec S_ 1 := constantI S_ 1 1#1
  let main_v42 : IVec S_ 1 := (fun x v => Host.reduce IntOp.andi x v reducesTo_S1024x896_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384x768 .f32 := Host.absf main_arg10
  let main_cst_18 : FVec F S_ .f32 := constant S_ .f32 0x7F800000#32
  let main_v50 : FVec F S384x768 .f32 := broadcastInDim S384x768 ![] bcast_S_S384x768 main_cst_18
  fn_part3 (F := F) main_arg11 main_arg12 main_arg13 main_arg14 main_arg15 main_arg16 main_arg17 main_v48 main_v49 main_v50

def fn_part1 {F : FTy → Type} [FloatOps F] (main_arg4 : FVec F S1024x288 .f32) (main_arg5 : FVec F S256 .f32) (main_arg6 : FVec F S256x1024 .f32) (main_arg7 : FVec F S1024 .f32) (main_arg8 : FVec F S1024x896 .f32) (main_arg9 : FVec F S384 .f32) (main_arg10 : FVec F S384x768 .f32) (main_arg11 : FVec F S2x4096x8x64 .f32) (main_arg12 : FVec F S2x4096x8x32 .f32) (main_arg13 : FVec F S2x4096x8x64 .f32) (main_arg14 : FVec F S2x4096x8x32 .f32) (main_arg15 : FVec F S2x4096x8x64 .f32) (main_arg16 : FVec F S2x4096x512 .f32) (main_arg17 : FVec F S2x4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x288 .f32 := Host.absf main_arg4
  let main_cst_6 : FVec F S_ .f32 := constant S_ .f32 0x7F800000#32
  let main_v20 : FVec F S1024x288 .f32 := broadcastInDim S1024x288 ![] bcast_S_S1024x288 main_cst_6
  let main_v21 : IVec S1024x288 1 := cmpf .olt main_v19 main_v20
  let main_c_7 : IVec S_ 1 := constantI S_ 1 1#1
  let main_v22 : IVec S_ 1 := (fun x v => Host.reduce IntOp.andi x v reducesTo_S1024x288_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2x4096x1024 .f32) (main_arg1 : FVec F S2x4096x16 .f32) (main_arg2 : FVec F S2x4096x16 .f32) (main_arg3 : FVec F S1024 .f32) (main_arg4 : FVec F S1024x288 .f32) (main_arg5 : FVec F S256 .f32) (main_arg6 : FVec F S256x1024 .f32) (main_arg7 : FVec F S1024 .f32) (main_arg8 : FVec F S1024x896 .f32) (main_arg9 : FVec F S384 .f32) (main_arg10 : FVec F S384x768 .f32) (main_arg11 : FVec F S2x4096x8x64 .f32) (main_arg12 : FVec F S2x4096x8x32 .f32) (main_arg13 : FVec F S2x4096x8x64 .f32) (main_arg14 : FVec F S2x4096x8x32 .f32) (main_arg15 : FVec F S2x4096x8x64 .f32) (main_arg16 : FVec F S2x4096x512 .f32) (main_arg17 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x16 .f32 := Host.absf main_arg1
  let main_cst_0 : FVec F S_ .f32 := constant S_ .f32 0x7F800000#32
  let main_v5 : FVec F S2x4096x16 .f32 := broadcastInDim S2x4096x16 ![] bcast_S_S2x4096x16 main_cst_0
  let main_v6 : IVec S2x4096x16 1 := cmpf .olt main_v4 main_v5
  let main_c_1 : IVec S_ 1 := constantI S_ 1 1#1
  let main_v7 : IVec S_ 1 := (fun x v => Host.reduce IntOp.andi x v reducesTo_S2x4096x16_S_d0_1_2 h_S_) main_v6 main_c_1
  let main_v8 : IVec S_ 1 := andi main_v3 main_v7
  let main_v9 : FVec F S2x4096x16 .f32 := Host.absf main_arg2
  let main_cst_2 : FVec F S_ .f32 := constant S_ .f32 0x7F800000#32
  let main_v10 : FVec F S2x4096x16 .f32 := broadcastInDim S2x4096x16 ![] bcast_S_S2x4096x16 main_cst_2
  let main_v11 : IVec S2x4096x16 1 := cmpf .olt main_v9 main_v10
  let main_c_3 : IVec S_ 1 := constantI S_ 1 1#1
  let main_v12 : IVec S_ 1 := (fun x v => Host.reduce IntOp.andi x v reducesTo_S2x4096x16_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Pre_finite_tail.lean ====
abbrev S2x4096x512 : Shape := ⟨3, ![2, 4096, 512]⟩
abbrev S2x4096x1024 : Shape := ⟨3, ![2, 4096, 1024]⟩
abbrev S512x1024 : Shape := ⟨2, ![512, 1024]⟩
abbrev S1024 : Shape := ⟨1, ![1024]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S2x4096x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2x4096x1024 .f32 := Host.absf main_arg5
  let main_cst_8 : FVec F S_ .f32 := constant S_ .f32 0x7F800000#32
  let main_v25 : FVec F S2x4096x1024 .f32 := broadcastInDim S2x4096x1024 ![] bcast_S_S2x4096x1024 main_cst_8
  let main_v26 : IVec S2x4096x1024 1 := cmpf .olt main_v24 main_v25
  let main_c_9 : IVec S_ 1 := constantI S_ 1 1#1
  let main_v27 : IVec S_ 1 := (fun x v => Host.reduce IntOp.andi x v reducesTo_S2x4096x1024_S_d0_1_2 h_S_) main_v26 main_c_9
  let main_v28 : IVec S_ 1 := andi main_v23 main_v27
  main_v28

def fn {F : FTy → Type} [FloatOps F] (main_arg0 : FVec F S2x4096x512 .f32) (main_arg1 : FVec F S2x4096x512 .f32) (main_arg2 : FVec F S2x4096x1024 .f32) (main_arg3 : FVec F S512x1024 .f32) (main_arg4 : FVec F S1024 .f32) (main_arg5 : FVec F S2x4096x1024 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_v13 main_v16
-- ==== Tail.lean ====
abbrev S2x4096x512 : Shape := ⟨3, ![2, 4096, 512]⟩
abbrev S2x4096x1024 : Shape := ⟨3, ![2, 4096, 1024]⟩
abbrev S512x1024 : Shape := ⟨2, ![512, 1024]⟩
abbrev S1024 : Shape := ⟨1, ![1024]⟩
abbrev S8x512 : Shape := ⟨2, ![8, 512]⟩
abbrev S8192x512 : Shape := ⟨2, ![8192, 512]⟩
abbrev S8192x1024 : Shape := ⟨2, ![8192, 1024]⟩
abbrev S1x1024 : Shape := ⟨2, ![1, 1024]⟩
abbrev S2x8x8x4096 : Shape := ⟨4, ![2, 8, 8, 4096]⟩
abbrev S8x512x128 : Shape := ⟨3, ![8, 512, 128]⟩
abbrev S1x1 : Shape := ⟨2, ![1, 1]⟩
abbrev S1024x512 : Shape := ⟨2, ![1024, 512]⟩
abbrev S1024x1024 : Shape := ⟨2, ![1024, 1024]⟩
abbrev S1x8x8x1024 : Shape := ⟨4, ![1, 8, 8, 1024]⟩
abbrev S1024x1 : Shape := ⟨2, ![1024, 1]⟩
abbrev S1 : Shape := ⟨1, ![1]⟩
abbrev S1x512x128 : Shape := ⟨3, ![1, 512, 128]⟩
abbrev S512x128 : Shape := ⟨2, ![512, 128]⟩
abbrev S8x1024 : Shape := ⟨2, ![8, 1024]⟩
abbrev S1024x128 : Shape := ⟨2, ![1024, 128]⟩
abbrev S1x1x8x1024 : Shape := ⟨4, ![1, 1, 8, 1024]⟩

abbrev nBuf : Space → Nat
  | .hbm => 20
  | .vmem => 22
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x1024, .f32⟩
  | .hbm, ⟨3, _⟩ => ⟨S512x1024, .f32⟩
  | .hbm, ⟨4, _⟩ => ⟨S1024, .f32⟩
  | .hbm, ⟨5, _⟩ => ⟨S2x4096x1024, .f32⟩
  | .hbm, ⟨6, _⟩ => ⟨S8x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S512x1024, .bf16⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x512, .bf16⟩
  | .hbm, ⟨16, _⟩ => ⟨S2x8x8x4096, .f32⟩
  | .hbm, ⟨17, _⟩ => ⟨S8x512x128, .f32⟩
  | .hbm, ⟨18, _⟩ => ⟨S1x1024, .f32⟩
  | .hbm, ⟨19, _⟩ => ⟨S1x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S512x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8x512, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x512, .bf16⟩
  | .local _ .vmem, ⟨16, _⟩ => ⟨S1024x512, .bf16⟩
  | .local _ .vmem, ⟨17, _⟩ => ⟨S1x8x8x1024, .f32⟩
  | .local _ .vmem, ⟨18, _⟩ => ⟨S1x8x8x1024, .f32⟩
  | .local _ .vmem, ⟨19, _⟩ => ⟨S8x512x128, .f32⟩
  | .local _ .vmem, ⟨20, _⟩ => ⟨S1x1024, .f32⟩
  | .local _ .vmem, ⟨21, _⟩ => ⟨S1x1, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== TailRefIdeal.lean ====
abbrev S2x4096x512 : Shape := ⟨3, ![2, 4096, 512]⟩
abbrev S2x4096x1024 : Shape := ⟨3, ![2, 4096, 1024]⟩
abbrev S512x1024 : Shape := ⟨2, ![512, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x512 : Shape := ⟨2, ![1024, 512]⟩
abbrev S2x4096x8x64 : Shape := ⟨4, ![2, 4096, 8, 64]⟩
abbrev S2x4096x8x128 : Shape := ⟨4, ![2, 4096, 8, 128]⟩
abbrev S2x4096x8 : Shape := ⟨3, ![2, 4096, 8]⟩
abbrev S2x8x4096 : Shape := ⟨3, ![2, 8, 4096]⟩
abbrev S8192x1024 : Shape := ⟨2, ![8192, 1024]⟩
abbrev S8192x512 : Shape := ⟨2, ![8192, 512]⟩
abbrev S2x8x1x4096 : Shape := ⟨4, ![2, 8, 1, 4096]⟩
abbrev S2x8x8x4096 : Shape := ⟨4, ![2, 8, 8, 4096]⟩
abbrev S512x8x128 : Shape := ⟨3, ![512, 8, 128]⟩
abbrev S8x512x128 : Shape := ⟨3, ![8, 512, 128]⟩
abbrev S1x1024 : Shape := ⟨2, ![1, 1024]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x1024, .f32⟩
  | .hbm, ⟨3, _⟩ => ⟨S512x1024, .f32⟩
  | .hbm, ⟨4, _⟩ => ⟨S1024, .f32⟩
  | .hbm, ⟨5, _⟩ => ⟨S2x4096x1024, .f32⟩
  | .hbm, ⟨6, _⟩ => ⟨S2x4096x512, .f32⟩
  | .hbm, ⟨7, _⟩ => ⟨S2x4096x512, .f32⟩
  | .hbm, ⟨8, _⟩ => ⟨S_, .f32⟩
  | .hbm, ⟨9, _⟩ => ⟨S2x4096x512, .f32⟩
  | .hbm, ⟨10, _⟩ => ⟨S2x4096x512, .f32⟩
  | .hbm, ⟨11, _⟩ => ⟨S_, .f32⟩
  | .hbm, ⟨12, _⟩ => ⟨S2x4096x512, .f32⟩
  | .hbm, ⟨13, _⟩ => ⟨S2x4096x512, .f32⟩
  | .hbm, ⟨14, _⟩ => ⟨S_, .f32⟩
  | .hbm, ⟨15, _⟩ => ⟨S2x4096x512, .f32⟩
  | .hbm, ⟨16, _⟩ => ⟨S2x4096x512, .f32⟩
  | .hbm, ⟨17, _⟩ => ⟨S2x4096x512, .f32⟩
  | .hbm, ⟨18, _⟩ => ⟨S2x4096x512, .f32⟩
  | .hbm, ⟨19, _⟩ => ⟨S2x4096x512, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1024, .f32⟩
  | .hbm, ⟨38, _⟩ => ⟨S2x4096x1024, .f32⟩
  | .hbm, ⟨39, _⟩ => ⟨S1x1x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S_, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S2x4096, .f32⟩
  | .hbm, ⟨49, _⟩ => ⟨S_, .f32⟩
  | .hbm, ⟨50, _⟩ => ⟨S2x4096, .f32⟩
  | .hbm, ⟨51, _⟩ => ⟨S2x4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x4096, .f32⟩
  | .hbm, ⟨60, _⟩ => ⟨S_, .f32⟩
  | .hbm, ⟨61, _⟩ => ⟨S2x4096, .f32⟩
  | .hbm, ⟨62, _⟩ => ⟨S2x4096, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S2x4096x1024, .f32⟩
  | .hbm, ⟨70, _⟩ => ⟨S2x4096x1024, .f32⟩
  | .hbm, ⟨71, _⟩ => ⟨S_, .f32⟩
  | .hbm, ⟨72, _⟩ => ⟨S1024, .f32⟩
  | .hbm, ⟨73, _⟩ => ⟨S2x4096x1024, .f32⟩
  | .hbm, ⟨74, _⟩ => ⟨S_, .f32⟩
  | .hbm, ⟨75, _⟩ => ⟨S2x4096, .f32⟩
  | .hbm, ⟨76, _⟩ => ⟨S2x4096x1, .f32⟩
  | .hbm, ⟨77, _⟩ => ⟨S2x4096x1024, .f32⟩
  | .hbm, ⟨78, _⟩ => ⟨S2x4096x1024, .f32⟩
  | .hbm, ⟨79, _⟩ => ⟨S2x4096x1, .f32⟩
  | .hbm, ⟨80, _⟩ => ⟨S_, .f32⟩
  | .hbm, ⟨81, _⟩ => ⟨S2x4096x1, .f32⟩
  | .hbm, ⟨82, _⟩ => ⟨S2x4096x1, .f32⟩
  | .hbm, ⟨83, _⟩ => ⟨S_, .f32⟩
  | .hbm, ⟨84, _⟩ => ⟨S2x4096, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S2x4096x1024, .f32⟩
  | .hbm, ⟨89, _⟩ => ⟨S2x4096x1024, .f32⟩
  | .hbm, ⟨90, _⟩ => ⟨S1024x512, .f32⟩
  | .hbm, ⟨91, _⟩ => ⟨S512x1024, .f32⟩
  | .hbm, ⟨92, _⟩ => ⟨S2x4096x512, .f32⟩
  | .hbm, ⟨93, _⟩ => ⟨S2x4096x512, .f32⟩
  | .hbm, ⟨94, _⟩ => ⟨S2x4096x512, .f32⟩
  | .hbm, ⟨95, _⟩ => ⟨S2x4096x512, .f32⟩
  | .hbm, ⟨96, _⟩ => ⟨S2x4096x512, .f32⟩
  | .hbm, ⟨97, _⟩ => ⟨S2x4096x512, .f32⟩
  | .hbm, ⟨98, _⟩ => ⟨S2x4096x512, .f32⟩
  | .hbm, ⟨99, _⟩ => ⟨S2x4096x8x64, .f32⟩
  | .hbm, ⟨100, _⟩ => ⟨S_, .i32⟩
  | .hbm, ⟨101, _⟩ => ⟨S_, .f32⟩
  | .hbm, ⟨102, _⟩ => ⟨S2x4096x8x128, .f32⟩
  | .hbm, ⟨103, _⟩ => ⟨S2x4096x512, .f32⟩
  | .hbm, ⟨104, _⟩ => ⟨S2x4096x8x64, .f32⟩
  | .hbm, ⟨105, _⟩ => ⟨S_, .f32⟩
  | .hbm, ⟨106, _⟩ => ⟨S2x4096x8, .f32⟩
  | .hbm, ⟨107, _⟩ => ⟨S2x8x4096, .f32⟩
  | .hbm, ⟨108, _⟩ => ⟨S8192x1024, .f32⟩
  | .hbm, ⟨109, _⟩ => ⟨S8192x1024, .f32⟩
  | .hbm, ⟨110, _⟩ => ⟨S8192x1024, .bf16⟩
  | .hbm, ⟨111, _⟩ => ⟨S8192x512, .f32⟩
  | .hbm, ⟨112, _⟩ => ⟨S8192x512, .bf16⟩
  | .hbm, ⟨113, _⟩ => ⟨S2x8x1x4096, .f32⟩
  | .hbm, ⟨114, _⟩ => ⟨S2x8x8x4096, .f32⟩
  | .hbm, ⟨115, _⟩ => ⟨S512x8x128, .f32⟩
  | .hbm, ⟨116, _⟩ => ⟨S8x512x128, .f32⟩
  | .hbm, ⟨117, _⟩ => ⟨S1x1024, .f32⟩
  | .hbm, ⟨118, _⟩ => ⟨S1x1, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_cst_8 : Ref sig .tc := ⟨.hbm, 56, rfl⟩
abbrev main_cst_9 : Ref sig .tc := ⟨.hbm, 57, rfl⟩
abbrev main_v29 : Ref sig .tc := ⟨.hbm, 58, rfl⟩
abbrev main_v30 : Ref sig .tc := ⟨.hbm, 59, rfl⟩
abbrev main_cst_10 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_12 : Ref sig .tc := ⟨.hbm, 71, rfl⟩
abbrev main_v40 : Ref sig .tc := ⟨.hbm, 72, rfl⟩
abbrev main_v41 : Ref sig .tc := ⟨.hbm, 73, rfl⟩
abbrev main_cst_13 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_cst_15 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v60 : Ref sig .tc := ⟨.hbm, 98, rfl⟩
abbrev main_v61 : Ref sig .tc := ⟨.hbm, 99, rfl⟩
abbrev main_c : Ref sig .tc := ⟨.hbm, 100, rfl⟩
abbrev main_call2_v0 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_16 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩

abbrev nD : Nat := 1
abbrev τ : Topo := Topo.v7x

variable {F : FTy → Type} [FloatOps F]
-- ==== Attn.lean ====
abbrev S2x4096x8x64 : Shape := ⟨4, ![2, 4096, 8, 64]⟩
abbrev S2x4096x8x32 : Shape := ⟨4, ![2, 4096, 8, 32]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x8x1x4096 : Shape := ⟨4, ![2, 8, 1, 4096]⟩
abbrev S2x8x8x4096 : Shape := ⟨4, ![2, 8, 8, 4096]⟩
abbrev S2x4096x8 : Shape := ⟨3, ![2, 4096, 8]⟩
abbrev S2x4096x8x96 : Shape := ⟨4, ![2, 4096, 8, 96]⟩
abbrev S2x4096x8x128 : Shape := ⟨4, ![2, 4096, 8, 128]⟩
abbrev S8192x1024 : Shape := ⟨2, ![8192, 1024]⟩
abbrev S4096x256 : Shape := ⟨2, ![4096, 256]⟩
abbrev S2048x256 : Shape := ⟨2, ![2048, 256]⟩
abbrev S1x2x8x4096 : Shape := ⟨4, ![1, 2, 8, 4096]⟩
abbrev S512x512 : Shape := ⟨2, ![512, 512]⟩
abbrev S512x128 : Shape := ⟨2, ![512, 128]⟩
abbrev S1x1x1x512 : Shape := ⟨4, ![1, 1, 1, 512]⟩
abbrev S1x512 : Shape := ⟨2, ![1, 512]⟩

abbrev nBuf : Space → Nat
  | .hbm => 74
  | .vmem => 19
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x8x32, .f32⟩
  | .hbm, ⟨4, _⟩ => ⟨S2x4096x8x64, .f32⟩
  | .hbm, ⟨5, _⟩ => ⟨S2x4096x8x64, .f32⟩
  | .hbm, ⟨6, _⟩ => ⟨S2x8x4096x4096, .f32⟩
  | .hbm, ⟨7, _⟩ => ⟨S2x8x4096x4096, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S_, .f32⟩
  | .hbm, ⟨21, _⟩ => ⟨S_, .f32⟩
  | .hbm, ⟨22, _⟩ => ⟨S2x8x4096x4096, .i1⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096, .f32⟩
  | .hbm, ⟨27, _⟩ => ⟨S2x8x4096x1, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S2x8x4096, .f32⟩
  | .hbm, ⟨33, _⟩ => ⟨S2x8x4096x1, .f32⟩
  | .hbm, ⟨34, _⟩ => ⟨S2x8x4096x4096, .f32⟩
  | .hbm, ⟨35, _⟩ => ⟨S2x8x4096x4096, .f32⟩
  | .hbm, ⟨36, _⟩ => ⟨S2x8x64x4096, .f32⟩
  | .hbm, ⟨37, _⟩ => ⟨S2x4096x8x64, .f32⟩
  | .hbm, ⟨38, _⟩ => ⟨S2x8x4096x1, .f32⟩
  | .hbm, ⟨39, _⟩ => ⟨S2x8x4096x1, .f32⟩
  | .hbm, ⟨40, _⟩ => ⟨S2x8x4096, .f32⟩
  | .hbm, ⟨41, _⟩ => ⟨S2x8x1x4096, .f32⟩
  | .hbm, ⟨42, _⟩ => ⟨S2x8x8x4096, .f32⟩
  | .hbm, ⟨43, _⟩ => ⟨S2x4096x8x64, .f32⟩
  | .hbm, ⟨44, _⟩ => ⟨S_, .f32⟩
  | .hbm, ⟨45, _⟩ => ⟨S2x4096x8, .f32⟩
  | .hbm, ⟨46, _⟩ => ⟨S2x8x4096, .f32⟩
  | .hbm, ⟨47, _⟩ => ⟨S2x8x1x4096, .f32⟩
  | .hbm, ⟨48, _⟩ => ⟨S2x8x8x4096, .f32⟩
  | .hbm, ⟨49, _⟩ => ⟨S2x4096x8x96, .f32⟩
  | .hbm, ⟨50, _⟩ => ⟨S_, .f32⟩
  | .hbm, ⟨51, _⟩ => ⟨S_, .f32⟩
  | .hbm, ⟨52, _⟩ => ⟨S2x4096x8x128, .f32⟩
  | .hbm, ⟨53, _⟩ => ⟨S8192x1024, .f32⟩
  | .hbm, ⟨54, _⟩ => ⟨S8192x1024, .bf16⟩
  | .hbm, ⟨55, _⟩ => ⟨S2x4096x8x96, .f32⟩
  | .hbm, ⟨56, _⟩ => ⟨S_, .f32⟩
  | .hbm, ⟨57, _⟩ => ⟨S_, .f32⟩
  | .hbm, ⟨58, _⟩ => ⟨S2x4096x8x128, .f32⟩
  | .hbm, ⟨59, _⟩ => ⟨S8192x1024, .f32⟩
  | .hbm, ⟨60, _⟩ => ⟨S8192x1024, .bf16⟩
  | .hbm, ⟨61, _⟩ => ⟨S_, .f32⟩
  | .hbm, ⟨62, _⟩ => ⟨S_, .f32⟩
  | .hbm, ⟨63, _⟩ => ⟨S2x4096x8x128, .f32⟩
  | .hbm, ⟨64, _⟩ => ⟨S8192x1024, .f32⟩
  | .hbm, ⟨65, _⟩ => ⟨S8192x1024, .bf16⟩
  | .hbm, ⟨66, _⟩ => ⟨S_, .f32⟩
  | .hbm, ⟨67, _⟩ => ⟨S_, .f32⟩
  | .hbm, ⟨68, _⟩ => ⟨S2x4096x8x128, .f32⟩
  | .hbm, ⟨69, _⟩ => ⟨S8192x1024, .f32⟩
  | .hbm, ⟨70, _⟩ => ⟨S8192x1024, .bf16⟩
  | .hbm, ⟨71, _⟩ => ⟨S8192x1024, .bf16⟩
  | .hbm, ⟨72, _⟩ => ⟨S8192x1024, .bf16⟩
  | .hbm, ⟨73, _⟩ => ⟨S8192x1024, .bf16⟩
  | .local _ .vmem, ⟨0, _⟩ => ⟨S4096x256, .bf16⟩
  | .local _ .vmem, ⟨1, _⟩ => ⟨S4096x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S4096x256, .bf16⟩
  | .local _ .vmem, ⟨7, _⟩ => ⟨S4096x256, .bf16⟩
  | .local _ .vmem, ⟨8, _⟩ => ⟨S1x2x8x4096, .f32⟩
  | .local _ .vmem, ⟨9, _⟩ => ⟨S1x2x8x4096, .f32⟩
  | .local _ .vmem, ⟨10, _⟩ => ⟨S1x2x8x4096, .f32⟩
  | .local _ .vmem, ⟨11, _⟩ => ⟨S1x2x8x4096, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_call2_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_call3_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_call4_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 2], ![false, false, false]⟩

def k0_mult1 (i : grid0.Coords) : BitVec 32 :=
  let arg2 : BitVec 32 := BitVec.ofNat 32 (i 2).val
  let c4_i32 : BitVec 32 := 4#32
  let v8 : BitVec 32 := Scalar.muli arg2 c4_i32
  let c0_i32_2 : BitVec 32 := 0#32
  let v9 : BitVec 32 := Scalar.addi v8 c0_i32_2
  let c512_i32 : BitVec 32 := 512#32
  let v10 : BitVec 32 := Scalar.muli v9 c512_i32
  v10
def k0_off1 (i : grid0.Coords) (c0_i32_2 : BitVec 32) : Fin 2 → Nat :=
  let arg2 : BitVec 32 := BitVec.ofNat 32 (i 2).val
  let c4_i32 : BitVec 32 := 4#32
  let v8 : BitVec 32 := Scalar.muli arg2 c4_i32
  let v9 : BitVec 32 := Scalar.addi v8 c0_i32_2
  let c512_i32 : BitVec 32 := 512#32
  let v10 : BitVec 32 := Scalar.muli v9 c512_i32
  let v11 : BitVec 32 := v10
  let v12 : Index := Scalar.indexCast v11
  let c0 : Index := 0#32
  ![v12.toNat, 0]
def k0_off2 (i : grid0.Coords) (c0_i32_2 : BitVec 32) : Fin 4 → Nat :=
  let c0_8 : Index := 0#32
  let c0_9 : Index := 0#32
  let c0_10 : Index := 0#32
  let arg2 : BitVec 32 := BitVec.ofNat 32 (i 2).val
  let c4_i32 : BitVec 32 := 4#32
  let v8 : BitVec 32 := Scalar.muli arg2 c4_i32
  let v9 : BitVec 32 := Scalar.addi v8 c0_i32_2
  let c512_i32 : BitVec 32 := 512#32
  let v10 : BitVec 32 := Scalar.muli v9 c512_i32
  let v11 : BitVec 32 := v10
  let v23 : Index := Scalar.indexCast v11
  ![0, 0, 0, v23.toNat]
def k0_off3 (i : grid0.Coords) (c0_i32_2 : BitVec 32) : Fin 2 → Nat :=
  let arg2 : BitVec 32 := BitVec.ofNat 32 (i 2).val
  let c4_i32 : BitVec 32 := 4#32
  let v8 : BitVec 32 := Scalar.muli arg2 c4_i32
  let v9 : BitVec 32 := Scalar.addi v8 c0_i32_2
  let c512_i32 : BitVec 32 := 512#32
  let v10 : BitVec 32 := Scalar.muli v9 c512_i32
  let v11 : BitVec 32 := v10
  let v56 : Index := Scalar.indexCast v11
  let c128 : Index := 128#32
  ![v56.toNat, 128]
def k0_off4 (i : grid0.Coords) (c0_i32_2 : BitVec 32) : Fin 4 → Nat :=
  let c0_29 : Index := 0#32
  let c1 : Index := 1#32
  let c0_30 : Index := 0#32
  let arg2 : BitVec 32 := BitVec.ofNat 32 (i 2).val
  let c4_i32 : BitVec 32 := 4#32
  let v8 : BitVec 32 := Scalar.muli arg2 c4_i32
  let v9 : BitVec 32 := Scalar.addi v8 c0_i32_2
  let c512_i32 : BitVec 32 := 512#32
  let v10 : BitVec 32 := Scalar.muli v9 c512_i32
  let v11 : BitVec 32 := v10
  let v67 : Index := Scalar.indexCast v11
  ![0, 1, 0, v67.toNat]
def k0_mult2 (i : grid0.Coords) : BitVec 32 :=
  let arg2 : BitVec 32 := BitVec.ofNat 32 (i 2).val
  let c4_i32_44 : BitVec 32 := 4#32
  let v100 : BitVec 32 := Scalar.muli arg2 c4_i32_44
  let c1_i32 : BitVec 32 := 1#32
  let v101 : BitVec 32 := Scalar.addi v100 c1_i32
  let c512_i32_45 : BitVec 32 := 512#32
  let v102 : BitVec 32 := Scalar.muli v101 c512_i32_45
  v102
def k0_mult3 (i : grid0.Coords) : BitVec 32 :=
  let arg2 : BitVec 32 := BitVec.ofNat 32 (i 2).val
  let c4_i32_123 : BitVec 32 := 4#32
  let v252 : BitVec 32 := Scalar.muli arg2 c4_i32_123
  let c2_i32 : BitVec 32 := 2#32
  let v253 : BitVec 32 := Scalar.addi v252 c2_i32
  let c512_i32_124 : BitVec 32 := 512#32
  let v254 : BitVec 32 := Scalar.muli v253 c512_i32_124
  v254
def k0_mult4 (i : grid0.Coords) : BitVec 32 :=
  let arg2 : BitVec 32 := BitVec.ofNat 32 (i 2).val
  let c4_i32_236 : BitVec 32 := 4#32
  let v464 : BitVec 32 := Scalar.muli arg2 c4_i32_236
  let c3_i32 : BitVec 32 := 3#32
  let v465 : BitVec 32 := Scalar.addi v464 c3_i32
  let c512_i32_237 : BitVec 32 := 512#32
  let v466 : BitVec 32 := Scalar.muli v465 c512_i32_237
  v466
@[reducible] def k0_t1_loop (i : grid0.Coords) : Scf.Loop 32 :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c8_i32 : BitVec 32 := 8#32
  let v738 : BitVec 32 := Scalar.subi c8_i32 v737
  let c1_i32_385 : BitVec 32 := 1#32
  let v740 : BitVec 32 := Scalar.divsi v738 c1_i32_385
  let v741 : BitVec 32 := Scalar.muli v740 c1_i32_385
  let v742 : BitVec 32 := Scalar.addi v737 v741
  let c1_i32_386 : BitVec 32 := 1#32
  ⟨v737, v742, c1_i32_386⟩
def k0_mult5 (i : grid0.Coords) (k0_t1 : Fin (k0_t1_loop i).trips) : BitVec 32 :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c1_i32_386 : BitVec 32 := 1#32
  let arg13 : BitVec 32 := Scf.iv v737 c1_i32_386 k0_t1
  let c512_i32_422 : BitVec 32 := 512#32
  let v780 : BitVec 32 := Scalar.muli arg13 c512_i32_422
  v780
def k0_off5 (i : grid0.Coords) (k0_t1 : Fin (k0_t1_loop i).trips) : Fin 2 → Nat :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c1_i32_386 : BitVec 32 := 1#32
  let arg13 : BitVec 32 := Scf.iv v737 c1_i32_386 k0_t1
  let c512_i32_422 : BitVec 32 := 512#32
  let v780 : BitVec 32 := Scalar.muli arg13 c512_i32_422
  let v781 : BitVec 32 := v780
  let v782 : Index := Scalar.indexCast v781
  let c0_423 : Index := 0#32
  ![v782.toNat, 0]
def k0_off6 (i : grid0.Coords) (k0_t1 : Fin (k0_t1_loop i).trips) : Fin 4 → Nat :=
  let c0_429 : Index := 0#32
  let c0_430 : Index := 0#32
  let c0_431 : Index := 0#32
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c1_i32_386 : BitVec 32 := 1#32
  let arg13 : BitVec 32 := Scf.iv v737 c1_i32_386 k0_t1
  let c512_i32_422 : BitVec 32 := 512#32
  let v780 : BitVec 32 := Scalar.muli arg13 c512_i32_422
  let v781 : BitVec 32 := v780
  let v793 : Index := Scalar.indexCast v781
  ![0, 0, 0, v793.toNat]
def k0_off7 (i : grid0.Coords) (k0_t1 : Fin (k0_t1_loop i).trips) : Fin 2 → Nat :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c1_i32_386 : BitVec 32 := 1#32
  let arg13 : BitVec 32 := Scf.iv v737 c1_i32_386 k0_t1
  let c512_i32_422 : BitVec 32 := 512#32
  let v780 : BitVec 32 := Scalar.muli arg13 c512_i32_422
  let v781 : BitVec 32 := v780
  let v914 : Index := Scalar.indexCast v781
  let c128_495 : Index := 128#32
  ![v914.toNat, 128]
def k0_off8 (i : grid0.Coords) (k0_t1 : Fin (k0_t1_loop i).trips) : Fin 4 → Nat :=
  let c0_501 : Index := 0#32
  let c1_502 : Index := 1#32
  let c0_503 : Index := 0#32
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c1_i32_386 : BitVec 32 := 1#32
  let arg13 : BitVec 32 := Scf.iv v737 c1_i32_386 k0_t1
  let c512_i32_422 : BitVec 32 := 512#32
  let v780 : BitVec 32 := Scalar.muli arg13 c512_i32_422
  let v781 : BitVec 32 := v780
  let v925 : Index := Scalar.indexCast v781
  ![0, 1, 0, v925.toNat]
@[reducible] def k0_t2_loop (i : grid0.Coords) : Scf.Loop 32 :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c8_i32 : BitVec 32 := 8#32
  let v738 : BitVec 32 := Scalar.subi c8_i32 v737
  let c1_i32_385 : BitVec 32 := 1#32
  let v740 : BitVec 32 := Scalar.divsi v738 c1_i32_385
  let v741 : BitVec 32 := Scalar.muli v740 c1_i32_385
  let v742 : BitVec 32 := Scalar.addi v737 v741
  let v739 : BitVec 32 := Scalar.addi v737 v738
  let c1_i32_387 : BitVec 32 := 1#32
  ⟨v742, v739, c1_i32_387⟩
def k0_mult6 (i : grid0.Coords) (k0_t2 : Fin (k0_t2_loop i).trips) : BitVec 32 :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c8_i32 : BitVec 32 := 8#32
  let v738 : BitVec 32 := Scalar.subi c8_i32 v737
  let c1_i32_385 : BitVec 32 := 1#32
  let v740 : BitVec 32 := Scalar.divsi v738 c1_i32_385
  let v741 : BitVec 32 := Scalar.muli v740 c1_i32_385
  let v742 : BitVec 32 := Scalar.addi v737 v741
  let c1_i32_387 : BitVec 32 := 1#32
  let arg13 : BitVec 32 := Scf.iv v742 c1_i32_387 k0_t2
  let c512_i32_422 : BitVec 32 := 512#32
  let v780 : BitVec 32 := Scalar.muli arg13 c512_i32_422
  v780
def k0_off9 (i : grid0.Coords) (k0_t2 : Fin (k0_t2_loop i).trips) : Fin 2 → Nat :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c8_i32 : BitVec 32 := 8#32
  let v738 : BitVec 32 := Scalar.subi c8_i32 v737
  let c1_i32_385 : BitVec 32 := 1#32
  let v740 : BitVec 32 := Scalar.divsi v738 c1_i32_385
  let v741 : BitVec 32 := Scalar.muli v740 c1_i32_385
  let v742 : BitVec 32 := Scalar.addi v737 v741
  let c1_i32_387 : BitVec 32 := 1#32
  let arg13 : BitVec 32 := Scf.iv v742 c1_i32_387 k0_t2
  let c512_i32_422 : BitVec 32 := 512#32
  let v780 : BitVec 32 := Scalar.muli arg13 c512_i32_422
  let v781 : BitVec 32 := v780
  let v782 : Index := Scalar.indexCast v781
  let c0_423 : Index := 0#32
  ![v782.toNat, 0]
def k0_off10 (i : grid0.Coords) (k0_t2 : Fin (k0_t2_loop i).trips) : Fin 4 → Nat :=
  let c0_429 : Index := 0#32
  let c0_430 : Index := 0#32
  let c0_431 : Index := 0#32
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c8_i32 : BitVec 32 := 8#32
  let v738 : BitVec 32 := Scalar.subi c8_i32 v737
  let c1_i32_385 : BitVec 32 := 1#32
  let v740 : BitVec 32 := Scalar.divsi v738 c1_i32_385
  let v741 : BitVec 32 := Scalar.muli v740 c1_i32_385
  let v742 : BitVec 32 := Scalar.addi v737 v741
  let c1_i32_387 : BitVec 32 := 1#32
  let arg13 : BitVec 32 := Scf.iv v742 c1_i32_387 k0_t2
  let c512_i32_422 : BitVec 32 := 512#32
  let v780 : BitVec 32 := Scalar.muli arg13 c512_i32_422
  let v781 : BitVec 32 := v780
  let v793 : Index := Scalar.indexCast v781
  ![0, 0, 0, v793.toNat]
def k0_off11 (i : grid0.Coords) (k0_t2 : Fin (k0_t2_loop i).trips) : Fin 2 → Nat :=
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c8_i32 : BitVec 32 := 8#32
  let v738 : BitVec 32 := Scalar.subi c8_i32 v737
  let c1_i32_385 : BitVec 32 := 1#32
  let v740 : BitVec 32 := Scalar.divsi v738 c1_i32_385
  let v741 : BitVec 32 := Scalar.muli v740 c1_i32_385
  let v742 : BitVec 32 := Scalar.addi v737 v741
  let c1_i32_387 : BitVec 32 := 1#32
  let arg13 : BitVec 32 := Scf.iv v742 c1_i32_387 k0_t2
  let c512_i32_422 : BitVec 32 := 512#32
  let v780 : BitVec 32 := Scalar.muli arg13 c512_i32_422
  let v781 : BitVec 32 := v780
  let v914 : Index := Scalar.indexCast v781
  let c128_495 : Index := 128#32
  ![v914.toNat, 128]
def k0_off12 (i : grid0.Coords) (k0_t2 : Fin (k0_t2_loop i).trips) : Fin 4 → Nat :=
  let c0_501 : Index := 0#32
  let c1_502 : Index := 1#32
  let c0_503 : Index := 0#32
  let arg2 : BitVec 32 := BitVec.ofNat 32 (i 2).val
  let c1_i32_383 : BitVec 32 := 1#32
  let v736 : BitVec 32 := Scalar.addi arg2 c1_i32_383
  let c4_i32_384 : BitVec 32 := 4#32
  let v737 : BitVec 32 := Scalar.muli v736 c4_i32_384
  let c8_i32 : BitVec 32 := 8#32
  let v738 : BitVec 32 := Scalar.subi c8_i32 v737
  let c1_i32_385 : BitVec 32 := 1#32
  let v740 : BitVec 32 := Scalar.divsi v738 c1_i32_385
  let v741 : BitVec 32 := Scalar.muli v740 c1_i32_385
  let v742 : BitVec 32 := Scalar.addi v737 v741
  let c1_i32_387 : BitVec 32 := 1#32
  let arg13 : BitVec 32 := Scf.iv v742 c1_i32_387 k0_t2
  let c512_i32_422 : BitVec 32 := 512#32
  let v780 : BitVec 32 := Scalar.muli arg13 c512_i32_422
  let v781 : BitVec 32 := v780
  let v925 : Index := Scalar.indexCast v781
  ![0, 1, 0, v925.toNat]
def k0_cond2 (i : grid0.Coords) : BitVec 1 :=
  let arg2 : BitVec 32 := BitVec.ofNat 32 (i 2).val
  let c1_i32_420 : BitVec 32 := 1#32
  let v777 : BitVec 1 := Scalar.cmpi .eq arg2 c1_i32_420
  let v778 : BitVec 32 := Scalar.extui v777
  let c0_i32_421 : BitVec 32 := 0#32
  let v779 : BitVec 1 := Scalar.cmpi .ne v778 c0_i32_421
  v779

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AttnRefIdeal.lean ====
abbrev S2x4096x8x64 : Shape := ⟨4, ![2, 4096, 8, 64]⟩
abbrev S2x4096x8x32 : Shape := ⟨4, ![2, 4096, 8, 32]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x8x4096x32 : Shape := ⟨4, ![2, 8, 4096, 32]⟩
abbrev S2x8x4096x64 : Shape := ⟨4, ![2, 8, 4096, 64]⟩
abbrev S2x4096x8x96 : Shape := ⟨4, ![2, 4096, 8, 96]⟩
abbrev S2x4096x8x128 : Shape := ⟨4, ![2, 4096, 8, 128]⟩
abbrev S8192x1024 : Shape := ⟨2, ![8192, 1024]⟩

abbrev nBuf : Space → Nat
  | .hbm => 116
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x8x32, .f32⟩
  | .hbm, ⟨4, _⟩ => ⟨S2x4096x8x64, .f32⟩
  | .hbm, ⟨5, _⟩ => ⟨S2x4096x8x64, .f32⟩
  | .hbm, ⟨6, _⟩ => ⟨S2x8x4096x4096, .f32⟩
  | .hbm, ⟨7, _⟩ => ⟨S2x8x4096x4096, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S_, .f32⟩
  | .hbm, ⟨21, _⟩ => ⟨S_, .f32⟩
  | .hbm, ⟨22, _⟩ => ⟨S2x8x4096x4096, .i1⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .i1⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S_, .f32⟩
  | .hbm, ⟨36, _⟩ => ⟨S2x8x4096, .f32⟩
  | .hbm, ⟨37, _⟩ => ⟨S2x8x4096, .f32⟩
  | .hbm, ⟨38, _⟩ => ⟨S_, .f32⟩
  | .hbm, ⟨39, _⟩ => ⟨S2x8x4096, .f32⟩
  | .hbm, ⟨40, _⟩ => ⟨S2x8x4096, .i1⟩
  | .hbm, ⟨41, _⟩ => ⟨S_, .f32⟩
  | .hbm, ⟨42, _⟩ => ⟨S2x8x4096, .f32⟩
  | .hbm, ⟨43, _⟩ => ⟨S2x8x4096, .i1⟩
  | .hbm, ⟨44, _⟩ => ⟨S_, .f32⟩
  | .hbm, ⟨45, _⟩ => ⟨S2x8x4096, .f32⟩
  | .hbm, ⟨46, _⟩ => ⟨S_, .f32⟩
  | .hbm, ⟨47, _⟩ => ⟨S2x8x4096, .f32⟩
  | .hbm, ⟨48, _⟩ => ⟨S_, .f32⟩
  | .hbm, ⟨49, _⟩ => ⟨S2x8x4096, .f32⟩
  | .hbm, ⟨50, _⟩ => ⟨S2x8x4096, .f32⟩
  | .hbm, ⟨51, _⟩ => ⟨S2x8x4096, .f32⟩
  | .hbm, ⟨52, _⟩ => ⟨S2x8x4096x1, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S_, .f32⟩
  | .hbm, ⟨57, _⟩ => ⟨S2x8x4096, .f32⟩
  | .hbm, ⟨58, _⟩ => ⟨S2x8x4096x1, .f32⟩
  | .hbm, ⟨59, _⟩ => ⟨S2x8x4096x4096, .f32⟩
  | .hbm, ⟨60, _⟩ => ⟨S2x8x4096x4096, .f32⟩
  | .hbm, ⟨61, _⟩ => ⟨S2x8x4096x1, .f32⟩
  | .hbm, ⟨62, _⟩ => ⟨S_, .f32⟩
  | .hbm, ⟨63, _⟩ => ⟨S2x8x4096x1, .f32⟩
  | .hbm, ⟨64, _⟩ => ⟨S2x8x4096x1, .f32⟩
  | .hbm, ⟨65, _⟩ => ⟨S2x8x64x4096, .f32⟩
  | .hbm, ⟨66, _⟩ => ⟨S2x4096x8x64, .f32⟩
  | .hbm, ⟨67, _⟩ => ⟨S2x8x64x4096, .f32⟩
  | .hbm, ⟨68, _⟩ => ⟨S2x8x4096x4096, .f32⟩
  | .hbm, ⟨69, _⟩ => ⟨S2x8x64x4096, .f32⟩
  | .hbm, ⟨70, _⟩ => ⟨S2x4096x8x64, .f32⟩
  | .hbm, ⟨71, _⟩ => ⟨S2x8x4096x4096, .f32⟩
  | .hbm, ⟨72, _⟩ => ⟨S2x8x4096x4096, .f32⟩
  | .hbm, ⟨73, _⟩ => ⟨S2x8x4096x4096, .f32⟩
  | .hbm, ⟨74, _⟩ => ⟨S_, .f32⟩
  | .hbm, ⟨75, _⟩ => ⟨S2x8x4096, .f32⟩
  | .hbm, ⟨76, _⟩ => ⟨S2x8x4096x1, .f32⟩
  | .hbm, ⟨77, _⟩ => ⟨S2x8x4096x1, .f32⟩
  | .hbm, ⟨78, _⟩ => ⟨S2x8x4096x4096, .f32⟩
  | .hbm, ⟨79, _⟩ => ⟨S2x8x4096x4096, .f32⟩
  | .hbm, ⟨80, _⟩ => ⟨S_, .f32⟩
  | .hbm, ⟨81, _⟩ => ⟨S2x8x4096, .f32⟩
  | .hbm, ⟨82, _⟩ => ⟨S2x8x4096x4096, .f32⟩
  | .hbm, ⟨83, _⟩ => ⟨S2x8x4096x4096, .f32⟩
  | .hbm, ⟨84, _⟩ => ⟨S2x8x4096x4096, .f32⟩
  | .hbm, ⟨85, _⟩ => ⟨S_, .f32⟩
  | .hbm, ⟨86, _⟩ => ⟨S2x8x4096x4096, .f32⟩
  | .hbm, ⟨87, _⟩ => ⟨S2x8x4096x4096, .f32⟩
  | .hbm, ⟨88, _⟩ => ⟨S_, .f32⟩
  | .hbm, ⟨89, _⟩ => ⟨S2x8x4096x4096, .f32⟩
  | .hbm, ⟨90, _⟩ => ⟨S2x8x4096x4096, .f32⟩
  | .hbm, ⟨91, _⟩ => ⟨S2x8x4096x32, .f32⟩
  | .hbm, ⟨92, _⟩ => ⟨S2x4096x8x32, .f32⟩
  | .hbm, ⟨93, _⟩ => ⟨S2x8x4096x32, .f32⟩
  | .hbm, ⟨94, _⟩ => ⟨S2x4096x8x32, .f32⟩
  | .hbm, ⟨95, _⟩ => ⟨S2x8x4096x64, .f32⟩
  | .hbm, ⟨96, _⟩ => ⟨S2x4096x8x64, .f32⟩
  | .hbm, ⟨97, _⟩ => ⟨S2x8x4096x64, .f32⟩
  | .hbm, ⟨98, _⟩ => ⟨S2x4096x8x64, .f32⟩
  | .hbm, ⟨99, _⟩ => ⟨S2x4096x8x96, .f32⟩
  | .hbm, ⟨100, _⟩ => ⟨S_, .i32⟩
  | .hbm, ⟨101, _⟩ => ⟨S_, .f32⟩
  | .hbm, ⟨102, _⟩ => ⟨S2x4096x8x128, .f32⟩
  | .hbm, ⟨103, _⟩ => ⟨S8192x1024, .f32⟩
  | .hbm, ⟨104, _⟩ => ⟨S8192x1024, .bf16⟩
  | .hbm, ⟨105, _⟩ => ⟨S_, .i32⟩
  | .hbm, ⟨106, _⟩ => ⟨S_, .f32⟩
  | .hbm, ⟨107, _⟩ => ⟨S2x4096x8x128, .f32⟩
  | .hbm, ⟨108, _⟩ => ⟨S8192x1024, .f32⟩
  | .hbm, ⟨109, _⟩ => ⟨S8192x1024, .bf16⟩
  | .hbm, ⟨110, _⟩ => ⟨S2x4096x8x96, .f32⟩
  | .hbm, ⟨111, _⟩ => ⟨S_, .i32⟩
  | .hbm, ⟨112, _⟩ => ⟨S_, .f32⟩
  | .hbm, ⟨113, _⟩ => ⟨S2x4096x8x128, .f32⟩
  | .hbm, ⟨114, _⟩ => ⟨S8192x1024, .f32⟩
  | .hbm, ⟨115, _⟩ => ⟨S8192x1024, .bf16⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_call3_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_call4_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]
-- ==== Conv.lean ====
abbrev S2x4096x1024 : Shape := ⟨3, ![2, 4096, 1024]⟩
abbrev S1024 : Shape := ⟨1, ![1024]⟩
abbrev S1024x4096 : Shape := ⟨2, ![1024, 4096]⟩
abbrev S3x1024 : Shape := ⟨2, ![3, 1024]⟩
abbrev S1024x1024 : Shape := ⟨2, ![1024, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x4096 : Shape := ⟨3, ![2, 4096, 4096]⟩
abbrev S2x2x1024 : Shape := ⟨3, ![2, 2, 1024]⟩
abbrev S2x4098x1024 : Shape := ⟨3, ![2, 4098, 1024]⟩
abbrev S1x1024 : Shape := ⟨2, ![1, 1024]⟩
abbrev S1024x8x512 : Shape := ⟨3, ![1024, 8, 512]⟩
abbrev S8x1024x512 : Shape := ⟨3, ![8, 1024, 512]⟩
abbrev S8192x1024 : Shape := ⟨2, ![8192, 1024]⟩
abbrev S8192x4096 : Shape := ⟨2, ![8192, 4096]⟩
abbrev S1024x8192 : Shape := ⟨2, ![1024, 8192]⟩
abbrev S8x1024 : Shape := ⟨2, ![8, 1024]⟩
abbrev S256x1024 : Shape := ⟨2, ![256, 1024]⟩
abbrev S256x4096 : Shape := ⟨2, ![256, 4096]⟩
abbrev S1024x256 : Shape := ⟨2, ![1024, 256]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 68
  | .vmem => 24
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x4096, .f32⟩
  | .hbm, ⟨3, _⟩ => ⟨S3x1024, .f32⟩
  | .hbm, ⟨4, _⟩ => ⟨S1024x1024, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x4096, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x2x1024, .f32⟩
  | .hbm, ⟨29, _⟩ => ⟨S_, .f32⟩
  | .hbm, ⟨30, _⟩ => ⟨S2x2x1024, .f32⟩
  | .hbm, ⟨31, _⟩ => ⟨S2x4098x1024, .f32⟩
  | .hbm, ⟨32, _⟩ => ⟨S1x1024, .f32⟩
  | .hbm, ⟨33, _⟩ => ⟨S1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S1x1024, .f32⟩
  | .hbm, ⟨39, _⟩ => ⟨S1024, .f32⟩
  | .hbm, ⟨40, _⟩ => ⟨S2x4096x1024, .f32⟩
  | .hbm, ⟨41, _⟩ => ⟨S1x1x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S1x1024, .f32⟩
  | .hbm, ⟨46, _⟩ => ⟨S1024, .f32⟩
  | .hbm, ⟨47, _⟩ => ⟨S2x4096x1024, .f32⟩
  | .hbm, ⟨48, _⟩ => ⟨S1x1x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S1024x4096, .bf16⟩
  | .hbm, ⟨53, _⟩ => ⟨S1024x8x512, .bf16⟩
  | .hbm, ⟨54, _⟩ => ⟨S8x1024x512, .bf16⟩
  | .hbm, ⟨55, _⟩ => ⟨S8192x1024, .f32⟩
  | .hbm, ⟨56, _⟩ => ⟨S8192x1024, .f32⟩
  | .hbm, ⟨57, _⟩ => ⟨S8192x4096, .f32⟩
  | .hbm, ⟨58, _⟩ => ⟨S8192x4096, .bf16⟩
  | .hbm, ⟨59, _⟩ => ⟨S8192x1024, .f32⟩
  | .hbm, ⟨60, _⟩ => ⟨S1x1024, .f32⟩
  | .hbm, ⟨61, _⟩ => ⟨S1024x1024, .bf16⟩
  | .hbm, ⟨62, _⟩ => ⟨S8192x1024, .f32⟩
  | .hbm, ⟨63, _⟩ => ⟨S1024x8192, .bf16⟩
  | .hbm, ⟨64, _⟩ => ⟨S8192x4096, .bf16⟩
  | .hbm, ⟨65, _⟩ => ⟨S1024x1024, .f32⟩
  | .hbm, ⟨66, _⟩ => ⟨S1x1024, .f32⟩
  | .hbm, ⟨67, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S8x1024x512, .bf16⟩
  | .local _ .vmem, ⟨10, _⟩ => ⟨S3x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S1024x256, .bf16⟩
  | .local _ .vmem, ⟨15, _⟩ => ⟨S1024x256, .bf16⟩
  | .local _ .vmem, ⟨16, _⟩ => ⟨S256x4096, .bf16⟩
  | .local _ .vmem, ⟨17, _⟩ => ⟨S256x4096, .bf16⟩
  | .local _ .vmem, ⟨18, _⟩ => ⟨S1024x1024, .f32⟩
  | .local _ .vmem, ⟨19, _⟩ => ⟨S1x1024, .f32⟩
  | .local _ .vmem, ⟨20, _⟩ => ⟨S8x1024, .f32⟩
  | .local _ .vmem, ⟨21, _⟩ => ⟨S8x1024, .f32⟩
  | .local _ .vmem, ⟨22, _⟩ => ⟨S256x1024, .f32⟩
  | .local _ .vmem, ⟨23, _⟩ => ⟨S256x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52_0 : Ref sig .tc := ⟨.hbm, 62, rfl⟩
abbrev main_v52_1 : Ref sig .tc := ⟨.hbm, 63, rfl⟩
abbrev main_v52_2 : Ref sig .tc := ⟨.hbm, 64, rfl⟩
abbrev main_v52_3 : Ref sig .tc := ⟨.hbm, 65, rfl⟩
abbrev main_v52_4 : Ref sig .tc := ⟨.hbm, 66, rfl⟩
abbrev main_v52_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![c0_i32.toNat, v3.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ConvRefIdeal.lean ====
abbrev S2x4096x1024 : Shape := ⟨3, ![2, 4096, 1024]⟩
abbrev S1024 : Shape := ⟨1, ![1024]⟩
abbrev S1024x4096 : Shape := ⟨2, ![1024, 4096]⟩
abbrev S3x1024 : Shape := ⟨2, ![3, 1024]⟩
abbrev S1024x1024 : Shape := ⟨2, ![1024, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x4096 : Shape := ⟨3, ![2, 4096, 4096]⟩
abbrev S2x2x1024 : Shape := ⟨3, ![2, 2, 1024]⟩
abbrev S2x4098x1024 : Shape := ⟨3, ![2, 4098, 1024]⟩
abbrev S1x1024 : Shape := ⟨2, ![1, 1024]⟩
abbrev S8192x1024 : Shape := ⟨2, ![8192, 1024]⟩
abbrev S1024x8192 : Shape := ⟨2, ![1024, 8192]⟩
abbrev S8192x4096 : Shape := ⟨2, ![8192, 4096]⟩
abbrev S8x1024 : Shape := ⟨2, ![8, 1024]⟩

abbrev nBuf : Space → Nat
  | .hbm => 186
  | .vmem => 0
  | .smem => 0
  | _ => 0

abbrev hbmTy0_0 (i : Nat) : BufTy := match i % 128 with
  | 0 => ⟨S2x4096x1024, .f32⟩
  | 1 => ⟨S1024, .f32⟩
  | 2 => ⟨S1024x4096, .f32⟩
  | 3 => ⟨S3x1024, .f32⟩
  | 4 => ⟨S1024x1024, .f32⟩
  | 5 => ⟨S2x4096x1024, .f32⟩
  | 6 => ⟨S2x4096x1024, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x1, .f32⟩
  | 18 => ⟨S_, .f32⟩
  | 19 => ⟨S2x4096x1, .f32⟩
  | 20 => ⟨S2x4096x1, .f32⟩
  | 21 => ⟨S2x4096x1024, .f32⟩
  | 22 => ⟨S2x4096x1024, .f32⟩
  | 23 => ⟨S1x1x1024, .f32⟩
  | 24 => ⟨S2x4096x1024, .f32⟩
  | 25 => ⟨S2x4096x1024, .f32⟩
  | 26 => ⟨S2x4096x4096, .f32⟩
  | 27 => ⟨S2x4096x1024, .f32⟩
  | 28 => ⟨S2x4096x1024, .f32⟩
  | 29 => ⟨S2x4096x1024, .f32⟩
  | 30 => ⟨S2x4096x1024, .f32⟩
  | 31 => ⟨S2x4096x1024, .f32⟩
  | 32 => ⟨S2x2x1024, .f32⟩
  | 33 => ⟨S_, .f32⟩
  | 34 => ⟨S2x2x1024, .f32⟩
  | 35 => ⟨S2x4098x1024, .f32⟩
  | 36 => ⟨S_, .f32⟩
  | 37 => ⟨S2x2x1024, .f32⟩
  | 38 => ⟨S1x1024, .f32⟩
  | 39 => ⟨S1024, .f32⟩
  | 40 => ⟨S2x4096x1024, .f32⟩
  | 41 => ⟨S1x1x1024, .f32⟩
  | 42 => ⟨S2x4096x1024, .f32⟩
  | 43 => ⟨S2x4096x1024, .f32⟩
  | 44 => ⟨S1x1024, .f32⟩
  | 45 => ⟨S1024, .f32⟩
  | 46 => ⟨S2x4096x1024, .f32⟩
  | 47 => ⟨S1x1x1024, .f32⟩
  | 48 => ⟨S2x4096x1024, .f32⟩
  | 49 => ⟨S2x4096x1024, .f32⟩
  | 50 => ⟨S2x4096x1024, .f32⟩
  | 51 => ⟨S1x1024, .f32⟩
  | 52 => ⟨S1024, .f32⟩
  | 53 => ⟨S2x4096x1024, .f32⟩
  | 54 => ⟨S1x1x1024, .f32⟩
  | 55 => ⟨S2x4096x1024, .f32⟩
  | 56 => ⟨S2x4096x1024, .f32⟩
  | 57 => ⟨S2x4096x1024, .f32⟩
  | 58 => ⟨S2x4096x1024, .f32⟩
  | 59 => ⟨S2x4096x1024, .f32⟩
  | 60 => ⟨S_, .f32⟩
  | 61 => ⟨S2x4096x1024, .f32⟩
  | 62 => ⟨S2x4096x1024, .f32⟩
  | 63 => ⟨S_, .f32⟩
  | 64 => ⟨S2x4096x1024, .f32⟩
  | 65 => ⟨S2x4096x1024, .f32⟩
  | 66 => ⟨S_, .f32⟩
  | 67 => ⟨S2x4096x1024, .f32⟩
  | 68 => ⟨S2x4096x1024, .f32⟩
  | 69 => ⟨S2x4096x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S1024x1024, .f32⟩
  | 75 => ⟨S1024x1024, .f32⟩
  | 76 => ⟨S2x4096x1024, .f32⟩
  | 77 => ⟨S2x4096x1024, .f32⟩
  | 78 => ⟨S2x4096x1024, .f32⟩
  | 79 => ⟨S2x4096x1024, .f32⟩
  | 80 => ⟨S2x4096x1024, .f32⟩
  | 81 => ⟨S2x4096x1024, .f32⟩
  | 82 => ⟨S2x4096x1024, .f32⟩
  | 83 => ⟨S2x4096x1024, .f32⟩
  | 84 => ⟨S2x4096x1024, .f32⟩
  | 85 => ⟨S2x4096x1024, .f32⟩
  | 86 => ⟨S2x4096x1024, .f32⟩
  | 87 => ⟨S2x4096x1024, .f32⟩
  | 88 => ⟨S_, .f32⟩
  | 89 => ⟨S1024, .f32⟩
  | 90 => ⟨S1x1x1024, .f32⟩
  | 91 => ⟨S_, .f32⟩
  | 92 => ⟨S1024, .f32⟩
  | 93 => ⟨S_, .f32⟩
  | 94 => ⟨S2x4098x1024, .f32⟩
  | 95 => ⟨S1x1024, .f32⟩
  | 96 => ⟨S_, .f32⟩
  | 97 => ⟨S3x1024, .f32⟩
  | 98 => ⟨S2x4096x1024, .f32⟩
  | 99 => ⟨S2x4096x1024, .f32⟩
  | 100 => ⟨S2x4096x1024, .f32⟩
  | 101 => ⟨S_, .f32⟩
  | 102 => ⟨S1024, .f32⟩
  | 103 => ⟨S1x1x1024, .f32⟩
  | 104 => ⟨S_, .f32⟩
  | 105 => ⟨S1024, .f32⟩
  | 106 => ⟨S_, .f32⟩
  | 107 => ⟨S2x4098x1024, .f32⟩
  | 108 => ⟨S2x4098x1024, .f32⟩
  | 109 => ⟨S1x1024, .f32⟩
  | 110 => ⟨S_, .f32⟩
  | 111 => ⟨S3x1024, .f32⟩
  | 112 => ⟨S3x1024, .f32⟩
  | 113 => ⟨S2x4096x1024, .f32⟩
  | 114 => ⟨S2x4096x1024, .f32⟩
  | 115 => ⟨S2x4096x1024, .f32⟩
  | 116 => ⟨S_, .f32⟩
  | 117 => ⟨S1024, .f32⟩
  | 118 => ⟨S1x1x1024, .f32⟩
  | 119 => ⟨S_, .f32⟩
  | 120 => ⟨S1024, .f32⟩
  | 121 => ⟨S_, .f32⟩
  | 122 => ⟨S2x4098x1024, .f32⟩
  | 123 => ⟨S2x4098x1024, .f32⟩
  | 124 => ⟨S1x1024, .f32⟩
  | 125 => ⟨S_, .f32⟩
  | 126 => ⟨S3x1024, .f32⟩
  | 127 => ⟨S3x1024, .f32⟩
  | _ => ⟨S2x4096x1024, .f32⟩

abbrev hbmTy0_1 (i : Nat) : BufTy := match i % 128 with
  | 0 => ⟨S2x2x1024, .f32⟩
  | 1 => ⟨S2x4096x1024, .f32⟩
  | 2 => ⟨S2x4096x1024, .f32⟩
  | 3 => ⟨S2x4096x1024, .f32⟩
  | 4 => ⟨S2x4096x4096, .f32⟩
  | 5 => ⟨S2x4096x1024, .f32⟩
  | 6 => ⟨S2x4096x1024, .f32⟩
  | 7 => ⟨S_, .f32⟩
  | 8 => ⟨S1024, .f32⟩
  | 9 => ⟨S1x1x1024, .f32⟩
  | 10 => ⟨S2x4096x1024, .f32⟩
  | 11 => ⟨S2x4096x1024, .f32⟩
  | 12 => ⟨S_, .f32⟩
  | 13 => ⟨S1024, .f32⟩
  | 14 => ⟨S2x4096x1024, .f32⟩
  | 15 => ⟨S_, .f32⟩
  | 16 => ⟨S2x4096, .f32⟩
  | 17 => ⟨S2x4096x1, .f32⟩
  | 18 => ⟨S2x4096x1024, .f32⟩
  | 19 => ⟨S2x4096x1024, .f32⟩
  | 20 => ⟨S2x4096x1, .f32⟩
  | 21 => ⟨S_, .f32⟩
  | 22 => ⟨S2x4096x1, .f32⟩
  | 23 => ⟨S2x4096x1, .f32⟩
  | 24 => ⟨S_, .f32⟩
  | 25 => ⟨S2x4096, .f32⟩
  | 26 => ⟨S2x4096x1024, .f32⟩
  | 27 => ⟨S2x4096x1024, .f32⟩
  | 28 => ⟨S2x4096x1024, .f32⟩
  | 29 => ⟨S2x4096x1024, .f32⟩
  | 30 => ⟨S2x4096x1024, .f32⟩
  | 31 => ⟨S2x4096x1024, .f32⟩
  | 32 => ⟨S8192x1024, .f32⟩
  | 33 => ⟨S2x4096x1024, .f32⟩
  | 34 => ⟨S_, .f32⟩
  | 35 => ⟨S2x4096, .f32⟩
  | 36 => ⟨S2x4096x1, .f32⟩
  | 37 => ⟨S_, .f32⟩
  | 38 => ⟨S2x4096x1, .f32⟩
  | 39 => ⟨S2x4096x1, .f32⟩
  | 40 => ⟨S_, .f32⟩
  | 41 => ⟨S2x4096x1, .f32⟩
  | 42 => ⟨S2x4096x1, .f32⟩
  | 43 => ⟨S2x4096x1, .f32⟩
  | 44 => ⟨S2x4096x1024, .f32⟩
  | 45 => ⟨S2x4096x1024, .f32⟩
  | 46 => ⟨S1x1x1024, .f32⟩
  | 47 => ⟨S2x4096x1024, .f32⟩
  | 48 => ⟨S2x4096x1024, .f32⟩
  | 49 => ⟨S8192x1024, .f32⟩
  | 50 => ⟨S1024x8192, .f32⟩
  | 51 => ⟨S1024x8192, .bf16⟩
  | 52 => ⟨S8192x4096, .f32⟩
  | 53 => ⟨S8192x4096, .bf16⟩
  | 54 => ⟨S1x1024, .f32⟩
  | 55 => ⟨S_, .i32⟩
  | 56 => ⟨S_, .f32⟩
  | 57 => ⟨S8x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v46_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v46_1 : Ref sig .tc := ⟨.hbm, 69, rfl⟩
abbrev main_v46_0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_cst_7 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_13 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_cst_15 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_16 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_17 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_18 : Ref sig .tc := ⟨.hbm, 140, rfl⟩
abbrev main_v100 : Ref sig .tc := ⟨.hbm, 141, rfl⟩
abbrev main_v101 : Ref sig .tc := ⟨.hbm, 142, rfl⟩
abbrev main_cst_19 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_20 : Ref sig .tc := ⟨.hbm, 149, rfl⟩
abbrev main_v107 : Ref sig .tc := ⟨.hbm, 150, rfl⟩
abbrev main_v108 : Ref sig .tc := ⟨.hbm, 151, rfl⟩
abbrev main_cst_21 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_22 : Ref sig .tc := ⟨.hbm, 162, rfl⟩
abbrev main_v118 : Ref sig .tc := ⟨.hbm, 163, rfl⟩
abbrev main_v119 : Ref sig .tc := ⟨.hbm, 164, rfl⟩
abbrev main_cst_23 : Ref sig .tc := ⟨.hbm, 165, rfl⟩
abbrev main_v120 : Ref sig .tc := ⟨.hbm, 166, rfl⟩
abbrev main_v121 : Ref sig .tc := ⟨.hbm, 167, rfl⟩
abbrev main_cst_24 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c : Ref sig .tc := ⟨.hbm, 183, rfl⟩
abbrev main_call2_v0 : Ref sig .tc := ⟨.hbm, 184, rfl⟩
abbrev main_v136 : Ref sig .tc := ⟨.hbm, 185, rfl⟩

abbrev nD : Nat := 1
abbrev τ : Topo := Topo.v7x

variable {F : FTy → Type} [FloatOps F]
-- ==== Lat.lean ====
abbrev S2x4096x1024 : Shape := ⟨3, ![2, 4096, 1024]⟩
abbrev S2x4096x16 : Shape := ⟨3, ![2, 4096, 16]⟩
abbrev S1024 : Shape := ⟨1, ![1024]⟩
abbrev S1024x288 : Shape := ⟨2, ![1024, 288]⟩
abbrev S256 : Shape := ⟨1, ![256]⟩
abbrev S256x1024 : Shape := ⟨2, ![256, 1024]⟩
abbrev S1024x896 : Shape := ⟨2, ![1024, 896]⟩
abbrev S384 : Shape := ⟨1, ![384]⟩
abbrev S384x768 : Shape := ⟨2, ![384, 768]⟩
abbrev S2x4096x8x64 : Shape := ⟨4, ![2, 4096, 8, 64]⟩
abbrev S2x4096x8x32 : Shape := ⟨4, ![2, 4096, 8, 32]⟩
abbrev S2x4096x512 : Shape := ⟨3, ![2, 4096, 512]⟩
abbrev S8x128 : Shape := ⟨2, ![8, 128]⟩
abbrev S_ : Shape := ⟨0, ![]⟩
abbrev S1024x64 : Shape := ⟨2, ![1024, 64]⟩
abbrev S1024x32 : Shape := ⟨2, ![1024, 32]⟩
abbrev S1024x256 : Shape := ⟨2, ![1024, 256]⟩
abbrev S1024x384 : Shape := ⟨2, ![1024, 384]⟩
abbrev S2x4096 : Shape := ⟨2, ![2, 4096]⟩
abbrev S2x4096x1 : Shape := ⟨3, ![2, 4096, 1]⟩
abbrev S1x1x1024 : Shape := ⟨3, ![1, 1, 1024]⟩
abbrev S2x4096x384 : Shape := ⟨3, ![2, 4096, 384]⟩
abbrev S2x4096x896 : Shape := ⟨3, ![2, 4096, 896]⟩
abbrev S384x8x96 : Shape := ⟨3, ![384, 8, 96]⟩
abbrev S384x8x128 : Shape := ⟨3, ![384, 8, 128]⟩
abbrev S384x1024 : Shape := ⟨2, ![384, 1024]⟩
abbrev S2x4096x8x96 : Shape := ⟨4, ![2, 4096, 8, 96]⟩
abbrev S2x4096x8x128 : Shape := ⟨4, ![2, 4096, 8, 128]⟩
abbrev S8192x1024 : Shape := ⟨2, ![8192, 1024]⟩
abbrev S8192x512 : Shape := ⟨2, ![8192, 512]⟩
abbrev S8192x384 : Shape := ⟨2, ![8192, 384]⟩
abbrev S2x4096x64 : Shape := ⟨3, ![2, 4096, 64]⟩
abbrev S2x4096x32 : Shape := ⟨3, ![2, 4096, 32]⟩
abbrev S2x4096x128 : Shape := ⟨3, ![2, 4096, 128]⟩
abbrev S8192x128 : Shape := ⟨2, ![8192, 128]⟩
abbrev S1x1024 : Shape := ⟨2, ![1, 1024]⟩
abbrev S1x256 : Shape := ⟨2, ![1, 256]⟩
abbrev S1x384 : Shape := ⟨2, ![1, 384]⟩
abbrev S8x384x128 : Shape := ⟨3, ![8, 384, 128]⟩
abbrev S8x256x128 : Shape := ⟨3, ![8, 256, 128]⟩
abbrev S512x1024 : Shape := ⟨2, ![512, 1024]⟩
abbrev S512x512 : Shape := ⟨2, ![512, 512]⟩
abbrev S512x384 : Shape := ⟨2, ![512, 384]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S512x256 : Shape := ⟨2, ![512, 256]⟩
abbrev S1x256x128 : Shape := ⟨3, ![1, 256, 128]⟩
abbrev S256x128 : Shape := ⟨2, ![256, 128]⟩
abbrev S1x384x128 : Shape := ⟨3, ![1, 384, 128]⟩
abbrev S384x128 : Shape := ⟨2, ![384, 128]⟩
abbrev S512x896 : Shape := ⟨2, ![512, 896]⟩

abbrev nBuf : Space → Nat
  | .hbm => 118
  | .vmem => 41
  | .smem => 0
  | _ => 0

abbrev bufTy : (tb : Table) → Fin (tcTables nBuf tb) → BufTy
  | .hbm, ⟨0, _⟩ => ⟨S2x4096x1024, .f32⟩
  | .hbm, ⟨1, _⟩ => ⟨S2x4096x16, .f32⟩
  | .hbm, ⟨2, _⟩ => ⟨S2x4096x16, .f32⟩
  | .hbm, ⟨3, _⟩ => ⟨S1024, .f32⟩
  | .hbm, ⟨4, _⟩ => ⟨S1024x288, .f32⟩
  | .hbm, ⟨5, _⟩ => ⟨S256, .f32⟩
  | .hbm, ⟨6, _⟩ => ⟨S256x1024, .f32⟩
  | .hbm, ⟨7, _⟩ => ⟨S1024, .f32⟩
  | .hbm, ⟨8, _⟩ => ⟨S1024x896, .f32⟩
  | .hbm, ⟨9, _⟩ => ⟨S384, .f32⟩
  | .hbm, ⟨10, _⟩ => ⟨S384x768, .f32⟩
  | .hbm, ⟨11, _⟩ => ⟨S2x4096x8x64, .f32⟩
  | .hbm, ⟨12, _⟩ => ⟨S2x4096x8x32, .f32⟩
  | .hbm, ⟨13, _⟩ => ⟨S2x4096x8x64, .f32⟩
  | .hbm, ⟨14, _⟩ => ⟨S2x4096x8x32, .f32⟩
  | .hbm, ⟨15, _⟩ => ⟨S2x4096x8x64, .f32⟩
  | .hbm, ⟨16, _⟩ => ⟨S2x4096x512, .f32⟩
  | .hbm, ⟨17, _⟩ => ⟨S2x4096x1024, .f32⟩
  | .hbm, ⟨18, _⟩ => ⟨S8x128, .f32⟩
  | .hbm, ⟨19, _⟩ => ⟨S_, .f32⟩
  | .hbm, ⟨20, _⟩ => ⟨S1024x64, .f32⟩
  | .hbm, ⟨21, _⟩ => ⟨S_, .f32⟩
  | .hbm, ⟨22, _⟩ => ⟨S1024x32, .f32⟩
  | .hbm, ⟨23, _⟩ => ⟨S1024x256, .f32⟩
  | .hbm, ⟨24, _⟩ => ⟨S1024x32, .f32⟩
  | .hbm, ⟨25, _⟩ => ⟨S1024x384, .f32⟩
  | .hbm, ⟨26, _⟩ => ⟨S2x4096x1024, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x1, .f32⟩
  | .hbm, ⟨37, _⟩ => ⟨S2x4096x1024, .f32⟩
  | .hbm, ⟨38, _⟩ => ⟨S2x4096x1024, .f32⟩
  | .hbm, ⟨39, _⟩ => ⟨S1x1x1024, .f32⟩
  | .hbm, ⟨40, _⟩ => ⟨S2x4096x1024, .f32⟩
  | .hbm, ⟨41, _⟩ => ⟨S2x4096x1024, .f32⟩
  | .hbm, ⟨42, _⟩ => ⟨S2x4096x384, .f32⟩
  | .hbm, ⟨43, _⟩ => ⟨S2x4096x1024, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x1024, .f32⟩
  | .hbm, ⟨55, _⟩ => ⟨S2x4096x1024, .f32⟩
  | .hbm, ⟨56, _⟩ => ⟨S1x1x1024, .f32⟩
  | .hbm, ⟨57, _⟩ => ⟨S2x4096x1024, .f32⟩
  | .hbm, ⟨58, _⟩ => ⟨S2x4096x1024, .f32⟩
  | .hbm, ⟨59, _⟩ => ⟨S2x4096x896, .f32⟩
  | .hbm, ⟨60, _⟩ => ⟨S2x4096x384, .f32⟩
  | .hbm, ⟨61, _⟩ => ⟨S384x8x96, .f32⟩
  | .hbm, ⟨62, _⟩ => ⟨S_, .i32⟩
  | .hbm, ⟨63, _⟩ => ⟨S_, .f32⟩
  | .hbm, ⟨64, _⟩ => ⟨S384x8x128, .f32⟩
  | .hbm, ⟨65, _⟩ => ⟨S384x1024, .f32⟩
  | .hbm, ⟨66, _⟩ => ⟨S2x4096x8x96, .f32⟩
  | .hbm, ⟨67, _⟩ => ⟨S_, .i32⟩
  | .hbm, ⟨68, _⟩ => ⟨S_, .f32⟩
  | .hbm, ⟨69, _⟩ => ⟨S2x4096x8x128, .f32⟩
  | .hbm, ⟨70, _⟩ => ⟨S8192x1024, .f32⟩
  | .hbm, ⟨71, _⟩ => ⟨S8192x1024, .bf16⟩
  | .hbm, ⟨72, _⟩ => ⟨S2x4096x8x96, .f32⟩
  | .hbm, ⟨73, _⟩ => ⟨S_, .i32⟩
  | .hbm, ⟨74, _⟩ => ⟨S_, .f32⟩
  | .hbm, ⟨75, _⟩ => ⟨S2x4096x8x128, .f32⟩
  | .hbm, ⟨76, _⟩ => ⟨S8192x1024, .f32⟩
  | .hbm, ⟨77, _⟩ => ⟨S8192x1024, .bf16⟩
  | .hbm, ⟨78, _⟩ => ⟨S_, .i32⟩
  | .hbm, ⟨79, _⟩ => ⟨S_, .f32⟩
  | .hbm, ⟨80, _⟩ => ⟨S2x4096x8x128, .f32⟩
  | .hbm, ⟨81, _⟩ => ⟨S8192x1024, .f32⟩
  | .hbm, ⟨82, _⟩ => ⟨S8192x1024, .bf16⟩
  | .hbm, ⟨83, _⟩ => ⟨S8192x512, .f32⟩
  | .hbm, ⟨84, _⟩ => ⟨S8192x512, .bf16⟩
  | .hbm, ⟨85, _⟩ => ⟨S8192x384, .f32⟩
  | .hbm, ⟨86, _⟩ => ⟨S8192x384, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S2x4096x64, .f32⟩
  | .hbm, ⟨91, _⟩ => ⟨S_, .f32⟩
  | .hbm, ⟨92, _⟩ => ⟨S2x4096x32, .f32⟩
  | .hbm, ⟨93, _⟩ => ⟨S2x4096x128, .f32⟩
  | .hbm, ⟨94, _⟩ => ⟨S8192x128, .f32⟩
  | .hbm, ⟨95, _⟩ => ⟨S_, .f32⟩
  | .hbm, ⟨96, _⟩ => ⟨S2x4096x64, .f32⟩
  | .hbm, ⟨97, _⟩ => ⟨S_, .f32⟩
  | .hbm, ⟨98, _⟩ => ⟨S2x4096x32, .f32⟩
  | .hbm, ⟨99, _⟩ => ⟨S2x4096x128, .f32⟩
  | .hbm, ⟨100, _⟩ => ⟨S8192x128, .f32⟩
  | .hbm, ⟨101, _⟩ => ⟨S1x1024, .f32⟩
  | .hbm, ⟨102, _⟩ => ⟨S1024x384, .bf16⟩
  | .hbm, ⟨103, _⟩ => ⟨S1x256, .f32⟩
  | .hbm, ⟨104, _⟩ => ⟨S256x1024, .bf16⟩
  | .hbm, ⟨105, _⟩ => ⟨S1x1024, .f32⟩
  | .hbm, ⟨106, _⟩ => ⟨S1024x896, .bf16⟩
  | .hbm, ⟨107, _⟩ => ⟨S1x384, .f32⟩
  | .hbm, ⟨108, _⟩ => ⟨S384x1024, .bf16⟩
  | .hbm, ⟨109, _⟩ => ⟨S8192x1024, .f32⟩
  | .hbm, ⟨110, _⟩ => ⟨S8x384x128, .f32⟩
  | .hbm, ⟨111, _⟩ => ⟨S1024x896, .f32⟩
  | .hbm, ⟨112, _⟩ => ⟨S8x256x128, .f32⟩
  | .hbm, ⟨113, _⟩ => ⟨S1024x384, .f32⟩
  | .hbm, ⟨114, _⟩ => ⟨S1x384, .f32⟩
  | .hbm, ⟨115, _⟩ => ⟨S1x1024, .f32⟩
  | .hbm, ⟨116, _⟩ => ⟨S1x256, .f32⟩
  | .hbm, ⟨117, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S8x128, .f32⟩
  | .local _ .vmem, ⟨21, _⟩ => ⟨S1x1024, .f32⟩
  | .local _ .vmem, ⟨22, _⟩ => ⟨S1024x384, .bf16⟩
  | .local _ .vmem, ⟨23, _⟩ => ⟨S1x256, .f32⟩
  | .local _ .vmem, ⟨24, _⟩ => ⟨S256x1024, .bf16⟩
  | .local _ .vmem, ⟨25, _⟩ => ⟨S1x1024, .f32⟩
  | .local _ .vmem, ⟨26, _⟩ => ⟨S1024x896, .bf16⟩
  | .local _ .vmem, ⟨27, _⟩ => ⟨S1x384, .f32⟩
  | .local _ .vmem, ⟨28, _⟩ => ⟨S384x1024, .bf16⟩
  | .local _ .vmem, ⟨29, _⟩ => ⟨S512x1024, .f32⟩
  | .local _ .vmem, ⟨30, _⟩ => ⟨S512x1024, .f32⟩
  | .local _ .vmem, ⟨31, _⟩ => ⟨S8x384x128, .f32⟩
  | .local _ .vmem, ⟨32, _⟩ => ⟨S1024x896, .f32⟩
  | .local _ .vmem, ⟨33, _⟩ => ⟨S8x256x128, .f32⟩
  | .local _ .vmem, ⟨34, _⟩ => ⟨S1024x384, .f32⟩
  | .local _ .vmem, ⟨35, _⟩ => ⟨S1x384, .f32⟩
  | .local _ .vmem, ⟨36, _⟩ => ⟨S1x1024, .f32⟩
  | .local _ .vmem, ⟨37, _⟩ => ⟨S1x256, .f32⟩
  | .local _ .vmem, ⟨38, _⟩ => ⟨S1x1024, .f32⟩
  | .local _ .vmem, ⟨39, _⟩ => ⟨S512x1024, .bf16⟩
  | .local _ .vmem, ⟨40, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_cst_1 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_2 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_v8 : Ref sig .tc := ⟨.hbm, 31, rfl⟩
abbrev main_v9 : Ref sig .tc := ⟨.hbm, 32, rfl⟩
abbrev main_cst_4 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_5 : Ref sig .tc := ⟨.hbm, 44, rfl⟩
abbrev main_v20 : Ref sig .tc := ⟨.hbm, 45, rfl⟩
abbrev main_v21 : Ref sig .tc := ⟨.hbm, 46, rfl⟩
abbrev main_cst_6 : Ref sig .tc := ⟨.hbm, 47, rfl⟩
abbrev main_v22 : Ref sig .tc := ⟨.hbm, 48, rfl⟩
abbrev main_v23 : Ref sig .tc := ⟨.hbm, 49, rfl⟩
abbrev main_cst_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c : Ref sig .tc := ⟨.hbm, 62, rfl⟩
abbrev main_call0_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_call1_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_9 : Ref sig .tc := ⟨.hbm, 73, rfl⟩
abbrev main_call2_v0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_call3_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_cst_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_cst_14 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70_0 : Ref sig .tc := ⟨.hbm, 109, rfl⟩
abbrev main_v70_1 : Ref sig .tc := ⟨.hbm, 110, rfl⟩
abbrev main_v70_2 : Ref sig .tc := ⟨.hbm, 111, rfl⟩
abbrev main_v70_3 : Ref sig .tc := ⟨.hbm, 112, rfl⟩
abbrev main_v70_4 : Ref sig .tc := ⟨.hbm, 113, rfl⟩
abbrev main_v70_5 : Ref sig .tc := ⟨.hbm, 114, rfl⟩
abbrev main_v70_6 : Ref sig .tc := ⟨.hbm, 115, rfl⟩
abbrev main_v70_7 : Ref sig .tc := ⟨.hbm, 116, rfl⟩
abbrev main_v70_8 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg26_0 : Ref sig .tc := ⟨.vmem, 37, rfl⟩
abbrev cc0_stg27_0 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36
abbrev cc0_sem26_0 : DmaSem sig := 37
abbrev cc0_sem27_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x896 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x384x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x896 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x256x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== LatRefIdeal.lean ====
abbrev S2x4096x1024 : Shape := ⟨3, ![2, 4096, 1024]⟩
abbrev S2x4096x16 : Shape := ⟨3, ![2, 4096, 16]⟩
abbrev S1024 : Shape := ⟨1, ![1024]⟩
abbrev S1024x288 : Shape := ⟨2, ![1024, 288]⟩
abbrev S256 : Shape := ⟨1, ![256]⟩
abbrev S256x1024 : Shape := ⟨2, ![256, 1024]⟩
abbrev S1024x896 : Shape := ⟨2, ![1024, 896]⟩
abbrev S384 : Shape := ⟨1, ![384]⟩
abbrev S384x768 : Shape := ⟨2, ![384, 768]⟩
abbrev S2x4096x8x64 : Shape := ⟨4, ![2, 4096, 8, 64]⟩
abbrev S2x4096x8x32 : Shape := ⟨4, ![2, 4096, 8, 32]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x288 : Shape := ⟨3, ![2, 4096, 288]⟩
abbrev S2x4096x256 : Shape := ⟨3, ![2, 4096, 256]⟩
abbrev S2x4096x32 : Shape := ⟨3, ![2, 4096, 32]⟩
abbrev S1x1x256 : Shape := ⟨3, ![1, 1, 256]⟩
abbrev S2x4096x8x128 : Shape := ⟨4, ![2, 4096, 8, 128]⟩
abbrev S2x4096x1x32 : Shape := ⟨4, ![2, 4096, 1, 32]⟩
abbrev S1024x256 : Shape := ⟨2, ![1024, 256]⟩
abbrev S288x1024 : Shape := ⟨2, ![288, 1024]⟩
abbrev S2x4096x896 : Shape := ⟨3, ![2, 4096, 896]⟩
abbrev S2x4096x384 : Shape := ⟨3, ![2, 4096, 384]⟩
abbrev S1x1x384 : Shape := ⟨3, ![1, 1, 384]⟩
abbrev S2x4096x768 : Shape := ⟨3, ![2, 4096, 768]⟩
abbrev S2x4096x8x96 : Shape := ⟨4, ![2, 4096, 8, 96]⟩
abbrev S2x4096x1x16 : Shape := ⟨4, ![2, 4096, 1, 16]⟩
abbrev S2x4096x8x16 : Shape := ⟨4, ![2, 4096, 8, 16]⟩
abbrev S768x384 : Shape := ⟨2, ![768, 384]⟩
abbrev S896x1024 : Shape := ⟨2, ![896, 1024]⟩
abbrev S1024x64 : Shape := ⟨2, ![1024, 64]⟩
abbrev S1024x32 : Shape := ⟨2, ![1024, 32]⟩
abbrev S1024x384 : Shape := ⟨2, ![1024, 384]⟩
abbrev S8192x1024 : Shape := ⟨2, ![8192, 1024]⟩
abbrev S384x8x96 : Shape := ⟨3, ![384, 8, 96]⟩
abbrev S384x8x128 : Shape := ⟨3, ![384, 8, 128]⟩
abbrev S8x384x128 : Shape := ⟨3, ![8, 384, 128]⟩
abbrev S256x8x128 : Shape := ⟨3, ![256, 8, 128]⟩
abbrev S8x256x128 : Shape := ⟨3, ![8, 256, 128]⟩
abbrev S1x384 : Shape := ⟨2, ![1, 384]⟩
abbrev S1x1024 : Shape := ⟨2, ![1, 1024]⟩
abbrev S1x256 : Shape := ⟨2, ![1, 256]⟩

abbrev nBuf : Space → Nat
  | .hbm => 325
  | .vmem => 0
  | .smem => 0
  | _ => 0

abbrev hbmTy0_0 (i : Nat) : BufTy := match i % 128 with
  | 0 => ⟨S2x4096x1024, .f32⟩
  | 1 => ⟨S2x4096x16, .f32⟩
  | 2 => ⟨S2x4096x16, .f32⟩
  | 3 => ⟨S1024, .f32⟩
  | 4 => ⟨S1024x288, .f32⟩
  | 5 => ⟨S256, .f32⟩
  | 6 => ⟨S256x1024, .f32⟩
  | 7 => ⟨S1024, .f32⟩
  | 8 => ⟨S1024x896, .f32⟩
  | 9 => ⟨S384, .f32⟩
  | 10 => ⟨S384x768, .f32⟩
  | 11 => ⟨S2x4096x8x64, .f32⟩
  | 12 => ⟨S2x4096x8x32, .f32⟩
  | 13 => ⟨S2x4096x8x64, .f32⟩
  | 14 => ⟨S2x4096x8x32, .f32⟩
  | 15 => ⟨S2x4096x8x64, .f32⟩
  | 16 => ⟨S2x4096x512, .f32⟩
  | 17 => ⟨S2x4096x1024, .f32⟩
  | 18 => ⟨S2x4096x1024, .f32⟩
  | 19 => ⟨S_, .f32⟩
  | 20 => ⟨S2x4096, .f32⟩
  | 21 => ⟨S2x4096x1, .f32⟩
  | 22 => ⟨S_, .f32⟩
  | 23 => ⟨S2x4096x1, .f32⟩
  | 24 => ⟨S2x4096x1, .f32⟩
  | 25 => ⟨S_, .f32⟩
  | 26 => ⟨S2x4096x1, .f32⟩
  | 27 => ⟨S2x4096x1, .f32⟩
  | 28 => ⟨S2x4096x1, .f32⟩
  | 29 => ⟨S2x4096x1, .f32⟩
  | 30 => ⟨S_, .f32⟩
  | 31 => ⟨S2x4096x1, .f32⟩
  | 32 => ⟨S2x4096x1, .f32⟩
  | 33 => ⟨S2x4096x1024, .f32⟩
  | 34 => ⟨S2x4096x1024, .f32⟩
  | 35 => ⟨S1x1x1024, .f32⟩
  | 36 => ⟨S2x4096x1024, .f32⟩
  | 37 => ⟨S2x4096x1024, .f32⟩
  | 38 => ⟨S2x4096x288, .f32⟩
  | 39 => ⟨S2x4096x256, .f32⟩
  | 40 => ⟨S2x4096x32, .f32⟩
  | 41 => ⟨S2x4096x256, .f32⟩
  | 42 => ⟨S_, .f32⟩
  | 43 => ⟨S2x4096, .f32⟩
  | 44 => ⟨S2x4096x1, .f32⟩
  | 45 => ⟨S_, .f32⟩
  | 46 => ⟨S2x4096x1, .f32⟩
  | 47 => ⟨S2x4096x1, .f32⟩
  | 48 => ⟨S_, .f32⟩
  | 49 => ⟨S2x4096x1, .f32⟩
  | 50 => ⟨S2x4096x1, .f32⟩
  | 51 => ⟨S2x4096x1, .f32⟩
  | 52 => ⟨S2x4096x1, .f32⟩
  | 53 => ⟨S_, .f32⟩
  | 54 => ⟨S2x4096x1, .f32⟩
  | 55 => ⟨S2x4096x1, .f32⟩
  | 56 => ⟨S2x4096x256, .f32⟩
  | 57 => ⟨S2x4096x256, .f32⟩
  | 58 => ⟨S1x1x256, .f32⟩
  | 59 => ⟨S2x4096x256, .f32⟩
  | 60 => ⟨S2x4096x256, .f32⟩
  | 61 => ⟨S2x4096x1024, .f32⟩
  | 62 => ⟨S2x4096x8x128, .f32⟩
  | 63 => ⟨S2x4096x16, .f32⟩
  | 64 => ⟨S2x4096x16, .f32⟩
  | 65 => ⟨S2x4096x16, .f32⟩
  | 66 => ⟨S2x4096x16, .f32⟩
  | 67 => ⟨S2x4096x16, .f32⟩
  | 68 => ⟨S2x4096x16, .f32⟩
  | 69 => ⟨S2x4096x16, .f32⟩
  | 70 => ⟨S2x4096x16, .f32⟩
  | 71 => ⟨S2x4096x32, .f32⟩
  | 72 => ⟨S2x4096x8x64, .f32⟩
  | 73 => ⟨S2x4096x1x32, .f32⟩
  | 74 => ⟨S2x4096x8x32, .f32⟩
  | 75 => ⟨S2x4096x8x64, .f32⟩
  | 76 => ⟨S_, .f32⟩
  | 77 => ⟨S2x4096x8x128, .f32⟩
  | 78 => ⟨S_, .f32⟩
  | 79 => ⟨S2x4096x32, .f32⟩
  | 80 => ⟨S2x4096x1x32, .f32⟩
  | 81 => ⟨S_, .f32⟩
  | 82 => ⟨S2x4096x32, .f32⟩
  | 83 => ⟨S_, .f32⟩
  | 84 => ⟨S2x4096x8x128, .f32⟩
  | 85 => ⟨S2x4096x8x128, .f32⟩
  | 86 => ⟨S2x4096x16, .f32⟩
  | 87 => ⟨S2x4096x16, .f32⟩
  | 88 => ⟨S2x4096x16, .f32⟩
  | 89 => ⟨S2x4096x16, .f32⟩
  | 90 => ⟨S2x4096x16, .f32⟩
  | 91 => ⟨S2x4096x16, .f32⟩
  | 92 => ⟨S2x4096x16, .f32⟩
  | 93 => ⟨S2x4096x16, .f32⟩
  | 94 => ⟨S2x4096x16, .f32⟩
  | 95 => ⟨S2x4096x32, .f32⟩
  | 96 => ⟨S2x4096x1024, .f32⟩
  | 97 => ⟨S1024x256, .f32⟩
  | 98 => ⟨S256x1024, .f32⟩
  | 99 => ⟨S2x4096x256, .f32⟩
  | 100 => ⟨S2x4096x256, .f32⟩
  | 101 => ⟨S_, .f32⟩
  | 102 => ⟨S256, .f32⟩
  | 103 => ⟨S1x1x256, .f32⟩
  | 104 => ⟨S2x4096x256, .f32⟩
  | 105 => ⟨S2x4096x256, .f32⟩
  | 106 => ⟨S_, .f32⟩
  | 107 => ⟨S256, .f32⟩
  | 108 => ⟨S2x4096x256, .f32⟩
  | 109 => ⟨S_, .f32⟩
  | 110 => ⟨S2x4096, .f32⟩
  | 111 => ⟨S2x4096x1, .f32⟩
  | 112 => ⟨S2x4096x256, .f32⟩
  | 113 => ⟨S2x4096x256, .f32⟩
  | 114 => ⟨S2x4096x1, .f32⟩
  | 115 => ⟨S_, .f32⟩
  | 116 => ⟨S2x4096x1, .f32⟩
  | 117 => ⟨S2x4096x1, .f32⟩
  | 118 => ⟨S_, .f32⟩
  | 119 => ⟨S2x4096, .f32⟩
  | 120 => ⟨S2x4096x256, .f32⟩
  | 121 => ⟨S2x4096x256, .f32⟩
  | 122 => ⟨S2x4096x256, .f32⟩
  | 123 => ⟨S2x4096x256, .f32⟩
  | 124 => ⟨S2x4096x256, .f32⟩
  | 125 => ⟨S_, .f32⟩
  | 126 => ⟨S2x4096x288, .f32⟩
  | 127 => ⟨S_, .f32⟩
  | _ => ⟨S2x4096x1024, .f32⟩

abbrev hbmTy0_1 (i : Nat) : BufTy := match i % 128 with
  | 0 => ⟨S2x4096x288, .f32⟩
  | 1 => ⟨S2x4096x288, .f32⟩
  | 2 => ⟨S288x1024, .f32⟩
  | 3 => ⟨S1024x288, .f32⟩
  | 4 => ⟨S2x4096x1024, .f32⟩
  | 5 => ⟨S2x4096x1024, .f32⟩
  | 6 => ⟨S_, .f32⟩
  | 7 => ⟨S1024, .f32⟩
  | 8 => ⟨S1x1x1024, .f32⟩
  | 9 => ⟨S2x4096x1024, .f32⟩
  | 10 => ⟨S2x4096x1024, .f32⟩
  | 11 => ⟨S_, .f32⟩
  | 12 => ⟨S1024, .f32⟩
  | 13 => ⟨S2x4096x1024, .f32⟩
  | 14 => ⟨S_, .f32⟩
  | 15 => ⟨S2x4096, .f32⟩
  | 16 => ⟨S2x4096x1, .f32⟩
  | 17 => ⟨S2x4096x1024, .f32⟩
  | 18 => ⟨S2x4096x1024, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096, .f32⟩
  | 25 => ⟨S2x4096x1024, .f32⟩
  | 26 => ⟨S2x4096x1024, .f32⟩
  | 27 => ⟨S2x4096x1024, .f32⟩
  | 28 => ⟨S2x4096x1024, .f32⟩
  | 29 => ⟨S2x4096x1024, .f32⟩
  | 30 => ⟨S2x4096x1024, .f32⟩
  | 31 => ⟨S_, .f32⟩
  | 32 => ⟨S2x4096, .f32⟩
  | 33 => ⟨S2x4096x1, .f32⟩
  | 34 => ⟨S_, .f32⟩
  | 35 => ⟨S2x4096x1, .f32⟩
  | 36 => ⟨S2x4096x1, .f32⟩
  | 37 => ⟨S_, .f32⟩
  | 38 => ⟨S2x4096x1, .f32⟩
  | 39 => ⟨S2x4096x1, .f32⟩
  | 40 => ⟨S2x4096x1, .f32⟩
  | 41 => ⟨S2x4096x1, .f32⟩
  | 42 => ⟨S_, .f32⟩
  | 43 => ⟨S2x4096x1, .f32⟩
  | 44 => ⟨S2x4096x1, .f32⟩
  | 45 => ⟨S2x4096x1024, .f32⟩
  | 46 => ⟨S2x4096x1024, .f32⟩
  | 47 => ⟨S1x1x1024, .f32⟩
  | 48 => ⟨S2x4096x1024, .f32⟩
  | 49 => ⟨S2x4096x1024, .f32⟩
  | 50 => ⟨S2x4096x896, .f32⟩
  | 51 => ⟨S2x4096x384, .f32⟩
  | 52 => ⟨S2x4096x512, .f32⟩
  | 53 => ⟨S2x4096x384, .f32⟩
  | 54 => ⟨S_, .f32⟩
  | 55 => ⟨S2x4096, .f32⟩
  | 56 => ⟨S2x4096x1, .f32⟩
  | 57 => ⟨S_, .f32⟩
  | 58 => ⟨S2x4096x1, .f32⟩
  | 59 => ⟨S2x4096x1, .f32⟩
  | 60 => ⟨S_, .f32⟩
  | 61 => ⟨S2x4096x1, .f32⟩
  | 62 => ⟨S2x4096x1, .f32⟩
  | 63 => ⟨S2x4096x1, .f32⟩
  | 64 => ⟨S2x4096x1, .f32⟩
  | 65 => ⟨S_, .f32⟩
  | 66 => ⟨S2x4096x1, .f32⟩
  | 67 => ⟨S2x4096x1, .f32⟩
  | 68 => ⟨S2x4096x384, .f32⟩
  | 69 => ⟨S2x4096x384, .f32⟩
  | 70 => ⟨S1x1x384, .f32⟩
  | 71 => ⟨S2x4096x384, .f32⟩
  | 72 => ⟨S2x4096x384, .f32⟩
  | 73 => ⟨S2x4096x768, .f32⟩
  | 74 => ⟨S2x4096x8x96, .f32⟩
  | 75 => ⟨S2x4096x8x64, .f32⟩
  | 76 => ⟨S2x4096x8x32, .f32⟩
  | 77 => ⟨S2x4096x1x16, .f32⟩
  | 78 => ⟨S2x4096x1x16, .f32⟩
  | 79 => ⟨S2x4096x8x16, .f32⟩
  | 80 => ⟨S2x4096x8x16, .f32⟩
  | 81 => ⟨S2x4096x8x16, .f32⟩
  | 82 => ⟨S2x4096x8x16, .f32⟩
  | 83 => ⟨S2x4096x8x16, .f32⟩
  | 84 => ⟨S2x4096x8x16, .f32⟩
  | 85 => ⟨S2x4096x8x16, .f32⟩
  | 86 => ⟨S2x4096x8x16, .f32⟩
  | 87 => ⟨S2x4096x8x16, .f32⟩
  | 88 => ⟨S2x4096x8x16, .f32⟩
  | 89 => ⟨S2x4096x8x16, .f32⟩
  | 90 => ⟨S2x4096x8x16, .f32⟩
  | 91 => ⟨S2x4096x8x32, .f32⟩
  | 92 => ⟨S2x4096x8x16, .f32⟩
  | 93 => ⟨S2x4096x8x16, .f32⟩
  | 94 => ⟨S2x4096x8x16, .f32⟩
  | 95 => ⟨S2x4096x8x16, .f32⟩
  | 96 => ⟨S2x4096x8x16, .f32⟩
  | 97 => ⟨S2x4096x8x16, .f32⟩
  | 98 => ⟨S2x4096x8x16, .f32⟩
  | 99 => ⟨S2x4096x8x16, .f32⟩
  | 100 => ⟨S2x4096x8x16, .f32⟩
  | 101 => ⟨S2x4096x8x16, .f32⟩
  | 102 => ⟨S2x4096x8x16, .f32⟩
  | 103 => ⟨S2x4096x8x16, .f32⟩
  | 104 => ⟨S2x4096x8x16, .f32⟩
  | 105 => ⟨S2x4096x8x32, .f32⟩
  | 106 => ⟨S_, .f32⟩
  | 107 => ⟨S2x4096x8x96, .f32⟩
  | 108 => ⟨S_, .f32⟩
  | 109 => ⟨S2x4096x8x96, .f32⟩
  | 110 => ⟨S2x4096x8x96, .f32⟩
  | 111 => ⟨S2x4096x768, .f32⟩
  | 112 => ⟨S768x384, .f32⟩
  | 113 => ⟨S384x768, .f32⟩
  | 114 => ⟨S2x4096x384, .f32⟩
  | 115 => ⟨S2x4096x384, .f32⟩
  | 116 => ⟨S_, .f32⟩
  | 117 => ⟨S384, .f32⟩
  | 118 => ⟨S1x1x384, .f32⟩
  | 119 => ⟨S2x4096x384, .f32⟩
  | 120 => ⟨S2x4096x384, .f32⟩
  | 121 => ⟨S_, .f32⟩
  | 122 => ⟨S384, .f32⟩
  | 123 => ⟨S2x4096x384, .f32⟩
  | 124 => ⟨S_, .f32⟩
  | 125 => ⟨S2x4096, .f32⟩
  | 126 => ⟨S2x4096x1, .f32⟩
  | 127 => ⟨S2x4096x384, .f32⟩
  | _ => ⟨S2x4096x1024, .f32⟩

abbrev hbmTy0_2 (i : Nat) : BufTy := match i % 128 with
  | 0 => ⟨S2x4096x384, .f32⟩
  | 1 => ⟨S2x4096x1, .f32⟩
  | 2 => ⟨S_, .f32⟩
  | 3 => ⟨S2x4096x1, .f32⟩
  | 4 => ⟨S2x4096x1, .f32⟩
  | 5 => ⟨S_, .f32⟩
  | 6 => ⟨S2x4096, .f32⟩
  | 7 => ⟨S2x4096x384, .f32⟩
  | 8 => ⟨S2x4096x384, .f32⟩
  | 9 => ⟨S2x4096x384, .f32⟩
  | 10 => ⟨S2x4096x384, .f32⟩
  | 11 => ⟨S2x4096x384, .f32⟩
  | 12 => ⟨S_, .f32⟩
  | 13 => ⟨S2x4096x896, .f32⟩
  | 14 => ⟨S_, .f32⟩
  | 15 => ⟨S2x4096x896, .f32⟩
  | 16 => ⟨S2x4096x896, .f32⟩
  | 17 => ⟨S896x1024, .f32⟩
  | 18 => ⟨S1024x896, .f32⟩
  | 19 => ⟨S2x4096x1024, .f32⟩
  | 20 => ⟨S2x4096x1024, .f32⟩
  | 21 => ⟨S_, .f32⟩
  | 22 => ⟨S1024, .f32⟩
  | 23 => ⟨S1x1x1024, .f32⟩
  | 24 => ⟨S2x4096x1024, .f32⟩
  | 25 => ⟨S2x4096x1024, .f32⟩
  | 26 => ⟨S_, .f32⟩
  | 27 => ⟨S1024, .f32⟩
  | 28 => ⟨S2x4096x1024, .f32⟩
  | 29 => ⟨S_, .f32⟩
  | 30 => ⟨S2x4096, .f32⟩
  | 31 => ⟨S2x4096x1, .f32⟩
  | 32 => ⟨S2x4096x1024, .f32⟩
  | 33 => ⟨S2x4096x1024, .f32⟩
  | 34 => ⟨S2x4096x1, .f32⟩
  | 35 => ⟨S_, .f32⟩
  | 36 => ⟨S2x4096x1, .f32⟩
  | 37 => ⟨S2x4096x1, .f32⟩
  | 38 => ⟨S_, .f32⟩
  | 39 => ⟨S2x4096, .f32⟩
  | 40 => ⟨S2x4096x1024, .f32⟩
  | 41 => ⟨S2x4096x1024, .f32⟩
  | 42 => ⟨S2x4096x1024, .f32⟩
  | 43 => ⟨S2x4096x1024, .f32⟩
  | 44 => ⟨S2x4096x1024, .f32⟩
  | 45 => ⟨S1024x256, .f32⟩
  | 46 => ⟨S_, .f32⟩
  | 47 => ⟨S1024x64, .f32⟩
  | 48 => ⟨S1024x32, .f32⟩
  | 49 => ⟨S_, .f32⟩
  | 50 => ⟨S1024x32, .f32⟩
  | 51 => ⟨S1024x384, .f32⟩
  | 52 => ⟨S2x4096x1024, .f32⟩
  | 53 => ⟨S2x4096x1024, .f32⟩
  | 54 => ⟨S8192x1024, .f32⟩
  | 55 => ⟨S384x8x96, .f32⟩
  | 56 => ⟨S_, .i32⟩
  | 57 => ⟨S_, .f32⟩
  | 58 => ⟨S384x8x128, .f32⟩
  | 59 => ⟨S8x384x128, .f32⟩
  | 60 => ⟨S256x8x128, .f32⟩
  | 61 => ⟨S_, .i32⟩
  | 62 => ⟨S_, .f32⟩
  | 63 => ⟨S256x8x128, .f32⟩
  | 64 => ⟨S8x256x128, .f32⟩
  | 65 => ⟨S1x384, .f32⟩
  | 66 => ⟨S1x1024, .f32⟩
  | 67 => ⟨S1x256, .f32⟩
  | 68 => ⟨S1x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_v76 : Ref sig .tc := ⟨.hbm, 108, rfl⟩
abbrev main_cst_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_19 : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_21 : Ref sig .tc := ⟨.hbm, 148, rfl⟩
abbrev main_v108 : Ref sig .tc := ⟨.hbm, 149, rfl⟩
abbrev main_v109 : Ref sig .tc := ⟨.hbm, 150, rfl⟩
abbrev main_cst_22 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_23 : Ref sig .tc := ⟨.hbm, 159, rfl⟩
abbrev main_v117 : Ref sig .tc := ⟨.hbm, 160, rfl⟩
abbrev main_v118 : Ref sig .tc := ⟨.hbm, 161, rfl⟩
abbrev main_cst_24 : Ref sig .tc := ⟨.hbm, 162, rfl⟩
abbrev main_v119 : Ref sig .tc := ⟨.hbm, 163, rfl⟩
abbrev main_v120 : Ref sig .tc := ⟨.hbm, 164, rfl⟩
abbrev main_cst_25 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_26 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_27 : Ref sig .tc := ⟨.hbm, 182, rfl⟩
abbrev main_v136 : Ref sig .tc := ⟨.hbm, 183, rfl⟩
abbrev main_v137 : Ref sig .tc := ⟨.hbm, 184, rfl⟩
abbrev main_cst_28 : Ref sig .tc := ⟨.hbm, 185, rfl⟩
abbrev main_v138 : Ref sig .tc := ⟨.hbm, 186, rfl⟩
abbrev main_v139 : Ref sig .tc := ⟨.hbm, 187, rfl⟩
abbrev main_cst_29 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_30 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_31 : Ref sig .tc := ⟨.hbm, 234, rfl⟩
abbrev main_v184 : Ref sig .tc := ⟨.hbm, 235, rfl⟩
abbrev main_cst_32 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_cst_33 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_cst_34 : Ref sig .tc := ⟨.hbm, 249, rfl⟩
abbrev main_v196 : Ref sig .tc := ⟨.hbm, 250, rfl⟩
abbrev main_v197 : Ref sig .tc := ⟨.hbm, 251, rfl⟩
abbrev main_cst_35 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_cst_36 : Ref sig .tc := ⟨.hbm, 258, rfl⟩
abbrev main_v203 : Ref sig .tc := ⟨.hbm, 259, rfl⟩
abbrev main_v204 : Ref sig .tc := ⟨.hbm, 260, rfl⟩
abbrev main_cst_37 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_38 : Ref sig .tc := ⟨.hbm, 268, rfl⟩
abbrev main_v211 : Ref sig .tc := ⟨.hbm, 269, rfl⟩
abbrev main_cst_39 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_cst_40 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_cst_41 : Ref sig .tc := ⟨.hbm, 282, rfl⟩
abbrev main_v222 : Ref sig .tc := ⟨.hbm, 283, rfl⟩
abbrev main_v223 : Ref sig .tc := ⟨.hbm, 284, rfl⟩
abbrev main_cst_42 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_cst_43 : Ref sig .tc := ⟨.hbm, 291, rfl⟩
abbrev main_v229 : Ref sig .tc := ⟨.hbm, 292, rfl⟩
abbrev main_v230 : Ref sig .tc := ⟨.hbm, 293, rfl⟩
abbrev main_cst_44 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_cst_45 : Ref sig .tc := ⟨.hbm, 302, rfl⟩
abbrev main_v238 : Ref sig .tc := ⟨.hbm, 303, rfl⟩
abbrev main_v239 : Ref sig .tc := ⟨.hbm, 304, rfl⟩
abbrev main_cst_46 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_c : Ref sig .tc := ⟨.hbm, 312, rfl⟩
abbrev main_call0_v0 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_c_47 : Ref sig .tc := ⟨.hbm, 317, rfl⟩
abbrev main_call1_v0 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩

abbrev nD : Nat := 1
abbrev τ : Topo := Topo.v7x

variable {F : FTy → Type} [FloatOps F]
-- ==== Proof.Reals.lean ====
/- Facts about real numbers inside the extended reals: sums, quotients, the reciprocal square root and the literals of the programs,
   read at real arguments. Every value proof of this directory uses them. -/
module

public import Idealize.ShloMosaic.Lib.Pointwise
public import Idealize.ShloMosaic.Lib.IdealHost

@[expose] public section

noncomputable section

open Idealize.ShloMosaic

namespace Cert.Reals

/-- A finite sum of real numbers is the same number in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_mul' (a b : ℝ) : (a : EReal) * (b : EReal) = ((a * b : ℝ) : EReal) := (EReal.coe_mul a b).symm
theorem coe_add' (a b : ℝ) : (a : EReal) + (b : EReal) = ((a + b : ℝ) : EReal) := (EReal.coe_add a b).symm
theorem coe_sub' (a b : ℝ) : (a : EReal) - (b : EReal) = ((a - b : ℝ) : EReal) := (EReal.coe_sub a b).symm
theorem coe_neg' (a : ℝ) : -(a : EReal) = ((-a : ℝ) : EReal) := (EReal.coe_neg a).symm
theorem coe_zero' : (0 : EReal) = ((0 : ℝ) : EReal) := rfl
theorem coe_one' : (1 : EReal) = ((1 : ℝ) : EReal) := rfl

/-- The quotient of two real numbers, the second not zero. -/
theorem div_coe_coe (a b : ℝ) (h : b ≠ 0) : Ideal.div (a : EReal) (b : EReal) = ((a / b : ℝ) : EReal) := by
  rw [Ideal.div_coe h, ← EReal.coe_mul, mul_one_div]

/-- The reciprocal square root of a positive real number. -/
theorem rsqrt_pos (a : ℝ) (h : 0 < a) : Ideal.rsqrt (a : EReal) = (((Real.sqrt a)⁻¹ : ℝ) : EReal) := by
  rw [Ideal.rsqrt_coe, if_neg (not_lt.mpr h.le), if_neg h.ne']

/-- The small constant of the norms, as the rational its literal denotes. -/
def eps : ℝ := (8388608 + 407485 : ℕ) * (2 : ℝ) ^ (-43 : Int)

theorem eps_pos : 0 < eps := by unfold eps; positivity

theorem lit_eps : Ideal.ofBits .f32 0x358637BD#32 = (eps : EReal) := by
  simp [Ideal.ofBits, Ideal.ieee, eps, -EReal.coe_mul]
theorem lit_1024 : Ideal.ofBits .f32 0x44800000#32 = ((1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num

end Cert.Reals
end
-- ==== Proof.TailMath.lean ====
/- The head of the network over the real numbers, row by row: gated attention output, projection, residual, norm, loss and their
   gradients. One row is a token: `o g : Fin 512 → ℝ` (attention output and gate), `x t : Fin 1024 → ℝ` (stream and target). -/
module

public import proofs.«01_k».proof.Proof.Reals

@[expose] public section

noncomputable section

namespace Cert.TailMath

/-- The logistic function. -/
def sig (x : ℝ) : ℝ := (1 + Real.exp (-x))⁻¹

variable (o g : Fin 512 → ℝ) (x t : Fin 1024 → ℝ) (w : Fin 512 → Fin 1024 → ℝ) (fn : Fin 1024 → ℝ)

/-- The gated attention output. -/
def gat (k : Fin 512) : ℝ := o k * (g k * sig (g k))
/-- The stream after the layer. -/
def x2 (j : Fin 1024) : ℝ := x j + ∑ k, gat o g k * w k j
/-- The mean square of the stream plus the norm's constant. -/
def ms : ℝ := (∑ j, x2 o g x w j * x2 o g x w j) / 1024 + Reals.eps
/-- The reciprocal root mean square. -/
def rr : ℝ := (Real.sqrt (ms o g x w))⁻¹
/-- The normalised stream. -/
def xh (j : Fin 1024) : ℝ := x2 o g x w j * rr o g x w
/-- Output minus target. -/
def err (j : Fin 1024) : ℝ := xh o g x w j * fn j - t j
/-- The token's mean square error. -/
def sq : ℝ := (∑ j, err o g x t w fn j * err o g x t w fn j) / 1024
/-- The gradient of the output. -/
def dy (j : Fin 1024) : ℝ := err o g x t w fn j / 1024
/-- The gradient of the stream. -/
def dx (j : Fin 1024) : ℝ :=
  rr o g x w * (dy o g x t w fn j * fn j
    - xh o g x w j * ((∑ l, dy o g x t w fn l * fn l * xh o g x w l) / 1024))
/-- The gradient of the gated attention output. -/
def dgat (k : Fin 512) : ℝ := ∑ j, dx o g x t w fn j * w k j
/-- The gradient of the attention output. -/
def dov (k : Fin 512) : ℝ := dgat o g x t w fn k * (g k * sig (g k))
/-- The gradient of the gate. -/
def dgate (k : Fin 512) : ℝ := dgat o g x t w fn k * o k * (sig (g k) * (1 + g k * (1 - sig (g k))))

theorem ms_pos : 0 < ms o g x w :=
  add_pos_of_nonneg_of_pos (div_nonneg (Finset.sum_nonneg fun _ _ => mul_self_nonneg _) (by norm_num)) Reals.eps_pos

theorem exp_pos' (a : ℝ) : 1 + Real.exp a ≠ 0 := (add_pos one_pos (Real.exp_pos a)).ne'

end Cert.TailMath
end
-- ==== Proof.TailPay.lean ====
/- What the kernel's body computes on one tile of 1024 tokens, element by element, at real inputs. -/
module

public import proofs.«01_k».proof.Proof.TailMath
public import proofs.«01_k».proof.Proof.Gen.TailIdeal.Skeleton

@[expose] public section

set_option maxRecDepth 16384

noncomputable section

open Idealize.ShloMosaic Idealize.ShloMosaic.TcCoe Idealize.SL.Sem

namespace Cert.TailPay

open Cert.TailIdeal Cert.TailIdeal.Gen Cert.TailMath Cert.Reals

/-- The six blocks of a tile hold real numbers: attention output, gate, stream, projection weight, norm weight, target. -/
structure Tile (v5 v7 : Vec Ideal S1024x512 .f32) (v19 : Vec Ideal S1024x1024 .f32) (v21 : Vec Ideal S512x1024 .bf16)
    (v35 : Vec Ideal S1x1024 .f32) (v39 : Vec Ideal S1024x1024 .f32) (o g : Fin 1024 → Fin 512 → ℝ) (x t : Fin 1024 → Fin 1024 → ℝ)
    (w : Fin 512 → Fin 1024 → ℝ) (fn : Fin 1024 → ℝ) : Prop where
  h5 : ∀ r k, v5 (ix2 r k) = (o r k : EReal)
  h7 : ∀ r k, v7 (ix2 r k) = (g r k : EReal)
  h19 : ∀ r j, v19 (ix2 r j) = (x r j : EReal)
  h21 : ∀ k j, v21 (ix2 k j) = (w k j : EReal)
  h35 : ∀ z j, v35 (ix2 z j) = (fn j : EReal)
  h39 : ∀ r j, v39 (ix2 r j) = (t r j : EReal)

variable {o g : Fin 1024 → Fin 512 → ℝ} {x t : Fin 1024 → Fin 1024 → ℝ} {w : Fin 512 → Fin 1024 → ℝ} {fn : Fin 1024 → ℝ}
variable {v5 v7 : Vec Ideal S1024x512 .f32} {v19 v39 : Vec Ideal S1024x1024 .f32} {v21 : Vec Ideal S512x1024 .bf16} {v35 : Vec Ideal S1x1024 .f32}
variable (H : Tile v5 v7 v19 v21 v35 v39 o g x t w fn)

include H

theorem o_at (r : Fin 1024) (k : Fin 512) : k0_pay5 v5 (ix2 r k) = (o r k : EReal) := by
  unfold k0_pay5; pointwise [H.h5]

theorem silu_at (r : Fin 1024) (k : Fin 512) : k0_pay8 v7 (ix2 r k) = ((g r k * sig (g r k) : ℝ) : EReal) := by
  unfold_payloads; pointwise [H.h7, Ideal.logistic_coe, coe_mul']; rfl

theorem dsilu_at (r : Fin 1024) (k : Fin 512) :
    k0_pay9 v7 (ix2 r k) = ((sig (g r k) * (1 + g r k * (1 - sig (g r k))) : ℝ) : EReal) := by
  unfold_payloads; pointwise [H.h7, Ideal.logistic_coe, lit_one, coe_one', coe_mul', coe_sub', coe_add']; rfl

theorem gat_at (r : Fin 1024) (k : Fin 512) : k0_pay10 v5 v7 (ix2 r k) = (gat (o r) (g r) k : EReal) := by
  unfold k0_pay10; pointwise [o_at H, silu_at H, coe_mul']; rfl

theorem x2_at (r : Fin 1024) (j : Fin 1024) : k0_pay11 v5 v7 v19 v21 (ix2 r j) = (x2 (o r) (g r) (x r) w j : EReal) := by
  unfold k0_pay11; pointwise [gat_at H, H.h19, H.h21, coe_mul', coe_sum, coe_add']; rfl

theorem rr_at (r : Fin 1024) (z : Fin 1) : k0_pay12 v5 v7 v19 v21 (ix2 r z) = (rr (o r) (g r) (x r) w : EReal) := by
  unfold k0_pay12
  pointwise [x2_at H, coe_mul', coe_sum, lit_1024, lit_eps]
  rw [div_coe_coe _ _ (by norm_num), coe_add']
  exact rsqrt_pos _ (ms_pos (o r) (g r) (x r) w)

theorem xh_at (r : Fin 1024) (j : Fin 1024) : k0_pay13 v5 v7 v19 v21 (ix2 r j) = (xh (o r) (g r) (x r) w j : EReal) := by
  unfold k0_pay13; pointwise [x2_at H, rr_at H, coe_mul']; rfl

theorem fn_at (r : Fin 1024) (j : Fin 1024) : k0_pay14 v35 (ix2 r j) = (fn j : EReal) := by
  unfold k0_pay14; pointwise [H.h35]

theorem err_at (r : Fin 1024) (j : Fin 1024) :
    k0_pay15 (k0_pay13 v5 v7 v19 v21) (k0_pay14 v35) v39 (ix2 r j) = (err (o r) (g r) (x r) (t r) w fn j : EReal) := by
  unfold k0_pay15; pointwise [xh_at H, fn_at H, H.h39, coe_mul', coe_sub']; rfl

theorem loss_at (v42 : Vec Ideal S1x1 .f32) (a : ℝ) (h42 : ∀ y z, v42 (ix2 y z) = (a : EReal)) (y z : Fin 1) :
    k0_pay16 (k0_pay13 v5 v7 v19 v21) (k0_pay14 v35) v39 v42 (ix2 y z)
      = ((a + 1 / 2 * ∑ r, sq (o r) (g r) (x r) (t r) w fn : ℝ) : EReal) := by
  unfold k0_pay16
  pointwise [err_at H, h42, lit_half, lit_1024, coe_mul', coe_sum, div_coe_coe _ _ (show (1024 : ℝ) ≠ 0 by norm_num), coe_add']
  rfl

theorem dy_at (r : Fin 1024) (j : Fin 1024) :
    k0_pay17 (k0_pay13 v5 v7 v19 v21) (k0_pay14 v35) v39 (ix2 r j) = (dy (o r) (g r) (x r) (t r) w fn j : EReal) := by
  unfold k0_pay17; pointwise [err_at H, lit_1024, div_coe_coe _ _ (show (1024 : ℝ) ≠ 0 by norm_num)]; rfl

theorem dfn_at (v57 : Vec Ideal S1x1024 .f32) (a : Fin 1024 → ℝ) (h57 : ∀ z j, v57 (ix2 z j) = (a j : EReal)) (z : Fin 1) (j : Fin 1024) :
    k0_pay18 (k0_pay13 v5 v7 v19 v21) (k0_pay14 v35) v39 v57 (ix2 z j)
      = ((a j + ∑ r, dy (o r) (g r) (x r) (t r) w fn j * xh (o r) (g r) (x r) w j : ℝ) : EReal) := by
  unfold k0_pay18; pointwise [dy_at H, xh_at H, h57, coe_mul', coe_sum, coe_add']

theorem gx_at (r : Fin 1024) (j : Fin 1024) :
    k0_pay19 (k0_pay13 v5 v7 v19 v21) (k0_pay14 v35) v39 v35 (ix2 r j)
      = ((dy (o r) (g r) (x r) (t r) w fn j * fn j
          - xh (o r) (g r) (x r) w j
            * ((∑ l, dy (o r) (g r) (x r) (t r) w fn l * fn l * xh (o r) (g r) (x r) w l) / 1024) : ℝ) : EReal) := by
  unfold k0_pay19
  pointwise [dy_at H, xh_at H, H.h35, lit_1024, coe_mul', coe_sum, div_coe_coe _ _ (show (1024 : ℝ) ≠ 0 by norm_num), coe_sub']

/-- The tile's gradient of the stream, before the weight's row mean is taken off and after: what the later payloads read. -/
theorem dx_at (r : Fin 1024) (j : Fin 1024) :
    k0_pay20 (k0_pay12 v5 v7 v19 v21) (k0_pay19 (k0_pay13 v5 v7 v19 v21) (k0_pay14 v35) v39 v35) (ix2 r j)
      = (dx (o r) (g r) (x r) (t r) w fn j : EReal) := by
  unfold k0_pay20; pointwise [rr_at H, gx_at H, coe_mul']; rfl

theorem dxb_at (r : Fin 1024) (j : Fin 1024) :
    k0_pay21 (k0_pay12 v5 v7 v19 v21) (k0_pay19 (k0_pay13 v5 v7 v19 v21) (k0_pay14 v35) v39 v35) (ix2 r j)
      = (dx (o r) (g r) (x r) (t r) w fn j : EReal) := by
  unfold k0_pay21; pointwise [dx_at H]

theorem dw_at (k : Fin 512) (j : Fin 1024) :
    k0_pay22 (k0_pay10 v5 v7) (k0_pay12 v5 v7 v19 v21) (k0_pay19 (k0_pay13 v5 v7 v19 v21) (k0_pay14 v35) v39 v35) (ix2 k j)
      = ((∑ r, gat (o r) (g r) k * dx (o r) (g r) (x r) (t r) w fn j : ℝ) : EReal) := by
  unfold k0_pay22; pointwise [gat_at H, dxb_at H, coe_mul', coe_sum]

theorem dgat_at (r : Fin 1024) (k : Fin 512) :
    k0_pay32 (k0_pay21 (k0_pay12 v5 v7 v19 v21) (k0_pay19 (k0_pay13 v5 v7 v19 v21) (k0_pay14 v35) v39 v35)) v21 (ix2 r k)
      = (dgat (o r) (g r) (x r) (t r) w fn k : EReal) := by
  unfold k0_pay32; pointwise [H.h21, dxb_at H, coe_mul', coe_sum]; rfl

theorem do_at (r : Fin 1024) (k : Fin 512) :
    k0_pay33 (k0_pay8 v7) (k0_pay21 (k0_pay12 v5 v7 v19 v21) (k0_pay19 (k0_pay13 v5 v7 v19 v21) (k0_pay14 v35) v39 v35)) v21 (ix2 r k)
      = (dov (o r) (g r) (x r) (t r) w fn k : EReal) := by
  unfold k0_pay33; pointwise [dgat_at H, silu_at H, coe_mul']; rfl

theorem dgate_at (r : Fin 1024) (k : Fin 512) :
    k0_pay34 (k0_pay5 v5) (k0_pay9 v7)
      (k0_pay21 (k0_pay12 v5 v7 v19 v21) (k0_pay19 (k0_pay13 v5 v7 v19 v21) (k0_pay14 v35) v39 v35)) v21 (ix2 r k)
      = (dgate (o r) (g r) (x r) (t r) w fn k : EReal) := by
  unfold k0_pay34; pointwise [dgat_at H, o_at H, dsilu_at H, coe_mul']; rfl

theorem delta_at (v145 : Vec Ideal S8x512 .f32) (s : Fin 8 → Fin 512 → ℝ) (h : ∀ a k, v145 (ix2 a k) = (s a k : EReal)) (a : Fin 8) (r : Fin 1024) :
    k0_pay35 (k0_pay5 v5) (k0_pay8 v7)
      (k0_pay21 (k0_pay12 v5 v7 v19 v21) (k0_pay19 (k0_pay13 v5 v7 v19 v21) (k0_pay14 v35) v39 v35)) v21 v145 (ix2 a r)
      = ((∑ k, s a k * (dov (o r) (g r) (x r) (t r) w fn k * o r k) : ℝ) : EReal) := by
  unfold k0_pay35; pointwise [do_at H, o_at H, h, coe_mul', coe_sum]

end Cert.TailPay
end
-- ==== Proof.TailPieces.lean ====
/- The outputs of the tile that the body stores in eight pieces: the padded heads of the gradient of the attention output, the row sums,
   and the weight gradient in slabs of 128 columns. -/
module

public import proofs.«01_k».proof.Proof.TailPay
public import Idealize.ShloMosaic.Lib.Pipeline.ReadBack

@[expose] public section

set_option maxRecDepth 16384

noncomputable section

open Idealize.ShloMosaic Idealize.ShloMosaic.TcCoe Idealize.SL.Sem

namespace Cert.TailPieces

open Cert.TailIdeal Cert.TailIdeal.Gen Cert.TailMath Cert.Reals

/-- A row of 512 numbers, its 8 heads of 64 each padded with zeros to 128. -/
def padAt (d : Fin 512 → ℝ) (c : Fin 1024) : ℝ :=
  if c.val % 128 < 64 then d ⟨(64 * (c.val / 128) + c.val % 128) % 512, Nat.mod_lt _ (by norm_num)⟩ else 0

/-- The lower half of a block of 128 lanes, as the body's mask tests it. -/
theorem lane_lt (l : Fin 128) : IntOp.cmpi CmpIPredicate.slt (BitVec.ofNat 32 l.val) 64#32 = if l.val < 64 then 1#1 else 0#1 := by
  revert l; decide

theorem lane (l : Fin 128) (a b : EReal) :
    Scalar.select (IntOp.cmpi CmpIPredicate.slt (BitVec.ofNat 32 l.val) 64#32) a b = if l.val < 64 then a else b := by
  rw [lane_lt]; split <;> rfl

/-- A masked lane of block `h` of 128 is the padded row's entry. -/
theorem lane_pad (d : Fin 512 → ℝ) (h : ℕ) (l : Fin 128) (c : Fin 512) (y : Fin 1024) (hc : l.val < 64 → c.val = 64 * h + l.val)
    (hy : y.val = 128 * h + l.val) :
    Scalar.select (IntOp.cmpi CmpIPredicate.slt (BitVec.ofNat 32 l.val) 64#32) (d c : EReal) 0 = (padAt d y : EReal) := by
  have hl := l.isLt
  have hyl := y.isLt
  rw [lane]
  unfold padAt
  have e : y.val % 128 = l.val := by omega
  have e' : y.val / 128 = h := by omega
  simp only [e, e']
  split_ifs with h1
  · congr 2
    apply Fin.ext
    rw [hc h1]
    show _ = (64 * h + l.val) % 512
    omega
  · rfl

/-- The padded heads as a tile of 1024 × 1024. -/
def heads (d : Fin 1024 → Fin 512 → ℝ) (y : S1024x1024.Idx) : EReal := (padAt (d (y 0)) (y 1) : EReal)

/-- Row sums, the same for each of 8 sublanes. -/
def sums (e : Fin 8 → Fin 1024 → ℝ) (y : S1x8x8x1024.Idx) : EReal := (e (y 1) (y 3) : EReal)

/-- The weight gradient in slabs of 128 columns, added to what was there. -/
def slabs (P : S8x512x128.Idx → EReal) (q : Fin 512 → Fin 1024 → ℝ) (y : S8x512x128.Idx) : EReal :=
  P y + (q (y 1) ⟨128 * (y 0).val + (y 2).val, by have := (y 0).isLt; have := (y 2).isLt; simp at *; omega⟩ : EReal)

section heads

variable (v10 : FVec Ideal S1024x512 .f32) (v79 : FVec Ideal S1024x1024 .bf16) (v137 : Vec Ideal S512x1024 .bf16) (d : Fin 1024 → Fin 512 → ℝ)
  (hd : ∀ r k, k0_pay33 v10 v79 v137 (ix2 r k) = (d r k : EReal))

include hd

theorem heads_pieces : View.PiecesOf (Val := Elt Ideal) (e := .bf16) (heads d)
    [⟨Rect.unit ![0, 896] ![1024, 128] inb_S1024x1024_S1024x128_0_896, k0_pay57 (k0_pay33 v10 v79 v137) k0_pay36⟩,
     ⟨Rect.unit ![0, 768] ![1024, 128] inb_S1024x1024_S1024x128_0_768, k0_pay55 (k0_pay33 v10 v79 v137) k0_pay36⟩,
     ⟨Rect.unit ![0, 640] ![1024, 128] inb_S1024x1024_S1024x128_0_640, k0_pay52 k0_pay36 (k0_pay48 (k0_pay33 v10 v79 v137))⟩,
     ⟨Rect.unit ![0, 512] ![1024, 128] inb_S1024x1024_S1024x128_0_512, k0_pay49 (k0_pay33 v10 v79 v137) k0_pay36⟩,
     ⟨Rect.unit ![0, 384] ![1024, 128] inb_S1024x1024_S1024x128_0_384, k0_pay46 (k0_pay33 v10 v79 v137) k0_pay36⟩,
     ⟨Rect.unit ![0, 256] ![1024, 128] inb_S1024x1024_S1024x128_0_256, k0_pay44 (k0_pay33 v10 v79 v137) k0_pay36⟩,
     ⟨Rect.unit ![0, 128] ![1024, 128] inb_S1024x1024_S1024x128_0_128, k0_pay40 v10 v79 v137⟩,
     ⟨Rect.unit ![0, 0] ![1024, 128] inb_S1024x1024_S1024x128_0_0, k0_pay38 v10 v79 v137⟩] := by
  have key : ∀ (o : ℕ) (inb) (ho : 128 ∣ o) (r : Fin 1024) (l : Fin 128) (c : Fin 512) (hc : l.val < 64 → c.val = o / 2 + l.val),
      Scalar.select (IntOp.cmpi CmpIPredicate.slt (BitVec.ofNat 32 l.val) 64#32) (d r c : EReal) 0
        = heads d ((Rect.unit (s := S1024x1024) ![0, o] ![1024, 128] inb).emb (ix2 r l)) := by
    intro o inb ho r l c hc
    have e0 : ((Rect.unit (s := S1024x1024) ![0, o] ![1024, 128] inb).emb (ix2 r l)) 0 = r := by
      apply Fin.ext
      rw [Rect.emb_apply]
      show 0 + 1 * r.val = r.val
      omega
    unfold heads
    rw [e0]
    refine lane_pad _ (o / 128) l c _ (fun h => (hc h).trans (by omega)) ?_
    rw [Rect.emb_apply]
    show o + 1 * l.val = _
    omega
  refine ⟨fun x => ?_, fun x => ?_, fun x => ?_, fun x => ?_, fun x => ?_, fun x => ?_, fun x => ?_, fun x => ?_, trivial⟩ <;>
  · obtain ⟨r, l, rfl⟩ : ∃ (r : Fin 1024) (l : Fin 128), x = ix2 r l := ⟨x 0, x 1, by idx_ext⟩
    dsimp only
    generalize hR : heads d _ = R
    simp only [k0_pay57, k0_pay55, k0_pay52, k0_pay49, k0_pay46, k0_pay44, k0_pay40, k0_pay38, k0_pay54, k0_pay48, k0_pay43, k0_pay37, k0_pay36]
    pointwise [hd]
    subst hR
    exact key _ _ (by decide) r l _ (fun h => by have := l.isLt; first | rfl | omega | (dsimp only; omega))

end heads

section sums

variable (v6 v10 : FVec Ideal S1024x512 .f32) (v79 : FVec Ideal S1024x1024 .bf16) (v137 : Vec Ideal S512x1024 .bf16) (v145 : Vec Ideal S8x512 .f32)
  (e : Fin 8 → Fin 1024 → ℝ) (he : ∀ a r, k0_pay35 v6 v10 v79 v137 v145 (ix2 a r) = (e a r : EReal))

include he

theorem sums_pieces : View.PiecesOf (Val := Elt Ideal) (e := .f32) (sums e)
    [⟨Rect.unit ![0, 7, 0, 0] ![1, 1, 8, 1024] inb_S1x8x8x1024_S1x1x8x1024_0_7_0_0, k0_pay1 (k0_pay58 (k0_pay35 v6 v10 v79 v137 v145))⟩,
     ⟨Rect.unit ![0, 6, 0, 0] ![1, 1, 8, 1024] inb_S1x8x8x1024_S1x1x8x1024_0_6_0_0, k0_pay56 (k0_pay35 v6 v10 v79 v137 v145)⟩,
     ⟨Rect.unit ![0, 5, 0, 0] ![1, 1, 8, 1024] inb_S1x8x8x1024_S1x1x8x1024_0_5_0_0, k0_pay53 (k0_pay35 v6 v10 v79 v137 v145)⟩,
     ⟨Rect.unit ![0, 4, 0, 0] ![1, 1, 8, 1024] inb_S1x8x8x1024_S1x1x8x1024_0_4_0_0, k0_pay51 (k0_pay50 (k0_pay35 v6 v10 v79 v137 v145))⟩,
     ⟨Rect.unit ![0, 3, 0, 0] ![1, 1, 8, 1024] inb_S1x8x8x1024_S1x1x8x1024_0_3_0_0, k0_pay47 (k0_pay35 v6 v10 v79 v137 v145)⟩,
     ⟨Rect.unit ![0, 2, 0, 0] ![1, 1, 8, 1024] inb_S1x8x8x1024_S1x1x8x1024_0_2_0_0, k0_pay45 (k0_pay35 v6 v10 v79 v137 v145)⟩,
     ⟨Rect.unit ![0, 1, 0, 0] ![1, 1, 8, 1024] inb_S1x8x8x1024_S1x1x8x1024_0_1_0_0, k0_pay42 (k0_pay41 v6 v10 v79 v137 v145)⟩,
     ⟨Rect.unit ![0, 0, 0, 0] ![1, 1, 8, 1024] inb_S1x8x8x1024_S1x1x8x1024_0_0_0_0, k0_pay39 v6 v10 v79 v137 v145⟩] := by
  have key : ∀ (h : ℕ) (inb) (y z : Fin 1) (s : Fin 8) (r : Fin 1024) (a : Fin 8) (ha : a.val = h),
      (e a r : EReal) = sums e ((Rect.unit (s := S1x8x8x1024) ![0, h, 0, 0] ![1, 1, 8, 1024] inb).emb (ix4 y z s r)) := by
    intro h inb y z s r a ha
    unfold sums
    have e1 : ((Rect.unit (s := S1x8x8x1024) ![0, h, 0, 0] ![1, 1, 8, 1024] inb).emb (ix4 y z s r)) 1 = a := by
      apply Fin.ext
      rw [Rect.emb_apply]
      show h + 1 * z.val = a.val
      omega
    have e3 : ((Rect.unit (s := S1x8x8x1024) ![0, h, 0, 0] ![1, 1, 8, 1024] inb).emb (ix4 y z s r)) 3 = r := by
      apply Fin.ext
      rw [Rect.emb_apply]
      show 0 + 1 * r.val = r.val
      omega
    rw [e1, e3]
  refine ⟨fun x => ?_, fun x => ?_, fun x => ?_, fun x => ?_, fun x => ?_, fun x => ?_, fun x => ?_, fun x => ?_, trivial⟩ <;>
  · obtain ⟨y, z, s, r, rfl⟩ : ∃ (y z : Fin 1) (s : Fin 8) (r : Fin 1024), x = ix4 y z s r := ⟨x 0, x 1, x 2, x 3, by idx_ext⟩
    dsimp only
    generalize hR : sums e _ = R
    simp only [k0_pay1, k0_pay58, k0_pay56, k0_pay53, k0_pay51, k0_pay50, k0_pay47, k0_pay45, k0_pay42, k0_pay41, k0_pay39]
    pointwise [he]
    subst hR
    exact key _ _ y z s r _ rfl

end sums

section slabs

variable (v18 : FVec Ideal S1024x512 .bf16) (v32 : FVec Ideal S1024x1 .f32) (v75 : FVec Ideal S1024x1024 .f32) (q : Fin 512 → Fin 1024 → ℝ)
  (hq : ∀ k j, k0_pay22 v18 v32 v75 (ix2 k j) = (q k j : EReal)) (P : Vec Ideal S8x512x128 .f32)

include hq

theorem slabs_pieces : View.PiecesOf (Val := Elt Ideal) (e := .f32) (slabs P q)
    [⟨Rect.unit ![7, 0, 0] ![1, 512, 128] inb_S8x512x128_S1x512x128_7_0_0,
        k0_pay31 (k0_pay22 v18 v32 v75) (View.ld (e' := .f32) P (Rect.unit ![7, 0, 0] ![1, 512, 128] inb_S8x512x128_S1x512x128_7_0_0))⟩,
     ⟨Rect.unit ![6, 0, 0] ![1, 512, 128] inb_S8x512x128_S1x512x128_6_0_0,
        k0_pay30 (k0_pay22 v18 v32 v75) (View.ld (e' := .f32) P (Rect.unit ![6, 0, 0] ![1, 512, 128] inb_S8x512x128_S1x512x128_6_0_0))⟩,
     ⟨Rect.unit ![5, 0, 0] ![1, 512, 128] inb_S8x512x128_S1x512x128_5_0_0,
        k0_pay29 (k0_pay22 v18 v32 v75) (View.ld (e' := .f32) P (Rect.unit ![5, 0, 0] ![1, 512, 128] inb_S8x512x128_S1x512x128_5_0_0))⟩,
     ⟨Rect.unit ![4, 0, 0] ![1, 512, 128] inb_S8x512x128_S1x512x128_4_0_0,
        k0_pay28 (k0_pay22 v18 v32 v75) (View.ld (e' := .f32) P (Rect.unit ![4, 0, 0] ![1, 512, 128] inb_S8x512x128_S1x512x128_4_0_0))⟩,
     ⟨Rect.unit ![3, 0, 0] ![1, 512, 128] inb_S8x512x128_S1x512x128_3_0_0,
        k0_pay27 (k0_pay26 v18 v32 v75 (View.ld (e' := .f32) P (Rect.unit ![3, 0, 0] ![1, 512, 128] inb_S8x512x128_S1x512x128_3_0_0)))⟩,
     ⟨Rect.unit ![2, 0, 0] ![1, 512, 128] inb_S8x512x128_S1x512x128_2_0_0,
        k0_pay25 v18 v32 v75 (View.ld (e' := .f32) P (Rect.unit ![2, 0, 0] ![1, 512, 128] inb_S8x512x128_S1x512x128_2_0_0))⟩,
     ⟨Rect.unit ![1, 0, 0] ![1, 512, 128] inb_S8x512x128_S1x512x128_1_0_0,
        k0_pay24 v18 v32 v75 (View.ld (e' := .f32) P (Rect.unit ![1, 0, 0] ![1, 512, 128] inb_S8x512x128_S1x512x128_1_0_0))⟩,
     ⟨Rect.unit ![0, 0, 0] ![1, 512, 128] inb_S8x512x128_S1x512x128_0_0_0,
        k0_pay23 v18 v32 v75 (View.ld (e' := .f32) P (Rect.unit ![0, 0, 0] ![1, 512, 128] inb_S8x512x128_S1x512x128_0_0_0))⟩] := by
  have key : ∀ (h : ℕ) (inb) (a : Fin 8) (k : Fin 512) (l : Fin 128) (j : Fin 1024) (ha : a.val = h) (hj : j.val = 128 * h + l.val),
      P (ix3 a k l) + (q k j : EReal)
        = slabs P q ((Rect.unit (s := S8x512x128) ![h, 0, 0] ![1, 512, 128] inb).emb (ix3 0 k l)) := by
    intro h inb a k l j ha hj
    unfold slabs
    have e1 : ((Rect.unit (s := S8x512x128) ![h, 0, 0] ![1, 512, 128] inb).emb (ix3 0 k l)) 1 = k := by
      apply Fin.ext
      rw [Rect.emb_apply]
      show 0 + 1 * k.val = k.val
      omega
    have ea : (Rect.unit (s := S8x512x128) ![h, 0, 0] ![1, 512, 128] inb).emb (ix3 0 k l) = ix3 a k l := by
      idx_ext
    rw [e1, ea]
    congr 3
    apply Fin.ext
    show j.val = 128 * a.val + l.val
    omega
  refine ⟨fun x => ?_, fun x => ?_, fun x => ?_, fun x => ?_, fun x => ?_, fun x => ?_, fun x => ?_, fun x => ?_, trivial⟩ <;>
  · obtain ⟨z, k, l, rfl⟩ : ∃ (z : Fin 1) (k : Fin 512) (l : Fin 128), x = ix3 z k l := ⟨x 0, x 1, x 2, by idx_ext⟩
    dsimp only
    obtain rfl : z = 0 := Subsingleton.elim _ _
    generalize hR : slabs P q _ = R
    simp only [k0_pay31, k0_pay30, k0_pay29, k0_pay28, k0_pay27, k0_pay26, k0_pay25, k0_pay24, k0_pay23]
    pointwise [hq]
    subst hR
    exact key _ _ _ k l _ (by rfl) (by first | rfl | omega | simp)

end slabs

end Cert.TailPieces
end
-- ==== Proof.TailOut.lean ====
/- What each grid point leaves in the seven output blocks, at real input blocks: by the frame's runs, their pieces (TailPieces) and their
   payloads (TailPay). -/
module

public import proofs.«01_k».proof.Proof.TailPieces
public import proofs.«01_k».proof.Proof.Gen.TailIdeal.Value

@[expose] public section

set_option maxRecDepth 16384

noncomputable section

open Idealize.ShloMosaic Idealize.ShloMosaic.TcCoe Idealize.SL.Sem

namespace Cert.TailOut

open Cert.TailIdeal Cert.TailIdeal.Gen Cert.TailMath Cert.Reals Cert.TailPay Cert.TailPieces

variable (m : (ℓ : Loc nD τ sig) → Buf (Elt Ideal) ℓ)

theorem hz : (![0, 0] : Fin 2 → Nat) = fun _ => 0 := funext fun a => by fin_cases a <;> rfl

/-- Point `t`'s six real input blocks. -/
abbrev TileAt (c : Dev nD) (t : Fin cfg0.N) := Tile (iblk m c 0 t) (iblk m c 1 t) (iblk m c 2 t) (iblk m c 3 t) (iblk m c 4 t) (iblk m c 5 t)

variable {m} {o g : Fin 1024 → Fin 512 → ℝ} {x t' : Fin 1024 → Fin 1024 → ℝ} {w : Fin 512 → Fin 1024 → ℝ} {fn : Fin 1024 → ℝ}
variable {c : Dev nD} {t : Fin cfg0.N} (H : TileAt m c t o g x t' w fn)

include H

theorem dx_A (h0 : t.val % 8 = 0) (r j : Fin 1024) :
    (outsAt0 m c t.val t.isLt).1 (ix2 r j) = (dx (o r) (g r) (x r) (t' r) w fn j : EReal) := by
  rw [outsAt0_A m c t h0]
  dsimp only
  refine (congrFun (View.read_writes_eq_canon _ _ _ (cover0_A_7 _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact dx_at H r j

theorem dx_B (h0 : ¬t.val % 8 = 0) (r j : Fin 1024) :
    (outsAt0 m c t.val t.isLt).1 (ix2 r j) = (dx (o r) (g r) (x r) (t' r) w fn j : EReal) := by
  rw [outsAt0_B m c t h0]
  dsimp only
  refine (congrFun (View.read_writes_eq_canon _ _ _ (cover0_B_7 _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact dx_at H r j

theorem do_A (h0 : t.val % 8 = 0) :
    (outsAt0 m c t.val t.isLt).2.1 = heads fun r => dov (o r) (g r) (x r) (t' r) w fn := by
  rw [outsAt0_A m c t h0]
  dsimp only
  refine (View.read_writes_eq_canon _ _ _ (cover0_A_8 _ _ _ _ _ _ _ _ _ _ _ _ _ _ _ _ _ _ _ _ _ _ _ _ _ _ _ _ _ _ _ _ _ _ _ _ _ _)).trans ?_
  refine funext fun y => View.canon_apply_of_pieces _ _ ?_ y (cover0_A_8 _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact (heads_pieces _ _ _ _ (do_at H)).mem

theorem do_B (h0 : ¬t.val % 8 = 0) :
    (outsAt0 m c t.val t.isLt).2.1 = heads fun r => dov (o r) (g r) (x r) (t' r) w fn := by
  rw [outsAt0_B m c t h0]
  dsimp only
  refine (View.read_writes_eq_canon _ _ _ (cover0_B_8 _ _ _ _ _ _ _ _ _ _ _ _ _ _ _ _ _ _ _ _ _ _ _ _ _ _ _ _ _ _ _ _ _ _ _ _ _ _ _ _ _)).trans ?_
  refine funext fun y => View.canon_apply_of_pieces _ _ ?_ y (cover0_B_8 _ _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact (heads_pieces _ _ _ _ (do_at H)).mem

theorem dgate_A (h0 : t.val % 8 = 0) (r : Fin 1024) (k : Fin 512) :
    (outsAt0 m c t.val t.isLt).2.2.1 (ix2 r k) = (dgate (o r) (g r) (x r) (t' r) w fn k : EReal) := by
  rw [outsAt0_A m c t h0]
  dsimp only
  refine (congrFun (View.read_writes_eq_canon _ _ _ (cover0_A_9 _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact dgate_at H r k

theorem dgate_B (h0 : ¬t.val % 8 = 0) (r : Fin 1024) (k : Fin 512) :
    (outsAt0 m c t.val t.isLt).2.2.1 (ix2 r k) = (dgate (o r) (g r) (x r) (t' r) w fn k : EReal) := by
  rw [outsAt0_B m c t h0]
  dsimp only
  refine (congrFun (View.read_writes_eq_canon _ _ _ (cover0_B_9 _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact dgate_at H r k

theorem delta_A (h0 : t.val % 8 = 0) (s : Fin 8 → Fin 512 → ℝ) (hs : ∀ a k, iblk m c 6 t (ix2 a k) = (s a k : EReal)) :
    (outsAt0 m c t.val t.isLt).2.2.2.1 = sums fun a r => ∑ k, s a k * (dov (o r) (g r) (x r) (t' r) w fn k * o r k) := by
  rw [outsAt0_A m c t h0]
  dsimp only
  refine (View.read_writes_eq_canon _ _ _ (cover0_A_10 _ _ _ _ _ _ _ _ _ _ _ _ _ _ _ _ _ _ _ _ _ _ _ _ _ _ _ _ _ _ _ _ _ _ _ _ _ _)).trans ?_
  refine funext fun y => View.canon_apply_of_pieces _ _ ?_ y (cover0_A_10 _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact (sums_pieces _ _ _ _ _ _ (delta_at H _ s hs)).mem

theorem delta_B (h0 : ¬t.val % 8 = 0) (s : Fin 8 → Fin 512 → ℝ) (hs : ∀ a k, iblk m c 6 t (ix2 a k) = (s a k : EReal)) :
    (outsAt0 m c t.val t.isLt).2.2.2.1 = sums fun a r => ∑ k, s a k * (dov (o r) (g r) (x r) (t' r) w fn k * o r k) := by
  rw [outsAt0_B m c t h0]
  dsimp only
  refine (View.read_writes_eq_canon _ _ _ (cover0_B_10 _ _ _ _ _ _ _ _ _ _ _ _ _ _ _ _ _ _ _ _ _ _ _ _ _ _ _ _ _ _ _ _ _ _ _ _ _ _ _ _ _)).trans ?_
  refine funext fun y => View.canon_apply_of_pieces _ _ ?_ y (cover0_B_10 _ _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact (sums_pieces _ _ _ _ _ _ (delta_at H _ s hs)).mem

theorem dw_B (h0 : ¬t.val % 8 = 0) :
    (outsAt0 m c t.val t.isLt).2.2.2.2.1 = slabs (outsAt0 m c (t.val - 1) (by omega)).2.2.2.2.1
      fun k j => ∑ r, gat (o r) (g r) k * dx (o r) (g r) (x r) (t' r) w fn j := by
  rw [outsAt0_B m c t h0]
  dsimp only
  refine (View.read_writes_eq_canon _ _ _ (cover0_B_11 _ _ _ _ _ _ _ _ _ _ _ _ _ _ _ _ _ _ _ _ _ _ _ _ _ _ _ _ _ _ _ _ _ _ _ _ _ _ _ _ _)).trans ?_
  refine funext fun y => View.canon_apply_of_pieces _ _ ?_ y (cover0_B_11 _ _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact (slabs_pieces _ _ _ _ (dw_at H) _).mem

theorem dw_A (h0 : t.val % 8 = 0) :
    (outsAt0 m c t.val t.isLt).2.2.2.2.1 = slabs (k0_pay2 (F := Ideal))
      fun k j => ∑ r, gat (o r) (g r) k * dx (o r) (g r) (x r) (t' r) w fn j := by
  rw [outsAt0_A m c t h0]
  dsimp only
  refine (View.read_writes_eq_canon _ _ _ (cover0_A_11 _ _ _ _ _ _ _ _ _ _ _ _ _ _ _ _ _ _ _ _ _ _ _ _ _ _ _ _ _ _ _ _ _ _ _ _ _ _)).trans ?_
  unfold kernelRun0_A
  dsimp only
  sl_unfold_words
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  simp (disch := first | decide | rfl) only [↓View.readCov_skip, ↓View.readCov_fill]
  refine funext fun y => View.canon_append_of_piecesOf _ [_] [_, _, _, _, _, _, _, _] (slabs_pieces _ _ _ _ (dw_at H) _) y ?_
  exact View.cover_of_tiledL (s := S8x512x128) _ ![1, 512, 128] (by sl_kernel_rfl) y

theorem dfn_B (h0 : ¬t.val % 8 = 0) (a : Fin 1024 → ℝ)
    (ha : ∀ z j, (outsAt0 m c (t.val - 1) (by omega)).2.2.2.2.2.1 (ix2 z j) = (a j : EReal)) (z : Fin 1) (j : Fin 1024) :
    (outsAt0 m c t.val t.isLt).2.2.2.2.2.1 (ix2 z j) = ((a j + ∑ r, dy (o r) (g r) (x r) (t' r) w fn j * xh (o r) (g r) (x r) w j : ℝ) : EReal) := by
  rw [outsAt0_B m c t h0]
  dsimp only
  refine (congrFun (View.read_writes_eq_canon _ _ _ (cover0_B_12 _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact dfn_at H _ a ha z j

theorem dfn_A (h0 : t.val % 8 = 0) (z : Fin 1) (j : Fin 1024) :
    (outsAt0 m c t.val t.isLt).2.2.2.2.2.1 (ix2 z j) = ((0 + ∑ r, dy (o r) (g r) (x r) (t' r) w fn j * xh (o r) (g r) (x r) w j : ℝ) : EReal) := by
  rw [outsAt0_A m c t h0]
  dsimp only
  refine (congrFun (View.read_writes_eq_canon _ _ _ (cover0_A_12 _ _ _ _ _ _ _ _ _ _ _ _ _ _ _ _ _ _ _ _ _ _ _ _ _ _ _ _ _ _ _ _ _ _ _ _ _ _)) _).trans ?_
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact dfn_at H _ (fun _ => 0) (fun _ _ => by unfold_payloads; pointwise; rfl) z j

theorem loss_B (h0 : ¬t.val % 8 = 0) (a : ℝ)
    (ha : ∀ y z : Fin 1, (outsAt0 m c (t.val - 1) (by omega)).2.2.2.2.2.2 (ix2 y z) = (a : EReal)) (y z : Fin 1) :
    (outsAt0 m c t.val t.isLt).2.2.2.2.2.2 (ix2 y z) = ((a + 1 / 2 * ∑ r, sq (o r) (g r) (x r) (t' r) w fn : ℝ) : EReal) := by
  rw [outsAt0_B m c t h0]
  dsimp only
  refine (congrFun (View.read_writes_eq_canon _ _ _ (cover0_B_13 _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact loss_at H _ a ha y z

theorem loss_A (h0 : t.val % 8 = 0) (y z : Fin 1) :
    (outsAt0 m c t.val t.isLt).2.2.2.2.2.2 (ix2 y z) = ((0 + 1 / 2 * ∑ r, sq (o r) (g r) (x r) (t' r) w fn : ℝ) : EReal) := by
  rw [outsAt0_A m c t h0]
  dsimp only
  refine (congrFun (View.read_writes_eq_canon _ _ _ (cover0_A_13 _ _ _ _ _ _ _ _ _ _ _ _ _ _ _ _ _ _ _ _ _ _ _ _ _ _ _ _ _ _ _ _ _ _ _ _ _ _)) _).trans ?_
  unfold kernelRun0_A
  dsimp only
  sl_unfold_words
  rw [View.canon_cons_unit_zero (S := S1x1) hz, View.readCov_unit_zero (S := S1x1) _ hz]
  simp only [View.readAt_eq_ld, Memref.IsWhole.read_unread, View.ld_unit_zero (S := S1024x512) hz, View.ld_unit_zero (S := S1024x1024) hz,
    View.ld_unit_zero (S := S512x1024) hz, View.ld_unit_zero (S := S1x1024) hz, View.ld_unit_zero (S := S8x512) hz, View.ld_unit_zero (S := S1x1) hz]
  exact loss_at H _ (0) (fun _ _ => by unfold_payloads; pointwise; rfl) y z

end Cert.TailOut
end
-- ==== Proof.Sums.lean ====
/- Sums split over tiles, and the host's sum over a rank-3 array's first two axes. -/
module

public import proofs.«01_k».proof.Proof.Reals

@[expose] public section

noncomputable section

open Idealize.ShloMosaic

namespace Cert.Sums

/-- `A` consecutive blocks of `B` terms are the first `A * B` terms. -/
theorem sum_blocks (A B : ℕ) (f : ℕ → ℝ) : ∑ q ∈ Finset.range A, ∑ r ∈ Finset.range B, f (B * q + r) = ∑ n ∈ Finset.range (A * B), f n := by
  induction A with
  | zero => simp
  | succ A ih => rw [Finset.sum_range_succ, ih, Nat.succ_mul, Finset.sum_range_add, Nat.mul_comm A B]

/-- A sum over a pair of coordinates, as one sum over the row-major position. -/
theorem sum_pairs (A B N : ℕ) (hN : A * B = N) (f : Fin N → ℝ) (e : ℕ → Fin B → Fin N) (he : ∀ q r, q < A → (e q r).val = B * q + r.val) :
    ∑ q ∈ Finset.range A, ∑ r : Fin B, f (e q r) = ∑ n, f n := by
  subst hN
  have h := sum_blocks A B fun n => if h : n < A * B then f ⟨n, h⟩ else 0
  rw [Finset.sum_range (n := A * B)] at h
  rw [show ∑ n : Fin (A * B), f n = ∑ i : Fin (A * B), (if h : i.val < A * B then f ⟨i.val, h⟩ else 0) from
    Finset.sum_congr rfl fun i _ => by rw [dif_pos i.isLt], ← h]
  refine Finset.sum_congr rfl fun q hq => ?_
  rw [Finset.sum_range]
  refine Finset.sum_congr rfl fun r _ => ?_
  have hv := he q r (Finset.mem_range.mp hq)
  have hl := (e q r).isLt
  rw [dif_pos (hv ▸ hl)]
  exact congrArg f (Fin.ext hv)

/-- The sum over all columns of the terms of one head is the sum over the head's columns. -/
theorem sum_head (f : Fin 512 → ℝ) (a : Fin 8) (e : Fin 64 → Fin 512) (he : ∀ i, (e i).val = 64 * a.val + i.val) :
    ∑ k : Fin 512, (if k.val / 64 = a.val then 1 else 0) * f k = ∑ i, f (e i) := by
  simp only [ite_mul, one_mul, zero_mul]
  rw [← Finset.sum_filter]
  symm
  refine Finset.sum_bij (fun i _ => e i) (fun i _ => ?_) (fun i _ j _ h => ?_) (fun k hk => ?_) fun _ _ => rfl
  · simp only [Finset.mem_filter, Finset.mem_univ, true_and, he]; omega
  · exact Fin.ext (by have := congrArg Fin.val h; rw [he, he] at this; omega)
  · have h := (Finset.mem_filter.mp hk).2
    exact ⟨⟨k.val % 64, by omega⟩, Finset.mem_univ _, Fin.ext (by rw [he]; show 64 * a.val + k.val % 64 = k.val; omega)⟩

/-- The host's sum over the first two axes of a rank-3 array. -/
theorem hostReduceAdd_lead {n0 n1 n2 : ℕ} (h : (⟨3, ![n0, n1, n2]⟩ : Shape).ReducesTo [0, 1] ⟨1, ![n2]⟩)
    (v : (⟨3, ![n0, n1, n2]⟩ : Shape).Idx → EReal) (c : EReal) (j : Fin n2) :
    Ideal.hostReduceAdd h v c (ix1 j) = c + ∑ a : Fin n0, ∑ b : Fin n1, v (ix3 a b j) := by
  unfold Ideal.hostReduceAdd
  congr 1
  rw [← Fintype.sum_prod_type' (f := fun a b => v (ix3 a b j))]
  refine Finset.sum_filter_eq_sum_of_fiber _ (fun k : Fin n0 × Fin n1 => ix3 k.1 k.2 j)
    (fun _ _ e => Prod.ext (congrFun e 0) (congrFun e 1)) (fun i => ⟨fun e => ⟨(i 0, i 1), ?_⟩, ?_⟩) v
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

end Cert.Sums
end
-- ==== Proof.TailKernel.lean ====
/- The seven arrays the kernel leaves, at real arguments: every output block placed in its array. -/
module

public import proofs.«01_k».proof.Proof.TailOut
public import proofs.«01_k».proof.Proof.Sums
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.TailKernel

open Cert.TailIdeal Cert.TailIdeal.Gen Cert.TailMath Cert.Reals Cert.TailPay Cert.TailPieces Cert.TailOut

/-- Token `s` of sequence `b`, as a row. -/
def row (b : Fin 2) (s : Fin 4096) : Fin 8192 := ⟨4096 * b.val + s.val, by omega⟩

/-- Row `r` of tile `t`. -/
def trow (t : ℕ) (r : Fin 1024) : Fin 8192 := ⟨(1024 * t + r.val) % 8192, Nat.mod_lt _ (by norm_num)⟩

theorem row_div (n : Fin 8192) (h h') : row ⟨n.val / 4096, h⟩ ⟨n.val % 4096, h'⟩ = n := Fin.ext (by show 4096 * (n.val / 4096) + n.val % 4096 = _; omega)

/-- The rows tile by tile are the rows sequence by sequence. -/
theorem sum_tile (f : Fin 8192 → ℝ) : ∑ q ∈ Finset.range 8, ∑ r : Fin 1024, f (trow q r) = ∑ b : Fin 2, ∑ s : Fin 4096, f (row b s) := by
  rw [Sums.sum_pairs 8 1024 8192 rfl f trow fun q r h => by show (1024 * q + r.val) % 8192 = _; omega]
  rw [← Sums.sum_pairs 2 4096 8192 rfl f (fun b s => ⟨(4096 * b + s.val) % 8192, Nat.mod_lt _ (by norm_num)⟩) fun q r h => by show (4096 * q + r.val) % 8192 = _; omega, Finset.sum_range]
  exact Finset.sum_congr rfl fun b _ => Finset.sum_congr rfl fun s _ => congrArg f (Fin.ext (by show (4096 * b.val + s.val) % 8192 = 4096 * b.val + s.val; omega))

theorem idx_in : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] := by decide +kernel

theorem idx_out : ∀ t : Fin cfg0.N, win0_7.index t = ![t.val, 0] ∧ win0_8.index t = ![t.val, 0] ∧ win0_9.index t = ![t.val, 0]
    ∧ win0_10.index t = ![t.val / 4, 0, 0, t.val % 4] := by decide +kernel

variable (m : (ℓ : Loc nD τ sig) → Buf (Elt Ideal) ℓ)

/-- The arguments hold real numbers. -/
structure Args (c : Dev nD) (o g : Fin 8192 → Fin 512 → ℝ) (x t : Fin 8192 → Fin 1024 → ℝ) (w : Fin 512 → Fin 1024 → ℝ) (fn : Fin 1024 → ℝ) : Prop where
  h0 : ∀ b s k, m ((c : Thread nD τ).loc main_arg0) (ix3 b s k) = (o (row b s) k : EReal)
  h1 : ∀ b s k, m ((c : Thread nD τ).loc main_arg1) (ix3 b s k) = (g (row b s) k : EReal)
  h2 : ∀ b s j, m ((c : Thread nD τ).loc main_arg2) (ix3 b s j) = (x (row b s) j : EReal)
  h3 : ∀ k j, m ((c : Thread nD τ).loc main_arg3) (ix2 k j) = (w k j : EReal)
  h4 : ∀ j, m ((c : Thread nD τ).loc main_arg4) (ix1 j) = (fn j : EReal)
  h5 : ∀ b s j, m ((c : Thread nD τ).loc main_arg5) (ix3 b s j) = (t (row b s) j : EReal)

variable {m} {c : Dev nD} {o g : Fin 8192 → Fin 512 → ℝ} {x t' : Fin 8192 → Fin 1024 → ℝ} {w : Fin 512 → Fin 1024 → ℝ} {fn : Fin 1024 → ℝ}
variable (A : Args m c o g x t' w fn)

include A

theorem tile (t : Fin cfg0.N) : TileAt m c t (fun r => o (trow t r)) (fun r => g (trow t r)) (fun r => x (trow t r)) (fun r => t' (trow t r)) w fn := by
  obtain ⟨i0, i1, i2, i3, i4, i5, i6⟩ := idx_in t
  have ht : t.val < 8 := t.isLt
  refine ⟨fun r k => ?_, fun r k => ?_, fun r k => ?_, fun r k => ?_, fun r k => ?_, fun r k => ?_⟩
  · blk_simp [iblk, i0]
    entry_read
    rw [show (((View.whole main_v0).slice (win0_0.rect t)).emb (ix2 r k)) = ix2 (trow t.val r) k from by unfold trow; blk_ext [i0]]
    pointwise [A.h0, row_div]
  · blk_simp [iblk, i1]
    entry_read
    rw [show (((View.whole main_v1).slice (win0_1.rect t)).emb (ix2 r k)) = ix2 (trow t.val r) k from by unfold trow; blk_ext [i1]]
    pointwise [A.h1, row_div]
  · blk_simp [iblk, i2]
    entry_read
    rw [show (((View.whole main_v2).slice (win0_2.rect t)).emb (ix2 r k)) = ix2 (trow t.val r) k from by unfold trow; blk_ext [i2]]
    pointwise [A.h2, row_div]
  · blk_simp [iblk, i3]
    entry_read
    rw [show (((View.whole main_v3).slice (win0_3.rect t)).emb (ix2 r k)) = ix2 r k from by blk_ext [i3]]
    pointwise [A.h3]
  · blk_simp [iblk, i4]
    entry_read
    rw [show (((View.whole main_v4).slice (win0_4.rect t)).emb (ix2 r k)) = ix2 r k from by blk_ext [i4]]
    pointwise [A.h4]
  · blk_simp [iblk, i5]
    entry_read
    rw [show (((View.whole main_v5).slice (win0_5.rect t)).emb (ix2 r k)) = ix2 (trow t.val r) k from by unfold trow; blk_ext [i5]]
    pointwise [A.h5, row_div]

omit A in
theorem table_words : ∀ n : Fin 4096, lit0 n = if n.val % 512 / 64 = n.val / 512 then 0x3F800000#32 else 0#32 := by decide +kernel

omit A in
/-- The table that adds up a head's 64 columns. -/
theorem table (t : Fin cfg0.N) (a : Fin 8) (k : Fin 512) : iblk m c 6 t (ix2 a k) = (((if k.val / 64 = a.val then 1 else 0 : ℝ)) : EReal) := by
  obtain ⟨i0, i1, i2, i3, i4, i5, i6⟩ := idx_in t
  blk_simp [iblk, i6]
  entry_read
  rw [show (((View.whole main_cst).slice (win0_6.rect t)).emb (ix2 a k)) = ix2 a k from by blk_ext [i6]]
  have e : ((S8x512).rowMajor (ix2 a k)).val = 512 * a.val + k.val := (Shape.rowMajor_val_two (ix2 a k)).trans (by simp; omega)
  have h := table_words ⟨512 * a.val + k.val, by omega⟩
  rw [show (S8x512.rowMajor (ix2 a k)) = (⟨512 * a.val + k.val, by omega⟩ : Fin 4096) from Fin.ext e]
  refine (congrArg (Ideal.ofBits .f32) h).trans ?_
  rw [show (512 * a.val + k.val) % 512 / 64 = k.val / 64 from by omega, show (512 * a.val + k.val) / 512 = a.val from by omega]
  by_cases h : k.val / 64 = a.val
  · simp only [h, if_true]; exact lit_one
  · simp only [h, if_false]; exact Ideal.ofBits_zero _

end Cert.TailKernel
end
-- ==== Proof.TailFinal.lean ====
/- What the head-and-tail kernel leaves in its seven result arrays, as real numbers of its real arguments. -/
module

public import proofs.«01_k».proof.Proof.TailKernel

@[expose] public section

set_option maxRecDepth 8000

noncomputable section

open Idealize.ShloMosaic Cert.Reals Cert.TailMath Cert.TailPieces Cert.TailOut Cert.TailKernel
open Cert.TailIdeal Cert.TailIdeal.Gen

namespace Cert.TailFinal

/-- One head's sum of `do * o` in row `n`. -/
def headSum (o g : Fin 8192 → Fin 512 → ℝ) (x t' : Fin 8192 → Fin 1024 → ℝ) (w : Fin 512 → Fin 1024 → ℝ) (fn : Fin 1024 → ℝ) (n : Fin 8192) (a : Fin 8) : ℝ :=
  ∑ k : Fin 512, (if k.val / 64 = a.val then 1 else 0) * (dov (o n) (g n) (x n) (t' n) w fn k * o n k)

variable {m : (ℓ : Loc nD τ TailIdeal.sig) → Buf (Elt Ideal) ℓ} {c : Dev nD}
variable {o g : Fin 8192 → Fin 512 → ℝ} {x t' : Fin 8192 → Fin 1024 → ℝ} {w : Fin 512 → Fin 1024 → ℝ} {fn : Fin 1024 → ℝ}
variable (A : Args m c o g x t' w fn)
include A

theorem dx_final : (dats m 0 c).arrAt 7 cfg0.N = fun i => (dx (o (i 0)) (g (i 0)) (x (i 0)) (t' (i 0)) w fn (i 1) : EReal) := by
  refine (dats m 0 c).arrAt_eq_of_covers 7 _ (by decide +kernel) fun t hf y => ?_
  obtain ⟨i7, i8, i9, i10⟩ := idx_out t
  obtain ⟨r, j, rfl⟩ : ∃ (r : Fin 1024) (j : Fin 1024), y = ix2 r j := ⟨y 0, y 1, by idx_ext⟩
  rw [show ((cfg0.win 7).blk t).view.emb (ix2 r j) = ix2 (trow t.val r) j from by unfold trow; blk_ext [i7]]
  blk_simp
  rw [after0_7]
  by_cases h0 : t.val % 8 = 0
  · exact dx_A (tile A t) h0 r j
  · exact dx_B (tile A t) h0 r j

theorem do_final : (dats m 0 c).arrAt 8 cfg0.N = fun i => (padAt (dov (o (i 0)) (g (i 0)) (x (i 0)) (t' (i 0)) w fn) (i 1) : EReal) := by
  refine (dats m 0 c).arrAt_eq_of_covers 8 _ (by decide +kernel) fun t hf y => ?_
  obtain ⟨i7, i8, i9, i10⟩ := idx_out t
  obtain ⟨r, j, rfl⟩ : ∃ (r : Fin 1024) (j : Fin 1024), y = ix2 r j := ⟨y 0, y 1, by idx_ext⟩
  rw [show ((cfg0.win 8).blk t).view.emb (ix2 r j) = ix2 (trow t.val r) j from by unfold trow; blk_ext [i8]]
  blk_simp
  rw [after0_8]
  by_cases h0 : t.val % 8 = 0
  · rw [do_A (tile A t) h0]; rfl
  · rw [do_B (tile A t) h0]; rfl

theorem dgate_final : (dats m 0 c).arrAt 9 cfg0.N = fun i => (dgate (o (i 0)) (g (i 0)) (x (i 0)) (t' (i 0)) w fn (i 1) : EReal) := by
  refine (dats m 0 c).arrAt_eq_of_covers 9 _ (by decide +kernel) fun t hf y => ?_
  obtain ⟨i7, i8, i9, i10⟩ := idx_out t
  obtain ⟨r, j, rfl⟩ : ∃ (r : Fin 1024) (j : Fin 512), y = ix2 r j := ⟨y 0, y 1, by idx_ext⟩
  rw [show ((cfg0.win 9).blk t).view.emb (ix2 r j) = ix2 (trow t.val r) j from by unfold trow; blk_ext [i9]]
  blk_simp
  rw [after0_9]
  by_cases h0 : t.val % 8 = 0
  · exact dgate_A (tile A t) h0 r j
  · exact dgate_B (tile A t) h0 r j

theorem delta_final : (dats m 0 c).arrAt 10 cfg0.N = fun i => (headSum o g x t' w fn (row (i 0) (i 3)) (i 1) : EReal) := by
  refine (dats m 0 c).arrAt_eq_of_covers 10 _ (by decide +kernel) fun t hf y => ?_
  obtain ⟨i7, i8, i9, i10⟩ := idx_out t
  have ht : t.val < 8 := t.isLt
  obtain ⟨z, a, b, r, rfl⟩ : ∃ (z : Fin 1) (a : Fin 8) (b : Fin 8) (r : Fin 1024), y = ix4 z a b r := ⟨y 0, y 1, y 2, y 3, by idx_ext⟩
  rw [show ((cfg0.win 10).blk t).view.emb (ix4 z a b r) = ix4 (⟨t.val / 4, by omega⟩ : Fin 2) a b (⟨t.val % 4 * 1024 + r.val, by omega⟩ : Fin 4096) from by blk_ext [i10]]
  blk_simp
  rw [after0_10]
  have e : row (⟨t.val / 4, by omega⟩ : Fin 2) (⟨t.val % 4 * 1024 + r.val, by omega⟩ : Fin 4096) = trow t.val r := Fin.ext (by simp only [row, trow]; omega)
  show _ = ((headSum o g x t' w fn (row (⟨t.val / 4, by omega⟩ : Fin 2) (⟨t.val % 4 * 1024 + r.val, by omega⟩ : Fin 4096)) a : ℝ) : EReal)
  rw [e]
  by_cases h0 : t.val % 8 = 0
  · rw [delta_A (tile A t) h0 _ (table t)]; rfl
  · rw [delta_B (tile A t) h0 _ (table t)]; rfl

/-- The gradient of the output product's weight, the rows of the first `n + 1` tiles. -/
theorem dw_acc : ∀ (n : ℕ) (h : n < cfg0.N) (y : S8x512x128.Idx), (outsAt0 m c n h).2.2.2.2.1 y
    = ((∑ q ∈ Finset.range (n + 1), ∑ r : Fin 1024, gat (o (trow q r)) (g (trow q r)) (y 1)
        * dx (o (trow q r)) (g (trow q r)) (x (trow q r)) (t' (trow q r)) w fn ⟨128 * (y 0).val + (y 2).val, by have h0 : (y 0).val < 8 := (y 0).isLt; have h2 : (y 2).val < 128 := (y 2).isLt; omega⟩ : ℝ) : EReal) := by
  intro n
  induction n with
  | zero =>
    intro h y
    rw [dw_A (tile A ⟨0, h⟩) rfl]
    unfold slabs
    rw [show k0_pay2 (F := Ideal) y = 0 from by unfold k0_pay2; exact Ideal.ofBits_zero .f32, zero_add]
    simp
  | succ n ih =>
    intro h y
    have h8 : n + 1 < 8 := h
    rw [dw_B (tile A ⟨n + 1, h⟩) (by show ¬(n + 1) % 8 = 0; omega)]
    unfold slabs
    rw [show (outsAt0 m c ((⟨n + 1, h⟩ : Fin cfg0.N).val - 1) _).2.2.2.2.1 y = _ from ih (by omega) y, coe_add', Finset.sum_range_succ _ (n + 1)]

theorem dfn_acc : ∀ (n : ℕ) (h : n < cfg0.N) (z : Fin 1) (j : Fin 1024), (outsAt0 m c n h).2.2.2.2.2.1 (ix2 z j)
    = ((∑ q ∈ Finset.range (n + 1), ∑ r : Fin 1024, dy (o (trow q r)) (g (trow q r)) (x (trow q r)) (t' (trow q r)) w fn j
        * xh (o (trow q r)) (g (trow q r)) (x (trow q r)) w j : ℝ) : EReal) := by
  intro n
  induction n with
  | zero =>
    intro h z j
    rw [dfn_A (tile A ⟨0, h⟩) rfl]
    simp
  | succ n ih =>
    intro h z j
    have h8 : n + 1 < 8 := h
    rw [dfn_B (tile A ⟨n + 1, h⟩) (by show ¬(n + 1) % 8 = 0; omega) _ (fun z j => ih (by omega) z j), Finset.sum_range_succ _ (n + 1)]

theorem loss_acc : ∀ (n : ℕ) (h : n < cfg0.N) (y z : Fin 1), (outsAt0 m c n h).2.2.2.2.2.2 (ix2 y z)
    = ((∑ q ∈ Finset.range (n + 1), 1 / 2 * ∑ r : Fin 1024, sq (o (trow q r)) (g (trow q r)) (x (trow q r)) (t' (trow q r)) w fn : ℝ) : EReal) := by
  intro n
  induction n with
  | zero =>
    intro h y z
    rw [loss_A (tile A ⟨0, h⟩) rfl]
    simp
  | succ n ih =>
    intro h y z
    have h8 : n + 1 < 8 := h
    rw [loss_B (tile A ⟨n + 1, h⟩) (by show ¬(n + 1) % 8 = 0; omega) _ (fun y z => ih (by omega) y z), Finset.sum_range_succ _ (n + 1)]

theorem dw_final : (dats m 0 c).arrAt 11 cfg0.N = fun y => ((∑ q ∈ Finset.range 8, ∑ r : Fin 1024, gat (o (trow q r)) (g (trow q r)) (y 1)
        * dx (o (trow q r)) (g (trow q r)) (x (trow q r)) (t' (trow q r)) w fn ⟨128 * (y 0).val + (y 2).val, by have h0 : (y 0).val < 8 := (y 0).isLt; have h2 : (y 2).val < 128 := (y 2).isLt; omega⟩ : ℝ) : EReal) := by
  refine (dats m 0 c).arrAt_eq_of_after_last 11 ⟨7, by decide⟩ (by decide +kernel) _ fun j => ?_
  refine (congrFun (after0_11 (m := m) (c := c) (t := (⟨7, by decide⟩ : Fin cfg0.N))) _).trans ?_
  exact dw_acc A 7 _ _

theorem dfn_final : (dats m 0 c).arrAt 12 cfg0.N = fun i => ((∑ q ∈ Finset.range 8, ∑ r : Fin 1024, dy (o (trow q r)) (g (trow q r)) (x (trow q r)) (t' (trow q r)) w fn (i 1)
        * xh (o (trow q r)) (g (trow q r)) (x (trow q r)) w (i 1) : ℝ) : EReal) := by
  refine (dats m 0 c).arrAt_eq_of_after_last 12 ⟨7, by decide⟩ (by decide +kernel) _ fun j => ?_
  refine (congrFun (after0_12 (m := m) (c := c) (t := (⟨7, by decide⟩ : Fin cfg0.N))) _).trans ?_
  obtain ⟨z, k, rfl⟩ : ∃ (z : Fin 1) (k : Fin 1024), j = ix2 z k := ⟨j 0, j 1, by idx_ext⟩
  exact dfn_acc A 7 _ z k

theorem loss_final : (dats m 0 c).arrAt 13 cfg0.N = fun _ => ((∑ q ∈ Finset.range 8, 1 / 2 * ∑ r : Fin 1024, sq (o (trow q r)) (g (trow q r)) (x (trow q r)) (t' (trow q r)) w fn : ℝ) : EReal) := by
  refine (dats m 0 c).arrAt_eq_of_after_last 13 ⟨7, by decide⟩ (by decide +kernel) _ fun j => ?_
  refine (congrFun (after0_13 (m := m) (c := c) (t := (⟨7, by decide⟩ : Fin cfg0.N))) _).trans ?_
  obtain ⟨z, k, rfl⟩ : ∃ (z : Fin 1) (k : Fin 1), j = ix2 z k := ⟨j 0, j 1, by idx_ext⟩
  exact loss_acc A 7 _ z k

end Cert.TailFinal
end
-- ==== Proof.TailRefVal.lean ====
/- The reference of the head-and-tail kernel, read at an index as real numbers. -/
module

public import proofs.«01_k».proof.Proof.TailMath
public import proofs.«01_k».proof.Proof.TailKernel
public import proofs.«01_k».proof.Proof.TailPieces
public import proofs.«01_k».proof.Proof.TailFinal
public import proofs.«01_k».proof.Proof.Sums
public import proofs.«01_k».proof.Proof.Gen.TailRefIdeal.Read

@[expose] public section

set_option maxRecDepth 8000

noncomputable section

open Idealize.ShloMosaic Cert.Reals Cert.TailMath Cert.TailKernel Cert.TailPieces Cert.Sums
open Cert.TailRefIdeal Cert.TailRefIdeal.Read

namespace Cert.TailRefVal

variable (x0 x1 : S2x4096x512.Idx → EReal) (x2' x5 : S2x4096x1024.Idx → EReal) (x3 : S512x1024.Idx → EReal) (x4 : S1024.Idx → EReal)
variable (o g : Fin 8192 → Fin 512 → ℝ) (x t : Fin 8192 → Fin 1024 → ℝ) (w : Fin 512 → Fin 1024 → ℝ) (fn : Fin 1024 → ℝ)

/-- The reference's arguments as real numbers. -/
structure RArgs : Prop where
  h0 : ∀ b s k, x0 (ix3 b s k) = (o (row b s) k : EReal)
  h1 : ∀ b s k, x1 (ix3 b s k) = (g (row b s) k : EReal)
  h2 : ∀ b s j, x2' (ix3 b s j) = (x (row b s) j : EReal)
  h3 : ∀ k j, x3 (ix2 k j) = (w k j : EReal)
  h4 : ∀ j, x4 (ix1 j) = (fn j : EReal)
  h5 : ∀ b s j, x5 (ix3 b s j) = (t (row b s) j : EReal)

variable {x0 x1 x2' x5 x3 x4 o g x t w fn} (A : RArgs x0 x1 x2' x5 x3 x4 o g x t w fn)
include A

omit A in
theorem rr_sq (o g : Fin 512 → ℝ) (x : Fin 1024 → ℝ) : rr o g x w / ms o g x w = rr o g x w * rr o g x w * rr o g x w := by
  have h := ms_pos o g x w
  have e : rr o g x w * rr o g x w = (ms o g x w)⁻¹ := by
    unfold rr
    rw [← mul_inv, Real.mul_self_sqrt h.le]
  rw [e, div_eq_mul_inv, mul_comm]

theorem sig_at (b s k) : val_main_v0_2 (F := Ideal) x1 (ix3 b s k) = ((sig (g (row b s) k) : ℝ) : EReal) := by
  unfold val_main_v0_2 val_main_call0_v4 val_main_call0_cst_0 val_main_call0_v3 val_main_call0_v2 val_main_call0_cst val_main_call0_v1 val_main_call0_v0
  pointwise [A.h1, lit_one, coe_neg', coe_add', Ideal.exp_coe, div_coe_coe _ _ (exp_pos' _)]
  rw [one_div]; rfl

theorem gat_at (b s k) : val_main_v1 (F := Ideal) x0 x1 (ix3 b s k) = ((gat (o (row b s)) (g (row b s)) k : ℝ) : EReal) := by
  unfold val_main_v1 val_main_v0_0
  pointwise [A.h0, A.h1, sig_at A, coe_mul']
  rfl

theorem x2_at (b s j) : val_main_v3 (F := Ideal) x0 x1 x2' x3 (ix3 b s j) = ((TailMath.x2 (o (row b s)) (g (row b s)) (x (row b s)) w j : ℝ) : EReal) := by
  unfold val_main_v3 val_main_v2
  pointwise [A.h2, gat_at A, A.h3, coe_mul', coe_sum, coe_add']
  rfl

theorem ms_at (b s z) : val_main_v10 (F := Ideal) x0 x1 x2' x3 (ix3 b s z) = ((ms (o (row b s)) (g (row b s)) (x (row b s)) w : ℝ) : EReal) := by
  unfold val_main_v10 val_main_v9 val_main_cst_1 val_main_v8 val_main_v7 val_main_cst_0 val_main_v6 val_main_v5 val_main_cst val_main_v4
  pointwise [x2_at A, coe_mul', coe_sum, coe_add', lit_1024, lit_eps, div_coe_coe _ _ (show (1024:ℝ) ≠ 0 by norm_num)]
  rfl

theorem rr_at (b s z) : val_main_v11 (F := Ideal) x0 x1 x2' x3 (ix3 b s z) = ((rr (o (row b s)) (g (row b s)) (x (row b s)) w : ℝ) : EReal) := by
  unfold val_main_v11
  pointwise [ms_at A, rsqrt_pos _ (ms_pos _ _ _ _)]
  rfl

theorem v14_at (b s z) : val_main_v14 (F := Ideal) x0 x1 x2' x3 (ix3 b s z) = ((-(1/2) * (rr (o (row b s)) (g (row b s)) (x (row b s)) w / ms (o (row b s)) (g (row b s)) (x (row b s)) w) : ℝ) : EReal) := by
  unfold val_main_v14 val_main_v13 val_main_cst_2 val_main_v12
  pointwise [ms_at A, rr_at A, lit_neg_half, coe_mul', div_coe_coe _ _ (ms_pos _ _ _ _).ne']
  try rfl

theorem xh_at (b s j) : val_main_v16 (F := Ideal) x0 x1 x2' x3 (ix3 b s j) = ((xh (o (row b s)) (g (row b s)) (x (row b s)) w j : ℝ) : EReal) := by
  unfold val_main_v16 val_main_v15
  pointwise [x2_at A, rr_at A, coe_mul']
  rfl

theorem err_at (b s j) : val_main_v20 (F := Ideal) x0 x1 x2' x3 x4 x5 (ix3 b s j) = ((err (o (row b s)) (g (row b s)) (x (row b s)) (t (row b s)) w fn j : ℝ) : EReal) := by
  unfold val_main_v20 val_main_v19 val_main_v18 val_main_v17
  pointwise [xh_at A, A.h4, A.h5, coe_mul', coe_sub']
  rfl

theorem dy_at (b s j) : val_main_v34 (F := Ideal) x0 x1 x2' x3 x4 x5 (ix3 b s j) = ((dy (o (row b s)) (g (row b s)) (x (row b s)) (t (row b s)) w fn j : ℝ) : EReal) := by
  unfold val_main_v34 val_main_v33 val_main_v32 val_main_v31 val_main_cst_10 val_main_v30 val_main_v29 val_main_cst_8 val_main_cst_9 val_main_v23 val_main_v22 val_main_cst_3
  pointwise [err_at A, lit_half, lit_one, lit_two, lit_1024, coe_mul', div_coe_coe _ _ (show (1024:ℝ) ≠ 0 by norm_num)]
  unfold dy; congr 1; ring

theorem dyf_at (b s j) : val_main_v39 (F := Ideal) x0 x1 x2' x3 x4 x5 (ix3 b s j) = ((dy (o (row b s)) (g (row b s)) (x (row b s)) (t (row b s)) w fn j * fn j : ℝ) : EReal) := by
  unfold val_main_v39 val_main_v38 val_main_v17
  pointwise [dy_at A, A.h4, coe_mul']
  try rfl

theorem dot_at (b s) : val_main_v42 (F := Ideal) x0 x1 x2' x3 x4 x5 (ix2 b s) = ((∑ j, TailMath.x2 (o (row b s)) (g (row b s)) (x (row b s)) w j * (dy (o (row b s)) (g (row b s)) (x (row b s)) (t (row b s)) w fn j * fn j) : ℝ) : EReal) := by
  unfold val_main_v42 val_main_cst_13 val_main_v41
  pointwise [x2_at A, dyf_at A, coe_mul', coe_sum]
  try rfl

theorem v49_at (b s) : val_main_v49 (F := Ideal) x0 x1 x2' x3 x4 x5 (ix2 b s) = (((∑ j, TailMath.x2 (o (row b s)) (g (row b s)) (x (row b s)) w j * (dy (o (row b s)) (g (row b s)) (x (row b s)) (t (row b s)) w fn j * fn j)) * (-(1/2) * (rr (o (row b s)) (g (row b s)) (x (row b s)) w / ms (o (row b s)) (g (row b s)) (x (row b s)) w)) / 1024 : ℝ) : EReal) := by
  unfold val_main_v49 val_main_cst_15 val_main_v48 val_main_v47 val_main_cst_14 val_main_v46 val_main_v43
  pointwise [dot_at A, v14_at A, lit_1024, coe_mul', div_coe_coe _ _ (show (1024:ℝ) ≠ 0 by norm_num)]
  simp

theorem dx_at (b s j) : val_main_v54 (F := Ideal) x0 x1 x2' x3 x4 x5 (ix3 b s j) = (dx (o (row b s)) (g (row b s)) (x (row b s)) (t (row b s)) w fn j : EReal) := by
  unfold val_main_v54 val_main_v53 val_main_v52 val_main_v51 val_main_v50 val_main_v45 val_main_v44
  pointwise [x2_at A, dyf_at A, rr_at A, v49_at A, coe_mul', coe_add']
  congr 1
  rw [rr_sq]
  unfold dx
  have e : ∑ l, dy (o (row b s)) (g (row b s)) (x (row b s)) (t (row b s)) w fn l * fn l * xh (o (row b s)) (g (row b s)) (x (row b s)) w l = (∑ l, TailMath.x2 (o (row b s)) (g (row b s)) (x (row b s)) w l * (dy (o (row b s)) (g (row b s)) (x (row b s)) (t (row b s)) w fn l * fn l)) * rr (o (row b s)) (g (row b s)) (x (row b s)) w := by
    rw [Finset.sum_mul]; exact Finset.sum_congr rfl fun l _ => by unfold xh; ring
  rw [e]; unfold xh; ring

theorem dgat_at (b s k) : val_main_v57 (F := Ideal) x0 x1 x2' x3 x4 x5 (ix3 b s k) = ((dgat (o (row b s)) (g (row b s)) (x (row b s)) (t (row b s)) w fn k : ℝ) : EReal) := by
  unfold val_main_v57
  pointwise [dx_at A, A.h3, coe_mul', coe_sum]
  rfl

theorem do_at (b s k) : val_main_v59 (F := Ideal) x0 x1 x2' x3 x4 x5 (ix3 b s k) = ((dov (o (row b s)) (g (row b s)) (x (row b s)) (t (row b s)) w fn k : ℝ) : EReal) := by
  unfold val_main_v59 val_main_v0_0
  pointwise [dgat_at A, sig_at A, A.h1, coe_mul']
  rfl

theorem dgate_at (b s k) : val_main_v60 (F := Ideal) x0 x1 x2' x3 x4 x5 (ix3 b s k) = ((dgate (o (row b s)) (g (row b s)) (x (row b s)) (t (row b s)) w fn k : ℝ) : EReal) := by
  unfold val_main_v60 val_main_call1_v1 val_main_call1_v2 val_main_call1_v0 val_main_v58 val_main_v0_1 val_main_call0_v7 val_main_call0_v6 val_main_call0_cst_1
  pointwise [dgat_at A, sig_at A, A.h0, A.h1, lit_one, coe_mul', coe_sub', coe_add']
  congr 1; unfold dgate; ring

theorem dw_at (k j) : val_main_v56 (F := Ideal) x0 x1 x2' x3 x4 x5 (ix2 k j) = ((∑ b : Fin 2, ∑ s : Fin 4096, gat (o (row b s)) (g (row b s)) k * dx (o (row b s)) (g (row b s)) (x (row b s)) (t (row b s)) w fn j : ℝ) : EReal) := by
  unfold val_main_v56 val_main_v55
  pointwise [dx_at A, gat_at A, coe_mul', coe_sum]
  congr 1
  exact Finset.sum_congr rfl fun b _ => Finset.sum_congr rfl fun s _ => mul_comm _ _

theorem dfn_at (j) : val_main_v40 (F := Ideal) x0 x1 x2' x3 x4 x5 (ix1 j) = ((∑ b : Fin 2, ∑ s : Fin 4096, dy (o (row b s)) (g (row b s)) (x (row b s)) (t (row b s)) w fn j * xh (o (row b s)) (g (row b s)) (x (row b s)) w j : ℝ) : EReal) := by
  unfold val_main_v40 val_main_cst_12 val_main_v37 val_main_v36 val_main_cst_11 val_main_v35
  pointwise [hostReduceAdd_lead, dy_at A, xh_at A, coe_mul', coe_sum]
  congr 1
  simp only [Finset.univ_unique, Finset.sum_const, Finset.card_singleton, one_smul]
  exact Finset.sum_congr rfl fun b _ => Finset.sum_congr rfl fun s _ => mul_comm _ _

theorem loss_at (z) : val_main_v28 (F := Ideal) x0 x1 x2' x3 x4 x5 z = ((1/2 * ∑ b : Fin 2, ∑ s : Fin 4096, TailMath.sq (o (row b s)) (g (row b s)) (x (row b s)) (t (row b s)) w fn : ℝ) : EReal) := by
  unfold val_main_v28 val_main_cst_7 val_main_v27 val_main_cst_6 val_main_v26 val_main_v25 val_main_cst_5 val_main_v24 val_main_cst_4 val_main_v21
  pointwise [err_at A, lit_half, lit_1024, coe_mul', coe_sum, div_coe_coe _ _ (show (1024:ℝ) ≠ 0 by norm_num)]
  rfl

/-! ## The seven results -/

theorem v67_eq : val_main_v67 (F := Ideal) x0 x1 x2' x3 x4 x5 = fun i => (dx (o (i 0)) (g (i 0)) (x (i 0)) (t (i 0)) w fn (i 1) : EReal) := by
  funext i
  obtain ⟨n, j, rfl⟩ : ∃ (n : Fin 8192) (j : Fin 1024), i = ix2 n j := ⟨i 0, i 1, by idx_ext⟩
  unfold val_main_v67
  pointwise [dx_at A, row_div]

theorem v69_eq : val_main_v69 (F := Ideal) x0 x1 x2' x3 x4 x5 = fun i => (padAt (dov (o (i 0)) (g (i 0)) (x (i 0)) (t (i 0)) w fn) (i 1) : EReal) := by
  funext i
  obtain ⟨n, j, rfl⟩ : ∃ (n : Fin 8192) (j : Fin 1024), i = ix2 n j := ⟨i 0, i 1, by idx_ext⟩
  unfold val_main_v69 val_main_v68 val_main_v62 val_main_v61 val_main_call2_v0 val_main_c
  pointwise [do_at A, row_div]
  unfold padAt
  by_cases h : j.val % 128 < 64
  · have hj := j.isLt
    have hn := n.isLt
    rw [dif_pos ⟨by omega, by omega, by omega, h⟩, if_pos h]
    exact congrArg (fun k : Fin 512 => ((dov (o n) (g n) (x n) (t n) w fn k : ℝ) : EReal)) (Fin.ext (by show j.val / 128 * 64 + j.val % 128 = (64 * (j.val / 128) + j.val % 128) % 512; omega))
  · rw [dif_neg fun e => h e.2.2.2, if_neg h]
    show (((0#32 : BitVec 32).toInt : ℝ) : EReal) = _
    simp

theorem v71_eq : val_main_v71 (F := Ideal) x0 x1 x2' x3 x4 x5 = fun i => (dgate (o (i 0)) (g (i 0)) (x (i 0)) (t (i 0)) w fn (i 1) : EReal) := by
  funext i
  obtain ⟨n, j, rfl⟩ : ∃ (n : Fin 8192) (j : Fin 512), i = ix2 n j := ⟨i 0, i 1, by idx_ext⟩
  unfold val_main_v71 val_main_v70
  pointwise [dgate_at A, row_div]

theorem v73_eq : val_main_v73 (F := Ideal) x0 x1 x2' x3 x4 x5 = fun i => (TailFinal.headSum o g x t w fn (row (i 0) (i 3)) (i 1) : EReal) := by
  funext i
  obtain ⟨b, a, z, s, rfl⟩ : ∃ (b : Fin 2) (a : Fin 8) (z : Fin 8) (s : Fin 4096), i = ix4 b a z s := ⟨i 0, i 1, i 2, i 3, by idx_ext⟩
  unfold val_main_v73 val_main_v72 val_main_v66 val_main_v65 val_main_cst_16 val_main_v64 val_main_v63
  pointwise [do_at A, A.h0, coe_mul', coe_sum]
  congr 1
  unfold TailFinal.headSum
  exact (sum_head (fun k => dov (o (row b s)) (g (row b s)) (x (row b s)) (t (row b s)) w fn k * o (row b s) k) a (fun i => ⟨a.val * 64 + i.val, by omega⟩)
    fun i => by show a.val * 64 + i.val = _; omega).symm

theorem v75_eq : val_main_v75 (F := Ideal) x0 x1 x2' x3 x4 x5 = fun y => ((∑ q ∈ Finset.range 8, ∑ r : Fin 1024, gat (o (trow q r)) (g (trow q r)) (y 1)
        * dx (o (trow q r)) (g (trow q r)) (x (trow q r)) (t (trow q r)) w fn ⟨128 * (y 0).val + (y 2).val, by have h0 : (y 0).val < 8 := (y 0).isLt; have h2 : (y 2).val < 128 := (y 2).isLt; omega⟩ : ℝ) : EReal) := by
  funext i
  obtain ⟨a, k, l, rfl⟩ : ∃ (a : Fin 8) (k : Fin 512) (l : Fin 128), i = ix3 a k l := ⟨i 0, i 1, i 2, by idx_ext⟩
  unfold val_main_v75 val_main_v74
  pointwise [dw_at A]
  rw [sum_tile fun n => gat (o n) (g n) k * dx (o n) (g n) (x n) (t n) w fn ⟨128 * a.val + l.val, by omega⟩]
  simp only [Nat.mul_comm 128]

theorem v76_eq : val_main_v76 (F := Ideal) x0 x1 x2' x3 x4 x5 = fun i => ((∑ q ∈ Finset.range 8, ∑ r : Fin 1024, dy (o (trow q r)) (g (trow q r)) (x (trow q r)) (t (trow q r)) w fn (i 1)
        * xh (o (trow q r)) (g (trow q r)) (x (trow q r)) w (i 1) : ℝ) : EReal) := by
  funext i
  obtain ⟨z, j, rfl⟩ : ∃ (z : Fin 1) (j : Fin 1024), i = ix2 z j := ⟨i 0, i 1, by idx_ext⟩
  unfold val_main_v76
  pointwise [dfn_at A]
  rw [sum_tile fun n => dy (o n) (g n) (x n) (t n) w fn j * xh (o n) (g n) (x n) w j]

theorem v77_eq : val_main_v77 (F := Ideal) x0 x1 x2' x3 x4 x5 = fun _ => ((∑ q ∈ Finset.range 8, 1 / 2 * ∑ r : Fin 1024, TailMath.sq (o (trow q r)) (g (trow q r)) (x (trow q r)) (t (trow q r)) w fn : ℝ) : EReal) := by
  funext i
  unfold val_main_v77
  pointwise [loss_at A]
  rw [← Finset.mul_sum, sum_tile fun n => TailMath.sq (o n) (g n) (x n) (t n) w fn]

end Cert.TailRefVal
end
-- ==== Proof.Finite.lean ====
/- What the finiteness preconditions say: an array all of whose absolute values are below infinity holds real numbers. -/
module

public import proofs.«01_k».proof.Proof.Reals
public import Idealize.ShloMosaic.Lib.ReduceAll
public import Idealize.ShloMosaic.Lib.WordArith

@[expose] public section

noncomputable section

open Idealize.ShloMosaic

namespace Cert.Finite

theorem lit_inf : Ideal.ofBits .f32 0x7F800000#32 = ⊤ := by
  simp [Ideal.ofBits, Ideal.ieee]

/-- An extended real whose absolute value compares below infinity is a real number. -/
theorem real_of_lt {a : EReal} (h : max a (-a) < ⊤) : ∃ r : ℝ, a = r := by
  induction a with
  | bot => simp at h
  | top => simp at h
  | coe r => exact ⟨r, rfl⟩

/-- `jnp.all(jnp.abs(x) < inf)` gives the real numbers `x` holds. -/
theorem real_of_all {s : Shape} (axes : List (Fin s.rank)) (x : FVec Ideal s .f32) (b : (⟨0, ![]⟩ : Shape).BroadcastsInDim s (![] : Fin 0 → Fin s.rank))
    (c : IVec ⟨0, ![]⟩ 1) (h : s.ReducesTo axes ⟨0, ![]⟩) (hu)
    (e : Host.reduce IntOp.andi (cmpf .olt (Host.absf x) (broadcastInDim s ![] b (constant ⟨0, ![]⟩ .f32 0x7F800000#32))) c h hu (Shape.Idx.first hu) = 1#1) :
    ∃ f : s.Idx → ℝ, ∀ i, x i = (f i : EReal) := by
  have h' : ∀ i, ∃ r : ℝ, x i = r := fun i => by
    have e' := Host.reduce_andi_all _ _ h hu _ e i
    refine real_of_lt ?_
    by_contra hn
    have e'' : BitVec.ofBool (decide (max (x i) (-(x i)) < Ideal.ofBits .f32 0x7F800000#32)) = 1#1 := e'
    rw [lit_inf, decide_eq_false hn] at e''
    exact absurd e'' (by decide)
  exact ⟨fun i => (h' i).choose, fun i => (h' i).choose_spec⟩

end Cert.Finite
end
-- ==== Proof.TailClaim.lean ====
/- The claims about the head of the network (output gate, output product, final norm, loss; forward and backward in one call). -/
module

public import proofs.«01_k».proof.Defs
public import proofs.«01_k».proof.Proof.TailFinal
public import proofs.«01_k».proof.Proof.TailRefVal
public import proofs.«01_k».proof.Proof.Finite
public import proofs.«01_k».proof.Proof.Gen.Tail.Frame
public import proofs.«01_k».proof.Proof.Gen.TailIdeal.Value
public import proofs.«01_k».proof.Proof.Gen.TailRefIdeal.Run
public import proofs.«01_k».proof.Proof.Gen.Pre_finite_tail

@[expose] public section

set_option maxRecDepth 8000

noncomputable section

open Idealize.ShloMosaic Cert.TailKernel

namespace Cert.TailClaim

theorem frame_kernel : Cert.quiescent_Tail := fun m ρ _ => Cert.Tail.Gen.frame m ρ
theorem frame_ideal : Cert.quiescent_TailIdeal := fun m ρ _ => Cert.TailIdeal.Gen.frame m ρ
theorem frame_ideal_pre : Cert.quiescent_TailIdeal_pre_finite_tail := fun m ρ _ => Cert.TailIdeal.Gen.frame m ρ
theorem frame_reference : Cert.quiescent_TailRefIdeal := fun m ρ _ =>
  (θ_run Cert.TailRefIdeal.defs _ _).mono (fun r h => ⟨fun c => (h c).2.2.2.2.2.2.2, sem_eq_zero_of_no_sems (by decide) r.2⟩) (Cert.TailRefIdeal.Value.run m ρ)
theorem frame_reference_pre : Cert.quiescent_TailRefIdeal_pre_finite_tail := fun m ρ _ => frame_reference m ρ trivial
theorem preserves : Cert.preserves_Tail_TailIdeal := trivial

/-- The sequence of a row, and its position there. -/
def seq (n : Fin 8192) : Fin 2 := ⟨n.val / 4096, by omega⟩
def pos (n : Fin 8192) : Fin 4096 := ⟨n.val % 4096, by omega⟩
theorem seq_row (b : Fin 2) (s : Fin 4096) : seq (row b s) = b := Fin.ext (by show (4096 * b.val + s.val) / 4096 = _; omega)
theorem pos_row (b : Fin 2) (s : Fin 4096) : pos (row b s) = s := Fin.ext (by show (4096 * b.val + s.val) % 4096 = _; omega)

/-- The real numbers behind finite arguments. -/
theorem real_args (m : (ℓ : Loc TailIdeal.nD TailIdeal.τ TailIdeal.sig) → Buf (Elt Ideal) ℓ) (h : Cert.Pre_TailIdeal_finite_tail m) (c : Dev TailIdeal.nD) :
    ∃ o g x t w fn, Args m c o g x t w fn := by
  have e := congrFun (h c) (Shape.Idx.first (by decide))
  dsimp only [Cert.Pre_finite_tail.fn, Cert.Pre_finite_tail.fn_part1] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  obtain ⟨f0, h0⟩ := Finite.real_of_all _ _ _ _ _ _ e0
  obtain ⟨f1, h1⟩ := Finite.real_of_all _ _ _ _ _ _ e1
  obtain ⟨f2, h2⟩ := Finite.real_of_all _ _ _ _ _ _ e2
  obtain ⟨f3, h3⟩ := Finite.real_of_all _ _ _ _ _ _ e3
  obtain ⟨f4, h4⟩ := Finite.real_of_all _ _ _ _ _ _ e4
  obtain ⟨f5, h5⟩ := Finite.real_of_all _ _ _ _ _ _ e5
  refine ⟨fun n k => f0 (ix3 (seq n) (pos n) k), fun n k => f1 (ix3 (seq n) (pos n) k), fun n k => f2 (ix3 (seq n) (pos n) k), fun n k => f5 (ix3 (seq n) (pos n) k),
    fun k j => f3 (ix2 k j), fun j => f4 (ix1 j), fun b s k => ?_, fun b s k => ?_, fun b s k => ?_, fun k j => h3 _, fun j => h4 _, fun b s k => ?_⟩
  · rw [seq_row, pos_row]; exact h0 _
  · rw [seq_row, pos_row]; exact h1 _
  · rw [seq_row, pos_row]; exact h2 _
  · rw [seq_row, pos_row]; exact h5 _

/-- The kernel's seven results are the reference's. -/
theorem algebraic : Cert.algebraic_TailIdeal_TailRefIdeal_pre_finite_tail := by
  intro m ρ m' ρ' hp hm
  refine ⟨fun c => Cert.TailRefIdeal.Value.res_main_v67 m' c, fun c => Cert.TailRefIdeal.Value.res_main_v69 m' c, fun c => Cert.TailRefIdeal.Value.res_main_v71 m' c,
    fun c => Cert.TailRefIdeal.Value.res_main_v73 m' c, fun c => Cert.TailRefIdeal.Value.res_main_v75 m' c, fun c => Cert.TailRefIdeal.Value.res_main_v76 m' c,
    fun c => Cert.TailRefIdeal.Value.res_main_v77 m' c, ?_, Cert.TailRefIdeal.Value.run m' ρ'⟩
  refine (θ_run Cert.TailIdeal.defs _ _).mono (fun r h c => ?_) (Cert.TailIdeal.Value.run_blocks m ρ)
  obtain ⟨r0, r1, r2, r3, r4, r5, r6, rest⟩ := h c
  obtain ⟨o, g, x, t, w, fn, A⟩ := real_args m hp c
  obtain ⟨a0, a1, a2, a3, a4, a5⟩ := hm c
  have B : TailRefVal.RArgs (m' ((c.tc : Thread _ TailRefIdeal.τ).loc TailRefIdeal.main_arg0)) (m' ((c.tc : Thread _ TailRefIdeal.τ).loc TailRefIdeal.main_arg1)) (m' ((c.tc : Thread _ TailRefIdeal.τ).loc TailRefIdeal.main_arg2))
      (m' ((c.tc : Thread _ TailRefIdeal.τ).loc TailRefIdeal.main_arg5)) (m' ((c.tc : Thread _ TailRefIdeal.τ).loc TailRefIdeal.main_arg3)) (m' ((c.tc : Thread _ TailRefIdeal.τ).loc TailRefIdeal.main_arg4)) o g x t w fn := by
    rw [a0, a1, a2, a3, a4, a5]
    exact ⟨A.h0, A.h1, A.h2, A.h3, A.h4, A.h5⟩
  exact ⟨r0.trans ((TailFinal.dx_final A).trans ((TailRefIdeal.Read.val_main_v67_eq m' c).trans (TailRefVal.v67_eq B)).symm),
    r1.trans ((TailFinal.do_final A).trans ((TailRefIdeal.Read.val_main_v69_eq m' c).trans (TailRefVal.v69_eq B)).symm),
    r2.trans ((TailFinal.dgate_final A).trans ((TailRefIdeal.Read.val_main_v71_eq m' c).trans (TailRefVal.v71_eq B)).symm),
    r3.trans ((TailFinal.delta_final A).trans ((TailRefIdeal.Read.val_main_v73_eq m' c).trans (TailRefVal.v73_eq B)).symm),
    r4.trans ((TailFinal.dw_final A).trans ((TailRefIdeal.Read.val_main_v75_eq m' c).trans (TailRefVal.v75_eq B)).symm),
    r5.trans ((TailFinal.dfn_final A).trans ((TailRefIdeal.Read.val_main_v76_eq m' c).trans (TailRefVal.v76_eq B)).symm),
    r6.trans ((TailFinal.loss_final A).trans ((TailRefIdeal.Read.val_main_v77_eq m' c).trans (TailRefVal.v77_eq B)).symm), rest⟩

end Cert.TailClaim
end
-- ==== Proof.AttnIdealRunA.lean ====
module

public import proofs.«01_k».proof.Proof.Gen.AttnIdeal.Loops
public import proofs.«01_k».proof.Proof.Gen.AttnIdeal.Frame

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the point is the first of its sequence and pair of heads. -/
abbrev isFirst (i : grid0.Coords) : Prop := (Scalar.cmpi .ne (Scalar.extui (Scalar.cmpi .eq (BitVec.ofNat 32 (i 2).val) 0#32)) 0#32) = 1#1

theorem isFirst_iff : ∀ t : Fin cfg0.N, isFirst (grid0.coords t) ↔ t.val % 2 = 0 :=
  (by decide +kernel : ∀ t : Fin grid0.N, isFirst (grid0.coords t) ↔ t.val % 2 = 0)

/-- The body's second condition: the point is the last of its sequence and pair of heads. -/
theorem isLast_iff : ∀ t : Fin cfg0.N, k0_cond2 (grid0.coords t) = 1#1 ↔ t.val % 2 = 1 :=
  (by decide +kernel : ∀ t : Fin grid0.N, k0_cond2 (grid0.coords t) = 1#1 ↔ t.val % 2 = 1)

set_option maxHeartbeats 4000000 in
/-- The body at the first point of a sequence and pair of heads: the sum of the query gradients is cleared,
    the key and value gradients are stored whole, the block of query gradients is left alone. -/
noncomputable def runA (c : Dev nD) (i : grid0.Coords) (arg3 : Memref sig .tc .vmem S4096x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S1x2x8x4096 .f32) (harg7 : arg7.IsWhole) (arg8 : Memref sig .tc .vmem S1x2x8x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x256 .bf16) (harg11 : arg11.IsWhole) (arg12 : Memref sig .tc .vmem S4096x256 .f32) (harg12 : arg12.IsWhole)
    (hc0 : isFirst i) (hc1 : ¬ k0_cond2 i = 1#1)
    (x0 : Vec F S4096x256 .bf16) (x1 : Vec F S2048x256 .bf16) (x2 : Vec F S2048x256 .bf16) (x3 : Vec F S4096x256 .bf16) (x4 : Vec F S1x2x8x4096 .f32) (x5 : Vec F S1x2x8x4096 .f32) :
    Σ' (L6 : List (View.Piece (Elt F) S2048x256 .bf16)), Σ' (L7 : List (View.Piece (Elt F) S2048x256 .bf16)), { LS0 : List (View.Piece (Elt F) S4096x256 .f32) //
      ∀ (xo8 : Vec F S4096x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xo8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xo8 ∗ (arg12.view.loc (c : Thread nD τ) ↦[arg12.view.set]{fullShare} arg12.view.writes (Elt F) arg12.view.junk LS0)) -∗ K ⟨⟩))
          ⊢ wp frame (wpE (defs₀ (F := F)) Variants.none c none) E (cc0_attention_bwd i arg3 harg3 arg4 harg4 arg5 harg5 arg6 harg6 arg7 harg7 arg8 harg8 arg9 harg9 arg10 harg10 arg11 harg11 arg12 harg12) K } := by
  refine ⟨?_, ?_, ?_, fun xo8 E K => ?run⟩
  case run =>
    simp only [cc0_attention_bwd_eq_skeleton]; unfold cc0_attention_bwd_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]
    · iexists _; isplitr; · ipureintro; exact harg11.read_unread _
      iexact H8
    iexact HS0

end Cert.AttnIdeal.Gen

end
-- ==== Proof.AttnIdealRunB.lean ====
module

public import proofs.«01_k».proof.Proof.AttnIdealRunA

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a sequence and pair of heads: the sum of the query gradients goes on from
    what the point before left, and is written out. -/
noncomputable def runB (c : Dev nD) (i : grid0.Coords) (arg3 : Memref sig .tc .vmem S4096x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S1x2x8x4096 .f32) (harg7 : arg7.IsWhole) (arg8 : Memref sig .tc .vmem S1x2x8x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x256 .bf16) (harg11 : arg11.IsWhole) (arg12 : Memref sig .tc .vmem S4096x256 .f32) (harg12 : arg12.IsWhole)
    (hc0 : ¬ isFirst i) (hc1 : k0_cond2 i = 1#1)
    (x0 : Vec F S4096x256 .bf16) (x1 : Vec F S2048x256 .bf16) (x2 : Vec F S2048x256 .bf16) (x3 : Vec F S4096x256 .bf16) (x4 : Vec F S1x2x8x4096 .f32) (x5 : Vec F S1x2x8x4096 .f32) (xs0 : Vec F S4096x256 .f32) :
    Σ' (L6 : List (View.Piece (Elt F) S2048x256 .bf16)), Σ' (L7 : List (View.Piece (Elt F) S2048x256 .bf16)), Σ' (L8 : List (View.Piece (Elt F) S4096x256 .bf16)), { LS0 : List (View.Piece (Elt F) S4096x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xs0) LS0)) -∗ K ⟨⟩))
          ⊢ wp frame (wpE (defs₀ (F := F)) Variants.none c none) E (cc0_attention_bwd i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_attention_bwd_eq_skeleton]; unfold cc0_attention_bwd_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    iexact HS0

end Cert.AttnIdeal.Gen

end
-- ==== Proof.AttnIdealFrame.lean ====
module

public import proofs.«01_k».proof.Proof.AttnIdealRunB
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that sums the query gradients, as the body is handed it. -/
abbrev scM : Memref sig .tc .vmem S4096x256 .f32 := Memref.whole cc0_scratch0

/-- What the region holds apart from the windows' buffers: the scratch at anything, the generator register at some state. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The run at an even point, on that point's buffers and blocks. -/
def RA (c : Dev nD) (t : Fin cfg0.N) (h : t.val % 2 = 0) :=
  runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) ((isFirst_iff t).mpr h) (fun e => by have := (isLast_iff t).mp e; omega) (iblk m c 0 t) (iblk m c 1 t) (iblk m c 2 t) (iblk m c 3 t) (iblk m c 4 t) (iblk m c 5 t)

/-- The run at an odd point, over what the point before left in the scratch. -/
def RB (c : Dev nD) (t : Fin cfg0.N) (h : t.val % 2 = 1) (xs0 : Vec F S4096x256 .f32) :=
  runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (fun e => by have := (isFirst_iff t).mp e; omega) ((isLast_iff t).mpr h) (iblk m c 0 t) (iblk m c 1 t) (iblk m c 2 t) (iblk m c 3 t) (iblk m c 4 t) (iblk m c 5 t) xs0

/-- The block of key gradients stored at an even point. -/
def dkA (c : Dev nD) (t : Fin cfg0.N) (h : t.val % 2 = 0) :=
  (st0_6 t).view.read (Elt F) ((st0_6 t).view.writes (Elt F) (st0_6 t).view.junk (RA m c t h).1)

theorem dkA_cover (c : Dev nD) (t : Fin cfg0.N) (h : t.val % 2 = 0) (y : S2048x256.Idx) :
    ∃ pc ∈ (RA m c t h).1, y ∈ pc.1.set :=
  View.cover_of_tiledL (RA m c t h).1 S512x128.size (by sl_kernel_rfl) y

theorem dkA_read (c : Dev nD) (t : Fin cfg0.N) (h : t.val % 2 = 0) (f : (st0_6 t).view.ty.Contents (Elt F)) :
    (st0_6 t).view.read (Elt F) ((st0_6 t).view.writes (Elt F) f (RA m c t h).1) = dkA m c t h :=
  View.read_writes_of_cover _ _ _ _ _ (dkA_cover m c t h)

/-- The block of value gradients stored at an even point. -/
def dvA (c : Dev nD) (t : Fin cfg0.N) (h : t.val % 2 = 0) :=
  (st0_7 t).view.read (Elt F) ((st0_7 t).view.writes (Elt F) (st0_7 t).view.junk (RA m c t h).2.1)

theorem dvA_cover (c : Dev nD) (t : Fin cfg0.N) (h : t.val % 2 = 0) (y : S2048x256.Idx) :
    ∃ pc ∈ (RA m c t h).2.1, y ∈ pc.1.set :=
  View.cover_of_tiledL (RA m c t h).2.1 S512x128.size (by sl_kernel_rfl) y

theorem dvA_read (c : Dev nD) (t : Fin cfg0.N) (h : t.val % 2 = 0) (f : (st0_7 t).view.ty.Contents (Elt F)) :
    (st0_7 t).view.read (Elt F) ((st0_7 t).view.writes (Elt F) f (RA m c t h).2.1) = dvA m c t h :=
  View.read_writes_of_cover _ _ _ _ _ (dvA_cover m c t h)

/-- The block of key gradients stored at an odd point. -/
def dkB (c : Dev nD) (t : Fin cfg0.N) (h : t.val % 2 = 1) (xs0 : Vec F S4096x256 .f32) :=
  (st0_6 t).view.read (Elt F) ((st0_6 t).view.writes (Elt F) (st0_6 t).view.junk (RB m c t h xs0).1)

theorem dkB_cover (c : Dev nD) (t : Fin cfg0.N) (h : t.val % 2 = 1) (xs0 : Vec F S4096x256 .f32) (y : S2048x256.Idx) :
    ∃ pc ∈ (RB m c t h xs0).1, y ∈ pc.1.set :=
  View.cover_of_tiledL (RB m c t h xs0).1 S512x128.size (by sl_kernel_rfl) y

theorem dkB_read (c : Dev nD) (t : Fin cfg0.N) (h : t.val % 2 = 1) (xs0 : Vec F S4096x256 .f32) (f : (st0_6 t).view.ty.Contents (Elt F)) :
    (st0_6 t).view.read (Elt F) ((st0_6 t).view.writes (Elt F) f (RB m c t h xs0).1) = dkB m c t h xs0 :=
  View.read_writes_of_cover _ _ _ _ _ (dkB_cover m c t h xs0)

/-- The block of value gradients stored at an odd point. -/
def dvB (c : Dev nD) (t : Fin cfg0.N) (h : t.val % 2 = 1) (xs0 : Vec F S4096x256 .f32) :=
  (st0_7 t).view.read (Elt F) ((st0_7 t).view.writes (Elt F) (st0_7 t).view.junk (RB m c t h xs0).2.1)

theorem dvB_cover (c : Dev nD) (t : Fin cfg0.N) (h : t.val % 2 = 1) (xs0 : Vec F S4096x256 .f32) (y : S2048x256.Idx) :
    ∃ pc ∈ (RB m c t h xs0).2.1, y ∈ pc.1.set :=
  View.cover_of_tiledL (RB m c t h xs0).2.1 S512x128.size (by sl_kernel_rfl) y

theorem dvB_read (c : Dev nD) (t : Fin cfg0.N) (h : t.val % 2 = 1) (xs0 : Vec F S4096x256 .f32) (f : (st0_7 t).view.ty.Contents (Elt F)) :
    (st0_7 t).view.read (Elt F) ((st0_7 t).view.writes (Elt F) f (RB m c t h xs0).2.1) = dvB m c t h xs0 :=
  View.read_writes_of_cover _ _ _ _ _ (dvB_cover m c t h xs0)

/-- The block of query gradients stored at an odd point. -/
def dqB (c : Dev nD) (t : Fin cfg0.N) (h : t.val % 2 = 1) (xs0 : Vec F S4096x256 .f32) :=
  (st0_8 t).view.read (Elt F) ((st0_8 t).view.writes (Elt F) (st0_8 t).view.junk (RB m c t h xs0).2.2.1)

theorem dqB_cover (c : Dev nD) (t : Fin cfg0.N) (h : t.val % 2 = 1) (xs0 : Vec F S4096x256 .f32) (y : S4096x256.Idx) :
    ∃ pc ∈ (RB m c t h xs0).2.2.1, y ∈ pc.1.set :=
  View.cover_of_tiledL (RB m c t h xs0).2.2.1 S4096x256.size (by sl_kernel_rfl) y

theorem dqB_read (c : Dev nD) (t : Fin cfg0.N) (h : t.val % 2 = 1) (xs0 : Vec F S4096x256 .f32) (f : (st0_8 t).view.ty.Contents (Elt F)) :
    (st0_8 t).view.read (Elt F) ((st0_8 t).view.writes (Elt F) f (RB m c t h xs0).2.2.1) = dqB m c t h xs0 :=
  View.read_writes_of_cover _ _ _ _ _ (dqB_cover m c t h xs0)

/-- What an even point leaves in the scratch. -/
def scrA (c : Dev nD) (t : Fin cfg0.N) (h : t.val % 2 = 0) : Vec F S4096x256 .f32 :=
  scM.view.read (Elt F) (scM.view.writes (Elt F) scM.view.junk (RA m c t h).2.2.1)

/-- What an odd point leaves in the scratch, from what it held. -/
def scrB (c : Dev nD) (t : Fin cfg0.N) (h : t.val % 2 = 1) (xs0 : Vec F S4096x256 .f32) : Vec F S4096x256 .f32 :=
  scM.view.read (Elt F) (scM.view.writes (Elt F) ((Memref.isWhole_whole _ : scM.IsWhole).unread xs0) (RB m c t h xs0).2.2.2.1)

-- NB

/-- The scratch after each point. -/
def scr (c : Dev nD) : (n : ℕ) → n < cfg0.N → Vec F S4096x256 .f32
  | 0, hn => scrA m c ⟨0, hn⟩ rfl
  | n + 1, hn =>
    if h : (n + 1) % 2 = 0 then scrA m c ⟨n + 1, hn⟩ h
    else scrB m c ⟨n + 1, hn⟩ (by show (n + 1) % 2 = 1; omega) (scr c n (by omega))

theorem scr_even (c : Dev nD) (t : Fin cfg0.N) (h : t.val % 2 = 0) : scr m c t.val t.isLt = scrA m c t h := by
  obtain ⟨n, hn⟩ := t
  cases n with
  | zero => rfl
  | succ n => exact dif_pos h

theorem scr_odd (c : Dev nD) (t : Fin cfg0.N) (h : t.val % 2 = 1) :
    scr m c t.val t.isLt = scrB m c t h (scr m c (t.val - 1) (by omega)) := by
  obtain ⟨n, hn⟩ := t
  cases n with
  | zero => simp at h
  | succ n => exact dif_neg (by show ¬ (n + 1) % 2 = 0; have : (n + 1) % 2 = 1 := h; omega)

theorem odd_of {t : Fin cfg0.N} (h : ¬ t.val % 2 = 0) : t.val % 2 = 1 := by omega

/-- The block of key gradients after point `t`. -/
def dkOut (c : Dev nD) (t : Fin cfg0.N) : Vec F S2048x256 .bf16 :=
  if h : t.val % 2 = 0 then dkA m c t h else dkB m c t (odd_of h) (scr m c (t.val - 1) (by omega))

/-- The block of value gradients after point `t`. -/
def dvOut (c : Dev nD) (t : Fin cfg0.N) : Vec F S2048x256 .bf16 :=
  if h : t.val % 2 = 0 then dvA m c t h else dvB m c t (odd_of h) (scr m c (t.val - 1) (by omega))

/-- The block of query gradients after an odd point `t`; at an even point nothing reads it. -/
def dqOut (c : Dev nD) (t : Fin cfg0.N) : Vec F S4096x256 .bf16 :=
  if h : t.val % 2 = 0 then (st0_8 t).view.read (Elt F) (st0_8 t).view.junk
  else dqB m c t (odd_of h) (scr m c (t.val - 1) (by omega))

/-- What the region holds between points: before the first anything in the scratch, afterwards what the point before left. -/
def Phi (c : Dev nD) : (n : ℕ) → n ≤ cfg0.N → sProp 𝕄
  | 0, _ => Pipeline.ΦA spec0 c
  | n + 1, hn => iprop(owns (c : Thread nD τ) scM fullShare (scr m c n hn) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(owns (c : Thread nD τ) scM fullShare (scr m c n hn) ∗ (∃ r, prngReg c r)) := rfl

theorem Phi_pos (c : Dev nD) (n : ℕ) (h : n ≤ cfg0.N) (hz : n ≠ 0) :
    Phi m c n h = iprop(owns (c : Thread nD τ) scM fullShare (scr m c (n - 1) (by omega)) ∗ (∃ r, prngReg c r)) := by
  cases n with
  | zero => exact absurd rfl hz
  | succ n => rfl

/-- Whatever the scratch holds may be forgotten. -/
theorem Phi_forget (c : Dev nD) (n : ℕ) (h : n ≤ cfg0.N) : Phi m c n h ⊢ Pipeline.ΦA spec0 c := by
  cases n with
  | zero => rw [Phi_zero m c 0 h rfl]
  | succ n =>
    rw [Phi_succ, PhiA_eq]
    iintro ⟨HS, Hg⟩
    isplitl [HS]
    · iexists _; iexact HS
    iexact Hg

/-- The pipeline's proof data: each input's buffer at its block, the outputs as above, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dkOut m c t
    | ⟨7, _⟩ => dvOut m c t
    | ⟨8, _⟩ => dqOut m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dkOut m c t := by dsimp only [dats]
theorem after_7 (c : Dev nD) (t : Fin cfg0.N) : (dats m 0 c).after 7 t = dvOut m c t := by dsimp only [dats]
theorem after_8 (c : Dev nD) (t : Fin cfg0.N) : (dats m 0 c).after 8 t = dqOut m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem flush8_even (t : Fin cfg0.N) (h : t.val % 2 = 0) : (cfg0.win 8).flush t = false :=
  Bool.eq_false_iff.mpr fun e => by have := (flush0_8 t).mp e; omega

theorem idle8_even (t : Fin cfg0.N) (h : t.val % 2 = 0) : cfg0.idle 8 (cfg0.grid.coords t) = true := by
  show (!(k0_cond2 (grid0.coords t) == 1#1)) = true
  have : ¬ k0_cond2 (grid0.coords t) = 1#1 := fun e => by have := (isLast_iff t).mp e; omega
  simp [this]

theorem idle8_odd (t : Fin cfg0.N) (h : t.val % 2 = 1) : cfg0.idle 8 (cfg0.grid.coords t) = false := by
  show (!(k0_cond2 (grid0.coords t) == 1#1)) = false
  have : k0_cond2 (grid0.coords t) = 1#1 := (isLast_iff t).mpr h
  simp [this]

/-- What the body is called with at point `t`. -/
def bodyPre (c : Dev nD) (t : Fin cfg0.N) : sProp 𝕄 :=
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns: the block of query gradients as it was where the point does not store it. -/
def bodyPost (c : Dev nD) (t : Fin cfg0.N) : sProp 𝕄 :=
    iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (match cfg0.idle 8 (cfg0.grid.coords t) with
      | true => match (cfg0.win 8).flush t with
        | false => iprop(∃ d, owns (c : Thread nD τ) (st0_8 t) fullShare ((dats m 0 c).before 8 t d))
        | true => owns (c : Thread nD τ) (st0_8 t) fullShare ((dats m 0 c).after 8 t)
      | false => owns (c : Thread nD τ) (st0_8 t) fullShare ((dats m 0 c).after 8 t)))

set_option maxHeartbeats 1000000 in
/-- The body at an even point, from what the pipeline hands it to what it hands back. -/
theorem soundA (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost
  rw [idle8_even t h, flush8_even t h]
  simp only [before_0, before_1, before_2, before_3, before_4, before_5]
  rw [show (dats m 0 c).owesAt () t.succ = (dats m 0 c).owesAt () t.castSucc from rfl,
    after_0, after_1, after_2, after_3, after_4, after_5, after_6, after_7]
  rw [show (dats m 0 c).Φ t.succ = Phi m c (t.val + 1) t.isLt from rfl, Phi_succ, Phi_castSucc m c t]
  rw [scr_even m c t h, show dkOut m c t = dkA m c t h from dif_pos h, show dvOut m c t = dvA m c t h from dif_pos h]
  unfold scrA bodyAt0
  refine (sep_mono_left (Phi_forget m c t.val (Nat.le_of_lt t.isLt))).trans ?_
  rw [PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((RA m c t h).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS]; · iexact HS
  iintro ⟨H0, H1, H2, H3, H4, H5, ⟨%e6, H6⟩, ⟨%e7, H7⟩, H8, HS⟩
  isplitl [HS Hg]
  · isplitl [HS]
    · unfold owns; iexists _; isplitr
      swap; · iexact HS
      ipureintro; with_reducible rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact dkA_read m c t h _
  isplitl [H7]
  · unfold owns; iexists _; isplitr
    swap; · iexact H7
    ipureintro; exact dvA_read m c t h _
  iexists _; iexact H8

set_option maxHeartbeats 1000000 in
/-- The body at an odd point, from what the pipeline hands it to what it hands back. -/
theorem soundB (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost
  rw [idle8_odd t h]
  simp only [before_0, before_1, before_2, before_3, before_4, before_5]
  rw [show (dats m 0 c).owesAt () t.succ = (dats m 0 c).owesAt () t.castSucc from rfl,
    after_0, after_1, after_2, after_3, after_4, after_5, after_6, after_7, after_8]
  rw [show (dats m 0 c).Φ t.succ = Phi m c (t.val + 1) t.isLt from rfl, Phi_succ, Phi_castSucc m c t]
  rw [scr_odd m c t h, show dkOut m c t = dkB m c t h _ from dif_neg (by omega), show dvOut m c t = dvB m c t h _ from dif_neg (by omega),
    show dqOut m c t = dqB m c t h _ from dif_neg (by omega)]
  rw [Phi_pos m c _ _ (by omega : t.val ≠ 0)]
  unfold scrB bodyAt0
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((RB m c t h (scr m c (t.val - 1) (by omega))).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, ⟨%e6, H6⟩, ⟨%e7, H7⟩, ⟨%e8, H8⟩, HS⟩
  isplitl [HS Hg]
  · isplitl [HS]
    · unfold owns; iexists _; isplitr
      swap; · iexact HS
      ipureintro; with_reducible rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact dkB_read m c t h (scr m c (t.val - 1) (by omega)) _
  isplitl [H7]
  · unfold owns; iexists _; isplitr
    swap; · iexact H7
    ipureintro; exact dvB_read m c t h (scr m c (t.val - 1) (by omega)) _
  unfold owns; iexists _; isplitr
  swap; · iexact H8
  ipureintro; exact dqB_read m c t h (scr m c (t.val - 1) (by omega)) _

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  show bodyPre m c t ⊢ wp frame (wpE (defs₀ (F := F)) Variants.none c none) Set.univ (bodyAt0 t) (fun _ => bodyPost m c t)
  by_cases h : t.val % 2 = 0
  · exact soundA m c t h
  · exact soundB m c t (odd_of h)

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_forget m c _ _

set_option backward.isDefEq.respectTransparency.types false in
/-- The launch: the program runs to its end, the arrays of the pipeline as the proof data says, every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program runs to its end, its arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.AttnIdeal.Gen

end
-- ==== Proof.AttnBits.lean ====
/- The frame of the attention gradient's kernel on machine words. The two printed programs are the same text, so the run that holds
   over any numbers is this one's too. -/
module

public import proofs.«01_k».proof.Defs
public import proofs.«01_k».proof.Proof.AttnIdealFrame
public import proofs.«01_k».proof.Proof.Gen.Attn.Frame

@[expose] public section

noncomputable section

open Idealize.ShloMosaic Idealize.ShloMosaic.TcCoe Idealize.ShloMosaic.Tactic

namespace Cert.AttnBits

attribute [local instance] Cert.Attn.Gen.facts Cert.AttnIdeal.Gen.facts

/-- The frame's statement, spelled with the other program's text. -/
def Q : Prop :=
  ∀ (m : (ℓ : Loc Cert.AttnIdeal.nD Cert.AttnIdeal.τ Cert.AttnIdeal.sig) → Buf (Elt Bits) ℓ) (g : Dev Cert.AttnIdeal.nD → PrngReg), True →
    θ_run (Cert.AttnIdeal.defs (F := Bits)) (onTc (τ := Cert.AttnIdeal.τ) (Cert.AttnIdeal.main (F := Bits))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

theorem q : Q := fun m g _ => Cert.AttnIdeal.Gen.frame m g

theorem same : Cert.quiescent_Attn = Q := by sl_kernel_rfl

theorem frame_kernel : Cert.quiescent_Attn := same ▸ q

end Cert.AttnBits
end
-- ==== Proof.AttnModel.lean ====
/- The arithmetic of the attention gradient's body on blocks of 512 rows: one definition per line of the body,
   and the sums the body carries, over any float type. -/
module

public import proofs.«01_k».proof.Proof.Gen.AttnIdeal.Skeleton

@[expose] public section

set_option maxRecDepth 16384

noncomputable section

open Idealize.ShloMosaic Idealize.ShloMosaic.TcCoe Idealize.SL.Sem

namespace Cert.AttnModel

open Cert.AttnIdeal Cert.AttnIdeal.Gen

variable {F : FTy → Type} [FloatOps F]

/-- What one block of queries sees of a pair of heads: its queries and cotangents, the four blocks of keys and
    values, the log-sum-exp and the row sums `do · o`, each for both heads. -/
structure Blocks (F : FTy → Type) where
  q : Fin 2 → Vec F S512x128 .bf16
  k : Fin 2 → Fin 4 → Vec F S512x128 .bf16
  v : Fin 2 → Fin 4 → Vec F S512x128 .bf16
  ct : Fin 2 → Vec F S512x128 .bf16
  lse : Fin 2 → Vec F S1x1x1x512 .f32
  del : Fin 2 → Vec F S1x1x1x512 .f32

/-- A block as it is: a cast to its own shape. -/
def same {e : EltTy} (x : Vec F S512x128 e) : Vec F S512x128 e := shapeCast S512x128 x shapeCasts_S512x128_S512x128

/-- Keys against queries (or values against cotangents): `a · bᵀ`. -/
def nt (a b : FVec F S512x128 .bf16) : FVec F S512x512 .f32 :=
  matmul dot_S512x128_S512x128_S512x512_1_1_0_0_n_n none a b (constant S512x512 .f32 0x00000000#32)

/-- `w · x` for a 512 × 512 block of weights. -/
def nn (w : FVec F S512x512 .bf16) (x : FVec F S512x128 .bf16) : FVec F S512x128 .f32 :=
  matmul dot_S512x512_S512x128_S512x128_1_0_0_1_n_n none w x (constant S512x128 .f32 0x00000000#32)

/-- `wᵀ · x` for a 512 × 512 block of weights. -/
def tn (w : FVec F S512x512 .bf16) (x : FVec F S512x128 .bf16) : FVec F S512x128 .f32 :=
  matmul dot_S512x512_S512x128_S512x128_0_0_1_1_n_n none w x (constant S512x128 .f32 0x00000000#32)

/-- One number per query, on every row of keys. -/
def rows (x : Vec F S1x1x1x512 .f32) : FVec F S512x512 .f32 :=
  broadcastTo S512x512 (shapeCast S1x512 x shapeCasts_S1x1x1x512_S1x512) broadcasts_S1x512_S512x512

/-- The scale of the scores. -/
def scale : FVec F S512x512 .f32 := broadcast S512x512 (Scalar.ofBits .f32 0x3DD105EC#32)

/-- The probabilities of a block that lies below the diagonal. -/
def full (b : Blocks F) (h : Fin 2) (g : Fin 4) : FVec F S512x512 .f32 :=
  exp (subf (mulf (nt (same (b.k h g)) (same (b.q h))) scale) (rows (b.lse h)))

/-- The probabilities of a block; on the diagonal the keys after the query count for nothing. -/
def prob (diag : Bool) (b : Blocks F) (h : Fin 2) (g : Fin 4) : FVec F S512x512 .f32 :=
  match diag with
  | true => select k0_pay113 (full b h g) (broadcast S512x512 (Scalar.ofBits .f32 0x00000000#32))
  | false => full b h g

/-- The gradient of the scores. -/
def dscore (diag : Bool) (b : Blocks F) (h : Fin 2) (g : Fin 4) : FVec F S512x512 .bf16 :=
  truncf .bf16 (mulf (mulf (prob diag b h g) (subf (nt (same (b.v h g)) (same (b.ct h))) (rows (b.del h)))) scale) bitsLt_bf16_f32

/-- One more block of queries into the gradient of the values. -/
def dvStep (diag : Bool) (b : Blocks F) (h : Fin 2) (g : Fin 4) (acc : FVec F S512x128 .f32) : FVec F S512x128 .f32 :=
  addf acc (nn (truncf .bf16 (prob diag b h g) bitsLt_bf16_f32) (same (b.ct h)))

/-- One more block of queries into the gradient of the keys. -/
def dkStep (diag : Bool) (b : Blocks F) (h : Fin 2) (g : Fin 4) (acc : FVec F S512x128 .f32) : FVec F S512x128 .f32 :=
  addf acc (nn (dscore diag b h g) (same (b.q h)))

/-- A block of keys' share of the gradient of a block of queries. -/
def dqTerm (diag : Bool) (b : Blocks F) (h : Fin 2) (g : Fin 4) : FVec F S512x128 .f32 :=
  tn (dscore diag b h g) (same (b.k h g))

/-- The shares of the blocks of keys a block of queries sees: `d + 1` of them, the last on the diagonal, or all four. -/
def dqSum (b : Blocks F) (h : Fin 2) : ℕ → FVec F S512x128 .f32
  | 0 => dqTerm true b h 0
  | 1 => addf (dqTerm false b h 0) (dqTerm true b h 1)
  | 2 => addf (addf (dqTerm false b h 0) (dqTerm false b h 1)) (dqTerm true b h 2)
  | 3 => addf (addf (addf (dqTerm false b h 0) (dqTerm false b h 1)) (dqTerm false b h 2)) (dqTerm true b h 3)
  | _ => addf (addf (addf (dqTerm false b h 0) (dqTerm false b h 1)) (dqTerm false b h 2)) (dqTerm false b h 3)

/-- What is stored over a block of the sum of query gradients. -/
def dqStore (old new : FVec F S512x128 .f32) : FVec F S512x128 .f32 :=
  shapeCast S512x128 (addf old new) shapeCasts_S512x128_S512x128

/-- The zero the sums begin with. -/
def zero : FVec F S512x128 .f32 := broadcast S512x128 (Scalar.ofBits .f32 0x00000000#32)

/-- The gradient of the values of block `g` after the diagonal block of queries and `m` more. -/
def dvAcc (b : ℕ → Blocks F) (h : Fin 2) (g : Fin 4) : ℕ → FVec F S512x128 .f32
  | 0 => dvStep true (b g) h g zero
  | m + 1 => dvStep false (b (g + (m + 1))) h g (dvAcc b h g m)

/-- The gradient of the keys of block `g` after the diagonal block of queries and `m` more. -/
def dkAcc (b : ℕ → Blocks F) (h : Fin 2) (g : Fin 4) : ℕ → FVec F S512x128 .f32
  | 0 => dkStep true (b g) h g zero
  | m + 1 => dkStep false (b (g + (m + 1))) h g (dkAcc b h g m)

/-- The sixteen sums a trip of the loop carries. -/
abbrev Carry (F : FTy → Type) := FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32 × FVec F S512x128 .f32

/-- The sixteen sums, key and value gradient of each head and block of keys in turn. -/
def carry (k v : Fin 2 → Fin 4 → FVec F S512x128 .f32) : Carry F :=
  (k 0 0, v 0 0, k 0 1, v 0 1, k 0 2, v 0 2, k 0 3, v 0 3, k 1 0, v 1 0, k 1 1, v 1 1, k 1 2, v 1 2, k 1 3, v 1 3)

/-- The sums after the four unrolled blocks of queries and `m` more. -/
def sums (b : ℕ → Blocks F) (m : ℕ) : Carry F :=
  carry (fun h g => dkAcc b h g (3 - g + m)) (fun h g => dvAcc b h g (3 - g + m))

end Cert.AttnModel
-- ==== Proof.AttnTrip.lean ====
/- One trip of the loop of the attention gradient's body, in the words of the model. -/
module

public import proofs.«01_k».proof.Proof.AttnModel
public import proofs.«01_k».proof.Proof.Gen.AttnIdeal.Loops

@[expose] public section

set_option maxRecDepth 16384

noncomputable section

open Idealize.ShloMosaic Idealize.ShloMosaic.TcCoe Idealize.SL.Sem Idealize.ShloMosaic.Tactic

namespace Cert.AttnTrip

open Cert.AttnIdeal Cert.AttnIdeal.Gen Cert.AttnModel

variable {F : FTy → Type} [FloatOps F]

variable (c : Dev nD) (i : grid0.Coords) (arg3 : Memref sig .tc .vmem S4096x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S1x2x8x4096 .f32) (harg7 : arg7.IsWhole) (arg8 : Memref sig .tc .vmem S1x2x8x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x256 .bf16) (harg11 : arg11.IsWhole) (arg12 : Memref sig .tc .vmem S4096x256 .f32) (harg12 : arg12.IsWhole)

variable (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- The four blocks of keys (or of values) of both heads, as the body loads them. -/
def keyLoads (m : Memref sig .tc .vmem S2048x256 .bf16) (X : BufTy.Contents (Elt F) m.view.ty) : Fin 2 → Fin 4 → Vec F S512x128 .bf16
  | 0, 0 => View.readAt (Elt F) m.view (Rect.unit (s := S2048x256) ![0, 0] S512x128.size inb_S2048x256_S512x128_0_0).toLoadRect X
  | 0, 1 => View.readAt (Elt F) m.view (Rect.unit (s := S2048x256) ![512, 0] S512x128.size inb_S2048x256_S512x128_512_0).toLoadRect X
  | 0, 2 => View.readAt (Elt F) m.view (Rect.unit (s := S2048x256) ![1024, 0] S512x128.size inb_S2048x256_S512x128_1024_0).toLoadRect X
  | 0, 3 => View.readAt (Elt F) m.view (Rect.unit (s := S2048x256) ![1536, 0] S512x128.size inb_S2048x256_S512x128_1536_0).toLoadRect X
  | 1, 0 => View.readAt (Elt F) m.view (Rect.unit (s := S2048x256) ![0, 128] S512x128.size inb_S2048x256_S512x128_0_128).toLoadRect X
  | 1, 1 => View.readAt (Elt F) m.view (Rect.unit (s := S2048x256) ![512, 128] S512x128.size inb_S2048x256_S512x128_512_128).toLoadRect X
  | 1, 2 => View.readAt (Elt F) m.view (Rect.unit (s := S2048x256) ![1024, 128] S512x128.size inb_S2048x256_S512x128_1024_128).toLoadRect X
  | 1, 3 => View.readAt (Elt F) m.view (Rect.unit (s := S2048x256) ![1536, 128] S512x128.size inb_S2048x256_S512x128_1536_128).toLoadRect X

/-- The blocks a trip of the loop loads. -/
def tripBlocks (k : Fin (k0_t1_loop i).trips) : Blocks F where
  q := fun | 0 => View.readAt (Elt F) arg3.view (Rect.unit (s := S4096x256) (k0_off5 i k) S512x128.size (k0_off5_inb i k)).toLoadRect X3
           | 1 => View.readAt (Elt F) arg3.view (Rect.unit (s := S4096x256) (k0_off7 i k) S512x128.size (k0_off7_inb i k)).toLoadRect X3
  k := keyLoads arg4 X4
  v := keyLoads arg5 X5
  ct := fun | 0 => View.readAt (Elt F) arg6.view (Rect.unit (s := S4096x256) (k0_off5 i k) S512x128.size (k0_off5_inb i k)).toLoadRect X6
            | 1 => View.readAt (Elt F) arg6.view (Rect.unit (s := S4096x256) (k0_off7 i k) S512x128.size (k0_off7_inb i k)).toLoadRect X6
  lse := fun | 0 => View.readAt (Elt F) arg7.view (Rect.unit (s := S1x2x8x4096) (k0_off6 i k) S1x1x1x512.size (k0_off6_inb i k)).toLoadRect X7
             | 1 => View.readAt (Elt F) arg7.view (Rect.unit (s := S1x2x8x4096) (k0_off8 i k) S1x1x1x512.size (k0_off8_inb i k)).toLoadRect X7
  del := fun | 0 => View.readAt (Elt F) arg8.view (Rect.unit (s := S1x2x8x4096) (k0_off6 i k) S1x1x1x512.size (k0_off6_inb i k)).toLoadRect X8
             | 1 => View.readAt (Elt F) arg8.view (Rect.unit (s := S1x2x8x4096) (k0_off8 i k) S1x1x1x512.size (k0_off8_inb i k)).toLoadRect X8

/-- The sums after one more block of queries, wholly below the diagonal. -/
def next (b : Blocks F) (acc : Carry F) : Carry F :=
  match acc with
  | (a0, a1, a2, a3, a4, a5, a6, a7, a8, a9, a10, a11, a12, a13, a14, a15) =>
    (dkStep false b 0 0 a0, dvStep false b 0 0 a1, dkStep false b 0 1 a2, dvStep false b 0 1 a3, dkStep false b 0 2 a4, dvStep false b 0 2 a5,
      dkStep false b 0 3 a6, dvStep false b 0 3 a7, dkStep false b 1 0 a8, dvStep false b 1 0 a9, dkStep false b 1 1 a10, dvStep false b 1 1 a11,
      dkStep false b 1 2 a12, dvStep false b 1 2 a13, dkStep false b 1 3 a14, dvStep false b 1 3 a15)

variable (arg2 : BitVec 32) (v487 v501 v516 v530 v546 v560 v578 v592 v621 v635 v650 v664 v680 v694 v712 v726 v731 : FVec F S512x128 .f32) (v737 : BitVec 32)

/-- What a trip carries on. -/
theorem tripR_eq (k : Fin (k0_t1_loop i).trips) (acc : Carry F) (f : BufTy.Contents (Elt F) arg12.view.ty) :
    tripR_k0_t1 (F := F) Variants.none c none i arg3 harg3 arg4 harg4 arg5 harg5 arg6 harg6 arg7 harg7 arg8 harg8 arg9 harg9 arg10 harg10 arg11 harg11 arg12 harg12 arg2 v487 v501 v516 v530 v546 v560 v578 v592 v621 v635 v650 v664 v680 v694 v712 v726 v731 v737 X3 X4 X5 X6 X7 X8 k acc f
      = next (tripBlocks i arg3 arg4 arg5 arg6 arg7 arg8 X3 X4 X5 X6 X7 X8 k) acc := by
  unfold tripR_k0_t1 trip_k0_t1
  sl_kernel_rfl

/-- What a trip stores. -/
theorem tripL_eq (k : Fin (k0_t1_loop i).trips) (acc : Carry F) (f : BufTy.Contents (Elt F) arg12.view.ty) :
    tripL_k0_t1 (F := F) Variants.none c none i arg3 harg3 arg4 harg4 arg5 harg5 arg6 harg6 arg7 harg7 arg8 harg8 arg9 harg9 arg10 harg10 arg11 harg11 arg12 harg12 arg2 v487 v501 v516 v530 v546 v560 v578 v592 v621 v635 v650 v664 v680 v694 v712 v726 v731 v737 X3 X4 X5 X6 X7 X8 k acc f
      = [⟨Rect.unit (s := S4096x256) (k0_off7 i k) S512x128.size (k0_off7_inb i k), dqStore (View.readAt (Elt F) arg12.view (Rect.unit (s := S4096x256) (k0_off7 i k) S512x128.size (k0_off7_inb i k)).toLoadRect f) (dqSum (tripBlocks i arg3 arg4 arg5 arg6 arg7 arg8 X3 X4 X5 X6 X7 X8 k) 1 4)⟩,
         ⟨Rect.unit (s := S4096x256) (k0_off5 i k) S512x128.size (k0_off5_inb i k), dqStore (View.readAt (Elt F) arg12.view (Rect.unit (s := S4096x256) (k0_off5 i k) S512x128.size (k0_off5_inb i k)).toLoadRect f) (dqSum (tripBlocks i arg3 arg4 arg5 arg6 arg7 arg8 X3 X4 X5 X6 X7 X8 k) 0 4)⟩] := by
  unfold tripL_k0_t1 trip_k0_t1
  sl_kernel_rfl

end Cert.AttnTrip
-- ==== Proof.AttnPoint.lean ====
/- A whole point of the attention gradient's grid, in the words of the model: what is stored as key and value
   gradients, and the list of stores to the sum of query gradients. -/
module

public import proofs.«01_k».proof.Proof.AttnTrip
public import proofs.«01_k».proof.Proof.AttnIdealRunA
public import proofs.«01_k».proof.Proof.AttnIdealRunB

@[expose] public section

set_option maxRecDepth 16384

noncomputable section

open Idealize.ShloMosaic Idealize.ShloMosaic.TcCoe Idealize.SL.Sem Idealize.ShloMosaic.Tactic

namespace Cert.AttnPoint

open Cert.AttnIdeal Cert.AttnIdeal.Gen Cert.AttnModel Cert.AttnTrip

variable {F : FTy → Type} [FloatOps F]

variable (c : Dev nD) (i : grid0.Coords) (arg3 : Memref sig .tc .vmem S4096x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S1x2x8x4096 .f32) (harg7 : arg7.IsWhole) (arg8 : Memref sig .tc .vmem S1x2x8x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x256 .bf16) (harg11 : arg11.IsWhole) (arg12 : Memref sig .tc .vmem S4096x256 .f32) (harg12 : arg12.IsWhole)

variable (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- The blocks the unrolled part of the body loads, at its `r`-th block of queries. -/
def unrBlocks (r : Fin 4) : Blocks F where
  q := fun | 0 => View.readAt (Elt F) arg3.view (Rect.unit (s := S4096x256) (k0_off1 i (BitVec.ofNat 32 r.val)) S512x128.size (k0_off1_inb i r)).toLoadRect X3
           | 1 => View.readAt (Elt F) arg3.view (Rect.unit (s := S4096x256) (k0_off3 i (BitVec.ofNat 32 r.val)) S512x128.size (k0_off3_inb i r)).toLoadRect X3
  k := keyLoads arg4 X4
  v := keyLoads arg5 X5
  ct := fun | 0 => View.readAt (Elt F) arg6.view (Rect.unit (s := S4096x256) (k0_off1 i (BitVec.ofNat 32 r.val)) S512x128.size (k0_off1_inb i r)).toLoadRect X6
            | 1 => View.readAt (Elt F) arg6.view (Rect.unit (s := S4096x256) (k0_off3 i (BitVec.ofNat 32 r.val)) S512x128.size (k0_off3_inb i r)).toLoadRect X6
  lse := fun | 0 => View.readAt (Elt F) arg7.view (Rect.unit (s := S1x2x8x4096) (k0_off2 i (BitVec.ofNat 32 r.val)) S1x1x1x512.size (k0_off2_inb i r)).toLoadRect X7
             | 1 => View.readAt (Elt F) arg7.view (Rect.unit (s := S1x2x8x4096) (k0_off4 i (BitVec.ofNat 32 r.val)) S1x1x1x512.size (k0_off4_inb i r)).toLoadRect X7
  del := fun | 0 => View.readAt (Elt F) arg8.view (Rect.unit (s := S1x2x8x4096) (k0_off2 i (BitVec.ofNat 32 r.val)) S1x1x1x512.size (k0_off2_inb i r)).toLoadRect X8
             | 1 => View.readAt (Elt F) arg8.view (Rect.unit (s := S1x2x8x4096) (k0_off4 i (BitVec.ofNat 32 r.val)) S1x1x1x512.size (k0_off4_inb i r)).toLoadRect X8

/-- The same, numbered by any natural number. -/
def unr (n : ℕ) : Blocks F := unrBlocks i arg3 arg4 arg5 arg6 arg7 arg8 X3 X4 X5 X6 X7 X8 ⟨n % 4, Nat.mod_lt _ (by decide)⟩

/-- One store of the unrolled part over the sum of query gradients: the `r`-th block of queries and head `h`, the block
    read from contents `f`. -/
def store (b : ℕ → Blocks F) (r : Fin 4) (h : Fin 2) (f : BufTy.Contents (Elt F) arg12.view.ty) : View.Piece (Elt F) S4096x256 .f32 :=
  match h with
  | 0 => ⟨Rect.unit (s := S4096x256) (k0_off1 i (BitVec.ofNat 32 r.val)) S512x128.size (k0_off1_inb i r),
      dqStore (View.readAt (Elt F) arg12.view (Rect.unit (s := S4096x256) (k0_off1 i (BitVec.ofNat 32 r.val)) S512x128.size (k0_off1_inb i r)).toLoadRect f) (dqSum (b r) 0 r)⟩
  | 1 => ⟨Rect.unit (s := S4096x256) (k0_off3 i (BitVec.ofNat 32 r.val)) S512x128.size (k0_off3_inb i r),
      dqStore (View.readAt (Elt F) arg12.view (Rect.unit (s := S4096x256) (k0_off3 i (BitVec.ofNat 32 r.val)) S512x128.size (k0_off3_inb i r)).toLoadRect f) (dqSum (b r) 1 r)⟩

/-- The first `m` of the eight unrolled stores, last first, each read from contents the ones before left. -/
def storesA (b : ℕ → Blocks F) (G : BufTy.Contents (Elt F) arg12.view.ty) (L : List (View.Piece (Elt F) S4096x256 .f32)) : ℕ → List (View.Piece (Elt F) S4096x256 .f32)
  | 0 => L
  | m + 1 => store i arg12 b ⟨m / 2 % 4, Nat.mod_lt _ (by decide)⟩ ⟨m % 2, Nat.mod_lt _ (by decide)⟩ (arg12.view.writes (Elt F) G (storesA b G L m)) :: storesA b G L m

/-- The first `m` of the eight unrolled stores, last first, each read from the contents the point found. -/
def storesB (b : ℕ → Blocks F) (G : BufTy.Contents (Elt F) arg12.view.ty) : ℕ → List (View.Piece (Elt F) S4096x256 .f32)
  | 0 => []
  | m + 1 => store i arg12 b ⟨m / 2 % 4, Nat.mod_lt _ (by decide)⟩ ⟨m % 2, Nat.mod_lt _ (by decide)⟩ G :: storesB b G m

/-- The loop over the blocks of queries wholly below the diagonal. -/
def loop (b : ℕ → Blocks F) (w : FVec F S512x128 .f32) (G : BufTy.Contents (Elt F) arg12.view.ty) (m : ℕ) :=
  st_k0_t1 (F := F) Variants.none c none i arg3 harg3 arg4 harg4 arg5 harg5 arg6 harg6 arg7 harg7 arg8 harg8 arg9 harg9 arg10 harg10 arg11 harg11 arg12 harg12 (BitVec.ofNat 32 (i 2).val) (dvAcc b 0 0 3) (dkAcc b 0 0 3) (dvAcc b 0 1 2) (dkAcc b 0 1 2) (dvAcc b 0 2 1) (dkAcc b 0 2 1) (dvAcc b 0 3 0) (dkAcc b 0 3 0) (dvAcc b 1 0 3) (dkAcc b 1 0 3) (dvAcc b 1 1 2) (dkAcc b 1 1 2) (dvAcc b 1 2 1) (dkAcc b 1 2 1) (dvAcc b 1 3 0) (dkAcc b 1 3 0) w
    (Scalar.muli (Scalar.addi (BitVec.ofNat 32 (i 2).val) 1#32) 4#32) X3 X4 X5 X6 X7 X8 G (sums b 0) m

/-- The second loop the body writes, which runs no trip. -/
def rest (b : ℕ → Blocks F) (w : FVec F S512x128 .f32) (n : BitVec 32) (G : BufTy.Contents (Elt F) arg12.view.ty) (s : Carry F) :=
  st_k0_t2 (F := F) Variants.none c none i arg3 harg3 arg4 harg4 arg5 harg5 arg6 harg6 arg7 harg7 arg8 harg8 arg9 harg9 arg10 harg10 arg11 harg11 arg12 harg12 (BitVec.ofNat 32 (i 2).val) (dvAcc b 0 0 3) (dkAcc b 0 0 3) (dvAcc b 0 1 2) (dkAcc b 0 1 2) (dvAcc b 0 2 1) (dkAcc b 0 2 1) (dvAcc b 0 3 0) (dkAcc b 0 3 0) (dvAcc b 1 0 3) (dkAcc b 1 0 3) (dvAcc b 1 1 2) (dkAcc b 1 1 2) (dvAcc b 1 2 1) (dkAcc b 1 2 1) (dvAcc b 1 3 0) (dkAcc b 1 3 0) w n X3 X4 X5 X6 X7 X8 G s (k0_t2_loop i).trips

/-- The eight stores of a gradient of keys or values, last first. -/
def outs (x : Fin 2 → Fin 4 → FVec F S512x128 .f32) : List (View.Piece (Elt F) S2048x256 .bf16) :=
  [⟨Rect.unit (s := S2048x256) ![1536, 128] S512x128.size inb_S2048x256_S512x128_1536_128, truncf .bf16 (x 1 3) bitsLt_bf16_f32⟩,
   ⟨Rect.unit (s := S2048x256) ![1024, 128] S512x128.size inb_S2048x256_S512x128_1024_128, truncf .bf16 (x 1 2) bitsLt_bf16_f32⟩,
   ⟨Rect.unit (s := S2048x256) ![512, 128] S512x128.size inb_S2048x256_S512x128_512_128, truncf .bf16 (x 1 1) bitsLt_bf16_f32⟩,
   ⟨Rect.unit (s := S2048x256) ![0, 128] S512x128.size inb_S2048x256_S512x128_0_128, truncf .bf16 (x 1 0) bitsLt_bf16_f32⟩,
   ⟨Rect.unit (s := S2048x256) ![1536, 0] S512x128.size inb_S2048x256_S512x128_1536_0, truncf .bf16 (x 0 3) bitsLt_bf16_f32⟩,
   ⟨Rect.unit (s := S2048x256) ![1024, 0] S512x128.size inb_S2048x256_S512x128_1024_0, truncf .bf16 (x 0 2) bitsLt_bf16_f32⟩,
   ⟨Rect.unit (s := S2048x256) ![512, 0] S512x128.size inb_S2048x256_S512x128_512_0, truncf .bf16 (x 0 1) bitsLt_bf16_f32⟩,
   ⟨Rect.unit (s := S2048x256) ![0, 0] S512x128.size inb_S2048x256_S512x128_0_0, truncf .bf16 (x 0 0) bitsLt_bf16_f32⟩]

/-- The key gradients among the sixteen sums. -/
def keysOf (s : Carry F) : Fin 2 → Fin 4 → FVec F S512x128 .f32
  | 0, 0 => s.1
  | 0, 1 => s.2.2.1
  | 0, 2 => s.2.2.2.2.1
  | 0, 3 => s.2.2.2.2.2.2.1
  | 1, 0 => s.2.2.2.2.2.2.2.2.1
  | 1, 1 => s.2.2.2.2.2.2.2.2.2.2.1
  | 1, 2 => s.2.2.2.2.2.2.2.2.2.2.2.2.1
  | 1, 3 => s.2.2.2.2.2.2.2.2.2.2.2.2.2.2.1

/-- The value gradients among the sixteen sums. -/
def valuesOf (s : Carry F) : Fin 2 → Fin 4 → FVec F S512x128 .f32
  | 0, 0 => s.2.1
  | 0, 1 => s.2.2.2.1
  | 0, 2 => s.2.2.2.2.2.1
  | 0, 3 => s.2.2.2.2.2.2.2.1
  | 1, 0 => s.2.2.2.2.2.2.2.2.2.1
  | 1, 1 => s.2.2.2.2.2.2.2.2.2.2.2.1
  | 1, 2 => s.2.2.2.2.2.2.2.2.2.2.2.2.2.1
  | 1, 3 => s.2.2.2.2.2.2.2.2.2.2.2.2.2.2.2

variable (x0 : Vec F S4096x256 .bf16) (x1 : Vec F S2048x256 .bf16) (x2 : Vec F S2048x256 .bf16) (x3 : Vec F S4096x256 .bf16) (x4 : Vec F S1x2x8x4096 .f32) (x5 : Vec F S1x2x8x4096 .f32)

/-- The contents of the sum of query gradients when the loop begins, at the first point. -/
def baseA : List (View.Piece (Elt F) S4096x256 .f32) :=
  storesA i arg12 (unr i arg3 arg4 arg5 arg6 arg7 arg8 (harg3.unread x0) (harg4.unread x1) (harg5.unread x2) (harg6.unread x3) (harg7.unread x4) (harg8.unread x5)) arg12.view.junk [⟨Rect.unit (s := S4096x256) ![0, 0] S4096x256.size inb_S4096x256_S4096x256_0_0, k0_pay112⟩] 8

/-- The last of the unrolled stores, before its cast. -/
def lastA : FVec F S512x128 .f32 :=
  addf (View.readAt (Elt F) arg12.view (Rect.unit (s := S4096x256) (k0_off3 i 3#32) S512x128.size (k0_off3_inb i 3)).toLoadRect
    (arg12.view.writes (Elt F) arg12.view.junk (storesA i arg12 (unr i arg3 arg4 arg5 arg6 arg7 arg8 (harg3.unread x0) (harg4.unread x1) (harg5.unread x2) (harg6.unread x3) (harg7.unread x4) (harg8.unread x5)) arg12.view.junk [⟨Rect.unit (s := S4096x256) ![0, 0] S4096x256.size inb_S4096x256_S4096x256_0_0, k0_pay112⟩] 7)))
    (dqSum ((unr i arg3 arg4 arg5 arg6 arg7 arg8 (harg3.unread x0) (harg4.unread x1) (harg5.unread x2) (harg6.unread x3) (harg7.unread x4) (harg8.unread x5)) 3) 1 3)

/-- The loop of the first point. -/
def loopA := loop c i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) (unr i arg3 arg4 arg5 arg6 arg7 arg8 (harg3.unread x0) (harg4.unread x1) (harg5.unread x2) (harg6.unread x3) (harg7.unread x4) (harg8.unread x5)) (lastA i arg3 harg3 arg4 harg4 arg5 harg5 arg6 harg6 arg7 harg7 arg8 harg8 arg12 x0 x1 x2 x3 x4 x5)
  (arg12.view.writes (Elt F) arg12.view.junk (baseA i arg3 harg3 arg4 harg4 arg5 harg5 arg6 harg6 arg7 harg7 arg8 harg8 arg12 x0 x1 x2 x3 x4 x5))
  (k0_t1_loop i).trips

/-- The second loop of the first point. -/
def restA := rest c i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) (unr i arg3 arg4 arg5 arg6 arg7 arg8 (harg3.unread x0) (harg4.unread x1) (harg5.unread x2) (harg6.unread x3) (harg7.unread x4) (harg8.unread x5)) (lastA i arg3 harg3 arg4 harg4 arg5 harg5 arg6 harg6 arg7 harg7 arg8 harg8 arg12 x0 x1 x2 x3 x4 x5)
  (runA.sl.v742 i)
  (arg12.view.writes (Elt F) arg12.view.junk ((loopA c i arg3 harg3 arg4 harg4 arg5 harg5 arg6 harg6 arg7 harg7 arg8 harg8 arg9 harg9 arg10 harg10 arg11 harg11 arg12 harg12 x0 x1 x2 x3 x4 x5).2 ++ baseA i arg3 harg3 arg4 harg4 arg5 harg5 arg6 harg6 arg7 harg7 arg8 harg8 arg12 x0 x1 x2 x3 x4 x5))
  (loopA c i arg3 harg3 arg4 harg4 arg5 harg5 arg6 harg6 arg7 harg7 arg8 harg8 arg9 harg9 arg10 harg10 arg11 harg11 arg12 harg12 x0 x1 x2 x3 x4 x5).1

theorem runA_keys (hc0 : isFirst i) (hc1 : ¬ k0_cond2 i = 1#1) :
    (runA c i arg3 harg3 arg4 harg4 arg5 harg5 arg6 harg6 arg7 harg7 arg8 harg8 arg9 harg9 arg10 harg10 arg11 harg11 arg12 harg12 hc0 hc1 x0 x1 x2 x3 x4 x5).1 = outs (keysOf (restA c i arg3 harg3 arg4 harg4 arg5 harg5 arg6 harg6 arg7 harg7 arg8 harg8 arg9 harg9 arg10 harg10 arg11 harg11 arg12 harg12 x0 x1 x2 x3 x4 x5).1) := by
  unfold runA
  sl_kernel_rfl

theorem runA_values (hc0 : isFirst i) (hc1 : ¬ k0_cond2 i = 1#1) :
    (runA c i arg3 harg3 arg4 harg4 arg5 harg5 arg6 harg6 arg7 harg7 arg8 harg8 arg9 harg9 arg10 harg10 arg11 harg11 arg12 harg12 hc0 hc1 x0 x1 x2 x3 x4 x5).2.1 = outs (valuesOf (restA c i arg3 harg3 arg4 harg4 arg5 harg5 arg6 harg6 arg7 harg7 arg8 harg8 arg9 harg9 arg10 harg10 arg11 harg11 arg12 harg12 x0 x1 x2 x3 x4 x5).1) := by
  unfold runA
  sl_kernel_rfl

theorem runA_stores (hc0 : isFirst i) (hc1 : ¬ k0_cond2 i = 1#1) :
    (runA c i arg3 harg3 arg4 harg4 arg5 harg5 arg6 harg6 arg7 harg7 arg8 harg8 arg9 harg9 arg10 harg10 arg11 harg11 arg12 harg12 hc0 hc1 x0 x1 x2 x3 x4 x5).2.2.1 = (restA c i arg3 harg3 arg4 harg4 arg5 harg5 arg6 harg6 arg7 harg7 arg8 harg8 arg9 harg9 arg10 harg10 arg11 harg11 arg12 harg12 x0 x1 x2 x3 x4 x5).2
      ++ ((loopA c i arg3 harg3 arg4 harg4 arg5 harg5 arg6 harg6 arg7 harg7 arg8 harg8 arg9 harg9 arg10 harg10 arg11 harg11 arg12 harg12 x0 x1 x2 x3 x4 x5).2 ++ baseA i arg3 harg3 arg4 harg4 arg5 harg5 arg6 harg6 arg7 harg7 arg8 harg8 arg12 x0 x1 x2 x3 x4 x5) := by
  unfold runA
  sl_kernel_rfl

variable (xs0 : Vec F S4096x256 .f32)

/-- The unrolled stores to the sum of query gradients, at the last point. -/
def baseB : List (View.Piece (Elt F) S4096x256 .f32) :=
  storesB i arg12 (unr i arg3 arg4 arg5 arg6 arg7 arg8 (harg3.unread x0) (harg4.unread x1) (harg5.unread x2) (harg6.unread x3) (harg7.unread x4) (harg8.unread x5)) (harg12.unread xs0) 8

/-- The last of the unrolled stores, before its cast. -/
def lastB : FVec F S512x128 .f32 :=
  addf (View.readAt (Elt F) arg12.view (Rect.unit (s := S4096x256) (k0_off3 i 3#32) S512x128.size (k0_off3_inb i 3)).toLoadRect (harg12.unread xs0))
    (dqSum ((unr i arg3 arg4 arg5 arg6 arg7 arg8 (harg3.unread x0) (harg4.unread x1) (harg5.unread x2) (harg6.unread x3) (harg7.unread x4) (harg8.unread x5)) 3) 1 3)

/-- The loop of the last point. -/
def loopB := loop c i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) (unr i arg3 arg4 arg5 arg6 arg7 arg8 (harg3.unread x0) (harg4.unread x1) (harg5.unread x2) (harg6.unread x3) (harg7.unread x4) (harg8.unread x5)) (lastB i arg3 harg3 arg4 harg4 arg5 harg5 arg6 harg6 arg7 harg7 arg8 harg8 arg12 harg12 x0 x1 x2 x3 x4 x5 xs0)
  (arg12.view.writes (Elt F) (harg12.unread xs0) (baseB i arg3 harg3 arg4 harg4 arg5 harg5 arg6 harg6 arg7 harg7 arg8 harg8 arg12 harg12 x0 x1 x2 x3 x4 x5 xs0))
  (k0_t1_loop i).trips

/-- The second loop of the last point. -/
def restB := rest c i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) (unr i arg3 arg4 arg5 arg6 arg7 arg8 (harg3.unread x0) (harg4.unread x1) (harg5.unread x2) (harg6.unread x3) (harg7.unread x4) (harg8.unread x5)) (lastB i arg3 harg3 arg4 harg4 arg5 harg5 arg6 harg6 arg7 harg7 arg8 harg8 arg12 harg12 x0 x1 x2 x3 x4 x5 xs0)
  (runB.sl.v742 i)
  (arg12.view.writes (Elt F) (harg12.unread xs0) ((loopB c i arg3 harg3 arg4 harg4 arg5 harg5 arg6 harg6 arg7 harg7 arg8 harg8 arg9 harg9 arg10 harg10 arg11 harg11 arg12 harg12 x0 x1 x2 x3 x4 x5 xs0).2 ++ baseB i arg3 harg3 arg4 harg4 arg5 harg5 arg6 harg6 arg7 harg7 arg8 harg8 arg12 harg12 x0 x1 x2 x3 x4 x5 xs0))
  (loopB c i arg3 harg3 arg4 harg4 arg5 harg5 arg6 harg6 arg7 harg7 arg8 harg8 arg9 harg9 arg10 harg10 arg11 harg11 arg12 harg12 x0 x1 x2 x3 x4 x5 xs0).1

theorem runB_keys (hc0 : ¬ isFirst i) (hc1 : k0_cond2 i = 1#1) :
    (runB c i arg3 harg3 arg4 harg4 arg5 harg5 arg6 harg6 arg7 harg7 arg8 harg8 arg9 harg9 arg10 harg10 arg11 harg11 arg12 harg12 hc0 hc1 x0 x1 x2 x3 x4 x5 xs0).1 = outs (keysOf (restB c i arg3 harg3 arg4 harg4 arg5 harg5 arg6 harg6 arg7 harg7 arg8 harg8 arg9 harg9 arg10 harg10 arg11 harg11 arg12 harg12 x0 x1 x2 x3 x4 x5 xs0).1) := by
  unfold runB
  sl_kernel_rfl

theorem runB_values (hc0 : ¬ isFirst i) (hc1 : k0_cond2 i = 1#1) :
    (runB c i arg3 harg3 arg4 harg4 arg5 harg5 arg6 harg6 arg7 harg7 arg8 harg8 arg9 harg9 arg10 harg10 arg11 harg11 arg12 harg12 hc0 hc1 x0 x1 x2 x3 x4 x5 xs0).2.1 = outs (valuesOf (restB c i arg3 harg3 arg4 harg4 arg5 harg5 arg6 harg6 arg7 harg7 arg8 harg8 arg9 harg9 arg10 harg10 arg11 harg11 arg12 harg12 x0 x1 x2 x3 x4 x5 xs0).1) := by
  unfold runB
  sl_kernel_rfl

theorem runB_stores (hc0 : ¬ isFirst i) (hc1 : k0_cond2 i = 1#1) :
    (runB c i arg3 harg3 arg4 harg4 arg5 harg5 arg6 harg6 arg7 harg7 arg8 harg8 arg9 harg9 arg10 harg10 arg11 harg11 arg12 harg12 hc0 hc1 x0 x1 x2 x3 x4 x5 xs0).2.2.2.1 = (restB c i arg3 harg3 arg4 harg4 arg5 harg5 arg6 harg6 arg7 harg7 arg8 harg8 arg9 harg9 arg10 harg10 arg11 harg11 arg12 harg12 x0 x1 x2 x3 x4 x5 xs0).2
      ++ ((loopB c i arg3 harg3 arg4 harg4 arg5 harg5 arg6 harg6 arg7 harg7 arg8 harg8 arg9 harg9 arg10 harg10 arg11 harg11 arg12 harg12 x0 x1 x2 x3 x4 x5 xs0).2 ++ baseB i arg3 harg3 arg4 harg4 arg5 harg5 arg6 harg6 arg7 harg7 arg8 harg8 arg12 harg12 x0 x1 x2 x3 x4 x5 xs0) := by
  unfold runB
  sl_kernel_rfl

theorem runB_queries (hc0 : ¬ isFirst i) (hc1 : k0_cond2 i = 1#1) :
    (runB c i arg3 harg3 arg4 harg4 arg5 harg5 arg6 harg6 arg7 harg7 arg8 harg8 arg9 harg9 arg10 harg10 arg11 harg11 arg12 harg12 hc0 hc1 x0 x1 x2 x3 x4 x5 xs0).2.2.1 = [⟨Rect.unit (s := S4096x256) ![0, 0] S4096x256.size inb_S4096x256_S4096x256_0_0,
      truncf .bf16 (View.readAt (Elt F) arg12.view (Rect.unit (s := S4096x256) ![0, 0] S4096x256.size inb_S4096x256_S4096x256_0_0).toLoadRect
        (arg12.view.writes (Elt F) (harg12.unread xs0) ((restB c i arg3 harg3 arg4 harg4 arg5 harg5 arg6 harg6 arg7 harg7 arg8 harg8 arg9 harg9 arg10 harg10 arg11 harg11 arg12 harg12 x0 x1 x2 x3 x4 x5 xs0).2
      ++ ((loopB c i arg3 harg3 arg4 harg4 arg5 harg5 arg6 harg6 arg7 harg7 arg8 harg8 arg9 harg9 arg10 harg10 arg11 harg11 arg12 harg12 x0 x1 x2 x3 x4 x5 xs0).2 ++ baseB i arg3 harg3 arg4 harg4 arg5 harg5 arg6 harg6 arg7 harg7 arg8 harg8 arg12 harg12 x0 x1 x2 x3 x4 x5 xs0)))) bitsLt_bf16_f32⟩] := by
  unfold runB
  sl_kernel_rfl

end Cert.AttnPoint
-- ==== Proof.AttnBlocks.lean ====
/- Which elements of the kernel's windows each block of the body holds. -/
module

public import proofs.«01_k».proof.Proof.AttnPoint
public import Idealize.ShloMosaic.Lib.Pipeline.ValueKit

@[expose] public section

set_option maxRecDepth 16384

noncomputable section

open Idealize.ShloMosaic Idealize.ShloMosaic.TcCoe Idealize.SL.Sem Idealize.ShloMosaic.Tactic

namespace Cert.AttnBlocks

open Cert.AttnIdeal Cert.AttnIdeal.Gen Cert.AttnModel Cert.AttnTrip Cert.AttnPoint

variable {F : FTy → Type} [FloatOps F]

/-- Row `r` of the `n`-th block of 512 queries. -/
def row (n : ℕ) (r : Fin 512) : Fin 4096 := ⟨(512 * n + r.val) % 4096, Nat.mod_lt _ (by decide)⟩

/-- Row `r` of the `g`-th block of 512 keys of the point. -/
def krow (g : Fin 4) (r : Fin 512) : Fin 2048 := ⟨512 * g.val + r.val, by omega⟩

/-- Column `l` of head `h` of the pair. -/
def col (h : Fin 2) (l : Fin 128) : Fin 256 := ⟨128 * h.val + l.val, by omega⟩

/-- The block of queries `n`, with what it sees. -/
def blocks (x0 : Vec F S4096x256 .bf16) (x1 x2 : Vec F S2048x256 .bf16) (x3 : Vec F S4096x256 .bf16) (x4 x5 : Vec F S1x2x8x4096 .f32) (n : ℕ) : Blocks F where
  q := fun h y => x0 (ix2 (row n (y 0)) (col h (y 1)))
  k := fun h g y => x1 (ix2 (krow g (y 0)) (col h (y 1)))
  v := fun h g y => x2 (ix2 (krow g (y 0)) (col h (y 1)))
  ct := fun h y => x3 (ix2 (row n (y 0)) (col h (y 1)))
  lse := fun h y => x4 (ix4 (0 : Fin 1) h (0 : Fin 8) (row n (y 3)))
  del := fun h y => x5 (ix4 (0 : Fin 1) h (0 : Fin 8) (row n (y 3)))

/-- The point's second half of the keys, or its first. -/
theorem half (i : grid0.Coords) : (i 2).val = 0 ∨ (i 2).val = 1 := by
  have : (i 2).val < 2 := (i 2).isLt
  omega

theorem off1_eq (i : grid0.Coords) (r : Fin 4) : k0_off1 i (BitVec.ofNat 32 r.val) = ![512 * (4 * (i 2).val + r.val), 0] := by
  unfold k0_off1
  rcases half i with h | h <;> rw [h] <;> revert r <;> decide

theorem off3_eq (i : grid0.Coords) (r : Fin 4) : k0_off3 i (BitVec.ofNat 32 r.val) = ![512 * (4 * (i 2).val + r.val), 128] := by
  unfold k0_off3
  rcases half i with h | h <;> rw [h] <;> revert r <;> decide

theorem off2_eq (i : grid0.Coords) (r : Fin 4) : k0_off2 i (BitVec.ofNat 32 r.val) = ![0, 0, 0, 512 * (4 * (i 2).val + r.val)] := by
  unfold k0_off2
  rcases half i with h | h <;> rw [h] <;> revert r <;> decide

theorem off4_eq (i : grid0.Coords) (r : Fin 4) : k0_off4 i (BitVec.ofNat 32 r.val) = ![0, 1, 0, 512 * (4 * (i 2).val + r.val)] := by
  unfold k0_off4
  rcases half i with h | h <;> rw [h] <;> revert r <;> decide

theorem trips_first (i : grid0.Coords) (h : (i 2).val = 0) : (k0_t1_loop i).trips = 4 := by
  unfold k0_t1_loop; rw [h]; decide

theorem trips_last (i : grid0.Coords) (h : (i 2).val = 1) : (k0_t1_loop i).trips = 0 := by
  unfold k0_t1_loop; rw [h]; decide

theorem trips_rest (i : grid0.Coords) : (k0_t2_loop i).trips = 0 := by
  unfold k0_t2_loop
  rcases half i with h | h <;> rw [h] <;> decide

/-- A trip runs only at the first half of the keys, and there are four. -/
theorem trip_lt (i : grid0.Coords) (k : Fin (k0_t1_loop i).trips) : (i 2).val = 0 ∧ k.val < 4 := by
  rcases half i with h | h
  · exact ⟨h, lt_of_lt_of_eq k.isLt (trips_first i h)⟩
  · exact absurd (lt_of_lt_of_eq k.isLt (trips_last i h)) (Nat.not_lt_zero _)

theorem off5_eq (i : grid0.Coords) (k : Fin (k0_t1_loop i).trips) : k0_off5 i k = ![512 * (4 + k.val), 0] := by
  obtain ⟨h, hk⟩ := trip_lt i k
  unfold k0_off5
  rw [h]; generalize k.val = n at hk
  interval_cases n <;> decide

theorem off7_eq (i : grid0.Coords) (k : Fin (k0_t1_loop i).trips) : k0_off7 i k = ![512 * (4 + k.val), 128] := by
  obtain ⟨h, hk⟩ := trip_lt i k
  unfold k0_off7
  rw [h]; generalize k.val = n at hk
  interval_cases n <;> decide

theorem off6_eq (i : grid0.Coords) (k : Fin (k0_t1_loop i).trips) : k0_off6 i k = ![0, 0, 0, 512 * (4 + k.val)] := by
  obtain ⟨h, hk⟩ := trip_lt i k
  unfold k0_off6
  rw [h]; generalize k.val = n at hk
  interval_cases n <;> decide

theorem off8_eq (i : grid0.Coords) (k : Fin (k0_t1_loop i).trips) : k0_off8 i k = ![0, 1, 0, 512 * (4 + k.val)] := by
  obtain ⟨h, hk⟩ := trip_lt i k
  unfold k0_off8
  rw [h]; generalize k.val = n at hk
  interval_cases n <;> decide

/-- A load of a block of queries reads its rows and columns. -/
theorem load_rows {e : EltTy} (m : Memref sig .tc .vmem S4096x256 e) (X : BufTy.Contents (Elt F) m.view.ty) (x : Vec F S4096x256 e)
    (hX : m.view.read (Elt F) X = x) (off : Fin 2 → ℕ) (inb : ∀ a, off a + S512x128.size a ≤ S4096x256.size a)
    (n : ℕ) (h : Fin 2) (hn : n < 8) (ho : off = ![512 * n, 128 * h.val]) :
    View.readAt (Elt F) m.view (Rect.unit (s := S4096x256) off S512x128.size inb).toLoadRect X = fun y => x (ix2 (row n (y 0)) (col h (y 1))) := by
  subst hX ho
  rw [View.readAt_eq_ld]
  funext y
  refine View.ld_unit_apply_of _ _ _ inb y _ fun a => ?_
  have h0 : (y 0).val < 512 := (y 0).isLt
  fin_cases a
  · show (512 * n + (y 0).val) % 4096 = 512 * n + (y 0).val
    exact Nat.mod_eq_of_lt (by omega)
  · rfl

/-- A load of a block of keys reads its rows and columns. -/
theorem load_keys {e : EltTy} (m : Memref sig .tc .vmem S2048x256 e) (X : BufTy.Contents (Elt F) m.view.ty) (x : Vec F S2048x256 e)
    (hX : m.view.read (Elt F) X = x) (off : Fin 2 → ℕ) (inb : ∀ a, off a + S512x128.size a ≤ S2048x256.size a)
    (g : Fin 4) (h : Fin 2) (ho : off = ![512 * g.val, 128 * h.val]) :
    View.readAt (Elt F) m.view (Rect.unit (s := S2048x256) off S512x128.size inb).toLoadRect X = fun y => x (ix2 (krow g (y 0)) (col h (y 1))) := by
  subst hX ho
  rw [View.readAt_eq_ld]
  funext y
  refine View.ld_unit_apply_of _ _ _ inb y _ fun a => ?_
  fin_cases a <;> rfl

/-- A load of one number per query reads the head's and the block's. -/
theorem load_lanes (m : Memref sig .tc .vmem S1x2x8x4096 .f32) (X : BufTy.Contents (Elt F) m.view.ty) (x : Vec F S1x2x8x4096 .f32)
    (hX : m.view.read (Elt F) X = x) (off : Fin 4 → ℕ) (inb : ∀ a, off a + S1x1x1x512.size a ≤ S1x2x8x4096.size a)
    (n : ℕ) (h : Fin 2) (hn : n < 8) (ho : off = ![0, h.val, 0, 512 * n]) :
    View.readAt (Elt F) m.view (Rect.unit (s := S1x2x8x4096) off S1x1x1x512.size inb).toLoadRect X = fun y => x (ix4 (0 : Fin 1) h (0 : Fin 8) (row n (y 3))) := by
  subst hX ho
  rw [View.readAt_eq_ld]
  funext y
  refine View.ld_unit_apply_of _ _ _ inb y _ fun a => ?_
  have h0 : (y 0).val < 1 := (y 0).isLt
  have h1 : (y 1).val < 1 := (y 1).isLt
  have h2 : (y 2).val < 1 := (y 2).isLt
  have h3 : (y 3).val < 512 := (y 3).isLt
  fin_cases a
  · show 0 = 0 + (y 0).val; omega
  · show h.val = h.val + (y 1).val; omega
  · show 0 = 0 + (y 2).val; omega
  · show (512 * n + (y 3).val) % 4096 = 512 * n + (y 3).val
    exact Nat.mod_eq_of_lt (by omega)

theorem keyLoads_eq (m : Memref sig .tc .vmem S2048x256 .bf16) (X : BufTy.Contents (Elt F) m.view.ty) (x : Vec F S2048x256 .bf16)
    (hX : m.view.read (Elt F) X = x) : keyLoads m X = fun h g y => x (ix2 (krow g (y 0)) (col h (y 1))) := by
  funext h g
  fin_cases h <;> fin_cases g
  · exact load_keys m X x hX _ _ 0 0 rfl
  · exact load_keys m X x hX _ _ 1 0 rfl
  · exact load_keys m X x hX _ _ 2 0 rfl
  · exact load_keys m X x hX _ _ 3 0 rfl
  · exact load_keys m X x hX _ _ 0 1 rfl
  · exact load_keys m X x hX _ _ 1 1 rfl
  · exact load_keys m X x hX _ _ 2 1 rfl
  · exact load_keys m X x hX _ _ 3 1 rfl

variable (i : grid0.Coords) (arg3 : Memref sig .tc .vmem S4096x256 .bf16) (arg4 : Memref sig .tc .vmem S2048x256 .bf16) (arg5 : Memref sig .tc .vmem S2048x256 .bf16) (arg6 : Memref sig .tc .vmem S4096x256 .bf16) (arg7 : Memref sig .tc .vmem S1x2x8x4096 .f32) (arg8 : Memref sig .tc .vmem S1x2x8x4096 .f32)
variable (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
variable (x0 : Vec F S4096x256 .bf16) (x1 : Vec F S2048x256 .bf16) (x2 : Vec F S2048x256 .bf16) (x3 : Vec F S4096x256 .bf16) (x4 : Vec F S1x2x8x4096 .f32) (x5 : Vec F S1x2x8x4096 .f32)
variable (h0 : arg3.view.read (Elt F) X3 = x0) (h1 : arg4.view.read (Elt F) X4 = x1) (h2 : arg5.view.read (Elt F) X5 = x2) (h3 : arg6.view.read (Elt F) X6 = x3) (h4 : arg7.view.read (Elt F) X7 = x4) (h5 : arg8.view.read (Elt F) X8 = x5)

include h0 h1 h2 h3 h4 h5

/-- The unrolled blocks are the first four at or below the diagonal. -/
theorem unrBlocks_eq (r : Fin 4) : unrBlocks i arg3 arg4 arg5 arg6 arg7 arg8 X3 X4 X5 X6 X7 X8 r = blocks x0 x1 x2 x3 x4 x5 (4 * (i 2).val + r.val) := by
  have hn : 4 * (i 2).val + r.val < 8 := by rcases half i with h | h <;> rw [h] <;> omega
  unfold unrBlocks blocks
  congr 1
  · funext h; fin_cases h
    · exact load_rows arg3 X3 x0 h0 _ _ _ 0 hn (off1_eq i r)
    · exact load_rows arg3 X3 x0 h0 _ _ _ 1 hn (off3_eq i r)
  · exact keyLoads_eq arg4 X4 x1 h1
  · exact keyLoads_eq arg5 X5 x2 h2
  · funext h; fin_cases h
    · exact load_rows arg6 X6 x3 h3 _ _ _ 0 hn (off1_eq i r)
    · exact load_rows arg6 X6 x3 h3 _ _ _ 1 hn (off3_eq i r)
  · funext h; fin_cases h
    · exact load_lanes arg7 X7 x4 h4 _ _ _ 0 hn (off2_eq i r)
    · exact load_lanes arg7 X7 x4 h4 _ _ _ 1 hn (off4_eq i r)
  · funext h; fin_cases h
    · exact load_lanes arg8 X8 x5 h5 _ _ _ 0 hn (off2_eq i r)
    · exact load_lanes arg8 X8 x5 h5 _ _ _ 1 hn (off4_eq i r)

/-- A trip's blocks are the ones that follow. -/
theorem tripBlocks_eq (k : Fin (k0_t1_loop i).trips) : tripBlocks i arg3 arg4 arg5 arg6 arg7 arg8 X3 X4 X5 X6 X7 X8 k = blocks x0 x1 x2 x3 x4 x5 (4 + k.val) := by
  have hn : 4 + k.val < 8 := by have := (trip_lt i k).2; omega
  unfold tripBlocks blocks
  congr 1
  · funext h; fin_cases h
    · exact load_rows arg3 X3 x0 h0 _ _ _ 0 hn (off5_eq i k)
    · exact load_rows arg3 X3 x0 h0 _ _ _ 1 hn (off7_eq i k)
  · exact keyLoads_eq arg4 X4 x1 h1
  · exact keyLoads_eq arg5 X5 x2 h2
  · funext h; fin_cases h
    · exact load_rows arg6 X6 x3 h3 _ _ _ 0 hn (off5_eq i k)
    · exact load_rows arg6 X6 x3 h3 _ _ _ 1 hn (off7_eq i k)
  · funext h; fin_cases h
    · exact load_lanes arg7 X7 x4 h4 _ _ _ 0 hn (off6_eq i k)
    · exact load_lanes arg7 X7 x4 h4 _ _ _ 1 hn (off8_eq i k)
  · funext h; fin_cases h
    · exact load_lanes arg8 X8 x5 h5 _ _ _ 0 hn (off6_eq i k)
    · exact load_lanes arg8 X8 x5 h5 _ _ _ 1 hn (off8_eq i k)

end Cert.AttnBlocks
-- ==== Proof.AttnScratch.lean ====
/- The sum of query gradients: what a point's stores leave of it. -/
module

public import proofs.«01_k».proof.Proof.AttnBlocks
public import Idealize.ShloMosaic.Lib.WritesUnit

@[expose] public section

set_option maxRecDepth 16384

noncomputable section

open Idealize.ShloMosaic Idealize.ShloMosaic.TcCoe Idealize.SL.Sem Idealize.ShloMosaic.Tactic

namespace Cert.AttnScratch

open Cert.AttnIdeal Cert.AttnIdeal.Gen Cert.AttnModel Cert.AttnTrip Cert.AttnPoint Cert.AttnBlocks

variable {F : FTy → Type} [FloatOps F]

/-- Block `n`, head `h` of a sum of query gradients. -/
def part (x : Vec F S4096x256 .f32) (n : ℕ) (h : Fin 2) : FVec F S512x128 .f32 := fun y => x (ix2 (row n (y 0)) (col h (y 1)))

/-- The place of an index's block in the order of the stores. -/
def place (y : S4096x256.Idx) : ℕ := 2 * ((y 0).val / 512) + (y 1).val / 128

/-- What a block holds after its store: what it held and the shares of its keys. -/
def stored (B : ℕ → Blocks F) (j : ℕ) (x : Vec F S4096x256 .f32) (n : ℕ) (h : Fin 2) : FVec F S512x128 .f32 :=
  dqStore (part x n h) (dqSum (B n) h (n - 4 * j))

/-- The head a column lies in. -/
def headOf (y : S4096x256.Idx) : Fin 2 := ⟨(y 1).val / 128, by have : (y 1).val < 256 := (y 1).isLt; omega⟩

/-- An index's place within its block. -/
def within (y : S4096x256.Idx) : S512x128.Idx := ix2 ⟨(y 0).val % 512, Nat.mod_lt _ (by decide)⟩ ⟨(y 1).val % 128, Nat.mod_lt _ (by decide)⟩

/-- The sum of query gradients after the first `m` stores of a point that begins at block `4 j`. -/
def after (B : ℕ → Blocks F) (j : ℕ) (x : Vec F S4096x256 .f32) (m : ℕ) : Vec F S4096x256 .f32 := fun y =>
  if 8 * j ≤ place y ∧ place y < 8 * j + m then stored B j x ((y 0).val / 512) (headOf y) (within y) else x y

theorem after_zero (B : ℕ → Blocks F) (j : ℕ) (x : Vec F S4096x256 .f32) : after B j x 0 = x := by
  funext y; unfold after; rw [if_neg (by omega)]

/-- A block whose store is still to come is as the point found it. -/
theorem part_after (B : ℕ → Blocks F) (j : ℕ) (x : Vec F S4096x256 .f32) (m n : ℕ) (h : Fin 2) (hn : n < 8) (hm : 8 * j + m ≤ 2 * n + h.val) :
    part (after B j x m) n h = part x n h := by
  funext y
  have h0 : (y 0).val < 512 := (y 0).isLt
  have h1 : (y 1).val < 128 := (y 1).isLt
  have hp : place (ix2 (row n (y 0)) (col h (y 1))) = 2 * n + h.val := by
    show 2 * ((512 * n + (y 0).val) % 4096 / 512) + (128 * h.val + (y 1).val) / 128 = _
    have := h.isLt
    omega
  unfold part after
  rw [if_neg (by rw [hp]; omega)]

variable (arg12 : Memref sig .tc .vmem S4096x256 .f32)

/-- One store: the block it names takes its new value. -/
theorem after_store (B : ℕ → Blocks F) (j : ℕ) (x : Vec F S4096x256 .f32) (m n : ℕ) (h : Fin 2) (hn : n < 8) (hm : 2 * n + h.val = 8 * j + m)
    (G : BufTy.Contents (Elt F) arg12.view.ty) (L : List (View.Piece (Elt F) S4096x256 .f32))
    (hL : arg12.view.read (Elt F) (arg12.view.writes (Elt F) G L) = after B j x m)
    (off : Fin 2 → ℕ) (inb : ∀ a, off a + S512x128.size a ≤ S4096x256.size a) (ho : off = ![512 * n, 128 * h.val])
    (w : FVec F S512x128 .f32) (hw : w = stored B j x n h) :
    arg12.view.read (Elt F) (arg12.view.writes (Elt F) G ((⟨Rect.unit (s := S4096x256) off S512x128.size inb, w⟩ : View.Piece (Elt F) S4096x256 .f32) :: L))
      = after B j x (m + 1) := by
  subst ho hw
  funext y
  have h0 : (y 0).val < 4096 := (y 0).isLt
  have h1 : (y 1).val < 256 := (y 1).isLt
  have hh := h.isLt
  have hplace : place y = 2 * ((y 0).val / 512) + (y 1).val / 128 := rfl
  by_cases hy : place y = 2 * n + h.val
  · have hn' : (y 0).val / 512 = n := by omega
    have hh' : headOf y = h := Fin.ext (by show (y 1).val / 128 = h.val; omega)
    rw [View.read_writes_cons_unit_of_mem arg12.view G inb _ L y (within y) rfl (fun a => by
      fin_cases a
      · show (y 0).val = 512 * n + (y 0).val % 512; omega
      · show (y 1).val = 128 * h.val + (y 1).val % 128; have := congrArg Fin.val hh'; have : (y 1).val / 128 = h.val := this; omega)]
    unfold after
    rw [if_pos ⟨by omega, by omega⟩, hn', hh']
  · have hcase : (y 0).val / 512 ≠ n ∨ (y 1).val / 128 ≠ h.val := by omega
    have hmiss : arg12.view.read (Elt F) (arg12.view.writes (Elt F) G ((⟨Rect.unit (s := S4096x256) ![512 * n, 128 * h.val] S512x128.size inb, stored B j x n h⟩ : View.Piece (Elt F) S4096x256 .f32) :: L)) y
        = arg12.view.read (Elt F) (arg12.view.writes (Elt F) G L) y := by
      rcases hcase with hc | hc
      · refine View.read_writes_cons_unit_of_not_mem arg12.view G inb _ L y rfl (0 : Fin 2) ?_
        show (y 0).val < 512 * n ∨ 512 * n + 512 ≤ (y 0).val
        omega
      · refine View.read_writes_cons_unit_of_not_mem arg12.view G inb _ L y rfl (1 : Fin 2) ?_
        show (y 1).val < 128 * h.val ∨ 128 * h.val + 128 ≤ (y 1).val
        omega
    rw [hmiss, hL]
    unfold after
    by_cases hq : 8 * j ≤ place y ∧ place y < 8 * j + m
    · rw [if_pos hq, if_pos ⟨hq.1, by omega⟩]
    · rw [if_neg hq, if_neg (by omega)]

variable (i : grid0.Coords) (x : Vec F S4096x256 .f32) (b B : ℕ → Blocks F) (hb : ∀ r : Fin 4, b r.val = B (4 * (i 2).val + r.val))

include hb

/-- One unrolled store, whatever it was read from, so long as its block was still as the point found it. -/
theorem after_unr (m : ℕ) (hm : m < 8) (G f : BufTy.Contents (Elt F) arg12.view.ty) (L : List (View.Piece (Elt F) S4096x256 .f32))
    (hL : arg12.view.read (Elt F) (arg12.view.writes (Elt F) G L) = after B (i 2).val x m)
    (hf : ∀ n h, n < 8 → 8 * (i 2).val + m ≤ 2 * n + h.val → part (arg12.view.read (Elt F) f) n h = part x n h) :
    arg12.view.read (Elt F) (arg12.view.writes (Elt F) G (store i arg12 b ⟨m / 2 % 4, Nat.mod_lt _ (by decide)⟩ ⟨m % 2, Nat.mod_lt _ (by decide)⟩ f :: L))
      = after B (i 2).val x (m + 1) := by
  have hj := half i
  obtain ⟨r, hr⟩ : ∃ r : Fin 4, r = ⟨m / 2 % 4, Nat.mod_lt _ (by decide)⟩ := ⟨_, rfl⟩
  have hrv : r.val = m / 2 := by rw [hr]; show m / 2 % 4 = m / 2; omega
  rw [← hr]
  have hn : 4 * (i 2).val + r.val < 8 := by omega
  have hd : 4 * (i 2).val + r.val - 4 * (i 2).val = r.val := by omega
  rcases Nat.mod_two_eq_zero_or_one m with h2 | h2
  · have e : (⟨m % 2, Nat.mod_lt _ (by decide)⟩ : Fin 2) = 0 := Fin.ext h2
    rw [e]
    refine after_store arg12 B (i 2).val x m (4 * (i 2).val + r.val) 0 hn (by show 2 * _ + 0 = _; omega) G L hL _ _ (off1_eq i r) _ ?_
    unfold stored
    rw [hd, ← hb r, ← hf _ 0 hn (by show _ ≤ 2 * _ + 0; omega)]
    exact congrArg (fun z => dqStore z (dqSum (b r.val) 0 r.val)) (load_rows arg12 f _ rfl _ _ _ 0 hn (off1_eq i r))
  · have e : (⟨m % 2, Nat.mod_lt _ (by decide)⟩ : Fin 2) = 1 := Fin.ext h2
    rw [e]
    refine after_store arg12 B (i 2).val x m (4 * (i 2).val + r.val) 1 hn (by show 2 * _ + 1 = _; omega) G L hL _ _ (off3_eq i r) _ ?_
    unfold stored
    rw [hd, ← hb r, ← hf _ 1 hn (by show _ ≤ 2 * _ + 1; omega)]
    exact congrArg (fun z => dqStore z (dqSum (b r.val) 1 r.val)) (load_rows arg12 f _ rfl _ _ _ 1 hn (off3_eq i r))

/-- The unrolled stores of the first point. -/
theorem after_storesA (G : BufTy.Contents (Elt F) arg12.view.ty) (L : List (View.Piece (Elt F) S4096x256 .f32))
    (hL : arg12.view.read (Elt F) (arg12.view.writes (Elt F) G L) = x) (m : ℕ) (hm : m ≤ 8) :
    arg12.view.read (Elt F) (arg12.view.writes (Elt F) G (storesA i arg12 b G L m)) = after B (i 2).val x m := by
  induction m with
  | zero => rw [after_zero]; exact hL
  | succ m ih =>
    refine after_unr arg12 i x b B hb m (by omega) G _ _ (ih (by omega)) fun n h hn hp => ?_
    rw [ih (by omega)]
    exact part_after B _ x m n h hn hp

/-- The unrolled stores of the last point. -/
theorem after_storesB (G : BufTy.Contents (Elt F) arg12.view.ty) (hG : arg12.view.read (Elt F) G = x) (m : ℕ) (hm : m ≤ 8) :
    arg12.view.read (Elt F) (arg12.view.writes (Elt F) G (storesB i arg12 b G m)) = after B (i 2).val x m := by
  induction m with
  | zero => rw [after_zero]; exact hG
  | succ m ih =>
    refine after_unr arg12 i x b B hb m (by omega) G _ _ (ih (by omega)) fun n h hn hp => ?_
    rw [hG]

end Cert.AttnScratch
-- ==== Proof.AttnReal.lean ====
/- The attention gradient's blocks at real numbers: the scores, the probabilities, the gradients of keys and values of a block and
   its share of the gradient of the queries, each the number it stands for. -/
module

public import proofs.«01_k».proof.Proof.AttnScratch
public import proofs.«01_k».proof.Proof.Reals
public import Idealize.ShloMosaic.Lib.WordCmp

@[expose] public section

noncomputable section

open Idealize.ShloMosaic Idealize.ShloMosaic.TcCoe Idealize.ShloMosaic.Tactic

namespace Cert.AttnReal

open Cert.AttnIdeal Cert.AttnIdeal.Gen Cert.AttnModel Cert.AttnBlocks Cert.Reals

/-- The scale of the scores, as the rational its literal denotes. -/
def sigma : ℝ := (8388608 + 5309932 : ℕ) * (2 : ℝ) ^ (-27 : Int)

theorem lit_sigma : Ideal.ofBits .f32 0x3DD105EC#32 = (sigma : EReal) := by
  simp [Ideal.ofBits, Ideal.ieee, sigma, -EReal.coe_mul]

/-- One sequence and head: queries, keys, values and cotangents by position and lane, and each query's two numbers. -/
structure Head where
  q : Fin 4096 → Fin 128 → ℝ
  k : Fin 4096 → Fin 128 → ℝ
  v : Fin 4096 → Fin 128 → ℝ
  ct : Fin 4096 → Fin 128 → ℝ
  lse : Fin 4096 → ℝ
  del : Fin 4096 → ℝ

namespace Head

variable (X : Head)

/-- The exponential of query `i` on key `j`. -/
def e (i j : Fin 4096) : ℝ := Real.exp ((∑ l : Fin 128, X.k j l * X.q i l) * sigma - X.lse i)

/-- The probability query `i` gives key `j`: nothing to the keys after it. -/
def p (i j : Fin 4096) : ℝ := if j ≤ i then X.e i j else 0

/-- The gradient of that score. -/
def ds (i j : Fin 4096) : ℝ := X.p i j * ((∑ l : Fin 128, X.v j l * X.ct i l) - X.del i) * sigma

end Head

/-- The block of queries `n`, against the keys from block `K` on, holds these numbers. -/
structure Holds (X : Fin 2 → Head) (n K : ℕ) (b : Blocks Ideal) : Prop where
  q : ∀ h r l, b.q h (ix2 r l) = ((X h).q (row n r) l : EReal)
  k : ∀ h (g : Fin 4) r l, b.k h g (ix2 r l) = ((X h).k (row (K + g) r) l : EReal)
  v : ∀ h (g : Fin 4) r l, b.v h g (ix2 r l) = ((X h).v (row (K + g) r) l : EReal)
  ct : ∀ h r l, b.ct h (ix2 r l) = ((X h).ct (row n r) l : EReal)
  lse : ∀ h r, b.lse h (ix4 (0 : Fin 1) (0 : Fin 1) (0 : Fin 1) r) = ((X h).lse (row n r) : EReal)
  del : ∀ h r, b.del h (ix4 (0 : Fin 1) (0 : Fin 1) (0 : Fin 1) r) = ((X h).del (row n r) : EReal)

/-- Where the mask holds. -/
theorem mask_at (r x : Fin 512) : k0_pay113 (ix2 r x) = if r.val ≤ x.val then 1#1 else 0#1 := by
  unfold k0_pay113
  pointwise
  rw [WordCmp.cmpi_sge_ofNat (by omega) (by omega)]
  by_cases h : r.val ≤ x.val <;> simp [h]

variable {X : Fin 2 → Head} {n K : ℕ} {b : Blocks Ideal} (H : Holds X n K b)
include H

theorem full_at (h : Fin 2) (g : Fin 4) (r x : Fin 512) : full b h g (ix2 r x) = ((X h).e (row n x) (row (K + g) r) : EReal) := by
  unfold full nt rows same scale
  pointwise [H.q, H.k, H.lse, lit_sigma, coe_mul', coe_sum, coe_sub', Ideal.exp_coe]
  rfl

/-- The probabilities of a block before the block of queries. -/
theorem prob_full (hn : n < 8) (h : Fin 2) (g : Fin 4) (hg : K + g < n) (r x : Fin 512) : prob false b h g (ix2 r x) = ((X h).p (row n x) (row (K + g) r) : EReal) := by
  have hle : row (K + g) r ≤ row n x := by
    show (512 * (K + g.val) + r.val) % 4096 ≤ (512 * n + x.val) % 4096
    omega
  unfold Head.p
  rw [if_pos hle]
  exact full_at H h g r x

/-- The probabilities of the block of the queries themselves. -/
theorem prob_diag (hn : n < 8) (h : Fin 2) (g : Fin 4) (hg : K + g = n) (r x : Fin 512) : prob true b h g (ix2 r x) = ((X h).p (row n x) (row (K + g) r) : EReal) := by
  have hle : row (K + g) r ≤ row n x ↔ r.val ≤ x.val := by
    show (512 * (K + g.val) + r.val) % 4096 ≤ (512 * n + x.val) % 4096 ↔ _
    omega
  unfold Head.p prob
  pointwise [mask_at, full_at H]
  by_cases hrx : r.val ≤ x.val
  · rw [if_pos hrx, if_pos (hle.mpr hrx)]; rfl
  · rw [if_neg hrx, if_neg (fun z => hrx (hle.mp z))]; simp [Scalar.select]

/-- What a kind of block stands for. -/
def Kind (diag : Bool) (K n : ℕ) (g : Fin 4) : Prop := bif diag then K + g = n else K + g < n

theorem prob_at (hn : n < 8) (diag : Bool) (h : Fin 2) (g : Fin 4) (hg : Kind diag K n g) (r x : Fin 512) : prob diag b h g (ix2 r x) = ((X h).p (row n x) (row (K + g) r) : EReal) := by
  cases diag
  · exact prob_full H hn h g hg r x
  · exact prob_diag H hn h g hg r x

/-- The gradient of the scores of a block. -/
theorem dscore_at (hn : n < 8) (diag : Bool) (h : Fin 2) (g : Fin 4) (hg : Kind diag K n g) (r x : Fin 512) : dscore diag b h g (ix2 r x) = ((X h).ds (row n x) (row (K + g) r) : EReal) := by
  unfold dscore nt rows same scale
  pointwise [prob_at H hn diag h g hg, H.v, H.ct, H.del, lit_sigma, coe_mul', coe_sum, coe_sub']
  rfl

/-- A block of queries added to a gradient of values. -/
theorem dvStep_at (hn : n < 8) (diag : Bool) (h : Fin 2) (g : Fin 4) (hg : Kind diag K n g) (acc : FVec Ideal S512x128 .f32) (a : Fin 512 → Fin 128 → ℝ)
    (ha : ∀ r l, acc (ix2 r l) = (a r l : EReal)) (r : Fin 512) (l : Fin 128) :
    dvStep diag b h g acc (ix2 r l) = ((a r l + ∑ x : Fin 512, (X h).p (row n x) (row (K + g) r) * (X h).ct (row n x) l : ℝ) : EReal) := by
  unfold dvStep nn same
  pointwise [prob_at H hn diag h g hg, H.ct, ha, coe_mul', coe_sum, coe_add']

/-- A block of queries added to a gradient of keys. -/
theorem dkStep_at (hn : n < 8) (diag : Bool) (h : Fin 2) (g : Fin 4) (hg : Kind diag K n g) (acc : FVec Ideal S512x128 .f32) (a : Fin 512 → Fin 128 → ℝ)
    (ha : ∀ r l, acc (ix2 r l) = (a r l : EReal)) (r : Fin 512) (l : Fin 128) :
    dkStep diag b h g acc (ix2 r l) = ((a r l + ∑ x : Fin 512, (X h).ds (row n x) (row (K + g) r) * (X h).q (row n x) l : ℝ) : EReal) := by
  unfold dkStep nn same
  pointwise [dscore_at H hn diag h g hg, H.q, ha, coe_mul', coe_sum, coe_add']

/-- A block of keys' share of the gradient of a block of queries. -/
theorem dqTerm_at (hn : n < 8) (diag : Bool) (h : Fin 2) (g : Fin 4) (hg : Kind diag K n g) (x : Fin 512) (l : Fin 128) :
    dqTerm diag b h g (ix2 x l) = ((∑ r : Fin 512, (X h).ds (row n x) (row (K + g) r) * (X h).k (row (K + g) r) l : ℝ) : EReal) := by
  unfold dqTerm tn same
  pointwise [dscore_at H hn diag h g hg, H.k, coe_mul', coe_sum, coe_add']

/-- The shares of all the blocks of keys from `K` on that a block of queries sees. -/
theorem dqSum_at (hn : n < 8) (h : Fin 2) (hK : K ≤ n) (x : Fin 512) (l : Fin 128) :
    dqSum b h (n - K) (ix2 x l) = ((∑ g ∈ Finset.range (min 4 (n - K + 1)), ∑ r : Fin 512, (X h).ds (row n x) (row (K + g) r) * (X h).k (row (K + g) r) l : ℝ) : EReal) := by
  have t := fun diag (g : Fin 4) (hg : Kind diag K n g) => dqTerm_at H hn diag h g hg x l
  have t00 := t false 0; have t01 := t false 1; have t02 := t false 2; have t03 := t false 3
  have t10 := t true 0; have t11 := t true 1; have t12 := t true 2; have t13 := t true 3
  unfold Kind at t00 t01 t02 t03 t10 t11 t12 t13
  simp only [cond_true, cond_false] at t00 t01 t02 t03 t10 t11 t12 t13
  obtain hd | hd | hd | hd | hd : n - K = 0 ∨ n - K = 1 ∨ n - K = 2 ∨ n - K = 3 ∨ 4 ≤ n - K := by omega
  · rw [hd]
    show dqTerm true b h 0 (ix2 x l) = _
    rw [t10 (by show K + 0 = n; omega)]
    simp [Finset.sum_range_succ]
  · rw [hd]
    show addf (dqTerm false b h 0) (dqTerm true b h 1) (ix2 x l) = _
    pointwise [t00 (by show K + 0 < n; omega), t11 (by show K + 1 = n; omega), coe_add']
    simp [Finset.sum_range_succ]
  · rw [hd]
    show addf (addf (dqTerm false b h 0) (dqTerm false b h 1)) (dqTerm true b h 2) (ix2 x l) = _
    pointwise [t00 (by show K + 0 < n; omega), t01 (by show K + 1 < n; omega), t12 (by show K + 2 = n; omega), coe_add']
    simp [Finset.sum_range_succ]
  · rw [hd]
    show addf (addf (addf (dqTerm false b h 0) (dqTerm false b h 1)) (dqTerm false b h 2)) (dqTerm true b h 3) (ix2 x l) = _
    pointwise [t00 (by show K + 0 < n; omega), t01 (by show K + 1 < n; omega), t02 (by show K + 2 < n; omega), t13 (by show K + 3 = n; omega), coe_add']
    simp [Finset.sum_range_succ]
  · obtain ⟨d, hd'⟩ : ∃ d, n - K = d + 4 := ⟨n - K - 4, by omega⟩
    rw [show min 4 (n - K + 1) = 4 by omega, hd']
    show addf (addf (addf (dqTerm false b h 0) (dqTerm false b h 1)) (dqTerm false b h 2)) (dqTerm false b h 3) (ix2 x l) = _
    pointwise [t00 (by show K + 0 < n; omega), t01 (by show K + 1 < n; omega), t02 (by show K + 2 < n; omega), t03 (by show K + 3 < n; omega), coe_add']
    simp [Finset.sum_range_succ]

omit H in
theorem zero_at (r : Fin 512) (l : Fin 128) : (zero : FVec Ideal S512x128 .f32) (ix2 r l) = ((0 : ℝ) : EReal) := by
  unfold zero
  pointwise
  simp

omit H in
/-- The gradient of the values of block `K + g`, over the blocks of queries from its own on. -/
theorem dvAcc_at (X : Fin 2 → Head) (K : ℕ) (B : ℕ → Blocks Ideal) (h : Fin 2) (g : Fin 4) (m : ℕ) (hm : K + g + m < 8)
    (H : ∀ n, K + n < 8 → Holds X (K + n) K (B n)) (r : Fin 512) (l : Fin 128) :
    dvAcc B h g m (ix2 r l) = ((∑ n ∈ Finset.range (m + 1), ∑ x : Fin 512, (X h).p (row (K + g + n) x) (row (K + g) r) * (X h).ct (row (K + g + n) x) l : ℝ) : EReal) := by
  induction m generalizing r l with
  | zero =>
    unfold dvAcc
    rw [dvStep_at (H g (by omega)) (by omega) true h g (by show K + g.val = K + g.val; rfl) zero (fun _ _ => 0) zero_at r l]
    simp
  | succ m ih =>
    unfold dvAcc
    rw [dvStep_at (H (g + (m + 1)) (by omega)) (by omega) false h g (by show K + g.val < K + (g.val + (m + 1)); omega) (dvAcc B h g m) _ (fun r l => ih (by omega) r l) r l,
      Finset.sum_range_succ _ (m + 1), ← Nat.add_assoc K]

omit H in
/-- The gradient of the keys of block `K + g`, over the blocks of queries from its own on. -/
theorem dkAcc_at (X : Fin 2 → Head) (K : ℕ) (B : ℕ → Blocks Ideal) (h : Fin 2) (g : Fin 4) (m : ℕ) (hm : K + g + m < 8)
    (H : ∀ n, K + n < 8 → Holds X (K + n) K (B n)) (r : Fin 512) (l : Fin 128) :
    dkAcc B h g m (ix2 r l) = ((∑ n ∈ Finset.range (m + 1), ∑ x : Fin 512, (X h).ds (row (K + g + n) x) (row (K + g) r) * (X h).q (row (K + g + n) x) l : ℝ) : EReal) := by
  induction m generalizing r l with
  | zero =>
    unfold dkAcc
    rw [dkStep_at (H g (by omega)) (by omega) true h g (by show K + g.val = K + g.val; rfl) zero (fun _ _ => 0) zero_at r l]
    simp
  | succ m ih =>
    unfold dkAcc
    rw [dkStep_at (H (g + (m + 1)) (by omega)) (by omega) false h g (by show K + g.val < K + (g.val + (m + 1)); omega) (dkAcc B h g m) _ (fun r l => ih (by omega) r l) r l,
      Finset.sum_range_succ _ (m + 1), ← Nat.add_assoc K]

end Cert.AttnReal
-- ==== Proof.AttnTotal.lean ====
/- The attention gradient of one head as three sums over positions, and that the sums block by block are these. -/
module

public import proofs.«01_k».proof.Proof.AttnReal
public import proofs.«01_k».proof.Proof.Sums

@[expose] public section

noncomputable section

open Idealize.ShloMosaic Idealize.ShloMosaic.TcCoe Idealize.ShloMosaic.Tactic

namespace Cert.AttnReal

open Cert.AttnIdeal Cert.AttnIdeal.Gen Cert.AttnModel Cert.AttnBlocks Cert.AttnScratch Cert.Reals

namespace Head

variable (X : Head)

/-- The gradient of key `j`. -/
def dk (j : Fin 4096) (l : Fin 128) : ℝ := ∑ i, X.ds i j * X.q i l

/-- The gradient of value `j`. -/
def dv (j : Fin 4096) (l : Fin 128) : ℝ := ∑ i, X.p i j * X.ct i l

/-- The gradient of query `i`. -/
def dq (i : Fin 4096) (l : Fin 128) : ℝ := ∑ j, X.ds i j * X.k j l

theorem p_after {i j : Fin 4096} (h : i < j) : X.p i j = 0 := if_neg (not_le.mpr h)

theorem ds_after {i j : Fin 4096} (h : i < j) : X.ds i j = 0 := by unfold ds; rw [X.p_after h]; ring

end Head

/-- All positions, block by block. -/
theorem sum_rows (f : Fin 4096 → ℝ) : ∑ n ∈ Finset.range 8, ∑ x : Fin 512, f (row n x) = ∑ i, f i :=
  Sums.sum_pairs 8 512 4096 rfl f row fun q r hq => by show (512 * q + r.val) % 4096 = _; omega

theorem row_lt {a b : ℕ} (ha : a < 8) (hb : b < 8) (h : a < b) (x r : Fin 512) : row a x < row b r := by
  show (512 * a + x.val) % 4096 < (512 * b + r.val) % 4096; omega

/-- A sum whose terms before block `b` vanish, from block `b` on. -/
theorem sum_from (f : Fin 4096 → ℝ) (b : ℕ) (hb : b < 8) (h : ∀ n < b, ∀ x, f (row n x) = 0) : ∑ n ∈ Finset.range (8 - b), ∑ x : Fin 512, f (row (b + n) x) = ∑ i, f i := by
  rw [← sum_rows, show Finset.range 8 = Finset.range (b + (8 - b)) by rw [show b + (8 - b) = 8 by omega], Finset.sum_range_add,
    Finset.sum_eq_zero (s := Finset.range b) fun n hn => Finset.sum_eq_zero fun x _ => h n (Finset.mem_range.mp hn) x, zero_add]

/-- A sum whose terms after block `b` vanish, up to block `b`. -/
theorem sum_upto (f : Fin 4096 → ℝ) (b : ℕ) (hb : b < 8) (h : ∀ n < 8, b < n → ∀ x, f (row n x) = 0) : ∑ n ∈ Finset.range (b + 1), ∑ x : Fin 512, f (row n x) = ∑ i, f i := by
  rw [← sum_rows, show Finset.range 8 = Finset.range ((b + 1) + (7 - b)) by rw [show (b + 1) + (7 - b) = 8 by omega], Finset.sum_range_add _ (b + 1) (7 - b)]
  rw [Finset.sum_eq_zero (s := Finset.range (7 - b)) fun n hn => Finset.sum_eq_zero fun x _ => h _ (by have := Finset.mem_range.mp hn; omega) (by omega) x, add_zero]

/-- The gradient of the keys of block `b`. -/
theorem sum_dk (X : Head) (b : ℕ) (hb : b < 8) (r : Fin 512) (l : Fin 128) :
    ∑ n ∈ Finset.range (8 - b), ∑ x : Fin 512, X.ds (row (b + n) x) (row b r) * X.q (row (b + n) x) l = X.dk (row b r) l :=
  sum_from (fun i => X.ds i (row b r) * X.q i l) b hb fun n hn x => by rw [X.ds_after (row_lt (by omega) hb hn x r), zero_mul]

/-- The gradient of the values of block `b`. -/
theorem sum_dv (X : Head) (b : ℕ) (hb : b < 8) (r : Fin 512) (l : Fin 128) :
    ∑ n ∈ Finset.range (8 - b), ∑ x : Fin 512, X.p (row (b + n) x) (row b r) * X.ct (row (b + n) x) l = X.dv (row b r) l :=
  sum_from (fun i => X.p i (row b r) * X.ct i l) b hb fun n hn x => by rw [X.p_after (row_lt (by omega) hb hn x r), zero_mul]

/-- The gradient of the queries of block `b`. -/
theorem sum_dq (X : Head) (b : ℕ) (hb : b < 8) (x : Fin 512) (l : Fin 128) :
    ∑ n ∈ Finset.range (b + 1), ∑ r : Fin 512, X.ds (row b x) (row n r) * X.k (row n r) l = X.dq (row b x) l :=
  sum_upto (fun j => X.ds (row b x) j * X.k j l) b hb fun n hn h r => by rw [X.ds_after (row_lt hb hn h x r), zero_mul]

theorem stored_at (X : Fin 2 → Head) (j : ℕ) (hj : j < 2) (B : ℕ → Blocks Ideal) (H : ∀ n < 8, Holds X n (4 * j) (B n)) (w : Vec Ideal S4096x256 .f32) (n : ℕ) (hn : n < 8) (hjn : 4 * j ≤ n) (h : Fin 2)
    (a : ℝ) (x : Fin 512) (l : Fin 128) (hw : w (ix2 (row n x) (col h l)) = (a : EReal)) :
    stored B j w n h (ix2 x l) = ((a + ∑ g ∈ Finset.range (min 4 (n - 4 * j + 1)), ∑ r : Fin 512, (X h).ds (row n x) (row (4 * j + g) r) * (X h).k (row (4 * j + g) r) l : ℝ) : EReal) := by
  unfold stored dqStore
  pointwise [dqSum_at (H n hn) hn h hjn x l]
  rw [show part w n h (ix2 x l) = (a : EReal) from hw, coe_add']

/-- The sum of query gradients after both points of a pair is the gradient of the queries. -/
theorem after_both (X : Fin 2 → Head) (B0 B1 : ℕ → Blocks Ideal) (H0 : ∀ n < 8, Holds X n 0 (B0 n)) (H1 : ∀ n < 8, Holds X n 4 (B1 n)) (y : S4096x256.Idx) :
    after B1 1 (after B0 0 (k0_pay112 : FVec Ideal S4096x256 .f32) 16) 8 y = ((X (headOf y)).dq (y 0) ⟨(y 1).val % 128, Nat.mod_lt _ (by decide)⟩ : EReal) := by
  have y0 : (y 0).val < 4096 := (y 0).isLt
  have y1 : (y 1).val < 256 := (y 1).isLt
  obtain ⟨n, hn⟩ : ∃ n, n = (y 0).val / 512 := ⟨_, rfl⟩
  obtain ⟨x, hx⟩ : ∃ x : Fin 512, x = ⟨(y 0).val % 512, Nat.mod_lt _ (by decide)⟩ := ⟨_, rfl⟩
  obtain ⟨l, hl⟩ : ∃ l : Fin 128, l = ⟨(y 1).val % 128, Nat.mod_lt _ (by decide)⟩ := ⟨_, rfl⟩
  have hn8 : n < 8 := by omega
  have hr : row n x = y 0 := Fin.ext (by rw [hn, hx]; show (512 * ((y 0).val / 512) + (y 0).val % 512) % 4096 = (y 0).val; omega)
  have hc : col (headOf y) l = y 1 := Fin.ext (by rw [hl]; show 128 * ((y 1).val / 128) + (y 1).val % 128 = (y 1).val; omega)
  have hy : y = ix2 (row n x) (col (headOf y) l) := by
    funext a; fin_cases a
    · exact hr.symm
    · exact hc.symm
  have hw : within y = ix2 x l := by rw [hx, hl]; rfl
  have first : after B0 0 (k0_pay112 : FVec Ideal S4096x256 .f32) 16 y = ((∑ g ∈ Finset.range (min 4 (n + 1)), ∑ r : Fin 512, (X (headOf y)).ds (row n x) (row g r) * (X (headOf y)).k (row g r) l : ℝ) : EReal) := by
    unfold after
    rw [if_pos (by unfold place; omega), ← hn, hw, stored_at X 0 (by decide) B0 H0 (k0_pay112 : FVec Ideal S4096x256 .f32) n hn8 (by omega) (headOf y) 0 x l (by unfold k0_pay112; pointwise; simp)]
    simp only [Nat.mul_zero, Nat.sub_zero, Nat.zero_add, zero_add]
  rw [← hl, ← hr, ← sum_dq _ n hn8]
  unfold after
  by_cases h4 : 4 ≤ n
  · rw [if_pos (by unfold place; omega), ← hn, hw, stored_at X 1 (by decide) B1 H1 _ n hn8 (by omega) (headOf y) _ x l (by rw [← hy]; exact first)]
    rw [show min 4 (n + 1) = 4 by omega, show min 4 (n - 4 * 1 + 1) = n - 3 by omega, show n + 1 = 4 + (n - 3) by omega, Finset.sum_range_add]
  · rw [if_neg (by unfold place; omega)]
    refine first.trans ?_
    rw [show min 4 (n + 1) = n + 1 by omega]

end Cert.AttnReal
-- ==== Proof.AttnPast.lean ====
/- What both attention programs compute first, read at an index as real numbers: the masked scores, each query's greatest one, the
   exponentials and their sums; and the real numbers a head's gradient is made of. -/
module

public import proofs.«01_k».proof.Proof.AttnTotal
public import proofs.«01_k».proof.Proof.Gen.AttnRefIdeal.Read

@[expose] public section

set_option maxRecDepth 8000

noncomputable section

open Idealize.ShloMosaic Idealize.ShloMosaic.TcCoe Idealize.ShloMosaic.Tactic
open Cert.AttnRefIdeal Cert.AttnRefIdeal.Gen Cert.AttnRefIdeal.Read Cert.Reals Cert.AttnReal

namespace Cert.AttnPast

/-- The arguments as real numbers: by sequence, position, head and lane. -/
structure Data where
  qn : Fin 2 → Fin 4096 → Fin 8 → Fin 64 → ℝ
  qr : Fin 2 → Fin 4096 → Fin 8 → Fin 32 → ℝ
  kn : Fin 2 → Fin 4096 → Fin 8 → Fin 64 → ℝ
  kr : Fin 2 → Fin 4096 → Fin 8 → Fin 32 → ℝ
  v : Fin 2 → Fin 4096 → Fin 8 → Fin 64 → ℝ
  ct : Fin 2 → Fin 4096 → Fin 8 → Fin 64 → ℝ
  /-- each query's greatest score -/
  top : Fin 2 → Fin 8 → Fin 4096 → ℝ

namespace Data

variable (D : Data) (b : Fin 2) (a : Fin 8)

/-- The scaled score of query `i` and key `j`. -/
def sc (i j : Fin 4096) : ℝ := ((∑ d, D.qn b i a d * D.kn b j a d) + ∑ d, D.qr b i a d * D.kr b j a d) * sigma

/-- The exponential of a score less the greatest one; nothing for a key after the query. -/
def ex (i j : Fin 4096) : ℝ := if j ≤ i then Real.exp (D.sc b a i j - D.top b a i) else 0

/-- A query's exponentials summed. -/
def tot (i : Fin 4096) : ℝ := ∑ j, D.ex b a i j

/-- The forward pass's output. -/
def out (i : Fin 4096) (d : Fin 64) : ℝ := ∑ j, D.v b j a d * (D.ex b a i j / D.tot b a i)

theorem ex_nonneg (i j : Fin 4096) : 0 ≤ D.ex b a i j := by
  unfold ex
  split
  · exact (Real.exp_pos _).le
  · exact le_rfl

theorem tot_pos (i : Fin 4096) : 0 < D.tot b a i := by
  refine Finset.sum_pos' (fun j _ => D.ex_nonneg b a i j) ⟨i, Finset.mem_univ _, ?_⟩
  unfold ex
  rw [if_pos le_rfl]
  exact Real.exp_pos _

end Data

/-- A set of extended reals below `⊤`, one of them above `⊥`, has a real number as its greatest. -/
theorem fold_real {ι : Type} (s : Finset ι) (f : ι → EReal) (ht : ∀ i ∈ s, f i ≠ ⊤) (i : ι) (hi : i ∈ s) (hb : f i ≠ ⊥) :
    ∃ r : ℝ, s.fold max ⊥ f = r := by
  have h1 : s.sup f ≠ ⊤ := ((Finset.sup_lt_iff (by simp)).mpr fun j hj => lt_top_iff_ne_top.mpr (ht j hj)).ne
  have h2 : s.sup f ≠ ⊥ := fun e => hb (le_bot_iff.mp (e ▸ Finset.le_sup hi))
  exact ⟨(s.sup f).toReal, (EReal.coe_toReal h1 h2).symm⟩

theorem lit_bot : Ideal.ofBits .f32 0xFF800000#32 = ⊥ := by
  simp [Ideal.ofBits, Ideal.ieee]

theorem bot_at : (constant S_ .f32 0xFF800000#32 : FVec Ideal S_ .f32) ix0 = (⊥ : EReal) := lit_bot

variable (x0 x2 x4 x5 : S2x4096x8x64.Idx → EReal) (x1 x3 : S2x4096x8x32.Idx → EReal) (D : Data)

/-- The arguments hold the numbers of `D`. -/
structure Args : Prop where
  h0 : ∀ b i a d, x0 (ix4 b i a d) = (D.qn b i a d : EReal)
  h1 : ∀ b i a d, x1 (ix4 b i a d) = (D.qr b i a d : EReal)
  h2 : ∀ b i a d, x2 (ix4 b i a d) = (D.kn b i a d : EReal)
  h3 : ∀ b i a d, x3 (ix4 b i a d) = (D.kr b i a d : EReal)
  h4 : ∀ b i a d, x4 (ix4 b i a d) = (D.v b i a d : EReal)
  h5 : ∀ b i a d, x5 (ix4 b i a d) = (D.ct b i a d : EReal)
  ht : ∀ b a i, val_main_v14 (F := Ideal) x0 x1 x2 x3 (ix3 b a i) = (D.top b a i : EReal)

theorem causal_at (i j : Fin 4096) : val_main_v11 (F := Ideal) (ix2 i j) = if j ≤ i then 1#1 else 0#1 := by
  unfold val_main_v11 val_main_v10 val_main_v9 val_main_v8 val_main_v7 val_main_v6 val_main_v5
  pointwise
  rw [WordCmp.cmpi_sle_ofNat (by omega) (by omega)]
  by_cases h : j ≤ i <;> simp [h]

/-- Where the first four arguments are real numbers each query has a greatest score. -/
theorem top_real (y0 y2 : S2x4096x8x64.Idx → ℝ) (y1 y3 : S2x4096x8x32.Idx → ℝ) (h0 : ∀ i, x0 i = (y0 i : EReal)) (h1 : ∀ i, x1 i = (y1 i : EReal))
    (h2 : ∀ i, x2 i = (y2 i : EReal)) (h3 : ∀ i, x3 i = (y3 i : EReal)) (b : Fin 2) (a : Fin 8) (i : Fin 4096) :
    ∃ r : ℝ, val_main_v14 (F := Ideal) x0 x1 x2 x3 (ix3 b a i) = (r : EReal) := by
  have hs : ∀ (b : Fin 2) (a : Fin 8) (i j : Fin 4096), ∃ r : ℝ, val_main_v4 (F := Ideal) x0 x1 x2 x3 (ix4 b a i j) = (r : EReal) := fun b a i j => by
    unfold val_main_v4 val_main_v3 val_main_cst val_main_v2 val_main_v1 val_main_v0
    pointwise [h0, h1, h2, h3, lit_sigma, coe_mul', coe_sum, coe_add']
    exact ⟨_, rfl⟩
  have hm : ∀ (b : Fin 2) (a : Fin 8) (i j : Fin 4096), val_main_v13_0 (F := Ideal) x0 x1 x2 x3 (ix4 b a i j)
      = if j ≤ i then val_main_v4 (F := Ideal) x0 x1 x2 x3 (ix4 b a i j) else ⊥ := fun b a i j => by
    unfold val_main_v13_0 val_main_v13_1 val_main_v12 val_main_call0_v2 val_main_call0_v0 val_main_cst_0
    pointwise [causal_at, lit_bot]
    by_cases h : j ≤ i <;> simp [h, Scalar.select, bot_at]
  unfold val_main_v14
  have e := Host.reduce_eq_fold (max : EReal → EReal → EReal) (val_main_v13_0 (F := Ideal) x0 x1 x2 x3) (val_main_cst_1 (F := Ideal))
    reducesTo_S2x8x4096x4096_S2x8x4096_d3 h_S_ (ix3 b a i)
  rw [show (val_main_cst_1 (F := Ideal)) (Shape.Idx.first h_S_) = (⊥ : EReal) from lit_bot] at e
  have hd : reducesTo_S2x8x4096x4096_S2x8x4096_d3.drop (ix4 b a i i) = ix3 b a i := by
    funext n
    match n with
    | ⟨0, _⟩ => rfl
    | ⟨1, _⟩ => rfl
    | ⟨2, _⟩ => rfl
    | ⟨n + 3, h⟩ => exact absurd h (by show ¬ n + 3 < 3; omega)
  have hno : ∀ y, val_main_v13_0 (F := Ideal) x0 x1 x2 x3 y ≠ (⊤ : EReal) := fun y => by
    obtain ⟨b', a', i', j', rfl⟩ : ∃ b' a' i' j', y = ix4 b' a' i' j' := ⟨y 0, y 1, y 2, y 3, by idx_ext⟩
    rw [hm]
    split
    · obtain ⟨r, hr⟩ := hs b' a' i' j'
      rw [hr]
      exact EReal.coe_ne_top r
    · exact bot_ne_top
  have hyes : val_main_v13_0 (F := Ideal) x0 x1 x2 x3 (ix4 b a i i) ≠ (⊥ : EReal) := by
    rw [hm, if_pos le_rfl]
    obtain ⟨r, hr⟩ := hs b a i i
    rw [hr]
    exact EReal.coe_ne_bot r
  obtain ⟨r, hr⟩ := fold_real (Finset.univ.filter fun y => reducesTo_S2x8x4096x4096_S2x8x4096_d3.drop y = ix3 b a i)
    (val_main_v13_0 (F := Ideal) x0 x1 x2 x3) (fun y _ => hno y) (ix4 b a i i) (Finset.mem_filter.mpr ⟨Finset.mem_univ _, hd⟩) hyes
  exact ⟨r, e.trans hr⟩

variable {x0 x1 x2 x3 x4 x5 D} (A : Args x0 x2 x4 x5 x1 x3 D)
include A

theorem score_at (b a i j) : val_main_v4 (F := Ideal) x0 x1 x2 x3 (ix4 b a i j) = (D.sc b a i j : EReal) := by
  unfold val_main_v4 val_main_v3 val_main_cst val_main_v2 val_main_v1 val_main_v0
  pointwise [A.h0, A.h1, A.h2, A.h3, lit_sigma, coe_mul', coe_sum, coe_add']
  rfl

/-- The masked scores. -/
theorem masked_at (b a i j) : val_main_v13_0 (F := Ideal) x0 x1 x2 x3 (ix4 b a i j) = if j ≤ i then (D.sc b a i j : EReal) else ⊥ := by
  unfold val_main_v13_0 val_main_v13_1 val_main_v12 val_main_call0_v2 val_main_call0_v0 val_main_cst_0
  pointwise [causal_at, score_at A]
  by_cases h : j ≤ i <;> simp [h, Scalar.select, bot_at]

omit A in
/-- The exponential of a masked score less the greatest one. -/
theorem exp_masked (D : Data) (b a i j) :
    Ideal.exp ((if j ≤ i then (D.sc b a i j : EReal) else ⊥) - (D.top b a i : EReal)) = (D.ex b a i j : EReal) := by
  unfold Data.ex
  split
  · rw [← EReal.coe_sub, Ideal.exp_coe]
  · rw [EReal.bot_sub, Ideal.exp_bot]; rfl

omit A in
theorem above_bot (y : S2x8x4096.Idx → EReal) (i) : maximumf (F := Ideal) (φ := .f32) (val_main_v20 (F := Ideal)) y i = y i := by
  have h : val_main_v20 (F := Ideal) i = (⊥ : EReal) := lit_bot
  show max (val_main_v20 (F := Ideal) i : EReal) (y i) = y i
  rw [h]
  exact max_eq_right bot_le

theorem greatest_at (b a i) : val_main_v21 (F := Ideal) x0 x1 x2 x3 (ix3 b a i) = (D.top b a i : EReal) := by
  unfold val_main_v21
  rw [above_bot]
  exact A.ht b a i

theorem greatest_wide_at (b a i j) : val_main_v32 (F := Ideal) x0 x1 x2 x3 (ix4 b a i j) = (D.top b a i : EReal) := by
  have h := greatest_at A b a i
  unfold val_main_v32 val_main_v31
  generalize val_main_v21 (F := Ideal) x0 x1 x2 x3 = y at h ⊢
  pointwise [h]

theorem ex_at (b a i j) : val_main_v34 (F := Ideal) x0 x1 x2 x3 (ix4 b a i j) = (D.ex b a i j : EReal) := by
  unfold val_main_v34 val_main_v33
  pointwise [masked_at A, greatest_wide_at A, exp_masked]

end Cert.AttnPast
end
-- ==== Proof.AttnLoop.lean ====
/- The loop of the attention gradient's body: the sums it carries and the stores it makes. -/
module

public import proofs.«01_k».proof.Proof.AttnScratch

@[expose] public section

set_option maxRecDepth 16384

noncomputable section

open Idealize.ShloMosaic Idealize.ShloMosaic.TcCoe Idealize.SL.Sem Idealize.ShloMosaic.Tactic

namespace Cert.AttnLoop

open Cert.AttnIdeal Cert.AttnIdeal.Gen Cert.AttnModel Cert.AttnTrip Cert.AttnPoint Cert.AttnBlocks Cert.AttnScratch

variable {F : FTy → Type} [FloatOps F]

theorem dkAcc_congr (b B : ℕ → Blocks F) (h : Fin 2) (g : Fin 4) (m : ℕ) (hb : ∀ r ≤ g.val + m, b r = B r) : dkAcc b h g m = dkAcc B h g m := by
  induction m with
  | zero => unfold dkAcc; rw [hb g.val (by omega)]
  | succ m ih => unfold dkAcc; rw [hb _ le_rfl, ih fun r hr => hb r (by omega)]

theorem dvAcc_congr (b B : ℕ → Blocks F) (h : Fin 2) (g : Fin 4) (m : ℕ) (hb : ∀ r ≤ g.val + m, b r = B r) : dvAcc b h g m = dvAcc B h g m := by
  induction m with
  | zero => unfold dvAcc; rw [hb g.val (by omega)]
  | succ m ih => unfold dvAcc; rw [hb _ le_rfl, ih fun r hr => hb r (by omega)]

/-- The sums the loop begins with only look at the four unrolled blocks. -/
theorem sums_congr (b B : ℕ → Blocks F) (hb : ∀ r < 4, b r = B r) : sums b 0 = sums B 0 := by
  unfold sums
  congr 1
  · funext h g; exact dkAcc_congr b B h g _ fun r hr => hb r (by omega)
  · funext h g; exact dvAcc_congr b B h g _ fun r hr => hb r (by omega)

/-- One more block takes the sums on by one. -/
theorem next_sums (B : ℕ → Blocks F) (m : ℕ) : next (B (4 + m)) (sums B m) = sums B (m + 1) := by
  have e0 : ∀ x, dkAcc B x 0 (3 + (m + 1)) = dkStep false (B (4 + m)) x 0 (dkAcc B x 0 (3 + m)) := fun x => by
    show dkStep false (B (0 + (3 + m + 1))) x 0 _ = _
    rw [show 0 + (3 + m + 1) = 4 + m by omega]; rfl
  have e1 : ∀ x, dkAcc B x 1 (2 + (m + 1)) = dkStep false (B (4 + m)) x 1 (dkAcc B x 1 (2 + m)) := fun x => by
    show dkStep false (B (1 + (2 + m + 1))) x 1 _ = _
    rw [show 1 + (2 + m + 1) = 4 + m by omega]; rfl
  have e2 : ∀ x, dkAcc B x 2 (1 + (m + 1)) = dkStep false (B (4 + m)) x 2 (dkAcc B x 2 (1 + m)) := fun x => by
    show dkStep false (B (2 + (1 + m + 1))) x 2 _ = _
    rw [show 2 + (1 + m + 1) = 4 + m by omega]; rfl
  have e3 : ∀ x, dkAcc B x 3 (0 + (m + 1)) = dkStep false (B (4 + m)) x 3 (dkAcc B x 3 (0 + m)) := fun x => by
    show dkStep false (B (3 + (0 + m + 1))) x 3 _ = _
    rw [show 3 + (0 + m + 1) = 4 + m by omega]; rfl
  have f0 : ∀ x, dvAcc B x 0 (3 + (m + 1)) = dvStep false (B (4 + m)) x 0 (dvAcc B x 0 (3 + m)) := fun x => by
    show dvStep false (B (0 + (3 + m + 1))) x 0 _ = _
    rw [show 0 + (3 + m + 1) = 4 + m by omega]; rfl
  have f1 : ∀ x, dvAcc B x 1 (2 + (m + 1)) = dvStep false (B (4 + m)) x 1 (dvAcc B x 1 (2 + m)) := fun x => by
    show dvStep false (B (1 + (2 + m + 1))) x 1 _ = _
    rw [show 1 + (2 + m + 1) = 4 + m by omega]; rfl
  have f2 : ∀ x, dvAcc B x 2 (1 + (m + 1)) = dvStep false (B (4 + m)) x 2 (dvAcc B x 2 (1 + m)) := fun x => by
    show dvStep false (B (2 + (1 + m + 1))) x 2 _ = _
    rw [show 2 + (1 + m + 1) = 4 + m by omega]; rfl
  have f3 : ∀ x, dvAcc B x 3 (0 + (m + 1)) = dvStep false (B (4 + m)) x 3 (dvAcc B x 3 (0 + m)) := fun x => by
    show dvStep false (B (3 + (0 + m + 1))) x 3 _ = _
    rw [show 3 + (0 + m + 1) = 4 + m by omega]; rfl
  show next (B (4 + m)) (dkAcc B 0 0 (3 + m), dvAcc B 0 0 (3 + m), dkAcc B 0 1 (2 + m), dvAcc B 0 1 (2 + m), dkAcc B 0 2 (1 + m), dvAcc B 0 2 (1 + m), dkAcc B 0 3 (0 + m), dvAcc B 0 3 (0 + m),
      dkAcc B 1 0 (3 + m), dvAcc B 1 0 (3 + m), dkAcc B 1 1 (2 + m), dvAcc B 1 1 (2 + m), dkAcc B 1 2 (1 + m), dvAcc B 1 2 (1 + m), dkAcc B 1 3 (0 + m), dvAcc B 1 3 (0 + m))
    = (dkAcc B 0 0 (3 + (m + 1)), dvAcc B 0 0 (3 + (m + 1)), dkAcc B 0 1 (2 + (m + 1)), dvAcc B 0 1 (2 + (m + 1)), dkAcc B 0 2 (1 + (m + 1)), dvAcc B 0 2 (1 + (m + 1)), dkAcc B 0 3 (0 + (m + 1)), dvAcc B 0 3 (0 + (m + 1)),
      dkAcc B 1 0 (3 + (m + 1)), dvAcc B 1 0 (3 + (m + 1)), dkAcc B 1 1 (2 + (m + 1)), dvAcc B 1 1 (2 + (m + 1)), dkAcc B 1 2 (1 + (m + 1)), dvAcc B 1 2 (1 + (m + 1)), dkAcc B 1 3 (0 + (m + 1)), dvAcc B 1 3 (0 + (m + 1)))
  rw [e0, e0, e1, e1, e2, e2, e3, e3, f0, f0, f1, f1, f2, f2, f3, f3]
  rfl

variable (c : Dev nD) (i : grid0.Coords) (arg3 : Memref sig .tc .vmem S4096x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S4096x256 .bf16) (harg6 : arg6.IsWhole) (arg7 : Memref sig .tc .vmem S1x2x8x4096 .f32) (harg7 : arg7.IsWhole) (arg8 : Memref sig .tc .vmem S1x2x8x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x256 .bf16) (harg11 : arg11.IsWhole) (arg12 : Memref sig .tc .vmem S4096x256 .f32) (harg12 : arg12.IsWhole)

variable (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

variable (x0 : Vec F S4096x256 .bf16) (x1 : Vec F S2048x256 .bf16) (x2 : Vec F S2048x256 .bf16) (x3 : Vec F S4096x256 .bf16) (x4 : Vec F S1x2x8x4096 .f32) (x5 : Vec F S1x2x8x4096 .f32)
variable (h0 : arg3.view.read (Elt F) X3 = x0) (h1 : arg4.view.read (Elt F) X4 = x1) (h2 : arg5.view.read (Elt F) X5 = x2) (h3 : arg6.view.read (Elt F) X6 = x3) (h4 : arg7.view.read (Elt F) X7 = x4) (h5 : arg8.view.read (Elt F) X8 = x5)
variable (b : ℕ → Blocks F) (w : FVec F S512x128 .f32) (G : BufTy.Contents (Elt F) arg12.view.ty)

/-- The second loop carries its sums as they are and stores nothing. -/
theorem rest_eq (n : BitVec 32) (s : Carry F) : rest c i arg3 harg3 arg4 harg4 arg5 harg5 arg6 harg6 arg7 harg7 arg8 harg8 arg9 harg9 arg10 harg10 arg11 harg11 arg12 harg12 X3 X4 X5 X6 X7 X8 b w n G s = (s, []) := by
  unfold rest
  rw [trips_rest i]
  rfl

include h0 h1 h2 h3 h4 h5

/-- The unrolled blocks, by number. -/
theorem unr_eq (r : Fin 4) : unr i arg3 arg4 arg5 arg6 arg7 arg8 X3 X4 X5 X6 X7 X8 r.val = blocks x0 x1 x2 x3 x4 x5 (4 * (i 2).val + r.val) := by
  unfold unr
  rw [show (⟨r.val % 4, Nat.mod_lt _ (by decide)⟩ : Fin 4) = r from Fin.ext (Nat.mod_eq_of_lt r.isLt)]
  exact unrBlocks_eq i arg3 arg4 arg5 arg6 arg7 arg8 X3 X4 X5 X6 X7 X8 x0 x1 x2 x3 x4 x5 h0 h1 h2 h3 h4 h5 r

/-- The sums after `m` trips. -/
theorem loop_sums (hb : ∀ r < 4, b r = blocks x0 x1 x2 x3 x4 x5 (4 * (i 2).val + r)) (m : ℕ) (hm : m ≤ (k0_t1_loop i).trips) :
    (loop c i arg3 harg3 arg4 harg4 arg5 harg5 arg6 harg6 arg7 harg7 arg8 harg8 arg9 harg9 arg10 harg10 arg11 harg11 arg12 harg12 X3 X4 X5 X6 X7 X8 b w G m).1 = sums (fun n => blocks x0 x1 x2 x3 x4 x5 (4 * (i 2).val + n)) m := by
  induction m with
  | zero => exact sums_congr _ _ hb
  | succ m ih =>
    have hs := ih (by omega)
    have hi := (trip_lt i ⟨m, hm⟩).1
    refine (congrArg Prod.fst (st_k0_t1_succ (k := ⟨m, hm⟩) ..)).trans ?_
    dsimp only
    refine (tripR_eq c i arg3 harg3 arg4 harg4 arg5 harg5 arg6 harg6 arg7 harg7 arg8 harg8 arg9 harg9 arg10 harg10 arg11 harg11 arg12 harg12 X3 X4 X5 X6 X7 X8 _ _ _ _ _ _ _ _ _ _ _ _ _ _ _ _ _ _ _ _ _ _).trans ?_
    rw [tripBlocks_eq i arg3 arg4 arg5 arg6 arg7 arg8 X3 X4 X5 X6 X7 X8 x0 x1 x2 x3 x4 x5 h0 h1 h2 h3 h4 h5]
    refine (congrArg (next _) hs).trans ?_
    rw [← next_sums, hi]
    simp only [Nat.mul_zero, Nat.zero_add]

/-- The stores of the first `m` trips. -/
theorem loop_stores (x : Vec F S4096x256 .f32)
    (hG : arg12.view.read (Elt F) G = after (blocks x0 x1 x2 x3 x4 x5) (i 2).val x 8) (m : ℕ) (hm : m ≤ (k0_t1_loop i).trips) :
    arg12.view.read (Elt F) (arg12.view.writes (Elt F) G (loop c i arg3 harg3 arg4 harg4 arg5 harg5 arg6 harg6 arg7 harg7 arg8 harg8 arg9 harg9 arg10 harg10 arg11 harg11 arg12 harg12 X3 X4 X5 X6 X7 X8 b w G m).2) = after (blocks x0 x1 x2 x3 x4 x5) (i 2).val x (8 + 2 * m) := by
  induction m with
  | zero => exact hG
  | succ m ih =>
    have hs := ih (by omega)
    obtain ⟨hi, hm4⟩ := trip_lt i ⟨m, hm⟩
    replace hm4 : m < 4 := hm4
    have hn : 4 + m < 8 := by omega
    have hd : ∀ h, dqSum (blocks x0 x1 x2 x3 x4 x5 (4 + m)) h 4 = dqSum (blocks x0 x1 x2 x3 x4 x5 (4 + m)) h (4 + m - 4 * (i 2).val) := fun h => by
      rw [hi]; interval_cases m <;> rfl
    have hpart : ∀ h : Fin 2, part (arg12.view.read (Elt F) (arg12.view.writes (Elt F) G (loop c i arg3 harg3 arg4 harg4 arg5 harg5 arg6 harg6 arg7 harg7 arg8 harg8 arg9 harg9 arg10 harg10 arg11 harg11 arg12 harg12 X3 X4 X5 X6 X7 X8 b w G m).2)) (4 + m) h = part x (4 + m) h := fun h => by
      rw [hs]; exact part_after _ _ x _ _ h hn (by rw [hi]; omega)
    refine (congrArg (fun z => arg12.view.read (Elt F) (arg12.view.writes (Elt F) G z)) (congrArg Prod.snd (st_k0_t1_succ (k := ⟨m, hm⟩) ..))).trans ?_
    dsimp only
    refine (congrArg (fun z => arg12.view.read (Elt F) (arg12.view.writes (Elt F) G (z ++ _))) (tripL_eq c i arg3 harg3 arg4 harg4 arg5 harg5 arg6 harg6 arg7 harg7 arg8 harg8 arg9 harg9 arg10 harg10 arg11 harg11 arg12 harg12 X3 X4 X5 X6 X7 X8 _ _ _ _ _ _ _ _ _ _ _ _ _ _ _ _ _ _ _ _ _ _)).trans ?_
    rw [tripBlocks_eq i arg3 arg4 arg5 arg6 arg7 arg8 X3 X4 X5 X6 X7 X8 x0 x1 x2 x3 x4 x5 h0 h1 h2 h3 h4 h5]
    dsimp only [List.cons_append, List.nil_append]
    refine after_store arg12 _ (i 2).val x (8 + 2 * m + 1) (4 + m) 1 hn (by rw [hi]; show 2 * (4 + m) + 1 = _; omega) G _ ?_ _ _ (off7_eq i ⟨m, hm⟩) _ ?_
    · refine after_store arg12 _ (i 2).val x (8 + 2 * m) (4 + m) 0 hn (by rw [hi]; show 2 * (4 + m) + 0 = _; omega) G _ hs _ _ (off5_eq i ⟨m, hm⟩) _ ?_
      unfold stored
      rw [← hd, ← hpart 0]
      exact congrArg (fun z => dqStore z _) (load_rows arg12 _ _ rfl _ _ _ 0 hn (off5_eq i ⟨m, hm⟩))
    · unfold stored
      rw [← hd, ← hpart 1]
      exact congrArg (fun z => dqStore z _) (load_rows arg12 _ _ rfl _ _ _ 1 hn (off7_eq i ⟨m, hm⟩))

end Cert.AttnLoop
-- ==== Proof.AttnOut.lean ====
/- What each point of the attention gradient's grid leaves: the blocks of key and value gradients, and the sum of query
   gradients over the two points of a sequence and pair of heads. -/
module

public import proofs.«01_k».proof.Proof.AttnLoop
public import proofs.«01_k».proof.Proof.AttnIdealFrame
public import Idealize.ShloMosaic.Lib.VecWindow

@[expose] public section

set_option maxRecDepth 16384

noncomputable section

open Idealize.ShloMosaic Idealize.ShloMosaic.TcCoe Idealize.SL.Sem Idealize.ShloMosaic.Tactic

namespace Cert.AttnOut

open Cert.AttnIdeal Cert.AttnIdeal.Gen Cert.AttnModel Cert.AttnTrip Cert.AttnPoint Cert.AttnBlocks Cert.AttnScratch Cert.AttnLoop

variable {F : FTy → Type} [FloatOps F]

/-- The head a column of the key windows lies in. -/
def kHead (y : S2048x256.Idx) : Fin 2 := ⟨(y 1).val / 128, by have : (y 1).val < 256 := (y 1).isLt; omega⟩

/-- The block of keys a row of the key windows lies in. -/
def kBlock (y : S2048x256.Idx) : Fin 4 := ⟨(y 0).val / 512, by have : (y 0).val < 2048 := (y 0).isLt; omega⟩

/-- An index's place within its block of keys. -/
def kWithin (y : S2048x256.Idx) : S512x128.Idx := ix2 ⟨(y 0).val % 512, Nat.mod_lt _ (by decide)⟩ ⟨(y 1).val % 128, Nat.mod_lt _ (by decide)⟩

/-- The array whose blocks are `x`. -/
def tiled (x : Fin 2 → Fin 4 → FVec F S512x128 .f32) : Vec F S2048x256 .bf16 := fun y => truncf .bf16 (x (kHead y) (kBlock y)) bitsLt_bf16_f32 (kWithin y)

/-- The eight stores of a gradient of keys or values make up the array. -/
theorem read_outs (arg : Memref sig .tc .vmem S2048x256 .bf16) (f : BufTy.Contents (Elt F) arg.view.ty) (x : Fin 2 → Fin 4 → FVec F S512x128 .f32) :
    arg.view.read (Elt F) (arg.view.writes (Elt F) f (outs x)) = tiled x := by
  funext y
  have key : ∀ (g : Fin 4) (h : Fin 2) (off : Fin 2 → ℕ) (inb : ∀ a, off a + S512x128.size a ≤ S2048x256.size a) (ho : off = ![512 * g.val, 128 * h.val])
      (z : (Rect.unit (s := S2048x256) off S512x128.size inb).shape.Idx),
      (truncf .bf16 (x h g) bitsLt_bf16_f32 : FVec F S512x128 .bf16) z = tiled x ((Rect.unit (s := S2048x256) off S512x128.size inb).emb z) := by
    intro g h off inb ho z
    subst ho
    have z0 : (z 0).val < 512 := (z 0).isLt
    have z1 : (z 1).val < 128 := (z 1).isLt
    have hh : kHead ((Rect.unit (s := S2048x256) ![512 * g.val, 128 * h.val] S512x128.size inb).emb z) = h := Fin.ext (by
      show (128 * h.val + 1 * (z 1).val) / 128 = h.val; omega)
    have hg : kBlock ((Rect.unit (s := S2048x256) ![512 * g.val, 128 * h.val] S512x128.size inb).emb z) = g := Fin.ext (by
      show (512 * g.val + 1 * (z 0).val) / 512 = g.val; omega)
    have hw : kWithin ((Rect.unit (s := S2048x256) ![512 * g.val, 128 * h.val] S512x128.size inb).emb z) = z := by
      funext a
      fin_cases a
      · exact Fin.ext (show (512 * g.val + 1 * (z 0).val) % 512 = (z 0).val by omega)
      · exact Fin.ext (show (128 * h.val + 1 * (z 1).val) % 128 = (z 1).val by omega)
    unfold tiled
    rw [hh, hg, hw]
  refine View.read_writes_apply_of_pieces arg.view f (tiled x) (outs x) ?_ y (View.cover_of_tiledL (outs x) S512x128.size (by sl_kernel_rfl) y)
  intro p hp
  unfold outs at hp
  simp only [List.mem_cons, List.not_mem_nil, or_false] at hp
  rcases hp with rfl | rfl | rfl | rfl | rfl | rfl | rfl | rfl
  · exact key 3 1 ![1536, 128] (by decide) rfl
  · exact key 2 1 ![1024, 128] (by decide) rfl
  · exact key 1 1 ![512, 128] (by decide) rfl
  · exact key 0 1 ![0, 128] (by decide) rfl
  · exact key 3 0 ![1536, 0] (by decide) rfl
  · exact key 2 0 ![1024, 0] (by decide) rfl
  · exact key 1 0 ![512, 0] (by decide) rfl
  · exact key 0 0 ![0, 0] (by decide) rfl

theorem keysOf_sums (B : ℕ → Blocks F) (n : ℕ) : keysOf (sums B n) = fun h g => dkAcc B h g (3 - g + n) := by
  funext h g; fin_cases h <;> fin_cases g <;> rfl

theorem valuesOf_sums (B : ℕ → Blocks F) (n : ℕ) : valuesOf (sums B n) = fun h g => dvAcc B h g (3 - g + n) := by
  funext h g; fin_cases h <;> fin_cases g <;> rfl

theorem coords_half : ∀ t : Fin cfg0.N, (grid0.coords t 2).val = t.val % 2 :=
  (by decide +kernel : ∀ t : Fin grid0.N, (grid0.coords t 2).val = t.val % 2)

variable (m : (ℓ : Loc nD τ sig) → Buf (Elt F) ℓ) (c : Dev nD)

/-- The blocks of queries of a point. -/
def at_ (t : Fin cfg0.N) : ℕ → Blocks F := blocks (iblk m c 0 t) (iblk m c 1 t) (iblk m c 2 t) (iblk m c 3 t) (iblk m c 4 t) (iblk m c 5 t)

/-- The key gradients of a point: from the diagonal to the last of the eight blocks of queries. -/
def keysAt (t : Fin cfg0.N) (h : Fin 2) (g : Fin 4) : FVec F S512x128 .f32 :=
  dkAcc (fun n => at_ m c t (4 * (t.val % 2) + n)) h g (3 - g + 4 * (1 - t.val % 2))

/-- The value gradients of a point. -/
def valuesAt (t : Fin cfg0.N) (h : Fin 2) (g : Fin 4) : FVec F S512x128 .f32 :=
  dvAcc (fun n => at_ m c t (4 * (t.val % 2) + n)) h g (3 - g + 4 * (1 - t.val % 2))

theorem trips_at (t : Fin cfg0.N) : (k0_t1_loop (grid0.coords t)).trips = 4 * (1 - t.val % 2) := by
  have hc := coords_half t
  rcases half (grid0.coords t) with h | h
  · rw [trips_first _ h, ← hc, h]
  · rw [trips_last _ h, ← hc, h]

theorem unr_at (t : Fin cfg0.N) (r : ℕ) (hr : r < 4) :
    unr (grid0.coords t) (st0_0 t) (st0_1 t) (st0_2 t) (st0_3 t) (st0_4 t) (st0_5 t) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) r
      = at_ m c t (4 * (grid0.coords t 2).val + r) :=
  unr_eq (grid0.coords t) (st0_0 t) (st0_1 t) (st0_2 t) (st0_3 t) (st0_4 t) (st0_5 t) _ _ _ _ _ _ _ _ _ _ _ _
    (Memref.IsWhole.read_unread _ _) (Memref.IsWhole.read_unread _ _) (Memref.IsWhole.read_unread _ _) (Memref.IsWhole.read_unread _ _) (Memref.IsWhole.read_unread _ _) (Memref.IsWhole.read_unread _ _) ⟨r, hr⟩

/-- The loop's sums at a point. -/
theorem loop_at (t : Fin cfg0.N) (b : ℕ → Blocks F) (hb : ∀ r < 4, b r = at_ m c t (4 * (grid0.coords t 2).val + r)) (w : FVec F S512x128 .f32) (G : BufTy.Contents (Elt F) scM.view.ty) :
    (loop c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _)
      ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) b w G (k0_t1_loop (grid0.coords t)).trips).1
      = sums (fun n => at_ m c t (4 * (t.val % 2) + n)) (4 * (1 - t.val % 2)) := by
  refine (loop_sums c (grid0.coords t) _ _ _ _ _ _ _ _ _ _ _ _ _ _ _ _ _ _ _ _ _ _ _ _ _ _ _ _ _ _ _ _
    (Memref.IsWhole.read_unread _ _) (Memref.IsWhole.read_unread _ _) (Memref.IsWhole.read_unread _ _) (Memref.IsWhole.read_unread _ _) (Memref.IsWhole.read_unread _ _) (Memref.IsWhole.read_unread _ _) b w G hb _ le_rfl).trans ?_
  rw [trips_at, coords_half]
  rfl

/-- The loop's stores at a point. -/
theorem stores_at (t : Fin cfg0.N) (b : ℕ → Blocks F) (w : FVec F S512x128 .f32) (G : BufTy.Contents (Elt F) scM.view.ty) (x : Vec F S4096x256 .f32)
    (hG : scM.view.read (Elt F) G = after (at_ m c t) (grid0.coords t 2).val x 8) :
    scM.view.read (Elt F) (scM.view.writes (Elt F) G (loop c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _)
      ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) b w G (k0_t1_loop (grid0.coords t)).trips).2)
      = after (at_ m c t) (t.val % 2) x (8 + 2 * (4 * (1 - t.val % 2))) := by
  refine (loop_stores c (grid0.coords t) _ _ _ _ _ _ _ _ _ _ _ _ _ _ _ _ _ _ _ _ _ _ _ _ _ _ _ _ _ _ _ _
    (Memref.IsWhole.read_unread _ _) (Memref.IsWhole.read_unread _ _) (Memref.IsWhole.read_unread _ _) (Memref.IsWhole.read_unread _ _) (Memref.IsWhole.read_unread _ _) (Memref.IsWhole.read_unread _ _) b w G x hG _ le_rfl).trans ?_
  rw [trips_at, coords_half]
  rfl

theorem dkA_eq (t : Fin cfg0.N) (h : t.val % 2 = 0) : dkA m c t h = tiled (keysAt m c t) := by
  unfold dkA RA
  rw [runA_keys, read_outs]
  unfold restA loopA
  rw [rest_eq]
  dsimp only
  rw [loop_at m c t _ (unr_at m c t), keysOf_sums]
  rfl

theorem dvA_eq (t : Fin cfg0.N) (h : t.val % 2 = 0) : dvA m c t h = tiled (valuesAt m c t) := by
  unfold dvA RA
  rw [runA_values, read_outs]
  unfold restA loopA
  rw [rest_eq]
  dsimp only
  rw [loop_at m c t _ (unr_at m c t), valuesOf_sums]
  rfl

theorem dkB_eq (t : Fin cfg0.N) (h : t.val % 2 = 1) (xs0 : Vec F S4096x256 .f32) : dkB m c t h xs0 = tiled (keysAt m c t) := by
  unfold dkB RB
  rw [runB_keys, read_outs]
  unfold restB loopB
  rw [rest_eq]
  dsimp only
  rw [loop_at m c t _ (unr_at m c t), keysOf_sums]
  rfl

theorem dvB_eq (t : Fin cfg0.N) (h : t.val % 2 = 1) (xs0 : Vec F S4096x256 .f32) : dvB m c t h xs0 = tiled (valuesAt m c t) := by
  unfold dvB RB
  rw [runB_values, read_outs]
  unfold restB loopB
  rw [rest_eq]
  dsimp only
  rw [loop_at m c t _ (unr_at m c t), valuesOf_sums]
  rfl

/-- Every point leaves its block of key gradients. -/
theorem dkOut_eq (t : Fin cfg0.N) : dkOut m c t = tiled (keysAt m c t) := by
  unfold dkOut
  split
  · exact dkA_eq m c t _
  · exact dkB_eq m c t _ _

/-- Every point leaves its block of value gradients. -/
theorem dvOut_eq (t : Fin cfg0.N) : dvOut m c t = tiled (valuesAt m c t) := by
  unfold dvOut
  split
  · exact dvA_eq m c t _
  · exact dvB_eq m c t _ _

/-- The first point of a pair leaves the shares of the first half of the keys, over zero. -/
theorem scrA_eq (t : Fin cfg0.N) (h : t.val % 2 = 0) : scrA m c t h = after (at_ m c t) 0 k0_pay112 16 := by
  unfold scrA RA
  rw [runA_stores]
  unfold restA
  rw [rest_eq]
  dsimp only [List.nil_append]
  rw [View.writes_append]
  unfold loopA
  refine (stores_at m c t _ _ _ k0_pay112 ?_).trans (by rw [h])
  unfold baseA
  exact after_storesA scM (grid0.coords t) k0_pay112 _ (at_ m c t) (fun r => unr_at m c t r.val r.isLt) _ _ (View.read_writes_full _ _ _ _ _) 8 le_rfl

/-- The second adds the shares of the second half. -/
theorem scrB_eq (t : Fin cfg0.N) (h : t.val % 2 = 1) (xs0 : Vec F S4096x256 .f32) : scrB m c t h xs0 = after (at_ m c t) 1 xs0 8 := by
  unfold scrB RB
  rw [runB_stores]
  unfold restB
  rw [rest_eq]
  dsimp only [List.nil_append]
  rw [View.writes_append]
  unfold loopB
  refine (stores_at m c t _ _ _ xs0 ?_).trans (by rw [h])
  unfold baseB
  exact after_storesB scM (grid0.coords t) xs0 _ (at_ m c t) (fun r => unr_at m c t r.val r.isLt) _ (Memref.IsWhole.read_unread _ _) 8 le_rfl

/-- And the query gradients are that sum, cast. -/
theorem dqB_eq (t : Fin cfg0.N) (h : t.val % 2 = 1) (xs0 : Vec F S4096x256 .f32) :
    dqB m c t h xs0 = (truncf .bf16 (scrB m c t h xs0 : FVec F S4096x256 .f32) bitsLt_bf16_f32 : FVec F S4096x256 .bf16) := by
  unfold dqB RB
  rw [runB_queries, View.read_writes_full, View.readAt_full]
  unfold scrB RB
  rw [runB_stores]

/-- The query gradients of a pair of points. -/
theorem dqOut_eq (s t : Fin cfg0.N) (hs : s.val % 2 = 0) (ht : t.val = s.val + 1) :
    dqOut m c t = (truncf .bf16 (after (at_ m c t) 1 (after (at_ m c s) 0 k0_pay112 16) 8 : FVec F S4096x256 .f32) bitsLt_bf16_f32 : FVec F S4096x256 .bf16) := by
  have h1 : t.val % 2 = 1 := by omega
  have e : ∀ (n : ℕ) (hn : n < cfg0.N), n = s.val → scr m c n hn = after (at_ m c s) 0 k0_pay112 16 := by
    intro n hn e
    subst e
    exact (scr_even m c s hs).trans (scrA_eq m c s hs)
  unfold dqOut
  rw [dif_neg (by omega), dqB_eq, scrB_eq, e _ _ (by omega)]

end Cert.AttnOut
-- ==== Proof.AttnFinal.lean ====
/- The three arrays the attention gradient leaves, as sums over positions. -/
module

public import proofs.«01_k».proof.Proof.AttnOut
public import proofs.«01_k».proof.Proof.AttnTotal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.Tactic

namespace Cert.AttnFinal

open Cert.AttnIdeal Cert.AttnIdeal.Gen Cert.AttnModel Cert.AttnBlocks Cert.AttnScratch Cert.AttnOut Cert.AttnReal Cert.Reals

/-- Position `i` of sequence `b`, as a row. -/
def tok (b : Fin 2) (i : Fin 4096) : Fin 8192 := ⟨4096 * b.val + i.val, by omega⟩

/-- Lane `l` of head `a`, as a column. -/
def lane (a : Fin 8) (l : Fin 128) : Fin 1024 := ⟨128 * a.val + l.val, by omega⟩

theorem idx_in : ∀ t : Fin cfg0.N, win0_0.index t = ![t.val / 8, t.val / 2 % 4] ∧ win0_1.index t = ![2 * (t.val / 8) + t.val % 2, t.val / 2 % 4] ∧ win0_2.index t = ![2 * (t.val / 8) + t.val % 2, t.val / 2 % 4]
    ∧ win0_3.index t = ![t.val / 8, t.val / 2 % 4] ∧ win0_4.index t = ![t.val / 8, t.val / 2 % 4, 0, 0] ∧ win0_5.index t = ![t.val / 8, t.val / 2 % 4, 0, 0] := by decide +kernel

theorem idx_out : ∀ t : Fin cfg0.N, win0_6.index t = ![2 * (t.val / 8) + t.val % 2, t.val / 2 % 4] ∧ win0_7.index t = ![2 * (t.val / 8) + t.val % 2, t.val / 2 % 4]
    ∧ win0_8.index t = ![t.val / 8, t.val / 2 % 4] := by decide +kernel

variable (m : (ℓ : Loc nD τ sig) → Buf (Elt Ideal) ℓ)

/-- The six arrays the kernel reads hold the numbers of these heads. -/
structure Arrays (c : Dev nD) (Y : Fin 2 → Fin 8 → Head) : Prop where
  q : ∀ b a i l, V m c main_v38 (ix2 (tok b i) (lane a l)) = ((Y b a).q i l : EReal)
  k : ∀ b a i l, V m c main_v42 (ix2 (tok b i) (lane a l)) = ((Y b a).k i l : EReal)
  v : ∀ b a i l, V m c main_v45 (ix2 (tok b i) (lane a l)) = ((Y b a).v i l : EReal)
  ct : ∀ b a i l, V m c main_v48 (ix2 (tok b i) (lane a l)) = ((Y b a).ct i l : EReal)
  lse : ∀ b a (e : Fin 8) i, V m c main_v29 (ix4 b a e i) = ((Y b a).lse i : EReal)
  del : ∀ b a (e : Fin 8) i, V m c main_v34 (ix4 b a e i) = ((Y b a).del i : EReal)

/-- The sequence of a point, and the heads of its pair. -/
def seqOf (t : Fin cfg0.N) : Fin 2 := ⟨t.val / 8, by have : t.val < 16 := t.isLt; omega⟩
def headAt (t : Fin cfg0.N) (h : Fin 2) : Fin 8 := ⟨2 * (t.val / 2 % 4) + h.val, by omega⟩

variable {m} {c : Dev nD} {Y : Fin 2 → Fin 8 → Head} (A : Arrays m c Y)
include A

omit A in
theorem emb_q (t : Fin cfg0.N) (n : ℕ) (hn : n < 8) (h : Fin 2) (r : Fin 512) (l : Fin 128) :
    ((View.whole main_v38).slice (win0_0.rect t)).emb (ix2 (row n r) (col h l)) = ix2 (tok (seqOf t) (row n r)) (lane (headAt t h) l) := by
  have i := (idx_in t).1
  have ht : t.val < 16 := t.isLt
  unfold col tok lane seqOf headAt
  blk_ext [i]

omit A in
theorem emb_k (t : Fin cfg0.N) (h : Fin 2) (g : Fin 4) (r : Fin 512) (l : Fin 128) :
    ((View.whole main_v42).slice (win0_1.rect t)).emb (ix2 (krow g r) (col h l)) = ix2 (tok (seqOf t) (row (4 * (t.val % 2) + g) r)) (lane (headAt t h) l) := by
  have i := (idx_in t).2.1
  have ht : t.val < 16 := t.isLt
  unfold krow col tok lane seqOf headAt row
  blk_ext [i]

omit A in
theorem emb_v (t : Fin cfg0.N) (h : Fin 2) (g : Fin 4) (r : Fin 512) (l : Fin 128) :
    ((View.whole main_v45).slice (win0_2.rect t)).emb (ix2 (krow g r) (col h l)) = ix2 (tok (seqOf t) (row (4 * (t.val % 2) + g) r)) (lane (headAt t h) l) := by
  have i := (idx_in t).2.2.1
  have ht : t.val < 16 := t.isLt
  unfold krow col tok lane seqOf headAt row
  blk_ext [i]

omit A in
theorem emb_ct (t : Fin cfg0.N) (n : ℕ) (hn : n < 8) (h : Fin 2) (r : Fin 512) (l : Fin 128) :
    ((View.whole main_v48).slice (win0_3.rect t)).emb (ix2 (row n r) (col h l)) = ix2 (tok (seqOf t) (row n r)) (lane (headAt t h) l) := by
  have i := (idx_in t).2.2.2.1
  have ht : t.val < 16 := t.isLt
  unfold col tok lane seqOf headAt
  blk_ext [i]

omit A in
theorem emb_lse (t : Fin cfg0.N) (n : ℕ) (h : Fin 2) (r : Fin 512) :
    ((View.whole main_v29).slice (win0_4.rect t)).emb (ix4 (0 : Fin 1) h (0 : Fin 8) (row n r)) = ix4 (seqOf t) (headAt t h) (0 : Fin 8) (row n r) := by
  have i := (idx_in t).2.2.2.2.1
  have ht : t.val < 16 := t.isLt
  unfold seqOf headAt
  blk_ext [i]

omit A in
theorem emb_del (t : Fin cfg0.N) (n : ℕ) (h : Fin 2) (r : Fin 512) :
    ((View.whole main_v34).slice (win0_5.rect t)).emb (ix4 (0 : Fin 1) h (0 : Fin 8) (row n r)) = ix4 (seqOf t) (headAt t h) (0 : Fin 8) (row n r) := by
  have i := (idx_in t).2.2.2.2.2
  have ht : t.val < 16 := t.isLt
  unfold seqOf headAt
  blk_ext [i]

omit A in
/-- Reading a part of a whole buffer. -/
theorem read_part {b : Ref sig .tc} (r : Rect b.ty.shape) (f : b.ty.Contents (Elt Ideal)) (y : r.shape.Idx) :
    ((View.whole b).slice r).read (Elt Ideal) f y = f (((View.whole b).slice r).emb y) := rfl

omit A in
theorem read_0 (t : Fin cfg0.N) (y : (win0_0.rect t).shape.Idx) : iblk m c 0 t y = V m c main_v38 (((View.whole main_v38).slice (win0_0.rect t)).emb y) :=
  read_part (b := main_v38) (win0_0.rect t) (V m c main_v38) y

omit A in
theorem read_1 (t : Fin cfg0.N) (y : (win0_1.rect t).shape.Idx) : iblk m c 1 t y = V m c main_v42 (((View.whole main_v42).slice (win0_1.rect t)).emb y) :=
  read_part (b := main_v42) (win0_1.rect t) (V m c main_v42) y

omit A in
theorem read_2 (t : Fin cfg0.N) (y : (win0_2.rect t).shape.Idx) : iblk m c 2 t y = V m c main_v45 (((View.whole main_v45).slice (win0_2.rect t)).emb y) :=
  read_part (b := main_v45) (win0_2.rect t) (V m c main_v45) y

omit A in
theorem read_3 (t : Fin cfg0.N) (y : (win0_3.rect t).shape.Idx) : iblk m c 3 t y = V m c main_v48 (((View.whole main_v48).slice (win0_3.rect t)).emb y) :=
  read_part (b := main_v48) (win0_3.rect t) (V m c main_v48) y

omit A in
theorem read_4 (t : Fin cfg0.N) (y : (win0_4.rect t).shape.Idx) : iblk m c 4 t y = V m c main_v29 (((View.whole main_v29).slice (win0_4.rect t)).emb y) :=
  read_part (b := main_v29) (win0_4.rect t) (V m c main_v29) y

omit A in
theorem read_5 (t : Fin cfg0.N) (y : (win0_5.rect t).shape.Idx) : iblk m c 5 t y = V m c main_v34 (((View.whole main_v34).slice (win0_5.rect t)).emb y) :=
  read_part (b := main_v34) (win0_5.rect t) (V m c main_v34) y

omit A in
theorem at_q (t : Fin cfg0.N) (n : ℕ) (h : Fin 2) (r : Fin 512) (l : Fin 128) : (at_ m c t n).q h (ix2 r l) = iblk m c 0 t (ix2 (row n r) (col h l)) := rfl
omit A in
theorem at_k (t : Fin cfg0.N) (n : ℕ) (h : Fin 2) (g : Fin 4) (r : Fin 512) (l : Fin 128) : (at_ m c t n).k h g (ix2 r l) = iblk m c 1 t (ix2 (krow g r) (col h l)) := rfl
omit A in
theorem at_v (t : Fin cfg0.N) (n : ℕ) (h : Fin 2) (g : Fin 4) (r : Fin 512) (l : Fin 128) : (at_ m c t n).v h g (ix2 r l) = iblk m c 2 t (ix2 (krow g r) (col h l)) := rfl
omit A in
theorem at_ct (t : Fin cfg0.N) (n : ℕ) (h : Fin 2) (r : Fin 512) (l : Fin 128) : (at_ m c t n).ct h (ix2 r l) = iblk m c 3 t (ix2 (row n r) (col h l)) := rfl
omit A in
theorem at_lse (t : Fin cfg0.N) (n : ℕ) (h : Fin 2) (r : Fin 512) : (at_ m c t n).lse h (ix4 (0 : Fin 1) (0 : Fin 1) (0 : Fin 1) r) = iblk m c 4 t (ix4 (0 : Fin 1) h (0 : Fin 8) (row n r)) := rfl
omit A in
theorem at_del (t : Fin cfg0.N) (n : ℕ) (h : Fin 2) (r : Fin 512) : (at_ m c t n).del h (ix4 (0 : Fin 1) (0 : Fin 1) (0 : Fin 1) r) = iblk m c 5 t (ix4 (0 : Fin 1) h (0 : Fin 8) (row n r)) := rfl

/-- The block of queries `n` of a point holds the numbers of the point's two heads. -/
theorem holds (t : Fin cfg0.N) (n : ℕ) (hn : n < 8) : Holds (fun h => Y (seqOf t) (headAt t h)) n (4 * (t.val % 2)) (at_ m c t n) where
  q h r l := by rw [at_q, read_0, emb_q t n hn, A.q]
  k h g r l := by rw [at_k, read_1, emb_k, A.k]
  v h g r l := by rw [at_v, read_2, emb_v, A.v]
  ct h r l := by rw [at_ct, read_3, emb_ct t n hn, A.ct]
  lse h r := by rw [at_lse, read_4, emb_lse, A.lse]
  del h r := by rw [at_del, read_5, emb_del, A.del]

/-- The sequence, position, head and lane of an index of a result. -/
def seqIx (y : S8192x1024.Idx) : Fin 2 := ⟨(y 0).val / 4096, by have : (y 0).val < 8192 := (y 0).isLt; omega⟩
def posIx (y : S8192x1024.Idx) : Fin 4096 := ⟨(y 0).val % 4096, Nat.mod_lt _ (by decide)⟩
def headIx (y : S8192x1024.Idx) : Fin 8 := ⟨(y 1).val / 128, by have : (y 1).val < 1024 := (y 1).isLt; omega⟩
def laneIx (y : S8192x1024.Idx) : Fin 128 := ⟨(y 1).val % 128, Nat.mod_lt _ (by decide)⟩

/-- The array of one real number per head, position and lane. -/
def wide (f : Head → Fin 4096 → Fin 128 → ℝ) (Y : Fin 2 → Fin 8 → Head) : S8192x1024.Idx → EReal := fun y => ((f (Y (seqIx y) (headIx y)) (posIx y) (laneIx y) : ℝ) : EReal)

theorem keys_at (t : Fin cfg0.N) (h : Fin 2) (g : Fin 4) (r : Fin 512) (l : Fin 128) :
    keysAt m c t h g (ix2 r l) = ((Y (seqOf t) (headAt t h)).dk (row (4 * (t.val % 2) + g) r) l : EReal) := by
  unfold keysAt
  rw [dkAcc_at (fun h => Y (seqOf t) (headAt t h)) (4 * (t.val % 2)) _ h g _ (by omega) (fun n hn => holds A t _ hn) r l, ← sum_dk _ _ (by omega),
    show 3 - g.val + 4 * (1 - t.val % 2) + 1 = 8 - (4 * (t.val % 2) + g.val) by omega]

theorem values_at (t : Fin cfg0.N) (h : Fin 2) (g : Fin 4) (r : Fin 512) (l : Fin 128) :
    valuesAt m c t h g (ix2 r l) = ((Y (seqOf t) (headAt t h)).dv (row (4 * (t.val % 2) + g) r) l : EReal) := by
  unfold valuesAt
  rw [dvAcc_at (fun h => Y (seqOf t) (headAt t h)) (4 * (t.val % 2)) _ h g _ (by omega) (fun n hn => holds A t _ hn) r l, ← sum_dv _ _ (by omega),
    show 3 - g.val + 4 * (1 - t.val % 2) + 1 = 8 - (4 * (t.val % 2) + g.val) by omega]

omit A in
theorem wide_at (f : Head → Fin 4096 → Fin 128 → ℝ) (Y : Fin 2 → Fin 8 → Head) (y : S8192x1024.Idx) (b : Fin 2) (a : Fin 8) (i : Fin 4096) (l : Fin 128) (hy : y = ix2 (tok b i) (lane a l)) :
    wide f Y y = (f (Y b a) i l : EReal) := by
  subst hy
  unfold wide
  rw [show seqIx (ix2 (tok b i) (lane a l)) = b from Fin.ext (by show (4096 * b.val + i.val) / 4096 = b.val; omega),
    show posIx (ix2 (tok b i) (lane a l)) = i from Fin.ext (by show (4096 * b.val + i.val) % 4096 = i.val; omega),
    show headIx (ix2 (tok b i) (lane a l)) = a from Fin.ext (by show (128 * a.val + l.val) / 128 = a.val; omega),
    show laneIx (ix2 (tok b i) (lane a l)) = l from Fin.ext (by show (128 * a.val + l.val) % 128 = l.val; omega)]

omit A in
theorem emb_dk (t : Fin cfg0.N) (y : S2048x256.Idx) : ((View.whole main_v49_0).slice (win0_6.rect t)).emb y
    = ix2 (tok (seqOf t) (row (4 * (t.val % 2) + kBlock y) ⟨(y 0).val % 512, Nat.mod_lt _ (by decide)⟩)) (lane (headAt t (kHead y)) ⟨(y 1).val % 128, Nat.mod_lt _ (by decide)⟩) := by
  have i := (idx_out t).1
  have ht : t.val < 16 := t.isLt
  obtain ⟨r, j, rfl⟩ : ∃ (r : Fin 2048) (j : Fin 256), y = ix2 r j := ⟨y 0, y 1, by idx_ext⟩
  have hr := r.isLt
  have hj := j.isLt
  unfold tok lane seqOf headAt row kBlock kHead
  blk_ext [i]

omit A in
theorem emb_dv (t : Fin cfg0.N) (y : S2048x256.Idx) : ((View.whole main_v49_1).slice (win0_7.rect t)).emb y
    = ix2 (tok (seqOf t) (row (4 * (t.val % 2) + kBlock y) ⟨(y 0).val % 512, Nat.mod_lt _ (by decide)⟩)) (lane (headAt t (kHead y)) ⟨(y 1).val % 128, Nat.mod_lt _ (by decide)⟩) := by
  have i := (idx_out t).2.1
  have ht : t.val < 16 := t.isLt
  obtain ⟨r, j, rfl⟩ : ∃ (r : Fin 2048) (j : Fin 256), y = ix2 r j := ⟨y 0, y 1, by idx_ext⟩
  have hr := r.isLt
  have hj := j.isLt
  unfold tok lane seqOf headAt row kBlock kHead
  blk_ext [i]

omit A in
theorem emb_dq (t : Fin cfg0.N) (y : S4096x256.Idx) : ((View.whole main_v49_2).slice (win0_8.rect t)).emb y
    = ix2 (tok (seqOf t) (y 0)) (lane (headAt t (headOf y)) ⟨(y 1).val % 128, Nat.mod_lt _ (by decide)⟩) := by
  have i := (idx_out t).2.2
  obtain ⟨r, j, rfl⟩ : ∃ (r : Fin 4096) (j : Fin 256), y = ix2 r j := ⟨y 0, y 1, by idx_ext⟩
  unfold tok lane seqOf headAt headOf
  blk_ext [i]

/-- The gradients of the keys. -/
theorem dk_final : (dats m 0 c).arrAt 6 cfg0.N = wide Head.dk Y := by
  refine (dats m 0 c).arrAt_eq_of_covers 6 _ (by decide +kernel) fun t hf y => ?_
  refine Eq.trans ?_ (wide_at Head.dk Y _ _ _ _ _ (emb_dk t y)).symm
  blk_simp
  rw [after_6, dkOut_eq]
  exact keys_at A t _ _ _ _

/-- The gradients of the values. -/
theorem dv_final : (dats m 0 c).arrAt 7 cfg0.N = wide Head.dv Y := by
  refine (dats m 0 c).arrAt_eq_of_covers 7 _ (by decide +kernel) fun t hf y => ?_
  refine Eq.trans ?_ (wide_at Head.dv Y _ _ _ _ _ (emb_dv t y)).symm
  blk_simp
  rw [after_7, dvOut_eq]
  exact values_at A t _ _ _ _

omit A in
theorem flush_odd : ∀ t : Fin cfg0.N, (cfg0.win 8).flush t = true → t.val % 2 = 1 := by decide +kernel

/-- The gradients of the queries. -/
theorem dq_final : (dats m 0 c).arrAt 8 cfg0.N = wide Head.dq Y := by
  refine (dats m 0 c).arrAt_eq_of_covers 8 _ (by decide +kernel) fun t hf y => ?_
  have h1 := flush_odd t hf
  refine Eq.trans ?_ (wide_at Head.dq Y _ _ _ _ _ (emb_dq t y)).symm
  have s0 : t.val - 1 < cfg0.N := lt_of_le_of_lt (Nat.sub_le _ _) t.isLt
  have e0 : (⟨t.val - 1, s0⟩ : Fin cfg0.N).val % 2 = 0 := by show (t.val - 1) % 2 = 0; omega
  blk_simp
  rw [after_8, dqOut_eq m c ⟨t.val - 1, s0⟩ t e0 (by show t.val = t.val - 1 + 1; omega)]
  have hs : seqOf ⟨t.val - 1, s0⟩ = seqOf t := Fin.ext (by show (t.val - 1) / 8 = t.val / 8; omega)
  have hh : ∀ h, headAt ⟨t.val - 1, s0⟩ h = headAt t h := fun h => Fin.ext (by show 2 * ((t.val - 1) / 2 % 4) + h.val = 2 * (t.val / 2 % 4) + h.val; omega)
  refine after_both (fun h => Y (seqOf t) (headAt t h)) _ _ (fun n hn => ?_) (fun n hn => ?_) y
  · have z := holds A ⟨t.val - 1, s0⟩ n hn
    rw [e0, hs] at z
    simp only [hh] at z
    exact z
  · have z := holds A t n hn
    rw [h1] at z
    exact z

end Cert.AttnFinal
-- ==== Proof.AttnLay.lean ====
/- The wide layout of the attention gradient's arrays: a head's lanes side by side, filled up to the width of a head. -/
module

public import proofs.«01_k».proof.Proof.AttnPast
public import proofs.«01_k».proof.Proof.AttnFinal

@[expose] public section

set_option maxRecDepth 8000

noncomputable section

open Idealize.ShloMosaic Idealize.ShloMosaic.TcCoe Idealize.ShloMosaic.Tactic
open Cert.AttnIdeal Cert.AttnIdeal.Gen Cert.AttnReal Cert.AttnFinal Cert.Reals

namespace Cert.AttnLay

/-- Heads of 128 lanes laid side by side. -/
def wideOf (x : S2x4096x8x128.Idx → EReal) : S8192x1024.Idx → EReal := shapeCast S8192x1024 x shapeCasts_S2x4096x8x128_S8192x1024

theorem wideOf_at (x : S2x4096x8x128.Idx → EReal) (b i a l) : wideOf x (ix2 (tok b i) (lane a l)) = x (ix4 b i a l) := by
  refine shapeCast_apply x shapeCasts_S2x4096x8x128_S8192x1024 _ (ix4 b i a l) ?_
  rw [Shape.rowMajor_val_four, Shape.rowMajor_val_two]
  show ((b.val * 4096 + i.val) * 8 + a.val) * 128 + l.val = (4096 * b.val + i.val) * 1024 + (128 * a.val + l.val)
  omega

/-- The lanes that carry position-free and rotated halves, and nothing. -/
def joined (x : S2x4096x8x64.Idx → EReal) (y : S2x4096x8x32.Idx → EReal) : S8192x1024.Idx → EReal :=
  wideOf (pad S2x4096x8x128 ![0, 0, 0, 0] ![0, 0, 0, 32] ![0, 0, 0, 0]
    (concatenate S2x4096x8x96 3 [⟨S2x4096x8x64, x⟩, ⟨S2x4096x8x32, y⟩] concatenates_S2x4096x8x64_S2x4096x8x32_S2x4096x8x96_d3)
    (constant (F := Ideal) S_ .f32 0x00000000#32) pads_S2x4096x8x96_S2x4096x8x128_000_000_000_0320 h_S_)

theorem joined_at (x : S2x4096x8x64.Idx → EReal) (y : S2x4096x8x32.Idx → EReal) (b i a) (l : Fin 128) : joined x y (ix2 (tok b i) (lane a l))
    = if h : l.val < 64 then x (ix4 b i a ⟨l.val, h⟩) else if h : l.val - 64 < 32 then y (ix4 b i a ⟨l.val - 64, h⟩) else 0 := by
  unfold joined
  rw [wideOf_at]
  pointwise
  by_cases h : l.val < 64
  · rw [dif_pos h, dif_pos (by omega), dif_pos h]
  · rw [dif_neg h]
    by_cases h' : l.val < 96
    · rw [dif_pos h', dif_neg h, dif_pos (by omega)]
    · rw [dif_neg h', dif_neg (by omega)]

/-- The values' lanes, and a constant for the rest. -/
def padded (w : BitVec 32) (x : S2x4096x8x64.Idx → EReal) : S8192x1024.Idx → EReal :=
  wideOf (pad S2x4096x8x128 ![0, 0, 0, 0] ![0, 0, 0, 64] ![0, 0, 0, 0] x (constant (F := Ideal) S_ .f32 w) pads_S2x4096x8x64_S2x4096x8x128_000_000_000_0640 h_S_)

theorem padded_at (w : BitVec 32) (x : S2x4096x8x64.Idx → EReal) (b i a) (l : Fin 128) : padded w x (ix2 (tok b i) (lane a l))
    = if h : l.val < 64 then x (ix4 b i a ⟨l.val, h⟩) else Ideal.ofBits .f32 w := by
  unfold padded
  rw [wideOf_at]
  pointwise

end Cert.AttnLay
end
-- ==== Proof.AttnHost.lean ====
/- What the host prepares for the attention gradient's kernel, read as real numbers: the wide queries, keys, values and cotangents,
   the logarithms of the sums the forward pass saves, and the products of output and cotangent. -/
module

public import proofs.«01_k».proof.Proof.AttnLay

@[expose] public section

set_option maxRecDepth 16384

noncomputable section

open Idealize.ShloMosaic Idealize.ShloMosaic.TcCoe Idealize.SL.Sem Idealize.ShloMosaic.Tactic
open Cert.AttnIdeal Cert.AttnIdeal.Gen Cert.AttnReal Cert.AttnFinal Cert.AttnLay Cert.AttnPast Cert.Reals
open Cert.AttnRefIdeal.Read (val_main_v4 val_main_v13_0 val_main_v14)

namespace Cert.AttnHost

/-- The numbers of one sequence and head. -/
def Data.head (D : Data) (b : Fin 2) (a : Fin 8) : Head where
  q i l := if h : l.val < 64 then D.qn b i a ⟨l.val, h⟩ else if h : l.val - 64 < 32 then D.qr b i a ⟨l.val - 64, h⟩ else 0
  k i l := if h : l.val < 64 then D.kn b i a ⟨l.val, h⟩ else if h : l.val - 64 < 32 then D.kr b i a ⟨l.val - 64, h⟩ else 0
  v i l := if h : l.val < 64 then D.v b i a ⟨l.val, h⟩ else 1
  ct i l := if h : l.val < 64 then D.ct b i a ⟨l.val, h⟩ else 0
  lse i := D.top b a i + Real.log (D.tot b a i)
  del i := ∑ d, D.ct b i a d * D.out b a i d

variable (x0 x2 x4 x5 : S2x4096x8x64.Idx → EReal) (x1 x3 : S2x4096x8x32.Idx → EReal)

/-- Each query's greatest score, as a column. -/
def tops : S2x8x4096x1.Idx → EReal := broadcastInDim S2x8x4096x1 ![0, 1, 2] bcast_S2x8x4096_S2x8x4096x1_0_1_2 (val_main_v14 (F := Ideal) x0 x1 x2 x3)

/-- The exponentials. -/
def exps : S2x8x4096x4096.Idx → EReal := Host.exp (F := Ideal) (φ := .f32) (subf (F := Ideal) (φ := .f32) (val_main_v13_0 (F := Ideal) x0 x1 x2 x3)
  (broadcastInDim S2x8x4096x4096 ![0, 1, 2, 3] bcast_S2x8x4096x1_S2x8x4096x4096_0_1_2_3 (tops x0 x2 x1 x3)))

/-- Their sums, as a column. -/
def tots (e : S2x8x4096x4096.Idx → EReal) : S2x8x4096x1.Idx → EReal := broadcastInDim S2x8x4096x1 ![0, 1, 2] bcast_S2x8x4096_S2x8x4096x1_0_1_2
  (Host.reduceAdd (F := Ideal) (φ := .f32) e (constant S_ .f32 0#32) reducesTo_S2x8x4096x4096_S2x8x4096_d3 h_S_)

/-- A number per query laid out in eight equal rows. -/
def rowsOf (x : S2x8x4096.Idx → EReal) : S2x8x8x4096.Idx → EReal := broadcastInDim S2x8x8x4096 ![0, 1, 2, 3] bcast_S2x8x1x4096_S2x8x8x4096_0_1_2_3
  (broadcastInDim S2x8x1x4096 ![0, 1, 3] bcast_S2x8x4096_S2x8x1x4096_0_1_3 x)

/-- A column without its last axis. -/
def squeeze (x : S2x8x4096x1.Idx → EReal) : S2x8x4096.Idx → EReal := shapeCast S2x8x4096 x shapeCasts_S2x8x4096x1_S2x8x4096

theorem squeeze_at (x : S2x8x4096x1.Idx → EReal) (b a i) : squeeze x (ix3 b a i) = x (ix4 b a i 0) := by
  refine shapeCast_apply x shapeCasts_S2x8x4096x1_S2x8x4096 _ (ix4 b a i 0) ?_
  rw [Shape.rowMajor_val_four, Shape.rowMajor_val_three]
  show ((b.val * 8 + a.val) * 4096 + i.val) * 1 + 0 = (b.val * 8 + a.val) * 4096 + i.val
  omega

/-- The logarithms the forward pass saves. -/
def logs (t e : S2x8x4096x1.Idx → EReal) : S2x8x4096.Idx → EReal :=
  squeeze (addf (F := Ideal) (φ := .f32) t (Host.log (F := Ideal) (φ := .f32) e))

/-- The forward pass's output. -/
def outs (e : S2x8x4096x4096.Idx → EReal) : S2x4096x8x64.Idx → EReal := transpose S2x4096x8x64 [0, 3, 1, 2]
  (Host.dotGeneral (F := Ideal) (sl := S2x4096x8x64) (sr := S2x8x4096x4096) (so := S2x8x64x4096) (φ₁ := .f32) (φ₂ := .f32) dot_S2x4096x8x64_S2x8x4096x4096_S2x8x64x4096_1_3_3_2_02_01 none x4
    (Host.divf (F := Ideal) (φ := .f32) e (broadcastInDim S2x8x4096x4096 ![0, 1, 2, 3] bcast_S2x8x4096x1_S2x8x4096x4096_0_1_2_3 (tots e))))
  transposes_S2x8x64x4096_S2x4096x8x64_0_3_1_2

/-- Output times cotangent, summed over the lanes. -/
def dels (o : S2x4096x8x64.Idx → EReal) : S2x8x4096.Idx → EReal := transpose S2x8x4096 [0, 2, 1]
  (Host.reduceAdd (F := Ideal) (φ := .f32) (mulf (F := Ideal) (φ := .f32) x5 o) (constant S_ .f32 0#32) reducesTo_S2x4096x8x64_S2x4096x8_d3 h_S_)
  transposes_S2x4096x8_S2x8x4096_0_2_1

section
variable {x0 x1 x2 x3 x4 x5} {D : Data} (A : Args x0 x2 x4 x5 x1 x3 D)
include A

theorem tops_at (b a i z) : tops x0 x2 x1 x3 (ix4 b a i z) = (D.top b a i : EReal) := by
  have h := A.ht b a i
  unfold tops
  generalize val_main_v14 (F := Ideal) x0 x1 x2 x3 = y at h ⊢
  pointwise [h]

theorem exps_at (b a i j) : exps x0 x2 x1 x3 (ix4 b a i j) = (D.ex b a i j : EReal) := by
  unfold exps
  pointwise [masked_at A, tops_at A, exp_masked]

theorem tots_at (b a i z) : tots (exps x0 x2 x1 x3) (ix4 b a i z) = (D.tot b a i : EReal) := by
  unfold tots
  pointwise [exps_at A, coe_sum]
  rfl

omit A in
theorem log_sum (t e : S2x8x4096x1.Idx → EReal) (y : S2x8x4096x1.Idx) (u w : ℝ) (hw : 0 < w) (ht : t y = (u : EReal)) (he : e y = (w : EReal)) :
    addf (F := Ideal) (φ := .f32) t (Host.log (F := Ideal) (φ := .f32) e) y = ((u + Real.log w : ℝ) : EReal) := by
  show (t y + Ideal.log (e y) : EReal) = _
  rw [ht, he, Ideal.log_coe, if_neg (not_le.mpr hw), ← EReal.coe_add]

theorem logs_at (b a i) : logs (tops x0 x2 x1 x3) (tots (exps x0 x2 x1 x3)) (ix3 b a i) = ((Data.head D b a).lse i : EReal) := by
  unfold logs
  rw [squeeze_at]
  exact log_sum _ _ _ _ _ (D.tot_pos b a i) (tops_at A b a i 0) (tots_at A b a i 0)

theorem outs_at (b i a d) : outs x4 (exps x0 x2 x1 x3) (ix4 b i a d) = (D.out b a i d : EReal) := by
  unfold outs
  pointwise [exps_at A, tots_at A, A.h4, div_coe_coe _ _ (D.tot_pos _ _ _).ne', coe_mul', coe_sum]
  rfl

theorem dels_at (b a i) : dels x5 (outs x4 (exps x0 x2 x1 x3)) (ix3 b a i) = ((Data.head D b a).del i : EReal) := by
  unfold dels
  pointwise [outs_at A, A.h5, coe_mul', coe_sum]
  rfl

end

theorem rowsOf_at (x : S2x8x4096.Idx → EReal) (b a e i) : rowsOf x (ix4 b a e i) = x (ix3 b a i) := by
  unfold rowsOf
  pointwise

end Cert.AttnHost
end
-- ==== Proof.AttnHead.lean ====
/- One head of the attention gradient by the forward pass's own numbers: the kernel's probabilities and score gradients, and its three
   sums lane by lane. -/
module

public import proofs.«01_k».proof.Proof.AttnHost

@[expose] public section

noncomputable section

open Cert.AttnReal Cert.AttnPast Cert.AttnHost

namespace Cert.AttnHead

theorem sum_lanes (f : Fin 128 → ℝ) : ∑ l, f l = (∑ d : Fin 64, f ⟨d.val, by omega⟩) + ((∑ d : Fin 32, f ⟨64 + d.val, by omega⟩) + ∑ d : Fin 32, f ⟨96 + d.val, by omega⟩) := by
  have h1 := Fin.sum_univ_add (M := ℝ) (a := 64) (b := 64) f
  have h2 := Fin.sum_univ_add (M := ℝ) (a := 32) (b := 32) fun d => f (Fin.natAdd 64 d)
  have e : ∀ d : Fin 32, Fin.natAdd 64 (Fin.natAdd 32 d) = (⟨96 + d.val, by omega⟩ : Fin 128) := fun d => Fin.ext (by show 64 + (32 + d.val) = 96 + d.val; omega)
  refine h1.trans (congrArg₂ _ rfl (h2.trans (congrArg₂ _ rfl (Finset.sum_congr rfl fun d _ => ?_))))
  rw [e]

/-- Two joined rows multiplied lane by lane. -/
theorem sum_joined (f f' : Fin 64 → ℝ) (g g' : Fin 32 → ℝ) :
    ∑ l : Fin 128, (if h : l.val < 64 then f ⟨l.val, h⟩ else if h : l.val - 64 < 32 then g ⟨l.val - 64, h⟩ else 0)
      * (if h : l.val < 64 then f' ⟨l.val, h⟩ else if h : l.val - 64 < 32 then g' ⟨l.val - 64, h⟩ else 0)
      = (∑ d, f' d * f d) + ∑ d, g' d * g d := by
  rw [sum_lanes]
  have e1 : ∀ d : Fin 64, (⟨d.val, by omega⟩ : Fin 128).val < 64 := fun d => d.isLt
  have e2 : ∀ d : Fin 32, ¬ (64 + d.val) < 64 := fun d => by omega
  have e3 : ∀ d : Fin 32, ¬ (96 + d.val) < 64 := fun d => by omega
  have e4 : ∀ d : Fin 32, ¬ (96 + d.val - 64) < 32 := fun d => by omega
  simp only [e2, e3, e4, Fin.is_lt, dite_true, dite_false, Nat.add_sub_cancel_left, mul_zero, Finset.sum_const_zero, add_zero, Fin.eta, mul_comm]

theorem sum_padded (f f' : Fin 64 → ℝ) : ∑ l : Fin 128, (if h : l.val < 64 then f ⟨l.val, h⟩ else 1) * (if h : l.val < 64 then f' ⟨l.val, h⟩ else 0) = ∑ d, f' d * f d := by
  rw [sum_lanes]
  have e2 : ∀ d : Fin 32, ¬ (64 + d.val) < 64 := fun d => by omega
  have e3 : ∀ d : Fin 32, ¬ (96 + d.val) < 64 := fun d => by omega
  simp only [e2, e3, Fin.is_lt, dite_true, dite_false, mul_zero, zero_mul, Finset.sum_const_zero, add_zero, Fin.eta, mul_comm]

variable (D : Data) (b : Fin 2) (a : Fin 8)

/-- Cotangent times value: the gradient of a probability. -/
def dp (i j : Fin 4096) : ℝ := ∑ d, D.ct b i a d * D.v b j a d

/-- The gradient of a score before its scale, the quotient rule written out. -/
def grad (i j : Fin 4096) : ℝ :=
  (dp D b a i j / D.tot b a i + -(∑ k, dp D b a i k * (1 / (D.tot b a i * D.tot b a i)) * D.ex b a i k)) * D.ex b a i j

theorem prob_eq (i j : Fin 4096) : (Data.head D b a).p i j = D.ex b a i j / D.tot b a i := by
  unfold Head.p Data.ex
  by_cases h : j ≤ i
  · rw [if_pos h, if_pos h]
    unfold Head.e
    have hs : (∑ l, (Data.head D b a).k j l * (Data.head D b a).q i l) * sigma = D.sc b a i j := congrArg (· * sigma) (sum_joined _ _ _ _)
    rw [hs, show D.sc b a i j - (Data.head D b a).lse i = D.sc b a i j - D.top b a i - Real.log (D.tot b a i) from (sub_sub _ _ _).symm,
      Real.exp_sub _ (Real.log _), Real.exp_log (D.tot_pos b a i)]
  · rw [if_neg h, if_neg h, zero_div]

theorem del_eq (i : Fin 4096) : (Data.head D b a).del i = ∑ k, dp D b a i k * (D.ex b a i k / D.tot b a i) := by
  show ∑ d, D.ct b i a d * ∑ j, D.v b j a d * (D.ex b a i j / D.tot b a i) = _
  simp only [dp, Finset.mul_sum, Finset.sum_mul]
  rw [Finset.sum_comm]
  exact Finset.sum_congr rfl fun j _ => Finset.sum_congr rfl fun d _ => (mul_assoc _ _ _).symm

/-- The kernel's score gradient is the quotient rule's. -/
theorem ds_eq (i j : Fin 4096) : (Data.head D b a).ds i j = grad D b a i j * sigma := by
  unfold Head.ds grad
  have hv : (∑ l, (Data.head D b a).v j l * (Data.head D b a).ct i l) = dp D b a i j := sum_padded _ _
  have hL := (D.tot_pos b a i).ne'
  have hs : ∑ k, dp D b a i k * (1 / (D.tot b a i * D.tot b a i)) * D.ex b a i k = (Data.head D b a).del i / D.tot b a i := by
    rw [del_eq, Finset.sum_div]
    exact Finset.sum_congr rfl fun k _ => by field_simp
  rw [hv, hs, prob_eq]
  field_simp
  ring

/-- The gradient of a key, lane by lane. -/
theorem dk_eq (j : Fin 4096) (l : Fin 128) : (Data.head D b a).dk j l
    = if h : l.val < 64 then ∑ i, grad D b a i j * sigma * D.qn b i a ⟨l.val, h⟩
      else if h : l.val - 64 < 32 then ∑ i, grad D b a i j * sigma * D.qr b i a ⟨l.val - 64, h⟩ else 0 := by
  unfold Head.dk
  simp only [ds_eq]
  show ∑ i, grad D b a i j * sigma * (if h : l.val < 64 then D.qn b i a ⟨l.val, h⟩ else if h : l.val - 64 < 32 then D.qr b i a ⟨l.val - 64, h⟩ else 0) = _
  split
  · rfl
  · split
    · rfl
    · simp

/-- The gradient of a query, lane by lane. -/
theorem dq_eq (i : Fin 4096) (l : Fin 128) : (Data.head D b a).dq i l
    = if h : l.val < 64 then ∑ j, grad D b a i j * sigma * D.kn b j a ⟨l.val, h⟩
      else if h : l.val - 64 < 32 then ∑ j, grad D b a i j * sigma * D.kr b j a ⟨l.val - 64, h⟩ else 0 := by
  unfold Head.dq
  simp only [ds_eq]
  show ∑ j, grad D b a i j * sigma * (if h : l.val < 64 then D.kn b j a ⟨l.val, h⟩ else if h : l.val - 64 < 32 then D.kr b j a ⟨l.val - 64, h⟩ else 0) = _
  split
  · rfl
  · split
    · rfl
    · simp

/-- The gradient of a value, lane by lane. -/
theorem dv_eq (j : Fin 4096) (l : Fin 128) : (Data.head D b a).dv j l
    = if h : l.val < 64 then ∑ i, D.ct b i a ⟨l.val, h⟩ * (D.ex b a i j / D.tot b a i) else 0 := by
  unfold Head.dv
  simp only [prob_eq]
  show ∑ i, D.ex b a i j / D.tot b a i * (if h : l.val < 64 then D.ct b i a ⟨l.val, h⟩ else 0) = _
  split
  · exact Finset.sum_congr rfl fun _ _ => mul_comm _ _
  · simp

end Cert.AttnHead
end
-- ==== Proof.AttnEntry.lean ====
/- What the attention gradient's kernel starts from: the host's arrays, each the one built of the arguments, and as real numbers. -/
module

public import proofs.«01_k».proof.Proof.AttnHost

@[expose] public section

set_option maxRecDepth 16384

noncomputable section

open Idealize.ShloMosaic Idealize.ShloMosaic.TcCoe Idealize.SL.Sem Idealize.ShloMosaic.Tactic
open Cert.AttnIdeal Cert.AttnIdeal.Gen Cert.AttnReal Cert.AttnFinal Cert.AttnLay Cert.AttnPast Cert.AttnHost Cert.Reals

namespace Cert.AttnEntry

variable (m : (ℓ : Loc nD τ sig) → Buf (Elt Ideal) ℓ) (c : Dev nD)

abbrev qn : S2x4096x8x64.Idx → EReal := m (c, Proc.tc.devRef main_arg0)
abbrev qr : S2x4096x8x32.Idx → EReal := m (c, Proc.tc.devRef main_arg1)
abbrev kn : S2x4096x8x64.Idx → EReal := m (c, Proc.tc.devRef main_arg2)
abbrev kr : S2x4096x8x32.Idx → EReal := m (c, Proc.tc.devRef main_arg3)
abbrev vals : S2x4096x8x64.Idx → EReal := m (c, Proc.tc.devRef main_arg4)
abbrev cot : S2x4096x8x64.Idx → EReal := m (c, Proc.tc.devRef main_arg5)

/-- The six arrays the kernel reads, as the host built them. -/
theorem built : V m c main_v38 = joined (qn m c) (qr m c) ∧ V m c main_v42 = joined (kn m c) (kr m c)
    ∧ V m c main_v45 = padded 0x3F800000#32 (vals m c) ∧ V m c main_v48 = padded 0#32 (cot m c)
    ∧ V m c main_v29 = rowsOf (logs (tops (qn m c) (kn m c) (qr m c) (kr m c)) (tots (exps (qn m c) (kn m c) (qr m c) (kr m c))))
    ∧ V m c main_v34 = rowsOf (dels (cot m c) (outs (vals m c) (exps (qn m c) (kn m c) (qr m c) (kr m c)))) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  refine ⟨?_, ?_, ?_, ?_, ?_, ?_⟩ <;> (entry_read; rfl)

variable {m c} {D : Data} (A : Args (qn m c) (kn m c) (vals m c) (cot m c) (qr m c) (kr m c) D)
include A

omit A in
/-- A number of the wide layout, lane by lane. -/
theorem joined_real (x : S2x4096x8x64.Idx → EReal) (y : S2x4096x8x32.Idx → EReal) (f : Fin 64 → ℝ) (g : Fin 32 → ℝ) (b i a) (l : Fin 128)
    (hx : ∀ d, x (ix4 b i a d) = (f d : EReal)) (hy : ∀ d, y (ix4 b i a d) = (g d : EReal)) : joined x y (ix2 (tok b i) (lane a l))
      = ((if h : l.val < 64 then f ⟨l.val, h⟩ else if h : l.val - 64 < 32 then g ⟨l.val - 64, h⟩ else 0 : ℝ) : EReal) := by
  rw [joined_at]
  by_cases h : l.val < 64
  · rw [dif_pos h, dif_pos h, hx]
  · rw [dif_neg h, dif_neg h]
    by_cases h' : l.val - 64 < 32
    · rw [dif_pos h', dif_pos h', hy]
    · rw [dif_neg h', dif_neg h']; rfl

omit A in
theorem padded_real (w : BitVec 32) (z : ℝ) (hz : Ideal.ofBits .f32 w = (z : EReal)) (x : S2x4096x8x64.Idx → EReal) (f : Fin 64 → ℝ) (b i a) (l : Fin 128)
    (hx : ∀ d, x (ix4 b i a d) = (f d : EReal)) : padded w x (ix2 (tok b i) (lane a l)) = ((if h : l.val < 64 then f ⟨l.val, h⟩ else z : ℝ) : EReal) := by
  rw [padded_at]
  by_cases h : l.val < 64
  · rw [dif_pos h, dif_pos h, hx]
  · rw [dif_neg h, dif_neg h, hz]

theorem arrays : Arrays m c (Data.head D) where
  q b a i l := by rw [(built m c).1]; exact joined_real _ _ _ _ b i a l (A.h0 b i a) (A.h1 b i a)
  k b a i l := by rw [(built m c).2.1]; exact joined_real _ _ _ _ b i a l (A.h2 b i a) (A.h3 b i a)
  v b a i l := by rw [(built m c).2.2.1]; exact padded_real _ 1 lit_one _ _ b i a l (A.h4 b i a)
  ct b a i l := by rw [(built m c).2.2.2.1]; exact padded_real _ 0 (Ideal.ofBits_zero _) _ _ b i a l (A.h5 b i a)
  lse b a e i := by rw [(built m c).2.2.2.2.1, rowsOf_at]; exact logs_at A b a i
  del b a e i := by rw [(built m c).2.2.2.2.2, rowsOf_at]; exact dels_at A b a i

end Cert.AttnEntry
end
-- ==== Proof.AttnRefVal.lean ====
/- The reference of the attention gradient, read at an index as real numbers. -/
module

public import proofs.«01_k».proof.Proof.AttnHead
public import proofs.«01_k».proof.Proof.AttnEntry

@[expose] public section

set_option maxRecDepth 8000

noncomputable section

open Idealize.ShloMosaic Idealize.ShloMosaic.TcCoe Idealize.ShloMosaic.Tactic
open Cert.AttnRefIdeal Cert.AttnRefIdeal.Read Cert.Reals Cert.AttnReal Cert.AttnPast Cert.AttnHead Cert.AttnHost Cert.AttnLay Cert.AttnFinal Cert.AttnEntry

namespace Cert.AttnRefVal

variable {x0 x2 x4 x5 : S2x4096x8x64.Idx → EReal} {x1 x3 : S2x4096x8x32.Idx → EReal} {D : Data} (A : Args x0 x2 x4 x5 x1 x3 D)
include A

theorem sum_at (b a i z) : val_main_v36 (F := Ideal) x0 x1 x2 x3 (ix4 b a i z) = (D.tot b a i : EReal) := by
  unfold val_main_v36 val_main_v35 val_main_cst_9
  pointwise [ex_at A, coe_sum]
  rfl

theorem prob_at (b a i j) : val_main_v38 (F := Ideal) x0 x1 x2 x3 (ix4 b a i j) = ((D.ex b a i j / D.tot b a i : ℝ) : EReal) := by
  unfold val_main_v38 val_main_v37
  pointwise [ex_at A, sum_at A, div_coe_coe _ _ (D.tot_pos _ _ _).ne']

theorem inv_at (b a i j) : val_main_v48 (F := Ideal) x0 x1 x2 x3 (ix4 b a i j) = ((1 / (D.tot b a i * D.tot b a i) : ℝ) : EReal) := by
  unfold val_main_v48 val_main_v41 val_main_v40 val_main_cst_10 val_main_v39
  pointwise [sum_at A, lit_one, coe_mul', div_coe_coe _ _ (mul_pos (D.tot_pos _ _ _) (D.tot_pos _ _ _)).ne']

theorem dp_at (b a i j) : val_main_v45 (F := Ideal) x4 x5 (ix4 b a i j) = (dp D b a i j : EReal) := by
  unfold val_main_v45 val_main_v44
  pointwise [A.h4, A.h5, coe_mul', coe_sum]
  rfl

theorem dv_at (b j a d) : val_main_v47 (F := Ideal) x0 x1 x2 x3 x5 (ix4 b j a d) = ((∑ i, D.ct b i a d * (D.ex b a i j / D.tot b a i) : ℝ) : EReal) := by
  unfold val_main_v47 val_main_v46 val_main_v44
  pointwise [A.h5, prob_at A, coe_mul', coe_sum]

theorem corr_at (b a i) : val_main_v51 (F := Ideal) x0 x1 x2 x3 x4 x5 (ix3 b a i)
    = ((∑ k, dp D b a i k * (1 / (D.tot b a i * D.tot b a i)) * D.ex b a i k : ℝ) : EReal) := by
  unfold val_main_v51 val_main_cst_11 val_main_v50 val_main_v49
  pointwise [dp_at A, inv_at A, ex_at A, coe_mul', coe_sum]

theorem corr_column_at (b a i z) : val_main_v52 (F := Ideal) x0 x1 x2 x3 x4 x5 (ix4 b a i z)
    = ((∑ k, dp D b a i k * (1 / (D.tot b a i * D.tot b a i)) * D.ex b a i k : ℝ) : EReal) := by
  have h := corr_at A b a i
  unfold val_main_v52
  generalize val_main_v51 (F := Ideal) x0 x1 x2 x3 x4 x5 = y at h ⊢
  pointwise [h]

theorem corr_wide_at (b a i j) : val_main_v57 (F := Ideal) x0 x1 x2 x3 x4 x5 (ix4 b a i j)
    = ((-(∑ k, dp D b a i k * (1 / (D.tot b a i * D.tot b a i)) * D.ex b a i k) : ℝ) : EReal) := by
  unfold val_main_v57 val_main_v56 val_main_cst_12 val_main_v53
  pointwise [corr_column_at A, coe_neg', coe_sum]
  simp

theorem grad_at (b a i j) : val_main_v59 (F := Ideal) x0 x1 x2 x3 x4 x5 (ix4 b a i j) = (grad D b a i j : EReal) := by
  unfold val_main_v59 val_main_v58 val_main_v55 val_main_v54
  pointwise [dp_at A, sum_at A, ex_at A, corr_wide_at A, coe_add', coe_mul', div_coe_coe _ _ (D.tot_pos _ _ _).ne']
  rfl

theorem ds_at (b a i j) : val_main_v62 (F := Ideal) x0 x1 x2 x3 x4 x5 (ix4 b a i j) = ((grad D b a i j * sigma : ℝ) : EReal) := by
  have hm : val_main_v60 (F := Ideal) x0 x1 x2 x3 x4 x5 (ix4 b a i j) = (grad D b a i j : EReal) := by
    unfold val_main_v60 val_main_v13_1 val_main_v12 val_main_call1_v0 val_main_call1_cst
    pointwise [causal_at, grad_at A]
    by_cases h : j ≤ i
    · simp [h, Scalar.select]
    · have e : grad D b a i j = 0 := by unfold grad Data.ex; rw [if_neg h, mul_zero]
      rw [e]
      simp [Scalar.select]
  unfold val_main_v62 val_main_v61 val_main_cst_13
  pointwise [hm, lit_sigma, coe_mul']

theorem dkn_at (b j a d) : val_main_v68 (F := Ideal) x0 x1 x2 x3 x4 x5 (ix4 b j a d) = ((∑ i, grad D b a i j * sigma * D.qn b i a d : ℝ) : EReal) := by
  unfold val_main_v68 val_main_v67
  pointwise [ds_at A, A.h0, coe_mul', coe_sum]

theorem dkr_at (b j a d) : val_main_v64 (F := Ideal) x0 x1 x2 x3 x4 x5 (ix4 b j a d) = ((∑ i, grad D b a i j * sigma * D.qr b i a d : ℝ) : EReal) := by
  unfold val_main_v64 val_main_v63
  pointwise [ds_at A, A.h1, coe_mul', coe_sum]

theorem dqn_at (b i a d) : val_main_v70 (F := Ideal) x0 x1 x2 x3 x4 x5 (ix4 b i a d) = ((∑ j, grad D b a i j * sigma * D.kn b j a d : ℝ) : EReal) := by
  unfold val_main_v70 val_main_v69
  pointwise [ds_at A, A.h2, coe_mul', coe_sum]

theorem dqr_at (b i a d) : val_main_v66 (F := Ideal) x0 x1 x2 x3 x4 x5 (ix4 b i a d) = ((∑ j, grad D b a i j * sigma * D.kr b j a d : ℝ) : EReal) := by
  unfold val_main_v66 val_main_v65
  pointwise [ds_at A, A.h3, coe_mul', coe_sum]

omit A in
/-- An array of the wide layout is known by its lanes. -/
theorem eq_wide (z : S8192x1024.Idx → EReal) (f : Head → Fin 4096 → Fin 128 → ℝ) (Y : Fin 2 → Fin 8 → Head)
    (h : ∀ b a i l, z (ix2 (tok b i) (lane a l)) = (f (Y b a) i l : EReal)) : z = wide f Y := by
  funext y
  have e : y = ix2 (tok (seqIx y) (posIx y)) (lane (headIx y) (laneIx y)) := by
    funext n
    match n with
    | ⟨0, _⟩ => exact Fin.ext (Nat.div_add_mod _ _).symm
    | ⟨1, _⟩ => exact Fin.ext (Nat.div_add_mod _ _).symm
  exact (congrArg z e).trans (h _ _ _ _)

omit A in
/-- The whole number zero, as the filling of the last lanes. -/
theorem filling : sitofp (F := Ideal) .f32 (fun _ => 0#32 : IVec S_ 32) = constant (F := Ideal) S_ .f32 0x00000000#32 := by
  funext i
  show (((0#32 : BitVec 32).toInt : ℝ) : EReal) = Ideal.ofBits .f32 0#32
  rw [Ideal.ofBits_zero]
  simp

omit A in
/-- The three results in the wide layout. -/
theorem laid (x0 x2 x4 x5 : S2x4096x8x64.Idx → EReal) (x1 x3 : S2x4096x8x32.Idx → EReal) :
    val_main_v74 (F := Ideal) x0 x1 x2 x3 x4 x5 = joined (val_main_v68 (F := Ideal) x0 x1 x2 x3 x4 x5) (val_main_v64 (F := Ideal) x0 x1 x2 x3 x4 x5)
    ∧ val_main_v77 (F := Ideal) x0 x1 x2 x3 x5 = padded 0#32 (val_main_v47 (F := Ideal) x0 x1 x2 x3 x5)
    ∧ val_main_v81 (F := Ideal) x0 x1 x2 x3 x4 x5 = joined (val_main_v70 (F := Ideal) x0 x1 x2 x3 x4 x5) (val_main_v66 (F := Ideal) x0 x1 x2 x3 x4 x5) := by
  unfold val_main_v74 val_main_v73 val_main_v72 val_main_v71 val_main_v77 val_main_v76 val_main_v75 val_main_v81 val_main_v80 val_main_v79 val_main_v78
  generalize val_main_v68 (F := Ideal) x0 x1 x2 x3 x4 x5 = a
  generalize val_main_v64 (F := Ideal) x0 x1 x2 x3 x4 x5 = b
  generalize val_main_v47 (F := Ideal) x0 x1 x2 x3 x5 = d
  generalize val_main_v70 (F := Ideal) x0 x1 x2 x3 x4 x5 = e
  generalize val_main_v66 (F := Ideal) x0 x1 x2 x3 x4 x5 = f
  have h2 : val_main_call2_v0 (F := Ideal) = constant (F := Ideal) S_ .f32 0x00000000#32 := filling
  have h3 : val_main_call3_v0 (F := Ideal) = constant (F := Ideal) S_ .f32 0x00000000#32 := filling
  have h4 : val_main_call4_v0 (F := Ideal) = constant (F := Ideal) S_ .f32 0x00000000#32 := filling
  rw [h2, h3, h4]
  exact ⟨rfl, rfl, rfl⟩

theorem dk_val : val_main_v74 (F := Ideal) x0 x1 x2 x3 x4 x5 = wide Head.dk (Data.head D) := by
  refine eq_wide _ _ _ fun b a j l => ?_
  rw [dk_eq, (laid _ _ _ _ _ _).1]
  exact joined_real _ _ _ _ b j a l (dkn_at A b j a) (dkr_at A b j a)

theorem dv_val : val_main_v77 (F := Ideal) x0 x1 x2 x3 x5 = wide Head.dv (Data.head D) := by
  refine eq_wide _ _ _ fun b a j l => ?_
  rw [dv_eq, (laid x0 x2 x4 x5 x1 x3).2.1]
  exact padded_real _ 0 (Ideal.ofBits_zero _) _ _ b j a l (dv_at A b j a)

theorem dq_val : val_main_v81 (F := Ideal) x0 x1 x2 x3 x4 x5 = wide Head.dq (Data.head D) := by
  refine eq_wide _ _ _ fun b a i l => ?_
  rw [dq_eq, (laid _ _ _ _ _ _).2.2]
  exact joined_real _ _ _ _ b i a l (dqn_at A b i a) (dqr_at A b i a)

end Cert.AttnRefVal
end
-- ==== Proof.AttnClaim.lean ====
/- The claims about the gradient of the attention. -/
module

public import proofs.«01_k».proof.Defs
public import proofs.«01_k».proof.Proof.AttnBits
public import proofs.«01_k».proof.Proof.AttnRefVal
public import proofs.«01_k».proof.Proof.Finite
public import proofs.«01_k».proof.Proof.Gen.AttnRefIdeal.Run
public import proofs.«01_k».proof.Proof.Gen.Pre_finite_attention

@[expose] public section

set_option maxRecDepth 8000

noncomputable section

open Idealize.ShloMosaic Idealize.ShloMosaic.TcCoe Cert.AttnPast Cert.AttnEntry Cert.AttnHost

namespace Cert.AttnClaim

theorem frame_kernel : Cert.quiescent_Attn := Cert.AttnBits.frame_kernel
theorem frame_ideal : Cert.quiescent_AttnIdeal := fun m ρ _ => Cert.AttnIdeal.Gen.frame m ρ
theorem frame_ideal_pre : Cert.quiescent_AttnIdeal_pre_finite_attention := fun m ρ _ => Cert.AttnIdeal.Gen.frame m ρ
theorem frame_reference : Cert.quiescent_AttnRefIdeal := fun m ρ _ =>
  (θ_run Cert.AttnRefIdeal.defs _ _).mono (fun r h => ⟨fun c => (h c).2.2.2, sem_eq_zero_of_no_sems (by decide) r.2⟩) (Cert.AttnRefIdeal.Value.run m ρ)
theorem frame_reference_pre : Cert.quiescent_AttnRefIdeal_pre_finite_attention := fun m ρ _ => frame_reference m ρ trivial
theorem preserves : Cert.preserves_Attn_AttnIdeal := trivial

/-- The real numbers behind finite arguments. -/
theorem real_args (m : (ℓ : Loc AttnIdeal.nD AttnIdeal.τ AttnIdeal.sig) → Buf (Elt Ideal) ℓ) (h : Cert.Pre_AttnIdeal_finite_attention m) (c : Dev AttnIdeal.nD) :
    ∃ D, Args (qn m c) (kn m c) (vals m c) (cot m c) (qr m c) (kr m c) D := by
  have e := congrFun (h c) (Shape.Idx.first (by decide))
  dsimp only [Cert.Pre_finite_attention.fn, Cert.Pre_finite_attention.fn_part1] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  obtain ⟨f0, h0⟩ := Finite.real_of_all _ _ _ _ _ _ e0
  obtain ⟨f1, h1⟩ := Finite.real_of_all _ _ _ _ _ _ e1
  obtain ⟨f2, h2⟩ := Finite.real_of_all _ _ _ _ _ _ e2
  obtain ⟨f3, h3⟩ := Finite.real_of_all _ _ _ _ _ _ e3
  obtain ⟨f4, h4⟩ := Finite.real_of_all _ _ _ _ _ _ e4
  obtain ⟨f5, h5⟩ := Finite.real_of_all _ _ _ _ _ _ e5
  choose top ht using top_real (qn m c) (kn m c) (qr m c) (kr m c) f0 f2 f1 f3 h0 h1 h2 h3
  exact ⟨⟨fun b i a d => f0 (ix4 b i a d), fun b i a d => f1 (ix4 b i a d), fun b i a d => f2 (ix4 b i a d), fun b i a d => f3 (ix4 b i a d),
    fun b i a d => f4 (ix4 b i a d), fun b i a d => f5 (ix4 b i a d), top⟩,
    ⟨fun _ _ _ _ => h0 _, fun _ _ _ _ => h1 _, fun _ _ _ _ => h2 _, fun _ _ _ _ => h3 _, fun _ _ _ _ => h4 _, fun _ _ _ _ => h5 _, ht⟩⟩

/-- The kernel's three gradients are the reference's. -/
theorem algebraic : Cert.algebraic_AttnIdeal_AttnRefIdeal_pre_finite_attention := by
  intro m ρ m' ρ' hp hm
  refine ⟨fun c => Cert.AttnRefIdeal.Value.res_main_v74 m' c, fun c => Cert.AttnRefIdeal.Value.res_main_v77 m' c,
    fun c => Cert.AttnRefIdeal.Value.res_main_v81 m' c, ?_, Cert.AttnRefIdeal.Value.run m' ρ'⟩
  refine (θ_run Cert.AttnIdeal.defs _ _).mono (fun r h c => ?_) (Cert.AttnIdeal.Gen.run_main (F := Ideal) m ρ)
  obtain ⟨D, A⟩ := real_args m hp c
  obtain ⟨a0, a1, a2, a3, a4, a5⟩ := hm c
  have B : Args (m' ((c.tc : Thread _ AttnRefIdeal.τ).loc AttnRefIdeal.main_arg0)) (m' ((c.tc : Thread _ AttnRefIdeal.τ).loc AttnRefIdeal.main_arg2)) (m' ((c.tc : Thread _ AttnRefIdeal.τ).loc AttnRefIdeal.main_arg4))
      (m' ((c.tc : Thread _ AttnRefIdeal.τ).loc AttnRefIdeal.main_arg5)) (m' ((c.tc : Thread _ AttnRefIdeal.τ).loc AttnRefIdeal.main_arg1)) (m' ((c.tc : Thread _ AttnRefIdeal.τ).loc AttnRefIdeal.main_arg3)) D := by
    rw [a0, a1, a2, a3, a4, a5]
    exact A
  have Z := arrays A
  have k0 := (h c).1 6
  have k1 := (h c).1 7
  have k2 := (h c).1 8
  refine ⟨k0.trans ((AttnFinal.dk_final Z).trans ((AttnRefIdeal.Read.val_main_v74_eq m' c).trans (AttnRefVal.dk_val B)).symm),
    k1.trans ((AttnFinal.dv_final Z).trans ((AttnRefIdeal.Read.val_main_v77_eq m' c).trans (AttnRefVal.dv_val B)).symm),
    k2.trans ((AttnFinal.dq_final Z).trans ((AttnRefIdeal.Read.val_main_v81_eq m' c).trans (AttnRefVal.dq_val B)).symm), ?_, ?_, ?_, ?_, ?_, ?_⟩
  · exact ((h c).2 AttnIdeal.main_arg0 (Pipeline.mem_restRefs_of AttnIdeal.main_arg0 (by decide) (by decide))).trans (AttnIdeal.Gen.V_main_arg0 m c)
  · exact ((h c).2 AttnIdeal.main_arg1 (Pipeline.mem_restRefs_of AttnIdeal.main_arg1 (by decide) (by decide))).trans (AttnIdeal.Gen.V_main_arg1 m c)
  · exact ((h c).2 AttnIdeal.main_arg2 (Pipeline.mem_restRefs_of AttnIdeal.main_arg2 (by decide) (by decide))).trans (AttnIdeal.Gen.V_main_arg2 m c)
  · exact ((h c).2 AttnIdeal.main_arg3 (Pipeline.mem_restRefs_of AttnIdeal.main_arg3 (by decide) (by decide))).trans (AttnIdeal.Gen.V_main_arg3 m c)
  · exact ((h c).2 AttnIdeal.main_arg4 (Pipeline.mem_restRefs_of AttnIdeal.main_arg4 (by decide) (by decide))).trans (AttnIdeal.Gen.V_main_arg4 m c)
  · exact ((h c).2 AttnIdeal.main_arg5 (Pipeline.mem_restRefs_of AttnIdeal.main_arg5 (by decide) (by decide))).trans (AttnIdeal.Gen.V_main_arg5 m c)

end Cert.AttnClaim
end
-- ==== Proof.ConvMath.lean ====
/- The backward pass of the short gated convolution over the real numbers, token by token: the gradients through the output product, the
   gate, the three taps, the input product and the norm. -/
module

public import proofs.«01_k».proof.Proof.TailMath
public import proofs.«01_k».proof.Proof.Sums

@[expose] public section

noncomputable section

namespace Cert.ConvMath

open TailMath (sig)

/-- The layer's weights: norm, input product, taps, output product. -/
structure Wts where
  an : Fin 1024 → ℝ
  W : Fin 1024 → Fin 4096 → ℝ
  cw : Fin 3 → Fin 1024 → ℝ
  WO : Fin 1024 → Fin 1024 → ℝ

/-- What belongs to one token: incoming gradient, stream, projection, convolution, and the gradients of the convolution one and two
    tokens later in the sequence. -/
structure Row where
  dX : Fin 1024 → ℝ
  x : Fin 1024 → ℝ
  p : Fin 4096 → ℝ
  cv : Fin 1024 → ℝ
  d1 : Fin 1024 → ℝ
  d2 : Fin 1024 → ℝ

/-- The four quarters of the projection. -/
def pb (p : Fin 4096 → ℝ) (k : Fin 1024) : ℝ := p ⟨k.val, by omega⟩
def pc (p : Fin 4096 → ℝ) (k : Fin 1024) : ℝ := p ⟨1024 + k.val, by omega⟩
def pu (p : Fin 4096 → ℝ) (k : Fin 1024) : ℝ := p ⟨2048 + k.val, by omega⟩
def pg (p : Fin 4096 → ℝ) (k : Fin 1024) : ℝ := p ⟨3072 + k.val, by omega⟩

/-- The gate's activation and its derivative. -/
def silu (g : ℝ) : ℝ := g * sig g
def dsilu (g : ℝ) : ℝ := sig g * (1 + g * (1 - sig g))

/-- The gradient of the output product's input. -/
def dy (WO : Fin 1024 → Fin 1024 → ℝ) (dX : Fin 1024 → ℝ) (k : Fin 1024) : ℝ := ∑ j, dX j * WO k j
/-- The gradient of the convolution. -/
def dc (WO : Fin 1024 → Fin 1024 → ℝ) (dX : Fin 1024 → ℝ) (p : Fin 4096 → ℝ) (k : Fin 1024) : ℝ := dy WO dX k * silu (pg p k) * pb p k

variable (K : Wts) (R : Row)

/-- The mean square of the stream plus the norm's constant, and its reciprocal root; the normalised stream. -/
def ms (x : Fin 1024 → ℝ) : ℝ := (∑ j, x j * x j) / 1024 + Reals.eps
def rr (x : Fin 1024 → ℝ) : ℝ := (Real.sqrt (ms x))⁻¹
def xh (x : Fin 1024 → ℝ) (j : Fin 1024) : ℝ := x j * rr x

/-- The output product's input. -/
def y (k : Fin 1024) : ℝ := silu (pg R.p k) * pb R.p k * R.cv k
/-- The gradients of the projection's first and last quarter. -/
def gb (k : Fin 1024) : ℝ := dy K.WO R.dX k * silu (pg R.p k) * R.cv k
def gg (k : Fin 1024) : ℝ := dy K.WO R.dX k * pb R.p k * R.cv k * dsilu (pg R.p k)
/-- The gradient of the convolution's input. -/
def dv (k : Fin 1024) : ℝ := K.cw 0 k * R.d2 k + K.cw 1 k * R.d1 k + K.cw 2 k * dc K.WO R.dX R.p k
def gc (k : Fin 1024) : ℝ := dv K R k * pu R.p k
def gu (k : Fin 1024) : ℝ := dv K R k * pc R.p k

/-- The gradient of the projection. -/
def dpr (q : Fin 4096) : ℝ :=
  if q.val < 1024 then gb K R ⟨q.val % 1024, Nat.mod_lt _ (by norm_num)⟩
  else if q.val < 2048 then gc K R ⟨q.val % 1024, Nat.mod_lt _ (by norm_num)⟩
  else if q.val < 3072 then gu K R ⟨q.val % 1024, Nat.mod_lt _ (by norm_num)⟩
  else gg K R ⟨q.val % 1024, Nat.mod_lt _ (by norm_num)⟩

/-- The gradient of the norm's output. -/
def dh (k : Fin 1024) : ℝ := ∑ q, dpr K R q * K.W k q
/-- The gradient of the stream, the residual's included. -/
def dx (j : Fin 1024) : ℝ := R.dX j + rr R.x * (dh K R j * K.an j - xh R.x j * ((∑ l, dh K R l * K.an l * xh R.x l) / 1024))

/-- A token's part of the gradient of the taps, row by row of eight. -/
def taps (a : Fin 8) (k : Fin 1024) : ℝ :=
  if a.val = 0 then R.d2 k * (pc R.p k * pu R.p k) else if a.val = 1 then R.d1 k * (pc R.p k * pu R.p k)
  else if a.val = 2 then dc K.WO R.dX R.p k * (pc R.p k * pu R.p k) else 0

theorem ms_pos (x : Fin 1024 → ℝ) : 0 < ms x :=
  add_pos_of_nonneg_of_pos (div_nonneg (Finset.sum_nonneg fun _ _ => mul_self_nonneg _) (by norm_num)) Reals.eps_pos

theorem rr_cube (x : Fin 1024 → ℝ) : rr x / ms x = rr x * rr x * rr x := by
  have e : rr x * rr x = (ms x)⁻¹ := by
    unfold rr
    rw [← mul_inv, Real.mul_self_sqrt (ms_pos x).le]
  rw [e, div_eq_mul_inv, mul_comm]

theorem dpr_b (k : Fin 1024) (q : Fin 4096) (h : q.val = k.val) : dpr K R q = gb K R k := by
  unfold dpr
  rw [if_pos (by omega)]
  congr 1; apply Fin.ext; show q.val % 1024 = k.val; omega
theorem dpr_c (k : Fin 1024) (q : Fin 4096) (h : q.val = 1024 + k.val) : dpr K R q = gc K R k := by
  unfold dpr
  rw [if_neg (by omega), if_pos (by omega)]
  congr 1; apply Fin.ext; show q.val % 1024 = k.val; omega
theorem dpr_u (k : Fin 1024) (q : Fin 4096) (h : q.val = 2048 + k.val) : dpr K R q = gu K R k := by
  unfold dpr
  rw [if_neg (by omega), if_neg (by omega), if_pos (by omega)]
  congr 1; apply Fin.ext; show q.val % 1024 = k.val; omega
theorem dpr_g (k : Fin 1024) (q : Fin 4096) (h : q.val = 3072 + k.val) : dpr K R q = gg K R k := by
  unfold dpr
  rw [if_neg (by omega), if_neg (by omega), if_neg (by omega)]
  congr 1; apply Fin.ext; show q.val % 1024 = k.val; omega

/-- Column `l` of slab `s` of 512 columns. -/
def slab (s : Fin 8) (l : Fin 512) : Fin 4096 := ⟨512 * s.val + l.val, by omega⟩
/-- Columns of the two halves of a quarter. -/
def lo (l : Fin 512) : Fin 1024 := ⟨l.val, by omega⟩
def hi (l : Fin 512) : Fin 1024 := ⟨512 + l.val, by omega⟩

/-- The gradient of the norm's output, quarter by quarter and half by half, as the sum is built. -/
theorem dh_slabs (k : Fin 1024) : dh K R k =
    ((∑ l, gb K R (lo l) * K.W k (slab 0 l) + ∑ l, gb K R (hi l) * K.W k (slab 1 l))
      + (∑ l, gg K R (lo l) * K.W k (slab 6 l) + ∑ l, gg K R (hi l) * K.W k (slab 7 l))
      + (∑ l, gc K R (lo l) * K.W k (slab 2 l) + ∑ l, gc K R (hi l) * K.W k (slab 3 l)))
      + (∑ l, gu K R (lo l) * K.W k (slab 4 l) + ∑ l, gu K R (hi l) * K.W k (slab 5 l)) := by
  have h := Sums.sum_pairs 8 512 4096 rfl (fun q => dpr K R q * K.W k q) (fun q r => ⟨(512 * q + r.val) % 4096, Nat.mod_lt _ (by norm_num)⟩)
    fun q r h => by show (512 * q + r.val) % 4096 = _; omega
  unfold dh
  rw [← h, Finset.sum_range]
  rw [Finset.sum_congr rfl fun s _ => Finset.sum_congr rfl fun l _ => congrArg (fun q : Fin 4096 => dpr K R q * K.W k q)
    (show (⟨(512 * s.val + l.val) % 4096, Nat.mod_lt _ (by norm_num)⟩ : Fin 4096) = slab s l from Fin.ext (by show (512 * s.val + l.val) % 4096 = 512 * s.val + l.val; omega))]
  simp only [Fin.sum_univ_eight]
  rw [Finset.sum_congr rfl fun l _ => by rw [dpr_b K R (lo l) (slab 0 l) (by show 512 * 0 + l.val = l.val; omega)],
    Finset.sum_congr (s₁ := Finset.univ) (f := fun l => dpr K R (slab 1 l) * K.W k (slab 1 l)) rfl fun l _ => by rw [dpr_b K R (hi l) (slab 1 l) (by show 512 * 1 + l.val = 512 + l.val; omega)],
    Finset.sum_congr (s₁ := Finset.univ) (f := fun l => dpr K R (slab 2 l) * K.W k (slab 2 l)) rfl fun l _ => by rw [dpr_c K R (lo l) (slab 2 l) (by show 512 * 2 + l.val = 1024 + l.val; omega)],
    Finset.sum_congr (s₁ := Finset.univ) (f := fun l => dpr K R (slab 3 l) * K.W k (slab 3 l)) rfl fun l _ => by rw [dpr_c K R (hi l) (slab 3 l) (by show 512 * 3 + l.val = 1024 + (512 + l.val); omega)],
    Finset.sum_congr (s₁ := Finset.univ) (f := fun l => dpr K R (slab 4 l) * K.W k (slab 4 l)) rfl fun l _ => by rw [dpr_u K R (lo l) (slab 4 l) (by show 512 * 4 + l.val = 2048 + l.val; omega)],
    Finset.sum_congr (s₁ := Finset.univ) (f := fun l => dpr K R (slab 5 l) * K.W k (slab 5 l)) rfl fun l _ => by rw [dpr_u K R (hi l) (slab 5 l) (by show 512 * 5 + l.val = 2048 + (512 + l.val); omega)],
    Finset.sum_congr (s₁ := Finset.univ) (f := fun l => dpr K R (slab 6 l) * K.W k (slab 6 l)) rfl fun l _ => by rw [dpr_g K R (lo l) (slab 6 l) (by show 512 * 6 + l.val = 3072 + l.val; omega)],
    Finset.sum_congr (s₁ := Finset.univ) (f := fun l => dpr K R (slab 7 l) * K.W k (slab 7 l)) rfl fun l _ => by rw [dpr_g K R (hi l) (slab 7 l) (by show 512 * 7 + l.val = 3072 + (512 + l.val); omega)]]
  ring

end Cert.ConvMath
end
-- ==== Proof.ConvPay.lean ====
/- What the body of the gated convolution's backward call computes on one tile of 256 tokens, element by element, at real inputs. -/
module

public import proofs.«01_k».proof.Proof.ConvMath
public import proofs.«01_k».proof.Proof.Gen.ConvIdeal.Skeleton

@[expose] public section

set_option maxRecDepth 16384

noncomputable section

open Idealize.ShloMosaic Idealize.ShloMosaic.TcCoe Idealize.SL.Sem

namespace Cert.ConvPay

open Cert.ConvIdeal Cert.ConvIdeal.Gen Cert.ConvMath Cert.Reals
open TailMath (sig)

/-- What the body loads of a tile holds real numbers. -/
structure Tile (v8 : Vec Ideal S256x1024 .f32) (v10 : Vec Ideal S1024x1024 .bf16) (v14 v17 v20 v23 : Vec Ideal S256x1024 .bf16)
    (v26 : Vec Ideal S256x1024 .f32) (w0 w1 w2 w3 w4 w5 w6 w7 : Vec Ideal S1x1024x512 .bf16) (c0 c1 c2 : Vec Ideal S1x1024 .f32)
    (v167 : Vec Ideal S256x1024 .f32) (v179 : Vec Ideal S1x1024 .f32) (K : Wts) (T : Fin 256 → Row) : Prop where
  h8 : ∀ r k, v8 (ix2 r k) = ((T r).dX k : EReal)
  h10 : ∀ k j, v10 (ix2 k j) = (K.WO k j : EReal)
  h14 : ∀ r k, v14 (ix2 r k) = (pb (T r).p k : EReal)
  h17 : ∀ r k, v17 (ix2 r k) = (pc (T r).p k : EReal)
  h20 : ∀ r k, v20 (ix2 r k) = (pu (T r).p k : EReal)
  h23 : ∀ r k, v23 (ix2 r k) = (pg (T r).p k : EReal)
  h26 : ∀ r k, v26 (ix2 r k) = ((T r).cv k : EReal)
  e0 : ∀ z k l, w0 (ix3 z k l) = (K.W k (slab 0 l) : EReal)
  e1 : ∀ z k l, w1 (ix3 z k l) = (K.W k (slab 1 l) : EReal)
  e2 : ∀ z k l, w2 (ix3 z k l) = (K.W k (slab 2 l) : EReal)
  e3 : ∀ z k l, w3 (ix3 z k l) = (K.W k (slab 3 l) : EReal)
  e4 : ∀ z k l, w4 (ix3 z k l) = (K.W k (slab 4 l) : EReal)
  e5 : ∀ z k l, w5 (ix3 z k l) = (K.W k (slab 5 l) : EReal)
  e6 : ∀ z k l, w6 (ix3 z k l) = (K.W k (slab 6 l) : EReal)
  e7 : ∀ z k l, w7 (ix3 z k l) = (K.W k (slab 7 l) : EReal)
  t0 : ∀ z k, c0 (ix2 z k) = (K.cw 0 k : EReal)
  t1 : ∀ z k, c1 (ix2 z k) = (K.cw 1 k : EReal)
  t2 : ∀ z k, c2 (ix2 z k) = (K.cw 2 k : EReal)
  h167 : ∀ r k, v167 (ix2 r k) = ((T r).x k : EReal)
  h179 : ∀ z k, v179 (ix2 z k) = (K.an k : EReal)

variable {v8 : Vec Ideal S256x1024 .f32} {v10 : Vec Ideal S1024x1024 .bf16} {v14 v17 v20 v23 : Vec Ideal S256x1024 .bf16}
    {v26 : Vec Ideal S256x1024 .f32} {w0 w1 w2 w3 w4 w5 w6 w7 : Vec Ideal S1x1024x512 .bf16} {c0 c1 c2 : Vec Ideal S1x1024 .f32}
    {v167 : Vec Ideal S256x1024 .f32} {v179 : Vec Ideal S1x1024 .f32} {K : Wts} {T : Fin 256 → Row}
variable (H : Tile v8 v10 v14 v17 v20 v23 v26 w0 w1 w2 w3 w4 w5 w6 w7 c0 c1 c2 v167 v179 K T)

include H

theorem dX_at (r k) : k0_pay5 v8 (ix2 r k) = ((T r).dX k : EReal) := by unfold k0_pay5; pointwise [H.h8]
theorem dy_at (r k) : k0_pay6 v8 v10 (ix2 r k) = (dy K.WO (T r).dX k : EReal) := by
  unfold k0_pay6; pointwise [dX_at H, H.h10, coe_mul', coe_sum]; rfl
theorem b_at (r k) : k0_pay7 v14 (ix2 r k) = (pb (T r).p k : EReal) := by unfold k0_pay7; pointwise [H.h14]
theorem c_at (r k) : k0_pay8 v17 (ix2 r k) = (pc (T r).p k : EReal) := by unfold k0_pay8; pointwise [H.h17]
theorem u_at (r k) : k0_pay9 v20 (ix2 r k) = (pu (T r).p k : EReal) := by unfold k0_pay9; pointwise [H.h20]
theorem g_at (r k) : k0_pay10 v23 (ix2 r k) = (pg (T r).p k : EReal) := by unfold k0_pay10; pointwise [H.h23]
theorem cv_at (r k) : k0_pay11 v26 (ix2 r k) = ((T r).cv k : EReal) := by unfold k0_pay11; pointwise [H.h26]
theorem sig_at (r k) : k0_pay12 v23 (ix2 r k) = (sig (pg (T r).p k) : EReal) := by
  unfold k0_pay12; pointwise [g_at H, Ideal.logistic_coe]; rfl
theorem silu_at (r k) : k0_pay13 v23 (ix2 r k) = (silu (pg (T r).p k) : EReal) := by
  unfold k0_pay13; pointwise [g_at H, sig_at H, coe_mul']; rfl

theorem gb_at (r k) : k0_pay16 (k0_pay6 v8 v10) (k0_pay11 v26) (k0_pay13 v23) (ix2 r k) = (gb K (T r) k : EReal) := by
  unfold k0_pay16; pointwise [dy_at H, silu_at H, cv_at H, coe_mul']; rfl
theorem gg_at (r k) : k0_pay17 (k0_pay6 v8 v10) (k0_pay7 v14) (k0_pay11 v26) (k0_pay12 v23) (k0_pay14 v23) k0_pay15 (ix2 r k) = (gg K (T r) k : EReal) := by
  unfold k0_pay17 k0_pay14 k0_pay15
  pointwise [dy_at H, b_at H, cv_at H, sig_at H, g_at H, lit_one, coe_one', coe_mul', coe_sub', coe_add']; rfl

/-- The part of the norm's gradient that comes through the first and the last quarter. -/
theorem first_at (r k) : k0_pay18 (k0_pay6 v8 v10) (k0_pay7 v14) (k0_pay11 v26) (k0_pay12 v23) (k0_pay13 v23) (k0_pay14 v23) k0_pay15 w0 w1 w6 w7 (ix2 r k)
    = (((∑ l, gb K (T r) (lo l) * K.W k (slab 0 l) + ∑ l, gb K (T r) (hi l) * K.W k (slab 1 l))
      + (∑ l, gg K (T r) (lo l) * K.W k (slab 6 l) + ∑ l, gg K (T r) (hi l) * K.W k (slab 7 l)) : ℝ) : EReal) := by
  unfold k0_pay18
  pointwise [gb_at H, gg_at H, H.e0, H.e1, H.e6, H.e7, coe_mul', coe_sum, coe_add']
  rfl

theorem dw_at (v64 : Vec Ideal S1024x1024 .f32) (a : Fin 1024 → Fin 1024 → ℝ) (h : ∀ k j, v64 (ix2 k j) = (a k j : EReal)) (k j) :
    k0_pay22 (k0_pay19 v64) (k0_pay20 (k0_pay7 v14) (k0_pay11 v26) (k0_pay13 v23)) (k0_pay21 (k0_pay5 v8)) (ix2 k j)
      = ((a k j + ∑ r, y (T r) k * (T r).dX j : ℝ) : EReal) := by
  unfold k0_pay22 k0_pay19 k0_pay20 k0_pay21
  pointwise [b_at H, cv_at H, silu_at H, dX_at H, h, coe_mul', coe_sum, coe_add']
  rfl

theorem dc_at (r k) : k0_pay23 (k0_pay6 v8 v10) (k0_pay7 v14) (k0_pay13 v23) (ix2 r k) = (dc K.WO (T r).dX (T r).p k : EReal) := by
  unfold k0_pay23; pointwise [dy_at H, silu_at H, b_at H, coe_mul']; rfl

theorem next_at (a : Fin 8) (k : Fin 1024) : k0_pay30 (k0_pay29 (k0_pay6 v8 v10) (k0_pay7 v14) (k0_pay13 v23)) (ix2 a k)
    = (dc K.WO (T ⟨a.val, by omega⟩).dX (T ⟨a.val, by omega⟩).p k : EReal) := by
  unfold k0_pay30 k0_pay29; pointwise [dc_at H]; try rfl

theorem v_at (r k) : k0_pay31 (k0_pay8 v17) (k0_pay9 v20) (ix2 r k) = ((pc (T r).p k * pu (T r).p k : ℝ) : EReal) := by
  unfold k0_pay31; pointwise [c_at H, u_at H, coe_mul']; try rfl

theorem cw2_at (o : Vec Ideal S1x1024 .f32) (a : Fin 1024 → ℝ) (h : ∀ z k, o (ix2 z k) = (a k : EReal)) (z k) :
    k0_pay34 (k0_pay8 v17) (k0_pay9 v20) (k0_pay23 (k0_pay6 v8 v10) (k0_pay7 v14) (k0_pay13 v23)) o (ix2 z k)
      = ((a k + ∑ r, dc K.WO (T r).dX (T r).p k * (pc (T r).p k * pu (T r).p k) : ℝ) : EReal) := by
  unfold k0_pay34; pointwise [v_at H, dc_at H, h, coe_mul', coe_sum, coe_add']

variable {D1 D2 : Vec Ideal S256x1024 .f32} (H1 : ∀ r k, D1 (ix2 r k) = ((T r).d1 k : EReal)) (H2 : ∀ r k, D2 (ix2 r k) = ((T r).d2 k : EReal))

theorem rr_at (r z) : k0_pay42 (k0_pay41 v167) (ix2 r z) = (rr (T r).x : EReal) := by
  unfold k0_pay42 k0_pay41
  pointwise [H.h167, coe_mul', coe_sum, lit_1024, lit_eps]
  rw [div_coe_coe _ _ (by norm_num), coe_add']
  exact rsqrt_pos _ (ms_pos (T r).x)
theorem xh_at (r k) : k0_pay43 (k0_pay41 v167) (ix2 r k) = (xh (T r).x k : EReal) := by
  unfold k0_pay43; pointwise [rr_at H]; unfold k0_pay41; pointwise [H.h167, coe_mul']; rfl
theorem h_at (k : Fin 1024) (r : Fin 256) : k0_pay44 (k0_pay41 v167) v179 (ix2 k r) = ((xh (T r).x k * K.an k : ℝ) : EReal) := by
  unfold k0_pay44; pointwise [xh_at H, H.h179, coe_mul']

include H1 H2

theorem cw0_at (o : Vec Ideal S1x1024 .f32) (a : Fin 1024 → ℝ) (h : ∀ z k, o (ix2 z k) = (a k : EReal)) (z k) :
    k0_pay32 (k0_pay8 v17) (k0_pay9 v20) D2 o (ix2 z k)
      = ((a k + ∑ r, (T r).d2 k * (pc (T r).p k * pu (T r).p k) : ℝ) : EReal) := by
  unfold k0_pay32; pointwise [v_at H, H2, h, coe_mul', coe_sum, coe_add']
theorem cw1_at (o : Vec Ideal S1x1024 .f32) (a : Fin 1024 → ℝ) (h : ∀ z k, o (ix2 z k) = (a k : EReal)) (z k) :
    k0_pay33 (k0_pay8 v17) (k0_pay9 v20) D1 o (ix2 z k)
      = ((a k + ∑ r, (T r).d1 k * (pc (T r).p k * pu (T r).p k) : ℝ) : EReal) := by
  unfold k0_pay33; pointwise [v_at H, H1, h, coe_mul', coe_sum, coe_add']

theorem dv_at (r k) : k0_pay37 (k0_pay23 (k0_pay6 v8 v10) (k0_pay7 v14) (k0_pay13 v23)) D1 (k0_pay35 D2 c0) (k0_pay36 c1) c2 (ix2 r k) = (dv K (T r) k : EReal) := by
  unfold k0_pay37 k0_pay35 k0_pay36; pointwise [dc_at H, H1, H2, H.t0, H.t1, H.t2, coe_mul', coe_add']; rfl
theorem gc_at (r k) : k0_pay38 (k0_pay9 v20) (k0_pay23 (k0_pay6 v8 v10) (k0_pay7 v14) (k0_pay13 v23)) D1 (k0_pay35 D2 c0) (k0_pay36 c1) c2 (ix2 r k) = (gc K (T r) k : EReal) := by
  unfold k0_pay38; pointwise [dv_at H H1 H2, u_at H, coe_mul']; rfl
theorem gu_at (r k) : k0_pay39 (k0_pay8 v17) (k0_pay23 (k0_pay6 v8 v10) (k0_pay7 v14) (k0_pay13 v23)) D1 (k0_pay35 D2 c0) (k0_pay36 c1) c2 (ix2 r k) = (gu K (T r) k : EReal) := by
  unfold k0_pay39; pointwise [dv_at H H1 H2, c_at H, coe_mul']; rfl

theorem dh_at (r k) : k0_pay40 (k0_pay8 v17) (k0_pay9 v20) (k0_pay18 (k0_pay6 v8 v10) (k0_pay7 v14) (k0_pay11 v26) (k0_pay12 v23) (k0_pay13 v23) (k0_pay14 v23) k0_pay15 w0 w1 w6 w7)
      (k0_pay23 (k0_pay6 v8 v10) (k0_pay7 v14) (k0_pay13 v23)) D1 (k0_pay35 D2 c0) (k0_pay36 c1) c2 w2 w3 w4 w5 (ix2 r k) = (dh K (T r) k : EReal) := by
  unfold k0_pay40
  pointwise [first_at H, gc_at H H1 H2, gu_at H H1 H2, H.e2, H.e3, H.e4, H.e5, coe_mul', coe_sum, coe_add']
  rw [dh_slabs]
  rfl

theorem dan_at (o : Vec Ideal S1x1024 .f32) (a : Fin 1024 → ℝ) (h : ∀ z k, o (ix2 z k) = (a k : EReal)) (z k) :
    k0_pay45 (k0_pay40 (k0_pay8 v17) (k0_pay9 v20) (k0_pay18 (k0_pay6 v8 v10) (k0_pay7 v14) (k0_pay11 v26) (k0_pay12 v23) (k0_pay13 v23) (k0_pay14 v23) k0_pay15 w0 w1 w6 w7)
      (k0_pay23 (k0_pay6 v8 v10) (k0_pay7 v14) (k0_pay13 v23)) D1 (k0_pay35 D2 c0) (k0_pay36 c1) c2 w2 w3 w4 w5) (k0_pay41 v167) o (ix2 z k)
      = ((a k + ∑ r, dh K (T r) k * xh (T r).x k : ℝ) : EReal) := by
  unfold k0_pay45; pointwise [dh_at H H1 H2, xh_at H, h, coe_mul', coe_sum, coe_add']

theorem dx_at (r k) :
    k0_pay46 (k0_pay5 v8) (k0_pay40 (k0_pay8 v17) (k0_pay9 v20) (k0_pay18 (k0_pay6 v8 v10) (k0_pay7 v14) (k0_pay11 v26) (k0_pay12 v23) (k0_pay13 v23) (k0_pay14 v23) k0_pay15 w0 w1 w6 w7)
      (k0_pay23 (k0_pay6 v8 v10) (k0_pay7 v14) (k0_pay13 v23)) D1 (k0_pay35 D2 c0) (k0_pay36 c1) c2 w2 w3 w4 w5) (k0_pay41 v167) v179 (ix2 r k)
      = (dx K (T r) k : EReal) := by
  unfold k0_pay46
  pointwise [dX_at H, dh_at H H1 H2, xh_at H, rr_at H, H.h179, lit_1024, coe_mul', coe_sum, div_coe_coe _ _ (show (1024 : ℝ) ≠ 0 by norm_num), coe_sub', coe_add']
  rfl

end Cert.ConvPay
end
-- ==== Proof.ConvRot.lean ====
/- The turned copies of a tile: each row moved up by one or two places, the last rows taken from the tile that follows in the
   sequence. -/
module

public import proofs.«01_k».proof.Proof.ConvPay

@[expose] public section

set_option maxRecDepth 16384

noncomputable section

open Idealize.ShloMosaic Idealize.ShloMosaic.TcCoe Idealize.SL.Sem

namespace Cert.ConvRot

open Cert.ConvIdeal Cert.ConvIdeal.Gen Cert.ConvMath Cert.Reals

variable {v13 v16 v29 : FVec Ideal S256x1024 .f32} {q : Fin 256 → Fin 1024 → ℝ}
variable (h : ∀ r k, k0_pay23 v13 v16 v29 (ix2 r k) = (q r k : EReal))
variable {v84 : Vec Ideal S8x1024 .f32} {p : Fin 8 → Fin 1024 → ℝ} (h' : ∀ r k, v84 (ix2 r k) = (p r k : EReal))
include h

theorem one_at (r k) : k0_pay24 v13 v16 v29 (ix2 r k) = (q ⟨(r.val + 1) % 256, Nat.mod_lt _ (by norm_num)⟩ k : EReal) := by
  unfold k0_pay24
  pointwise [h]
  congr 4
theorem two_at (r k) : k0_pay25 v13 v16 v29 (ix2 r k) = (q ⟨(r.val + 2) % 256, Nat.mod_lt _ (by norm_num)⟩ k : EReal) := by
  unfold k0_pay25
  pointwise [h]
  congr 4
include h'
theorem one_end (r k) : k0_pay27 v13 v16 v29 v84 (ix2 r k) = ((if r.val = 7 then p 0 k else q ⟨(r.val + 249) % 256, Nat.mod_lt _ (by norm_num)⟩ k : ℝ) : EReal) := by
  unfold k0_pay27 k0_pay26
  pointwise [h, h']
  fin_cases r <;> rfl
theorem two_end (r k) : k0_pay28 v13 v16 v29 v84 (ix2 r k) = ((if 6 ≤ r.val then p ⟨(r.val + 2) % 8, Nat.mod_lt _ (by norm_num)⟩ k else q ⟨(r.val + 250) % 256, Nat.mod_lt _ (by norm_num)⟩ k : ℝ) : EReal) := by
  unfold k0_pay28 k0_pay26
  pointwise [h, h']
  fin_cases r <;> rfl

end Cert.ConvRot
end
-- ==== Proof.ConvOut.lean ====
/- What the body of the gated convolution's backward call loads of a point's blocks, at real numbers. -/
module

public import proofs.«01_k».proof.Proof.ConvRot
public import Idealize.ShloMosaic.Lib.Pipeline.ReadBack
public import Idealize.ShloMosaic.Lib.WritesUnit
public import proofs.«01_k».proof.Proof.Gen.ConvIdeal.Value

@[expose] public section

set_option maxRecDepth 16384

noncomputable section

open Idealize.ShloMosaic Idealize.ShloMosaic.TcCoe Idealize.SL.Sem

namespace Cert.ConvOut

open Cert.ConvIdeal Cert.ConvIdeal.Gen Cert.ConvMath Cert.Reals Cert.ConvPay

theorem hz : (![0, 0] : Fin 2 → Nat) = fun _ => 0 := funext fun a => by fin_cases a <;> rfl

/-- A load of the whole of a block. -/
theorem ld_whole {e : EltTy} {f : Fin 2 → ℕ} (inb) (X : (⟨2, f⟩ : Shape).Idx → Elt Ideal e) : View.ld X (Rect.unit (s := ⟨2, f⟩) ![0, 0] f inb) = X := View.ld_unit_zero hz inb X

/-- Eight blocks that hold real numbers. -/
structure Blk (x0 x1 : Vec Ideal S256x1024 .f32) (x2 : Vec Ideal S256x4096 .bf16) (x3 : Vec Ideal S256x1024 .f32) (x4 : Vec Ideal S1x1024 .f32)
    (x5 : Vec Ideal S8x1024x512 .bf16) (x6 : Vec Ideal S3x1024 .f32) (x7 : Vec Ideal S1024x1024 .bf16) (K : Wts) (T : Fin 256 → Row) : Prop where
  h0 : ∀ r k, x0 (ix2 r k) = ((T r).dX k : EReal)
  h1 : ∀ r k, x1 (ix2 r k) = ((T r).x k : EReal)
  h2 : ∀ r q, x2 (ix2 r q) = ((T r).p q : EReal)
  h3 : ∀ r k, x3 (ix2 r k) = ((T r).cv k : EReal)
  h4 : ∀ z k, x4 (ix2 z k) = (K.an k : EReal)
  h5 : ∀ s k l, x5 (ix3 s k l) = (K.W k (slab s l) : EReal)
  h6 : ∀ a k, x6 (ix2 a k) = (K.cw a k : EReal)
  h7 : ∀ k j, x7 (ix2 k j) = (K.WO k j : EReal)

variable {x0 x1 : Vec Ideal S256x1024 .f32} {x2 : Vec Ideal S256x4096 .bf16} {x3 : Vec Ideal S256x1024 .f32} {x4 : Vec Ideal S1x1024 .f32}
    {x5 : Vec Ideal S8x1024x512 .bf16} {x6 : Vec Ideal S3x1024 .f32} {x7 : Vec Ideal S1024x1024 .bf16} {K : Wts} {T : Fin 256 → Row}

theorem quarter (H : Blk x0 x1 x2 x3 x4 x5 x6 x7 K T) (o : ℕ) (inb) (r : Fin 256) (k : Fin 1024) (q : Fin 4096) (hq : q.val = o + k.val) :
    View.ld x2 (Rect.unit (s := S256x4096) ![0, o] ![256, 1024] inb) (ix2 r k) = ((T r).p q : EReal) := by
  refine Eq.trans ?_ (H.h2 r q)
  show x2 _ = x2 _
  congr 1
  funext a
  refine Fin.cases ?_ (fun b => Fin.cases ?_ (fun i => i.elim0) b) a
  · apply Fin.ext; show 0 + 1 * r.val = r.val; omega
  · apply Fin.ext; show o + 1 * k.val = q.val; omega
theorem slab_ld (H : Blk x0 x1 x2 x3 x4 x5 x6 x7 K T) (o : ℕ) (inb) (s : Fin 8) (hs : s.val = o) (z : Fin 1) (k : Fin 1024) (l : Fin 512) :
    View.ld x5 (Rect.unit (s := S8x1024x512) ![o, 0, 0] ![1, 1024, 512] inb) (ix3 z k l) = (K.W k (slab s l) : EReal) := by
  refine Eq.trans ?_ (H.h5 s k l)
  show x5 _ = x5 _
  congr 1
  funext a
  refine Fin.cases ?_ (fun b => Fin.cases ?_ (fun d => Fin.cases ?_ (fun i => i.elim0) d) b) a
  · apply Fin.ext; show o + 1 * z.val = s.val; omega
  · apply Fin.ext; show 0 + 1 * k.val = k.val; omega
  · apply Fin.ext; show 0 + 1 * l.val = l.val; omega
theorem tap_ld (H : Blk x0 x1 x2 x3 x4 x5 x6 x7 K T) (o : ℕ) (inb) (s : Fin 3) (hs : s.val = o) (z : Fin 1) (k : Fin 1024) :
    View.ld x6 (Rect.unit (s := S3x1024) ![o, 0] ![1, 1024] inb) (ix2 z k) = (K.cw s k : EReal) := by
  refine Eq.trans ?_ (H.h6 s k)
  show x6 _ = x6 _
  congr 1
  funext a
  refine Fin.cases ?_ (fun b => Fin.cases ?_ (fun i => i.elim0) b) a
  · apply Fin.ext; show o + 1 * z.val = s.val; omega
  · apply Fin.ext; show 0 + 1 * k.val = k.val; omega
/-- A row of eight, loaded by itself. -/
theorem row_ld (x : Vec Ideal S8x1024 .f32) (o : ℕ) (inb) (s : Fin 8) (hs : s.val = o) (z : Fin 1) (k : Fin 1024) :
    View.ld x (Rect.unit (s := S8x1024) ![o, 0] ![1, 1024] inb) (ix2 z k) = x (ix2 s k) := by
  show x _ = x _
  congr 1
  funext a
  refine Fin.cases ?_ (fun b => Fin.cases ?_ (fun i => i.elim0) b) a
  · apply Fin.ext; show o + 1 * z.val = s.val; omega
  · apply Fin.ext; show 0 + 1 * k.val = k.val; omega

theorem Blk.tile (H : Blk x0 x1 x2 x3 x4 x5 x6 x7 K T) : Tile x0 x7
    (View.ld x2 (Rect.unit ![0, 0] ![256, 1024] inb_S256x4096_S256x1024_0_0)) (View.ld x2 (Rect.unit ![0, 1024] ![256, 1024] inb_S256x4096_S256x1024_0_1024))
    (View.ld x2 (Rect.unit ![0, 2048] ![256, 1024] inb_S256x4096_S256x1024_0_2048)) (View.ld x2 (Rect.unit ![0, 3072] ![256, 1024] inb_S256x4096_S256x1024_0_3072)) x3
    (View.ld x5 (Rect.unit ![0, 0, 0] ![1, 1024, 512] inb_S8x1024x512_S1x1024x512_0_0_0)) (View.ld x5 (Rect.unit ![1, 0, 0] ![1, 1024, 512] inb_S8x1024x512_S1x1024x512_1_0_0))
    (View.ld x5 (Rect.unit ![2, 0, 0] ![1, 1024, 512] inb_S8x1024x512_S1x1024x512_2_0_0)) (View.ld x5 (Rect.unit ![3, 0, 0] ![1, 1024, 512] inb_S8x1024x512_S1x1024x512_3_0_0))
    (View.ld x5 (Rect.unit ![4, 0, 0] ![1, 1024, 512] inb_S8x1024x512_S1x1024x512_4_0_0)) (View.ld x5 (Rect.unit ![5, 0, 0] ![1, 1024, 512] inb_S8x1024x512_S1x1024x512_5_0_0))
    (View.ld x5 (Rect.unit ![6, 0, 0] ![1, 1024, 512] inb_S8x1024x512_S1x1024x512_6_0_0)) (View.ld x5 (Rect.unit ![7, 0, 0] ![1, 1024, 512] inb_S8x1024x512_S1x1024x512_7_0_0))
    (View.ld x6 (Rect.unit ![0, 0] ![1, 1024] inb_S3x1024_S1x1024_0_0)) (View.ld x6 (Rect.unit ![1, 0] ![1, 1024] inb_S3x1024_S1x1024_1_0))
    (View.ld x6 (Rect.unit ![2, 0] ![1, 1024] inb_S3x1024_S1x1024_2_0)) x1 x4 K T where
  h8 := H.h0
  h10 := H.h7
  h14 r k := quarter H 0 _ r k _ (by simp)
  h17 r k := quarter H 1024 _ r k _ rfl
  h20 r k := quarter H 2048 _ r k _ rfl
  h23 r k := quarter H 3072 _ r k _ rfl
  h26 := H.h3
  e0 := slab_ld H 0 _ 0 rfl
  e1 := slab_ld H 1 _ 1 rfl
  e2 := slab_ld H 2 _ 2 rfl
  e3 := slab_ld H 3 _ 3 rfl
  e4 := slab_ld H 4 _ 4 rfl
  e5 := slab_ld H 5 _ 5 rfl
  e6 := slab_ld H 6 _ 6 rfl
  e7 := slab_ld H 7 _ 7 rfl
  t0 := tap_ld H 0 _ 0 rfl
  t1 := tap_ld H 1 _ 1 rfl
  t2 := tap_ld H 2 _ 2 rfl
  h167 := H.h1
  h179 := H.h4

/-- A tile stored whole and then in its last eight rows, read back. -/
theorem two (v : View sig .tc .vmem S256x1024 .f32) (P : Vec Ideal S8x1024 .f32) (Q : Vec Ideal S256x1024 .f32) (r : Fin 256) (k : Fin 1024) :
    v.readCov (Val := Elt Ideal) [⟨Rect.unit ![248, 0] ![8, 1024] inb_S256x1024_S8x1024_248_0, P⟩, ⟨Rect.unit ![0, 0] ![256, 1024] inb_S256x1024_S256x1024_0_0, Q⟩]
      (Rect.unit (s := S256x1024) ![0, 0] ![256, 1024] inb_S256x1024_S256x1024_0_0).toLoadRect (ix2 r k)
      = if h : 248 ≤ r.val then P (ix2 ⟨r.val - 248, by omega⟩ k) else Q (ix2 r k) := by
  have e : (Rect.unit (s := S256x1024) ![0, 0] ![256, 1024] inb_S256x1024_S256x1024_0_0).toLoadRect.idx (ix2 r k) = ix2 r k := by
    funext a
    refine Fin.cases ?_ (fun b => Fin.cases ?_ (fun i => i.elim0) b) a
    · apply Fin.ext; show 0 + 1 * r.val = r.val; omega
    · apply Fin.ext; show 0 + 1 * k.val = k.val; omega
  show v.read (Elt Ideal) (v.writes (Elt Ideal) v.junk _) _ = _
  rw [e]
  split_ifs with h
  · exact View.read_writes_cons_rows_of_mem (o := 248) v _ _ _ _ _ _ rfl (by show r.val = 248 + (r.val - 248); omega) rfl
  · refine (View.read_writes_cons_rows_of_not_mem (o := 248) (W := 8) v _ _ _ _ _ rfl rfl (Or.inl (by show r.val < 248; omega))).trans ?_
    exact View.read_writes_cons_rows_of_mem (o := 0) v _ _ _ _ _ (ix2 r k) rfl (by show r.val = 0 + r.val; omega) rfl

/-- The rows one and two places further on: of the tile itself, past its end those kept of the tile that follows. -/
structure Ends (K : Wts) (T : Fin 256 → Row) (p : Fin 8 → Fin 1024 → ℝ) : Prop where
  one : ∀ r k, (T r).d1 k = if r.val = 255 then p 0 k else dc K.WO (T ⟨(r.val + 1) % 256, Nat.mod_lt _ (by norm_num)⟩).dX (T ⟨(r.val + 1) % 256, Nat.mod_lt _ (by norm_num)⟩).p k
  two : ∀ r k, (T r).d2 k = if 254 ≤ r.val then p ⟨(r.val + 2) % 8, Nat.mod_lt _ (by norm_num)⟩ k
    else dc K.WO (T ⟨(r.val + 2) % 256, Nat.mod_lt _ (by norm_num)⟩).dX (T ⟨(r.val + 2) % 256, Nat.mod_lt _ (by norm_num)⟩).p k

section ends

variable {v13 v16 v29 : FVec Ideal S256x1024 .f32} {v84 : Vec Ideal S8x1024 .f32} {p : Fin 8 → Fin 1024 → ℝ}
variable (h : ∀ r k, k0_pay23 v13 v16 v29 (ix2 r k) = (dc K.WO (T r).dX (T r).p k : EReal)) (h' : ∀ r k, v84 (ix2 r k) = (p r k : EReal)) (E : Ends K T p)
include h h' E

theorem d1_at (v : View sig .tc .vmem S256x1024 .f32) (r : Fin 256) (k : Fin 1024) :
    v.readCov (Val := Elt Ideal) [⟨Rect.unit ![248, 0] ![8, 1024] inb_S256x1024_S8x1024_248_0, k0_pay27 v13 v16 v29 v84⟩, ⟨Rect.unit ![0, 0] ![256, 1024] inb_S256x1024_S256x1024_0_0, k0_pay24 v13 v16 v29⟩]
      (Rect.unit (s := S256x1024) ![0, 0] ![256, 1024] inb_S256x1024_S256x1024_0_0).toLoadRect (ix2 r k) = ((T r).d1 k : EReal) := by
  rw [two, E.one]
  split_ifs with h1 h2 h2
  · rw [ConvRot.one_end h h']
    rw [if_pos (by show r.val - 248 = 7; omega)]
  · rw [ConvRot.one_end h h']
    rw [if_neg (by show ¬r.val - 248 = 7; omega)]
    have e : (⟨(r.val - 248 + 249) % 256, Nat.mod_lt _ (by norm_num)⟩ : Fin 256) = ⟨(r.val + 1) % 256, Nat.mod_lt _ (by norm_num)⟩ := Fin.ext (by show (r.val - 248 + 249) % 256 = (r.val + 1) % 256; omega)
    exact congrArg (fun z : Fin 256 => ((dc K.WO (T z).dX (T z).p k : ℝ) : EReal)) e
  · omega
  · exact ConvRot.one_at h r k
theorem d2_at (v : View sig .tc .vmem S256x1024 .f32) (r : Fin 256) (k : Fin 1024) :
    v.readCov (Val := Elt Ideal) [⟨Rect.unit ![248, 0] ![8, 1024] inb_S256x1024_S8x1024_248_0, k0_pay28 v13 v16 v29 v84⟩, ⟨Rect.unit ![0, 0] ![256, 1024] inb_S256x1024_S256x1024_0_0, k0_pay25 v13 v16 v29⟩]
      (Rect.unit (s := S256x1024) ![0, 0] ![256, 1024] inb_S256x1024_S256x1024_0_0).toLoadRect (ix2 r k) = ((T r).d2 k : EReal) := by
  rw [two, E.two]
  split_ifs with h1 h2 h2
  · rw [ConvRot.two_end h h']
    rw [if_pos (by show 6 ≤ r.val - 248; omega)]
    have e : (⟨(r.val - 248 + 2) % 8, Nat.mod_lt _ (by norm_num)⟩ : Fin 8) = ⟨(r.val + 2) % 8, Nat.mod_lt _ (by norm_num)⟩ := Fin.ext (by show (r.val - 248 + 2) % 8 = (r.val + 2) % 8; omega)
    exact congrArg (fun z : Fin 8 => ((p z k : ℝ) : EReal)) e
  · rw [ConvRot.two_end h h']
    rw [if_neg (by show ¬6 ≤ r.val - 248; omega)]
    have e : (⟨(r.val - 248 + 250) % 256, Nat.mod_lt _ (by norm_num)⟩ : Fin 256) = ⟨(r.val + 2) % 256, Nat.mod_lt _ (by norm_num)⟩ := Fin.ext (by show (r.val - 248 + 250) % 256 = (r.val + 2) % 256; omega)
    exact congrArg (fun z : Fin 256 => ((dc K.WO (T z).dX (T z).p k : ℝ) : EReal)) e
  · omega
  · exact ConvRot.two_at h r k

end ends

theorem zero8 (a : Fin 8) (k : Fin 1024) : k0_pay4 (F := Ideal) (ix2 a k) = ((0 : ℝ) : EReal) := by
  unfold k0_pay4
  pointwise
  rfl

/-- Three of eight rows stored one by one. -/
theorem rows3 (v : View sig .tc .vmem S8x1024 .f32) (f : v.ty.Contents (Elt Ideal)) (P0 P1 P2 : Vec Ideal S1x1024 .f32) (L) (a : Fin 8) (k : Fin 1024) :
    v.read (Elt Ideal) (v.writes (Elt Ideal) f (⟨Rect.unit ![2, 0] ![1, 1024] inb_S8x1024_S1x1024_2_0, P2⟩ :: ⟨Rect.unit ![1, 0] ![1, 1024] inb_S8x1024_S1x1024_1_0, P1⟩
      :: ⟨Rect.unit ![0, 0] ![1, 1024] inb_S8x1024_S1x1024_0_0, P0⟩ :: L)) (ix2 a k)
      = if a.val = 0 then P0 (ix2 0 k) else if a.val = 1 then P1 (ix2 0 k) else if a.val = 2 then P2 (ix2 0 k) else v.read (Elt Ideal) (v.writes (Elt Ideal) f L) (ix2 a k) := by
  by_cases h2 : a.val = 2
  · rw [if_neg (by omega), if_neg (by omega), if_pos h2]
    exact View.read_writes_cons_rows_of_mem (o := 2) v _ _ _ _ _ _ rfl (by show a.val = 2 + 0; omega) rfl
  refine (View.read_writes_cons_rows_of_not_mem (o := 2) (W := 1) v _ _ _ _ _ rfl rfl (by show a.val < 2 ∨ 2 + 1 ≤ a.val; omega)).trans ?_
  by_cases h1 : a.val = 1
  · rw [if_neg (by omega), if_pos h1]
    exact View.read_writes_cons_rows_of_mem (o := 1) v _ _ _ _ _ _ rfl (by show a.val = 1 + 0; omega) rfl
  refine (View.read_writes_cons_rows_of_not_mem (o := 1) (W := 1) v _ _ _ _ _ rfl rfl (by show a.val < 1 ∨ 1 + 1 ≤ a.val; omega)).trans ?_
  by_cases h0 : a.val = 0
  · rw [if_pos h0]
    exact View.read_writes_cons_rows_of_mem (o := 0) v _ _ _ _ _ _ rfl (by show a.val = 0 + 0; omega) rfl
  rw [if_neg h0, if_neg h1, if_neg h2]
  exact View.read_writes_cons_rows_of_not_mem (o := 0) (W := 1) v _ _ _ _ _ rfl rfl (by show a.val < 0 ∨ 0 + 1 ≤ a.val; omega)

/-- The gradient of the projection over a tile. -/
def dprs (K : Wts) (T : Fin 256 → Row) (y : S256x4096.Idx) : EReal := (dpr K (T (y 0)) (y 1) : EReal)

theorem dprs_at (K : Wts) (T : Fin 256 → Row) (o : ℕ) (inb) (r : Fin 256) (k : Fin 1024) (a : ℝ) (h : ∀ q : Fin 4096, q.val = o + k.val → dpr K (T r) q = a) :
    (a : EReal) = dprs K T ((Rect.unit (s := S256x4096) ![0, o] ![256, 1024] inb).emb (ix2 r k)) := by
  have e0 : ((Rect.unit (s := S256x4096) ![0, o] ![256, 1024] inb).emb (ix2 r k)) 0 = r := Fin.ext (by show 0 + 1 * r.val = r.val; omega)
  exact (congrArg (fun z : ℝ => (z : EReal)) ((congrArg (fun z => dpr K (T z) (((Rect.unit (s := S256x4096) ![0, o] ![256, 1024] inb).emb (ix2 r k)) 1)) e0).trans
    (h _ (by show o + 1 * k.val = o + k.val; omega)))).symm

/-- What a point leaves of the taps' gradient: the sum so far and the tile's part. -/
theorem taps_at (K : Wts) (T : Fin 256 → Row) (q : Fin 8 → Fin 1024 → ℝ) (a : Fin 8) (k : Fin 1024) (z0 z1 z2 z3 : EReal)
    (e0 : ∀ b : Fin 8, b.val = 0 → z0 = ((q b k + ∑ r, (T r).d2 k * (pc (T r).p k * pu (T r).p k) : ℝ) : EReal))
    (e1 : ∀ b : Fin 8, b.val = 1 → z1 = ((q b k + ∑ r, (T r).d1 k * (pc (T r).p k * pu (T r).p k) : ℝ) : EReal))
    (e2 : ∀ b : Fin 8, b.val = 2 → z2 = ((q b k + ∑ r, dc K.WO (T r).dX (T r).p k * (pc (T r).p k * pu (T r).p k) : ℝ) : EReal)) (e3 : z3 = (q a k : EReal)) :
    (if a.val = 0 then z0 else if a.val = 1 then z1 else if a.val = 2 then z2 else z3) = ((q a k + ∑ r, taps K (T r) a k : ℝ) : EReal) := by
  unfold taps
  by_cases h0 : a.val = 0
  · simp only [if_pos h0]; exact e0 a h0
  simp only [if_neg h0]
  by_cases h1 : a.val = 1
  · simp only [if_pos h1]; exact e1 a h1
  simp only [if_neg h1]
  by_cases h2 : a.val = 2
  · simp only [if_pos h2]; exact e2 a h2
  simp only [if_neg h2, Finset.sum_const_zero, add_zero]
  exact e3

end Cert.ConvOut
end
-- ==== Proof.ConvOutA.lean ====
/- What a grid point of case A leaves in the outputs of the gated convolution's backward call, at real input blocks. -/
module

public import proofs.«01_k».proof.Proof.ConvOut

@[expose] public section

set_option maxRecDepth 16384

noncomputable section

open Idealize.ShloMosaic Idealize.ShloMosaic.TcCoe Idealize.SL.Sem

namespace Cert.ConvOutA

open Cert.ConvIdeal Cert.ConvIdeal.Gen Cert.ConvMath Cert.Reals Cert.ConvPay Cert.ConvOut

variable {m : (ℓ : Loc nD τ sig) → Buf (Elt Ideal) ℓ} {c : Dev nD} {t : Fin cfg0.N} {K : Wts} {T : Fin 256 → Row} (h0 : t.val % 32 = 0) (h1 : t.val % 16 = 0)
  (H : Blk (iblk m c 0 t) (iblk m c 1 t) (iblk m c 2 t) (iblk m c 3 t) (iblk m c 4 t) (iblk m c 5 t) (iblk m c 6 t) (iblk m c 7 t) K T)
  (E : Ends K T fun _ _ => 0)
include h0 h1 H E

theorem dx (r : Fin 256) (k : Fin 1024) : (outsAt0 m c t.val t.isLt).1 (ix2 r k) = (dx K (T r) k : EReal) := by
  rw [outsAt0_A m c t h0 h1]
  dsimp only
  refine (congrFun (View.read_writes_eq_canon _ _ _ (cover0_A_8 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero hz]
  simp only [View.readAt_eq_ld, Memref.IsWhole.read_unread, ld_whole]
  try simp (disch := first | decide | rfl) only [↓View.readCov_skip, ↓View.readCov_fill]
  try simp only [ld_whole]
  exact dx_at H.tile (d1_at (dc_at H.tile) zero8 E (View.whole cc0_scratch1)) (d2_at (dc_at H.tile) zero8 E (View.whole cc0_scratch2)) r k

theorem h (k : Fin 1024) (r : Fin 256) : (outsAt0 m c t.val t.isLt).2.1 (ix2 k r) = ((xh (T r).x k * K.an k : ℝ) : EReal) := by
  rw [outsAt0_A m c t h0 h1]
  dsimp only
  refine (congrFun (View.read_writes_eq_canon _ _ _ (cover0_A_9 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_unit_zero hz]
  simp only [View.readAt_eq_ld, Memref.IsWhole.read_unread, ld_whole]
  try simp (disch := first | decide | rfl) only [↓View.readCov_skip, ↓View.readCov_fill]
  try simp only [ld_whole]
  exact h_at H.tile k r

theorem dpr : (outsAt0 m c t.val t.isLt).2.2.1 = dprs K T := by
  rw [outsAt0_A m c t h0 h1]
  dsimp only
  refine (View.read_writes_eq_canon _ _ _ (cover0_A_10 _ _ _ _ _ _ _ _ _ _ _ _ _ _ _ _ _ _ _ _ _ _ _ _ _ _ _ _ _ _ _ _ _ _ _ _ _ _ _ _ _ _ _ _ _ _)).trans ?_
  refine funext fun y => View.canon_apply_of_pieces _ _ ?_ y (cover0_A_10 _ _ _ _ _ _ _ _ _ _ _ _ _ _ _ _ _ _ _ _ _ _ _ _ _ _ _ _ _ _ _ _ _ _ _ _ _ _ _ _ _ _ _ _ _ _ y)
  unfold kernelRun0_A
  dsimp only
  sl_unfold_words
  refine @View.PiecesOf.mem S256x4096 .bf16 (Elt Ideal) (dprs K T) _ ?_
  simp only [View.readAt_eq_ld, Memref.IsWhole.read_unread, ld_whole]
  try simp (disch := first | decide | rfl) only [↓View.readCov_skip, ↓View.readCov_fill]
  try simp only [ld_whole]
  refine ⟨fun x => ?_, fun x => ?_, fun x => ?_, fun x => ?_, trivial⟩
  all_goals obtain ⟨r, k, rfl⟩ : ∃ (r : Fin 256) (k : Fin 1024), x = ix2 r k := ⟨x 0, x 1, by idx_ext⟩
  · exact (gu_at H.tile (d1_at (dc_at H.tile) zero8 E (View.whole cc0_scratch1)) (d2_at (dc_at H.tile) zero8 E (View.whole cc0_scratch2)) r k).trans (dprs_at K T 2048 inb_S256x4096_S256x1024_0_2048 r k _ fun q h => dpr_u K _ k q h)
  · exact (gc_at H.tile (d1_at (dc_at H.tile) zero8 E (View.whole cc0_scratch1)) (d2_at (dc_at H.tile) zero8 E (View.whole cc0_scratch2)) r k).trans (dprs_at K T 1024 inb_S256x4096_S256x1024_0_1024 r k _ fun q h => dpr_c K _ k q h)
  · exact (gg_at H.tile r k).trans (dprs_at K T 3072 inb_S256x4096_S256x1024_0_3072 r k _ fun q h => dpr_g K _ k q h)
  · exact (gb_at H.tile r k).trans (dprs_at K T 0 inb_S256x4096_S256x1024_0_0 r k _ fun q h => dpr_b K _ k q (by omega))

theorem dw (k j : Fin 1024) : (outsAt0 m c t.val t.isLt).2.2.2.1 (ix2 k j) = ((0 + ∑ r, y (T r) k * (T r).dX j : ℝ) : EReal) := by
  rw [outsAt0_A m c t h0 h1]
  dsimp only
  refine (congrFun (View.read_writes_eq_canon _ _ _ (cover0_A_11 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_cons_unit_zero (S := S1024x1024) hz]
  simp only [View.readAt_eq_ld, Memref.IsWhole.read_unread, ld_whole]
  try simp (disch := first | decide | rfl) only [↓View.readCov_skip, ↓View.readCov_fill]
  try simp only [ld_whole]
  exact dw_at H.tile _ (fun _ _ => 0) (fun _ _ => by unfold_payloads; pointwise; rfl) k j

theorem dan (z : Fin 1) (k : Fin 1024) : (outsAt0 m c t.val t.isLt).2.2.2.2.1 (ix2 z k) = ((0 + ∑ r, dh K (T r) k * xh (T r).x k : ℝ) : EReal) := by
  rw [outsAt0_A m c t h0 h1]
  dsimp only
  refine (congrFun (View.read_writes_eq_canon _ _ _ (cover0_A_12 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_cons_unit_zero (S := S1x1024) hz]
  simp only [View.readAt_eq_ld, Memref.IsWhole.read_unread, ld_whole]
  try simp (disch := first | decide | rfl) only [↓View.readCov_skip, ↓View.readCov_fill]
  try simp only [ld_whole]
  exact dan_at H.tile (d1_at (dc_at H.tile) zero8 E (View.whole cc0_scratch1)) (d2_at (dc_at H.tile) zero8 E (View.whole cc0_scratch2)) _ (fun _ => 0) (fun _ _ => by unfold_payloads; pointwise; rfl) z k

theorem taps (a : Fin 8) (k : Fin 1024) : (outsAt0 m c t.val t.isLt).2.2.2.2.2.1 (ix2 a k) = ((0 + ∑ r, taps K (T r) a k : ℝ) : EReal) := by
  rw [outsAt0_A m c t h0 h1]
  dsimp only
  unfold out0_A_13
  unfold kernelRun0_A
  dsimp only
  sl_unfold_words
  simp only [View.readAt_eq_ld, Memref.IsWhole.read_unread, ld_whole]
  try simp (disch := first | decide | rfl) only [↓View.readCov_skip, ↓View.readCov_fill]
  try simp only [ld_whole]
  refine (rows3 _ _ _ _ _ _ a k).trans ?_
  refine taps_at K T (fun _ _ => 0) a k _ _ _ _ (fun b hb => ?_) (fun b hb => ?_) (fun b hb => ?_) ?_
  · exact cw0_at H.tile (d1_at (dc_at H.tile) zero8 E (View.whole cc0_scratch1)) (d2_at (dc_at H.tile) zero8 E (View.whole cc0_scratch2)) _ (fun _ => 0) (fun z k => by unfold_payloads; pointwise; rfl) 0 k
  · exact cw1_at H.tile (d1_at (dc_at H.tile) zero8 E (View.whole cc0_scratch1)) (d2_at (dc_at H.tile) zero8 E (View.whole cc0_scratch2)) _ (fun _ => 0) (fun z k => by unfold_payloads; pointwise; rfl) 0 k
  · exact cw2_at H.tile _ (fun _ => 0) (fun z k => by unfold_payloads; pointwise; rfl) 0 k
  · exact (View.read_writes_cons_rows_of_mem (o := 0) _ _ _ _ _ _ (ix2 a k) rfl (by show a.val = 0 + a.val; omega) rfl).trans (by unfold_payloads; pointwise; rfl)

theorem next (a : Fin 8) (k : Fin 1024) : (outsAt0 m c t.val t.isLt).2.2.2.2.2.2 (ix2 a k) = (dc K.WO (T ⟨a.val, by omega⟩).dX (T ⟨a.val, by omega⟩).p k : EReal) := by
  rw [outsAt0_A m c t h0 h1]
  dsimp only
  refine (congrFun (View.read_writes_eq_canon _ _ _ (scover0_A_0 _ _ _ _ _ _ _ _ _ _ _ _ _ _ _ _ _ _ _ _ _ _ _ _ _ _ _ _ _ _ _ _ _ _ _ _ _ _ _ _ _ _ _ _ _ _)) _).trans ?_
  unfold kernelRun0_A
  dsimp only
  sl_unfold_words
  rw [View.canon_cons_unit_zero (S := S8x1024) hz]
  simp only [View.readAt_eq_ld, Memref.IsWhole.read_unread, ld_whole]
  try simp (disch := first | decide | rfl) only [↓View.readCov_skip, ↓View.readCov_fill]
  try simp only [ld_whole]
  exact next_at H.tile a k

end Cert.ConvOutA
end
-- ==== Proof.ConvOutB.lean ====
/- What a grid point of case B leaves in the outputs of the gated convolution's backward call, at real input blocks. -/
module

public import proofs.«01_k».proof.Proof.ConvOut

@[expose] public section

set_option maxRecDepth 16384

noncomputable section

open Idealize.ShloMosaic Idealize.ShloMosaic.TcCoe Idealize.SL.Sem

namespace Cert.ConvOutB

open Cert.ConvIdeal Cert.ConvIdeal.Gen Cert.ConvMath Cert.Reals Cert.ConvPay Cert.ConvOut

variable {m : (ℓ : Loc nD τ sig) → Buf (Elt Ideal) ℓ} {c : Dev nD} {t : Fin cfg0.N} {K : Wts} {T : Fin 256 → Row} (h0 : ¬t.val % 32 = 0) (h1 : ¬t.val % 16 = 0)
  (H : Blk (iblk m c 0 t) (iblk m c 1 t) (iblk m c 2 t) (iblk m c 3 t) (iblk m c 4 t) (iblk m c 5 t) (iblk m c 6 t) (iblk m c 7 t) K T)
  {p : Fin 8 → Fin 1024 → ℝ} (hp : ∀ a k, (outsAt0 m c (t.val - 1) (Nat.lt_of_le_of_lt (Nat.sub_le _ _) t.isLt)).2.2.2.2.2.2 (ix2 a k) = (p a k : EReal)) (E : Ends K T p)
include h0 h1 H hp E

theorem dx (r : Fin 256) (k : Fin 1024) : (outsAt0 m c t.val t.isLt).1 (ix2 r k) = (dx K (T r) k : EReal) := by
  rw [outsAt0_B m c t h0 h1]
  dsimp only
  refine (congrFun (View.read_writes_eq_canon _ _ _ (cover0_B_8 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, ld_whole]
  exact dx_at H.tile (d1_at (dc_at H.tile) (fun a k => (congrFun ((Memref.isWhole_whole cc0_scratch0).read_unread _) _).trans (hp a k)) E (View.whole cc0_scratch1)) (d2_at (dc_at H.tile) (fun a k => (congrFun ((Memref.isWhole_whole cc0_scratch0).read_unread _) _).trans (hp a k)) E (View.whole cc0_scratch2)) r k

theorem h (k : Fin 1024) (r : Fin 256) : (outsAt0 m c t.val t.isLt).2.1 (ix2 k r) = ((xh (T r).x k * K.an k : ℝ) : EReal) := by
  rw [outsAt0_B m c t h0 h1]
  dsimp only
  refine (congrFun (View.read_writes_eq_canon _ _ _ (cover0_B_9 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, ld_whole]
  exact h_at H.tile k r

theorem dpr : (outsAt0 m c t.val t.isLt).2.2.1 = dprs K T := by
  rw [outsAt0_B m c t h0 h1]
  dsimp only
  refine (View.read_writes_eq_canon _ _ _ (cover0_B_10 _ _ _ _ _ _ _ _ _ _ _ _ _ _ _ _ _ _ _ _ _ _ _ _ _ _ _ _ _ _ _ _ _ _ _ _ _ _ _ _ _ _ _ _ _ _ _ _ _ _)).trans ?_
  refine funext fun y => View.canon_apply_of_pieces _ _ ?_ y (cover0_B_10 _ _ _ _ _ _ _ _ _ _ _ _ _ _ _ _ _ _ _ _ _ _ _ _ _ _ _ _ _ _ _ _ _ _ _ _ _ _ _ _ _ _ _ _ _ _ _ _ _ _ y)
  unfold kernelRun0_B
  dsimp only
  sl_unfold_words
  refine @View.PiecesOf.mem S256x4096 .bf16 (Elt Ideal) (dprs K T) _ ?_
  simp only [View.readAt_eq_ld, Memref.IsWhole.read_unread, ld_whole]
  refine ⟨fun x => ?_, fun x => ?_, fun x => ?_, fun x => ?_, trivial⟩
  all_goals obtain ⟨r, k, rfl⟩ : ∃ (r : Fin 256) (k : Fin 1024), x = ix2 r k := ⟨x 0, x 1, by idx_ext⟩
  · exact (gu_at H.tile (d1_at (dc_at H.tile) (fun a k => (congrFun ((Memref.isWhole_whole cc0_scratch0).read_unread _) _).trans (hp a k)) E (View.whole cc0_scratch1)) (d2_at (dc_at H.tile) (fun a k => (congrFun ((Memref.isWhole_whole cc0_scratch0).read_unread _) _).trans (hp a k)) E (View.whole cc0_scratch2)) r k).trans (dprs_at K T 2048 inb_S256x4096_S256x1024_0_2048 r k _ fun q h => dpr_u K _ k q h)
  · exact (gc_at H.tile (d1_at (dc_at H.tile) (fun a k => (congrFun ((Memref.isWhole_whole cc0_scratch0).read_unread _) _).trans (hp a k)) E (View.whole cc0_scratch1)) (d2_at (dc_at H.tile) (fun a k => (congrFun ((Memref.isWhole_whole cc0_scratch0).read_unread _) _).trans (hp a k)) E (View.whole cc0_scratch2)) r k).trans (dprs_at K T 1024 inb_S256x4096_S256x1024_0_1024 r k _ fun q h => dpr_c K _ k q h)
  · exact (gg_at H.tile r k).trans (dprs_at K T 3072 inb_S256x4096_S256x1024_0_3072 r k _ fun q h => dpr_g K _ k q h)
  · exact (gb_at H.tile r k).trans (dprs_at K T 0 inb_S256x4096_S256x1024_0_0 r k _ fun q h => dpr_b K _ k q (by omega))

theorem dw (a : Fin 1024 → Fin 1024 → ℝ) (ha : ∀ k j, (outsAt0 m c (t.val - 1) (Nat.lt_of_le_of_lt (Nat.sub_le _ _) t.isLt)).2.2.2.1 (ix2 k j) = (a k j : EReal)) (k j : Fin 1024) : (outsAt0 m c t.val t.isLt).2.2.2.1 (ix2 k j) = ((a k j + ∑ r, y (T r) k * (T r).dX j : ℝ) : EReal) := by
  rw [outsAt0_B m c t h0 h1]
  dsimp only
  refine (congrFun (View.read_writes_eq_canon _ _ _ (cover0_B_11 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, ld_whole]
  exact dw_at H.tile _ a ha k j

theorem dan (a : Fin 1024 → ℝ) (ha : ∀ z k, (outsAt0 m c (t.val - 1) (Nat.lt_of_le_of_lt (Nat.sub_le _ _) t.isLt)).2.2.2.2.1 (ix2 z k) = (a k : EReal)) (z : Fin 1) (k : Fin 1024) : (outsAt0 m c t.val t.isLt).2.2.2.2.1 (ix2 z k) = ((a k + ∑ r, dh K (T r) k * xh (T r).x k : ℝ) : EReal) := by
  rw [outsAt0_B m c t h0 h1]
  dsimp only
  refine (congrFun (View.read_writes_eq_canon _ _ _ (cover0_B_12 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, ld_whole]
  exact dan_at H.tile (d1_at (dc_at H.tile) (fun a k => (congrFun ((Memref.isWhole_whole cc0_scratch0).read_unread _) _).trans (hp a k)) E (View.whole cc0_scratch1)) (d2_at (dc_at H.tile) (fun a k => (congrFun ((Memref.isWhole_whole cc0_scratch0).read_unread _) _).trans (hp a k)) E (View.whole cc0_scratch2)) _ a ha z k

theorem taps (q : Fin 8 → Fin 1024 → ℝ) (hq : ∀ a k, (outsAt0 m c (t.val - 1) (Nat.lt_of_le_of_lt (Nat.sub_le _ _) t.isLt)).2.2.2.2.2.1 (ix2 a k) = (q a k : EReal)) (a : Fin 8) (k : Fin 1024) : (outsAt0 m c t.val t.isLt).2.2.2.2.2.1 (ix2 a k) = ((q a k + ∑ r, taps K (T r) a k : ℝ) : EReal) := by
  rw [outsAt0_B m c t h0 h1]
  dsimp only
  unfold out0_B_13
  unfold kernelRun0_B
  dsimp only
  sl_unfold_words
  simp only [View.readAt_eq_ld, Memref.IsWhole.read_unread, ld_whole]
  refine (rows3 _ _ _ _ _ _ a k).trans ?_
  refine taps_at K T q a k _ _ _ _ (fun b hb => ?_) (fun b hb => ?_) (fun b hb => ?_) ?_
  · exact cw0_at H.tile (d1_at (dc_at H.tile) (fun a k => (congrFun ((Memref.isWhole_whole cc0_scratch0).read_unread _) _).trans (hp a k)) E (View.whole cc0_scratch1)) (d2_at (dc_at H.tile) (fun a k => (congrFun ((Memref.isWhole_whole cc0_scratch0).read_unread _) _).trans (hp a k)) E (View.whole cc0_scratch2)) _ (q b) (fun z k => (row_ld _ 0 _ b hb z k).trans (hq b k)) 0 k
  · exact cw1_at H.tile (d1_at (dc_at H.tile) (fun a k => (congrFun ((Memref.isWhole_whole cc0_scratch0).read_unread _) _).trans (hp a k)) E (View.whole cc0_scratch1)) (d2_at (dc_at H.tile) (fun a k => (congrFun ((Memref.isWhole_whole cc0_scratch0).read_unread _) _).trans (hp a k)) E (View.whole cc0_scratch2)) _ (q b) (fun z k => (row_ld _ 1 _ b hb z k).trans (hq b k)) 0 k
  · exact cw2_at H.tile _ (q b) (fun z k => (row_ld _ 2 _ b hb z k).trans (hq b k)) 0 k
  · exact (congrFun ((hs0_13 t).read_unread _) _).trans (hq a k)

theorem next (a : Fin 8) (k : Fin 1024) : (outsAt0 m c t.val t.isLt).2.2.2.2.2.2 (ix2 a k) = (dc K.WO (T ⟨a.val, by omega⟩).dX (T ⟨a.val, by omega⟩).p k : EReal) := by
  rw [outsAt0_B m c t h0 h1]
  dsimp only
  refine (congrFun (View.read_writes_eq_canon _ _ _ (scover0_B_0 _ _ _ _ _ _ _ _ _ _ _ _ _ _ _ _ _ _ _ _ _ _ _ _ _ _ _ _ _ _ _ _ _ _ _ _ _ _ _ _ _ _ _ _ _ _ _ _ _ _)) _).trans ?_
  unfold kernelRun0_B
  dsimp only
  sl_unfold_words
  rw [View.canon_unit_zero hz]
  simp only [View.readAt_eq_ld, Memref.IsWhole.read_unread, ld_whole]
  exact next_at H.tile a k

end Cert.ConvOutB
end
-- ==== Proof.ConvOutC.lean ====
/- What a grid point of case C leaves in the outputs of the gated convolution's backward call, at real input blocks. -/
module

public import proofs.«01_k».proof.Proof.ConvOut

@[expose] public section

set_option maxRecDepth 16384

noncomputable section

open Idealize.ShloMosaic Idealize.ShloMosaic.TcCoe Idealize.SL.Sem

namespace Cert.ConvOutC

open Cert.ConvIdeal Cert.ConvIdeal.Gen Cert.ConvMath Cert.Reals Cert.ConvPay Cert.ConvOut

variable {m : (ℓ : Loc nD τ sig) → Buf (Elt Ideal) ℓ} {c : Dev nD} {t : Fin cfg0.N} {K : Wts} {T : Fin 256 → Row} (h0 : ¬t.val % 32 = 0) (h1 : t.val % 16 = 0)
  (H : Blk (iblk m c 0 t) (iblk m c 1 t) (iblk m c 2 t) (iblk m c 3 t) (iblk m c 4 t) (iblk m c 5 t) (iblk m c 6 t) (iblk m c 7 t) K T)
  (E : Ends K T fun _ _ => 0)
include h0 h1 H E

theorem dx (r : Fin 256) (k : Fin 1024) : (outsAt0 m c t.val t.isLt).1 (ix2 r k) = (dx K (T r) k : EReal) := by
  rw [outsAt0_C m c t h0 h1]
  dsimp only
  refine (congrFun (View.read_writes_eq_canon _ _ _ (cover0_C_8 _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero hz]
  simp only [View.readAt_eq_ld, Memref.IsWhole.read_unread, ld_whole]
  try simp (disch := first | decide | rfl) only [↓View.readCov_skip, ↓View.readCov_fill]
  try simp only [ld_whole]
  exact dx_at H.tile (d1_at (dc_at H.tile) zero8 E (View.whole cc0_scratch1)) (d2_at (dc_at H.tile) zero8 E (View.whole cc0_scratch2)) r k

theorem h (k : Fin 1024) (r : Fin 256) : (outsAt0 m c t.val t.isLt).2.1 (ix2 k r) = ((xh (T r).x k * K.an k : ℝ) : EReal) := by
  rw [outsAt0_C m c t h0 h1]
  dsimp only
  refine (congrFun (View.read_writes_eq_canon _ _ _ (cover0_C_9 _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero hz]
  simp only [View.readAt_eq_ld, Memref.IsWhole.read_unread, ld_whole]
  try simp (disch := first | decide | rfl) only [↓View.readCov_skip, ↓View.readCov_fill]
  try simp only [ld_whole]
  exact h_at H.tile k r

theorem dpr : (outsAt0 m c t.val t.isLt).2.2.1 = dprs K T := by
  rw [outsAt0_C m c t h0 h1]
  dsimp only
  refine (View.read_writes_eq_canon _ _ _ (cover0_C_10 _ _ _ _ _ _ _ _ _ _ _ _ _ _ _ _ _ _ _ _ _ _ _ _ _ _ _ _ _ _ _ _ _ _ _ _ _ _ _ _ _ _ _ _ _ _ _ _ _)).trans ?_
  refine funext fun y => View.canon_apply_of_pieces _ _ ?_ y (cover0_C_10 _ _ _ _ _ _ _ _ _ _ _ _ _ _ _ _ _ _ _ _ _ _ _ _ _ _ _ _ _ _ _ _ _ _ _ _ _ _ _ _ _ _ _ _ _ _ _ _ _ y)
  unfold kernelRun0_C
  dsimp only
  sl_unfold_words
  refine @View.PiecesOf.mem S256x4096 .bf16 (Elt Ideal) (dprs K T) _ ?_
  simp only [View.readAt_eq_ld, Memref.IsWhole.read_unread, ld_whole]
  try simp (disch := first | decide | rfl) only [↓View.readCov_skip, ↓View.readCov_fill]
  try simp only [ld_whole]
  refine ⟨fun x => ?_, fun x => ?_, fun x => ?_, fun x => ?_, trivial⟩
  all_goals obtain ⟨r, k, rfl⟩ : ∃ (r : Fin 256) (k : Fin 1024), x = ix2 r k := ⟨x 0, x 1, by idx_ext⟩
  · exact (gu_at H.tile (d1_at (dc_at H.tile) zero8 E (View.whole cc0_scratch1)) (d2_at (dc_at H.tile) zero8 E (View.whole cc0_scratch2)) r k).trans (dprs_at K T 2048 inb_S256x4096_S256x1024_0_2048 r k _ fun q h => dpr_u K _ k q h)
  · exact (gc_at H.tile (d1_at (dc_at H.tile) zero8 E (View.whole cc0_scratch1)) (d2_at (dc_at H.tile) zero8 E (View.whole cc0_scratch2)) r k).trans (dprs_at K T 1024 inb_S256x4096_S256x1024_0_1024 r k _ fun q h => dpr_c K _ k q h)
  · exact (gg_at H.tile r k).trans (dprs_at K T 3072 inb_S256x4096_S256x1024_0_3072 r k _ fun q h => dpr_g K _ k q h)
  · exact (gb_at H.tile r k).trans (dprs_at K T 0 inb_S256x4096_S256x1024_0_0 r k _ fun q h => dpr_b K _ k q (by omega))

theorem dw (a : Fin 1024 → Fin 1024 → ℝ) (ha : ∀ k j, (outsAt0 m c (t.val - 1) (Nat.lt_of_le_of_lt (Nat.sub_le _ _) t.isLt)).2.2.2.1 (ix2 k j) = (a k j : EReal)) (k j : Fin 1024) : (outsAt0 m c t.val t.isLt).2.2.2.1 (ix2 k j) = ((a k j + ∑ r, y (T r) k * (T r).dX j : ℝ) : EReal) := by
  rw [outsAt0_C m c t h0 h1]
  dsimp only
  refine (congrFun (View.read_writes_eq_canon _ _ _ (cover0_C_11 _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero hz]
  simp only [View.readAt_eq_ld, Memref.IsWhole.read_unread, ld_whole]
  try simp (disch := first | decide | rfl) only [↓View.readCov_skip, ↓View.readCov_fill]
  try simp only [ld_whole]
  exact dw_at H.tile _ a ha k j

theorem dan (a : Fin 1024 → ℝ) (ha : ∀ z k, (outsAt0 m c (t.val - 1) (Nat.lt_of_le_of_lt (Nat.sub_le _ _) t.isLt)).2.2.2.2.1 (ix2 z k) = (a k : EReal)) (z : Fin 1) (k : Fin 1024) : (outsAt0 m c t.val t.isLt).2.2.2.2.1 (ix2 z k) = ((a k + ∑ r, dh K (T r) k * xh (T r).x k : ℝ) : EReal) := by
  rw [outsAt0_C m c t h0 h1]
  dsimp only
  refine (congrFun (View.read_writes_eq_canon _ _ _ (cover0_C_12 _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_unit_zero hz]
  simp only [View.readAt_eq_ld, Memref.IsWhole.read_unread, ld_whole]
  try simp (disch := first | decide | rfl) only [↓View.readCov_skip, ↓View.readCov_fill]
  try simp only [ld_whole]
  exact dan_at H.tile (d1_at (dc_at H.tile) zero8 E (View.whole cc0_scratch1)) (d2_at (dc_at H.tile) zero8 E (View.whole cc0_scratch2)) _ a ha z k

theorem taps (q : Fin 8 → Fin 1024 → ℝ) (hq : ∀ a k, (outsAt0 m c (t.val - 1) (Nat.lt_of_le_of_lt (Nat.sub_le _ _) t.isLt)).2.2.2.2.2.1 (ix2 a k) = (q a k : EReal)) (a : Fin 8) (k : Fin 1024) : (outsAt0 m c t.val t.isLt).2.2.2.2.2.1 (ix2 a k) = ((q a k + ∑ r, taps K (T r) a k : ℝ) : EReal) := by
  rw [outsAt0_C m c t h0 h1]
  dsimp only
  unfold out0_C_13
  unfold kernelRun0_C
  dsimp only
  sl_unfold_words
  simp only [View.readAt_eq_ld, Memref.IsWhole.read_unread, ld_whole]
  try simp (disch := first | decide | rfl) only [↓View.readCov_skip, ↓View.readCov_fill]
  try simp only [ld_whole]
  refine (rows3 _ _ _ _ _ _ a k).trans ?_
  refine taps_at K T q a k _ _ _ _ (fun b hb => ?_) (fun b hb => ?_) (fun b hb => ?_) ?_
  · exact cw0_at H.tile (d1_at (dc_at H.tile) zero8 E (View.whole cc0_scratch1)) (d2_at (dc_at H.tile) zero8 E (View.whole cc0_scratch2)) _ (q b) (fun z k => (row_ld _ 0 _ b hb z k).trans (hq b k)) 0 k
  · exact cw1_at H.tile (d1_at (dc_at H.tile) zero8 E (View.whole cc0_scratch1)) (d2_at (dc_at H.tile) zero8 E (View.whole cc0_scratch2)) _ (q b) (fun z k => (row_ld _ 1 _ b hb z k).trans (hq b k)) 0 k
  · exact cw2_at H.tile _ (q b) (fun z k => (row_ld _ 2 _ b hb z k).trans (hq b k)) 0 k
  · exact (congrFun ((hs0_13 t).read_unread _) _).trans (hq a k)

theorem next (a : Fin 8) (k : Fin 1024) : (outsAt0 m c t.val t.isLt).2.2.2.2.2.2 (ix2 a k) = (dc K.WO (T ⟨a.val, by omega⟩).dX (T ⟨a.val, by omega⟩).p k : EReal) := by
  rw [outsAt0_C m c t h0 h1]
  dsimp only
  refine (congrFun (View.read_writes_eq_canon _ _ _ (scover0_C_0 _ _ _ _ _ _ _ _ _ _ _ _ _ _ _ _ _ _ _ _ _ _ _ _ _ _ _ _ _ _ _ _ _ _ _ _ _ _ _ _ _ _ _ _ _ _ _ _ _)) _).trans ?_
  unfold kernelRun0_C
  dsimp only
  sl_unfold_words
  rw [View.canon_cons_unit_zero (S := S8x1024) hz]
  simp only [View.readAt_eq_ld, Memref.IsWhole.read_unread, ld_whole]
  try simp (disch := first | decide | rfl) only [↓View.readCov_skip, ↓View.readCov_fill]
  try simp only [ld_whole]
  exact next_at H.tile a k

end Cert.ConvOutC
end
-- ==== Proof.ConvSeq.lean ====
/- The rows of the backward pass of the short gated convolution: what the forward pass saved of each token, and the neighbours a
   token sees in its sequence of 4096. -/
module

public import proofs.«01_k».proof.Proof.ConvMath

@[expose] public section

noncomputable section

namespace Cert.ConvSeq

open Cert.ConvMath

/-- The value `d` tokens earlier in the sequence, zero before its start. -/
def back (f : Fin 8192 → ℝ) (d : ℕ) (n : Fin 8192) : ℝ := if d ≤ n.val % 4096 then f ⟨n.val - d, by omega⟩ else 0
/-- The value `d` tokens later in the sequence, zero past its end. -/
def fwd (f : Fin 8192 → ℝ) (d : ℕ) (n : Fin 8192) : ℝ := if h : n.val % 4096 + d < 4096 then f ⟨n.val + d, by omega⟩ else 0

/-- A product with earlier values, summed over all tokens, is the product with later ones. -/
theorem sum_back (f g : Fin 8192 → ℝ) (d : ℕ) : ∑ n, f n * back g d n = ∑ n, fwd f d n * g n := by
  have e1 : ∑ n, f n * back g d n = ∑ n ∈ Finset.univ.filter (fun n : Fin 8192 => d ≤ n.val % 4096), f n * g ⟨n.val - d, by omega⟩ := by
    rw [Finset.sum_filter]
    exact Finset.sum_congr rfl fun n _ => by unfold back; split_ifs <;> simp
  have e2 : ∑ n, fwd f d n * g n = ∑ n ∈ Finset.univ.filter (fun n : Fin 8192 => n.val % 4096 + d < 4096), f ⟨(n.val + d) % 8192, Nat.mod_lt _ (by norm_num)⟩ * g n := by
    rw [Finset.sum_filter]
    refine Finset.sum_congr rfl fun n _ => ?_
    unfold fwd
    split_ifs with h
    · exact congrArg (fun z => f z * g n) (Fin.ext (Nat.mod_eq_of_lt (by omega)).symm)
    · simp
  rw [e1, e2]
  refine Finset.sum_bij' (fun n _ => ⟨n.val - d, by omega⟩) (fun n _ => ⟨(n.val + d) % 8192, Nat.mod_lt _ (by norm_num)⟩) ?_ ?_ ?_ ?_ ?_
  · intro n h; simp only [Finset.mem_filter, Finset.mem_univ, true_and] at h ⊢; omega
  · intro n h; simp only [Finset.mem_filter, Finset.mem_univ, true_and] at h ⊢; omega
  · intro n h; simp only [Finset.mem_filter, Finset.mem_univ, true_and] at h; apply Fin.ext; show (n.val - d + d) % 8192 = n.val; omega
  · intro n h; simp only [Finset.mem_filter, Finset.mem_univ, true_and] at h; apply Fin.ext; show (n.val + d) % 8192 - d = n.val; omega
  · intro n h
    simp only [Finset.mem_filter, Finset.mem_univ, true_and] at h
    have e : n = (⟨(n.val - d + d) % 8192, Nat.mod_lt _ (by norm_num)⟩ : Fin 8192) := Fin.ext (by show n.val = (n.val - d + d) % 8192; omega)
    exact congrArg (fun z => f z * g ⟨n.val - d, by omega⟩) e

variable (K : Wts) (x dX : Fin 8192 → Fin 1024 → ℝ)

/-- The projection of the normalised stream. -/
def proj (n : Fin 8192) (q : Fin 4096) : ℝ := ∑ j, xh (x n) j * K.an j * K.W j q
/-- The convolution's input. -/
def vv (n : Fin 8192) (k : Fin 1024) : ℝ := pc (proj K x n) k * pu (proj K x n) k
/-- The convolution. -/
def conv (n : Fin 8192) (k : Fin 1024) : ℝ :=
  K.cw 0 k * back (fun n => vv K x n k) 2 n + K.cw 1 k * back (fun n => vv K x n k) 1 n + K.cw 2 k * vv K x n k
/-- The gradient of the convolution. -/
def dcg (n : Fin 8192) (k : Fin 1024) : ℝ := dc K.WO (dX n) (proj K x n) k
/-- All that belongs to token `n`. -/
def R (n : Fin 8192) : Row :=
  ⟨dX n, x n, proj K x n, conv K x n, fun k => fwd (fun n => dcg K x dX n k) 1 n, fun k => fwd (fun n => dcg K x dX n k) 2 n⟩

end Cert.ConvSeq
end
-- ==== Proof.ConvRefVal.lean ====
/- The reference of the gated convolution's backward call, read at an index as real numbers. -/
module

public import proofs.«01_k».proof.Proof.ConvSeq
public import proofs.«01_k».proof.Proof.TailKernel
public import proofs.«01_k».proof.Proof.Gen.ConvRefIdeal.Read

@[expose] public section

set_option maxRecDepth 8000

noncomputable section

open Idealize.ShloMosaic Cert.Reals Cert.ConvMath Cert.ConvSeq Cert.Sums
open Cert.ConvRefIdeal Cert.ConvRefIdeal.Read
open Cert.TailKernel (row row_div)
open Cert.TailMath (sig exp_pos')

namespace Cert.ConvRefVal

variable (x0 x5 : S2x4096x1024.Idx → EReal) (x1 : S1024.Idx → EReal) (x2 : S1024x4096.Idx → EReal) (x3 : S3x1024.Idx → EReal) (x4 : S1024x1024.Idx → EReal)
variable (K : Wts) (x dX : Fin 8192 → Fin 1024 → ℝ)

/-- The reference's arguments as real numbers. -/
structure RArgs : Prop where
  h0 : ∀ b s k, x0 (ix3 b s k) = (x (row b s) k : EReal)
  h1 : ∀ k, x1 (ix1 k) = (K.an k : EReal)
  h2 : ∀ k q, x2 (ix2 k q) = (K.W k q : EReal)
  h3 : ∀ a k, x3 (ix2 a k) = (K.cw a k : EReal)
  h4 : ∀ k j, x4 (ix2 k j) = (K.WO k j : EReal)
  h5 : ∀ b s k, x5 (ix3 b s k) = (dX (row b s) k : EReal)

/-- A real number on one side of a bound, another on the other. -/
theorem coe_dite (p : Prop) [Decidable p] (a : p → ℝ) (b : ¬p → ℝ) : (if h : p then (a h : EReal) else (b h : EReal)) = ((if h : p then a h else b h : ℝ) : EReal) := by
  split <;> rfl

/-- The rows sequence by sequence are all rows. -/
theorem sum_rows (f : Fin 8192 → ℝ) : ∑ b : Fin 2, ∑ s : Fin 4096, f (row b s) = ∑ n, f n := by
  rw [← Cert.TailKernel.sum_tile, Sums.sum_pairs 8 1024 8192 rfl f Cert.TailKernel.trow fun q r h => by show (1024 * q + r.val) % 8192 = _; omega]

variable {x0 x5 x1 x2 x3 x4 K x dX} (A : RArgs x0 x5 x1 x2 x3 x4 K x dX)
include A

theorem ms_at (b s z) : val_main_v6 (F := Ideal) x0 (ix3 b s z) = (ms (x (row b s)) : EReal) := by
  unfold val_main_v6 val_main_v5 val_main_cst_1 val_main_v4 val_main_v3 val_main_cst_0 val_main_v2 val_main_v1 val_main_cst val_main_v0
  pointwise [A.h0, coe_mul', coe_sum, coe_add', lit_1024, lit_eps, div_coe_coe _ _ (show (1024:ℝ) ≠ 0 by norm_num)]
  rfl
theorem rr_at (b s z) : val_main_v7 (F := Ideal) x0 (ix3 b s z) = (rr (x (row b s)) : EReal) := by
  unfold val_main_v7
  pointwise [ms_at A, rsqrt_pos _ (ms_pos _)]
  rfl
theorem v10_at (b s z) : val_main_v10 (F := Ideal) x0 (ix3 b s z) = ((-(1/2) * (rr (x (row b s)) / ms (x (row b s))) : ℝ) : EReal) := by
  unfold val_main_v10 val_main_v9 val_main_cst_2 val_main_v8
  pointwise [ms_at A, rr_at A, lit_neg_half, coe_mul', div_coe_coe _ _ (ms_pos _).ne']
  try rfl
theorem xh_at (b s k) : val_main_v12 (F := Ideal) x0 (ix3 b s k) = (xh (x (row b s)) k : EReal) := by
  unfold val_main_v12 val_main_v11
  pointwise [A.h0, rr_at A, coe_mul']
  rfl
theorem proj_at (b s q) : val_main_v16 (F := Ideal) x0 x1 x2 (ix3 b s q) = (proj K x (row b s) q : EReal) := by
  unfold val_main_v16 val_main_v15 val_main_v14 val_main_v13
  pointwise [xh_at A, A.h1, A.h2, coe_mul', coe_sum]
  rfl
theorem b_at (b s k) : val_main_v17 (F := Ideal) x0 x1 x2 (ix3 b s k) = (pb (proj K x (row b s)) k : EReal) := by
  unfold val_main_v17; pointwise [proj_at A]; rfl
theorem c_at (b s k) : val_main_v18 (F := Ideal) x0 x1 x2 (ix3 b s k) = (pc (proj K x (row b s)) k : EReal) := by
  unfold val_main_v18; pointwise [proj_at A]; rfl
theorem u_at (b s k) : val_main_v19 (F := Ideal) x0 x1 x2 (ix3 b s k) = (pu (proj K x (row b s)) k : EReal) := by
  unfold val_main_v19; pointwise [proj_at A]; rfl
theorem g_at (b s k) : val_main_v20 (F := Ideal) x0 x1 x2 (ix3 b s k) = (pg (proj K x (row b s)) k : EReal) := by
  unfold val_main_v20; pointwise [proj_at A]; rfl
theorem v_at (b s k) : val_main_v21 (F := Ideal) x0 x1 x2 (ix3 b s k) = (vv K x (row b s) k : EReal) := by
  unfold val_main_v21; pointwise [c_at A, u_at A, coe_mul']; rfl
theorem vp_at (b : Fin 2) (s : Fin 4098) (k : Fin 1024) (d : Fin 3) (t : Fin 4096) (h : s.val + d.val = t.val + 2) : val_main_v24 (F := Ideal) x0 x1 x2 (ix3 b s k)
    = (back (fun n => vv K x n k) d.val (row b t) : EReal) := by
  unfold val_main_v24 val_main_v23 val_main_cst_3
  pointwise [v_at A]
  unfold back
  have e : (row b t).val % 4096 = t.val := by show (4096 * b.val + t.val) % 4096 = _; omega
  rw [e]
  by_cases hd : d.val ≤ t.val
  · rw [dif_neg (by omega), if_pos hd]
    have e2 : row b ⟨s.val - 2, by omega⟩ = ⟨(row b t).val - d.val, by omega⟩ := Fin.ext (by show 4096 * b.val + (s.val - 2) = 4096 * b.val + t.val - d.val; omega)
    rw [e2]
  · rw [dif_pos (by omega), if_neg hd]
    rfl
theorem v28_at (b s k) : val_main_v28 (F := Ideal) x0 x1 x2 (ix3 b s k) = (back (fun n => vv K x n k) 2 (row b s) : EReal) := by
  unfold val_main_v28; pointwise; exact vp_at A _ _ _ 2 _ (by show s.val + 2 = s.val + 2; rfl)
theorem v34_at (b s k) : val_main_v34 (F := Ideal) x0 x1 x2 (ix3 b s k) = (back (fun n => vv K x n k) 1 (row b s) : EReal) := by
  unfold val_main_v34; pointwise; exact vp_at A _ _ _ 1 _ (by show 1 + s.val + 1 = s.val + 2; omega)
theorem v41_at (b s k) : val_main_v41 (F := Ideal) x0 x1 x2 (ix3 b s k) = (vv K x (row b s) k : EReal) := by
  unfold val_main_v41; pointwise; refine (vp_at A _ _ _ 0 s (by show 2 + s.val + 0 = s.val + 2; omega)).trans ?_
  simp [back]
theorem conv_at (b s k) : val_main_v45 (F := Ideal) x0 x1 x2 x3 (ix3 b s k) = (conv K x (row b s) k : EReal) := by
  unfold val_main_v45 val_main_v38 val_main_v31 val_main_v30 val_main_v29 val_main_v27 val_main_v26 val_main_v37 val_main_v36 val_main_v35 val_main_v33 val_main_v32
    val_main_v44 val_main_v43 val_main_v42 val_main_v40 val_main_v39
  pointwise [v28_at A, v34_at A, v41_at A, A.h3, coe_mul', coe_add']
  rfl

theorem sig_at (b s k) : val_main_v46_2 (F := Ideal) x0 x1 x2 (ix3 b s k) = (sig (pg (proj K x (row b s)) k) : EReal) := by
  unfold val_main_v46_2 val_main_call0_v4 val_main_call0_cst_0 val_main_call0_v3 val_main_call0_v2 val_main_call0_cst val_main_call0_v1 val_main_call0_v0
  pointwise [g_at A, lit_one, coe_neg', Ideal.exp_coe, coe_add', div_coe_coe _ _ (exp_pos' _)]
  rw [one_div]; rfl
theorem silu_at (b s k) : val_main_v46_0 (F := Ideal) x0 x1 x2 (ix3 b s k) = (silu (pg (proj K x (row b s)) k) : EReal) := by
  unfold val_main_v46_0; pointwise [g_at A, sig_at A, coe_mul']; rfl
theorem ds_at (b s k) : val_main_v46_1 (F := Ideal) x0 x1 x2 (ix3 b s k) = ((sig (pg (proj K x (row b s)) k) * (1 - sig (pg (proj K x (row b s)) k)) : ℝ) : EReal) := by
  unfold val_main_v46_1 val_main_call0_v7 val_main_call0_v6 val_main_call0_cst_1; pointwise [sig_at A, lit_one, coe_sub', coe_mul']
  try rfl
theorem y_at (b s k) : val_main_v48 (F := Ideal) x0 x1 x2 x3 (ix3 b s k) = (y (R K x dX (row b s)) k : EReal) := by
  unfold val_main_v48 val_main_v47; pointwise [silu_at A, b_at A, conv_at A, coe_mul']; rfl
theorem dy_at (b s k) : val_main_v52 (F := Ideal) x4 x5 (ix3 b s k) = (dy K.WO (dX (row b s)) k : EReal) := by
  unfold val_main_v52; pointwise [A.h4, A.h5, coe_mul', coe_sum]; rfl
theorem dc_at (b s k) : val_main_v53 (F := Ideal) x0 x1 x2 x4 x5 (ix3 b s k) = (dcg K x dX (row b s) k : EReal) := by
  unfold val_main_v53 val_main_v47; pointwise [silu_at A, b_at A, dy_at A, coe_mul']
  congr 1; unfold dcg dc; ring
theorem gb_at (b s k) : val_main_v55 (F := Ideal) x0 x1 x2 x3 x4 x5 (ix3 b s k) = (gb K (R K x dX (row b s)) k : EReal) := by
  unfold val_main_v55 val_main_v54; pointwise [silu_at A, conv_at A, dy_at A, coe_mul']
  congr 1; unfold gb; show _ = dy K.WO (dX (row b s)) k * silu (pg (proj K x (row b s)) k) * conv K x (row b s) k; ring
theorem gg_at (b s k) : val_main_v57 (F := Ideal) x0 x1 x2 x3 x4 x5 (ix3 b s k) = (gg K (R K x dX (row b s)) k : EReal) := by
  unfold val_main_v57 val_main_call1_v2 val_main_call1_v1 val_main_call1_v0 val_main_v56 val_main_v54; pointwise [g_at A, sig_at A, ds_at A, b_at A, conv_at A, dy_at A, coe_mul', coe_add']
  congr 1; unfold gg dsilu; show _ = dy K.WO (dX (row b s)) k * pb (proj K x (row b s)) k * conv K x (row b s) k * _
  show _ = _ * (sig (pg (proj K x (row b s)) k) * (1 + pg (proj K x (row b s)) k * (1 - sig (pg (proj K x (row b s)) k))))
  ring
theorem p2_at (b s k) : val_main_v59 (F := Ideal) x0 x1 x2 x3 x4 x5 (ix3 b s k) = ((K.cw 2 k * dcg K x dX (row b s) k : ℝ) : EReal) := by
  unfold val_main_v59 val_main_v58 val_main_v42 val_main_v40 val_main_v39; pointwise [A.h3, dc_at A, coe_mul']; try rfl
theorem p1_at (b s k) : val_main_v68 (F := Ideal) x0 x1 x2 x3 x4 x5 (ix3 b s k) = ((K.cw 1 k * dcg K x dX (row b s) k : ℝ) : EReal) := by
  unfold val_main_v68 val_main_v67 val_main_v35 val_main_v33 val_main_v32; pointwise [A.h3, dc_at A, coe_mul']; try rfl
theorem p0_at (b s k) : val_main_v79 (F := Ideal) x0 x1 x2 x3 x4 x5 (ix3 b s k) = ((K.cw 0 k * dcg K x dX (row b s) k : ℝ) : EReal) := by
  unfold val_main_v79 val_main_v78 val_main_v29 val_main_v27 val_main_v26; pointwise [A.h3, dc_at A, coe_mul']; try rfl
theorem dv_at (b s k) : val_main_v90 (F := Ideal) x0 x1 x2 x3 x4 x5 (ix3 b s k) = (dv K (R K x dX (row b s)) k : EReal) := by
  unfold val_main_v90 val_main_v85 val_main_v84 val_main_v74 val_main_v73 val_main_v64 val_main_cst_7 val_main_cst_11 val_main_cst_15
  pointwise [p0_at A, p1_at A, p2_at A]
  have es : (row b s).val % 4096 = s.val := by show (4096 * b.val + s.val) % 4096 = _; omega
  have e1 : (if h : 1 ≤ 2 + s.val ∧ 2 + s.val - 1 < 4096 then ((K.cw 1 k * dcg K x dX (row b ⟨2 + s.val - 1, h.2⟩) k : ℝ) : EReal) else 0)
      = ((K.cw 1 k * fwd (fun n => dcg K x dX n k) 1 (row b s) : ℝ) : EReal) := by
    unfold fwd
    by_cases hs : s.val + 1 < 4096
    · rw [dif_pos ⟨by omega, by omega⟩, dif_pos (by omega)]
      have e2 : row b ⟨2 + s.val - 1, by omega⟩ = ⟨(row b s).val + 1, by have := (row b s).isLt; show 4096 * b.val + s.val + 1 < 8192; omega⟩ := Fin.ext (by show 4096 * b.val + (2 + s.val - 1) = 4096 * b.val + s.val + 1; omega)
      rw [e2]
    · rw [dif_neg (by omega), dif_neg (by omega), mul_zero]; rfl
  have e0 : (if h : 2 + s.val < 4096 then ((K.cw 0 k * dcg K x dX (row b ⟨2 + s.val, h⟩) k : ℝ) : EReal) else 0)
      = ((K.cw 0 k * fwd (fun n => dcg K x dX n k) 2 (row b s) : ℝ) : EReal) := by
    unfold fwd
    by_cases hs : s.val + 2 < 4096
    · rw [dif_pos (by omega), dif_pos (by omega)]
      have e2 : row b ⟨2 + s.val, by omega⟩ = ⟨(row b s).val + 2, by show 4096 * b.val + s.val + 2 < 8192; omega⟩ := Fin.ext (by show 4096 * b.val + (2 + s.val) = 4096 * b.val + s.val + 2; omega)
      rw [e2]
    · rw [dif_neg (by omega), dif_neg (by omega), mul_zero]; rfl
  rw [e1, e0, coe_add', coe_add']
  congr 1
  unfold dv
  show _ = K.cw 0 k * fwd (fun n => dcg K x dX n k) 2 (row b s) + K.cw 1 k * fwd (fun n => dcg K x dX n k) 1 (row b s) + K.cw 2 k * dcg K x dX (row b s) k
  ring
theorem gu_at (b s k) : val_main_v91 (F := Ideal) x0 x1 x2 x3 x4 x5 (ix3 b s k) = (gu K (R K x dX (row b s)) k : EReal) := by
  unfold val_main_v91; pointwise [c_at A, dv_at A, coe_mul']; congr 1; exact mul_comm _ _
theorem gc_at (b s k) : val_main_v92 (F := Ideal) x0 x1 x2 x3 x4 x5 (ix3 b s k) = (gc K (R K x dX (row b s)) k : EReal) := by
  unfold val_main_v92; pointwise [u_at A, dv_at A, coe_mul']; rfl
theorem dpr_at (b s q) : val_main_v93 (F := Ideal) x0 x1 x2 x3 x4 x5 (ix3 b s q) = (dpr K (R K x dX (row b s)) q : EReal) := by
  unfold val_main_v93
  pointwise [gb_at A, gc_at A, gu_at A, gg_at A]
  by_cases h1 : q.val < 1024
  · rw [dif_pos h1, dpr_b K _ ⟨q.val, h1⟩ q rfl]
  rw [dif_neg h1]
  by_cases h2 : q.val - 1024 < 1024
  · rw [dif_pos h2, dpr_c K _ ⟨q.val - 1024, h2⟩ q (by show q.val = 1024 + (q.val - 1024); omega)]
  rw [dif_neg h2]
  by_cases h3 : q.val - 1024 - 1024 < 1024
  · rw [dif_pos h3, dpr_u K _ ⟨q.val - 1024 - 1024, h3⟩ q (by show q.val = 2048 + (q.val - 1024 - 1024); omega)]
  rw [dif_neg h3, dpr_g K _ ⟨q.val - 1024 - 1024 - 1024, by omega⟩ q (by show q.val = 3072 + (q.val - 1024 - 1024 - 1024); omega)]
theorem dh_at (b s k) : val_main_v94 (F := Ideal) x0 x1 x2 x3 x4 x5 (ix3 b s k) = (dh K (R K x dX (row b s)) k : EReal) := by
  unfold val_main_v94; pointwise [dpr_at A, A.h2, coe_mul', coe_sum]; rfl
theorem dn_at (b s k) : val_main_v99 (F := Ideal) x0 x1 x2 x3 x4 x5 (ix3 b s k) = ((dh K (R K x dX (row b s)) k * K.an k : ℝ) : EReal) := by
  unfold val_main_v99 val_main_v98 val_main_v13; pointwise [dh_at A, A.h1, coe_mul']
  try rfl
theorem m_at (b s) : val_main_v109 (F := Ideal) x0 x1 x2 x3 x4 x5 (ix2 b s)
    = (((∑ l, x (row b s) l * (dh K (R K x dX (row b s)) l * K.an l)) * (-(1/2) * (rr (x (row b s)) / ms (x (row b s)))) / 1024 : ℝ) : EReal) := by
  unfold val_main_v109 val_main_cst_21 val_main_v108 val_main_v107 val_main_cst_20 val_main_v106 val_main_v103 val_main_v102 val_main_cst_19 val_main_v101
  pointwise [A.h0, dn_at A, v10_at A, lit_1024, coe_mul', coe_sum, div_coe_coe _ _ (show (1024:ℝ) ≠ 0 by norm_num)]
  simp only [Finset.univ_unique, Finset.sum_const, Finset.card_singleton, one_smul]
theorem dx_at (b s k) : val_main_v115 (F := Ideal) x0 x1 x2 x3 x4 x5 (ix3 b s k) = (dx K (R K x dX (row b s)) k : EReal) := by
  unfold val_main_v115 val_main_v114 val_main_v113 val_main_v112 val_main_v111 val_main_v110 val_main_v105 val_main_v104
  pointwise [A.h0, A.h5, dn_at A, rr_at A, m_at A, coe_mul', coe_add']
  congr 1
  unfold dx
  rw [rr_cube]
  show _ = dX (row b s) k + rr (x (row b s)) * (dh K (R K x dX (row b s)) k * K.an k - xh (x (row b s)) k * ((∑ l, dh K (R K x dX (row b s)) l * K.an l * xh (x (row b s)) l) / 1024))
  have e : ∑ l, dh K (R K x dX (row b s)) l * K.an l * xh (x (row b s)) l = rr (x (row b s)) * ∑ l, x (row b s) l * (dh K (R K x dX (row b s)) l * K.an l) := by
    rw [Finset.mul_sum]; exact Finset.sum_congr rfl fun l _ => by unfold xh; ring
  rw [e]; unfold xh; ring

theorem ms2_at (b s z) : val_main_v123 (F := Ideal) x0 (ix3 b s z) = (ms (x (row b s)) : EReal) := by
  unfold val_main_v123 val_main_v122 val_main_cst_24 val_main_v121 val_main_v120 val_main_cst_23 val_main_v119 val_main_v118 val_main_cst_22 val_main_v117
  pointwise [A.h0, coe_mul', coe_sum, coe_add', lit_1024, lit_eps, div_coe_coe _ _ (show (1024:ℝ) ≠ 0 by norm_num)]
  rfl
theorem rr2_at (b s z) : val_main_v124 (F := Ideal) x0 (ix3 b s z) = (rr (x (row b s)) : EReal) := by
  unfold val_main_v124
  pointwise [ms2_at A, rsqrt_pos _ (ms_pos _)]
  rfl
theorem h_at (b s k) : val_main_v129 (F := Ideal) x0 x1 (ix3 b s k) = ((xh (x (row b s)) k * K.an k : ℝ) : EReal) := by
  unfold val_main_v129 val_main_v128 val_main_v127 val_main_v126 val_main_v125
  pointwise [A.h0, A.h1, rr2_at A, coe_mul']
  rfl
theorem dw_at (k j) : val_main_v51 (F := Ideal) x0 x1 x2 x3 x5 (ix2 k j) = ((∑ n, y (R K x dX n) k * dX n j : ℝ) : EReal) := by
  unfold val_main_v51 val_main_v50
  pointwise [y_at (dX := dX) A, A.h5, coe_mul', coe_sum]
  rw [← sum_rows]
  congr 1
  exact Finset.sum_congr rfl fun b _ => Finset.sum_congr rfl fun s _ => mul_comm _ _
theorem dan_at (k) : val_main_v100 (F := Ideal) x0 x1 x2 x3 x4 x5 (ix1 k) = ((∑ n, dh K (R K x dX n) k * xh (x n) k : ℝ) : EReal) := by
  unfold val_main_v100 val_main_cst_18 val_main_v97 val_main_v96 val_main_cst_17 val_main_v95
  pointwise [hostReduceAdd_lead, dh_at A, xh_at A, coe_mul', coe_sum]
  rw [← sum_rows]
  simp only [Finset.univ_unique, Finset.sum_const, Finset.card_singleton, one_smul]
  congr 1
  exact Finset.sum_congr rfl fun b _ => Finset.sum_congr rfl fun s _ => mul_comm _ _
theorem cw2_at (k) : val_main_v63 (F := Ideal) x0 x1 x2 x4 x5 (ix1 k) = ((∑ n, dcg K x dX n k * vv K x n k : ℝ) : EReal) := by
  unfold val_main_v63 val_main_cst_6 val_main_v62 val_main_v61 val_main_cst_5 val_main_v60
  pointwise [hostReduceAdd_lead, dc_at A, v41_at A, coe_mul', coe_sum]
  rw [← sum_rows]
  simp only [Finset.univ_unique, Finset.sum_const, Finset.card_singleton, one_smul]
theorem cw1_at (k) : val_main_v72 (F := Ideal) x0 x1 x2 x4 x5 (ix1 k) = ((∑ n, fwd (fun n => dcg K x dX n k) 1 n * vv K x n k : ℝ) : EReal) := by
  unfold val_main_v72 val_main_cst_10 val_main_v71 val_main_v70 val_main_cst_9 val_main_v69
  pointwise [hostReduceAdd_lead, dc_at A, v34_at A, coe_mul', coe_sum]
  rw [← sum_back (fun n => dcg K x dX n k) (fun n => vv K x n k), ← sum_rows]
  simp only [Finset.univ_unique, Finset.sum_const, Finset.card_singleton, one_smul]
theorem cw0_at (k) : val_main_v83 (F := Ideal) x0 x1 x2 x4 x5 (ix1 k) = ((∑ n, fwd (fun n => dcg K x dX n k) 2 n * vv K x n k : ℝ) : EReal) := by
  unfold val_main_v83 val_main_cst_14 val_main_v82 val_main_v81 val_main_cst_13 val_main_v80
  pointwise [hostReduceAdd_lead, dc_at A, v28_at A, coe_mul', coe_sum]
  rw [← sum_back (fun n => dcg K x dX n k) (fun n => vv K x n k), ← sum_rows]
  simp only [Finset.univ_unique, Finset.sum_const, Finset.card_singleton, one_smul]
theorem v136_eq : val_main_v136 (F := Ideal) x0 x1 x2 x4 x5 = fun i => ((∑ n, taps K (R K x dX n) (i 0) (i 1) : ℝ) : EReal) := by
  funext i
  obtain ⟨a, k, rfl⟩ : ∃ (a : Fin 8) (k : Fin 1024), i = ix2 a k := ⟨i 0, i 1, by idx_ext⟩
  unfold val_main_v136 val_main_v88 val_main_v87 val_main_v86 val_main_v77 val_main_v76 val_main_v75 val_main_v66 val_main_v65 val_main_cst_16 val_main_cst_12 val_main_cst_8 val_main_call2_v0 val_main_c
  pointwise [cw2_at A, cw1_at A, cw0_at A]
  by_cases h3 : a.val < 3
  · rw [dif_pos h3]
    obtain h | h | h : a.val = 0 ∨ a.val = 1 ∨ a.val = 2 := by omega
    · rw [dif_neg (by omega), dif_neg (by omega), dif_pos (by omega), zero_add, zero_add]
      refine congrArg _ (Finset.sum_congr rfl fun n _ => ?_)
      unfold taps; rw [if_pos h]; rfl
    · rw [dif_neg (by omega), dif_pos (by omega), dif_neg (by omega), zero_add, add_zero]
      refine congrArg _ (Finset.sum_congr rfl fun n _ => ?_)
      unfold taps; rw [if_neg (by omega), if_pos h]; rfl
    · rw [dif_pos (by omega), dif_neg (by omega), dif_neg (by omega), add_zero, add_zero]
      refine congrArg _ (Finset.sum_congr rfl fun n _ => ?_)
      unfold taps; rw [if_neg (by omega), if_neg (by omega), if_pos h]; rfl
  · rw [dif_neg h3]
    have e : ∑ n, taps K (R K x dX n) a k = 0 := Finset.sum_eq_zero fun n _ => by unfold taps; rw [if_neg (by omega), if_neg (by omega), if_neg (by omega)]
    show (((0#32 : BitVec 32).toInt : ℝ) : EReal) = ((∑ n, taps K (R K x dX n) a k : ℝ) : EReal)
    rw [e]; simp
theorem v116_eq : val_main_v116 (F := Ideal) x0 x1 x2 x3 x4 x5 = fun i => (dx K (R K x dX (i 0)) (i 1) : EReal) := by
  funext i
  obtain ⟨n, j, rfl⟩ : ∃ (n : Fin 8192) (j : Fin 1024), i = ix2 n j := ⟨i 0, i 1, by idx_ext⟩
  unfold val_main_v116
  pointwise [dx_at A, row_div]
theorem v132_eq : val_main_v132 (F := Ideal) x0 x1 = fun i => ((xh (x (i 1)) (i 0) * K.an (i 0) : ℝ) : EReal) := by
  funext i
  obtain ⟨j, n, rfl⟩ : ∃ (j : Fin 1024) (n : Fin 8192), i = ix2 j n := ⟨i 0, i 1, by idx_ext⟩
  unfold val_main_v132 val_main_v131 val_main_v130
  pointwise [h_at A, row_div]
theorem v134_eq : val_main_v134 (F := Ideal) x0 x1 x2 x3 x4 x5 = fun i => (dpr K (R K x dX (i 0)) (i 1) : EReal) := by
  funext i
  obtain ⟨n, j, rfl⟩ : ∃ (n : Fin 8192) (j : Fin 4096), i = ix2 n j := ⟨i 0, i 1, by idx_ext⟩
  unfold val_main_v134 val_main_v133
  pointwise [dpr_at A, row_div]
theorem v51_eq : val_main_v51 (F := Ideal) x0 x1 x2 x3 x5 = fun i => ((∑ n, y (R K x dX n) (i 0) * dX n (i 1) : ℝ) : EReal) := by
  funext i
  obtain ⟨n, j, rfl⟩ : ∃ (n : Fin 1024) (j : Fin 1024), i = ix2 n j := ⟨i 0, i 1, by idx_ext⟩
  exact dw_at A n j
theorem v135_eq : val_main_v135 (F := Ideal) x0 x1 x2 x3 x4 x5 = fun i => ((∑ n, dh K (R K x dX n) (i 1) * xh (x n) (i 1) : ℝ) : EReal) := by
  funext i
  obtain ⟨z, j, rfl⟩ : ∃ (z : Fin 1) (j : Fin 1024), i = ix2 z j := ⟨i 0, i 1, by idx_ext⟩
  unfold val_main_v135
  pointwise [dan_at A]

end Cert.ConvRefVal
end
-- ==== Proof.ConvKernel.lean ====
/- The grid of the gated convolution's backward call at real arguments: which tile a point sees, and what it keeps for the next point. -/
module

public import proofs.«01_k».proof.Proof.ConvOutA
public import proofs.«01_k».proof.Proof.ConvOutB
public import proofs.«01_k».proof.Proof.ConvOutC
public import proofs.«01_k».proof.Proof.ConvRefVal
public import Idealize.ShloMosaic.Lib.Pipeline.ValueKit

@[expose] public section

set_option maxRecDepth 16384

noncomputable section

open Idealize.ShloMosaic Idealize.ShloMosaic.TcCoe Idealize.SL.Sem

namespace Cert.ConvKernel

open Cert.ConvIdeal Cert.ConvIdeal.Gen Cert.ConvMath Cert.Reals Cert.ConvPay Cert.ConvOut Cert.ConvSeq

/-- Row `r` of the tile point `t` sees: each sequence's tiles run from its last to its first. -/
def trow (t : ℕ) (r : Fin 256) : Fin 8192 := ⟨(4096 * (t / 16) + 256 * (15 - t % 16) + r.val) % 8192, Nat.mod_lt _ (by norm_num)⟩

theorem trow_val (t : ℕ) (h : t < 32) (r : Fin 256) : (trow t r).val = 4096 * (t / 16) + 256 * (15 - t % 16) + r.val := Nat.mod_eq_of_lt (by omega)

variable (K : Wts) (x dX : Fin 8192 → Fin 1024 → ℝ)

/-- The rows of the tile. -/
def T (t : ℕ) (r : Fin 256) : Row := R K x dX (trow t r)

theorem fwd_in (f : Fin 8192 → ℝ) (d : ℕ) (n n' : Fin 8192) (h : n.val % 4096 + d < 4096) (e : n'.val = n.val + d) : fwd f d n = f n' := by
  unfold fwd
  rw [dif_pos h]
  exact congrArg f (Fin.ext e.symm)
theorem fwd_out (f : Fin 8192 → ℝ) (d : ℕ) (n : Fin 8192) (h : ¬n.val % 4096 + d < 4096) : fwd f d n = 0 := by
  unfold fwd
  rw [dif_neg h]

theorem ends (t : ℕ) (h : t < 32) (p : Fin 8 → Fin 1024 → ℝ)
    (hp : ∀ a k, p a k = if t % 16 = 0 then 0 else dcg K x dX (trow (t - 1) ⟨a.val, by omega⟩) k) : Ends K (T K x dX t) p where
  one r k := by
    have e := trow_val t h r
    show fwd (fun n => dcg K x dX n k) 1 (trow t r) = _
    by_cases hr : r.val = 255
    · rw [if_pos hr, hp]
      by_cases ht : t % 16 = 0
      · rw [if_pos ht]; exact fwd_out _ _ _ (by omega)
      · rw [if_neg ht]; exact fwd_in _ _ _ _ (by omega) (by rw [trow_val _ (by omega)]; show 4096 * ((t - 1) / 16) + 256 * (15 - (t - 1) % 16) + 0 = _; omega)
    · rw [if_neg hr]
      exact fwd_in _ _ _ _ (by omega) (by rw [trow_val _ h]; show 4096 * (t / 16) + 256 * (15 - t % 16) + (r.val + 1) % 256 = _; omega)
  two r k := by
    have e := trow_val t h r
    show fwd (fun n => dcg K x dX n k) 2 (trow t r) = _
    by_cases hr : 254 ≤ r.val
    · rw [if_pos hr, hp]
      by_cases ht : t % 16 = 0
      · rw [if_pos ht]; exact fwd_out _ _ _ (by omega)
      · rw [if_neg ht]; exact fwd_in _ _ _ _ (by omega) (by rw [trow_val _ (by omega)]; show 4096 * ((t - 1) / 16) + 256 * (15 - (t - 1) % 16) + (r.val + 2) % 8 = _; omega)
    · rw [if_neg hr]
      exact fwd_in _ _ _ _ (by omega) (by rw [trow_val _ h]; show 4096 * (t / 16) + 256 * (15 - t % 16) + (r.val + 2) % 256 = _; omega)

/-- The tiles' rows are all rows. -/
theorem sum_tiles (f : Fin 8192 → ℝ) : ∑ q ∈ Finset.range 32, ∑ r : Fin 256, f (trow q r) = ∑ n, f n := by
  rw [← Sums.sum_pairs 32 256 8192 rfl f (fun q r => ⟨(256 * q + r.val) % 8192, Nat.mod_lt _ (by norm_num)⟩) fun q r h => by show (256 * q + r.val) % 8192 = _; omega]
  refine Finset.sum_bij' (fun q _ => 16 * (q / 16) + (15 - q % 16)) (fun q _ => 16 * (q / 16) + (15 - q % 16)) ?_ ?_ ?_ ?_ ?_
  · intro q h; simp only [Finset.mem_range] at h ⊢; omega
  · intro q h; simp only [Finset.mem_range] at h ⊢; omega
  · intro q h; simp only [Finset.mem_range] at h; show 16 * ((16 * (q / 16) + (15 - q % 16)) / 16) + (15 - (16 * (q / 16) + (15 - q % 16)) % 16) = q; omega
  · intro q h; simp only [Finset.mem_range] at h; show 16 * ((16 * (q / 16) + (15 - q % 16)) / 16) + (15 - (16 * (q / 16) + (15 - q % 16)) % 16) = q; omega
  · intro q h
    simp only [Finset.mem_range] at h
    exact Finset.sum_congr rfl fun r _ => congrArg f (Fin.ext (by rw [trow_val q h]; show _ = (256 * (16 * (q / 16) + (15 - q % 16)) + r.val) % 8192; omega))

/-- Every point's blocks hold the rows of its tile. -/
def Blocks (m : (ℓ : Loc nD τ sig) → Buf (Elt Ideal) ℓ) (c : Dev nD) : Prop := ∀ t : Fin cfg0.N,
  Blk (iblk m c 0 t) (iblk m c 1 t) (iblk m c 2 t) (iblk m c 3 t) (iblk m c 4 t) (iblk m c 5 t) (iblk m c 6 t) (iblk m c 7 t) K (T K x dX t.val)

variable {K x dX} {m : (ℓ : Loc nD τ sig) → Buf (Elt Ideal) ℓ} {c : Dev nD} (H : Blocks K x dX m c)
include H

/-- The gradient of the convolution's first eight rows, kept from a tile to the one before it. -/
theorem kept : ∀ (n : ℕ) (h : n < cfg0.N) (a : Fin 8) (k : Fin 1024), (outsAt0 m c n h).2.2.2.2.2.2 (ix2 a k) = (dcg K x dX (trow n ⟨a.val, by omega⟩) k : EReal) := by
  intro n
  induction n with
  | zero =>
    intro h a k
    exact ConvOutA.next (t := ⟨0, h⟩) rfl rfl (H ⟨0, h⟩) (ends K x dX 0 (by norm_num) _ fun a k => rfl) a k
  | succ n ih =>
    intro h a k
    have h32 : n + 1 < 32 := h
    by_cases h1 : (n + 1) % 16 = 0
    · exact ConvOutC.next (t := ⟨n + 1, h⟩) (by show ¬(n + 1) % 32 = 0; omega) h1 (H ⟨n + 1, h⟩) (ends K x dX (n + 1) h32 _ fun a k => (if_pos h1).symm) a k
    · exact ConvOutB.next (t := ⟨n + 1, h⟩) (by show ¬(n + 1) % 32 = 0; omega) h1 (H ⟨n + 1, h⟩) (fun a k => ih (by omega) a k) (ends K x dX (n + 1) h32 _ fun a k => (if_neg h1).symm) a k

end Cert.ConvKernel
end
-- ==== Proof.ConvFinal.lean ====
/- What the gated convolution's backward kernel leaves in its six result arrays, as real numbers of its real arguments. -/
module

public import proofs.«01_k».proof.Proof.ConvKernel

@[expose] public section

set_option maxRecDepth 16384

noncomputable section

open Idealize.ShloMosaic Idealize.ShloMosaic.TcCoe Idealize.SL.Sem

namespace Cert.ConvFinal

open Cert.ConvIdeal Cert.ConvIdeal.Gen Cert.ConvMath Cert.Reals Cert.ConvPay Cert.ConvOut Cert.ConvSeq Cert.ConvKernel

theorem idx_out : ∀ t : Fin cfg0.N, win0_8.index t = ![16 * (t.val / 16) + (15 - t.val % 16), 0] ∧ win0_9.index t = ![0, 16 * (t.val / 16) + (15 - t.val % 16)]
    ∧ win0_10.index t = ![16 * (t.val / 16) + (15 - t.val % 16), 0] := by decide +kernel

variable {K : Wts} {x dX : Fin 8192 → Fin 1024 → ℝ} {m : (ℓ : Loc nD τ sig) → Buf (Elt Ideal) ℓ} {c : Dev nD} (H : Blocks K x dX m c)

theorem first {t : ℕ} (h : t < 32) (h1 : t % 16 = 0) : Ends K (T K x dX t) fun _ _ => 0 := ends K x dX t h _ fun _ _ => (if_pos h1).symm
theorem later {t : ℕ} (h : t < 32) (h1 : ¬t % 16 = 0) : Ends K (T K x dX t) fun a k => dcg K x dX (trow (t - 1) ⟨a.val, by omega⟩) k := ends K x dX t h _ fun _ _ => (if_neg h1).symm

include H

theorem dx_final : (dats m 0 c).arrAt 8 cfg0.N = fun i => (dx K (R K x dX (i 0)) (i 1) : EReal) := by
  refine (dats m 0 c).arrAt_eq_of_covers 8 _ (by decide +kernel) fun t hf y => ?_
  obtain ⟨i8, i9, i10⟩ := idx_out t
  have ht : t.val < 32 := t.isLt
  obtain ⟨r, k, rfl⟩ : ∃ (r : Fin 256) (k : Fin 1024), y = ix2 r k := ⟨y 0, y 1, by idx_ext⟩
  rw [show ((cfg0.win 8).blk t).view.emb (ix2 r k) = ix2 (trow t.val r) k from by unfold trow; blk_ext [i8]]
  blk_simp
  rw [after0_8]
  by_cases h1 : t.val % 16 = 0
  · by_cases h0 : t.val % 32 = 0
    · exact ConvOutA.dx h0 h1 (H t) (first ht h1) r k
    · exact ConvOutC.dx h0 h1 (H t) (first ht h1) r k
  · exact ConvOutB.dx (by omega) h1 (H t) (fun a k => kept H (t.val - 1) _ a k) (later ht h1) r k

theorem h_final : (dats m 0 c).arrAt 9 cfg0.N = fun i => ((xh (x (i 1)) (i 0) * K.an (i 0) : ℝ) : EReal) := by
  refine (dats m 0 c).arrAt_eq_of_covers 9 _ (by decide +kernel) fun t hf y => ?_
  obtain ⟨i8, i9, i10⟩ := idx_out t
  have ht : t.val < 32 := t.isLt
  obtain ⟨k, r, rfl⟩ : ∃ (k : Fin 1024) (r : Fin 256), y = ix2 k r := ⟨y 0, y 1, by idx_ext⟩
  rw [show ((cfg0.win 9).blk t).view.emb (ix2 k r) = ix2 k (trow t.val r) from by unfold trow; blk_ext [i9]]
  blk_simp
  rw [after0_9]
  by_cases h1 : t.val % 16 = 0
  · by_cases h0 : t.val % 32 = 0
    · exact ConvOutA.h h0 h1 (H t) (first ht h1) k r
    · exact ConvOutC.h h0 h1 (H t) (first ht h1) k r
  · exact ConvOutB.h (by omega) h1 (H t) (fun a k => kept H (t.val - 1) _ a k) (later ht h1) k r

theorem dpr_final : (dats m 0 c).arrAt 10 cfg0.N = fun i => (dpr K (R K x dX (i 0)) (i 1) : EReal) := by
  refine (dats m 0 c).arrAt_eq_of_covers 10 _ (by decide +kernel) fun t hf y => ?_
  obtain ⟨i8, i9, i10⟩ := idx_out t
  have ht : t.val < 32 := t.isLt
  obtain ⟨r, k, rfl⟩ : ∃ (r : Fin 256) (k : Fin 4096), y = ix2 r k := ⟨y 0, y 1, by idx_ext⟩
  rw [show ((cfg0.win 10).blk t).view.emb (ix2 r k) = ix2 (trow t.val r) k from by unfold trow; blk_ext [i10]]
  blk_simp
  rw [after0_10]
  by_cases h1 : t.val % 16 = 0
  · by_cases h0 : t.val % 32 = 0
    · refine (congrFun (ConvOutA.dpr h0 h1 (H t) (first ht h1)) _).trans rfl
    · refine (congrFun (ConvOutC.dpr h0 h1 (H t) (first ht h1)) _).trans rfl
  · refine (congrFun (ConvOutB.dpr (by omega) h1 (H t) (fun a k => kept H (t.val - 1) _ a k) (later ht h1)) _).trans rfl

theorem dw_acc : ∀ (n : ℕ) (h : n < cfg0.N) (k j : Fin 1024), (outsAt0 m c n h).2.2.2.1 (ix2 k j) = ((∑ q ∈ Finset.range (n + 1), ∑ r : Fin 256, y (R K x dX (trow q r)) k * dX (trow q r) j : ℝ) : EReal) := by
  intro n
  induction n with
  | zero =>
    intro h k j
    refine (ConvOutA.dw (t := ⟨0, h⟩) rfl rfl (H ⟨0, h⟩) (first (by norm_num) rfl) k j).trans ?_
    rw [zero_add, Finset.sum_range_one]
    rfl
  | succ n ih =>
    intro h k j
    have ht : n + 1 < 32 := h
    rw [Finset.sum_range_succ _ (n + 1)]
    by_cases h1 : (n + 1) % 16 = 0
    · exact ConvOutC.dw (t := ⟨n + 1, h⟩) (by show ¬(n + 1) % 32 = 0; omega) h1 (H ⟨n + 1, h⟩) (first ht h1) (fun k j => ∑ q ∈ Finset.range (n + 1), ∑ r : Fin 256, y (R K x dX (trow q r)) k * dX (trow q r) j) (fun k j => ih (by omega) k j) k j
    · exact ConvOutB.dw (t := ⟨n + 1, h⟩) (by show ¬(n + 1) % 32 = 0; omega) h1 (H ⟨n + 1, h⟩) (fun a k => kept H n (by omega) a k) (later ht h1) (fun k j => ∑ q ∈ Finset.range (n + 1), ∑ r : Fin 256, y (R K x dX (trow q r)) k * dX (trow q r) j) (fun k j => ih (by omega) k j) k j
theorem dw_final : (dats m 0 c).arrAt 11 cfg0.N = fun i => ((∑ n, y (R K x dX n) (i 0) * dX n (i 1) : ℝ) : EReal) := by
  refine (dats m 0 c).arrAt_eq_of_after_last 11 ⟨31, by decide⟩ (by decide +kernel) _ fun j => ?_
  refine (congrFun (after0_11 (m := m) (c := c) (t := (⟨31, by decide⟩ : Fin cfg0.N))) _).trans ?_
  obtain ⟨a, b, rfl⟩ : ∃ (a : Fin 1024) (b : Fin 1024), j = ix2 a b := ⟨j 0, j 1, by idx_ext⟩
  refine (dw_acc H 31 _ a b).trans ?_
  exact congrArg (fun z : ℝ => (z : EReal)) (sum_tiles fun n => y (R K x dX n) a * dX n b)

theorem dan_acc : ∀ (n : ℕ) (h : n < cfg0.N) (z : Fin 1) (k : Fin 1024), (outsAt0 m c n h).2.2.2.2.1 (ix2 z k) = ((∑ q ∈ Finset.range (n + 1), ∑ r : Fin 256, dh K (R K x dX (trow q r)) k * xh (x (trow q r)) k : ℝ) : EReal) := by
  intro n
  induction n with
  | zero =>
    intro h z k
    refine (ConvOutA.dan (t := ⟨0, h⟩) rfl rfl (H ⟨0, h⟩) (first (by norm_num) rfl) z k).trans ?_
    rw [zero_add, Finset.sum_range_one]
    rfl
  | succ n ih =>
    intro h z k
    have ht : n + 1 < 32 := h
    rw [Finset.sum_range_succ _ (n + 1)]
    by_cases h1 : (n + 1) % 16 = 0
    · exact ConvOutC.dan (t := ⟨n + 1, h⟩) (by show ¬(n + 1) % 32 = 0; omega) h1 (H ⟨n + 1, h⟩) (first ht h1) (fun k => ∑ q ∈ Finset.range (n + 1), ∑ r : Fin 256, dh K (R K x dX (trow q r)) k * xh (x (trow q r)) k) (fun z k => ih (by omega) z k) z k
    · exact ConvOutB.dan (t := ⟨n + 1, h⟩) (by show ¬(n + 1) % 32 = 0; omega) h1 (H ⟨n + 1, h⟩) (fun a k => kept H n (by omega) a k) (later ht h1) (fun k => ∑ q ∈ Finset.range (n + 1), ∑ r : Fin 256, dh K (R K x dX (trow q r)) k * xh (x (trow q r)) k) (fun z k => ih (by omega) z k) z k
theorem dan_final : (dats m 0 c).arrAt 12 cfg0.N = fun i => ((∑ n, dh K (R K x dX n) (i 1) * xh (x n) (i 1) : ℝ) : EReal) := by
  refine (dats m 0 c).arrAt_eq_of_after_last 12 ⟨31, by decide⟩ (by decide +kernel) _ fun j => ?_
  refine (congrFun (after0_12 (m := m) (c := c) (t := (⟨31, by decide⟩ : Fin cfg0.N))) _).trans ?_
  obtain ⟨a, b, rfl⟩ : ∃ (a : Fin 1) (b : Fin 1024), j = ix2 a b := ⟨j 0, j 1, by idx_ext⟩
  refine (dan_acc H 31 _ a b).trans ?_
  exact congrArg (fun z : ℝ => (z : EReal)) (sum_tiles fun n => dh K (R K x dX n) b * xh (x n) b)

theorem taps_acc : ∀ (n : ℕ) (h : n < cfg0.N) (a : Fin 8) (k : Fin 1024), (outsAt0 m c n h).2.2.2.2.2.1 (ix2 a k) = ((∑ q ∈ Finset.range (n + 1), ∑ r : Fin 256, taps K (R K x dX (trow q r)) a k : ℝ) : EReal) := by
  intro n
  induction n with
  | zero =>
    intro h a k
    refine (ConvOutA.taps (t := ⟨0, h⟩) rfl rfl (H ⟨0, h⟩) (first (by norm_num) rfl) a k).trans ?_
    rw [zero_add, Finset.sum_range_one]
    rfl
  | succ n ih =>
    intro h a k
    have ht : n + 1 < 32 := h
    rw [Finset.sum_range_succ _ (n + 1)]
    by_cases h1 : (n + 1) % 16 = 0
    · exact ConvOutC.taps (t := ⟨n + 1, h⟩) (by show ¬(n + 1) % 32 = 0; omega) h1 (H ⟨n + 1, h⟩) (first ht h1) (fun a k => ∑ q ∈ Finset.range (n + 1), ∑ r : Fin 256, taps K (R K x dX (trow q r)) a k) (fun a k => ih (by omega) a k) a k
    · exact ConvOutB.taps (t := ⟨n + 1, h⟩) (by show ¬(n + 1) % 32 = 0; omega) h1 (H ⟨n + 1, h⟩) (fun a k => kept H n (by omega) a k) (later ht h1) (fun a k => ∑ q ∈ Finset.range (n + 1), ∑ r : Fin 256, taps K (R K x dX (trow q r)) a k) (fun a k => ih (by omega) a k) a k
theorem taps_final : (dats m 0 c).arrAt 13 cfg0.N = fun i => ((∑ n, taps K (R K x dX n) (i 0) (i 1) : ℝ) : EReal) := by
  refine (dats m 0 c).arrAt_eq_of_after_last 13 ⟨31, by decide⟩ (by decide +kernel) _ fun j => ?_
  refine (congrFun (after0_13 (m := m) (c := c) (t := (⟨31, by decide⟩ : Fin cfg0.N))) _).trans ?_
  obtain ⟨a, b, rfl⟩ : ∃ (a : Fin 8) (b : Fin 1024), j = ix2 a b := ⟨j 0, j 1, by idx_ext⟩
  refine (taps_acc H 31 _ a b).trans ?_
  exact congrArg (fun z : ℝ => (z : EReal)) (sum_tiles fun n => taps K (R K x dX n) a b)

end Cert.ConvFinal
end
-- ==== Proof.ConvHost.lean ====
/- The blocks the gated convolution's backward kernel reads, at real arguments. -/
module

public import proofs.«01_k».proof.Proof.ConvKernel

@[expose] public section

set_option maxHeartbeats 1000000
set_option maxRecDepth 16384

noncomputable section

open Idealize.ShloMosaic Idealize.ShloMosaic.TcCoe Idealize.SL.Sem

namespace Cert.ConvHost

open Cert.ConvIdeal Cert.ConvIdeal.Gen Cert.ConvMath Cert.Reals Cert.ConvPay Cert.ConvOut Cert.ConvSeq Cert.ConvKernel
open Cert.TailKernel (row row_div)

theorem idx_in : ∀ t : Fin cfg0.N, win0_0.index t = ![16 * (t.val / 16) + (15 - t.val % 16), 0] ∧ win0_1.index t = ![16 * (t.val / 16) + (15 - t.val % 16), 0]
    ∧ win0_2.index t = ![16 * (t.val / 16) + (15 - t.val % 16), 0] ∧ win0_3.index t = ![16 * (t.val / 16) + (15 - t.val % 16), 0]
    ∧ win0_4.index t = ![0, 0] ∧ win0_5.index t = ![0, 0, 0] ∧ win0_6.index t = ![0, 0] ∧ win0_7.index t = ![0, 0] := by decide +kernel

variable {K : Wts} {x dX : Fin 8192 → Fin 1024 → ℝ} {m : (ℓ : Loc nD τ sig) → Buf (Elt Ideal) ℓ} {c : Dev nD}
variable (A : ConvRefVal.RArgs (m ((c : Thread nD τ).loc main_arg0)) (m ((c : Thread nD τ).loc main_arg5)) (m ((c : Thread nD τ).loc main_arg1)) (m ((c : Thread nD τ).loc main_arg2))
  (m ((c : Thread nD τ).loc main_arg3)) (m ((c : Thread nD τ).loc main_arg4)) K x dX)
include A

theorem b0 (t : Fin cfg0.N) (r : Fin 256) (k : Fin 1024) : iblk m c 0 t (ix2 r k) = ((T K x dX t.val r).dX k : EReal) := by
  obtain ⟨i0, i1, i2, i3, i4, i5, i6, i7⟩ := idx_in t
  have ht : t.val < 32 := t.isLt
  blk_simp [iblk, i0]
  entry_read
  rw [show (((View.whole main_v45).slice (win0_0.rect t)).emb (ix2 r k)) = ix2 (trow t.val r) k from by unfold trow; blk_ext [i0]]
  pointwise [A.h5, row_div]
  rfl

theorem b1 (t : Fin cfg0.N) (r : Fin 256) (k : Fin 1024) : iblk m c 1 t (ix2 r k) = ((T K x dX t.val r).x k : EReal) := by
  obtain ⟨i0, i1, i2, i3, i4, i5, i6, i7⟩ := idx_in t
  have ht : t.val < 32 := t.isLt
  blk_simp [iblk, i1]
  entry_read
  rw [show (((View.whole main_v46).slice (win0_1.rect t)).emb (ix2 r k)) = ix2 (trow t.val r) k from by unfold trow; blk_ext [i1]]
  pointwise [A.h0, row_div]
  rfl

theorem b2 (t : Fin cfg0.N) (r : Fin 256) (k : Fin 4096) : iblk m c 2 t (ix2 r k) = ((T K x dX t.val r).p k : EReal) := by
  obtain ⟨i0, i1, i2, i3, i4, i5, i6, i7⟩ := idx_in t
  have ht : t.val < 32 := t.isLt
  blk_simp [iblk, i2]
  entry_read
  rw [show (((View.whole main_v48).slice (win0_2.rect t)).emb (ix2 r k)) = ix2 (trow t.val r) k from by unfold trow; blk_ext [i2]]
  show (shapeCast S8192x4096 (ConvRefIdeal.Read.val_main_v16 (F := Ideal) (m ((c : Thread nD τ).loc main_arg0)) (m ((c : Thread nD τ).loc main_arg1)) (m ((c : Thread nD τ).loc main_arg2))) shapeCasts_S2x4096x4096_S8192x4096) (ix2 (trow t.val r) k) = _
  pointwise [ConvRefVal.proj_at A, row_div]
  rfl

theorem b3 (t : Fin cfg0.N) (r : Fin 256) (k : Fin 1024) : iblk m c 3 t (ix2 r k) = ((T K x dX t.val r).cv k : EReal) := by
  obtain ⟨i0, i1, i2, i3, i4, i5, i6, i7⟩ := idx_in t
  have ht : t.val < 32 := t.isLt
  blk_simp [iblk, i3]
  entry_read
  rw [show (((View.whole main_v49).slice (win0_3.rect t)).emb (ix2 r k)) = ix2 (trow t.val r) k from by unfold trow; blk_ext [i3]]
  show (shapeCast S8192x1024 (ConvRefIdeal.Read.val_main_v45 (F := Ideal) (m ((c : Thread nD τ).loc main_arg0)) (m ((c : Thread nD τ).loc main_arg1)) (m ((c : Thread nD τ).loc main_arg2)) (m ((c : Thread nD τ).loc main_arg3))) shapeCasts_S2x4096x1024_S8192x1024) (ix2 (trow t.val r) k) = _
  pointwise [ConvRefVal.conv_at A, row_div]
  rfl

theorem b4 (t : Fin cfg0.N) (r : Fin 1) (k : Fin 1024) : iblk m c 4 t (ix2 r k) = (K.an k : EReal) := by
  obtain ⟨i0, i1, i2, i3, i4, i5, i6, i7⟩ := idx_in t
  have ht : t.val < 32 := t.isLt
  blk_simp [iblk, i4]
  entry_read
  rw [show (((View.whole main_v50).slice (win0_4.rect t)).emb (ix2 r k)) = ix2 r k from by blk_ext [i4]]
  pointwise [A.h1]

theorem b5 (t : Fin cfg0.N) (s : Fin 8) (k : Fin 1024) (l : Fin 512) : iblk m c 5 t (ix3 s k l) = (K.W k (slab s l) : EReal) := by
  obtain ⟨i0, i1, i2, i3, i4, i5, i6, i7⟩ := idx_in t
  have ht : t.val < 32 := t.isLt
  blk_simp [iblk, i5]
  entry_read
  rw [show (((View.whole main_v44).slice (win0_5.rect t)).emb (ix3 s k l)) = ix3 s k l from by blk_ext [i5]]
  pointwise [A.h2]
  exact congrArg (fun z => ((K.W k z : ℝ) : EReal)) (Fin.ext (by simp only [slab]; omega))

theorem b6 (t : Fin cfg0.N) (r : Fin 3) (k : Fin 1024) : iblk m c 6 t (ix2 r k) = (K.cw r k : EReal) := by
  obtain ⟨i0, i1, i2, i3, i4, i5, i6, i7⟩ := idx_in t
  have ht : t.val < 32 := t.isLt
  blk_simp [iblk, i6]
  entry_read
  rw [show (((View.whole main_arg3).slice (win0_6.rect t)).emb (ix2 r k)) = ix2 r k from by blk_ext [i6]]
  exact A.h3 r k

theorem b7 (t : Fin cfg0.N) (r k : Fin 1024) : iblk m c 7 t (ix2 r k) = (K.WO r k : EReal) := by
  obtain ⟨i0, i1, i2, i3, i4, i5, i6, i7⟩ := idx_in t
  have ht : t.val < 32 := t.isLt
  blk_simp [iblk, i7]
  entry_read
  rw [show (((View.whole main_v51).slice (win0_7.rect t)).emb (ix2 r k)) = ix2 r k from by blk_ext [i7]]
  exact A.h4 r k

theorem blocks : Blocks K x dX m c := fun t => ⟨b0 A t, b1 A t, b2 A t, b3 A t, b4 A t, b5 A t, b6 A t, b7 A t⟩

end Cert.ConvHost
end
-- ==== Proof.ConvClaim.lean ====
/- The claims about the backward call of the short gated convolution, and its reference. -/
module

public import proofs.«01_k».proof.Defs
public import proofs.«01_k».proof.Proof.Gen.Conv.Frame
public import proofs.«01_k».proof.Proof.Gen.ConvIdeal.Value
public import proofs.«01_k».proof.Proof.Gen.ConvRefIdeal.Run
public import proofs.«01_k».proof.Proof.ConvFinal
public import proofs.«01_k».proof.Proof.ConvHost
public import proofs.«01_k».proof.Proof.Finite
public import proofs.«01_k».proof.Proof.TailClaim
public import proofs.«01_k».proof.Proof.Gen.Pre_finite_conv

@[expose] public section

set_option maxRecDepth 8000

noncomputable section

open Idealize.ShloMosaic

namespace Cert.ConvClaim

theorem frame_kernel : Cert.quiescent_Conv := fun m ρ _ => Cert.Conv.Gen.frame m ρ
theorem frame_ideal : Cert.quiescent_ConvIdeal := fun m ρ _ => Cert.ConvIdeal.Gen.frame m ρ
theorem frame_ideal_pre : Cert.quiescent_ConvIdeal_pre_finite_conv := fun m ρ _ => Cert.ConvIdeal.Gen.frame m ρ
theorem frame_reference : Cert.quiescent_ConvRefIdeal := fun m ρ _ =>
  (θ_run Cert.ConvRefIdeal.defs _ _).mono (fun r h => ⟨fun c => (h c).2.2.2.2.2.2, sem_eq_zero_of_no_sems (by decide) r.2⟩) (Cert.ConvRefIdeal.Value.run m ρ)
theorem frame_reference_pre : Cert.quiescent_ConvRefIdeal_pre_finite_conv := fun m ρ _ => frame_reference m ρ trivial
theorem preserves : Cert.preserves_Conv_ConvIdeal := trivial

open Cert.TailClaim (seq pos seq_row pos_row)

/-- The real numbers behind finite arguments. -/
theorem real_args (m : (ℓ : Loc ConvIdeal.nD ConvIdeal.τ ConvIdeal.sig) → Buf (Elt Ideal) ℓ) (h : Cert.Pre_ConvIdeal_finite_conv m) (c : Dev ConvIdeal.nD) :
    ∃ K x dX, ConvRefVal.RArgs (m ((c.tc : Thread _ ConvIdeal.τ).loc ConvIdeal.main_arg0)) (m ((c.tc : Thread _ ConvIdeal.τ).loc ConvIdeal.main_arg5)) (m ((c.tc : Thread _ ConvIdeal.τ).loc ConvIdeal.main_arg1))
      (m ((c.tc : Thread _ ConvIdeal.τ).loc ConvIdeal.main_arg2)) (m ((c.tc : Thread _ ConvIdeal.τ).loc ConvIdeal.main_arg3)) (m ((c.tc : Thread _ ConvIdeal.τ).loc ConvIdeal.main_arg4)) K x dX := by
  have e := congrFun (h c) (Shape.Idx.first (by decide))
  dsimp only [Cert.Pre_finite_conv.fn, Cert.Pre_finite_conv.fn_part1] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  obtain ⟨f0, h0⟩ := Finite.real_of_all _ _ _ _ _ _ e0
  obtain ⟨f1, h1⟩ := Finite.real_of_all _ _ _ _ _ _ e1
  obtain ⟨f2, h2⟩ := Finite.real_of_all _ _ _ _ _ _ e2
  obtain ⟨f3, h3⟩ := Finite.real_of_all _ _ _ _ _ _ e3
  obtain ⟨f4, h4⟩ := Finite.real_of_all _ _ _ _ _ _ e4
  obtain ⟨f5, h5⟩ := Finite.real_of_all _ _ _ _ _ _ e5
  refine ⟨⟨fun k => f1 (ix1 k), fun k q => f2 (ix2 k q), fun a k => f3 (ix2 a k), fun k j => f4 (ix2 k j)⟩, fun n k => f0 (ix3 (seq n) (pos n) k), fun n k => f5 (ix3 (seq n) (pos n) k),
    fun b s k => ?_, fun k => h1 _, fun k q => h2 _, fun a k => h3 _, fun k j => h4 _, fun b s k => ?_⟩
  · rw [seq_row, pos_row]; exact h0 _
  · rw [seq_row, pos_row]; exact h5 _

/-- The kernel's six results are the reference's. -/
theorem algebraic : Cert.algebraic_ConvIdeal_ConvRefIdeal_pre_finite_conv := by
  intro m ρ m' ρ' hp hm
  refine ⟨_, _, _, _, _, _, ?_, Cert.ConvRefIdeal.Value.run m' ρ'⟩
  refine (θ_run Cert.ConvIdeal.defs _ _).mono (fun r h c => ?_) (Cert.ConvIdeal.Value.run_blocks m ρ)
  obtain ⟨r0, r1, r2, r3, r4, r5, rest⟩ := h c
  obtain ⟨K, x, dX, A⟩ := real_args m hp c
  have H := ConvHost.blocks A
  obtain ⟨a0, a1, a2, a3, a4, a5⟩ := hm c
  have B : ConvRefVal.RArgs (m' ((c.tc : Thread _ ConvRefIdeal.τ).loc ConvRefIdeal.main_arg0)) (m' ((c.tc : Thread _ ConvRefIdeal.τ).loc ConvRefIdeal.main_arg5)) (m' ((c.tc : Thread _ ConvRefIdeal.τ).loc ConvRefIdeal.main_arg1))
      (m' ((c.tc : Thread _ ConvRefIdeal.τ).loc ConvRefIdeal.main_arg2)) (m' ((c.tc : Thread _ ConvRefIdeal.τ).loc ConvRefIdeal.main_arg3)) (m' ((c.tc : Thread _ ConvRefIdeal.τ).loc ConvRefIdeal.main_arg4)) K x dX := by
    rw [a0, a1, a2, a3, a4, a5]
    exact A
  exact ⟨r0.trans ((ConvFinal.dx_final H).trans ((ConvRefIdeal.Read.val_main_v116_eq _).trans (ConvRefVal.v116_eq B)).symm),
    r1.trans ((ConvFinal.h_final H).trans ((ConvRefIdeal.Read.val_main_v132_eq _).trans (ConvRefVal.v132_eq B)).symm),
    r2.trans ((ConvFinal.dpr_final H).trans ((ConvRefIdeal.Read.val_main_v134_eq _).trans (ConvRefVal.v134_eq B)).symm),
    r3.trans ((ConvFinal.dw_final H).trans ((ConvRefIdeal.Read.val_main_v51_eq _).trans (ConvRefVal.v51_eq B)).symm),
    r4.trans ((ConvFinal.dan_final H).trans ((ConvRefIdeal.Read.val_main_v135_eq _).trans (ConvRefVal.v135_eq B)).symm),
    r5.trans ((ConvFinal.taps_final H).trans ((ConvRefIdeal.Read.val_main_v136_eq _).trans (ConvRefVal.v136_eq B)).symm), rest⟩

end Cert.ConvClaim

end
-- ==== Proof.LatIdealRun.lean ====
/- The two runs of the latent projections' backward kernel: at the first grid point, where it clears the running sums, and at the others. -/
module

public import proofs.«01_k».proof.Proof.Gen.LatIdeal.Frame.Runs

@[expose] public section

set_option maxRecDepth 16384

noncomputable section

namespace Cert.LatIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref held whole, at some content. -/
def ownE {S : Shape} {e : EltTy} (c : Dev nD) (a : Memref sig .tc .vmem S e) : sProp 𝕄 := iprop(∃ d, owns (c : Thread nD τ) a fullShare d)

/-- A memref held whole, with the pieces `L` written over some content. -/
def ownL {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)

/-- The nineteen operands the body only reads, each at its block. -/
def ins (c : Dev nD) (a1 : Memref sig .tc .vmem S512x1024 .bf16) (a2 : Memref sig .tc .vmem S512x1024 .bf16) (a3 : Memref sig .tc .vmem S512x1024 .bf16) (a4 : Memref sig .tc .vmem S512x512 .bf16) (a5 : Memref sig .tc .vmem S512x384 .f32) (a6 : Memref sig .tc .vmem S512x384 .f32) (a7 : Memref sig .tc .vmem S512x1024 .f32) (a8 : Memref sig .tc .vmem S512x1024 .f32) (a9 : Memref sig .tc .vmem S512x128 .f32) (a10 : Memref sig .tc .vmem S512x128 .f32) (a11 : Memref sig .tc .vmem S8x128 .f32) (a12 : Memref sig .tc .vmem S1x1024 .f32) (a13 : Memref sig .tc .vmem S1024x384 .bf16) (a14 : Memref sig .tc .vmem S1x256 .f32) (a15 : Memref sig .tc .vmem S256x1024 .bf16) (a16 : Memref sig .tc .vmem S1x1024 .f32) (a17 : Memref sig .tc .vmem S1024x896 .bf16) (a18 : Memref sig .tc .vmem S1x384 .f32) (a19 : Memref sig .tc .vmem S384x1024 .bf16) (x0 : Vec F S512x1024 .bf16) (x1 : Vec F S512x1024 .bf16) (x2 : Vec F S512x1024 .bf16) (x3 : Vec F S512x512 .bf16) (x4 : Vec F S512x384 .f32) (x5 : Vec F S512x384 .f32) (x6 : Vec F S512x1024 .f32) (x7 : Vec F S512x1024 .f32) (x8 : Vec F S512x128 .f32) (x9 : Vec F S512x128 .f32) (x10 : Vec F S8x128 .f32) (x11 : Vec F S1x1024 .f32) (x12 : Vec F S1024x384 .bf16) (x13 : Vec F S1x256 .f32) (x14 : Vec F S256x1024 .bf16) (x15 : Vec F S1x1024 .f32) (x16 : Vec F S1024x896 .bf16) (x17 : Vec F S1x384 .f32) (x18 : Vec F S384x1024 .bf16) : sProp 𝕄 :=
  iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare x14 ∗ owns (c : Thread nD τ) a16 fullShare x15 ∗ owns (c : Thread nD τ) a17 fullShare x16 ∗ owns (c : Thread nD τ) a18 fullShare x17 ∗ owns (c : Thread nD τ) a19 fullShare x18)

variable (c : Dev nD) (i : grid0.Coords) {a1 : Memref sig .tc .vmem S512x1024 .bf16} (h1 : a1.IsWhole) {a2 : Memref sig .tc .vmem S512x1024 .bf16} (h2 : a2.IsWhole) {a3 : Memref sig .tc .vmem S512x1024 .bf16} (h3 : a3.IsWhole) {a4 : Memref sig .tc .vmem S512x512 .bf16} (h4 : a4.IsWhole) {a5 : Memref sig .tc .vmem S512x384 .f32} (h5 : a5.IsWhole) {a6 : Memref sig .tc .vmem S512x384 .f32} (h6 : a6.IsWhole) {a7 : Memref sig .tc .vmem S512x1024 .f32} (h7 : a7.IsWhole) {a8 : Memref sig .tc .vmem S512x1024 .f32} (h8 : a8.IsWhole) {a9 : Memref sig .tc .vmem S512x128 .f32} (h9 : a9.IsWhole) {a10 : Memref sig .tc .vmem S512x128 .f32} (h10 : a10.IsWhole) {a11 : Memref sig .tc .vmem S8x128 .f32} (h11 : a11.IsWhole) {a12 : Memref sig .tc .vmem S1x1024 .f32} (h12 : a12.IsWhole) {a13 : Memref sig .tc .vmem S1024x384 .bf16} (h13 : a13.IsWhole) {a14 : Memref sig .tc .vmem S1x256 .f32} (h14 : a14.IsWhole) {a15 : Memref sig .tc .vmem S256x1024 .bf16} (h15 : a15.IsWhole) {a16 : Memref sig .tc .vmem S1x1024 .f32} (h16 : a16.IsWhole) {a17 : Memref sig .tc .vmem S1024x896 .bf16} (h17 : a17.IsWhole) {a18 : Memref sig .tc .vmem S1x384 .f32} (h18 : a18.IsWhole) {a19 : Memref sig .tc .vmem S384x1024 .bf16} (h19 : a19.IsWhole) {a20 : Memref sig .tc .vmem S512x1024 .f32} (h20 : a20.IsWhole) {a21 : Memref sig .tc .vmem S8x384x128 .f32} (h21 : a21.IsWhole) {a22 : Memref sig .tc .vmem S1024x896 .f32} (h22 : a22.IsWhole) {a23 : Memref sig .tc .vmem S8x256x128 .f32} (h23 : a23.IsWhole) {a24 : Memref sig .tc .vmem S1024x384 .f32} (h24 : a24.IsWhole) {a25 : Memref sig .tc .vmem S1x384 .f32} (h25 : a25.IsWhole) {a26 : Memref sig .tc .vmem S1x1024 .f32} (h26 : a26.IsWhole) {a27 : Memref sig .tc .vmem S1x256 .f32} (h27 : a27.IsWhole) {a28 : Memref sig .tc .vmem S1x1024 .f32} (h28 : a28.IsWhole) {a29 : Memref sig .tc .vmem S512x1024 .bf16} (h29 : a29.IsWhole) {a30 : Memref sig .tc .vmem S512x1024 .bf16} (h30 : a30.IsWhole)
  (x0 : Vec F S512x1024 .bf16) (x1 : Vec F S512x1024 .bf16) (x2 : Vec F S512x1024 .bf16) (x3 : Vec F S512x512 .bf16) (x4 : Vec F S512x384 .f32) (x5 : Vec F S512x384 .f32) (x6 : Vec F S512x1024 .f32) (x7 : Vec F S512x1024 .f32) (x8 : Vec F S512x128 .f32) (x9 : Vec F S512x128 .f32) (x10 : Vec F S8x128 .f32) (x11 : Vec F S1x1024 .f32) (x12 : Vec F S1024x384 .bf16) (x13 : Vec F S1x256 .f32) (x14 : Vec F S256x1024 .bf16) (x15 : Vec F S1x1024 .f32) (x16 : Vec F S1024x896 .bf16) (x17 : Vec F S1x384 .f32) (x18 : Vec F S384x1024 .bf16)

set_option maxHeartbeats 8000000 in
/-- The body at the first point: what is left in every buffer it stores into, as written pieces. -/
noncomputable def runA (hc : cond0_0 i) :
    Σ' (L19 : List (View.Piece (Elt F) S512x1024 .f32)), Σ' (L20 : List (View.Piece (Elt F) S8x384x128 .f32)), Σ' (L21 : List (View.Piece (Elt F) S1024x896 .f32)), Σ' (L22 : List (View.Piece (Elt F) S8x256x128 .f32)), Σ' (L23 : List (View.Piece (Elt F) S1024x384 .f32)), Σ' (L24 : List (View.Piece (Elt F) S1x384 .f32)), Σ' (L25 : List (View.Piece (Elt F) S1x1024 .f32)), Σ' (L26 : List (View.Piece (Elt F) S1x256 .f32)), Σ' (L27 : List (View.Piece (Elt F) S1x1024 .f32)), Σ' (T0 : List (View.Piece (Elt F) S512x1024 .bf16)), { T1 : List (View.Piece (Elt F) S512x1024 .bf16) //
      ∀ (E : Set ℕ) (K : PUnit → sProp 𝕄),
        iprop(ins c a1 a2 a3 a4 a5 a6 a7 a8 a9 a10 a11 a12 a13 a14 a15 a16 a17 a18 a19 x0 x1 x2 x3 x4 x5 x6 x7 x8 x9 x10 x11 x12 x13 x14 x15 x16 x17 x18 ∗ ownE c a20 ∗ ownE c a21 ∗ ownE c a22 ∗ ownE c a23 ∗ ownE c a24 ∗ ownE c a25 ∗ ownE c a26 ∗ ownE c a27 ∗ ownE c a28 ∗ ownE c a29 ∗ ownE c a30
            ∗ (iprop(ins c a1 a2 a3 a4 a5 a6 a7 a8 a9 a10 a11 a12 a13 a14 a15 a16 a17 a18 a19 x0 x1 x2 x3 x4 x5 x6 x7 x8 x9 x10 x11 x12 x13 x14 x15 x16 x17 x18 ∗ ownL c a20 L19 ∗ ownL c a21 L20 ∗ ownL c a22 L21 ∗ ownL c a23 L22 ∗ ownL c a24 L23 ∗ ownL c a25 L24 ∗ ownL c a26 L25 ∗ ownL c a27 L26 ∗ ownL c a28 L27 ∗ ownL c a29 T0 ∗ ownL c a30 T1) -∗ K ⟨⟩))
          ⊢ wp frame (wpE (defs₀ (F := F)) Variants.none c none) E (cc0_latent_proj_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30) K } := by
  refine ⟨?_, ?_, ?_, ?_, ?_, ?_, ?_, ?_, ?_, ?_, ?_, fun E K => ?run⟩
  case run =>
    simp only [cc0_latent_proj_bwd_eq_skeleton]; unfold cc0_latent_proj_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold ins ownE ownL owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
    obtain rfl := h1.eq_unread e0
    obtain rfl := h2.eq_unread e1
    obtain rfl := h3.eq_unread e2
    obtain rfl := h4.eq_unread e3
    obtain rfl := h5.eq_unread e4
    obtain rfl := h6.eq_unread e5
    obtain rfl := h7.eq_unread e6
    obtain rfl := h8.eq_unread e7
    obtain rfl := h9.eq_unread e8
    obtain rfl := h10.eq_unread e9
    obtain rfl := h11.eq_unread e10
    obtain rfl := h12.eq_unread e11
    obtain rfl := h13.eq_unread e12
    obtain rfl := h14.eq_unread e13
    obtain rfl := h15.eq_unread e14
    obtain rfl := h16.eq_unread e15
    obtain rfl := h17.eq_unread e16
    obtain rfl := h18.eq_unread e17
    obtain rfl := h19.eq_unread e18
    sl_exec (disch := first | sl_exact hc)
    sl_step
    iapply Hk
    isplitl [H0 H1 H2 H3 H4 H5 H6 H7 H8 H9 H10 H11 H12 H13 H14 H15 H16 H17 H18]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      iexists _; isplitr; · ipureintro; exact h19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact H29

set_option maxHeartbeats 8000000 in
/-- The body at a later point, over the running sums `s`. -/
noncomputable def runB (hc : ¬cond0_0 i) (s20 : Vec F S8x384x128 .f32) (s21 : Vec F S1024x896 .f32) (s22 : Vec F S8x256x128 .f32) (s23 : Vec F S1024x384 .f32) (s24 : Vec F S1x384 .f32) (s25 : Vec F S1x1024 .f32) (s26 : Vec F S1x256 .f32) (s27 : Vec F S1x1024 .f32) :
    Σ' (L19 : List (View.Piece (Elt F) S512x1024 .f32)), Σ' (L20 : List (View.Piece (Elt F) S8x384x128 .f32)), Σ' (L21 : List (View.Piece (Elt F) S1024x896 .f32)), Σ' (L22 : List (View.Piece (Elt F) S8x256x128 .f32)), Σ' (L23 : List (View.Piece (Elt F) S1024x384 .f32)), Σ' (L24 : List (View.Piece (Elt F) S1x384 .f32)), Σ' (L25 : List (View.Piece (Elt F) S1x1024 .f32)), Σ' (L26 : List (View.Piece (Elt F) S1x256 .f32)), Σ' (L27 : List (View.Piece (Elt F) S1x1024 .f32)), Σ' (T0 : List (View.Piece (Elt F) S512x1024 .bf16)), { T1 : List (View.Piece (Elt F) S512x1024 .bf16) //
      ∀ (E : Set ℕ) (K : PUnit → sProp 𝕄),
        iprop(ins c a1 a2 a3 a4 a5 a6 a7 a8 a9 a10 a11 a12 a13 a14 a15 a16 a17 a18 a19 x0 x1 x2 x3 x4 x5 x6 x7 x8 x9 x10 x11 x12 x13 x14 x15 x16 x17 x18 ∗ ownE c a20 ∗ owns (c : Thread nD τ) a21 fullShare s20 ∗ owns (c : Thread nD τ) a22 fullShare s21 ∗ owns (c : Thread nD τ) a23 fullShare s22 ∗ owns (c : Thread nD τ) a24 fullShare s23 ∗ owns (c : Thread nD τ) a25 fullShare s24 ∗ owns (c : Thread nD τ) a26 fullShare s25 ∗ owns (c : Thread nD τ) a27 fullShare s26 ∗ owns (c : Thread nD τ) a28 fullShare s27 ∗ ownE c a29 ∗ ownE c a30
            ∗ (iprop(ins c a1 a2 a3 a4 a5 a6 a7 a8 a9 a10 a11 a12 a13 a14 a15 a16 a17 a18 a19 x0 x1 x2 x3 x4 x5 x6 x7 x8 x9 x10 x11 x12 x13 x14 x15 x16 x17 x18 ∗ ownL c a20 L19 ∗ ownL c a21 L20 ∗ ownL c a22 L21 ∗ ownL c a23 L22 ∗ ownL c a24 L23 ∗ ownL c a25 L24 ∗ ownL c a26 L25 ∗ ownL c a27 L26 ∗ ownL c a28 L27 ∗ ownL c a29 T0 ∗ ownL c a30 T1) -∗ K ⟨⟩))
          ⊢ wp frame (wpE (defs₀ (F := F)) Variants.none c none) E (cc0_latent_proj_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30) K } := by
  refine ⟨?_, ?_, ?_, ?_, ?_, ?_, ?_, ?_, ?_, ?_, ?_, fun E K => ?run⟩
  case run =>
    simp only [cc0_latent_proj_bwd_eq_skeleton]; unfold cc0_latent_proj_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold ins ownE ownL owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨%d19, %f19, -, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%d28, %f28, -, H28⟩, ⟨%d29, %f29, -, H29⟩, Hk⟩
    obtain rfl := h1.eq_unread e0
    obtain rfl := h2.eq_unread e1
    obtain rfl := h3.eq_unread e2
    obtain rfl := h4.eq_unread e3
    obtain rfl := h5.eq_unread e4
    obtain rfl := h6.eq_unread e5
    obtain rfl := h7.eq_unread e6
    obtain rfl := h8.eq_unread e7
    obtain rfl := h9.eq_unread e8
    obtain rfl := h10.eq_unread e9
    obtain rfl := h11.eq_unread e10
    obtain rfl := h12.eq_unread e11
    obtain rfl := h13.eq_unread e12
    obtain rfl := h14.eq_unread e13
    obtain rfl := h15.eq_unread e14
    obtain rfl := h16.eq_unread e15
    obtain rfl := h17.eq_unread e16
    obtain rfl := h18.eq_unread e17
    obtain rfl := h19.eq_unread e18
    obtain rfl := h21.eq_unread e20
    obtain rfl := h22.eq_unread e21
    obtain rfl := h23.eq_unread e22
    obtain rfl := h24.eq_unread e23
    obtain rfl := h25.eq_unread e24
    obtain rfl := h26.eq_unread e25
    obtain rfl := h27.eq_unread e26
    obtain rfl := h28.eq_unread e27
    sl_exec (disch := first | sl_exact hc)
    sl_step
    iapply Hk
    isplitl [H0 H1 H2 H3 H4 H5 H6 H7 H8 H9 H10 H11 H12 H13 H14 H15 H16 H17 H18]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      iexists _; isplitr; · ipureintro; exact h19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact H29

end Cert.LatIdeal.Gen

end
-- ==== Proof.LatIdealFrame.lean ====
/- The frame of the latent projections' backward kernel: what each grid point leaves in the outputs, the sums carried from point to
   point, and the launch. -/
module

public import proofs.«01_k».proof.Proof.LatIdealRun
public import Idealize.ShloMosaic.Lib.Claim

@[expose] public section

set_option maxRecDepth 16384

noncomputable section

namespace Cert.LatIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The eight running sums. -/
structure Acc (F : FTy → Type) [FloatOps F] where
  wuq : Vec F S8x384x128 .f32
  wbin : Vec F S1024x896 .f32
  wukv : Vec F S8x256x128 .f32
  wdkv : Vec F S1024x384 .f32
  qn : Vec F S1x384 .f32
  bn : Vec F S1x1024 .f32
  ckvn : Vec F S1x256 .f32
  kvn : Vec F S1x1024 .f32

/-- The run at the first point, on that point's buffers and blocks. -/
def RA (h : t.val % 16 = 0) :=
  runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) (hs0_23 t) (hs0_24 t) (hs0_25 t) (hs0_26 t) (hs0_27 t) (Memref.isWhole_whole _ : scM0_0.IsWhole) (Memref.isWhole_whole _ : scM0_1.IsWhole) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) ((hcond0_0 t).mpr h)

/-- The run at a later point, over the sums so far. -/
def RB (h : ¬ t.val % 16 = 0) (a : Acc F) :=
  runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) (hs0_23 t) (hs0_24 t) (hs0_25 t) (hs0_26 t) (hs0_27 t) (Memref.isWhole_whole _ : scM0_0.IsWhole) (Memref.isWhole_whole _ : scM0_1.IsWhole) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (fun e => h ((hcond0_0 t).mp e)) a.wuq a.wbin a.wukv a.wdkv a.qn a.bn a.ckvn a.kvn

theorem cA19 (h : t.val % 16 = 0) (y : S512x1024.Idx) : ∃ pc ∈ (RA m c t h).1, y ∈ pc.1.set :=
  View.cover_of_tiledL (RA m c t h).1 S512x1024.size (by sl_kernel_rfl) y

/-- The token gradient after the first point. -/
def oA19 (h : t.val % 16 = 0) : Vec F S512x1024 .f32 :=
  (ms0_19 t).view.read (Elt F) ((ms0_19 t).view.writes (Elt F) (ms0_19 t).view.junk (RA m c t h).1)

theorem cA20 (h : t.val % 16 = 0) (y : S8x384x128.Idx) : ∃ pc ∈ (RA m c t h).2.1, y ∈ pc.1.set :=
  View.cover_of_tiledBy (RA m c t h).2.1 ![1, 384, 128] (by sl_kernel_rfl) y

/-- The query up-projection after the first point. -/
def oA20 (h : t.val % 16 = 0) : Vec F S8x384x128 .f32 :=
  (ms0_20 t).view.read (Elt F) ((ms0_20 t).view.writes (Elt F) (ms0_20 t).view.junk (RA m c t h).2.1)

theorem cA21 (h : t.val % 16 = 0) (y : S1024x896.Idx) : ∃ pc ∈ (RA m c t h).2.2.1, y ∈ pc.1.set :=
  View.cover_of_tiledL (RA m c t h).2.2.1 S1024x896.size (by sl_kernel_rfl) y

/-- The branch projection after the first point. -/
def oA21 (h : t.val % 16 = 0) : Vec F S1024x896 .f32 :=
  (ms0_21 t).view.read (Elt F) ((ms0_21 t).view.writes (Elt F) (ms0_21 t).view.junk (RA m c t h).2.2.1)

theorem cA22 (h : t.val % 16 = 0) (y : S8x256x128.Idx) : ∃ pc ∈ (RA m c t h).2.2.2.1, y ∈ pc.1.set :=
  View.cover_of_tiledBy (RA m c t h).2.2.2.1 ![1, 256, 128] (by sl_kernel_rfl) y

/-- The latent up-projection after the first point. -/
def oA22 (h : t.val % 16 = 0) : Vec F S8x256x128 .f32 :=
  (ms0_22 t).view.read (Elt F) ((ms0_22 t).view.writes (Elt F) (ms0_22 t).view.junk (RA m c t h).2.2.2.1)

theorem cA23 (h : t.val % 16 = 0) (y : S1024x384.Idx) : ∃ pc ∈ (RA m c t h).2.2.2.2.1, y ∈ pc.1.set :=
  View.cover_of_tiledL (RA m c t h).2.2.2.2.1 S1024x384.size (by sl_kernel_rfl) y

/-- The latent down-projection after the first point. -/
def oA23 (h : t.val % 16 = 0) : Vec F S1024x384 .f32 :=
  (ms0_23 t).view.read (Elt F) ((ms0_23 t).view.writes (Elt F) (ms0_23 t).view.junk (RA m c t h).2.2.2.2.1)

theorem cA24 (h : t.val % 16 = 0) (y : S1x384.Idx) : ∃ pc ∈ (RA m c t h).2.2.2.2.2.1, y ∈ pc.1.set :=
  View.cover_of_tiledL (RA m c t h).2.2.2.2.2.1 S1x384.size (by sl_kernel_rfl) y

/-- The query norm after the first point. -/
def oA24 (h : t.val % 16 = 0) : Vec F S1x384 .f32 :=
  (ms0_24 t).view.read (Elt F) ((ms0_24 t).view.writes (Elt F) (ms0_24 t).view.junk (RA m c t h).2.2.2.2.2.1)

theorem cA25 (h : t.val % 16 = 0) (y : S1x1024.Idx) : ∃ pc ∈ (RA m c t h).2.2.2.2.2.2.1, y ∈ pc.1.set :=
  View.cover_of_tiledL (RA m c t h).2.2.2.2.2.2.1 S1x1024.size (by sl_kernel_rfl) y

/-- The branch norm after the first point. -/
def oA25 (h : t.val % 16 = 0) : Vec F S1x1024 .f32 :=
  (ms0_25 t).view.read (Elt F) ((ms0_25 t).view.writes (Elt F) (ms0_25 t).view.junk (RA m c t h).2.2.2.2.2.2.1)

theorem cA26 (h : t.val % 16 = 0) (y : S1x256.Idx) : ∃ pc ∈ (RA m c t h).2.2.2.2.2.2.2.1, y ∈ pc.1.set :=
  View.cover_of_tiledL (RA m c t h).2.2.2.2.2.2.2.1 S1x256.size (by sl_kernel_rfl) y

/-- The latent norm after the first point. -/
def oA26 (h : t.val % 16 = 0) : Vec F S1x256 .f32 :=
  (ms0_26 t).view.read (Elt F) ((ms0_26 t).view.writes (Elt F) (ms0_26 t).view.junk (RA m c t h).2.2.2.2.2.2.2.1)

theorem cA27 (h : t.val % 16 = 0) (y : S1x1024.Idx) : ∃ pc ∈ (RA m c t h).2.2.2.2.2.2.2.2.1, y ∈ pc.1.set :=
  View.cover_of_tiledL (RA m c t h).2.2.2.2.2.2.2.2.1 S1x1024.size (by sl_kernel_rfl) y

/-- The token norm after the first point. -/
def oA27 (h : t.val % 16 = 0) : Vec F S1x1024 .f32 :=
  (ms0_27 t).view.read (Elt F) ((ms0_27 t).view.writes (Elt F) (ms0_27 t).view.junk (RA m c t h).2.2.2.2.2.2.2.2.1)

theorem cB19 (h : ¬ t.val % 16 = 0) (a : Acc F) (y : S512x1024.Idx) : ∃ pc ∈ (RB m c t h a).1, y ∈ pc.1.set :=
  View.cover_of_tiledL (RB m c t h a).1 S512x1024.size (by sl_kernel_rfl) y

/-- The token gradient after a later point. -/
def oB19 (h : ¬ t.val % 16 = 0) (a : Acc F) : Vec F S512x1024 .f32 :=
  (ms0_19 t).view.read (Elt F) ((ms0_19 t).view.writes (Elt F) (ms0_19 t).view.junk (RB m c t h a).1)

theorem cB20 (h : ¬ t.val % 16 = 0) (a : Acc F) (y : S8x384x128.Idx) : ∃ pc ∈ (RB m c t h a).2.1, y ∈ pc.1.set :=
  View.cover_of_tiledL (RB m c t h a).2.1 S1x384x128.size (by sl_kernel_rfl) y

/-- The query up-projection after a later point. -/
def oB20 (h : ¬ t.val % 16 = 0) (a : Acc F) : Vec F S8x384x128 .f32 :=
  (ms0_20 t).view.read (Elt F) ((ms0_20 t).view.writes (Elt F) (ms0_20 t).view.junk (RB m c t h a).2.1)

theorem cB21 (h : ¬ t.val % 16 = 0) (a : Acc F) (y : S1024x896.Idx) : ∃ pc ∈ (RB m c t h a).2.2.1, y ∈ pc.1.set :=
  View.cover_of_tiledL (RB m c t h a).2.2.1 S1024x896.size (by sl_kernel_rfl) y

/-- The branch projection after a later point. -/
def oB21 (h : ¬ t.val % 16 = 0) (a : Acc F) : Vec F S1024x896 .f32 :=
  (ms0_21 t).view.read (Elt F) ((ms0_21 t).view.writes (Elt F) (ms0_21 t).view.junk (RB m c t h a).2.2.1)

theorem cB22 (h : ¬ t.val % 16 = 0) (a : Acc F) (y : S8x256x128.Idx) : ∃ pc ∈ (RB m c t h a).2.2.2.1, y ∈ pc.1.set :=
  View.cover_of_tiledL (RB m c t h a).2.2.2.1 S1x256x128.size (by sl_kernel_rfl) y

/-- The latent up-projection after a later point. -/
def oB22 (h : ¬ t.val % 16 = 0) (a : Acc F) : Vec F S8x256x128 .f32 :=
  (ms0_22 t).view.read (Elt F) ((ms0_22 t).view.writes (Elt F) (ms0_22 t).view.junk (RB m c t h a).2.2.2.1)

theorem cB23 (h : ¬ t.val % 16 = 0) (a : Acc F) (y : S1024x384.Idx) : ∃ pc ∈ (RB m c t h a).2.2.2.2.1, y ∈ pc.1.set :=
  View.cover_of_tiledL (RB m c t h a).2.2.2.2.1 S1024x384.size (by sl_kernel_rfl) y

/-- The latent down-projection after a later point. -/
def oB23 (h : ¬ t.val % 16 = 0) (a : Acc F) : Vec F S1024x384 .f32 :=
  (ms0_23 t).view.read (Elt F) ((ms0_23 t).view.writes (Elt F) (ms0_23 t).view.junk (RB m c t h a).2.2.2.2.1)

theorem cB24 (h : ¬ t.val % 16 = 0) (a : Acc F) (y : S1x384.Idx) : ∃ pc ∈ (RB m c t h a).2.2.2.2.2.1, y ∈ pc.1.set :=
  View.cover_of_tiledL (RB m c t h a).2.2.2.2.2.1 S1x384.size (by sl_kernel_rfl) y

/-- The query norm after a later point. -/
def oB24 (h : ¬ t.val % 16 = 0) (a : Acc F) : Vec F S1x384 .f32 :=
  (ms0_24 t).view.read (Elt F) ((ms0_24 t).view.writes (Elt F) (ms0_24 t).view.junk (RB m c t h a).2.2.2.2.2.1)

theorem cB25 (h : ¬ t.val % 16 = 0) (a : Acc F) (y : S1x1024.Idx) : ∃ pc ∈ (RB m c t h a).2.2.2.2.2.2.1, y ∈ pc.1.set :=
  View.cover_of_tiledL (RB m c t h a).2.2.2.2.2.2.1 S1x1024.size (by sl_kernel_rfl) y

/-- The branch norm after a later point. -/
def oB25 (h : ¬ t.val % 16 = 0) (a : Acc F) : Vec F S1x1024 .f32 :=
  (ms0_25 t).view.read (Elt F) ((ms0_25 t).view.writes (Elt F) (ms0_25 t).view.junk (RB m c t h a).2.2.2.2.2.2.1)

theorem cB26 (h : ¬ t.val % 16 = 0) (a : Acc F) (y : S1x256.Idx) : ∃ pc ∈ (RB m c t h a).2.2.2.2.2.2.2.1, y ∈ pc.1.set :=
  View.cover_of_tiledL (RB m c t h a).2.2.2.2.2.2.2.1 S1x256.size (by sl_kernel_rfl) y

/-- The latent norm after a later point. -/
def oB26 (h : ¬ t.val % 16 = 0) (a : Acc F) : Vec F S1x256 .f32 :=
  (ms0_26 t).view.read (Elt F) ((ms0_26 t).view.writes (Elt F) (ms0_26 t).view.junk (RB m c t h a).2.2.2.2.2.2.2.1)

theorem cB27 (h : ¬ t.val % 16 = 0) (a : Acc F) (y : S1x1024.Idx) : ∃ pc ∈ (RB m c t h a).2.2.2.2.2.2.2.2.1, y ∈ pc.1.set :=
  View.cover_of_tiledL (RB m c t h a).2.2.2.2.2.2.2.2.1 S1x1024.size (by sl_kernel_rfl) y

/-- The token norm after a later point. -/
def oB27 (h : ¬ t.val % 16 = 0) (a : Acc F) : Vec F S1x1024 .f32 :=
  (ms0_27 t).view.read (Elt F) ((ms0_27 t).view.writes (Elt F) (ms0_27 t).view.junk (RB m c t h a).2.2.2.2.2.2.2.2.1)

/-- The sums after the first point. -/
def accA (h : t.val % 16 = 0) : Acc F := ⟨oA20 m c t h, oA21 m c t h, oA22 m c t h, oA23 m c t h, oA24 m c t h, oA25 m c t h, oA26 m c t h, oA27 m c t h⟩

/-- The sums after a later point. -/
def accB (h : ¬ t.val % 16 = 0) (a : Acc F) : Acc F := ⟨oB20 m c t h a, oB21 m c t h a, oB22 m c t h a, oB23 m c t h a, oB24 m c t h a, oB25 m c t h a, oB26 m c t h a, oB27 m c t h a⟩

theorem later (n : ℕ) (hn : n + 1 < cfg0.N) : ¬ (n + 1) % 16 = 0 := by
  have h : n + 1 < 16 := lt_of_lt_of_eq hn (show cfg0.N = 16 from N_0)
  omega

/-- The sums after each point. -/
def acc (c : Dev nD) : (n : ℕ) → n < cfg0.N → Acc F
  | 0, hn => accA m c ⟨0, hn⟩ rfl
  | n + 1, hn => accB m c ⟨n + 1, hn⟩ (later n hn) (acc c n (by omega))

theorem acc_first (h : t.val % 16 = 0) : acc m c t.val t.isLt = accA m c t h := by
  obtain ⟨n, hn⟩ := t
  cases n with
  | zero => rfl
  | succ n => exact absurd h (later n hn)

theorem acc_next (h : ¬ t.val % 16 = 0) :
    acc m c t.val t.isLt = accB m c t h (acc m c (t.val - 1) (Nat.lt_of_le_of_lt (Nat.sub_le _ _) t.isLt)) := by
  obtain ⟨n, hn⟩ := t
  cases n with
  | zero => exact absurd rfl h
  | succ n => rfl

/-- The block of token gradients at each point. -/
def dxOut : Vec F S512x1024 .f32 :=
  if h : t.val % 16 = 0 then oA19 m c t h
  else oB19 m c t h (acc m c (t.val - 1) (Nat.lt_of_le_of_lt (Nat.sub_le _ _) t.isLt))

/-- The pipeline's proof data: each input's buffer at its block, the outputs as above, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => dxOut m c t
    | ⟨20, _⟩ => (acc m c t.val t.isLt).wuq
    | ⟨21, _⟩ => (acc m c t.val t.isLt).wbin
    | ⟨22, _⟩ => (acc m c t.val t.isLt).wukv
    | ⟨23, _⟩ => (acc m c t.val t.isLt).wdkv
    | ⟨24, _⟩ => (acc m c t.val t.isLt).qn
    | ⟨25, _⟩ => (acc m c t.val t.isLt).bn
    | ⟨26, _⟩ => (acc m c t.val t.isLt).ckvn
    | ⟨27, _⟩ => (acc m c t.val t.isLt).kvn
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = iblk m c 14 t := by dsimp only [dats]
theorem after_15 : (dats m 0 c).after 15 t = iblk m c 15 t := by dsimp only [dats]
theorem after_16 : (dats m 0 c).after 16 t = iblk m c 16 t := by dsimp only [dats]
theorem after_17 : (dats m 0 c).after 17 t = iblk m c 17 t := by dsimp only [dats]
theorem after_18 : (dats m 0 c).after 18 t = iblk m c 18 t := by dsimp only [dats]
theorem after_19 : (dats m 0 c).after 19 t = dxOut m c t := by dsimp only [dats]
theorem after_20 : (dats m 0 c).after 20 t = (acc m c t.val t.isLt).wuq := by dsimp only [dats]
theorem after_21 : (dats m 0 c).after 21 t = (acc m c t.val t.isLt).wbin := by dsimp only [dats]
theorem after_22 : (dats m 0 c).after 22 t = (acc m c t.val t.isLt).wukv := by dsimp only [dats]
theorem after_23 : (dats m 0 c).after 23 t = (acc m c t.val t.isLt).wdkv := by dsimp only [dats]
theorem after_24 : (dats m 0 c).after 24 t = (acc m c t.val t.isLt).qn := by dsimp only [dats]
theorem after_25 : (dats m 0 c).after 25 t = (acc m c t.val t.isLt).bn := by dsimp only [dats]
theorem after_26 : (dats m 0 c).after 26 t = (acc m c t.val t.isLt).ckvn := by dsimp only [dats]
theorem after_27 : (dats m 0 c).after 27 t = (acc m c t.val t.isLt).kvn := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d
theorem before_10 (d) : (dats m 0 c).before 10 t d = iblk m c 10 t :=
  before0_10_of m (dats m 0 c) (A_eq m c 10) (after_10 m c) t d
theorem before_11 (d) : (dats m 0 c).before 11 t d = iblk m c 11 t :=
  before0_11_of m (dats m 0 c) (A_eq m c 11) (after_11 m c) t d
theorem before_12 (d) : (dats m 0 c).before 12 t d = iblk m c 12 t :=
  before0_12_of m (dats m 0 c) (A_eq m c 12) (after_12 m c) t d
theorem before_13 (d) : (dats m 0 c).before 13 t d = iblk m c 13 t :=
  before0_13_of m (dats m 0 c) (A_eq m c 13) (after_13 m c) t d
theorem before_14 (d) : (dats m 0 c).before 14 t d = iblk m c 14 t :=
  before0_14_of m (dats m 0 c) (A_eq m c 14) (after_14 m c) t d
theorem before_15 (d) : (dats m 0 c).before 15 t d = iblk m c 15 t :=
  before0_15_of m (dats m 0 c) (A_eq m c 15) (after_15 m c) t d
theorem before_16 (d) : (dats m 0 c).before 16 t d = iblk m c 16 t :=
  before0_16_of m (dats m 0 c) (A_eq m c 16) (after_16 m c) t d
theorem before_17 (d) : (dats m 0 c).before 17 t d = iblk m c 17 t :=
  before0_17_of m (dats m 0 c) (A_eq m c 17) (after_17 m c) t d
theorem before_18 (d) : (dats m 0 c).before 18 t d = iblk m c 18 t :=
  before0_18_of m (dats m 0 c) (A_eq m c 18) (after_18 m c) t d

theorem small : t.val < 16 := lt_of_lt_of_eq t.isLt (show cfg0.N = 16 from N_0)

theorem kept_20 (h : ¬ t.val % 16 = 0) (d) :
    (dats m 0 c).before 20 t d = (acc m c (t.val - 1) (Nat.lt_of_le_of_lt (Nat.sub_le _ _) t.isLt)).wuq := by
  have hN := small t
  rw [Dat.before_out_kept _ 20 rfl t (by omega) (Bool.eq_false_iff.mpr fun e => by have := (flush0_20 _).mp e; dsimp only at this; omega)
    (fun _ => rfl) (fun _ _ => rfl)]
  dsimp only [dats]

theorem kept_21 (h : ¬ t.val % 16 = 0) (d) :
    (dats m 0 c).before 21 t d = (acc m c (t.val - 1) (Nat.lt_of_le_of_lt (Nat.sub_le _ _) t.isLt)).wbin := by
  have hN := small t
  rw [Dat.before_out_kept _ 21 rfl t (by omega) (Bool.eq_false_iff.mpr fun e => by have := (flush0_21 _).mp e; dsimp only at this; omega)
    (fun _ => rfl) (fun _ _ => rfl)]
  dsimp only [dats]

theorem kept_22 (h : ¬ t.val % 16 = 0) (d) :
    (dats m 0 c).before 22 t d = (acc m c (t.val - 1) (Nat.lt_of_le_of_lt (Nat.sub_le _ _) t.isLt)).wukv := by
  have hN := small t
  rw [Dat.before_out_kept _ 22 rfl t (by omega) (Bool.eq_false_iff.mpr fun e => by have := (flush0_22 _).mp e; dsimp only at this; omega)
    (fun _ => rfl) (fun _ _ => rfl)]
  dsimp only [dats]

theorem kept_23 (h : ¬ t.val % 16 = 0) (d) :
    (dats m 0 c).before 23 t d = (acc m c (t.val - 1) (Nat.lt_of_le_of_lt (Nat.sub_le _ _) t.isLt)).wdkv := by
  have hN := small t
  rw [Dat.before_out_kept _ 23 rfl t (by omega) (Bool.eq_false_iff.mpr fun e => by have := (flush0_23 _).mp e; dsimp only at this; omega)
    (fun _ => rfl) (fun _ _ => rfl)]
  dsimp only [dats]

theorem kept_24 (h : ¬ t.val % 16 = 0) (d) :
    (dats m 0 c).before 24 t d = (acc m c (t.val - 1) (Nat.lt_of_le_of_lt (Nat.sub_le _ _) t.isLt)).qn := by
  have hN := small t
  rw [Dat.before_out_kept _ 24 rfl t (by omega) (Bool.eq_false_iff.mpr fun e => by have := (flush0_24 _).mp e; dsimp only at this; omega)
    (fun _ => rfl) (fun _ _ => rfl)]
  dsimp only [dats]

theorem kept_25 (h : ¬ t.val % 16 = 0) (d) :
    (dats m 0 c).before 25 t d = (acc m c (t.val - 1) (Nat.lt_of_le_of_lt (Nat.sub_le _ _) t.isLt)).bn := by
  have hN := small t
  rw [Dat.before_out_kept _ 25 rfl t (by omega) (Bool.eq_false_iff.mpr fun e => by have := (flush0_25 _).mp e; dsimp only at this; omega)
    (fun _ => rfl) (fun _ _ => rfl)]
  dsimp only [dats]

theorem kept_26 (h : ¬ t.val % 16 = 0) (d) :
    (dats m 0 c).before 26 t d = (acc m c (t.val - 1) (Nat.lt_of_le_of_lt (Nat.sub_le _ _) t.isLt)).ckvn := by
  have hN := small t
  rw [Dat.before_out_kept _ 26 rfl t (by omega) (Bool.eq_false_iff.mpr fun e => by have := (flush0_26 _).mp e; dsimp only at this; omega)
    (fun _ => rfl) (fun _ _ => rfl)]
  dsimp only [dats]

theorem kept_27 (h : ¬ t.val % 16 = 0) (d) :
    (dats m 0 c).before 27 t d = (acc m c (t.val - 1) (Nat.lt_of_le_of_lt (Nat.sub_le _ _) t.isLt)).kvn := by
  have hN := small t
  rw [Dat.before_out_kept _ 27 rfl t (by omega) (Bool.eq_false_iff.mpr fun e => by have := (flush0_27 _).mp e; dsimp only at this; omega)
    (fun _ => rfl) (fun _ _ => rfl)]
  dsimp only [dats]

/-- What the body is called with at point `t`. -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 4000000 in
/-- The body at the first point, from what the pipeline hands it to what it hands back. -/
theorem soundA (h : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, PhiA0_eq]
  rw [acc_first m c t h, show dxOut m c t = oA19 m c t h from dif_pos h]
  unfold accA oA19 oA20 oA21 oA22 oA23 oA24 oA25 oA26 oA27; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((RA m c t h).2.2.2.2.2.2.2.2.2.2.2 Set.univ _)
  unfold ins ownE ownL
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HS0]; · iexact HS0
  isplitl [HS1]; · iexact HS1
  iintro ⟨⟨H0, H1, H2, H3, H4, H5, H6, H7, H8, H9, H10, H11, H12, H13, H14, H15, H16, H17, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%g0, HS0⟩, ⟨%g1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cA19 m c t h)
  isplitl [H20]
  · unfold owns; iexists _; isplitr
    swap; · iexact H20
    ipureintro; exact View.read_writes_of_cover _ _ _ _ _ (cA20 m c t h)
  isplitl [H21]
  · unfold owns; iexists _; isplitr
    swap; · iexact H21
    ipureintro; exact View.read_writes_of_cover _ _ _ _ _ (cA21 m c t h)
  isplitl [H22]
  · unfold owns; iexists _; isplitr
    swap; · iexact H22
    ipureintro; exact View.read_writes_of_cover _ _ _ _ _ (cA22 m c t h)
  isplitl [H23]
  · unfold owns; iexists _; isplitr
    swap; · iexact H23
    ipureintro; exact View.read_writes_of_cover _ _ _ _ _ (cA23 m c t h)
  isplitl [H24]
  · unfold owns; iexists _; isplitr
    swap; · iexact H24
    ipureintro; exact View.read_writes_of_cover _ _ _ _ _ (cA24 m c t h)
  isplitl [H25]
  · unfold owns; iexists _; isplitr
    swap; · iexact H25
    ipureintro; exact View.read_writes_of_cover _ _ _ _ _ (cA25 m c t h)
  isplitl [H26]
  · unfold owns; iexists _; isplitr
    swap; · iexact H26
    ipureintro; exact View.read_writes_of_cover _ _ _ _ _ (cA26 m c t h)
  unfold owns; iexists _; isplitr
  swap; · iexact H27
  ipureintro; exact View.read_writes_of_cover _ _ _ _ _ (cA27 m c t h)

set_option maxHeartbeats 4000000 in
/-- The body at a later point, from what the pipeline hands it to what it hands back. -/
theorem soundB (h : ¬ t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, PhiA0_eq]
  simp only [kept_20 m c t h, kept_21 m c t h, kept_22 m c t h, kept_23 m c t h, kept_24 m c t h, kept_25 m c t h, kept_26 m c t h, kept_27 m c t h]
  rw [acc_next m c t h, show dxOut m c t = oB19 m c t h _ from dif_neg h]
  generalize acc m c (t.val - 1) (Nat.lt_of_le_of_lt (Nat.sub_le _ _) t.isLt) = a
  unfold accB oB19 oB20 oB21 oB22 oB23 oB24 oB25 oB26 oB27; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((RB m c t h a).2.2.2.2.2.2.2.2.2.2.2 Set.univ _)
  unfold ins ownE ownL
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexists _; iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  iintro ⟨⟨H0, H1, H2, H3, H4, H5, H6, H7, H8, H9, H10, H11, H12, H13, H14, H15, H16, H17, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%g0, HS0⟩, ⟨%g1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cB19 m c t h a)
  isplitl [H20]
  · unfold owns; iexists _; isplitr
    swap; · iexact H20
    ipureintro; exact View.read_writes_of_cover _ _ _ _ _ (cB20 m c t h a)
  isplitl [H21]
  · unfold owns; iexists _; isplitr
    swap; · iexact H21
    ipureintro; exact View.read_writes_of_cover _ _ _ _ _ (cB21 m c t h a)
  isplitl [H22]
  · unfold owns; iexists _; isplitr
    swap; · iexact H22
    ipureintro; exact View.read_writes_of_cover _ _ _ _ _ (cB22 m c t h a)
  isplitl [H23]
  · unfold owns; iexists _; isplitr
    swap; · iexact H23
    ipureintro; exact View.read_writes_of_cover _ _ _ _ _ (cB23 m c t h a)
  isplitl [H24]
  · unfold owns; iexists _; isplitr
    swap; · iexact H24
    ipureintro; exact View.read_writes_of_cover _ _ _ _ _ (cB24 m c t h a)
  isplitl [H25]
  · unfold owns; iexists _; isplitr
    swap; · iexact H25
    ipureintro; exact View.read_writes_of_cover _ _ _ _ _ (cB25 m c t h a)
  isplitl [H26]
  · unfold owns; iexists _; isplitr
    swap; · iexact H26
    ipureintro; exact View.read_writes_of_cover _ _ _ _ _ (cB26 m c t h a)
  unfold owns; iexists _; isplitr
  swap; · iexact H27
  ipureintro; exact View.read_writes_of_cover _ _ _ _ _ (cB27 m c t h a)

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point. -/
theorem body_obligation (c : Dev nD) : BodyObligation (dats (F := F) m 0 c) (defs₀ (F := F)) Variants.none () Set.univ := fun t => by
  rw [bigSep_W0, bigSep_W0, defs₀_row]
  show bodyPre m c t ⊢ wp frame (wpE (defs₀ (F := F)) Variants.none c none) Set.univ (bodyAt0 t) (fun _ => bodyPost m c t)
  by_cases h : t.val % 16 = 0
  · exact soundA m c t h
  · exact soundB m c t h

set_option backward.isDefEq.respectTransparency.types false in
/-- The launch: the program runs to its end, the arrays of the pipeline as the proof data says, every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs to its end, its arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) (run_main m ρ)) ((θ_run defs _ _).mono (fun _ h => h.2) (run_main_quiescent m ρ))

end Cert.LatIdeal.Gen

end
-- ==== Proof.LatBits.lean ====
/- The frame of the latent projections' backward kernel on machine words. The two printed programs are the same text, so the run
   that holds over any numbers is this one's too. -/
module

public import proofs.«01_k».proof.Defs
public import proofs.«01_k».proof.Proof.LatIdealFrame
public import proofs.«01_k».proof.Proof.Gen.Lat.Launch

@[expose] public section

noncomputable section

open Idealize.ShloMosaic Idealize.ShloMosaic.TcCoe Idealize.ShloMosaic.Tactic

namespace Cert.LatBits

attribute [local instance] Cert.Lat.Gen.facts Cert.LatIdeal.Gen.facts

open Cert.LatIdeal in
/-- The frame's statement, spelled with the other program's text. -/
def Q : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      )
      ∧ r.2.sem = fun _ => 0)

theorem q : Q := fun m g _ => Cert.LatIdeal.Gen.frame m g

theorem same : Cert.quiescent_Lat = Q := by sl_kernel_rfl

theorem frame_kernel : Cert.quiescent_Lat := same ▸ q

end Cert.LatBits
end
-- ==== Proof.LatMath.lean ====
/- The backward pass of the latent projections over the real numbers, token by token: the shared keys and values, the queries and the
   gate, with their three norms and the rotary turn. A head takes 128 lanes: 64 plain, 32 turned, 32 of padding. -/
module

public import proofs.«01_k».proof.Proof.Reals

@[expose] public section

noncomputable section

namespace Cert.LatMath

/-- The mean square plus the norm's constant, its reciprocal root, and the normalised row; `N` is the row's length. -/
def ms {n : ℕ} (N : ℝ) (x : Fin n → ℝ) : ℝ := (∑ j, x j * x j) / N + Reals.eps
def rr {n : ℕ} (N : ℝ) (x : Fin n → ℝ) : ℝ := (Real.sqrt (ms N x))⁻¹
def xh {n : ℕ} (N : ℝ) (x : Fin n → ℝ) (j : Fin n) : ℝ := x j * rr N x
/-- The gradient through a norm, from the gradient `d` of the normalised row. -/
def nb {n : ℕ} (N : ℝ) (x d : Fin n → ℝ) (j : Fin n) : ℝ := rr N x * (d j - xh N x j * ((∑ l, d l * xh N x l) / N))

theorem ms_pos {n : ℕ} {N : ℝ} (h : 0 < N) (x : Fin n → ℝ) : 0 < ms N x :=
  add_pos_of_nonneg_of_pos (div_nonneg (Finset.sum_nonneg fun _ _ => mul_self_nonneg _) h.le) Reals.eps_pos

theorem rr_cube {n : ℕ} {N : ℝ} (h : 0 < N) (x : Fin n → ℝ) : rr N x / ms N x = rr N x * rr N x * rr N x := by
  have e : rr N x * rr N x = (ms N x)⁻¹ := by
    unfold rr
    rw [← mul_inv, Real.mul_self_sqrt (ms_pos h x).le]
  rw [e, div_eq_mul_inv, mul_comm]

/-- The weights: norms and products of the shared keys and values, of the queries and the gate. -/
structure Wts where
  kvn : Fin 1024 → ℝ
  wdkv : Fin 1024 → Fin 384 → ℝ
  ckvn : Fin 256 → ℝ
  wukv : Fin 256 → Fin 1024 → ℝ
  bn : Fin 1024 → ℝ
  bwin : Fin 1024 → Fin 896 → ℝ
  qn : Fin 384 → ℝ
  wuq : Fin 384 → Fin 1024 → ℝ

/-- What belongs to one token: the gradients that arrive, the latents, the stream, and cosine and sine in the lanes of a head. -/
structure Row where
  dq : Fin 1024 → ℝ
  dk : Fin 1024 → ℝ
  dv : Fin 1024 → ℝ
  dg : Fin 512 → ℝ
  cq : Fin 384 → ℝ
  ckr : Fin 384 → ℝ
  x : Fin 1024 → ℝ
  dX : Fin 1024 → ℝ
  cs : Fin 128 → ℝ
  sn : Fin 128 → ℝ

/-- Lane `l` of head `h`. -/
def hd (h : Fin 8) (l : Fin 128) : Fin 1024 := ⟨128 * h.val + l.val, by omega⟩
def hof (q : Fin 1024) : Fin 8 := ⟨q.val / 128, by omega⟩
def lof (q : Fin 1024) : Fin 128 := ⟨q.val % 128, Nat.mod_lt _ (by norm_num)⟩

theorem hof_hd (h l) : hof (hd h l) = h := Fin.ext (by show (128 * h.val + l.val) / 128 = h.val; omega)
theorem lof_hd (h l) : lof (hd h l) = l := Fin.ext (by show (128 * h.val + l.val) % 128 = l.val; omega)
theorem hd_of (q) : hd (hof q) (lof q) = q := Fin.ext (by show 128 * (q.val / 128) + q.val % 128 = q.val; omega)

/-- Lane `l` turned by `o`. -/
def by_ (o : ℕ) (l : Fin 128) : Fin 128 := ⟨(l.val + o) % 128, Nat.mod_lt _ (by norm_num)⟩

/-- The signs of the sine in the lanes: the first half of the turned lanes, the second half. -/
def sg1 (l : Fin 128) : ℝ := if 64 ≤ l.val ∧ l.val < 80 then -1 else 0
def sg2 (l : Fin 128) : ℝ := if 80 ≤ l.val ∧ l.val < 96 then 1 else 0

/-- The columns of a latent row that are shared, and those that carry the turned key. -/
def lo (j : Fin 256) : Fin 384 := ⟨j.val, by omega⟩
def ckv (R : Row) (j : Fin 256) : ℝ := R.ckr (lo j)

variable (K : Wts) (R : Row)

/-- The rotary turn's transpose on one head's lanes. -/
def rot (y : Fin 128 → ℝ) (l : Fin 128) : ℝ :=
  y l * R.cs l + y (by_ 16 l) * (0 - R.sn l * sg1 l) + y (by_ 112 l) * (0 - R.sn l * sg2 l)

/-- The gradient of the key and value products' output: the plain key lanes, then the value's. -/
def dkvu (q : Fin 1024) : ℝ := if q.val % 128 < 64 then R.dk q else R.dv (hd (hof q) (by_ 64 (lof q)))
/-- The gradient of the shared turned key, in the lanes of a head. -/
def dkr (l : Fin 128) : ℝ := if 64 ≤ l.val ∧ l.val < 96 then rot R (fun l => ∑ h, R.dk (hd h l)) l else 0
def dckvn (j : Fin 256) : ℝ := ∑ q, dkvu R q * K.wukv j q
def dckv (j : Fin 256) : ℝ := nb 256 (ckv R) (fun j => dckvn K R j * K.ckvn j) j
def dckr (i : Fin 384) : ℝ := if h : i.val < 256 then dckv K R ⟨i.val, h⟩ else dkr R ⟨i.val - 256, by omega⟩
def dh2 (k : Fin 1024) : ℝ := ∑ i, dckr K R i * K.wdkv k i

/-- The gradient of the query product's output, turned back. -/
def dquu (q : Fin 1024) : ℝ := rot R (fun l => R.dq (hd (hof q) l)) (lof q)
def dcqn (j : Fin 384) : ℝ := ∑ q, dquu R q * K.wuq j q
def dcq (j : Fin 384) : ℝ := nb 384 R.cq (fun j => dcqn K R j * K.qn j) j
def dpb (i : Fin 896) : ℝ := if h : i.val < 384 then dcq K R ⟨i.val, h⟩ else R.dg ⟨i.val - 384, by omega⟩
def dh3 (k : Fin 1024) : ℝ := ∑ i, dpb K R i * K.bwin k i

/-- The gradient of the stream, the residual's included. -/
def dx (k : Fin 1024) : ℝ := R.dX k + nb 1024 R.x (fun k => dh2 K R k * K.kvn k + dh3 K R k * K.bn k) k

/-- A token's parts of the eight weight gradients. -/
def gwuq (h : Fin 8) (j : Fin 384) (l : Fin 128) : ℝ := xh 384 R.cq j * K.qn j * dquu R (hd h l)
def gwbin (k : Fin 1024) (i : Fin 896) : ℝ := xh 1024 R.x k * K.bn k * dpb K R i
def gwukv (h : Fin 8) (j : Fin 256) (l : Fin 128) : ℝ := xh 256 (ckv R) j * K.ckvn j * dkvu R (hd h l)
def gwdkv (k : Fin 1024) (i : Fin 384) : ℝ := xh 1024 R.x k * K.kvn k * dckr K R i
def gqn (j : Fin 384) : ℝ := dcqn K R j * xh 384 R.cq j
def gbn (k : Fin 1024) : ℝ := dh3 K R k * xh 1024 R.x k
def gckvn (j : Fin 256) : ℝ := dckvn K R j * xh 256 (ckv R) j
def gkvn (k : Fin 1024) : ℝ := dh2 K R k * xh 1024 R.x k

end Cert.LatMath
end
-- ==== Proof.LatPay.lean ====
/- What the body of the latent projections' backward call computes on one tile of 512 tokens, element by element, at real inputs. -/
module

public import proofs.«01_k».proof.Proof.LatMath
public import proofs.«01_k».proof.Proof.Gen.LatIdeal.Skeleton

@[expose] public section

set_option maxRecDepth 16384

noncomputable section

open Idealize.ShloMosaic Idealize.ShloMosaic.TcCoe Idealize.SL.Sem

namespace Cert.LatPay

open Cert.LatIdeal Cert.LatIdeal.Gen Cert.LatMath Cert.Reals

theorem lit_256 : Ideal.ofBits .f32 0x43800000#32 = ((256 : ℝ) : EReal) := by
  simp [Ideal.ofBits, Ideal.ieee, -EReal.coe_mul]; norm_num
theorem lit_384 : Ideal.ofBits .f32 0x43C00000#32 = ((384 : ℝ) : EReal) := by
  simp [Ideal.ofBits, Ideal.ieee, -EReal.coe_mul]; norm_num

theorem lane (l : Fin 128) (a b : EReal) :
    Scalar.select (IntOp.cmpi CmpIPredicate.slt (BitVec.ofNat 32 l.val) 64#32) a b = if l.val < 64 then a else b := by
  rw [show IntOp.cmpi CmpIPredicate.slt (BitVec.ofNat 32 l.val) 64#32 = if l.val < 64 then 1#1 else 0#1 from by revert l; decide]
  split <;> rfl
theorem band (l : Fin 128) (a b : EReal) :
    Scalar.select (IntOp.andi (IntOp.cmpi CmpIPredicate.sge (BitVec.ofNat 32 l.val) 64#32) (IntOp.cmpi CmpIPredicate.slt (BitVec.ofNat 32 l.val) 96#32)) a b
      = if 64 ≤ l.val ∧ l.val < 96 then a else b := by
  rw [show IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 from by revert l; decide]
  split <;> rfl

theorem dkvu_hd (R : Row) (h : Fin 8) (l : Fin 128) : dkvu R (hd h l) = if l.val < 64 then R.dk (hd h l) else R.dv (hd h (by_ 64 l)) := by
  unfold dkvu
  rw [hof_hd, lof_hd, show (hd h l).val % 128 = l.val from congrArg Fin.val (lof_hd h l)]
theorem dquu_hd (R : Row) (h : Fin 8) (l : Fin 128) : dquu R (hd h l) = rot R (fun l => R.dq (hd h l)) l := by
  unfold dquu
  rw [hof_hd, lof_hd]

variable {K : Wts} {T : Fin 512 → Row}

/-- The lanes a head's key and value gradients are put together on. -/
theorem put {a b : ℝ} {l : Fin 128} : (if l.val < 64 then (a : EReal) else (b : EReal)) = ((if l.val < 64 then a else b : ℝ) : EReal) := by
  split <;> rfl

section heads

variable {v w : Vec Ideal S512x128 .bf16} {h : Fin 8} (hk : ∀ r l, v (ix2 r l) = ((T r).dk (hd h l) : EReal)) (hv : ∀ r l, w (ix2 r l) = ((T r).dv (hd h l) : EReal))
include hk hv

theorem h21_at (r l) : k0_pay21 (k0_pay20 v w) (ix2 r l) = (dkvu (T r) (hd h l) : EReal) := by
  unfold k0_pay21 k0_pay20 k0_pay14 k0_pay19
  pointwise [hk, hv, lane]
  rw [dkvu_hd, ← put]
  rfl
theorem h23_at (r l) : k0_pay23 k0_pay14 v w (ix2 r l) = (dkvu (T r) (hd h l) : EReal) := by
  unfold k0_pay23 k0_pay14 k0_pay22
  pointwise [hk, hv, lane]
  rw [dkvu_hd, ← put]
  rfl
theorem h25_at (r l) : k0_pay25 k0_pay14 v w (ix2 r l) = (dkvu (T r) (hd h l) : EReal) := by
  unfold k0_pay25 k0_pay14 k0_pay24
  pointwise [hk, hv, lane]
  rw [dkvu_hd, ← put]
  rfl
theorem h29_at (r l) : k0_pay29 k0_pay14 (k0_pay27 v) (k0_pay28 w) (ix2 r l) = (dkvu (T r) (hd h l) : EReal) := by
  unfold k0_pay29 k0_pay14 k0_pay27 k0_pay28
  pointwise [hk, hv, lane]
  rw [dkvu_hd, ← put]
  rfl
theorem h31_at (r l) : k0_pay31 k0_pay14 v w (ix2 r l) = (dkvu (T r) (hd h l) : EReal) := by
  unfold k0_pay31 k0_pay14 k0_pay30
  pointwise [hk, hv, lane]
  rw [dkvu_hd, ← put]
  rfl
theorem h33_at (r l) : k0_pay33 k0_pay14 v w (ix2 r l) = (dkvu (T r) (hd h l) : EReal) := by
  unfold k0_pay33 k0_pay14 k0_pay32
  pointwise [hk, hv, lane]
  rw [dkvu_hd, ← put]
  rfl
theorem h36_at (r l) : k0_pay36 k0_pay14 (k0_pay35 v) w (ix2 r l) = (dkvu (T r) (hd h l) : EReal) := by
  unfold k0_pay36 k0_pay14 k0_pay35
  pointwise [hk, hv, lane]
  rw [dkvu_hd, ← put]
  rfl
theorem h38_at (r l) : k0_pay38 k0_pay14 v w (ix2 r l) = (dkvu (T r) (hd h l) : EReal) := by
  unfold k0_pay38 k0_pay14 k0_pay37
  pointwise [hk, hv, lane]
  rw [dkvu_hd, ← put]
  rfl

end heads

section turn

variable {v4 v10 v13 : FVec Ideal S512x128 .f32} (hc : ∀ r l, v4 (ix2 r l) = ((T r).cs l : EReal))
  (h10 : ∀ r l, v10 (ix2 r l) = ((T r).sn l * sg1 l : ℝ)) (h13 : ∀ r l, v13 (ix2 r l) = ((T r).sn l * sg2 l : ℝ))
include hc h10 h13

theorem dkr_at {i14 : IVec S512x128 32} (hi : ∀ r l, i14 (ix2 r l) = BitVec.ofNat 32 l.val) {y0 y1 y2 y3 y4 y5 y6 y7 : Vec Ideal S512x128 .bf16}
    (e0 : ∀ r l, y0 (ix2 r l) = ((T r).dk (hd 0 l) : EReal)) (e1 : ∀ r l, y1 (ix2 r l) = ((T r).dk (hd 1 l) : EReal))
    (e2 : ∀ r l, y2 (ix2 r l) = ((T r).dk (hd 2 l) : EReal)) (e3 : ∀ r l, y3 (ix2 r l) = ((T r).dk (hd 3 l) : EReal))
    (e4 : ∀ r l, y4 (ix2 r l) = ((T r).dk (hd 4 l) : EReal)) (e5 : ∀ r l, y5 (ix2 r l) = ((T r).dk (hd 5 l) : EReal))
    (e6 : ∀ r l, y6 (ix2 r l) = ((T r).dk (hd 6 l) : EReal)) (e7 : ∀ r l, y7 (ix2 r l) = ((T r).dk (hd 7 l) : EReal)) (r l) :
    k0_pay39 v4 v10 v13 i14 (k0_pay34 (k0_pay26 k0_pay18 (k0_pay19 y0) y1 y2) (k0_pay27 y3) y4 y5) (k0_pay35 y6) y7 (ix2 r l) = (dkr (T r) l : EReal) := by
  have s : ∀ r l, addf (addf (k0_pay34 (k0_pay26 k0_pay18 (k0_pay19 y0) y1 y2) (k0_pay27 y3) y4 y5) (k0_pay35 y6)) (k0_pay37 y7) (ix2 r l)
      = ((∑ h, (T r).dk (hd h l) : ℝ) : EReal) := fun r l => by
    unfold k0_pay34 k0_pay26 k0_pay18 k0_pay19 k0_pay22 k0_pay24 k0_pay27 k0_pay30 k0_pay32 k0_pay35 k0_pay37
    pointwise [e0, e1, e2, e3, e4, e5, e6, e7, coe_zero', coe_add']
    congr 1
    simp only [Fin.sum_univ_eight, zero_add]
  unfold k0_pay39
  dsimp only
  generalize addf (addf (k0_pay34 (k0_pay26 k0_pay18 (k0_pay19 y0) y1 y2) (k0_pay27 y3) y4 y5) (k0_pay35 y6)) (k0_pay37 y7) = S at s
  pointwise [s, hi, hc, h10, h13, band, coe_zero', coe_sub', coe_mul', coe_add']
  unfold dkr
  split_ifs <;> rfl

variable {v : Vec Ideal S512x128 .bf16} {h : Fin 8} (hq : ∀ r l, v (ix2 r l) = ((T r).dq (hd h l) : EReal))
include hq

theorem q60_at (r l) : k0_pay60 v4 v10 v13 v (ix2 r l) = (dquu (T r) (hd h l) : EReal) := by
  unfold k0_pay60
  pointwise [hq, hc, h10, h13, coe_zero', coe_sub', coe_mul', coe_add']
  rw [dquu_hd]
  rfl
theorem q62_at (r l) : k0_pay62 v4 v10 v13 (k0_pay61 v) (Scalar.ofBits .f32 0x00000000#32) (ix2 r l) = (dquu (T r) (hd h l) : EReal) := by
  unfold k0_pay62 k0_pay61
  pointwise [hq, hc, h10, h13, coe_zero', coe_sub', coe_mul', coe_add']
  rw [dquu_hd]
  rfl
theorem q63_at (r l) : k0_pay63 v4 v10 v13 v (ix2 r l) = (dquu (T r) (hd h l) : EReal) := by
  unfold k0_pay63
  pointwise [hq, hc, h10, h13, coe_zero', coe_sub', coe_mul', coe_add']
  rw [dquu_hd]
  rfl
theorem q67_at (r l) : k0_pay67 v4 (k0_pay64 v) (k0_pay65 v10) (k0_pay66 v13) 112#32 (ix2 r l) = (dquu (T r) (hd h l) : EReal) := by
  unfold k0_pay67 k0_pay64 k0_pay65 k0_pay66
  pointwise [hq, hc, h10, h13, coe_zero', coe_sub', coe_mul', coe_add']
  rw [dquu_hd]
  rfl
theorem q68_at (r l) : k0_pay68 v4 v10 v13 v (ix2 r l) = (dquu (T r) (hd h l) : EReal) := by
  unfold k0_pay68
  pointwise [hq, hc, h10, h13, coe_zero', coe_sub', coe_mul', coe_add']
  rw [dquu_hd]
  rfl
theorem q73_at (r l) : k0_pay73 (k0_pay70 v13) (k0_pay71 v) (k0_pay72 v4 v10 v) (ix2 r l) = (dquu (T r) (hd h l) : EReal) := by
  unfold k0_pay73 k0_pay70 k0_pay71 k0_pay72 k0_pay69
  pointwise [hq, hc, h10, h13, coe_zero', coe_sub', coe_mul', coe_add']
  rw [dquu_hd]
  rfl
theorem q74_at (r l) : k0_pay74 v4 v10 v13 v (ix2 r l) = (dquu (T r) (hd h l) : EReal) := by
  unfold k0_pay74
  pointwise [hq, hc, h10, h13, coe_zero', coe_sub', coe_mul', coe_add']
  rw [dquu_hd]
  rfl
theorem q76_at (r l) : k0_pay76 (k0_pay75 v4 v10 v13 v) (ix2 r l) = (dquu (T r) (hd h l) : EReal) := by
  unfold k0_pay76 k0_pay75
  pointwise [hq, hc, h10, h13, coe_zero', coe_sub', coe_mul', coe_add']
  rw [dquu_hd]
  rfl

end turn

theorem cs_at {v3 : Vec Ideal S512x128 .f32} (h : ∀ r l, v3 (ix2 r l) = ((T r).cs l : EReal)) (r l) : k0_pay10 v3 (ix2 r l) = ((T r).cs l : EReal) := by
  unfold k0_pay10; pointwise [h]
theorem sn1_at {v5 : Vec Ideal S512x128 .f32} {v7 : Vec Ideal S8x128 .f32} (h : ∀ r l, v5 (ix2 r l) = ((T r).sn l : EReal)) (h' : ∀ l, v7 (ix2 1 l) = (sg1 l : EReal)) (r l) :
    k0_pay12 v5 v7 (ix2 r l) = ((T r).sn l * sg1 l : ℝ) := by
  unfold k0_pay12 k0_pay11
  pointwise [h]
  rw [← coe_mul', ← h']
theorem sn2_at {v5 : Vec Ideal S512x128 .f32} {v7 : Vec Ideal S8x128 .f32} (h : ∀ r l, v5 (ix2 r l) = ((T r).sn l : EReal)) (h' : ∀ l, v7 (ix2 2 l) = (sg2 l : EReal)) (r l) :
    k0_pay13 v5 v7 (ix2 r l) = ((T r).sn l * sg2 l : ℝ) := by
  unfold k0_pay13 k0_pay11
  pointwise [h]
  rw [← coe_mul', ← h']

theorem xr_at {v : Vec Ideal S512x1024 .f32} (h : ∀ r j, v (ix2 r j) = ((T r).x j : EReal)) (r z) : k0_pay16 v (ix2 r z) = (rr 1024 ((T r).x) : EReal) := by
  unfold k0_pay16 k0_pay15
  pointwise [h, coe_mul', coe_sum, lit_1024, lit_eps]
  rw [div_coe_coe _ _ (by norm_num), coe_add']
  exact rsqrt_pos _ (ms_pos (by norm_num) _)
theorem xh_at {v : Vec Ideal S512x1024 .f32} (h : ∀ r j, v (ix2 r j) = ((T r).x j : EReal)) (r j) : k0_pay17 v (ix2 r j) = (xh 1024 ((T r).x) j : EReal) := by
  unfold k0_pay17 k0_pay15
  pointwise [h, xr_at h, coe_mul']
  rfl
theorem cr_at {v : Vec Ideal S512x256 .f32} (h : ∀ r j, v (ix2 r j) = (ckv (T r) j : EReal)) (r z) : k0_pay41 v (ix2 r z) = (rr 256 (ckv (T r)) : EReal) := by
  unfold k0_pay41 k0_pay40
  pointwise [h, coe_mul', coe_sum, lit_256, lit_eps]
  rw [div_coe_coe _ _ (by norm_num), coe_add']
  exact rsqrt_pos _ (ms_pos (by norm_num) _)
theorem ch_at {v : Vec Ideal S512x256 .f32} (h : ∀ r j, v (ix2 r j) = (ckv (T r) j : EReal)) (r j) : k0_pay42 v (ix2 r j) = (xh 256 (ckv (T r)) j : EReal) := by
  unfold k0_pay42 k0_pay40
  pointwise [h, cr_at h, coe_mul']
  rfl
theorem qr_at {v : Vec Ideal S512x384 .f32} (h : ∀ r j, v (ix2 r j) = ((T r).cq j : EReal)) (r z) : k0_pay78 v (ix2 r z) = (rr 384 ((T r).cq) : EReal) := by
  unfold k0_pay78 k0_pay77
  pointwise [h, coe_mul', coe_sum, lit_384, lit_eps]
  rw [div_coe_coe _ _ (by norm_num), coe_add']
  exact rsqrt_pos _ (ms_pos (by norm_num) _)
theorem qh_at {v : Vec Ideal S512x384 .f32} (h : ∀ r j, v (ix2 r j) = ((T r).cq j : EReal)) (r j) : k0_pay79 v (ix2 r j) = (xh 384 ((T r).cq) j : EReal) := by
  unfold k0_pay79 k0_pay77
  pointwise [h, qr_at h, coe_mul']
  rfl

end Cert.LatPay
end
-- ==== Proof.LatProd.lean ====
/- The products of the latent projections' backward call on one tile: the gradients of the latents and of the stream, and the tile's
   parts of the weight gradients. -/
module

public import proofs.«01_k».proof.Proof.LatPay

@[expose] public section

set_option maxRecDepth 16384

noncomputable section

open Idealize.ShloMosaic Idealize.ShloMosaic.TcCoe Idealize.SL.Sem

namespace Cert.LatProd

open Cert.LatIdeal Cert.LatIdeal.Gen Cert.LatMath Cert.Reals Cert.LatPay

variable {K : Wts} {T : Fin 512 → Row}

section shared

variable {c : Vec Ideal S512x256 .f32} {g : Vec Ideal S1x256 .f32} {D : Vec Ideal S512x1024 .bf16}
  (hc : ∀ r j, c (ix2 r j) = (ckv (T r) j : EReal)) (hg : ∀ z j, g (ix2 z j) = (K.ckvn j : EReal)) (hD : ∀ r q, D (ix2 r q) = (dkvu (T r) q : EReal))
include hc hg hD

theorem wukv_at (j q) : k0_pay43 c g D (ix2 j q) = ((∑ r, xh 256 (ckv (T r)) j * K.ckvn j * dkvu (T r) q : ℝ) : EReal) := by
  unfold k0_pay43
  pointwise [ch_at hc, hg, hD, coe_mul', coe_sum]
theorem u0_at {o : Vec Ideal S1x256x128 .f32} {a : Fin 256 → Fin 128 → ℝ} (h : ∀ z j l, o (ix3 z j l) = (a j l : EReal)) (z j l) :
    k0_pay44 c g D o (ix3 z j l) = ((a j l + ∑ r, gwukv K (T r) 0 j l : ℝ) : EReal) := by
  unfold k0_pay44
  pointwise [h, wukv_at hc hg hD, coe_add']
  rw [show (⟨l.val, by omega⟩ : Fin 1024) = hd 0 l from Fin.ext (by show l.val = 128 * 0 + l.val; omega)]
  rfl
theorem u1_at {o : Vec Ideal S1x256x128 .f32} {a : Fin 256 → Fin 128 → ℝ} (h : ∀ z j l, o (ix3 z j l) = (a j l : EReal)) (z j l) :
    k0_pay45 c g D o (ix3 z j l) = ((a j l + ∑ r, gwukv K (T r) 1 j l : ℝ) : EReal) := by
  unfold k0_pay45
  pointwise [h, wukv_at hc hg hD, coe_add']
  rfl
theorem u2_at {o : Vec Ideal S1x256x128 .f32} {a : Fin 256 → Fin 128 → ℝ} (h : ∀ z j l, o (ix3 z j l) = (a j l : EReal)) (z j l) :
    k0_pay46 (k0_pay43 c g D) o (ix3 z j l) = ((a j l + ∑ r, gwukv K (T r) 2 j l : ℝ) : EReal) := by
  unfold k0_pay46
  pointwise [h, wukv_at hc hg hD, coe_add']
  rfl
theorem u3_at {o : Vec Ideal S1x256x128 .f32} {a : Fin 256 → Fin 128 → ℝ} (h : ∀ z j l, o (ix3 z j l) = (a j l : EReal)) (z j l) :
    k0_pay47 (k0_pay43 c g D) o (ix3 z j l) = ((a j l + ∑ r, gwukv K (T r) 3 j l : ℝ) : EReal) := by
  unfold k0_pay47
  pointwise [h, wukv_at hc hg hD, coe_add']
  rfl
theorem u4_at {o : Vec Ideal S1x256x128 .f32} {a : Fin 256 → Fin 128 → ℝ} (h : ∀ z j l, o (ix3 z j l) = (a j l : EReal)) (z j l) :
    k0_pay48 (k0_pay43 c g D) o (ix3 z j l) = ((a j l + ∑ r, gwukv K (T r) 4 j l : ℝ) : EReal) := by
  unfold k0_pay48
  pointwise [h, wukv_at hc hg hD, coe_add']
  rfl
theorem u5_at {o : Vec Ideal S1x256x128 .f32} {a : Fin 256 → Fin 128 → ℝ} (h : ∀ z j l, o (ix3 z j l) = (a j l : EReal)) (z j l) :
    k0_pay49 (k0_pay43 c g D) o (ix3 z j l) = ((a j l + ∑ r, gwukv K (T r) 5 j l : ℝ) : EReal) := by
  unfold k0_pay49
  pointwise [h, wukv_at hc hg hD, coe_add']
  rfl
theorem u6_at {o : Vec Ideal S1x256x128 .f32} {a : Fin 256 → Fin 128 → ℝ} (h : ∀ z j l, o (ix3 z j l) = (a j l : EReal)) (z j l) :
    k0_pay51 (k0_pay50 (k0_pay43 c g D) o) (ix3 z j l) = ((a j l + ∑ r, gwukv K (T r) 6 j l : ℝ) : EReal) := by
  unfold k0_pay51 k0_pay50
  pointwise [h, wukv_at hc hg hD, coe_add']
  rfl
theorem u7_at {o : Vec Ideal S1x256x128 .f32} {a : Fin 256 → Fin 128 → ℝ} (h : ∀ z j l, o (ix3 z j l) = (a j l : EReal)) (z j l) :
    k0_pay52 (k0_pay43 c g D) o (ix3 z j l) = ((a j l + ∑ r, gwukv K (T r) 7 j l : ℝ) : EReal) := by
  unfold k0_pay52
  pointwise [h, wukv_at hc hg hD, coe_add']
  rfl

variable {U : Vec Ideal S256x1024 .bf16} (hU : ∀ j q, U (ix2 j q) = (K.wukv j q : EReal))
include hU

theorem dckvn_at (r j) : k0_pay53 D U (ix2 r j) = (dckvn K (T r) j : EReal) := by
  unfold k0_pay53
  pointwise [hD, hU, coe_mul', coe_sum]
  rfl
theorem ckvn_at {o : Vec Ideal S1x256 .f32} {a : Fin 256 → ℝ} (h : ∀ z j, o (ix2 z j) = (a j : EReal)) (z j) :
    k0_pay54 (k0_pay42 c) D U o (ix2 z j) = ((a j + ∑ r, gckvn K (T r) j : ℝ) : EReal) := by
  unfold k0_pay54
  pointwise [h, dckvn_at hc hg hD hU, ch_at hc, coe_mul', coe_sum, coe_add']
  rfl

variable {k : FVec Ideal S512x128 .f32} (hk : ∀ r l, k (ix2 r l) = (dkr (T r) l : EReal))
include hk

theorem dckr_at (r i) : k0_pay57 k (k0_pay55 (k0_pay42 c) D U g) (k0_pay56 (k0_pay41 c)) (ix2 r i) = (dckr K (T r) i : EReal) := by
  unfold k0_pay57 k0_pay55 k0_pay56
  pointwise [dckvn_at hc hg hD hU, ch_at hc, cr_at hc, hg, hk, lit_256, coe_mul', coe_sum, div_coe_coe _ _ (show (256 : ℝ) ≠ 0 by norm_num), coe_sub']
  unfold dckr
  split_ifs <;> rfl

theorem dh2_at {W : Vec Ideal S1024x384 .bf16} (hW : ∀ k i, W (ix2 k i) = (K.wdkv k i : EReal)) (r j) :
    k0_pay59 k (k0_pay55 (k0_pay42 c) D U g) (k0_pay56 (k0_pay41 c)) W (ix2 r j) = (dh2 K (T r) j : EReal) := by
  unfold k0_pay59
  pointwise [dckr_at hc hg hD hU hk, hW, coe_mul', coe_sum]
  rfl
theorem wdkv_at {x : Vec Ideal S512x1024 .f32} (hx : ∀ r j, x (ix2 r j) = ((T r).x j : EReal)) {n : Vec Ideal S1x1024 .f32} (hn : ∀ z j, n (ix2 z j) = (K.kvn j : EReal))
    {o : Vec Ideal S1024x384 .f32} {a : Fin 1024 → Fin 384 → ℝ} (h : ∀ j i, o (ix2 j i) = (a j i : EReal)) (j i) :
    k0_pay58 (k0_pay17 x) k (k0_pay55 (k0_pay42 c) D U g) (k0_pay56 (k0_pay41 c)) o n (ix2 j i) = ((a j i + ∑ r, gwdkv K (T r) j i : ℝ) : EReal) := by
  unfold k0_pay58
  pointwise [dckr_at hc hg hD hU hk, xh_at hx, hn, h, coe_mul', coe_sum, coe_add']
  rfl

end shared

section query

variable {c : Vec Ideal S512x384 .f32} {g : Vec Ideal S1x384 .f32} {D : Vec Ideal S512x1024 .bf16}
  (hc : ∀ r j, c (ix2 r j) = ((T r).cq j : EReal)) (hg : ∀ z j, g (ix2 z j) = (K.qn j : EReal)) (hD : ∀ r q, D (ix2 r q) = (dquu (T r) q : EReal))
include hc hg hD

theorem wuq_at (j q) : k0_pay80 c g D (ix2 j q) = ((∑ r, xh 384 (T r).cq j * K.qn j * dquu (T r) q : ℝ) : EReal) := by
  unfold k0_pay80
  pointwise [qh_at hc, hg, hD, coe_mul', coe_sum]
theorem v0_at {o : Vec Ideal S1x384x128 .f32} {a : Fin 384 → Fin 128 → ℝ} (h : ∀ z j l, o (ix3 z j l) = (a j l : EReal)) (z j l) :
    k0_pay81 c g D o (ix3 z j l) = ((a j l + ∑ r, gwuq K (T r) 0 j l : ℝ) : EReal) := by
  unfold k0_pay81
  pointwise [h, wuq_at hc hg hD, coe_add']
  rw [show (⟨l.val, by omega⟩ : Fin 1024) = hd 0 l from Fin.ext (by show l.val = 128 * 0 + l.val; omega)]
  rfl
theorem v1_at {o : Vec Ideal S1x384x128 .f32} {a : Fin 384 → Fin 128 → ℝ} (h : ∀ z j l, o (ix3 z j l) = (a j l : EReal)) (z j l) :
    k0_pay82 c g D o (ix3 z j l) = ((a j l + ∑ r, gwuq K (T r) 1 j l : ℝ) : EReal) := by
  unfold k0_pay82
  pointwise [h, wuq_at hc hg hD, coe_add']
  rfl
theorem v2_at {o : Vec Ideal S1x384x128 .f32} {a : Fin 384 → Fin 128 → ℝ} (h : ∀ z j l, o (ix3 z j l) = (a j l : EReal)) (z j l) :
    k0_pay83 (k0_pay80 c g D) o (ix3 z j l) = ((a j l + ∑ r, gwuq K (T r) 2 j l : ℝ) : EReal) := by
  unfold k0_pay83
  pointwise [h, wuq_at hc hg hD, coe_add']
  rfl
theorem v3_at {o : Vec Ideal S1x384x128 .f32} {a : Fin 384 → Fin 128 → ℝ} (h : ∀ z j l, o (ix3 z j l) = (a j l : EReal)) (z j l) :
    k0_pay84 (k0_pay80 c g D) o (ix3 z j l) = ((a j l + ∑ r, gwuq K (T r) 3 j l : ℝ) : EReal) := by
  unfold k0_pay84
  pointwise [h, wuq_at hc hg hD, coe_add']
  rfl
theorem v4_at {o : Vec Ideal S1x384x128 .f32} {a : Fin 384 → Fin 128 → ℝ} (h : ∀ z j l, o (ix3 z j l) = (a j l : EReal)) (z j l) :
    k0_pay85 (k0_pay80 c g D) o (ix3 z j l) = ((a j l + ∑ r, gwuq K (T r) 4 j l : ℝ) : EReal) := by
  unfold k0_pay85
  pointwise [h, wuq_at hc hg hD, coe_add']
  rfl
theorem v5_at {o : Vec Ideal S1x384x128 .f32} {a : Fin 384 → Fin 128 → ℝ} (h : ∀ z j l, o (ix3 z j l) = (a j l : EReal)) (z j l) :
    k0_pay86 (k0_pay80 c g D) o (ix3 z j l) = ((a j l + ∑ r, gwuq K (T r) 5 j l : ℝ) : EReal) := by
  unfold k0_pay86
  pointwise [h, wuq_at hc hg hD, coe_add']
  rfl
theorem v6_at {o : Vec Ideal S1x384x128 .f32} {a : Fin 384 → Fin 128 → ℝ} (h : ∀ z j l, o (ix3 z j l) = (a j l : EReal)) (z j l) :
    k0_pay87 (k0_pay80 c g D) o (ix3 z j l) = ((a j l + ∑ r, gwuq K (T r) 6 j l : ℝ) : EReal) := by
  unfold k0_pay87
  pointwise [h, wuq_at hc hg hD, coe_add']
  rfl
theorem v7_at {o : Vec Ideal S1x384x128 .f32} {a : Fin 384 → Fin 128 → ℝ} (h : ∀ z j l, o (ix3 z j l) = (a j l : EReal)) (z j l) :
    k0_pay88 (k0_pay80 c g D) o (ix3 z j l) = ((a j l + ∑ r, gwuq K (T r) 7 j l : ℝ) : EReal) := by
  unfold k0_pay88
  pointwise [h, wuq_at hc hg hD, coe_add']
  rfl

variable {U : Vec Ideal S384x1024 .bf16} (hU : ∀ j q, U (ix2 j q) = (K.wuq j q : EReal))
include hU

theorem dcqn_at (r j) : k0_pay89 D U (ix2 r j) = (dcqn K (T r) j : EReal) := by
  unfold k0_pay89
  pointwise [hD, hU, coe_mul', coe_sum]
  rfl
theorem qn_at {o : Vec Ideal S1x384 .f32} {a : Fin 384 → ℝ} (h : ∀ z j, o (ix2 z j) = (a j : EReal)) (z j) :
    k0_pay90 (k0_pay79 c) D U o (ix2 z j) = ((a j + ∑ r, gqn K (T r) j : ℝ) : EReal) := by
  unfold k0_pay90
  pointwise [h, dcqn_at hc hg hD hU, qh_at hc, coe_mul', coe_sum, coe_add']
  rfl

variable {G : Vec Ideal S512x512 .bf16} (hG : ∀ r i, G (ix2 r i) = ((T r).dg i : EReal))
include hG

theorem dpb_at (r i) : k0_pay93 (k0_pay78 c) (k0_pay79 c) (k0_pay91 D U g) (k0_pay92 (k0_pay79 c) D U g) G (ix2 r i) = (dpb K (T r) i : EReal) := by
  unfold k0_pay93 k0_pay92 k0_pay91
  pointwise [dcqn_at hc hg hD hU, qh_at hc, qr_at hc, hg, hG, lit_384, coe_mul', coe_sum, div_coe_coe _ _ (show (384 : ℝ) ≠ 0 by norm_num), coe_sub']
  unfold dpb
  split_ifs <;> rfl

theorem dh3_at {W : Vec Ideal S1024x896 .bf16} (hW : ∀ k i, W (ix2 k i) = (K.bwin k i : EReal)) (r j) :
    k0_pay95 (k0_pay78 c) (k0_pay79 c) (k0_pay91 D U g) (k0_pay92 (k0_pay79 c) D U g) G W (ix2 r j) = (dh3 K (T r) j : EReal) := by
  unfold k0_pay95
  pointwise [dpb_at hc hg hD hU hG, hW, coe_mul', coe_sum]
  rfl

variable {x : Vec Ideal S512x1024 .f32} (hx : ∀ r j, x (ix2 r j) = ((T r).x j : EReal))
include hx

theorem wbin_at {n : Vec Ideal S1x1024 .f32} (hn : ∀ z j, n (ix2 z j) = (K.bn j : EReal))
    {o : Vec Ideal S1024x896 .f32} {a : Fin 1024 → Fin 896 → ℝ} (h : ∀ j i, o (ix2 j i) = (a j i : EReal)) (j i) :
    k0_pay94 (k0_pay17 x) (k0_pay78 c) (k0_pay79 c) (k0_pay91 D U g) (k0_pay92 (k0_pay79 c) D U g) G o n (ix2 j i) = ((a j i + ∑ r, gwbin K (T r) j i : ℝ) : EReal) := by
  unfold k0_pay94
  pointwise [dpb_at hc hg hD hU hG, xh_at hx, hn, h, coe_mul', coe_sum, coe_add']
  rfl
theorem bn_at {W : Vec Ideal S1024x896 .bf16} (hW : ∀ k i, W (ix2 k i) = (K.bwin k i : EReal)) {o : Vec Ideal S1x1024 .f32} {a : Fin 1024 → ℝ} (h : ∀ z j, o (ix2 z j) = (a j : EReal)) (z j) :
    k0_pay97 (k0_pay17 x) (k0_pay78 c) (k0_pay79 c) (k0_pay91 D U g) (k0_pay92 (k0_pay79 c) D U g) G W o (ix2 z j) = ((a j + ∑ r, gbn K (T r) j : ℝ) : EReal) := by
  unfold k0_pay97
  pointwise [dh3_at hc hg hD hU hG hW, xh_at hx, h, coe_mul', coe_sum, coe_add']
  rfl

end query

section stream

variable {x : Vec Ideal S512x1024 .f32} (hx : ∀ r j, x (ix2 r j) = ((T r).x j : EReal)) {d2 : FVec Ideal S512x1024 .f32} (h2 : ∀ r j, d2 (ix2 r j) = (dh2 K (T r) j : EReal))
include hx h2

theorem kvn_at {o : Vec Ideal S1x1024 .f32} {a : Fin 1024 → ℝ} (h : ∀ z j, o (ix2 z j) = (a j : EReal)) (z j) :
    k0_pay96 (k0_pay17 x) d2 o (ix2 z j) = ((a j + ∑ r, gkvn K (T r) j : ℝ) : EReal) := by
  unfold k0_pay96
  pointwise [h, h2, xh_at hx, coe_mul', coe_sum, coe_add']
  rfl
theorem dx_at {d3 : FVec Ideal S512x1024 .f32} (h3 : ∀ r j, d3 (ix2 r j) = (dh3 K (T r) j : EReal)) {y : Vec Ideal S512x1024 .f32} (hy : ∀ r j, y (ix2 r j) = ((T r).dX j : EReal))
    {n b : Vec Ideal S1x1024 .f32} (hn : ∀ z j, n (ix2 z j) = (K.kvn j : EReal)) (hb : ∀ z j, b (ix2 z j) = (K.bn j : EReal)) (r j) :
    k0_pay1 (k0_pay16 x) (k0_pay17 x) d2 d3 y n b (ix2 r j) = (dx K (T r) j : EReal) := by
  unfold k0_pay1
  pointwise [h2, h3, hy, hn, hb, xh_at hx, xr_at hx, lit_1024, coe_mul', coe_sum, div_coe_coe _ _ (show (1024 : ℝ) ≠ 0 by norm_num), coe_sub', coe_add']
  rfl

end stream

end Cert.LatProd
end
-- ==== Proof.LatBlk.lean ====
/- What the body of the latent projections' backward call loads of a point's blocks and of its two scratch tiles, at real numbers. -/
module

public import proofs.«01_k».proof.Proof.LatProd
public import proofs.«01_k».proof.Proof.Gen.LatIdeal.Frame.Runs
public import Idealize.ShloMosaic.Lib.Pipeline.ReadBack

@[expose] public section

set_option maxRecDepth 16384

noncomputable section

open Idealize.ShloMosaic Idealize.ShloMosaic.TcCoe Idealize.SL.Sem

namespace Cert.LatBlk

open Cert.LatIdeal Cert.LatIdeal.Gen Cert.LatMath Cert.Reals Cert.LatPay Cert.LatProd

/-- Nineteen blocks that hold real numbers. -/
structure Blk (x0 : Vec Ideal S512x1024 .bf16) (x1 : Vec Ideal S512x1024 .bf16) (x2 : Vec Ideal S512x1024 .bf16) (x3 : Vec Ideal S512x512 .bf16) (x4 : Vec Ideal S512x384 .f32) (x5 : Vec Ideal S512x384 .f32) (x6 : Vec Ideal S512x1024 .f32) (x7 : Vec Ideal S512x1024 .f32) (x8 : Vec Ideal S512x128 .f32) (x9 : Vec Ideal S512x128 .f32) (x10 : Vec Ideal S8x128 .f32) (x11 : Vec Ideal S1x1024 .f32) (x12 : Vec Ideal S1024x384 .bf16) (x13 : Vec Ideal S1x256 .f32) (x14 : Vec Ideal S256x1024 .bf16) (x15 : Vec Ideal S1x1024 .f32) (x16 : Vec Ideal S1024x896 .bf16) (x17 : Vec Ideal S1x384 .f32) (x18 : Vec Ideal S384x1024 .bf16) (K : Wts) (T : Fin 512 → Row) : Prop where
  h0 : ∀ r q, x0 (ix2 r q) = ((T r).dq q : EReal)
  h1 : ∀ r q, x1 (ix2 r q) = ((T r).dk q : EReal)
  h2 : ∀ r q, x2 (ix2 r q) = ((T r).dv q : EReal)
  h3 : ∀ r k, x3 (ix2 r k) = ((T r).dg k : EReal)
  h4 : ∀ r k, x4 (ix2 r k) = ((T r).cq k : EReal)
  h5 : ∀ r k, x5 (ix2 r k) = ((T r).ckr k : EReal)
  h6 : ∀ r k, x6 (ix2 r k) = ((T r).x k : EReal)
  h7 : ∀ r k, x7 (ix2 r k) = ((T r).dX k : EReal)
  h8 : ∀ r l, x8 (ix2 r l) = ((T r).cs l : EReal)
  h9 : ∀ r l, x9 (ix2 r l) = ((T r).sn l : EReal)
  s1 : ∀ l, x10 (ix2 1 l) = (sg1 l : EReal)
  s2 : ∀ l, x10 (ix2 2 l) = (sg2 l : EReal)
  h11 : ∀ z k, x11 (ix2 z k) = (K.kvn k : EReal)
  h12 : ∀ k i, x12 (ix2 k i) = (K.wdkv k i : EReal)
  h13 : ∀ z k, x13 (ix2 z k) = (K.ckvn k : EReal)
  h14 : ∀ k i, x14 (ix2 k i) = (K.wukv k i : EReal)
  h15 : ∀ z k, x15 (ix2 z k) = (K.bn k : EReal)
  h16 : ∀ k i, x16 (ix2 k i) = (K.bwin k i : EReal)
  h17 : ∀ z k, x17 (ix2 z k) = (K.qn k : EReal)
  h18 : ∀ k i, x18 (ix2 k i) = (K.wuq k i : EReal)

/-- The lanes of a head, loaded by themselves. -/
theorem head_ld {x : Vec Ideal S512x1024 .bf16} {f : Fin 512 → Fin 1024 → ℝ} (H : ∀ r q, x (ix2 r q) = (f r q : EReal)) (o : ℕ) (inb) (h : Fin 8) (ho : 128 * h.val = o)
    (r : Fin 512) (l : Fin 128) : View.ld x (Rect.unit (s := S512x1024) ![0, o] S512x128.size inb) (ix2 r l) = (f r (hd h l) : EReal) := by
  refine Eq.trans ?_ (H r (hd h l))
  show x _ = x _
  congr 1
  funext a
  refine Fin.cases ?_ (fun b => Fin.cases ?_ (fun i => i.elim0) b) a
  · apply Fin.ext; show 0 + 1 * r.val = r.val; omega
  · apply Fin.ext; show o + 1 * l.val = 128 * h.val + l.val; omega
theorem ckv_ld {x : Vec Ideal S512x384 .f32} {T : Fin 512 → Row} (H : ∀ r k, x (ix2 r k) = ((T r).ckr k : EReal)) (inb) (r : Fin 512) (j : Fin 256) :
    View.ld x (Rect.unit (s := S512x384) ![0, 0] S512x256.size inb) (ix2 r j) = (ckv (T r) j : EReal) := by
  refine Eq.trans ?_ (H r (lo j))
  show x _ = x _
  congr 1
  funext a
  refine Fin.cases ?_ (fun b => Fin.cases ?_ (fun i => i.elim0) b) a
  · apply Fin.ext; show 0 + 1 * r.val = r.val; omega
  · apply Fin.ext; show 0 + 1 * j.val = j.val; omega

/-- A slab of a weight gradient, loaded by itself. -/
theorem slab384 {P : Vec Ideal S8x384x128 .f32} {f : Fin 8 → Fin 384 → Fin 128 → ℝ} (H : ∀ h j l, P (ix3 h j l) = (f h j l : EReal)) (o : ℕ) (inb) (h : Fin 8) (ho : h.val = o)
    (z : Fin 1) (j : Fin 384) (l : Fin 128) : View.ld P (Rect.unit (s := S8x384x128) ![o, 0, 0] S1x384x128.size inb) (ix3 z j l) = (f h j l : EReal) := by
  refine Eq.trans ?_ (H h j l)
  show P _ = P _
  congr 1
  funext a
  refine Fin.cases ?_ (fun b => Fin.cases ?_ (fun d => Fin.cases ?_ (fun i => i.elim0) d) b) a
  · apply Fin.ext; show o + 1 * z.val = h.val; omega
  · apply Fin.ext; show 0 + 1 * j.val = j.val; omega
  · apply Fin.ext; show 0 + 1 * l.val = l.val; omega
theorem slab256 {P : Vec Ideal S8x256x128 .f32} {f : Fin 8 → Fin 256 → Fin 128 → ℝ} (H : ∀ h j l, P (ix3 h j l) = (f h j l : EReal)) (o : ℕ) (inb) (h : Fin 8) (ho : h.val = o)
    (z : Fin 1) (j : Fin 256) (l : Fin 128) : View.ld P (Rect.unit (s := S8x256x128) ![o, 0, 0] S1x256x128.size inb) (ix3 z j l) = (f h j l : EReal) := by
  refine Eq.trans ?_ (H h j l)
  show P _ = P _
  congr 1
  funext a
  refine Fin.cases ?_ (fun b => Fin.cases ?_ (fun d => Fin.cases ?_ (fun i => i.elim0) d) b) a
  · apply Fin.ext; show o + 1 * z.val = h.val; omega
  · apply Fin.ext; show 0 + 1 * j.val = j.val; omega
  · apply Fin.ext; show 0 + 1 * l.val = l.val; omega

/-- A weight gradient stored slab by slab. -/
def slab384F (f : Fin 8 → Fin 384 → Fin 128 → ℝ) (y : S8x384x128.Idx) : EReal := (f (y 0) (y 1) (y 2) : EReal)
theorem slabs384 {f : Fin 8 → Fin 384 → Fin 128 → ℝ} {p0 p1 p2 p3 p4 p5 p6 p7 : Vec Ideal S1x384x128 .f32}
    (e0 : ∀ z j l, p0 (ix3 z j l) = (f 0 j l : EReal)) (e1 : ∀ z j l, p1 (ix3 z j l) = (f 1 j l : EReal)) (e2 : ∀ z j l, p2 (ix3 z j l) = (f 2 j l : EReal)) (e3 : ∀ z j l, p3 (ix3 z j l) = (f 3 j l : EReal)) (e4 : ∀ z j l, p4 (ix3 z j l) = (f 4 j l : EReal)) (e5 : ∀ z j l, p5 (ix3 z j l) = (f 5 j l : EReal)) (e6 : ∀ z j l, p6 (ix3 z j l) = (f 6 j l : EReal)) (e7 : ∀ z j l, p7 (ix3 z j l) = (f 7 j l : EReal)) :
    View.PiecesOf (Val := Elt Ideal) (e := .f32) (slab384F f)
    [⟨Rect.unit ![7, 0, 0] ![1, 384, 128] inb_S8x384x128_S1x384x128_7_0_0, p7⟩,
     ⟨Rect.unit ![6, 0, 0] ![1, 384, 128] inb_S8x384x128_S1x384x128_6_0_0, p6⟩,
     ⟨Rect.unit ![5, 0, 0] ![1, 384, 128] inb_S8x384x128_S1x384x128_5_0_0, p5⟩,
     ⟨Rect.unit ![4, 0, 0] ![1, 384, 128] inb_S8x384x128_S1x384x128_4_0_0, p4⟩,
     ⟨Rect.unit ![3, 0, 0] ![1, 384, 128] inb_S8x384x128_S1x384x128_3_0_0, p3⟩,
     ⟨Rect.unit ![2, 0, 0] ![1, 384, 128] inb_S8x384x128_S1x384x128_2_0_0, p2⟩,
     ⟨Rect.unit ![1, 0, 0] ![1, 384, 128] inb_S8x384x128_S1x384x128_1_0_0, p1⟩,
     ⟨Rect.unit ![0, 0, 0] ![1, 384, 128] inb_S8x384x128_S1x384x128_0_0_0, p0⟩] := by
  have key : ∀ (o : ℕ) (inb) (h : Fin 8) (p : Vec Ideal S1x384x128 .f32) (e : ∀ z j l, p (ix3 z j l) = (f h j l : EReal)) (ho : h.val = o) (x : S1x384x128.Idx),
      p x = slab384F f ((Rect.unit (s := S8x384x128) ![o, 0, 0] ![1, 384, 128] inb).emb x) := by
    intro o inb h p e ho x
    obtain ⟨z, j, l, rfl⟩ : ∃ (z : Fin 1) (j : Fin 384) (l : Fin 128), x = ix3 z j l := ⟨x 0, x 1, x 2, by idx_ext⟩
    obtain rfl : z = 0 := Subsingleton.elim _ _
    rw [e, show (Rect.unit (s := S8x384x128) ![o, 0, 0] ![1, 384, 128] inb).emb (ix3 0 j l) = ix3 h j l from by idx_ext]
    rfl
  exact ⟨key _ inb_S8x384x128_S1x384x128_7_0_0 7 _ e7 rfl, key _ inb_S8x384x128_S1x384x128_6_0_0 6 _ e6 rfl, key _ inb_S8x384x128_S1x384x128_5_0_0 5 _ e5 rfl, key _ inb_S8x384x128_S1x384x128_4_0_0 4 _ e4 rfl, key _ inb_S8x384x128_S1x384x128_3_0_0 3 _ e3 rfl, key _ inb_S8x384x128_S1x384x128_2_0_0 2 _ e2 rfl, key _ inb_S8x384x128_S1x384x128_1_0_0 1 _ e1 rfl, key _ inb_S8x384x128_S1x384x128_0_0_0 0 _ e0 rfl, trivial⟩

/-- A weight gradient stored slab by slab. -/
def slab256F (f : Fin 8 → Fin 256 → Fin 128 → ℝ) (y : S8x256x128.Idx) : EReal := (f (y 0) (y 1) (y 2) : EReal)
theorem slabs256 {f : Fin 8 → Fin 256 → Fin 128 → ℝ} {p0 p1 p2 p3 p4 p5 p6 p7 : Vec Ideal S1x256x128 .f32}
    (e0 : ∀ z j l, p0 (ix3 z j l) = (f 0 j l : EReal)) (e1 : ∀ z j l, p1 (ix3 z j l) = (f 1 j l : EReal)) (e2 : ∀ z j l, p2 (ix3 z j l) = (f 2 j l : EReal)) (e3 : ∀ z j l, p3 (ix3 z j l) = (f 3 j l : EReal)) (e4 : ∀ z j l, p4 (ix3 z j l) = (f 4 j l : EReal)) (e5 : ∀ z j l, p5 (ix3 z j l) = (f 5 j l : EReal)) (e6 : ∀ z j l, p6 (ix3 z j l) = (f 6 j l : EReal)) (e7 : ∀ z j l, p7 (ix3 z j l) = (f 7 j l : EReal)) :
    View.PiecesOf (Val := Elt Ideal) (e := .f32) (slab256F f)
    [⟨Rect.unit ![7, 0, 0] ![1, 256, 128] inb_S8x256x128_S1x256x128_7_0_0, p7⟩,
     ⟨Rect.unit ![6, 0, 0] ![1, 256, 128] inb_S8x256x128_S1x256x128_6_0_0, p6⟩,
     ⟨Rect.unit ![5, 0, 0] ![1, 256, 128] inb_S8x256x128_S1x256x128_5_0_0, p5⟩,
     ⟨Rect.unit ![4, 0, 0] ![1, 256, 128] inb_S8x256x128_S1x256x128_4_0_0, p4⟩,
     ⟨Rect.unit ![3, 0, 0] ![1, 256, 128] inb_S8x256x128_S1x256x128_3_0_0, p3⟩,
     ⟨Rect.unit ![2, 0, 0] ![1, 256, 128] inb_S8x256x128_S1x256x128_2_0_0, p2⟩,
     ⟨Rect.unit ![1, 0, 0] ![1, 256, 128] inb_S8x256x128_S1x256x128_1_0_0, p1⟩,
     ⟨Rect.unit ![0, 0, 0] ![1, 256, 128] inb_S8x256x128_S1x256x128_0_0_0, p0⟩] := by
  have key : ∀ (o : ℕ) (inb) (h : Fin 8) (p : Vec Ideal S1x256x128 .f32) (e : ∀ z j l, p (ix3 z j l) = (f h j l : EReal)) (ho : h.val = o) (x : S1x256x128.Idx),
      p x = slab256F f ((Rect.unit (s := S8x256x128) ![o, 0, 0] ![1, 256, 128] inb).emb x) := by
    intro o inb h p e ho x
    obtain ⟨z, j, l, rfl⟩ : ∃ (z : Fin 1) (j : Fin 256) (l : Fin 128), x = ix3 z j l := ⟨x 0, x 1, x 2, by idx_ext⟩
    obtain rfl : z = 0 := Subsingleton.elim _ _
    rw [e, show (Rect.unit (s := S8x256x128) ![o, 0, 0] ![1, 256, 128] inb).emb (ix3 0 j l) = ix3 h j l from by idx_ext]
    rfl
  exact ⟨key _ inb_S8x256x128_S1x256x128_7_0_0 7 _ e7 rfl, key _ inb_S8x256x128_S1x256x128_6_0_0 6 _ e6 rfl, key _ inb_S8x256x128_S1x256x128_5_0_0 5 _ e5 rfl, key _ inb_S8x256x128_S1x256x128_4_0_0 4 _ e4 rfl, key _ inb_S8x256x128_S1x256x128_3_0_0 3 _ e3 rfl, key _ inb_S8x256x128_S1x256x128_2_0_0 2 _ e2 rfl, key _ inb_S8x256x128_S1x256x128_1_0_0 1 _ e1 rfl, key _ inb_S8x256x128_S1x256x128_0_0_0 0 _ e0 rfl, trivial⟩

def tileF (f : Fin 512 → Fin 1024 → ℝ) (y : S512x1024.Idx) : EReal := (f (y 0) (y 1) : EReal)

/-- A scratch tile stored head by head and read back whole. -/
theorem heads (v : View sig .tc .vmem S512x1024 .bf16) (f : Fin 512 → Fin 1024 → ℝ) {p0 p1 p2 p3 p4 p5 p6 p7 : Vec Ideal S512x128 .bf16}
    (e0 : ∀ r l, p0 (ix2 r l) = (f r (hd 0 l) : EReal)) (e1 : ∀ r l, p1 (ix2 r l) = (f r (hd 1 l) : EReal)) (e2 : ∀ r l, p2 (ix2 r l) = (f r (hd 2 l) : EReal)) (e3 : ∀ r l, p3 (ix2 r l) = (f r (hd 3 l) : EReal)) (e4 : ∀ r l, p4 (ix2 r l) = (f r (hd 4 l) : EReal)) (e5 : ∀ r l, p5 (ix2 r l) = (f r (hd 5 l) : EReal)) (e6 : ∀ r l, p6 (ix2 r l) = (f r (hd 6 l) : EReal)) (e7 : ∀ r l, p7 (ix2 r l) = (f r (hd 7 l) : EReal)) (r : Fin 512) (q : Fin 1024) :
    v.readCov (Val := Elt Ideal) [⟨Rect.unit ![0, 896] S512x128.size inb_S512x1024_S512x128_0_896, p7⟩,
      ⟨Rect.unit ![0, 768] S512x128.size inb_S512x1024_S512x128_0_768, p6⟩,
      ⟨Rect.unit ![0, 640] S512x128.size inb_S512x1024_S512x128_0_640, p5⟩,
      ⟨Rect.unit ![0, 512] S512x128.size inb_S512x1024_S512x128_0_512, p4⟩,
      ⟨Rect.unit ![0, 384] S512x128.size inb_S512x1024_S512x128_0_384, p3⟩,
      ⟨Rect.unit ![0, 256] S512x128.size inb_S512x1024_S512x128_0_256, p2⟩,
      ⟨Rect.unit ![0, 128] S512x128.size inb_S512x1024_S512x128_0_128, p1⟩,
      ⟨Rect.unit ![0, 0] S512x128.size inb_S512x1024_S512x128_0_0, p0⟩]
      (Rect.unit (s := S512x1024) ![0, 0] S512x1024.size inb_S512x1024_S512x1024_0_0).toLoadRect (ix2 r q) = (f r q : EReal) := by
  have e : (Rect.unit (s := S512x1024) ![0, 0] S512x1024.size inb_S512x1024_S512x1024_0_0).toLoadRect.idx (ix2 r q) = ix2 r q := by
    funext a
    refine Fin.cases ?_ (fun b => Fin.cases ?_ (fun i => i.elim0) b) a
    · apply Fin.ext; show 0 + 1 * r.val = r.val; omega
    · apply Fin.ext; show 0 + 1 * q.val = q.val; omega
  show v.read (Elt Ideal) (v.writes (Elt Ideal) v.junk _) _ = _
  rw [e]
  have cov : ∀ y : S512x1024.Idx, ∃ pc ∈ ([⟨Rect.unit ![0, 896] S512x128.size inb_S512x1024_S512x128_0_896, p7⟩,
      ⟨Rect.unit ![0, 768] S512x128.size inb_S512x1024_S512x128_0_768, p6⟩,
      ⟨Rect.unit ![0, 640] S512x128.size inb_S512x1024_S512x128_0_640, p5⟩,
      ⟨Rect.unit ![0, 512] S512x128.size inb_S512x1024_S512x128_0_512, p4⟩,
      ⟨Rect.unit ![0, 384] S512x128.size inb_S512x1024_S512x128_0_384, p3⟩,
      ⟨Rect.unit ![0, 256] S512x128.size inb_S512x1024_S512x128_0_256, p2⟩,
      ⟨Rect.unit ![0, 128] S512x128.size inb_S512x1024_S512x128_0_128, p1⟩,
      ⟨Rect.unit ![0, 0] S512x128.size inb_S512x1024_S512x128_0_0, p0⟩] : List (View.Piece (Elt Ideal) S512x1024 .bf16)), y ∈ pc.1.set :=
    fun y => View.cover_of_tiledL (s := S512x1024) _ S512x128.size (by sl_kernel_rfl) y
  refine (congrFun (View.read_writes_eq_canon v _ _ cov) _).trans ?_
  refine View.canon_apply_of_pieces (tileF f) _ ?_ (ix2 r q) (cov _)
  have key : ∀ (o : ℕ) (inb) (h : Fin 8) (p : Vec Ideal S512x128 .bf16) (e : ∀ r l, p (ix2 r l) = (f r (hd h l) : EReal)) (ho : 128 * h.val = o) (x : S512x128.Idx),
      p x = tileF f ((Rect.unit (s := S512x1024) ![0, o] S512x128.size inb).emb x) := by
    intro o inb h p e ho x
    obtain ⟨r, l, rfl⟩ : ∃ (r : Fin 512) (l : Fin 128), x = ix2 r l := ⟨x 0, x 1, by idx_ext⟩
    rw [e, show (Rect.unit (s := S512x1024) ![0, o] S512x128.size inb).emb (ix2 r l) = ix2 r (hd h l) from by
      funext a
      refine Fin.cases ?_ (fun b => Fin.cases ?_ (fun i => i.elim0) b) a
      · apply Fin.ext; show 0 + 1 * r.val = r.val; omega
      · apply Fin.ext; show o + 1 * l.val = 128 * h.val + l.val; omega]
    rfl
  refine @View.PiecesOf.mem S512x1024 .bf16 (Elt Ideal) (tileF f) _ ?_
  exact ⟨key _ inb_S512x1024_S512x128_0_896 7 _ e7 rfl, key _ inb_S512x1024_S512x128_0_768 6 _ e6 rfl, key _ inb_S512x1024_S512x128_0_640 5 _ e5 rfl, key _ inb_S512x1024_S512x128_0_512 4 _ e4 rfl, key _ inb_S512x1024_S512x128_0_384 3 _ e3 rfl, key _ inb_S512x1024_S512x128_0_256 2 _ e2 rfl, key _ inb_S512x1024_S512x128_0_128 1 _ e1 rfl, key _ inb_S512x1024_S512x128_0_0 0 _ e0 rfl, trivial⟩

variable {x0 : Vec Ideal S512x1024 .bf16} {x1 : Vec Ideal S512x1024 .bf16} {x2 : Vec Ideal S512x1024 .bf16} {x3 : Vec Ideal S512x512 .bf16} {x4 : Vec Ideal S512x384 .f32} {x5 : Vec Ideal S512x384 .f32} {x6 : Vec Ideal S512x1024 .f32} {x7 : Vec Ideal S512x1024 .f32} {x8 : Vec Ideal S512x128 .f32} {x9 : Vec Ideal S512x128 .f32} {x10 : Vec Ideal S8x128 .f32} {x11 : Vec Ideal S1x1024 .f32} {x12 : Vec Ideal S1024x384 .bf16} {x13 : Vec Ideal S1x256 .f32} {x14 : Vec Ideal S256x1024 .bf16} {x15 : Vec Ideal S1x1024 .f32} {x16 : Vec Ideal S1024x896 .bf16} {x17 : Vec Ideal S1x384 .f32} {x18 : Vec Ideal S384x1024 .bf16} {K : Wts} {T : Fin 512 → Row}

/-- The tile of key and value gradients, as the body keeps it; the tile of query gradients; and the shared key's. -/
def dkvD (v : View sig .tc .vmem S512x1024 .bf16) (x1 x2 : Vec Ideal S512x1024 .bf16) : Vec Ideal S512x1024 .bf16 :=
  v.readCov (Val := Elt Ideal) [⟨Rect.unit ![0, 896] S512x128.size inb_S512x1024_S512x128_0_896, k0_pay38 k0_pay14 (View.ld x1 (Rect.unit ![0, 896] S512x128.size inb_S512x1024_S512x128_0_896)) (View.ld x2 (Rect.unit ![0, 896] S512x128.size inb_S512x1024_S512x128_0_896))⟩,
      ⟨Rect.unit ![0, 768] S512x128.size inb_S512x1024_S512x128_0_768, k0_pay36 k0_pay14 (k0_pay35 (View.ld x1 (Rect.unit ![0, 768] S512x128.size inb_S512x1024_S512x128_0_768))) (View.ld x2 (Rect.unit ![0, 768] S512x128.size inb_S512x1024_S512x128_0_768))⟩,
      ⟨Rect.unit ![0, 640] S512x128.size inb_S512x1024_S512x128_0_640, k0_pay33 k0_pay14 (View.ld x1 (Rect.unit ![0, 640] S512x128.size inb_S512x1024_S512x128_0_640)) (View.ld x2 (Rect.unit ![0, 640] S512x128.size inb_S512x1024_S512x128_0_640))⟩,
      ⟨Rect.unit ![0, 512] S512x128.size inb_S512x1024_S512x128_0_512, k0_pay31 k0_pay14 (View.ld x1 (Rect.unit ![0, 512] S512x128.size inb_S512x1024_S512x128_0_512)) (View.ld x2 (Rect.unit ![0, 512] S512x128.size inb_S512x1024_S512x128_0_512))⟩,
      ⟨Rect.unit ![0, 384] S512x128.size inb_S512x1024_S512x128_0_384, k0_pay29 k0_pay14 (k0_pay27 (View.ld x1 (Rect.unit ![0, 384] S512x128.size inb_S512x1024_S512x128_0_384))) (k0_pay28 (View.ld x2 (Rect.unit ![0, 384] S512x128.size inb_S512x1024_S512x128_0_384)))⟩,
      ⟨Rect.unit ![0, 256] S512x128.size inb_S512x1024_S512x128_0_256, k0_pay25 k0_pay14 (View.ld x1 (Rect.unit ![0, 256] S512x128.size inb_S512x1024_S512x128_0_256)) (View.ld x2 (Rect.unit ![0, 256] S512x128.size inb_S512x1024_S512x128_0_256))⟩,
      ⟨Rect.unit ![0, 128] S512x128.size inb_S512x1024_S512x128_0_128, k0_pay23 k0_pay14 (View.ld x1 (Rect.unit ![0, 128] S512x128.size inb_S512x1024_S512x128_0_128)) (View.ld x2 (Rect.unit ![0, 128] S512x128.size inb_S512x1024_S512x128_0_128))⟩,
      ⟨Rect.unit ![0, 0] S512x128.size inb_S512x1024_S512x128_0_0, k0_pay21 (k0_pay20 (View.ld x1 (Rect.unit ![0, 0] S512x128.size inb_S512x1024_S512x128_0_0)) (View.ld x2 (Rect.unit ![0, 0] S512x128.size inb_S512x1024_S512x128_0_0)))⟩]
      (Rect.unit (s := S512x1024) ![0, 0] S512x1024.size inb_S512x1024_S512x1024_0_0).toLoadRect
def dquD (v : View sig .tc .vmem S512x1024 .bf16) (x0 : Vec Ideal S512x1024 .bf16) (x8 x9 : Vec Ideal S512x128 .f32) (x10 : Vec Ideal S8x128 .f32) : Vec Ideal S512x1024 .bf16 :=
  v.readCov (Val := Elt Ideal) [⟨Rect.unit ![0, 896] S512x128.size inb_S512x1024_S512x128_0_896, k0_pay76 (k0_pay75 (k0_pay10 x8) (k0_pay12 x9 x10) (k0_pay13 x9 x10) (View.ld x0 (Rect.unit ![0, 896] S512x128.size inb_S512x1024_S512x128_0_896)))⟩,
      ⟨Rect.unit ![0, 768] S512x128.size inb_S512x1024_S512x128_0_768, k0_pay74 (k0_pay10 x8) (k0_pay12 x9 x10) (k0_pay13 x9 x10) (View.ld x0 (Rect.unit ![0, 768] S512x128.size inb_S512x1024_S512x128_0_768))⟩,
      ⟨Rect.unit ![0, 640] S512x128.size inb_S512x1024_S512x128_0_640, k0_pay73 (k0_pay70 (k0_pay13 x9 x10)) (k0_pay71 (View.ld x0 (Rect.unit ![0, 640] S512x128.size inb_S512x1024_S512x128_0_640))) (k0_pay72 (k0_pay10 x8) (k0_pay12 x9 x10) (View.ld x0 (Rect.unit ![0, 640] S512x128.size inb_S512x1024_S512x128_0_640)))⟩,
      ⟨Rect.unit ![0, 512] S512x128.size inb_S512x1024_S512x128_0_512, k0_pay68 (k0_pay10 x8) (k0_pay12 x9 x10) (k0_pay13 x9 x10) (View.ld x0 (Rect.unit ![0, 512] S512x128.size inb_S512x1024_S512x128_0_512))⟩,
      ⟨Rect.unit ![0, 384] S512x128.size inb_S512x1024_S512x128_0_384, k0_pay67 (k0_pay10 x8) (k0_pay64 (View.ld x0 (Rect.unit ![0, 384] S512x128.size inb_S512x1024_S512x128_0_384))) (k0_pay65 (k0_pay12 x9 x10)) (k0_pay66 (k0_pay13 x9 x10)) 112#32⟩,
      ⟨Rect.unit ![0, 256] S512x128.size inb_S512x1024_S512x128_0_256, k0_pay63 (k0_pay10 x8) (k0_pay12 x9 x10) (k0_pay13 x9 x10) (View.ld x0 (Rect.unit ![0, 256] S512x128.size inb_S512x1024_S512x128_0_256))⟩,
      ⟨Rect.unit ![0, 128] S512x128.size inb_S512x1024_S512x128_0_128, k0_pay62 (k0_pay10 x8) (k0_pay12 x9 x10) (k0_pay13 x9 x10) (k0_pay61 (View.ld x0 (Rect.unit ![0, 128] S512x128.size inb_S512x1024_S512x128_0_128))) (Scalar.ofBits .f32 0x00000000#32)⟩,
      ⟨Rect.unit ![0, 0] S512x128.size inb_S512x1024_S512x128_0_0, k0_pay60 (k0_pay10 x8) (k0_pay12 x9 x10) (k0_pay13 x9 x10) (View.ld x0 (Rect.unit ![0, 0] S512x128.size inb_S512x1024_S512x128_0_0))⟩]
      (Rect.unit (s := S512x1024) ![0, 0] S512x1024.size inb_S512x1024_S512x1024_0_0).toLoadRect
def dkrD (x1 : Vec Ideal S512x1024 .bf16) (x8 x9 : Vec Ideal S512x128 .f32) (x10 : Vec Ideal S8x128 .f32) : FVec Ideal S512x128 .f32 :=
  k0_pay39 (k0_pay10 x8) (k0_pay12 x9 x10) (k0_pay13 x9 x10) (iota .tc S512x128 32 [1] iota_S512x128_d1_w32) (k0_pay34 (k0_pay26 k0_pay18 (k0_pay19 (View.ld x1 (Rect.unit ![0, 0] S512x128.size inb_S512x1024_S512x128_0_0))) (View.ld x1 (Rect.unit ![0, 128] S512x128.size inb_S512x1024_S512x128_0_128)) (View.ld x1 (Rect.unit ![0, 256] S512x128.size inb_S512x1024_S512x128_0_256)))
    (k0_pay27 (View.ld x1 (Rect.unit ![0, 384] S512x128.size inb_S512x1024_S512x128_0_384))) (View.ld x1 (Rect.unit ![0, 512] S512x128.size inb_S512x1024_S512x128_0_512)) (View.ld x1 (Rect.unit ![0, 640] S512x128.size inb_S512x1024_S512x128_0_640)))
    (k0_pay35 (View.ld x1 (Rect.unit ![0, 768] S512x128.size inb_S512x1024_S512x128_0_768))) (View.ld x1 (Rect.unit ![0, 896] S512x128.size inb_S512x1024_S512x128_0_896))

theorem dkvD_at (H : Blk x0 x1 x2 x3 x4 x5 x6 x7 x8 x9 x10 x11 x12 x13 x14 x15 x16 x17 x18 K T) (v) (r q) : dkvD v x1 x2 (ix2 r q) = (dkvu (T r) q : EReal) := by
  unfold dkvD
  exact heads v (fun r q => dkvu (T r) q) (h21_at (head_ld H.h1 0 inb_S512x1024_S512x128_0_0 0 rfl) (head_ld H.h2 0 inb_S512x1024_S512x128_0_0 0 rfl))
    (h23_at (head_ld H.h1 128 inb_S512x1024_S512x128_0_128 1 rfl) (head_ld H.h2 128 inb_S512x1024_S512x128_0_128 1 rfl))
    (h25_at (head_ld H.h1 256 inb_S512x1024_S512x128_0_256 2 rfl) (head_ld H.h2 256 inb_S512x1024_S512x128_0_256 2 rfl))
    (h29_at (head_ld H.h1 384 inb_S512x1024_S512x128_0_384 3 rfl) (head_ld H.h2 384 inb_S512x1024_S512x128_0_384 3 rfl))
    (h31_at (head_ld H.h1 512 inb_S512x1024_S512x128_0_512 4 rfl) (head_ld H.h2 512 inb_S512x1024_S512x128_0_512 4 rfl))
    (h33_at (head_ld H.h1 640 inb_S512x1024_S512x128_0_640 5 rfl) (head_ld H.h2 640 inb_S512x1024_S512x128_0_640 5 rfl))
    (h36_at (head_ld H.h1 768 inb_S512x1024_S512x128_0_768 6 rfl) (head_ld H.h2 768 inb_S512x1024_S512x128_0_768 6 rfl))
    (h38_at (head_ld H.h1 896 inb_S512x1024_S512x128_0_896 7 rfl) (head_ld H.h2 896 inb_S512x1024_S512x128_0_896 7 rfl)) r q
theorem dquD_at (H : Blk x0 x1 x2 x3 x4 x5 x6 x7 x8 x9 x10 x11 x12 x13 x14 x15 x16 x17 x18 K T) (v) (r q) : dquD v x0 x8 x9 x10 (ix2 r q) = (dquu (T r) q : EReal) := by
  unfold dquD
  have hc := cs_at H.h8
  have h1 := sn1_at H.h9 H.s1
  have h2 := sn2_at H.h9 H.s2
  exact heads v (fun r q => dquu (T r) q) (q60_at hc h1 h2 (head_ld H.h0 0 inb_S512x1024_S512x128_0_0 0 rfl))
    (q62_at hc h1 h2 (head_ld H.h0 128 inb_S512x1024_S512x128_0_128 1 rfl))
    (q63_at hc h1 h2 (head_ld H.h0 256 inb_S512x1024_S512x128_0_256 2 rfl))
    (q67_at hc h1 h2 (head_ld H.h0 384 inb_S512x1024_S512x128_0_384 3 rfl))
    (q68_at hc h1 h2 (head_ld H.h0 512 inb_S512x1024_S512x128_0_512 4 rfl))
    (q73_at hc h1 h2 (head_ld H.h0 640 inb_S512x1024_S512x128_0_640 5 rfl))
    (q74_at hc h1 h2 (head_ld H.h0 768 inb_S512x1024_S512x128_0_768 6 rfl))
    (q76_at hc h1 h2 (head_ld H.h0 896 inb_S512x1024_S512x128_0_896 7 rfl)) r q
theorem dkrD_at (H : Blk x0 x1 x2 x3 x4 x5 x6 x7 x8 x9 x10 x11 x12 x13 x14 x15 x16 x17 x18 K T) (r l) : dkrD x1 x8 x9 x10 (ix2 r l) = (dkr (T r) l : EReal) := by
  unfold dkrD
  exact dkr_at (cs_at H.h8) (sn1_at H.h9 H.s1) (sn2_at H.h9 H.s2) (fun r l => by pointwise)
    (head_ld H.h1 0 inb_S512x1024_S512x128_0_0 0 rfl) (head_ld H.h1 128 inb_S512x1024_S512x128_0_128 1 rfl) (head_ld H.h1 256 inb_S512x1024_S512x128_0_256 2 rfl) (head_ld H.h1 384 inb_S512x1024_S512x128_0_384 3 rfl) (head_ld H.h1 512 inb_S512x1024_S512x128_0_512 4 rfl) (head_ld H.h1 640 inb_S512x1024_S512x128_0_640 5 rfl) (head_ld H.h1 768 inb_S512x1024_S512x128_0_768 6 rfl) (head_ld H.h1 896 inb_S512x1024_S512x128_0_896 7 rfl) r l

/-- The gradients of the two normalised streams on a tile, as the body computes them. -/
theorem d2_at (H : Blk x0 x1 x2 x3 x4 x5 x6 x7 x8 x9 x10 x11 x12 x13 x14 x15 x16 x17 x18 K T) (v) (r j) :
    k0_pay59 (dkrD x1 x8 x9 x10) (k0_pay55 (k0_pay42 (View.ld x5 (Rect.unit ![0, 0] S512x256.size inb_S512x384_S512x256_0_0))) (dkvD v x1 x2) x14 x13) (k0_pay56 (k0_pay41 (View.ld x5 (Rect.unit ![0, 0] S512x256.size inb_S512x384_S512x256_0_0)))) x12 (ix2 r j) = (dh2 K (T r) j : EReal) :=
  dh2_at (ckv_ld H.h5 _) H.h13 (dkvD_at H v) H.h14 (dkrD_at H) H.h12 r j
theorem d3_at (H : Blk x0 x1 x2 x3 x4 x5 x6 x7 x8 x9 x10 x11 x12 x13 x14 x15 x16 x17 x18 K T) (v) (r j) :
    k0_pay95 (k0_pay78 x4) (k0_pay79 x4) (k0_pay91 (dquD v x0 x8 x9 x10) x18 x17) (k0_pay92 (k0_pay79 x4) (dquD v x0 x8 x9 x10) x18 x17) x3 x16 (ix2 r j) = (dh3 K (T r) j : EReal) :=
  dh3_at H.h4 H.h17 (dquD_at H v) H.h18 H.h3 H.h16 r j

end Cert.LatBlk
end
-- ==== Proof.LatOut.lean ====
/- What each grid point of the latent projections' backward call leaves in its nine outputs, at real input blocks and real sums so far. -/
module

public import proofs.«01_k».proof.Proof.LatBlk
public import proofs.«01_k».proof.Proof.LatIdealFrame

@[expose] public section

set_option maxRecDepth 16384

noncomputable section

open Idealize.ShloMosaic Idealize.ShloMosaic.TcCoe Idealize.SL.Sem

namespace Cert.LatOut

open Cert.LatIdeal Cert.LatIdeal.Gen Cert.LatMath Cert.Reals Cert.LatPay Cert.LatProd Cert.LatBlk

theorem hz : (![0, 0] : Fin 2 → Nat) = fun _ => 0 := funext fun a => by fin_cases a <;> rfl

/-- A load of the whole of a block. -/
theorem ld_whole {e : EltTy} {f : Fin 2 → ℕ} (inb) (X : (⟨2, f⟩ : Shape).Idx → Elt Ideal e) : View.ld X (Rect.unit (s := ⟨2, f⟩) ![0, 0] f inb) = X := View.ld_unit_zero hz inb X

/-- The eight running sums as real numbers. -/
structure Sums where
  wuq : Fin 8 → Fin 384 → Fin 128 → ℝ
  wbin : Fin 1024 → Fin 896 → ℝ
  wukv : Fin 8 → Fin 256 → Fin 128 → ℝ
  wdkv : Fin 1024 → Fin 384 → ℝ
  qn : Fin 384 → ℝ
  bn : Fin 1024 → ℝ
  ckvn : Fin 256 → ℝ
  kvn : Fin 1024 → ℝ

def Sums.zero : Sums := ⟨fun _ _ _ => 0, fun _ _ => 0, fun _ _ _ => 0, fun _ _ => 0, fun _ => 0, fun _ => 0, fun _ => 0, fun _ => 0⟩

/-- The sums after another tile. -/
def Sums.add (s : Sums) (K : Wts) (T : Fin 512 → Row) : Sums where
  wuq h j l := s.wuq h j l + ∑ r, gwuq K (T r) h j l
  wbin j i := s.wbin j i + ∑ r, gwbin K (T r) j i
  wukv h j l := s.wukv h j l + ∑ r, gwukv K (T r) h j l
  wdkv j i := s.wdkv j i + ∑ r, gwdkv K (T r) j i
  qn j := s.qn j + ∑ r, gqn K (T r) j
  bn j := s.bn j + ∑ r, gbn K (T r) j
  ckvn j := s.ckvn j + ∑ r, gckvn K (T r) j
  kvn j := s.kvn j + ∑ r, gkvn K (T r) j

/-- The running sums hold these real numbers. -/
structure Holds (a : Acc Ideal) (s : Sums) : Prop where
  wuq : ∀ h j l, a.wuq (ix3 h j l) = (s.wuq h j l : EReal)
  wbin : ∀ j i, a.wbin (ix2 j i) = (s.wbin j i : EReal)
  wukv : ∀ h j l, a.wukv (ix3 h j l) = (s.wukv h j l : EReal)
  wdkv : ∀ j i, a.wdkv (ix2 j i) = (s.wdkv j i : EReal)
  qn : ∀ z j, a.qn (ix2 z j) = (s.qn j : EReal)
  bn : ∀ z j, a.bn (ix2 z j) = (s.bn j : EReal)
  ckvn : ∀ z j, a.ckvn (ix2 z j) = (s.ckvn j : EReal)
  kvn : ∀ z j, a.kvn (ix2 z j) = (s.kvn j : EReal)

variable (m : (ℓ : Loc nD τ sig) → Buf (Elt Ideal) ℓ)

/-- Point `t`'s nineteen real input blocks. -/
abbrev BlkAt (c : Dev nD) (t : Fin cfg0.N) := Blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

variable {m} {c : Dev nD} {t : Fin cfg0.N} {K : Wts} {T : Fin 512 → Row} (H : BlkAt m c t K T)
include H

theorem o19_A (h0 : t.val % 16 = 0) (r j) : oA19 m c t h0 (ix2 r j) = (dx K (T r) j : EReal) := by
  unfold oA19
  refine (congrFun (View.read_writes_eq_canon _ _ _ (cA19 m c t h0)) _).trans ?_
  unfold RA runA
  dsimp only
  sl_unfold_words
  rw [View.canon_unit_zero hz]
  simp only [View.readAt_eq_ld, Memref.IsWhole.read_unread, ld_whole]
  exact dx_at H.h6 (d2_at H _) (d3_at H _) H.h7 H.h11 H.h15 r j

theorem o19_B (h0 : ¬ t.val % 16 = 0) (a : Acc Ideal) (r j) : oB19 m c t h0 a (ix2 r j) = (dx K (T r) j : EReal) := by
  unfold oB19
  refine (congrFun (View.read_writes_eq_canon _ _ _ (cB19 m c t h0 a)) _).trans ?_
  unfold RB runB
  dsimp only
  sl_unfold_words
  rw [View.canon_unit_zero hz]
  simp only [View.readAt_eq_ld, Memref.IsWhole.read_unread, ld_whole]
  exact dx_at H.h6 (d2_at H _) (d3_at H _) H.h7 H.h11 H.h15 r j

theorem o27_A (h0 : t.val % 16 = 0) (z j) : oA27 m c t h0 (ix2 z j) = ((Sums.add Sums.zero K T).kvn j : EReal) := by
  unfold oA27
  refine (congrFun (View.read_writes_eq_canon _ _ _ (cA27 m c t h0)) _).trans ?_
  unfold RA runA
  dsimp only
  sl_unfold_words
  rw [View.canon_cons_unit_zero (S := S1x1024) hz, View.readCov_unit_zero (S := S1x1024) _ hz]
  simp only [View.readAt_eq_ld, Memref.IsWhole.read_unread, ld_whole]
  exact kvn_at (a := fun _ => 0) H.h6 (d2_at H _) (fun _ _ => by unfold k0_pay9; pointwise; exact coe_zero') z j

theorem o27_B (h0 : ¬ t.val % 16 = 0) {a : Acc Ideal} {s : Sums} (hs : Holds a s) (z j) : oB27 m c t h0 a (ix2 z j) = ((Sums.add s K T).kvn j : EReal) := by
  unfold oB27
  refine (congrFun (View.read_writes_eq_canon _ _ _ (cB27 m c t h0 a)) _).trans ?_
  unfold RB runB
  dsimp only
  sl_unfold_words
  rw [View.canon_unit_zero hz]
  simp only [View.readAt_eq_ld, Memref.IsWhole.read_unread, ld_whole]
  exact kvn_at H.h6 (d2_at H _) hs.kvn z j

theorem o26_A (h0 : t.val % 16 = 0) (z j) : oA26 m c t h0 (ix2 z j) = ((Sums.add Sums.zero K T).ckvn j : EReal) := by
  unfold oA26
  refine (congrFun (View.read_writes_eq_canon _ _ _ (cA26 m c t h0)) _).trans ?_
  unfold RA runA
  dsimp only
  sl_unfold_words
  rw [View.canon_cons_unit_zero (S := S1x256) hz, View.readCov_unit_zero (S := S1x256) _ hz]
  simp only [View.readAt_eq_ld, Memref.IsWhole.read_unread, ld_whole]
  exact ckvn_at (a := fun _ => 0) (ckv_ld H.h5 _) H.h13 (dkvD_at H _) H.h14 (fun _ _ => by unfold k0_pay8; pointwise; exact coe_zero') z j

theorem o26_B (h0 : ¬ t.val % 16 = 0) {a : Acc Ideal} {s : Sums} (hs : Holds a s) (z j) : oB26 m c t h0 a (ix2 z j) = ((Sums.add s K T).ckvn j : EReal) := by
  unfold oB26
  refine (congrFun (View.read_writes_eq_canon _ _ _ (cB26 m c t h0 a)) _).trans ?_
  unfold RB runB
  dsimp only
  sl_unfold_words
  rw [View.canon_unit_zero hz]
  simp only [View.readAt_eq_ld, Memref.IsWhole.read_unread, ld_whole]
  exact ckvn_at (ckv_ld H.h5 _) H.h13 (dkvD_at H _) H.h14 hs.ckvn z j

theorem o25_A (h0 : t.val % 16 = 0) (z j) : oA25 m c t h0 (ix2 z j) = ((Sums.add Sums.zero K T).bn j : EReal) := by
  unfold oA25
  refine (congrFun (View.read_writes_eq_canon _ _ _ (cA25 m c t h0)) _).trans ?_
  unfold RA runA
  dsimp only
  sl_unfold_words
  rw [View.canon_cons_unit_zero (S := S1x1024) hz, View.readCov_unit_zero (S := S1x1024) _ hz]
  simp only [View.readAt_eq_ld, Memref.IsWhole.read_unread, ld_whole]
  exact bn_at (a := fun _ => 0) H.h4 H.h17 (dquD_at H _) H.h18 H.h3 H.h6 H.h16 (fun _ _ => by unfold k0_pay7; pointwise; exact coe_zero') z j

theorem o25_B (h0 : ¬ t.val % 16 = 0) {a : Acc Ideal} {s : Sums} (hs : Holds a s) (z j) : oB25 m c t h0 a (ix2 z j) = ((Sums.add s K T).bn j : EReal) := by
  unfold oB25
  refine (congrFun (View.read_writes_eq_canon _ _ _ (cB25 m c t h0 a)) _).trans ?_
  unfold RB runB
  dsimp only
  sl_unfold_words
  rw [View.canon_unit_zero hz]
  simp only [View.readAt_eq_ld, Memref.IsWhole.read_unread, ld_whole]
  exact bn_at H.h4 H.h17 (dquD_at H _) H.h18 H.h3 H.h6 H.h16 hs.bn z j

theorem o24_A (h0 : t.val % 16 = 0) (z j) : oA24 m c t h0 (ix2 z j) = ((Sums.add Sums.zero K T).qn j : EReal) := by
  unfold oA24
  refine (congrFun (View.read_writes_eq_canon _ _ _ (cA24 m c t h0)) _).trans ?_
  unfold RA runA
  dsimp only
  sl_unfold_words
  rw [View.canon_cons_unit_zero (S := S1x384) hz, View.readCov_unit_zero (S := S1x384) _ hz]
  simp only [View.readAt_eq_ld, Memref.IsWhole.read_unread, ld_whole]
  exact qn_at (a := fun _ => 0) H.h4 H.h17 (dquD_at H _) H.h18 (fun _ _ => by unfold k0_pay6; pointwise; exact coe_zero') z j

theorem o24_B (h0 : ¬ t.val % 16 = 0) {a : Acc Ideal} {s : Sums} (hs : Holds a s) (z j) : oB24 m c t h0 a (ix2 z j) = ((Sums.add s K T).qn j : EReal) := by
  unfold oB24
  refine (congrFun (View.read_writes_eq_canon _ _ _ (cB24 m c t h0 a)) _).trans ?_
  unfold RB runB
  dsimp only
  sl_unfold_words
  rw [View.canon_unit_zero hz]
  simp only [View.readAt_eq_ld, Memref.IsWhole.read_unread, ld_whole]
  exact qn_at H.h4 H.h17 (dquD_at H _) H.h18 hs.qn z j

theorem o23_A (h0 : t.val % 16 = 0) (j i) : oA23 m c t h0 (ix2 j i) = ((Sums.add Sums.zero K T).wdkv j i : EReal) := by
  unfold oA23
  refine (congrFun (View.read_writes_eq_canon _ _ _ (cA23 m c t h0)) _).trans ?_
  unfold RA runA
  dsimp only
  sl_unfold_words
  rw [View.canon_cons_unit_zero (S := S1024x384) hz, View.readCov_unit_zero (S := S1024x384) _ hz]
  simp only [View.readAt_eq_ld, Memref.IsWhole.read_unread, ld_whole]
  exact wdkv_at (a := fun _ _ => 0) (ckv_ld H.h5 _) H.h13 (dkvD_at H _) H.h14 (dkrD_at H) H.h6 H.h11 (fun _ _ => by unfold k0_pay5; pointwise; exact coe_zero') j i

theorem o23_B (h0 : ¬ t.val % 16 = 0) {a : Acc Ideal} {s : Sums} (hs : Holds a s) (j i) : oB23 m c t h0 a (ix2 j i) = ((Sums.add s K T).wdkv j i : EReal) := by
  unfold oB23
  refine (congrFun (View.read_writes_eq_canon _ _ _ (cB23 m c t h0 a)) _).trans ?_
  unfold RB runB
  dsimp only
  sl_unfold_words
  rw [View.canon_unit_zero hz]
  simp only [View.readAt_eq_ld, Memref.IsWhole.read_unread, ld_whole]
  exact wdkv_at (ckv_ld H.h5 _) H.h13 (dkvD_at H _) H.h14 (dkrD_at H) H.h6 H.h11 hs.wdkv j i

theorem o21_A (h0 : t.val % 16 = 0) (j i) : oA21 m c t h0 (ix2 j i) = ((Sums.add Sums.zero K T).wbin j i : EReal) := by
  unfold oA21
  refine (congrFun (View.read_writes_eq_canon _ _ _ (cA21 m c t h0)) _).trans ?_
  unfold RA runA
  dsimp only
  sl_unfold_words
  rw [View.canon_cons_unit_zero (S := S1024x896) hz, View.readCov_unit_zero (S := S1024x896) _ hz]
  simp only [View.readAt_eq_ld, Memref.IsWhole.read_unread, ld_whole]
  exact wbin_at (a := fun _ _ => 0) H.h4 H.h17 (dquD_at H _) H.h18 H.h3 H.h6 H.h15 (fun _ _ => by unfold k0_pay3; pointwise; exact coe_zero') j i

theorem o21_B (h0 : ¬ t.val % 16 = 0) {a : Acc Ideal} {s : Sums} (hs : Holds a s) (j i) : oB21 m c t h0 a (ix2 j i) = ((Sums.add s K T).wbin j i : EReal) := by
  unfold oB21
  refine (congrFun (View.read_writes_eq_canon _ _ _ (cB21 m c t h0 a)) _).trans ?_
  unfold RB runB
  dsimp only
  sl_unfold_words
  rw [View.canon_unit_zero hz]
  simp only [View.readAt_eq_ld, Memref.IsWhole.read_unread, ld_whole]
  exact wbin_at H.h4 H.h17 (dquD_at H _) H.h18 H.h3 H.h6 H.h15 hs.wbin j i

theorem o22_A (h0 : t.val % 16 = 0) : oA22 m c t h0 = slab256F (Sums.add Sums.zero K T).wukv := by
  unfold oA22
  refine (View.read_writes_eq_canon _ _ _ (cA22 m c t h0)).trans ?_
  unfold RA runA
  dsimp only
  sl_unfold_words
  simp only [View.readAt_eq_ld, Memref.IsWhole.read_unread, ld_whole]
  have hP : ∀ h j l, k0_pay4 (F := Ideal) (ix3 h j l) = ((0 : ℝ) : EReal) := fun h j l => by unfold k0_pay4; pointwise; exact coe_zero'
  simp (disch := first | decide | rfl) only [↓View.readCov_skip, ↓View.readCov_fill]
  refine funext fun y => View.canon_append_of_piecesOf _ [_] [_, _, _, _, _, _, _, _] (slabs256 (f := (Sums.add Sums.zero K T).wukv) (u0_at (ckv_ld H.h5 _) H.h13 (dkvD_at H _) (slab256 hP _ inb_S8x256x128_S1x256x128_0_0_0 0 rfl)) (u1_at (ckv_ld H.h5 _) H.h13 (dkvD_at H _) (slab256 hP _ inb_S8x256x128_S1x256x128_1_0_0 1 rfl)) (u2_at (ckv_ld H.h5 _) H.h13 (dkvD_at H _) (slab256 hP _ inb_S8x256x128_S1x256x128_2_0_0 2 rfl)) (u3_at (ckv_ld H.h5 _) H.h13 (dkvD_at H _) (slab256 hP _ inb_S8x256x128_S1x256x128_3_0_0 3 rfl)) (u4_at (ckv_ld H.h5 _) H.h13 (dkvD_at H _) (slab256 hP _ inb_S8x256x128_S1x256x128_4_0_0 4 rfl)) (u5_at (ckv_ld H.h5 _) H.h13 (dkvD_at H _) (slab256 hP _ inb_S8x256x128_S1x256x128_5_0_0 5 rfl)) (u6_at (ckv_ld H.h5 _) H.h13 (dkvD_at H _) (slab256 hP _ inb_S8x256x128_S1x256x128_6_0_0 6 rfl)) (u7_at (ckv_ld H.h5 _) H.h13 (dkvD_at H _) (slab256 hP _ inb_S8x256x128_S1x256x128_7_0_0 7 rfl))) y ?_
  exact View.cover_of_tiledL (s := S8x256x128) _ ![1, 256, 128] (by sl_kernel_rfl) y

theorem o22_B (h0 : ¬ t.val % 16 = 0) {a : Acc Ideal} {s : Sums} (hs : Holds a s) : oB22 m c t h0 a = slab256F (Sums.add s K T).wukv := by
  unfold oB22
  refine (View.read_writes_eq_canon _ _ _ (cB22 m c t h0 a)).trans ?_
  refine funext fun y => View.canon_apply_of_pieces _ _ ?_ y (cB22 m c t h0 a y)
  unfold RB runB
  dsimp only
  sl_unfold_words
  simp only [View.readAt_eq_ld, Memref.IsWhole.read_unread, ld_whole]
  exact (slabs256 (f := (Sums.add s K T).wukv) (u0_at (ckv_ld H.h5 _) H.h13 (dkvD_at H _) (slab256 hs.wukv _ inb_S8x256x128_S1x256x128_0_0_0 0 rfl)) (u1_at (ckv_ld H.h5 _) H.h13 (dkvD_at H _) (slab256 hs.wukv _ inb_S8x256x128_S1x256x128_1_0_0 1 rfl)) (u2_at (ckv_ld H.h5 _) H.h13 (dkvD_at H _) (slab256 hs.wukv _ inb_S8x256x128_S1x256x128_2_0_0 2 rfl)) (u3_at (ckv_ld H.h5 _) H.h13 (dkvD_at H _) (slab256 hs.wukv _ inb_S8x256x128_S1x256x128_3_0_0 3 rfl)) (u4_at (ckv_ld H.h5 _) H.h13 (dkvD_at H _) (slab256 hs.wukv _ inb_S8x256x128_S1x256x128_4_0_0 4 rfl)) (u5_at (ckv_ld H.h5 _) H.h13 (dkvD_at H _) (slab256 hs.wukv _ inb_S8x256x128_S1x256x128_5_0_0 5 rfl)) (u6_at (ckv_ld H.h5 _) H.h13 (dkvD_at H _) (slab256 hs.wukv _ inb_S8x256x128_S1x256x128_6_0_0 6 rfl)) (u7_at (ckv_ld H.h5 _) H.h13 (dkvD_at H _) (slab256 hs.wukv _ inb_S8x256x128_S1x256x128_7_0_0 7 rfl))).mem

theorem o20_A (h0 : t.val % 16 = 0) : oA20 m c t h0 = slab384F (Sums.add Sums.zero K T).wuq := by
  unfold oA20
  refine (View.read_writes_eq_canon _ _ _ (cA20 m c t h0)).trans ?_
  unfold RA runA
  dsimp only
  sl_unfold_words
  simp only [View.readAt_eq_ld, Memref.IsWhole.read_unread, ld_whole]
  have hP : ∀ h j l, k0_pay2 (F := Ideal) (ix3 h j l) = ((0 : ℝ) : EReal) := fun h j l => by unfold k0_pay2; pointwise; exact coe_zero'
  simp (disch := first | decide | rfl) only [↓View.readCov_skip, ↓View.readCov_fill]
  refine funext fun y => View.canon_append_of_piecesOf _ [_] [_, _, _, _, _, _, _, _] (slabs384 (f := (Sums.add Sums.zero K T).wuq) (v0_at H.h4 H.h17 (dquD_at H _) (slab384 hP _ inb_S8x384x128_S1x384x128_0_0_0 0 rfl)) (v1_at H.h4 H.h17 (dquD_at H _) (slab384 hP _ inb_S8x384x128_S1x384x128_1_0_0 1 rfl)) (v2_at H.h4 H.h17 (dquD_at H _) (slab384 hP _ inb_S8x384x128_S1x384x128_2_0_0 2 rfl)) (v3_at H.h4 H.h17 (dquD_at H _) (slab384 hP _ inb_S8x384x128_S1x384x128_3_0_0 3 rfl)) (v4_at H.h4 H.h17 (dquD_at H _) (slab384 hP _ inb_S8x384x128_S1x384x128_4_0_0 4 rfl)) (v5_at H.h4 H.h17 (dquD_at H _) (slab384 hP _ inb_S8x384x128_S1x384x128_5_0_0 5 rfl)) (v6_at H.h4 H.h17 (dquD_at H _) (slab384 hP _ inb_S8x384x128_S1x384x128_6_0_0 6 rfl)) (v7_at H.h4 H.h17 (dquD_at H _) (slab384 hP _ inb_S8x384x128_S1x384x128_7_0_0 7 rfl))) y ?_
  exact View.cover_of_tiledL (s := S8x384x128) _ ![1, 384, 128] (by sl_kernel_rfl) y

theorem o20_B (h0 : ¬ t.val % 16 = 0) {a : Acc Ideal} {s : Sums} (hs : Holds a s) : oB20 m c t h0 a = slab384F (Sums.add s K T).wuq := by
  unfold oB20
  refine (View.read_writes_eq_canon _ _ _ (cB20 m c t h0 a)).trans ?_
  refine funext fun y => View.canon_apply_of_pieces _ _ ?_ y (cB20 m c t h0 a y)
  unfold RB runB
  dsimp only
  sl_unfold_words
  simp only [View.readAt_eq_ld, Memref.IsWhole.read_unread, ld_whole]
  exact (slabs384 (f := (Sums.add s K T).wuq) (v0_at H.h4 H.h17 (dquD_at H _) (slab384 hs.wuq _ inb_S8x384x128_S1x384x128_0_0_0 0 rfl)) (v1_at H.h4 H.h17 (dquD_at H _) (slab384 hs.wuq _ inb_S8x384x128_S1x384x128_1_0_0 1 rfl)) (v2_at H.h4 H.h17 (dquD_at H _) (slab384 hs.wuq _ inb_S8x384x128_S1x384x128_2_0_0 2 rfl)) (v3_at H.h4 H.h17 (dquD_at H _) (slab384 hs.wuq _ inb_S8x384x128_S1x384x128_3_0_0 3 rfl)) (v4_at H.h4 H.h17 (dquD_at H _) (slab384 hs.wuq _ inb_S8x384x128_S1x384x128_4_0_0 4 rfl)) (v5_at H.h4 H.h17 (dquD_at H _) (slab384 hs.wuq _ inb_S8x384x128_S1x384x128_5_0_0 5 rfl)) (v6_at H.h4 H.h17 (dquD_at H _) (slab384 hs.wuq _ inb_S8x384x128_S1x384x128_6_0_0 6 rfl)) (v7_at H.h4 H.h17 (dquD_at H _) (slab384 hs.wuq _ inb_S8x384x128_S1x384x128_7_0_0 7 rfl))).mem

/-- The running sums after a point. -/
theorem holds_A (h0 : t.val % 16 = 0) : Holds (accA m c t h0) (Sums.add Sums.zero K T) where
  wuq h j l := congrFun (o20_A H h0) (ix3 h j l)
  wbin := o21_A H h0
  wukv h j l := congrFun (o22_A H h0) (ix3 h j l)
  wdkv := o23_A H h0
  qn := o24_A H h0
  bn := o25_A H h0
  ckvn := o26_A H h0
  kvn := o27_A H h0

theorem holds_B (h0 : ¬ t.val % 16 = 0) {a : Acc Ideal} {s : Sums} (hs : Holds a s) : Holds (accB m c t h0 a) (Sums.add s K T) where
  wuq h j l := congrFun (o20_B H h0 hs) (ix3 h j l)
  wbin := o21_B H h0 hs
  wukv h j l := congrFun (o22_B H h0 hs) (ix3 h j l)
  wdkv := o23_B H h0 hs
  qn := o24_B H h0 hs
  bn := o25_B H h0 hs
  ckvn := o26_B H h0 hs
  kvn := o27_B H h0 hs

theorem dx_out (r j) : dxOut m c t (ix2 r j) = (dx K (T r) j : EReal) := by
  unfold dxOut
  split
  · exact o19_A H _ r j
  · exact o19_B H _ _ r j

end Cert.LatOut
end
-- ==== Proof.LatFinal.lean ====
/- The grid of the latent projections' backward call at real arguments, and what it leaves in its nine result arrays. -/
module

public import proofs.«01_k».proof.Proof.LatOut
public import proofs.«01_k».proof.Proof.LatIdealFrame
public import proofs.«01_k».proof.Proof.Sums
public import Idealize.ShloMosaic.Lib.Pipeline.ValueKit

@[expose] public section

set_option maxRecDepth 16384

noncomputable section

open Idealize.ShloMosaic Idealize.ShloMosaic.TcCoe Idealize.SL.Sem

namespace Cert.LatFinal

open Cert.LatIdeal Cert.LatIdeal.Gen Cert.LatMath Cert.Reals Cert.LatOut

/-- Row `r` of the tile point `t` sees. -/
def trow (t : ℕ) (r : Fin 512) : Fin 8192 := ⟨(512 * t + r.val) % 8192, Nat.mod_lt _ (by norm_num)⟩

theorem trow_val (t : ℕ) (h : t < 16) (r : Fin 512) : (trow t r).val = 512 * t + r.val := Nat.mod_eq_of_lt (by omega)

/-- The tiles' rows are all rows. -/
theorem sum_tiles (f : Fin 8192 → ℝ) : ∑ q ∈ Finset.range 16, ∑ r : Fin 512, f (trow q r) = ∑ n, f n :=
  Cert.Sums.sum_pairs 16 512 8192 rfl f trow fun q r h => trow_val q h r

variable (K : Wts) (R : Fin 8192 → Row)

/-- The gradients of the first `n` tiles. -/
def part (n : ℕ) : Sums where
  wuq h j l := ∑ q ∈ Finset.range n, ∑ r : Fin 512, gwuq K (R (trow q r)) h j l
  wbin k i := ∑ q ∈ Finset.range n, ∑ r : Fin 512, gwbin K (R (trow q r)) k i
  wukv h j l := ∑ q ∈ Finset.range n, ∑ r : Fin 512, gwukv K (R (trow q r)) h j l
  wdkv k i := ∑ q ∈ Finset.range n, ∑ r : Fin 512, gwdkv K (R (trow q r)) k i
  qn j := ∑ q ∈ Finset.range n, ∑ r : Fin 512, gqn K (R (trow q r)) j
  bn k := ∑ q ∈ Finset.range n, ∑ r : Fin 512, gbn K (R (trow q r)) k
  ckvn j := ∑ q ∈ Finset.range n, ∑ r : Fin 512, gckvn K (R (trow q r)) j
  kvn k := ∑ q ∈ Finset.range n, ∑ r : Fin 512, gkvn K (R (trow q r)) k

theorem part_zero : part K R 0 = Sums.zero := by
  unfold part Sums.zero
  simp only [Finset.sum_range_zero]
theorem part_succ (n : ℕ) : part K R (n + 1) = Sums.add (part K R n) K (fun r => R (trow n r)) := by
  unfold part Sums.add
  simp only [Finset.sum_range_succ]

/-- Every point's blocks hold the rows of its tile. -/
def Blocks (m : (ℓ : Loc nD τ sig) → Buf (Elt Ideal) ℓ) (c : Dev nD) : Prop := ∀ t : Fin cfg0.N, BlkAt m c t K fun r => R (trow t.val r)

theorem idx_out : ∀ t : Fin cfg0.N, win0_19.index t = ![t.val, 0] := by decide +kernel

variable {K R} {m : (ℓ : Loc nD τ sig) → Buf (Elt Ideal) ℓ} {c : Dev nD} (H : Blocks K R m c)
include H

theorem acc_holds : ∀ (n : ℕ) (h : n < cfg0.N), Holds (acc m c n h) (part K R (n + 1)) := by
  intro n
  induction n with
  | zero =>
    intro h
    rw [part_succ, part_zero]
    exact holds_A (t := ⟨0, h⟩) (H ⟨0, h⟩) rfl
  | succ n ih =>
    intro h
    rw [part_succ]
    exact holds_B (t := ⟨n + 1, h⟩) (H ⟨n + 1, h⟩) _ (ih _)

theorem dx_final : (dats m 0 c).arrAt 19 cfg0.N = fun i => (dx K (R (i 0)) (i 1) : EReal) := by
  refine (dats m 0 c).arrAt_eq_of_covers 19 _ (by decide +kernel) fun t hf y => ?_
  have i19 := idx_out t
  have ht : t.val < 16 := t.isLt
  obtain ⟨r, k, rfl⟩ : ∃ (r : Fin 512) (k : Fin 1024), y = ix2 r k := ⟨y 0, y 1, by idx_ext⟩
  rw [show ((cfg0.win 19).blk t).view.emb (ix2 r k) = ix2 (trow t.val r) k from by unfold trow; blk_ext [i19]]
  blk_simp
  rw [after_19]
  exact dx_out (H t) r k

theorem last : Holds (acc m c 15 (by decide)) (part K R 16) := acc_holds H 15 _

theorem wuq_final : (dats m 0 c).arrAt 20 cfg0.N = fun i => ((∑ n, gwuq K (R n) (i 0) (i 1) (i 2) : ℝ) : EReal) := by
  refine (dats m 0 c).arrAt_eq_of_after_last 20 ⟨15, by decide⟩ (by decide +kernel) _ fun y => ?_
  refine (congrFun (after_20 m c (⟨15, by decide⟩ : Fin cfg0.N)) _).trans ?_
  obtain ⟨a, b, d, rfl⟩ : ∃ (a : Fin 8) (b : Fin 384) (d : Fin 128), y = ix3 a b d := ⟨y 0, y 1, y 2, by idx_ext⟩
  exact ((last H).wuq a b d).trans (congrArg (fun z : ℝ => (z : EReal)) (sum_tiles fun n => gwuq K (R n) a b d))

theorem wbin_final : (dats m 0 c).arrAt 21 cfg0.N = fun i => ((∑ n, gwbin K (R n) (i 0) (i 1) : ℝ) : EReal) := by
  refine (dats m 0 c).arrAt_eq_of_after_last 21 ⟨15, by decide⟩ (by decide +kernel) _ fun y => ?_
  refine (congrFun (after_21 m c (⟨15, by decide⟩ : Fin cfg0.N)) _).trans ?_
  obtain ⟨a, b, rfl⟩ : ∃ (a : Fin 1024) (b : Fin 896), y = ix2 a b := ⟨y 0, y 1, by idx_ext⟩
  exact ((last H).wbin a b).trans (congrArg (fun z : ℝ => (z : EReal)) (sum_tiles fun n => gwbin K (R n) a b))

theorem wukv_final : (dats m 0 c).arrAt 22 cfg0.N = fun i => ((∑ n, gwukv K (R n) (i 0) (i 1) (i 2) : ℝ) : EReal) := by
  refine (dats m 0 c).arrAt_eq_of_after_last 22 ⟨15, by decide⟩ (by decide +kernel) _ fun y => ?_
  refine (congrFun (after_22 m c (⟨15, by decide⟩ : Fin cfg0.N)) _).trans ?_
  obtain ⟨a, b, d, rfl⟩ : ∃ (a : Fin 8) (b : Fin 256) (d : Fin 128), y = ix3 a b d := ⟨y 0, y 1, y 2, by idx_ext⟩
  exact ((last H).wukv a b d).trans (congrArg (fun z : ℝ => (z : EReal)) (sum_tiles fun n => gwukv K (R n) a b d))

theorem wdkv_final : (dats m 0 c).arrAt 23 cfg0.N = fun i => ((∑ n, gwdkv K (R n) (i 0) (i 1) : ℝ) : EReal) := by
  refine (dats m 0 c).arrAt_eq_of_after_last 23 ⟨15, by decide⟩ (by decide +kernel) _ fun y => ?_
  refine (congrFun (after_23 m c (⟨15, by decide⟩ : Fin cfg0.N)) _).trans ?_
  obtain ⟨a, b, rfl⟩ : ∃ (a : Fin 1024) (b : Fin 384), y = ix2 a b := ⟨y 0, y 1, by idx_ext⟩
  exact ((last H).wdkv a b).trans (congrArg (fun z : ℝ => (z : EReal)) (sum_tiles fun n => gwdkv K (R n) a b))

theorem qn_final : (dats m 0 c).arrAt 24 cfg0.N = fun i => ((∑ n, gqn K (R n) (i 1) : ℝ) : EReal) := by
  refine (dats m 0 c).arrAt_eq_of_after_last 24 ⟨15, by decide⟩ (by decide +kernel) _ fun y => ?_
  refine (congrFun (after_24 m c (⟨15, by decide⟩ : Fin cfg0.N)) _).trans ?_
  obtain ⟨a, b, rfl⟩ : ∃ (a : Fin 1) (b : Fin 384), y = ix2 a b := ⟨y 0, y 1, by idx_ext⟩
  exact ((last H).qn a b).trans (congrArg (fun z : ℝ => (z : EReal)) (sum_tiles fun n => gqn K (R n) b))

theorem bn_final : (dats m 0 c).arrAt 25 cfg0.N = fun i => ((∑ n, gbn K (R n) (i 1) : ℝ) : EReal) := by
  refine (dats m 0 c).arrAt_eq_of_after_last 25 ⟨15, by decide⟩ (by decide +kernel) _ fun y => ?_
  refine (congrFun (after_25 m c (⟨15, by decide⟩ : Fin cfg0.N)) _).trans ?_
  obtain ⟨a, b, rfl⟩ : ∃ (a : Fin 1) (b : Fin 1024), y = ix2 a b := ⟨y 0, y 1, by idx_ext⟩
  exact ((last H).bn a b).trans (congrArg (fun z : ℝ => (z : EReal)) (sum_tiles fun n => gbn K (R n) b))

theorem ckvn_final : (dats m 0 c).arrAt 26 cfg0.N = fun i => ((∑ n, gckvn K (R n) (i 1) : ℝ) : EReal) := by
  refine (dats m 0 c).arrAt_eq_of_after_last 26 ⟨15, by decide⟩ (by decide +kernel) _ fun y => ?_
  refine (congrFun (after_26 m c (⟨15, by decide⟩ : Fin cfg0.N)) _).trans ?_
  obtain ⟨a, b, rfl⟩ : ∃ (a : Fin 1) (b : Fin 256), y = ix2 a b := ⟨y 0, y 1, by idx_ext⟩
  exact ((last H).ckvn a b).trans (congrArg (fun z : ℝ => (z : EReal)) (sum_tiles fun n => gckvn K (R n) b))

theorem kvn_final : (dats m 0 c).arrAt 27 cfg0.N = fun i => ((∑ n, gkvn K (R n) (i 1) : ℝ) : EReal) := by
  refine (dats m 0 c).arrAt_eq_of_after_last 27 ⟨15, by decide⟩ (by decide +kernel) _ fun y => ?_
  refine (congrFun (after_27 m c (⟨15, by decide⟩ : Fin cfg0.N)) _).trans ?_
  obtain ⟨a, b, rfl⟩ : ∃ (a : Fin 1) (b : Fin 1024), y = ix2 a b := ⟨y 0, y 1, by idx_ext⟩
  exact ((last H).kvn a b).trans (congrArg (fun z : ℝ => (z : EReal)) (sum_tiles fun n => gkvn K (R n) b))

end Cert.LatFinal
end
-- ==== Proof.LatData.lean ====
/- The latent projections' backward call: its arguments as real numbers, and what the padded lanes carry. The narrow layouts have 288
   columns of shared latents and 96 lanes to a head; in the wide ones they stand among columns of zeros. -/
module

public import proofs.«01_k».proof.Proof.LatMath

@[expose] public section

noncomputable section

namespace Cert.LatData

open Cert.LatMath

/-- The arguments: the stream, the tables, the weights in their narrow layout, and the gradients that arrive. -/
structure Data where
  x : Fin 8192 → Fin 1024 → ℝ
  dX : Fin 8192 → Fin 1024 → ℝ
  cos : Fin 8192 → Fin 16 → ℝ
  sin : Fin 8192 → Fin 16 → ℝ
  kvn : Fin 1024 → ℝ
  wdkv : Fin 1024 → Fin 288 → ℝ
  ckvn : Fin 256 → ℝ
  wukv : Fin 256 → Fin 1024 → ℝ
  bn : Fin 1024 → ℝ
  bwin : Fin 1024 → Fin 896 → ℝ
  qn : Fin 384 → ℝ
  wuq : Fin 384 → Fin 768 → ℝ
  qa : Fin 8192 → Fin 8 → Fin 64 → ℝ
  qr : Fin 8192 → Fin 8 → Fin 32 → ℝ
  ka : Fin 8192 → Fin 8 → Fin 64 → ℝ
  kr : Fin 8192 → Fin 8 → Fin 32 → ℝ
  dv : Fin 8192 → Fin 8 → Fin 64 → ℝ
  dg : Fin 8192 → Fin 512 → ℝ

/-- A head's lanes: 64 plain, 32 turned, the rest zero. -/
def lanes (a : Fin 64 → ℝ) (r : Fin 32 → ℝ) (l : Fin 128) : ℝ := if h : l.val < 64 then a ⟨l.val, h⟩ else if h : l.val - 64 < 32 then r ⟨l.val - 64, h⟩ else 0
/-- A table in the lanes of a head, `z` where nothing is turned. -/
def table (z : ℝ) (t : Fin 16 → ℝ) (l : Fin 128) : ℝ :=
  if l.val < 64 then z else if h : l.val - 64 < 16 then t ⟨l.val - 64, h⟩ else if h : l.val - 64 - 16 < 16 then t ⟨l.val - 64 - 16, h⟩ else z
/-- The shared latents' columns, with the turned key's at 320. -/
def cols (w : Fin 288 → ℝ) (i : Fin 384) : ℝ :=
  if h : i.val < 256 then w ⟨i.val, by omega⟩ else if i.val - 256 < 64 then 0 else if h : i.val - 256 - 64 < 32 then w ⟨256 + (i.val - 256 - 64), by omega⟩ else 0
/-- Eight heads of 96 columns in heads of 128. -/
def heads (w : Fin 768 → ℝ) (q : Fin 1024) : ℝ := if h : q.val % 128 < 96 then w ⟨96 * (q.val / 128) + q.val % 128, by omega⟩ else 0

variable (D : Data)

def K : Wts := ⟨D.kvn, fun k => cols (D.wdkv k), D.ckvn, D.wukv, D.bn, D.bwin, D.qn, fun j => heads (D.wuq j)⟩

def R (n : Fin 8192) : Row where
  dq q := lanes (D.qa n (hof q)) (D.qr n (hof q)) (lof q)
  dk q := lanes (D.ka n (hof q)) (D.kr n (hof q)) (lof q)
  dv q := lanes (D.dv n (hof q)) 0 (lof q)
  dg := D.dg n
  cq j := ∑ k, xh 1024 (D.x n) k * D.bn k * D.bwin k ⟨j.val, by omega⟩
  ckr i := ∑ k, xh 1024 (D.x n) k * D.kvn k * cols (D.wdkv k) i
  x := D.x n
  dX := D.dX n
  cs := table 1 (D.cos n)
  sn := table 0 (D.sin n)

/-- A narrow column's place among the wide ones. -/
def wcol (i : Fin 288) : Fin 384 := ⟨if i.val < 256 then i.val else i.val + 64, by have := i.isLt; split <;> omega⟩
def wlane (q : Fin 768) : Fin 1024 := ⟨128 * (q.val / 96) + q.val % 96, by omega⟩

theorem cols_wcol (w i) : cols w (wcol i) = w i := by
  unfold cols wcol
  by_cases h : i.val < 256
  · simp [h]
  · have e : i.val + 64 - 256 - 64 = i.val - 256 := by omega
    simp only [h, if_false]
    rw [dif_neg (by omega), if_neg (by omega), dif_pos (by omega)]
    exact congrArg w (Fin.ext (by show 256 + (i.val + 64 - 256 - 64) = i.val; omega))
theorem wcol_low (j : Fin 256) (h : j.val < 288) : wcol ⟨j.val, h⟩ = lo j := Fin.ext (if_pos j.isLt)
theorem ckv_eq (n j) : ckv (R D n) j = ∑ k, xh 1024 (D.x n) k * D.kvn k * D.wdkv k ⟨j.val, by omega⟩ := by
  show ∑ k, xh 1024 (D.x n) k * D.kvn k * cols (D.wdkv k) (lo j) = _
  refine Finset.sum_congr rfl fun k _ => ?_
  rw [← wcol_low j (by omega), cols_wcol]
theorem heads_wlane (w q) : heads w (wlane q) = w q := by
  have e1 : (128 * (q.val / 96) + q.val % 96) % 128 = q.val % 96 := by omega
  have e2 : (128 * (q.val / 96) + q.val % 96) / 128 = q.val / 96 := by omega
  unfold heads wlane
  simp only [e1, e2]
  rw [dif_pos (by omega)]
  exact congrArg w (Fin.ext (by show 96 * (q.val / 96) + q.val % 96 = q.val; omega))

/-- A sum over the wide columns against a narrow weight is the narrow sum. -/
theorem sum_cols (f : Fin 384 → ℝ) (w : Fin 288 → ℝ) : ∑ i, f (wcol i) * w i = ∑ i, f i * cols w i := by
  refine Finset.sum_of_injOn wcol (fun a _ b _ h => ?_) (fun _ _ => Finset.mem_coe.mpr (Finset.mem_univ _)) (fun i _ h => ?_) fun i _ => by rw [cols_wcol]
  · have h' : (if a.val < 256 then a.val else a.val + 64) = if b.val < 256 then b.val else b.val + 64 := congrArg Fin.val h
    apply Fin.ext
    split at h' <;> split at h' <;> omega
  · have z : cols w i = 0 := by
      unfold cols
      by_cases h1 : i.val < 256
      · exact absurd ⟨⟨i.val, by omega⟩, Finset.mem_coe.mpr (Finset.mem_univ _), Fin.ext (if_pos h1)⟩ h
      · by_cases h2 : i.val - 256 < 64
        · rw [dif_neg h1, if_pos h2]
        · by_cases h3 : i.val - 256 - 64 < 32
          · refine absurd ⟨⟨i.val - 64, by omega⟩, Finset.mem_coe.mpr (Finset.mem_univ _), Fin.ext ?_⟩ h
            show (if i.val - 64 < 256 then i.val - 64 else i.val - 64 + 64) = i.val
            rw [if_neg (by omega)]; omega
          · rw [dif_neg h1, if_neg h2, dif_neg h3]
    rw [z, mul_zero]
theorem sum_heads (f : Fin 1024 → ℝ) (w : Fin 768 → ℝ) : ∑ q, f (wlane q) * w q = ∑ q, f q * heads w q := by
  refine Finset.sum_of_injOn wlane (fun a _ b _ h => ?_) (fun _ _ => Finset.mem_coe.mpr (Finset.mem_univ _)) (fun q _ h => ?_) fun q _ => by rw [heads_wlane]
  · have h' : 128 * (a.val / 96) + a.val % 96 = 128 * (b.val / 96) + b.val % 96 := congrArg Fin.val h
    apply Fin.ext
    omega
  · have z : heads w q = 0 := by
      unfold heads
      by_cases h1 : q.val % 128 < 96
      · refine absurd ⟨⟨96 * (q.val / 128) + q.val % 128, by omega⟩, Finset.mem_coe.mpr (Finset.mem_univ _), Fin.ext ?_⟩ h
        show 128 * ((96 * (q.val / 128) + q.val % 128) / 96) + (96 * (q.val / 128) + q.val % 128) % 96 = q.val
        omega
      · exact dif_neg h1
    rw [z, mul_zero]

/-- The gradient through a norm as the reference has it, in three terms. -/
theorem nb_parts {n : ℕ} {N : ℝ} (h : 0 < N) (x d : Fin n → ℝ) (j : Fin n) :
    d j * rr N x + x j * ((∑ l, x l * d l) * (-(1/2) * (rr N x / ms N x)) / N) + (∑ l, x l * d l) * (-(1/2) * (rr N x / ms N x)) / N * x j = nb N x d j := by
  unfold nb
  rw [rr_cube h]
  have e : ∑ l, d l * xh N x l = rr N x * ∑ l, x l * d l := by
    rw [Finset.mul_sum]; exact Finset.sum_congr rfl fun l _ => by unfold xh; ring
  rw [e]; unfold xh; ring

/-- Lanes that nothing is turned into. -/
theorem table_plain (z t) (l : Fin 128) (h : l.val < 64 ∨ 96 ≤ l.val) : table z t l = z := by
  unfold table
  rcases h with h | h
  · rw [if_pos h]
  · rw [if_neg (by omega), dif_neg (by omega), dif_neg (by omega)]
theorem table_first (z t) (l : Fin 128) (e : Fin 16) (h : l.val = 64 + e.val) : table z t l = t e := by
  have he := e.isLt
  unfold table
  rw [if_neg (by omega), dif_pos (by omega)]
  exact congrArg t (Fin.ext (by show l.val - 64 = e.val; omega))
theorem table_second (z t) (l : Fin 128) (e : Fin 16) (h : l.val = 80 + e.val) : table z t l = t e := by
  have he := e.isLt
  unfold table
  rw [if_neg (by omega), dif_neg (by omega), dif_pos (by omega)]
  exact congrArg t (Fin.ext (by show l.val - 64 - 16 = e.val; omega))

theorem rot_plain (n y) (l : Fin 128) (h : l.val < 64 ∨ 96 ≤ l.val) : rot (R D n) y l = y l := by
  unfold rot
  show y l * table 1 (D.cos n) l + y (by_ 16 l) * (0 - table 0 (D.sin n) l * sg1 l) + y (by_ 112 l) * (0 - table 0 (D.sin n) l * sg2 l) = y l
  rw [table_plain _ _ _ h, table_plain _ _ _ h]; ring
theorem rot_first (n y) (l m : Fin 128) (e : Fin 16) (h : l.val = 64 + e.val) (hm : m.val = 80 + e.val) :
    rot (R D n) y l = y m * D.sin n e + y l * D.cos n e := by
  have he := e.isLt
  unfold rot
  show y l * table 1 (D.cos n) l + y (by_ 16 l) * (0 - table 0 (D.sin n) l * sg1 l) + y (by_ 112 l) * (0 - table 0 (D.sin n) l * sg2 l) = _
  have e1 : by_ 16 l = m := Fin.ext (by show (l.val + 16) % 128 = m.val; omega)
  rw [table_first _ _ l e h, table_first _ _ l e h, e1, show sg1 l = -1 from if_pos ⟨by omega, by omega⟩, show sg2 l = 0 from if_neg (by omega)]; ring
theorem rot_second (n y) (l m : Fin 128) (e : Fin 16) (h : l.val = 80 + e.val) (hm : m.val = 64 + e.val) :
    rot (R D n) y l = y l * D.cos n e + -y m * D.sin n e := by
  have he := e.isLt
  unfold rot
  show y l * table 1 (D.cos n) l + y (by_ 16 l) * (0 - table 0 (D.sin n) l * sg1 l) + y (by_ 112 l) * (0 - table 0 (D.sin n) l * sg2 l) = _
  have e1 : by_ 112 l = m := Fin.ext (by show (l.val + 112) % 128 = m.val; omega)
  rw [table_second _ _ l e h, table_second _ _ l e h, e1, show sg1 l = 0 from if_neg (by omega), show sg2 l = 1 from if_pos ⟨by omega, by omega⟩]; ring

theorem lanes_low (a r) (l : Fin 128) (e : Fin 64) (h : l.val = e.val) : lanes a r l = a e := by
  have he := e.isLt
  unfold lanes
  rw [dif_pos (by omega)]
  exact congrArg a (Fin.ext h)
theorem lanes_high (a r) (l : Fin 128) (e : Fin 32) (h : l.val = 64 + e.val) : lanes a r l = r e := by
  have he := e.isLt
  unfold lanes
  rw [dif_neg (by omega), dif_pos (by omega)]
  exact congrArg r (Fin.ext (by show l.val - 64 = e.val; omega))
theorem lanes_rest (a r) (l : Fin 128) (h : 96 ≤ l.val) : lanes a r l = 0 := by
  unfold lanes
  rw [dif_neg (by omega), dif_neg (by omega)]

/-- A turned head, lane by lane, as the reference has it. -/
def turned (c s : Fin 16 → ℝ) (r : Fin 32 → ℝ) (e : Fin 32) : ℝ :=
  if h : e.val < 16 then r ⟨16 + e.val, by omega⟩ * s ⟨e.val, h⟩ + r ⟨e.val, by omega⟩ * c ⟨e.val, h⟩
  else r ⟨16 + (e.val - 16), by omega⟩ * c ⟨e.val - 16, by omega⟩ + -r ⟨e.val - 16, by omega⟩ * s ⟨e.val - 16, by omega⟩

theorem rot_turned (n) (y : Fin 128 → ℝ) (r : Fin 32 → ℝ) (hy : ∀ (l : Fin 128) (e : Fin 32), l.val = 64 + e.val → y l = r e) (l : Fin 128) (e : Fin 32) (h : l.val = 64 + e.val) :
    rot (R D n) y l = turned (D.cos n) (D.sin n) r e := by
  have he := e.isLt
  unfold turned
  by_cases h1 : e.val < 16
  · rw [dif_pos h1, rot_first D n y l ⟨l.val + 16, by omega⟩ ⟨e.val, h1⟩ h (by show l.val + 16 = 80 + e.val; omega),
      hy _ ⟨16 + e.val, by omega⟩ (by show l.val + 16 = 64 + (16 + e.val); omega), hy l ⟨e.val, he⟩ h]
  · rw [dif_neg h1, rot_second D n y l ⟨l.val - 16, by omega⟩ ⟨e.val - 16, by omega⟩ (by show l.val = 80 + (e.val - 16); omega) (by show l.val - 16 = 64 + (e.val - 16); omega),
      hy l ⟨16 + (e.val - 16), by omega⟩ (by show l.val = 64 + (16 + (e.val - 16)); omega), hy _ ⟨e.val - 16, by omega⟩ (by show l.val - 16 = 64 + (e.val - 16); omega)]

theorem dquu_low (n h) (l : Fin 128) (e : Fin 64) (hl : l.val = e.val) : dquu (R D n) (hd h l) = D.qa n h e := by
  have he := e.isLt
  unfold dquu
  rw [rot_plain _ _ _ _ (Or.inl (by rw [lof_hd]; omega))]
  show lanes _ _ _ = _
  rw [hof_hd, hof_hd, lof_hd, lof_hd]
  exact lanes_low _ _ _ _ hl
theorem dquu_high (n h) (l : Fin 128) (e : Fin 32) (hl : l.val = 64 + e.val) : dquu (R D n) (hd h l) = turned (D.cos n) (D.sin n) (D.qr n h) e := by
  unfold dquu
  rw [lof_hd, hof_hd]
  refine rot_turned D n _ _ (fun l e hl => ?_) l e hl
  show lanes _ _ _ = _
  rw [hof_hd, lof_hd]
  exact lanes_high _ _ _ _ hl
theorem dquu_rest (n h) (l : Fin 128) (hl : 96 ≤ l.val) : dquu (R D n) (hd h l) = 0 := by
  unfold dquu
  rw [rot_plain _ _ _ _ (Or.inr (by rw [lof_hd]; omega))]
  show lanes _ _ _ = _
  rw [hof_hd, lof_hd, lof_hd, hof_hd]
  exact lanes_rest _ _ _ hl

theorem dkvu_low (n h) (l : Fin 128) (e : Fin 64) (hl : l.val = e.val) : dkvu (R D n) (hd h l) = D.ka n h e := by
  have he := e.isLt
  have e1 : (hd h l).val % 128 = l.val := by show (128 * h.val + l.val) % 128 = _; omega
  unfold dkvu
  rw [if_pos (by omega)]
  show lanes _ _ _ = _
  rw [hof_hd, lof_hd]
  exact lanes_low _ _ _ _ hl
theorem dkvu_high (n h) (l : Fin 128) (e : Fin 64) (hl : l.val = 64 + e.val) : dkvu (R D n) (hd h l) = D.dv n h e := by
  have he := e.isLt
  have e1 : (hd h l).val % 128 = l.val := by show (128 * h.val + l.val) % 128 = _; omega
  unfold dkvu
  rw [if_neg (by omega)]
  show lanes _ _ _ = _
  rw [hof_hd, hof_hd, lof_hd, lof_hd]
  exact lanes_low _ _ _ _ (by show (l.val + 64) % 128 = e.val; omega)

theorem dkr_turned (n) (l : Fin 128) (e : Fin 32) (hl : l.val = 64 + e.val) : dkr (R D n) l = turned (D.cos n) (D.sin n) (fun e => ∑ h, D.kr n h e) e := by
  have he := e.isLt
  unfold dkr
  rw [if_pos ⟨by omega, by omega⟩]
  refine rot_turned D n _ _ (fun l e hl => Finset.sum_congr rfl fun h _ => ?_) l e hl
  show lanes _ _ _ = _
  rw [hof_hd, lof_hd]
  exact lanes_high _ _ _ _ hl

/-- The columns of the shared latents' gradient. -/
theorem dckr_low (i : Fin 384) (j : Fin 256) (h : i.val = j.val) (W S) : dckr W S i = dckv W S j := by
  have hj := j.isLt
  unfold dckr
  rw [dif_pos (by omega)]
  exact congrArg _ (Fin.ext h)
theorem dckr_high (n) (i : Fin 384) (e : Fin 32) (h : i.val = 320 + e.val) (W) : dckr W (R D n) i = turned (D.cos n) (D.sin n) (fun e => ∑ h, D.kr n h e) e := by
  unfold dckr
  rw [dif_neg (by omega)]
  exact dkr_turned D n _ e (by show i.val - 256 = 64 + e.val; omega)
theorem dckr_rest (i : Fin 384) (W S) (h : 256 ≤ i.val ∧ i.val < 320 ∨ 352 ≤ i.val) : dckr W S i = 0 := by
  unfold dckr
  rw [dif_neg (by omega)]
  unfold dkr
  exact if_neg (by show ¬(64 ≤ i.val - 256 ∧ i.val - 256 < 96); omega)

end Cert.LatData
end
-- ==== Proof.LatRefArgs.lean ====
/- The arguments of the latent projections' reference as real numbers. -/
module

public import proofs.«01_k».proof.Proof.LatData
public import proofs.«01_k».proof.Proof.ConvRefVal
public import proofs.«01_k».proof.Proof.LatPay
public import proofs.«01_k».proof.Proof.Gen.LatRefIdeal.Read

@[expose] public section

set_option maxRecDepth 8000

noncomputable section

open Idealize.ShloMosaic Cert.Reals Cert.LatMath Cert.LatData Cert.Sums
open Cert.LatRefIdeal Cert.LatRefIdeal.Read
open Cert.TailKernel (row row_div)
open Cert.ConvRefVal (sum_rows)
open Cert.LatPay (lit_256 lit_384)

namespace Cert.LatRefVal

variable (x0 x17 : S2x4096x1024.Idx → EReal) (x1 x2 : S2x4096x16.Idx → EReal) (x3 x7 : S1024.Idx → EReal) (x4 : S1024x288.Idx → EReal) (x5 : S256.Idx → EReal)
variable (x6 : S256x1024.Idx → EReal) (x8 : S1024x896.Idx → EReal) (x9 : S384.Idx → EReal) (x10 : S384x768.Idx → EReal) (x11 x13 x15 : S2x4096x8x64.Idx → EReal)
variable (x12 x14 : S2x4096x8x32.Idx → EReal) (x16 : S2x4096x512.Idx → EReal) (D : Data)

/-- The reference's arguments as real numbers. -/
structure RArgs : Prop where
  h0 : ∀ b s k, x0 (ix3 b s k) = (D.x (row b s) k : EReal)
  h1 : ∀ b s k, x1 (ix3 b s k) = (D.cos (row b s) k : EReal)
  h2 : ∀ b s k, x2 (ix3 b s k) = (D.sin (row b s) k : EReal)
  h3 : ∀ k, x3 (ix1 k) = (D.kvn k : EReal)
  h4 : ∀ k i, x4 (ix2 k i) = (D.wdkv k i : EReal)
  h5 : ∀ j, x5 (ix1 j) = (D.ckvn j : EReal)
  h6 : ∀ j q, x6 (ix2 j q) = (D.wukv j q : EReal)
  h7 : ∀ k, x7 (ix1 k) = (D.bn k : EReal)
  h8 : ∀ k i, x8 (ix2 k i) = (D.bwin k i : EReal)
  h9 : ∀ j, x9 (ix1 j) = (D.qn j : EReal)
  h10 : ∀ j q, x10 (ix2 j q) = (D.wuq j q : EReal)
  h11 : ∀ b s h e, x11 (ix4 b s h e) = (D.qa (row b s) h e : EReal)
  h12 : ∀ b s h e, x12 (ix4 b s h e) = (D.qr (row b s) h e : EReal)
  h13 : ∀ b s h e, x13 (ix4 b s h e) = (D.ka (row b s) h e : EReal)
  h14 : ∀ b s h e, x14 (ix4 b s h e) = (D.kr (row b s) h e : EReal)
  h15 : ∀ b s h e, x15 (ix4 b s h e) = (D.dv (row b s) h e : EReal)
  h16 : ∀ b s j, x16 (ix3 b s j) = (D.dg (row b s) j : EReal)
  h17 : ∀ b s k, x17 (ix3 b s k) = (D.dX (row b s) k : EReal)

theorem p1024 : (0:ℝ) < 1024 := by norm_num
theorem p256 : (0:ℝ) < 256 := by norm_num
theorem p384 : (0:ℝ) < 384 := by norm_num

end Cert.LatRefVal
end
-- ==== Proof.LatRefVal.lean ====
/- The reference of the latent projections' backward call, read at an index as real numbers: the shared keys and values. -/
module

public import proofs.«01_k».proof.Proof.LatRefArgs

@[expose] public section

set_option maxRecDepth 8000

noncomputable section

open Idealize.ShloMosaic Cert.Reals Cert.LatMath Cert.LatData Cert.Sums
open Cert.LatRefIdeal Cert.LatRefIdeal.Read
open Cert.TailKernel (row row_div)
open Cert.ConvRefVal (sum_rows)
open Cert.LatPay (lit_256 lit_384)

namespace Cert.LatRefVal

variable {x0 x17 x1 x2 x3 x7 x4 x5 x6 x8 x9 x10 x11 x13 x15 x12 x14 x16 D}
variable (A : RArgs x0 x17 x1 x2 x3 x7 x4 x5 x6 x8 x9 x10 x11 x13 x15 x12 x14 x16 D)
include A

theorem ms_at (b s z) : val_main_v6 (F := Ideal) x0 (ix3 b s z) = (ms 1024 (D.x (row b s)) : EReal) := by
  unfold val_main_v6 val_main_v5 val_main_cst_1 val_main_v4 val_main_v3 val_main_cst_0 val_main_v2 val_main_v1 val_main_cst val_main_v0
  pointwise [A.h0, coe_mul', coe_sum, coe_add', lit_1024, lit_eps, div_coe_coe _ _ (show (1024:ℝ) ≠ 0 by norm_num)]
  rfl
theorem rr_at (b s z) : val_main_v7 (F := Ideal) x0 (ix3 b s z) = (rr 1024 (D.x (row b s)) : EReal) := by
  unfold val_main_v7
  pointwise [ms_at A, rsqrt_pos _ (ms_pos p1024 _)]
  rfl
theorem v10_at (b s z) : val_main_v10 (F := Ideal) x0 (ix3 b s z) = ((-(1/2) * (rr 1024 (D.x (row b s)) / ms 1024 (D.x (row b s))) : ℝ) : EReal) := by
  unfold val_main_v10 val_main_v9 val_main_cst_2 val_main_v8
  pointwise [ms_at A, rr_at A, lit_neg_half, coe_mul', div_coe_coe _ _ (ms_pos p1024 _).ne']
theorem xh_at (b s k) : val_main_v12 (F := Ideal) x0 (ix3 b s k) = (xh 1024 (D.x (row b s)) k : EReal) := by
  unfold val_main_v12 val_main_v11
  pointwise [A.h0, rr_at A, coe_mul']
  rfl
theorem h_at (b s k) : val_main_v15 (F := Ideal) x0 x3 (ix3 b s k) = ((xh 1024 (D.x (row b s)) k * D.kvn k : ℝ) : EReal) := by
  unfold val_main_v15 val_main_v14 val_main_v13
  pointwise [xh_at A, A.h3, coe_mul']
theorem ckv_at (b s j) : val_main_v17 (F := Ideal) x0 x3 x4 (ix3 b s j) = (ckv (R D (row b s)) j : EReal) := by
  unfold val_main_v17 val_main_v16
  pointwise [h_at A, A.h4, coe_mul', coe_sum]
  exact congrArg (fun z : ℝ => (z : EReal)) (ckv_eq D _ j).symm
theorem ms2_at (b s z) : val_main_v25 (F := Ideal) x0 x3 x4 (ix3 b s z) = (ms 256 (ckv (R D (row b s))) : EReal) := by
  unfold val_main_v25 val_main_v24 val_main_cst_5 val_main_v23 val_main_v22 val_main_cst_4 val_main_v21 val_main_v20 val_main_cst_3 val_main_v19
  pointwise [ckv_at A, coe_mul', coe_sum, coe_add', lit_256, lit_eps, div_coe_coe _ _ (show (256:ℝ) ≠ 0 by norm_num)]
  rfl
theorem rr2_at (b s z) : val_main_v26 (F := Ideal) x0 x3 x4 (ix3 b s z) = (rr 256 (ckv (R D (row b s))) : EReal) := by
  unfold val_main_v26
  pointwise [ms2_at A, rsqrt_pos _ (ms_pos p256 _)]
  rfl
theorem v29_at (b s z) : val_main_v29 (F := Ideal) x0 x3 x4 (ix3 b s z)
    = ((-(1/2) * (rr 256 (ckv (R D (row b s))) / ms 256 (ckv (R D (row b s)))) : ℝ) : EReal) := by
  unfold val_main_v29 val_main_v28 val_main_cst_6 val_main_v27
  pointwise [ms2_at A, rr2_at A, lit_neg_half, coe_mul', div_coe_coe _ _ (ms_pos p256 _).ne']
theorem xh2_at (b s k) : val_main_v31 (F := Ideal) x0 x3 x4 (ix3 b s k) = (xh 256 (ckv (R D (row b s))) k : EReal) := by
  unfold val_main_v31 val_main_v30
  pointwise [ckv_at A, rr2_at A, coe_mul']
  rfl
theorem c_at (b s k) : val_main_v34 (F := Ideal) x0 x3 x4 x5 (ix3 b s k) = ((xh 256 (ckv (R D (row b s))) k * D.ckvn k : ℝ) : EReal) := by
  unfold val_main_v34 val_main_v33 val_main_v32
  pointwise [xh2_at A, A.h5, coe_mul']
theorem dkv_at (b s h l) : val_main_v55 (F := Ideal) x13 x15 (ix4 b s h l) = (dkvu (R D (row b s)) (hd h l) : EReal) := by
  unfold val_main_v55 val_main_v54 val_main_v50 val_main_cst_7 val_main_cst_10
  pointwise [A.h13, A.h15]
  by_cases hl : l.val < 64
  · rw [dif_neg (by omega), dif_pos hl, zero_add, dkvu_low D _ h l ⟨l.val, hl⟩ rfl]
  · rw [dif_pos (by omega), dif_neg hl, add_zero, dkvu_high D _ h l ⟨l.val - 64, by omega⟩ (by show l.val = 64 + (l.val - 64); omega)]
theorem dkvq_at (b s q) : val_main_v66 (F := Ideal) x13 x15 (ix3 b s q) = (dkvu (R D (row b s)) q : EReal) := by
  unfold val_main_v66
  pointwise [dkv_at A]
  exact congrArg (fun z => (dkvu (R D (row b s)) z : EReal)) (hd_of q)
theorem key_at (b s e) : val_main_v53 (F := Ideal) x14 (ix3 b s e) = ((∑ h, D.kr (row b s) h e : ℝ) : EReal) := by
  unfold val_main_v53 val_main_v52 val_main_v51 val_main_cst_8 val_main_cst_9
  pointwise [A.h14, coe_sum]
  simp only [Finset.univ_unique, Finset.sum_const, Finset.card_singleton, one_smul]
theorem turn_at (b s e) : val_main_v65 (F := Ideal) x1 x2 x14 (ix3 b s e)
    = (turned (D.cos (row b s)) (D.sin (row b s)) (fun e => ∑ h, D.kr (row b s) h e) e : EReal) := by
  unfold val_main_v65 val_main_v64 val_main_v63 val_main_v62 val_main_v61 val_main_v60 val_main_v59 val_main_v58 val_main_v57 val_main_v56
  pointwise [key_at A, A.h1, A.h2, coe_mul', coe_add', coe_neg']
  unfold turned
  by_cases he : e.val < 16
  · rw [dif_pos he, dif_pos he]
  · rw [dif_neg he, dif_neg he]
theorem dcn_at (b s j) : val_main_v69 (F := Ideal) x6 x13 x15 (ix3 b s j) = (dckvn (K D) (R D (row b s)) j : EReal) := by
  unfold val_main_v69
  pointwise [dkvq_at A, A.h6, coe_mul', coe_sum]
  rfl
theorem v73_at (b s j) : val_main_v73 (F := Ideal) x5 (ix3 b s j) = (D.ckvn j : EReal) := by
  unfold val_main_v73 val_main_v32
  pointwise [A.h5]
theorem v74_at (b s j) : val_main_v74 (F := Ideal) x5 x6 x13 x15 (ix3 b s j) = ((dckvn (K D) (R D (row b s)) j * D.ckvn j : ℝ) : EReal) := by
  rw [val_main_v74_apply, dcn_at A, v73_at A]; exact coe_mul' _ _
theorem v76_at (b s j) : val_main_v76 (F := Ideal) x0 x3 x4 x5 x6 x13 x15 (ix3 b s j) = (((ckv (R D (row b s))) j * (dckvn (K D) (R D (row b s)) j * D.ckvn j) : ℝ) : EReal) := by
  rw [val_main_v76_apply, ckv_at A, v74_at A]; exact coe_mul' _ _
theorem v78_at (b s z) : val_main_v78 (F := Ideal) x0 x3 x4 x5 x6 x13 x15 (ix3 b s z) = ((∑ l, (ckv (R D (row b s))) l * (dckvn (K D) (R D (row b s)) l * D.ckvn l) : ℝ) : EReal) := by
  unfold val_main_v78 val_main_v77 val_main_cst_13
  pointwise [v76_at A, coe_sum]
theorem v81_at (b s z) : val_main_v81 (F := Ideal) x0 x3 x4 x5 x6 x13 x15 (ix3 b s z) = (((∑ l, (ckv (R D (row b s))) l * (dckvn (K D) (R D (row b s)) l * D.ckvn l)) * (-(1/2) * (rr 256 (ckv (R D (row b s))) / ms 256 (ckv (R D (row b s))))) : ℝ) : EReal) := by
  rw [val_main_v81_apply, v78_at A, v29_at A]; exact coe_mul' _ _
theorem v82_at (b s z) : val_main_v82 (F := Ideal)  (ix3 b s z) = ((256 : ℝ) : EReal) := by
  unfold val_main_v82 val_main_cst_14
  pointwise [lit_256]
theorem v83_at (b s z) : val_main_v83 (F := Ideal) x0 x3 x4 x5 x6 x13 x15 (ix3 b s z) = (((∑ l, (ckv (R D (row b s))) l * (dckvn (K D) (R D (row b s)) l * D.ckvn l)) * (-(1/2) * (rr 256 (ckv (R D (row b s))) / ms 256 (ckv (R D (row b s))))) / 256 : ℝ) : EReal) := by
  rw [val_main_v83_apply, v81_at A, v82_at A]; exact div_coe_coe _ _ p256.ne'
theorem v85_at (b s j) : val_main_v85 (F := Ideal) x0 x3 x4 x5 x6 x13 x15 (ix3 b s j) = (((∑ l, (ckv (R D (row b s))) l * (dckvn (K D) (R D (row b s)) l * D.ckvn l)) * (-(1/2) * (rr 256 (ckv (R D (row b s))) / ms 256 (ckv (R D (row b s))))) / 256 : ℝ) : EReal) := by
  unfold val_main_v85 val_main_v84 val_main_cst_15
  pointwise [v83_at A, coe_sum]
  simp only [Finset.univ_unique, Finset.sum_const, Finset.card_singleton, one_smul]
theorem v79_at (b s j) : val_main_v79 (F := Ideal) x0 x3 x4 (ix3 b s j) = (rr 256 (ckv (R D (row b s))) : EReal) := by
  unfold val_main_v79
  pointwise [rr2_at A]
theorem dc_at (b s j) : val_main_v89 (F := Ideal) x0 x3 x4 x5 x6 x13 x15 (ix3 b s j) = (dckv (K D) (R D (row b s)) j : EReal) := by
  show _ = (nb 256 (ckv (R D (row b s))) (fun j => dckvn (K D) (R D (row b s)) j * D.ckvn j) j : EReal)
  rw [val_main_v89_apply, val_main_v87_apply, val_main_v88_apply, val_main_v86_apply, val_main_v80_apply, v85_at A, v74_at A, v79_at A, ckv_at A, ← nb_parts p256]
  simp only [Ideal.mulf_def, Ideal.addf_def, coe_mul', coe_add']
theorem dl_at (b s i) : val_main_v92 (F := Ideal) x0 x1 x2 x3 x4 x5 x6 x13 x14 x15 (ix3 b s i) = (dckr (K D) (R D (row b s)) (wcol i) : EReal) := by
  unfold val_main_v92 val_main_v91 val_main_v90 val_main_cst_16 val_main_cst_17
  pointwise [dc_at A, turn_at A]
  by_cases hi : i.val < 256
  · rw [dif_neg (by omega), dif_pos hi, zero_add, dckr_low (wcol i) ⟨i.val, hi⟩ (if_pos hi)]
  · rw [dif_pos (by omega), dif_neg hi, add_zero, dckr_high D _ (wcol i) ⟨i.val - 256, by omega⟩ ((if_neg hi).trans (by show i.val + 64 = 320 + (i.val - 256); omega))]
theorem gwd_at (k i) : val_main_v94 (F := Ideal) x0 x1 x2 x3 x4 x5 x6 x13 x14 x15 (ix2 k i) = ((∑ n, gwdkv (K D) (R D n) k (wcol i) : ℝ) : EReal) := by
  unfold val_main_v94 val_main_v93
  pointwise [dl_at A, h_at A, coe_mul', coe_sum]
  rw [← sum_rows]
  congr 1
  exact Finset.sum_congr rfl fun b _ => Finset.sum_congr rfl fun s _ => mul_comm _ _
theorem gwu_at (j q) : val_main_v68 (F := Ideal) x0 x3 x4 x5 x13 x15 (ix2 j q) = ((∑ n, xh 256 (ckv (R D n)) j * D.ckvn j * dkvu (R D n) q : ℝ) : EReal) := by
  unfold val_main_v68 val_main_v67
  pointwise [dkvq_at A, c_at A, coe_mul', coe_sum]
  rw [← sum_rows]
  congr 1
  exact Finset.sum_congr rfl fun b _ => Finset.sum_congr rfl fun s _ => mul_comm _ _
theorem dh2_at (b s k) : val_main_v95 (F := Ideal) x0 x1 x2 x3 x4 x5 x6 x13 x14 x15 (ix3 b s k) = (dh2 (K D) (R D (row b s)) k : EReal) := by
  unfold val_main_v95
  pointwise [dl_at A, A.h4, coe_mul', coe_sum]
  exact congrArg _ (sum_cols _ _)
theorem v70_at (b s j) : val_main_v70 (F := Ideal) x0 x3 x4 x6 x13 x15 (ix3 b s j) = ((xh 256 (ckv (R D (row b s))) j * dckvn (K D) (R D (row b s)) j : ℝ) : EReal) := by
  rw [val_main_v70_apply, xh2_at A, dcn_at A]; exact coe_mul' _ _
theorem gckvn_at (j) : val_main_v75 (F := Ideal) x0 x3 x4 x6 x13 x15 (ix1 j) = ((∑ n, gckvn (K D) (R D n) j : ℝ) : EReal) := by
  unfold val_main_v75 val_main_cst_12 val_main_v72 val_main_v71 val_main_cst_11
  pointwise [hostReduceAdd_lead, v70_at A, coe_sum]
  rw [← sum_rows]
  simp only [Finset.univ_unique, Finset.sum_const, Finset.card_singleton, one_smul]
  congr 1
  exact Finset.sum_congr rfl fun b _ => Finset.sum_congr rfl fun s _ => mul_comm _ _
theorem v96_at (b s j) : val_main_v96 (F := Ideal) x0 x1 x2 x3 x4 x5 x6 x13 x14 x15 (ix3 b s j) = ((xh 1024 (D.x (row b s)) j * dh2 (K D) (R D (row b s)) j : ℝ) : EReal) := by
  rw [val_main_v96_apply, xh_at A, dh2_at A]; exact coe_mul' _ _
theorem gkvn_at (j) : val_main_v101 (F := Ideal) x0 x1 x2 x3 x4 x5 x6 x13 x14 x15 (ix1 j) = ((∑ n, gkvn (K D) (R D n) j : ℝ) : EReal) := by
  unfold val_main_v101 val_main_cst_19 val_main_v98 val_main_v97 val_main_cst_18
  pointwise [hostReduceAdd_lead, v96_at A, coe_sum]
  rw [← sum_rows]
  simp only [Finset.univ_unique, Finset.sum_const, Finset.card_singleton, one_smul]
  congr 1
  exact Finset.sum_congr rfl fun b _ => Finset.sum_congr rfl fun s _ => mul_comm _ _
theorem v99_at (b s j) : val_main_v99 (F := Ideal) x3 (ix3 b s j) = (D.kvn j : EReal) := by
  unfold val_main_v99 val_main_v13
  pointwise [A.h3]
theorem v100_at (b s j) : val_main_v100 (F := Ideal) x0 x1 x2 x3 x4 x5 x6 x13 x14 x15 (ix3 b s j) = ((dh2 (K D) (R D (row b s)) j * D.kvn j : ℝ) : EReal) := by
  rw [val_main_v100_apply, dh2_at A, v99_at A]; exact coe_mul' _ _
theorem v102_at (b s j) : val_main_v102 (F := Ideal) x0 x1 x2 x3 x4 x5 x6 x13 x14 x15 (ix3 b s j) = (((D.x (row b s)) j * (dh2 (K D) (R D (row b s)) j * D.kvn j) : ℝ) : EReal) := by
  rw [val_main_v102_apply, A.h0, v100_at A]; exact coe_mul' _ _
theorem v104_at (b s z) : val_main_v104 (F := Ideal) x0 x1 x2 x3 x4 x5 x6 x13 x14 x15 (ix3 b s z) = ((∑ l, (D.x (row b s)) l * (dh2 (K D) (R D (row b s)) l * D.kvn l) : ℝ) : EReal) := by
  unfold val_main_v104 val_main_v103 val_main_cst_20
  pointwise [v102_at A, coe_sum]
theorem v107_at (b s z) : val_main_v107 (F := Ideal) x0 x1 x2 x3 x4 x5 x6 x13 x14 x15 (ix3 b s z) = (((∑ l, (D.x (row b s)) l * (dh2 (K D) (R D (row b s)) l * D.kvn l)) * (-(1/2) * (rr 1024 (D.x (row b s)) / ms 1024 (D.x (row b s)))) : ℝ) : EReal) := by
  rw [val_main_v107_apply, v104_at A, v10_at A]; exact coe_mul' _ _
theorem v108_at (b s z) : val_main_v108 (F := Ideal)  (ix3 b s z) = ((1024 : ℝ) : EReal) := by
  unfold val_main_v108 val_main_cst_21
  pointwise [lit_1024]
theorem v109_at (b s z) : val_main_v109 (F := Ideal) x0 x1 x2 x3 x4 x5 x6 x13 x14 x15 (ix3 b s z) = (((∑ l, (D.x (row b s)) l * (dh2 (K D) (R D (row b s)) l * D.kvn l)) * (-(1/2) * (rr 1024 (D.x (row b s)) / ms 1024 (D.x (row b s)))) / 1024 : ℝ) : EReal) := by
  rw [val_main_v109_apply, v107_at A, v108_at A]; exact div_coe_coe _ _ p1024.ne'
theorem v111_at (b s j) : val_main_v111 (F := Ideal) x0 x1 x2 x3 x4 x5 x6 x13 x14 x15 (ix3 b s j) = (((∑ l, (D.x (row b s)) l * (dh2 (K D) (R D (row b s)) l * D.kvn l)) * (-(1/2) * (rr 1024 (D.x (row b s)) / ms 1024 (D.x (row b s)))) / 1024 : ℝ) : EReal) := by
  unfold val_main_v111 val_main_v110 val_main_cst_22
  pointwise [v109_at A, coe_sum]
  simp only [Finset.univ_unique, Finset.sum_const, Finset.card_singleton, one_smul]
theorem v105_at (b s j) : val_main_v105 (F := Ideal) x0 (ix3 b s j) = (rr 1024 (D.x (row b s)) : EReal) := by
  unfold val_main_v105
  pointwise [rr_at A]
theorem dxk_at (b s j) : val_main_v115 (F := Ideal) x0 x1 x2 x3 x4 x5 x6 x13 x14 x15 (ix3 b s j) = (nb 1024 (D.x (row b s)) (fun j => dh2 (K D) (R D (row b s)) j * D.kvn j) j : EReal) := by
  rw [val_main_v115_apply, val_main_v113_apply, val_main_v114_apply, val_main_v112_apply, val_main_v106_apply, v111_at A, v100_at A, v105_at A, A.h0, ← nb_parts p1024]
  simp only [Ideal.mulf_def, Ideal.addf_def, coe_mul', coe_add']

end Cert.LatRefVal
end
-- ==== Proof.LatRefQ.lean ====
/- The reference of the latent projections' backward call, read at an index as real numbers: the queries and the gate. -/
module

public import proofs.«01_k».proof.Proof.LatRefArgs

@[expose] public section

set_option maxRecDepth 8000

noncomputable section

open Idealize.ShloMosaic Cert.Reals Cert.LatMath Cert.LatData Cert.Sums
open Cert.LatRefIdeal Cert.LatRefIdeal.Read
open Cert.TailKernel (row row_div)
open Cert.ConvRefVal (sum_rows)
open Cert.LatPay (lit_256 lit_384)

namespace Cert.LatRefVal

variable {x0 x17 x1 x2 x3 x7 x4 x5 x6 x8 x9 x10 x11 x13 x15 x12 x14 x16 D}
variable (A : RArgs x0 x17 x1 x2 x3 x7 x4 x5 x6 x8 x9 x10 x11 x13 x15 x12 x14 x16 D)
include A

theorem ms3_at (b s z) : val_main_v122 (F := Ideal) x0 (ix3 b s z) = (ms 1024 (D.x (row b s)) : EReal) := by
  unfold val_main_v122 val_main_v121 val_main_cst_25 val_main_v120 val_main_v119 val_main_cst_24 val_main_v118 val_main_v117 val_main_cst_23 val_main_v116
  pointwise [A.h0, coe_mul', coe_sum, coe_add', lit_1024, lit_eps, div_coe_coe _ _ (show (1024:ℝ) ≠ 0 by norm_num)]
  rfl
theorem rr3_at (b s z) : val_main_v123 (F := Ideal) x0 (ix3 b s z) = (rr 1024 (D.x (row b s)) : EReal) := by
  unfold val_main_v123
  pointwise [ms3_at A, rsqrt_pos _ (ms_pos p1024 _)]
  rfl
theorem v126_at (b s z) : val_main_v126 (F := Ideal) x0 (ix3 b s z) = ((-(1/2) * (rr 1024 (D.x (row b s)) / ms 1024 (D.x (row b s))) : ℝ) : EReal) := by
  unfold val_main_v126 val_main_v125 val_main_cst_26 val_main_v124
  pointwise [ms3_at A, rr3_at A, lit_neg_half, coe_mul', div_coe_coe _ _ (ms_pos p1024 _).ne']
theorem xh3_at (b s k) : val_main_v128 (F := Ideal) x0 (ix3 b s k) = (xh 1024 (D.x (row b s)) k : EReal) := by
  unfold val_main_v128 val_main_v127
  pointwise [A.h0, rr3_at A, coe_mul']
  rfl
theorem hb_at (b s k) : val_main_v131 (F := Ideal) x0 x7 (ix3 b s k) = ((xh 1024 (D.x (row b s)) k * D.bn k : ℝ) : EReal) := by
  unfold val_main_v131 val_main_v130 val_main_v129
  pointwise [xh3_at A, A.h7, coe_mul']
theorem cq_at (b s j) : val_main_v133 (F := Ideal) x0 x7 x8 (ix3 b s j) = ((R D (row b s)).cq j : EReal) := by
  unfold val_main_v133 val_main_v132
  pointwise [hb_at A, A.h8, coe_mul', coe_sum]
  rfl
theorem ms4_at (b s z) : val_main_v141 (F := Ideal) x0 x7 x8 (ix3 b s z) = (ms 384 (R D (row b s)).cq : EReal) := by
  unfold val_main_v141 val_main_v140 val_main_cst_29 val_main_v139 val_main_v138 val_main_cst_28 val_main_v137 val_main_v136 val_main_cst_27 val_main_v135
  pointwise [cq_at A, coe_mul', coe_sum, coe_add', lit_384, lit_eps, div_coe_coe _ _ (show (384:ℝ) ≠ 0 by norm_num)]
  rfl
theorem rr4_at (b s z) : val_main_v142 (F := Ideal) x0 x7 x8 (ix3 b s z) = (rr 384 (R D (row b s)).cq : EReal) := by
  unfold val_main_v142
  pointwise [ms4_at A, rsqrt_pos _ (ms_pos p384 _)]
  rfl
theorem v145_at (b s z) : val_main_v145 (F := Ideal) x0 x7 x8 (ix3 b s z)
    = ((-(1/2) * (rr 384 (R D (row b s)).cq / ms 384 (R D (row b s)).cq) : ℝ) : EReal) := by
  unfold val_main_v145 val_main_v144 val_main_cst_30 val_main_v143
  pointwise [ms4_at A, rr4_at A, lit_neg_half, coe_mul', div_coe_coe _ _ (ms_pos p384 _).ne']
theorem xh4_at (b s k) : val_main_v147 (F := Ideal) x0 x7 x8 (ix3 b s k) = (xh 384 (R D (row b s)).cq k : EReal) := by
  unfold val_main_v147 val_main_v146
  pointwise [cq_at A, rr4_at A, coe_mul']
  rfl
theorem q_at (b s k) : val_main_v150 (F := Ideal) x0 x7 x8 x9 (ix3 b s k) = ((xh 384 (R D (row b s)).cq k * D.qn k : ℝ) : EReal) := by
  unfold val_main_v150 val_main_v149 val_main_v148
  pointwise [xh4_at A, A.h9, coe_mul']
theorem turnq_at (b s h e) : val_main_v183 (F := Ideal) x1 x2 x12 (ix4 b s h e)
    = (turned (D.cos (row b s)) (D.sin (row b s)) (D.qr (row b s) h) e : EReal) := by
  unfold val_main_v183 val_main_v182 val_main_v181 val_main_v180 val_main_v179 val_main_v178 val_main_v177 val_main_v176 val_main_v175 val_main_v174 val_main_v173 val_main_v172
    val_main_v171 val_main_v170 val_main_v155 val_main_v156
  pointwise [A.h12, A.h1, A.h2, coe_mul', coe_add', coe_neg']
  unfold turned
  by_cases he : e.val < 16
  · rw [dif_pos he, dif_pos he]
  · rw [dif_neg he, dif_neg he]
theorem dqh_at (b s h l) : val_main_v186 (F := Ideal) x1 x2 x11 x12 (ix4 b s h l) = (dquu (R D (row b s)) (hd h ⟨l.val, by omega⟩) : EReal) := by
  unfold val_main_v186 val_main_v185 val_main_v184 val_main_cst_31 val_main_cst_32
  pointwise [A.h11, turnq_at A]
  by_cases hl : l.val < 64
  · rw [dif_neg (by omega), dif_pos hl, zero_add, dquu_low D _ h ⟨l.val, by omega⟩ ⟨l.val, hl⟩ rfl]
  · rw [dif_pos (by omega), dif_neg hl, add_zero, dquu_high D _ h ⟨l.val, by omega⟩ ⟨l.val - 64, by omega⟩ (by show l.val = 64 + (l.val - 64); omega)]
theorem dqq_at (b s q) : val_main_v187 (F := Ideal) x1 x2 x11 x12 (ix3 b s q) = (dquu (R D (row b s)) (wlane q) : EReal) := by
  unfold val_main_v187
  pointwise [dqh_at A]
  rfl
theorem gwq_at (j q) : val_main_v189 (F := Ideal) x0 x1 x2 x7 x8 x9 x11 x12 (ix2 j q) = ((∑ n, xh 384 (R D n).cq j * D.qn j * dquu (R D n) (wlane q) : ℝ) : EReal) := by
  unfold val_main_v189 val_main_v188
  pointwise [dqq_at A, q_at A, coe_mul', coe_sum]
  rw [← sum_rows]
  congr 1
  exact Finset.sum_congr rfl fun b _ => Finset.sum_congr rfl fun s _ => mul_comm _ _
theorem dcqn_at (b s j) : val_main_v190 (F := Ideal) x1 x2 x10 x11 x12 (ix3 b s j) = (dcqn (K D) (R D (row b s)) j : EReal) := by
  unfold val_main_v190
  pointwise [dqq_at A, A.h10, coe_mul', coe_sum]
  exact congrArg _ (sum_heads _ _)
theorem v191_at (b s j) : val_main_v191 (F := Ideal) x0 x1 x2 x7 x8 x10 x11 x12 (ix3 b s j) = ((xh 384 (R D (row b s)).cq j * dcqn (K D) (R D (row b s)) j : ℝ) : EReal) := by
  rw [val_main_v191_apply, xh4_at A, dcqn_at A]; exact coe_mul' _ _
theorem gqn_at (j) : val_main_v196 (F := Ideal) x0 x1 x2 x7 x8 x10 x11 x12 (ix1 j) = ((∑ n, gqn (K D) (R D n) j : ℝ) : EReal) := by
  unfold val_main_v196 val_main_cst_34 val_main_v193 val_main_v192 val_main_cst_33
  pointwise [hostReduceAdd_lead, v191_at A, coe_sum]
  rw [← sum_rows]
  simp only [Finset.univ_unique, Finset.sum_const, Finset.card_singleton, one_smul]
  congr 1
  exact Finset.sum_congr rfl fun b _ => Finset.sum_congr rfl fun s _ => mul_comm _ _
theorem v194_at (b s j) : val_main_v194 (F := Ideal) x9 (ix3 b s j) = (D.qn j : EReal) := by
  unfold val_main_v194 val_main_v148
  pointwise [A.h9]
theorem v195_at (b s j) : val_main_v195 (F := Ideal) x1 x2 x9 x10 x11 x12 (ix3 b s j) = ((dcqn (K D) (R D (row b s)) j * D.qn j : ℝ) : EReal) := by
  rw [val_main_v195_apply, dcqn_at A, v194_at A]; exact coe_mul' _ _
theorem v197_at (b s j) : val_main_v197 (F := Ideal) x0 x1 x2 x7 x8 x9 x10 x11 x12 (ix3 b s j) = (((R D (row b s)).cq j * (dcqn (K D) (R D (row b s)) j * D.qn j) : ℝ) : EReal) := by
  rw [val_main_v197_apply, cq_at A, v195_at A]; exact coe_mul' _ _
theorem v199_at (b s z) : val_main_v199 (F := Ideal) x0 x1 x2 x7 x8 x9 x10 x11 x12 (ix3 b s z) = ((∑ l, (R D (row b s)).cq l * (dcqn (K D) (R D (row b s)) l * D.qn l) : ℝ) : EReal) := by
  unfold val_main_v199 val_main_v198 val_main_cst_35
  pointwise [v197_at A, coe_sum]
theorem v202_at (b s z) : val_main_v202 (F := Ideal) x0 x1 x2 x7 x8 x9 x10 x11 x12 (ix3 b s z) = (((∑ l, (R D (row b s)).cq l * (dcqn (K D) (R D (row b s)) l * D.qn l)) * (-(1/2) * (rr 384 (R D (row b s)).cq / ms 384 (R D (row b s)).cq)) : ℝ) : EReal) := by
  rw [val_main_v202_apply, v199_at A, v145_at A]; exact coe_mul' _ _
theorem v203_at (b s z) : val_main_v203 (F := Ideal)  (ix3 b s z) = ((384 : ℝ) : EReal) := by
  unfold val_main_v203 val_main_cst_36
  pointwise [lit_384]
theorem v204_at (b s z) : val_main_v204 (F := Ideal) x0 x1 x2 x7 x8 x9 x10 x11 x12 (ix3 b s z) = (((∑ l, (R D (row b s)).cq l * (dcqn (K D) (R D (row b s)) l * D.qn l)) * (-(1/2) * (rr 384 (R D (row b s)).cq / ms 384 (R D (row b s)).cq)) / 384 : ℝ) : EReal) := by
  rw [val_main_v204_apply, v202_at A, v203_at A]; exact div_coe_coe _ _ p384.ne'
theorem v206_at (b s j) : val_main_v206 (F := Ideal) x0 x1 x2 x7 x8 x9 x10 x11 x12 (ix3 b s j) = (((∑ l, (R D (row b s)).cq l * (dcqn (K D) (R D (row b s)) l * D.qn l)) * (-(1/2) * (rr 384 (R D (row b s)).cq / ms 384 (R D (row b s)).cq)) / 384 : ℝ) : EReal) := by
  unfold val_main_v206 val_main_v205 val_main_cst_37
  pointwise [v204_at A, coe_sum]
  simp only [Finset.univ_unique, Finset.sum_const, Finset.card_singleton, one_smul]
theorem v200_at (b s j) : val_main_v200 (F := Ideal) x0 x7 x8 (ix3 b s j) = (rr 384 (R D (row b s)).cq : EReal) := by
  unfold val_main_v200
  pointwise [rr4_at A]
theorem dcq_at (b s j) : val_main_v210 (F := Ideal) x0 x1 x2 x7 x8 x9 x10 x11 x12 (ix3 b s j) = (dcq (K D) (R D (row b s)) j : EReal) := by
  show _ = (nb 384 (R D (row b s)).cq (fun j => dcqn (K D) (R D (row b s)) j * D.qn j) j : EReal)
  rw [val_main_v210_apply, val_main_v208_apply, val_main_v209_apply, val_main_v207_apply, val_main_v201_apply, v206_at A, v195_at A, v200_at A, cq_at A, ← nb_parts p384]
  simp only [Ideal.mulf_def, Ideal.addf_def, coe_mul', coe_add']
theorem dpb_at (b s i) : val_main_v213 (F := Ideal) x0 x1 x2 x7 x8 x9 x10 x11 x12 x16 (ix3 b s i) = (dpb (K D) (R D (row b s)) i : EReal) := by
  unfold val_main_v213 val_main_v212 val_main_v211 val_main_cst_38 val_main_cst_39 dpb
  pointwise [dcq_at A, A.h16]
  by_cases hi : i.val < 384
  · rw [dif_neg (by omega), dif_pos hi, dif_pos hi, zero_add]
  · rw [dif_pos (by omega), dif_neg hi, dif_neg hi, add_zero]
    rfl
theorem gwb_at (k i) : val_main_v215 (F := Ideal) x0 x1 x2 x7 x8 x9 x10 x11 x12 x16 (ix2 k i) = ((∑ n, gwbin (K D) (R D n) k i : ℝ) : EReal) := by
  unfold val_main_v215 val_main_v214
  pointwise [dpb_at A, hb_at A, coe_mul', coe_sum]
  rw [← sum_rows]
  congr 1
  exact Finset.sum_congr rfl fun b _ => Finset.sum_congr rfl fun s _ => mul_comm _ _
theorem dh3_at (b s k) : val_main_v216 (F := Ideal) x0 x1 x2 x7 x8 x9 x10 x11 x12 x16 (ix3 b s k) = (dh3 (K D) (R D (row b s)) k : EReal) := by
  unfold val_main_v216
  pointwise [dpb_at A, A.h8, coe_mul', coe_sum]
  rfl
theorem v217_at (b s j) : val_main_v217 (F := Ideal) x0 x1 x2 x7 x8 x9 x10 x11 x12 x16 (ix3 b s j) = ((xh 1024 (D.x (row b s)) j * dh3 (K D) (R D (row b s)) j : ℝ) : EReal) := by
  rw [val_main_v217_apply, xh3_at A, dh3_at A]; exact coe_mul' _ _
theorem gbn_at (j) : val_main_v222 (F := Ideal) x0 x1 x2 x7 x8 x9 x10 x11 x12 x16 (ix1 j) = ((∑ n, gbn (K D) (R D n) j : ℝ) : EReal) := by
  unfold val_main_v222 val_main_cst_41 val_main_v219 val_main_v218 val_main_cst_40
  pointwise [hostReduceAdd_lead, v217_at A, coe_sum]
  rw [← sum_rows]
  simp only [Finset.univ_unique, Finset.sum_const, Finset.card_singleton, one_smul]
  congr 1
  exact Finset.sum_congr rfl fun b _ => Finset.sum_congr rfl fun s _ => mul_comm _ _
theorem v220_at (b s j) : val_main_v220 (F := Ideal) x7 (ix3 b s j) = (D.bn j : EReal) := by
  unfold val_main_v220 val_main_v129
  pointwise [A.h7]
theorem v221_at (b s j) : val_main_v221 (F := Ideal) x0 x1 x2 x7 x8 x9 x10 x11 x12 x16 (ix3 b s j) = ((dh3 (K D) (R D (row b s)) j * D.bn j : ℝ) : EReal) := by
  rw [val_main_v221_apply, dh3_at A, v220_at A]; exact coe_mul' _ _
theorem v223_at (b s j) : val_main_v223 (F := Ideal) x0 x1 x2 x7 x8 x9 x10 x11 x12 x16 (ix3 b s j) = (((D.x (row b s)) j * (dh3 (K D) (R D (row b s)) j * D.bn j) : ℝ) : EReal) := by
  rw [val_main_v223_apply, A.h0, v221_at A]; exact coe_mul' _ _
theorem v225_at (b s z) : val_main_v225 (F := Ideal) x0 x1 x2 x7 x8 x9 x10 x11 x12 x16 (ix3 b s z) = ((∑ l, (D.x (row b s)) l * (dh3 (K D) (R D (row b s)) l * D.bn l) : ℝ) : EReal) := by
  unfold val_main_v225 val_main_v224 val_main_cst_42
  pointwise [v223_at A, coe_sum]
theorem v228_at (b s z) : val_main_v228 (F := Ideal) x0 x1 x2 x7 x8 x9 x10 x11 x12 x16 (ix3 b s z) = (((∑ l, (D.x (row b s)) l * (dh3 (K D) (R D (row b s)) l * D.bn l)) * (-(1/2) * (rr 1024 (D.x (row b s)) / ms 1024 (D.x (row b s)))) : ℝ) : EReal) := by
  rw [val_main_v228_apply, v225_at A, v126_at A]; exact coe_mul' _ _
theorem v229_at (b s z) : val_main_v229 (F := Ideal)  (ix3 b s z) = ((1024 : ℝ) : EReal) := by
  unfold val_main_v229 val_main_cst_43
  pointwise [lit_1024]
theorem v230_at (b s z) : val_main_v230 (F := Ideal) x0 x1 x2 x7 x8 x9 x10 x11 x12 x16 (ix3 b s z) = (((∑ l, (D.x (row b s)) l * (dh3 (K D) (R D (row b s)) l * D.bn l)) * (-(1/2) * (rr 1024 (D.x (row b s)) / ms 1024 (D.x (row b s)))) / 1024 : ℝ) : EReal) := by
  rw [val_main_v230_apply, v228_at A, v229_at A]; exact div_coe_coe _ _ p1024.ne'
theorem v232_at (b s j) : val_main_v232 (F := Ideal) x0 x1 x2 x7 x8 x9 x10 x11 x12 x16 (ix3 b s j) = (((∑ l, (D.x (row b s)) l * (dh3 (K D) (R D (row b s)) l * D.bn l)) * (-(1/2) * (rr 1024 (D.x (row b s)) / ms 1024 (D.x (row b s)))) / 1024 : ℝ) : EReal) := by
  unfold val_main_v232 val_main_v231 val_main_cst_44
  pointwise [v230_at A, coe_sum]
  simp only [Finset.univ_unique, Finset.sum_const, Finset.card_singleton, one_smul]
theorem v226_at (b s j) : val_main_v226 (F := Ideal) x0 (ix3 b s j) = (rr 1024 (D.x (row b s)) : EReal) := by
  unfold val_main_v226
  pointwise [rr3_at A]
theorem dxb_at (b s j) : val_main_v236 (F := Ideal) x0 x1 x2 x7 x8 x9 x10 x11 x12 x16 (ix3 b s j) = (nb 1024 (D.x (row b s)) (fun j => dh3 (K D) (R D (row b s)) j * D.bn j) j : EReal) := by
  rw [val_main_v236_apply, val_main_v234_apply, val_main_v235_apply, val_main_v233_apply, val_main_v227_apply, v232_at A, v221_at A, v226_at A, A.h0, ← nb_parts p1024]
  simp only [Ideal.mulf_def, Ideal.addf_def, coe_mul', coe_add']

end Cert.LatRefVal
end
-- ==== Proof.LatLay.lean ====
/- The arrays the host builds for the latent projections' backward kernel out of the arguments, at real arguments. -/
module

public import proofs.«01_k».proof.Proof.LatFinal
public import proofs.«01_k».proof.Proof.LatRefVal
public import proofs.«01_k».proof.Proof.LatRefQ

@[expose] public section

set_option maxRecDepth 16384

noncomputable section

open Idealize.ShloMosaic

namespace Cert.LatLay

open Cert.LatIdeal Cert.LatIdeal.Gen Cert.LatMath Cert.LatData Cert.Reals
open Cert.TailKernel (row row_div)

/-- The padding written as an integer zero. -/
theorem pad_zero : (((0#32 : BitVec 32).toInt : ℝ) : EReal) = ((0 : ℝ) : EReal) := by simp

/-- A head's plain and turned numbers side by side, padded to 128 lanes. -/
def wide (x : S2x4096x8x64.Idx → EReal) (y : S2x4096x8x32.Idx → EReal) : S8192x1024.Idx → EReal :=
  shapeCast S8192x1024 (pad S2x4096x8x128 ![0, 0, 0, 0] ![0, 0, 0, 32] ![0, 0, 0, 0] (concatenate S2x4096x8x96 3 [⟨S2x4096x8x64, x⟩, ⟨S2x4096x8x32, y⟩] concatenates_S2x4096x8x64_S2x4096x8x32_S2x4096x8x96_d3)
    (sitofp (F := Ideal) .f32 (constantI S_ 32 0#32)) pads_S2x4096x8x96_S2x4096x8x128_000_000_000_0320 h_S_) shapeCasts_S2x4096x8x128_S8192x1024
/-- Plain numbers alone, padded likewise. -/
def plain (x : S2x4096x8x64.Idx → EReal) : S8192x1024.Idx → EReal :=
  shapeCast S8192x1024 (pad S2x4096x8x128 ![0, 0, 0, 0] ![0, 0, 0, 64] ![0, 0, 0, 0] x
    (sitofp (F := Ideal) .f32 (constantI S_ 32 0#32)) pads_S2x4096x8x64_S2x4096x8x128_000_000_000_0640 h_S_) shapeCasts_S2x4096x8x128_S8192x1024
/-- The query weight's heads, padded likewise. -/
def wideHeads (w : S384x768.Idx → EReal) : S384x1024.Idx → EReal :=
  shapeCast S384x1024 (pad S384x8x128 ![0, 0, 0] ![0, 0, 32] ![0, 0, 0] (shapeCast S384x8x96 w shapeCasts_S384x768_S384x8x96)
    (sitofp (F := Ideal) .f32 (constantI S_ 32 0#32)) pads_S384x8x96_S384x8x128_000_000_0320 h_S_) shapeCasts_S384x8x128_S384x1024
/-- Two runs of columns with two others behind each. -/
def colsOf (u0 : S1024x256.Idx → EReal) (u1 : S1024x64.Idx → EReal) (u2 u3 : S1024x32.Idx → EReal) : S1024x384.Idx → EReal :=
  concatenate S1024x384 1 [⟨S1024x256, u0⟩, ⟨S1024x64, u1⟩, ⟨S1024x32, u2⟩, ⟨S1024x32, u3⟩] concatenates_S1024x256_S1024x64_S1024x32_S1024x32_S1024x384_d1
/-- The key-value weight's columns among columns of zeros. -/
def wideCols (w : S1024x288.Idx → EReal) : S1024x384.Idx → EReal :=
  colsOf (extractStridedSlice S1024x256 ![0, 0] w slices_S1024x288_S1024x256_0_0) (broadcastInDim S1024x64 ![] bcast_S_S1024x64 (constant (F := Ideal) S_ .f32 0x00000000#32))
    (extractStridedSlice S1024x32 ![0, 256] w slices_S1024x288_S1024x32_0_256) (broadcastInDim S1024x32 ![] bcast_S_S1024x32 (constant (F := Ideal) S_ .f32 0x00000000#32))
def tableOf (u0 : S2x4096x64.Idx → EReal) (u1 u2 : S2x4096x16.Idx → EReal) (u3 : S2x4096x32.Idx → EReal) : S8192x128.Idx → EReal :=
  shapeCast S8192x128 (concatenate S2x4096x128 2 [⟨S2x4096x64, u0⟩, ⟨S2x4096x16, u1⟩, ⟨S2x4096x16, u2⟩, ⟨S2x4096x32, u3⟩] concatenates_S2x4096x64_S2x4096x16_S2x4096x16_S2x4096x32_S2x4096x128_d2)
    shapeCasts_S2x4096x128_S8192x128
/-- A table in the lanes of a head. -/
def laneTable (z : BitVec 32) (x : S2x4096x16.Idx → EReal) : S8192x128.Idx → EReal :=
  tableOf (broadcastInDim S2x4096x64 ![] bcast_S_S2x4096x64 (constant (F := Ideal) S_ .f32 z)) x x (broadcastInDim S2x4096x32 ![] bcast_S_S2x4096x32 (constant (F := Ideal) S_ .f32 z))
/-- The latents and the shared key before the norm. -/
def latents (h : S2x4096x1024.Idx → EReal) (w : S1024x288.Idx → EReal) : S8192x384.Idx → EReal :=
  shapeCast S8192x384 (Host.dotGeneral (F := Ideal) (φ₁ := .f32) (φ₂ := .f32) dot_S2x4096x1024_S1024x384_S2x4096x384_2_0_01_1_n_n none h (wideCols w)) shapeCasts_S2x4096x384_S8192x384

theorem lanes_plain (a r) (l : Fin 128) (h : l.val < 64) : lanes a r l = a ⟨l.val, h⟩ := dif_pos h
theorem lanes_turned (a r) (l : Fin 128) (h : ¬l.val < 64) (h' : l.val - 64 < 32) : lanes a r l = r ⟨l.val - 64, h'⟩ := (dif_neg h).trans (dif_pos h')
theorem lanes_none (a r) (l : Fin 128) (h : ¬l.val < 64) (h' : ¬l.val - 64 < 32) : lanes a r l = 0 := (dif_neg h).trans (dif_neg h')
theorem wide_real (x y) (f : Fin 8192 → Fin 8 → Fin 64 → ℝ) (g : Fin 8192 → Fin 8 → Fin 32 → ℝ) (hx : ∀ b s h e, x (ix4 b s h e) = (f (row b s) h e : EReal))
    (hy : ∀ b s h e, y (ix4 b s h e) = (g (row b s) h e : EReal)) (n : Fin 8192) (q : Fin 1024) : wide x y (ix2 n q) = (lanes (f n (hof q)) (g n (hof q)) (lof q) : EReal) := by
  unfold wide
  pointwise [hx, hy, row_div]
  have hn := n.isLt
  have hq := q.isLt
  by_cases h1 : q.val % 128 < 64
  · refine (dif_pos ⟨by omega, by omega, by omega, by omega⟩).trans ((dif_pos h1).trans ?_)
    exact congrArg (fun z : ℝ => (z : EReal)) (lanes_plain _ _ (lof q) h1).symm
  · by_cases h2 : q.val % 128 - 64 < 32
    · refine (dif_pos ⟨by omega, by omega, by omega, by omega⟩).trans ((dif_neg h1).trans ?_)
      exact congrArg (fun z : ℝ => (z : EReal)) (lanes_turned _ _ (lof q) h1 h2).symm
    · refine (dif_neg fun h => by have := h.2.2.2; omega).trans (pad_zero.trans ?_)
      exact congrArg (fun z : ℝ => (z : EReal)) (lanes_none _ _ (lof q) h1 h2).symm
theorem plain_real (x) (f : Fin 8192 → Fin 8 → Fin 64 → ℝ) (hx : ∀ b s h e, x (ix4 b s h e) = (f (row b s) h e : EReal)) (n : Fin 8192) (q : Fin 1024) :
    plain x (ix2 n q) = (lanes (f n (hof q)) 0 (lof q) : EReal) := by
  unfold plain
  pointwise [hx, row_div]
  unfold lanes
  show _ = ((if h : q.val % 128 < 64 then f n (hof q) ⟨q.val % 128, h⟩ else if h : q.val % 128 - 64 < 32 then (0 : Fin 32 → ℝ) ⟨q.val % 128 - 64, h⟩ else 0 : ℝ) : EReal)
  have hn := n.isLt
  have hq := q.isLt
  by_cases h1 : q.val % 128 < 64
  · rw [dif_pos ⟨by omega, by omega, by omega, h1⟩, dif_pos h1]; rfl
  · rw [dif_neg fun h => h1 h.2.2.2, dif_neg h1]
    refine pad_zero.trans (congrArg (fun z : ℝ => (z : EReal)) ?_)
    split <;> rfl
theorem wideHeads_real (w) (f : Fin 384 → Fin 768 → ℝ) (hw : ∀ j q, w (ix2 j q) = (f j q : EReal)) (j : Fin 384) (q : Fin 1024) : wideHeads w (ix2 j q) = (heads (f j) q : EReal) := by
  unfold wideHeads
  pointwise [hw]
  unfold heads
  have hq := q.isLt
  by_cases h : q.val % 128 < 96
  · rw [dif_pos ⟨by omega, h⟩, dif_pos h]
    refine congrArg (fun i => ((f j i : ℝ) : EReal)) (Fin.ext ?_)
    show q.val / 128 * 96 + q.val % 128 = 96 * (q.val / 128) + q.val % 128
    omega
  · rw [dif_neg fun h' => h h'.2, dif_neg h]; exact pad_zero
theorem wideCols_real (w) (f : Fin 1024 → Fin 288 → ℝ) (hw : ∀ k i, w (ix2 k i) = (f k i : EReal)) (k : Fin 1024) (i : Fin 384) : wideCols w (ix2 k i) = (cols (f k) i : EReal) := by
  unfold wideCols colsOf
  pointwise [hw]
  unfold cols
  by_cases h1 : i.val < 256
  · rw [dif_pos h1, dif_pos h1]
  rw [dif_neg h1, dif_neg h1]
  by_cases h2 : i.val - 256 < 64
  · rw [dif_pos h2, if_pos h2]; rfl
  rw [dif_neg h2, if_neg h2]
  by_cases h3 : i.val - 256 - 64 < 32
  · rw [dif_pos h3, dif_pos h3]
  · rw [dif_neg h3, dif_neg h3]; rfl
theorem laneTable_real (z : BitVec 32) (r : ℝ) (hz : Ideal.ofBits .f32 z = (r : EReal)) (x) (f : Fin 8192 → Fin 16 → ℝ) (hx : ∀ b s k, x (ix3 b s k) = (f (row b s) k : EReal))
    (n : Fin 8192) (l : Fin 128) : laneTable z x (ix2 n l) = (table r (f n) l : EReal) := by
  unfold laneTable tableOf
  pointwise [hx, row_div]
  unfold table
  by_cases h1 : l.val < 64
  · rw [dif_pos h1, if_pos h1]; exact hz
  rw [dif_neg h1, if_neg h1]
  by_cases h2 : l.val - 64 < 16
  · rw [dif_pos h2, dif_pos h2]
  rw [dif_neg h2, dif_neg h2]
  by_cases h3 : l.val - 64 - 16 < 16
  · rw [dif_pos h3, dif_pos h3]
  · rw [dif_neg h3, dif_neg h3]; exact hz
theorem latents_real (h w) (g : Fin 8192 → Fin 1024 → ℝ) (f : Fin 1024 → Fin 288 → ℝ) (hh : ∀ b s k, h (ix3 b s k) = (g (row b s) k : EReal)) (hw : ∀ k i, w (ix2 k i) = (f k i : EReal))
    (n : Fin 8192) (i : Fin 384) : latents h w (ix2 n i) = ((∑ k, g n k * cols (f k) i : ℝ) : EReal) := by
  unfold latents
  pointwise [hh, wideCols_real w f hw, row_div, coe_mul', coe_sum]

theorem flat1024 (x : S2x4096x1024.Idx → EReal) (f : Fin 8192 → Fin 1024 → ℝ) (hx : ∀ b s k, x (ix3 b s k) = (f (row b s) k : EReal)) (n k) :
    shapeCast S8192x1024 x shapeCasts_S2x4096x1024_S8192x1024 (ix2 n k) = (f n k : EReal) := by pointwise [hx, row_div]
theorem flat512 (x : S2x4096x512.Idx → EReal) (f : Fin 8192 → Fin 512 → ℝ) (hx : ∀ b s k, x (ix3 b s k) = (f (row b s) k : EReal)) (n k) :
    shapeCast S8192x512 x shapeCasts_S2x4096x512_S8192x512 (ix2 n k) = (f n k : EReal) := by pointwise [hx, row_div]
theorem flat384 (x : S2x4096x384.Idx → EReal) (f : Fin 8192 → Fin 384 → ℝ) (hx : ∀ b s k, x (ix3 b s k) = (f (row b s) k : EReal)) (n k) :
    shapeCast S8192x384 x shapeCasts_S2x4096x384_S8192x384 (ix2 n k) = (f n k : EReal) := by pointwise [hx, row_div]

/-- The signs' rows of the kernel's own table. -/
theorem sign_words : ∀ l : Fin 128, lit0 ⟨128 + l.val, by omega⟩ = (if 64 ≤ l.val ∧ l.val < 80 then 0xBF800000#32 else 0#32)
    ∧ lit0 ⟨256 + l.val, by omega⟩ = (if 80 ≤ l.val ∧ l.val < 96 then 0x3F800000#32 else 0#32) := by decide +kernel

end Cert.LatLay
end
-- ==== Proof.LatEntry.lean ====
/- What the host leaves for the latent projections' backward kernel, as functions of the arguments. -/
module

public import proofs.«01_k».proof.Proof.LatLay

@[expose] public section

set_option maxHeartbeats 1000000
set_option maxRecDepth 65536

noncomputable section

open Idealize.ShloMosaic Idealize.ShloMosaic.TcCoe Idealize.SL.Sem Idealize.ShloMosaic.Tactic

namespace Cert.LatHost

open Cert.LatIdeal Cert.LatIdeal.Gen Cert.LatMath Cert.LatData Cert.Reals Cert.LatOut Cert.LatFinal Cert.LatLay
open Cert.TailKernel (row row_div)

variable (m : (ℓ : Loc nD τ sig) → Buf (Elt Ideal) ℓ) (c : Dev nD)

/-- The host's operations before the grid. -/
def ops : List (HloOp τ sig (Elt Ideal)) := List.flatten [hostOps0, hostOps0_1, hostOps0_2, hostOps0_3, hostOps0_4, hostOps0_5, hostOps0_6, hostOps0_7, hostOps0_8]
/-- What the first `n` of them leave. -/
def upto (n : ℕ) : (b : DevRef τ sig) → b.ty.Contents (Elt Ideal) := StableHlo.after (ops.take n) fun b => m (c, b)

theorem V_cut (n : ℕ) (b : Ref sig .tc) : V m c b = StableHlo.after (ops.drop n) (upto m c n) (Proc.devRef .tc b) := by
  unfold upto
  rw [← StableHlo.after_append, List.take_append_drop]
  rfl

/-- Before the key-value weight's columns are put together. -/
theorem upto7 : upto m c 7 (Proc.devRef .tc main_v2) = extractStridedSlice S1024x256 ![0, 0] (m ((c : Thread nD τ).loc main_arg4)) slices_S1024x288_S1024x256_0_0
    ∧ upto m c 7 (Proc.devRef .tc main_v0) = broadcastInDim S1024x64 ![] bcast_S_S1024x64 (constant (F := Ideal) S_ .f32 0x00000000#32)
    ∧ upto m c 7 (Proc.devRef .tc main_v3) = extractStridedSlice S1024x32 ![0, 256] (m ((c : Thread nD τ).loc main_arg4)) slices_S1024x288_S1024x32_0_256
    ∧ upto m c 7 (Proc.devRef .tc main_v1) = broadcastInDim S1024x32 ![] bcast_S_S1024x32 (constant (F := Ideal) S_ .f32 0x00000000#32)
    ∧ upto m c 7 (Proc.devRef .tc main_arg0) = (m ((c : Thread nD τ).loc main_arg0))
    ∧ upto m c 7 (Proc.devRef .tc main_arg3) = (m ((c : Thread nD τ).loc main_arg3)) := by
  unfold upto
  simp only [ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero]
  refine ⟨?_, ?_, ?_, ?_, ?_, ?_⟩ <;> (entry_read; rfl)
theorem built_cols : V m c main_v63 = wideCols (m ((c : Thread nD τ).loc main_arg4)) := by
  rw [V_cut m c 7]
  obtain ⟨h2, h0, h3, h1, k0, k3⟩ := upto7 m c
  generalize upto m c 7 = G at *
  simp only [ops, hostOps0, hostOps0_1, hostOps0_2, hostOps0_3, hostOps0_4, hostOps0_5, hostOps0_6, hostOps0_7, hostOps0_8, List.flatten_cons, List.flatten_nil, List.append_nil, List.cons_append, List.nil_append, List.drop_succ_cons, List.drop_zero]
  entry_read
  show colsOf (G (Proc.devRef .tc main_v2)) (G (Proc.devRef .tc main_v0)) (G (Proc.devRef .tc main_v3)) (G (Proc.devRef .tc main_v1)) = _
  rw [h2, h0, h3, h1]
  rfl
theorem built_latents : V m c main_v51 = latents (LatRefIdeal.Read.val_main_v15 (F := Ideal) (m ((c : Thread nD τ).loc main_arg0)) (m ((c : Thread nD τ).loc main_arg3))) (m ((c : Thread nD τ).loc main_arg4)) := by
  rw [V_cut m c 7]
  obtain ⟨h2, h0, h3, h1, k0, k3⟩ := upto7 m c
  generalize upto m c 7 = G at *
  simp only [ops, hostOps0, hostOps0_1, hostOps0_2, hostOps0_3, hostOps0_4, hostOps0_5, hostOps0_6, hostOps0_7, hostOps0_8, List.flatten_cons, List.flatten_nil, List.append_nil, List.cons_append, List.nil_append, List.drop_succ_cons, List.drop_zero]
  entry_read
  show shapeCast S8192x384 (Host.dotGeneral (F := Ideal) (φ₁ := .f32) (φ₂ := .f32) dot_S2x4096x1024_S1024x384_S2x4096x384_2_0_01_1_n_n none (LatRefIdeal.Read.val_main_v15 (F := Ideal) (G (Proc.devRef .tc main_arg0)) (G (Proc.devRef .tc main_arg3))) (colsOf (G (Proc.devRef .tc main_v2)) (G (Proc.devRef .tc main_v0)) (G (Proc.devRef .tc main_v3)) (G (Proc.devRef .tc main_v1)))) shapeCasts_S2x4096x384_S8192x384 = _
  rw [h2, h0, h3, h1, k0, k3]
  rfl
/-- Before the cosines' table. -/
theorem upto75 : upto m c 75 (Proc.devRef .tc main_v54) = broadcastInDim S2x4096x64 ![] bcast_S_S2x4096x64 (constant (F := Ideal) S_ .f32 0x3F800000#32)
    ∧ upto m c 75 (Proc.devRef .tc main_arg1) = (m ((c : Thread nD τ).loc main_arg1))
    ∧ upto m c 75 (Proc.devRef .tc main_v55) = broadcastInDim S2x4096x32 ![] bcast_S_S2x4096x32 (constant (F := Ideal) S_ .f32 0x3F800000#32) := by
  unfold upto
  simp only [ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero]
  refine ⟨?_, ?_, ?_⟩ <;> (entry_read; rfl)
theorem built_cos : V m c main_v57 = laneTable 0x3F800000#32 (m ((c : Thread nD τ).loc main_arg1)) := by
  rw [V_cut m c 75]
  obtain ⟨h0, h1, h2⟩ := upto75 m c
  generalize upto m c 75 = G at *
  simp only [ops, hostOps0, hostOps0_1, hostOps0_2, hostOps0_3, hostOps0_4, hostOps0_5, hostOps0_6, hostOps0_7, hostOps0_8, List.flatten_cons, List.flatten_nil, List.append_nil, List.cons_append, List.nil_append, List.drop_succ_cons, List.drop_zero]
  entry_read
  show tableOf (G (Proc.devRef .tc main_v54)) (G (Proc.devRef .tc main_arg1)) (G (Proc.devRef .tc main_arg1)) (G (Proc.devRef .tc main_v55)) = _
  rw [h0, h1, h2]
  rfl
/-- Before the sines' table. -/
theorem upto81 : upto m c 81 (Proc.devRef .tc main_v58) = broadcastInDim S2x4096x64 ![] bcast_S_S2x4096x64 (constant (F := Ideal) S_ .f32 0x00000000#32)
    ∧ upto m c 81 (Proc.devRef .tc main_arg2) = (m ((c : Thread nD τ).loc main_arg2))
    ∧ upto m c 81 (Proc.devRef .tc main_v59) = broadcastInDim S2x4096x32 ![] bcast_S_S2x4096x32 (constant (F := Ideal) S_ .f32 0x00000000#32) := by
  unfold upto
  simp only [ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero]
  refine ⟨?_, ?_, ?_⟩ <;> (entry_read; rfl)
theorem built_sin : V m c main_v61 = laneTable 0x00000000#32 (m ((c : Thread nD τ).loc main_arg2)) := by
  rw [V_cut m c 81]
  obtain ⟨h0, h1, h2⟩ := upto81 m c
  generalize upto m c 81 = G at *
  simp only [ops, hostOps0, hostOps0_1, hostOps0_2, hostOps0_3, hostOps0_4, hostOps0_5, hostOps0_6, hostOps0_7, hostOps0_8, List.flatten_cons, List.flatten_nil, List.append_nil, List.cons_append, List.nil_append, List.drop_succ_cons, List.drop_zero]
  entry_read
  show tableOf (G (Proc.devRef .tc main_v58)) (G (Proc.devRef .tc main_arg2)) (G (Proc.devRef .tc main_arg2)) (G (Proc.devRef .tc main_v59)) = _
  rw [h0, h1, h2]
  rfl
/-- The arrays the host pads. -/
theorem built : V m c main_v40 = wide (m ((c : Thread nD τ).loc main_arg11)) (m ((c : Thread nD τ).loc main_arg12)) ∧ V m c main_v44 = wide (m ((c : Thread nD τ).loc main_arg13)) (m ((c : Thread nD τ).loc main_arg14)) ∧ V m c main_v47 = plain (m ((c : Thread nD τ).loc main_arg15))
    ∧ V m c main_v69 = wideHeads (m ((c : Thread nD τ).loc main_arg10))
    ∧ V m c main_v50 = shapeCast S8192x384 (LatRefIdeal.Read.val_main_v133 (F := Ideal) (m ((c : Thread nD τ).loc main_arg0)) (m ((c : Thread nD τ).loc main_arg7)) (m ((c : Thread nD τ).loc main_arg8))) shapeCasts_S2x4096x384_S8192x384 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  refine ⟨?_, ?_, ?_, ?_, ?_⟩ <;> (entry_read; rfl)
/-- The arrays that are an argument in another layout. -/
theorem copied : V m c main_v49 = shapeCast S8192x512 (m ((c : Thread nD τ).loc main_arg16)) shapeCasts_S2x4096x512_S8192x512
    ∧ V m c main_v52 = shapeCast S8192x1024 (m ((c : Thread nD τ).loc main_arg0)) shapeCasts_S2x4096x1024_S8192x1024
    ∧ V m c main_v53 = shapeCast S8192x1024 (m ((c : Thread nD τ).loc main_arg17)) shapeCasts_S2x4096x1024_S8192x1024
    ∧ V m c main_cst = (fun i => Ideal.ofBits .f32 (lit0 (S8x128.rowMajor i)))
    ∧ V m c main_v62 = shapeCast S1x1024 (m ((c : Thread nD τ).loc main_arg3)) shapeCasts_S1024_S1x1024
    ∧ V m c main_v64 = shapeCast S1x256 (m ((c : Thread nD τ).loc main_arg5)) shapeCasts_S256_S1x256
    ∧ V m c main_v65 = (m ((c : Thread nD τ).loc main_arg6))
    ∧ V m c main_v66 = shapeCast S1x1024 (m ((c : Thread nD τ).loc main_arg7)) shapeCasts_S1024_S1x1024
    ∧ V m c main_v67 = (m ((c : Thread nD τ).loc main_arg8))
    ∧ V m c main_v68 = shapeCast S1x384 (m ((c : Thread nD τ).loc main_arg9)) shapeCasts_S384_S1x384 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  refine ⟨?_, ?_, ?_, ?_, ?_, ?_, ?_, ?_, ?_, ?_⟩ <;> (entry_read; rfl)

end Cert.LatHost
end
-- ==== Proof.LatHost.lean ====
/- The blocks the latent projections' backward kernel reads, at real arguments. -/
module

public import proofs.«01_k».proof.Proof.LatEntry

@[expose] public section

set_option maxHeartbeats 1000000
set_option maxRecDepth 65536

noncomputable section

open Idealize.ShloMosaic Idealize.ShloMosaic.TcCoe Idealize.SL.Sem Idealize.ShloMosaic.Tactic

namespace Cert.LatHost

open Cert.LatIdeal Cert.LatIdeal.Gen Cert.LatMath Cert.LatData Cert.Reals Cert.LatOut Cert.LatFinal Cert.LatLay
open Cert.TailKernel (row row_div)

theorem idx_row : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] := by decide +kernel
theorem idx_all : ∀ t : Fin cfg0.N, win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] := by decide +kernel

variable {m : (ℓ : Loc nD τ sig) → Buf (Elt Ideal) ℓ} {c : Dev nD}
variable {D : Data} (A : LatRefVal.RArgs (m ((c : Thread nD τ).loc main_arg0)) (m ((c : Thread nD τ).loc main_arg17)) (m ((c : Thread nD τ).loc main_arg1)) (m ((c : Thread nD τ).loc main_arg2)) (m ((c : Thread nD τ).loc main_arg3)) (m ((c : Thread nD τ).loc main_arg7)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg15)) (m ((c : Thread nD τ).loc main_arg12)) (m ((c : Thread nD τ).loc main_arg14)) (m ((c : Thread nD τ).loc main_arg16)) D)
include A
theorem b0 (t : Fin cfg0.N) (r : Fin 512) (k : Fin 1024) : iblk m c 0 t (ix2 r k) = ((R D (trow t.val r)).dq k : EReal) := by
  obtain ⟨i0, i1, i2, i3, i4, i5, i6, i7, i8, i9⟩ := idx_row t
  have ht : t.val < 16 := t.isLt
  refine Eq.trans (show _ = V m c main_v40 (ix2 (trow t.val r) k) from ?_) ?_
  · unfold trow
    blk_ext [iblk, i0]
  rw [(built m c).1]
  exact wide_real _ _ D.qa D.qr A.h11 A.h12 _ k
theorem b1 (t : Fin cfg0.N) (r : Fin 512) (k : Fin 1024) : iblk m c 1 t (ix2 r k) = ((R D (trow t.val r)).dk k : EReal) := by
  obtain ⟨i0, i1, i2, i3, i4, i5, i6, i7, i8, i9⟩ := idx_row t
  have ht : t.val < 16 := t.isLt
  refine Eq.trans (show _ = V m c main_v44 (ix2 (trow t.val r) k) from ?_) ?_
  · unfold trow
    blk_ext [iblk, i1]
  rw [(built m c).2.1]
  exact wide_real _ _ D.ka D.kr A.h13 A.h14 _ k
theorem b2 (t : Fin cfg0.N) (r : Fin 512) (k : Fin 1024) : iblk m c 2 t (ix2 r k) = ((R D (trow t.val r)).dv k : EReal) := by
  obtain ⟨i0, i1, i2, i3, i4, i5, i6, i7, i8, i9⟩ := idx_row t
  have ht : t.val < 16 := t.isLt
  refine Eq.trans (show _ = V m c main_v47 (ix2 (trow t.val r) k) from ?_) ?_
  · unfold trow
    blk_ext [iblk, i2]
  rw [(built m c).2.2.1]
  exact plain_real _ D.dv A.h15 _ k
theorem b3 (t : Fin cfg0.N) (r : Fin 512) (k : Fin 512) : iblk m c 3 t (ix2 r k) = ((R D (trow t.val r)).dg k : EReal) := by
  obtain ⟨i0, i1, i2, i3, i4, i5, i6, i7, i8, i9⟩ := idx_row t
  have ht : t.val < 16 := t.isLt
  refine Eq.trans (show _ = V m c main_v49 (ix2 (trow t.val r) k) from ?_) ?_
  · unfold trow
    blk_ext [iblk, i3]
  rw [(copied m c).1]
  exact flat512 _ D.dg A.h16 _ k
theorem b4 (t : Fin cfg0.N) (r : Fin 512) (k : Fin 384) : iblk m c 4 t (ix2 r k) = ((R D (trow t.val r)).cq k : EReal) := by
  obtain ⟨i0, i1, i2, i3, i4, i5, i6, i7, i8, i9⟩ := idx_row t
  have ht : t.val < 16 := t.isLt
  refine Eq.trans (show _ = V m c main_v50 (ix2 (trow t.val r) k) from ?_) ?_
  · unfold trow
    blk_ext [iblk, i4]
  rw [(built m c).2.2.2.2]
  exact flat384 _ (fun n => (R D n).cq) (LatRefVal.cq_at A) _ k
theorem b5 (t : Fin cfg0.N) (r : Fin 512) (k : Fin 384) : iblk m c 5 t (ix2 r k) = ((R D (trow t.val r)).ckr k : EReal) := by
  obtain ⟨i0, i1, i2, i3, i4, i5, i6, i7, i8, i9⟩ := idx_row t
  have ht : t.val < 16 := t.isLt
  refine Eq.trans (show _ = V m c main_v51 (ix2 (trow t.val r) k) from ?_) ?_
  · unfold trow
    blk_ext [iblk, i5]
  rw [built_latents m c]
  exact latents_real _ _ (fun n k => xh 1024 (D.x n) k * D.kvn k) _ (LatRefVal.h_at A) A.h4 _ k
theorem b6 (t : Fin cfg0.N) (r : Fin 512) (k : Fin 1024) : iblk m c 6 t (ix2 r k) = ((R D (trow t.val r)).x k : EReal) := by
  obtain ⟨i0, i1, i2, i3, i4, i5, i6, i7, i8, i9⟩ := idx_row t
  have ht : t.val < 16 := t.isLt
  refine Eq.trans (show _ = V m c main_v52 (ix2 (trow t.val r) k) from ?_) ?_
  · unfold trow
    blk_ext [iblk, i6]
  rw [(copied m c).2.1]
  exact flat1024 _ D.x A.h0 _ k
theorem b7 (t : Fin cfg0.N) (r : Fin 512) (k : Fin 1024) : iblk m c 7 t (ix2 r k) = ((R D (trow t.val r)).dX k : EReal) := by
  obtain ⟨i0, i1, i2, i3, i4, i5, i6, i7, i8, i9⟩ := idx_row t
  have ht : t.val < 16 := t.isLt
  refine Eq.trans (show _ = V m c main_v53 (ix2 (trow t.val r) k) from ?_) ?_
  · unfold trow
    blk_ext [iblk, i7]
  rw [(copied m c).2.2.1]
  exact flat1024 _ D.dX A.h17 _ k
theorem b8 (t : Fin cfg0.N) (r : Fin 512) (k : Fin 128) : iblk m c 8 t (ix2 r k) = ((R D (trow t.val r)).cs k : EReal) := by
  obtain ⟨i0, i1, i2, i3, i4, i5, i6, i7, i8, i9⟩ := idx_row t
  have ht : t.val < 16 := t.isLt
  refine Eq.trans (show _ = V m c main_v57 (ix2 (trow t.val r) k) from ?_) ?_
  · unfold trow
    blk_ext [iblk, i8]
  rw [built_cos m c]
  exact laneTable_real _ 1 lit_one _ D.cos A.h1 _ k
theorem b9 (t : Fin cfg0.N) (r : Fin 512) (k : Fin 128) : iblk m c 9 t (ix2 r k) = ((R D (trow t.val r)).sn k : EReal) := by
  obtain ⟨i0, i1, i2, i3, i4, i5, i6, i7, i8, i9⟩ := idx_row t
  have ht : t.val < 16 := t.isLt
  refine Eq.trans (show _ = V m c main_v61 (ix2 (trow t.val r) k) from ?_) ?_
  · unfold trow
    blk_ext [iblk, i9]
  rw [built_sin m c]
  exact laneTable_real _ 0 (Ideal.ofBits_zero _) _ D.sin A.h2 _ k
theorem b11 (t : Fin cfg0.N) (r : Fin 1) (k : Fin 1024) : iblk m c 11 t (ix2 r k) = ((K D).kvn k : EReal) := by
  obtain ⟨i10, i11, i12, i13, i14, i15, i16, i17, i18⟩ := idx_all t
  have ht : t.val < 16 := t.isLt
  refine Eq.trans (show _ = V m c main_v62 (ix2 (r) k) from ?_) ?_
  · skip
    blk_ext [iblk, i11]
  rw [(copied m c).2.2.2.2.1]
  pointwise [A.h3]
  rfl
theorem b12 (t : Fin cfg0.N) (r : Fin 1024) (k : Fin 384) : iblk m c 12 t (ix2 r k) = ((K D).wdkv r k : EReal) := by
  obtain ⟨i10, i11, i12, i13, i14, i15, i16, i17, i18⟩ := idx_all t
  have ht : t.val < 16 := t.isLt
  refine Eq.trans (show _ = V m c main_v63 (ix2 (r) k) from ?_) ?_
  · skip
    blk_ext [iblk, i12]
  rw [built_cols m c]
  exact wideCols_real _ D.wdkv A.h4 r k
theorem b13 (t : Fin cfg0.N) (r : Fin 1) (k : Fin 256) : iblk m c 13 t (ix2 r k) = ((K D).ckvn k : EReal) := by
  obtain ⟨i10, i11, i12, i13, i14, i15, i16, i17, i18⟩ := idx_all t
  have ht : t.val < 16 := t.isLt
  refine Eq.trans (show _ = V m c main_v64 (ix2 (r) k) from ?_) ?_
  · skip
    blk_ext [iblk, i13]
  rw [(copied m c).2.2.2.2.2.1]
  pointwise [A.h5]
  rfl
theorem b14 (t : Fin cfg0.N) (r : Fin 256) (k : Fin 1024) : iblk m c 14 t (ix2 r k) = ((K D).wukv r k : EReal) := by
  obtain ⟨i10, i11, i12, i13, i14, i15, i16, i17, i18⟩ := idx_all t
  have ht : t.val < 16 := t.isLt
  refine Eq.trans (show _ = V m c main_v65 (ix2 (r) k) from ?_) ?_
  · skip
    blk_ext [iblk, i14]
  rw [(copied m c).2.2.2.2.2.2.1]
  exact A.h6 r k
theorem b15 (t : Fin cfg0.N) (r : Fin 1) (k : Fin 1024) : iblk m c 15 t (ix2 r k) = ((K D).bn k : EReal) := by
  obtain ⟨i10, i11, i12, i13, i14, i15, i16, i17, i18⟩ := idx_all t
  have ht : t.val < 16 := t.isLt
  refine Eq.trans (show _ = V m c main_v66 (ix2 (r) k) from ?_) ?_
  · skip
    blk_ext [iblk, i15]
  rw [(copied m c).2.2.2.2.2.2.2.1]
  pointwise [A.h7]
  rfl
theorem b16 (t : Fin cfg0.N) (r : Fin 1024) (k : Fin 896) : iblk m c 16 t (ix2 r k) = ((K D).bwin r k : EReal) := by
  obtain ⟨i10, i11, i12, i13, i14, i15, i16, i17, i18⟩ := idx_all t
  have ht : t.val < 16 := t.isLt
  refine Eq.trans (show _ = V m c main_v67 (ix2 (r) k) from ?_) ?_
  · skip
    blk_ext [iblk, i16]
  rw [(copied m c).2.2.2.2.2.2.2.2.1]
  exact A.h8 r k
theorem b17 (t : Fin cfg0.N) (r : Fin 1) (k : Fin 384) : iblk m c 17 t (ix2 r k) = ((K D).qn k : EReal) := by
  obtain ⟨i10, i11, i12, i13, i14, i15, i16, i17, i18⟩ := idx_all t
  have ht : t.val < 16 := t.isLt
  refine Eq.trans (show _ = V m c main_v68 (ix2 (r) k) from ?_) ?_
  · skip
    blk_ext [iblk, i17]
  rw [(copied m c).2.2.2.2.2.2.2.2.2]
  pointwise [A.h9]
  rfl
theorem b18 (t : Fin cfg0.N) (r : Fin 384) (k : Fin 1024) : iblk m c 18 t (ix2 r k) = ((K D).wuq r k : EReal) := by
  obtain ⟨i10, i11, i12, i13, i14, i15, i16, i17, i18⟩ := idx_all t
  have ht : t.val < 16 := t.isLt
  refine Eq.trans (show _ = V m c main_v69 (ix2 (r) k) from ?_) ?_
  · skip
    blk_ext [iblk, i18]
  rw [(built m c).2.2.2.1]
  exact wideHeads_real _ D.wuq A.h10 r k

omit A in
theorem sign_rows (t : Fin cfg0.N) (l : Fin 128) : iblk m c 10 t (ix2 1 l) = (sg1 l : EReal) ∧ iblk m c 10 t (ix2 2 l) = (sg2 l : EReal) := by
  obtain ⟨i10, i11, i12, i13, i14, i15, i16, i17, i18⟩ := idx_all t
  have e (a : Fin 8) : iblk m c 10 t (ix2 a l) = Ideal.ofBits .f32 (lit0 (S8x128.rowMajor (ix2 a l))) := by
    refine Eq.trans (show _ = V m c main_cst (ix2 a l) from ?_) ?_
    · blk_ext [iblk, i10]
    rw [(copied m c).2.2.2.1]
  have p (a : Fin 8) : ((S8x128).rowMajor (ix2 a l)).val = 128 * a.val + l.val := (Shape.rowMajor_val_two (ix2 a l)).trans (by simp; omega)
  obtain ⟨w1, w2⟩ := sign_words l
  constructor
  · rw [e, show S8x128.rowMajor (ix2 1 l) = (⟨128 + l.val, by omega⟩ : Fin 1024) from Fin.ext (p 1)]
    refine (congrArg (Ideal.ofBits .f32) w1).trans ?_
    unfold sg1
    by_cases h : 64 ≤ l.val ∧ l.val < 80
    · rw [if_pos h, if_pos h]; exact (by simp [Ideal.ofBits, Ideal.ieee, -EReal.coe_mul, -EReal.coe_neg]; norm_num)
    · rw [if_neg h, if_neg h]; exact Ideal.ofBits_zero _
  · rw [e, show S8x128.rowMajor (ix2 2 l) = (⟨256 + l.val, by omega⟩ : Fin 1024) from Fin.ext (p 2)]
    refine (congrArg (Ideal.ofBits .f32) w2).trans ?_
    unfold sg2
    by_cases h : 80 ≤ l.val ∧ l.val < 96
    · rw [if_pos h, if_pos h]; exact lit_one
    · rw [if_neg h, if_neg h]; exact Ideal.ofBits_zero _

/-- Every point's blocks are the rows and weights of the arguments. -/
theorem blocks : Blocks (K D) (R D) m c := fun t =>
  ⟨b0 A t, b1 A t, b2 A t, b3 A t, b4 A t, b5 A t, b6 A t, b7 A t, b8 A t, b9 A t, fun l => (sign_rows t l).1, fun l => (sign_rows t l).2,
    b11 A t, b12 A t, b13 A t, b14 A t, b15 A t, b16 A t, b17 A t, b18 A t⟩

end Cert.LatHost
end
-- ==== Proof.LatRefRes.lean ====
/- The nine results of the latent projections' reference as real numbers. -/
module

public import proofs.«01_k».proof.Proof.LatRefVal
public import proofs.«01_k».proof.Proof.LatRefQ

@[expose] public section

set_option maxRecDepth 8000

noncomputable section

open Idealize.ShloMosaic Cert.Reals Cert.LatMath Cert.LatData Cert.Sums
open Cert.LatRefIdeal Cert.LatRefIdeal.Read
open Cert.TailKernel (row row_div)
open Cert.ConvRefVal (sum_rows)
open Cert.LatPay (lit_256 lit_384)

namespace Cert.LatRefVal

variable {x0 x17 x1 x2 x3 x7 x4 x5 x6 x8 x9 x10 x11 x13 x15 x12 x14 x16 D}
variable (A : RArgs x0 x17 x1 x2 x3 x7 x4 x5 x6 x8 x9 x10 x11 x13 x15 x12 x14 x16 D)
include A

theorem dx_val : val_main_v244 (F := Ideal) x0 x1 x2 x3 x4 x5 x6 x7 x8 x9 x10 x11 x12 x13 x14 x15 x16 x17 = fun i => (dx (K D) (R D (i 0)) (i 1) : EReal) := by
  funext i
  obtain ⟨n, j, rfl⟩ : ∃ (n : Fin 8192) (j : Fin 1024), i = ix2 n j := ⟨i 0, i 1, by idx_ext⟩
  unfold val_main_v244 val_main_v243 val_main_v242
  pointwise [A.h17, dxk_at A, dxb_at A, coe_add', row_div]
  congr 1
  refine congrArg _ ?_
  unfold nb
  show _ = rr 1024 (D.x n) * (dh2 (K D) (R D n) j * D.kvn j + dh3 (K D) (R D n) j * D.bn j - xh 1024 (D.x n) j
    * ((∑ l, (dh2 (K D) (R D n) l * D.kvn l + dh3 (K D) (R D n) l * D.bn l) * xh 1024 (D.x n) l) / 1024))
  simp only [add_mul, Finset.sum_add_distrib]
  ring
theorem wuq_val : val_main_v247 (F := Ideal) x0 x1 x2 x7 x8 x9 x11 x12 = fun i => ((∑ n, gwuq (K D) (R D n) (i 0) (i 1) (i 2) : ℝ) : EReal) := by
  funext i
  obtain ⟨h, j, l, rfl⟩ : ∃ (h : Fin 8) (j : Fin 384) (l : Fin 128), i = ix3 h j l := ⟨i 0, i 1, i 2, by idx_ext⟩
  unfold val_main_v247 val_main_v246 val_main_v245 val_main_call0_v0 val_main_c
  pointwise [gwq_at A]
  by_cases hl : l.val < 96
  · rw [dif_pos hl]
    show _ = ((∑ n, xh 384 (R D n).cq j * D.qn j * dquu (R D n) (hd h l) : ℝ) : EReal)
    refine congrArg (fun z : ℝ => (z : EReal)) (Finset.sum_congr rfl fun n _ => congrArg (fun q => xh 384 (R D n).cq j * D.qn j * dquu (R D n) q) (Fin.ext ?_))
    show 128 * ((h.val * 96 + l.val) / 96) + (h.val * 96 + l.val) % 96 = 128 * h.val + l.val
    omega
  · rw [dif_neg hl]
    have e : ∑ n, gwuq (K D) (R D n) h j l = 0 := Finset.sum_eq_zero fun n _ => by unfold gwuq; rw [dquu_rest D n h l (by omega), mul_zero]
    show (((0#32 : BitVec 32).toInt : ℝ) : EReal) = ((∑ n, gwuq (K D) (R D n) h j l : ℝ) : EReal)
    rw [e]; simp
theorem wukv_val : val_main_v250 (F := Ideal) x0 x3 x4 x5 x13 x15 = fun i => ((∑ n, gwukv (K D) (R D n) (i 0) (i 1) (i 2) : ℝ) : EReal) := by
  funext i
  obtain ⟨h, j, l, rfl⟩ : ∃ (h : Fin 8) (j : Fin 256) (l : Fin 128), i = ix3 h j l := ⟨i 0, i 1, i 2, by idx_ext⟩
  unfold val_main_v250 val_main_v249 val_main_v248 val_main_call1_v0 val_main_c_47
  pointwise [gwu_at A]
  show _ = ((∑ n, xh 256 (ckv (R D n)) j * D.ckvn j * dkvu (R D n) (hd h l) : ℝ) : EReal)
  refine congrArg (fun z : ℝ => (z : EReal)) (Finset.sum_congr rfl fun n _ => congrArg (fun q => xh 256 (ckv (R D n)) j * D.ckvn j * dkvu (R D n) q) (Fin.ext ?_))
  show h.val * 128 + l.val = 128 * h.val + l.val
  omega
theorem wbin_val : val_main_v215 (F := Ideal) x0 x1 x2 x7 x8 x9 x10 x11 x12 x16 = fun i => ((∑ n, gwbin (K D) (R D n) (i 0) (i 1) : ℝ) : EReal) := by
  funext i
  obtain ⟨n, j, rfl⟩ : ∃ (n : Fin 1024) (j : Fin 896), i = ix2 n j := ⟨i 0, i 1, by idx_ext⟩
  exact gwb_at A n j
theorem wdkv_val : val_main_v241 (F := Ideal) x0 x1 x2 x3 x4 x5 x6 x13 x14 x15 = fun i => ((∑ n, gwdkv (K D) (R D n) (i 0) (i 1) : ℝ) : EReal) := by
  funext i
  obtain ⟨k, j, rfl⟩ : ∃ (k : Fin 1024) (j : Fin 384), i = ix2 k j := ⟨i 0, i 1, by idx_ext⟩
  have z : (256 ≤ j.val ∧ j.val < 320 ∨ 352 ≤ j.val) → ∑ n, gwdkv (K D) (R D n) k j = 0 := fun h => Finset.sum_eq_zero fun n _ => by
    unfold gwdkv; rw [dckr_rest _ _ _ h, mul_zero]
  unfold val_main_v241 val_main_v240 val_main_v239 val_main_v238 val_main_v237 val_main_cst_45 val_main_cst_46
  pointwise [gwd_at A]
  by_cases h1 : j.val < 256
  · rw [dif_pos h1]
    exact congrArg (fun z : ℝ => (z : EReal)) (Finset.sum_congr rfl fun n _ => congrArg (gwdkv (K D) (R D n) k) (Fin.ext (if_pos h1)))
  rw [dif_neg h1]
  by_cases h2 : j.val - 256 < 64
  · rw [dif_pos h2, z (Or.inl (by omega))]; rfl
  rw [dif_neg h2]
  by_cases h3 : j.val - 256 - 64 < 32
  · rw [dif_pos h3]
    refine congrArg (fun z : ℝ => (z : EReal)) (Finset.sum_congr rfl fun n _ => congrArg (gwdkv (K D) (R D n) k) (Fin.ext ?_))
    refine (if_neg (by show ¬(256 + (j.val - 256 - 64) < 256); omega)).trans ?_
    show 256 + (j.val - 256 - 64) + 64 = j.val
    omega
  · rw [dif_neg h3, z (Or.inr (by omega))]; rfl
theorem qn_val : val_main_v251 (F := Ideal) x0 x1 x2 x7 x8 x10 x11 x12 = fun i => ((∑ n, gqn (K D) (R D n) (i 1) : ℝ) : EReal) := by
  funext i
  obtain ⟨z, j, rfl⟩ : ∃ (z : Fin 1) (j : Fin 384), i = ix2 z j := ⟨i 0, i 1, by idx_ext⟩
  unfold val_main_v251
  pointwise [gqn_at A]
theorem bn_val : val_main_v252 (F := Ideal) x0 x1 x2 x7 x8 x9 x10 x11 x12 x16 = fun i => ((∑ n, gbn (K D) (R D n) (i 1) : ℝ) : EReal) := by
  funext i
  obtain ⟨z, j, rfl⟩ : ∃ (z : Fin 1) (j : Fin 1024), i = ix2 z j := ⟨i 0, i 1, by idx_ext⟩
  unfold val_main_v252
  pointwise [gbn_at A]
theorem ckvn_val : val_main_v253 (F := Ideal) x0 x3 x4 x6 x13 x15 = fun i => ((∑ n, gckvn (K D) (R D n) (i 1) : ℝ) : EReal) := by
  funext i
  obtain ⟨z, j, rfl⟩ : ∃ (z : Fin 1) (j : Fin 256), i = ix2 z j := ⟨i 0, i 1, by idx_ext⟩
  unfold val_main_v253
  pointwise [gckvn_at A]
theorem kvn_val : val_main_v254 (F := Ideal) x0 x1 x2 x3 x4 x5 x6 x13 x14 x15 = fun i => ((∑ n, gkvn (K D) (R D n) (i 1) : ℝ) : EReal) := by
  funext i
  obtain ⟨z, j, rfl⟩ : ∃ (z : Fin 1) (j : Fin 1024), i = ix2 z j := ⟨i 0, i 1, by idx_ext⟩
  unfold val_main_v254
  pointwise [gkvn_at A]

end Cert.LatRefVal
end
-- ==== Proof.LatClaim.lean ====
/- The claims about the backward call of the latent projections, and its reference. -/
module

public import proofs.«01_k».proof.Defs
public import proofs.«01_k».proof.Proof.LatBits
public import proofs.«01_k».proof.Proof.LatHost
public import proofs.«01_k».proof.Proof.LatRefRes
public import proofs.«01_k».proof.Proof.Finite
public import proofs.«01_k».proof.Proof.TailClaim
public import proofs.«01_k».proof.Proof.Gen.LatRefIdeal.Run
public import proofs.«01_k».proof.Proof.Gen.Pre_finite_latent

@[expose] public section

set_option maxHeartbeats 2000000
set_option maxRecDepth 8000

noncomputable section

open Idealize.ShloMosaic

namespace Cert.LatClaim

theorem frame_kernel : Cert.quiescent_Lat := Cert.LatBits.frame_kernel
theorem frame_ideal : Cert.quiescent_LatIdeal := fun m ρ _ => Cert.LatIdeal.Gen.frame m ρ
theorem frame_ideal_pre : Cert.quiescent_LatIdeal_pre_finite_latent := fun m ρ _ => Cert.LatIdeal.Gen.frame m ρ
theorem frame_reference : Cert.quiescent_LatRefIdeal := fun m ρ _ =>
  (θ_run Cert.LatRefIdeal.defs _ _).mono (fun r h => ⟨fun c => (h c).2.2.2.2.2.2.2.2.2, sem_eq_zero_of_no_sems (by decide) r.2⟩) (Cert.LatRefIdeal.Value.run m ρ)
theorem frame_reference_pre : Cert.quiescent_LatRefIdeal_pre_finite_latent := fun m ρ _ => frame_reference m ρ trivial
theorem preserves : Cert.preserves_Lat_LatIdeal := trivial

open Cert.TailClaim (seq pos seq_row pos_row)

/-- The real numbers behind finite arguments. -/
theorem real_args (m : (ℓ : Loc LatIdeal.nD LatIdeal.τ LatIdeal.sig) → Buf (Elt Ideal) ℓ) (h : Cert.Pre_LatIdeal_finite_latent m) (c : Dev LatIdeal.nD) :
    ∃ D, LatRefVal.RArgs (m ((c.tc : Thread _ LatIdeal.τ).loc LatIdeal.main_arg0)) (m ((c.tc : Thread _ LatIdeal.τ).loc LatIdeal.main_arg17)) (m ((c.tc : Thread _ LatIdeal.τ).loc LatIdeal.main_arg1)) (m ((c.tc : Thread _ LatIdeal.τ).loc LatIdeal.main_arg2)) (m ((c.tc : Thread _ LatIdeal.τ).loc LatIdeal.main_arg3)) (m ((c.tc : Thread _ LatIdeal.τ).loc LatIdeal.main_arg7))
      (m ((c.tc : Thread _ LatIdeal.τ).loc LatIdeal.main_arg4)) (m ((c.tc : Thread _ LatIdeal.τ).loc LatIdeal.main_arg5)) (m ((c.tc : Thread _ LatIdeal.τ).loc LatIdeal.main_arg6)) (m ((c.tc : Thread _ LatIdeal.τ).loc LatIdeal.main_arg8)) (m ((c.tc : Thread _ LatIdeal.τ).loc LatIdeal.main_arg9)) (m ((c.tc : Thread _ LatIdeal.τ).loc LatIdeal.main_arg10))
      (m ((c.tc : Thread _ LatIdeal.τ).loc LatIdeal.main_arg11)) (m ((c.tc : Thread _ LatIdeal.τ).loc LatIdeal.main_arg13)) (m ((c.tc : Thread _ LatIdeal.τ).loc LatIdeal.main_arg15)) (m ((c.tc : Thread _ LatIdeal.τ).loc LatIdeal.main_arg12)) (m ((c.tc : Thread _ LatIdeal.τ).loc LatIdeal.main_arg14)) (m ((c.tc : Thread _ LatIdeal.τ).loc LatIdeal.main_arg16)) D := by
  have e := congrFun (h c) (Shape.Idx.first (by decide))
  dsimp only [Cert.Pre_finite_latent.fn, Cert.Pre_finite_latent.fn_part1, Cert.Pre_finite_latent.fn_part2, Cert.Pre_finite_latent.fn_part3, Cert.Pre_finite_latent.fn_part4, Cert.Pre_finite_latent.fn_part5] at e
  obtain ⟨e, e17⟩ := IntOp.andi_eq_one.mp e
  obtain ⟨e, e16⟩ := IntOp.andi_eq_one.mp e
  obtain ⟨e, e15⟩ := IntOp.andi_eq_one.mp e
  obtain ⟨e, e14⟩ := IntOp.andi_eq_one.mp e
  obtain ⟨e, e13⟩ := IntOp.andi_eq_one.mp e
  obtain ⟨e, e12⟩ := IntOp.andi_eq_one.mp e
  obtain ⟨e, e11⟩ := IntOp.andi_eq_one.mp e
  obtain ⟨e, e10⟩ := IntOp.andi_eq_one.mp e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  obtain ⟨f0, h0⟩ := Finite.real_of_all _ _ _ _ _ _ e0
  obtain ⟨f1, h1⟩ := Finite.real_of_all _ _ _ _ _ _ e1
  obtain ⟨f2, h2⟩ := Finite.real_of_all _ _ _ _ _ _ e2
  obtain ⟨f3, h3⟩ := Finite.real_of_all _ _ _ _ _ _ e3
  obtain ⟨f4, h4⟩ := Finite.real_of_all _ _ _ _ _ _ e4
  obtain ⟨f5, h5⟩ := Finite.real_of_all _ _ _ _ _ _ e5
  obtain ⟨f6, h6⟩ := Finite.real_of_all _ _ _ _ _ _ e6
  obtain ⟨f7, h7⟩ := Finite.real_of_all _ _ _ _ _ _ e7
  obtain ⟨f8, h8⟩ := Finite.real_of_all _ _ _ _ _ _ e8
  obtain ⟨f9, h9⟩ := Finite.real_of_all _ _ _ _ _ _ e9
  obtain ⟨f10, h10⟩ := Finite.real_of_all _ _ _ _ _ _ e10
  obtain ⟨f11, h11⟩ := Finite.real_of_all _ _ _ _ _ _ e11
  obtain ⟨f12, h12⟩ := Finite.real_of_all _ _ _ _ _ _ e12
  obtain ⟨f13, h13⟩ := Finite.real_of_all _ _ _ _ _ _ e13
  obtain ⟨f14, h14⟩ := Finite.real_of_all _ _ _ _ _ _ e14
  obtain ⟨f15, h15⟩ := Finite.real_of_all _ _ _ _ _ _ e15
  obtain ⟨f16, h16⟩ := Finite.real_of_all _ _ _ _ _ _ e16
  obtain ⟨f17, h17⟩ := Finite.real_of_all _ _ _ _ _ _ e17
  refine ⟨⟨fun n k => f0 (ix3 (seq n) (pos n) k), fun n k => f17 (ix3 (seq n) (pos n) k), fun n k => f1 (ix3 (seq n) (pos n) k), fun n k => f2 (ix3 (seq n) (pos n) k), fun k => f3 (ix1 k), fun k j => f4 (ix2 k j), fun k => f5 (ix1 k), fun k j => f6 (ix2 k j),
      fun k => f7 (ix1 k), fun k j => f8 (ix2 k j), fun k => f9 (ix1 k), fun k j => f10 (ix2 k j), fun n h e => f11 (ix4 (seq n) (pos n) h e), fun n h e => f12 (ix4 (seq n) (pos n) h e), fun n h e => f13 (ix4 (seq n) (pos n) h e), fun n h e => f14 (ix4 (seq n) (pos n) h e), fun n h e => f15 (ix4 (seq n) (pos n) h e), fun n k => f16 (ix3 (seq n) (pos n) k)⟩, ?_⟩
  constructor
  · exact fun b s k => by dsimp only; rw [seq_row, pos_row]; exact h0 _
  · exact fun b s k => by dsimp only; rw [seq_row, pos_row]; exact h1 _
  · exact fun b s k => by dsimp only; rw [seq_row, pos_row]; exact h2 _
  · exact fun k => h3 _
  · exact fun k j => h4 _
  · exact fun k => h5 _
  · exact fun k j => h6 _
  · exact fun k => h7 _
  · exact fun k j => h8 _
  · exact fun k => h9 _
  · exact fun k j => h10 _
  · exact fun b s h e => by dsimp only; rw [seq_row, pos_row]; exact h11 _
  · exact fun b s h e => by dsimp only; rw [seq_row, pos_row]; exact h12 _
  · exact fun b s h e => by dsimp only; rw [seq_row, pos_row]; exact h13 _
  · exact fun b s h e => by dsimp only; rw [seq_row, pos_row]; exact h14 _
  · exact fun b s h e => by dsimp only; rw [seq_row, pos_row]; exact h15 _
  · exact fun b s k => by dsimp only; rw [seq_row, pos_row]; exact h16 _
  · exact fun b s k => by dsimp only; rw [seq_row, pos_row]; exact h17 _

/-- The kernel's nine results are the reference's. -/
theorem algebraic : Cert.algebraic_LatIdeal_LatRefIdeal_pre_finite_latent := by
  intro m ρ m' ρ' hp hm
  refine ⟨_, _, _, _, _, _, _, _, _, ?_, Cert.LatRefIdeal.Value.run m' ρ'⟩
  refine (θ_run Cert.LatIdeal.defs _ _).mono (fun r h c => ?_) (θ_run_and (Cert.LatIdeal.Gen.run_main (F := Ideal) m ρ) (Cert.LatIdeal.Gen.frame m ρ))
  obtain ⟨D, A⟩ := real_args m hp c
  have H := LatHost.blocks A
  obtain ⟨a0, a1, a2, a3, a4, a5, a6, a7, a8, a9, a10, a11, a12, a13, a14, a15, a16, a17⟩ := hm c
  have B : LatRefVal.RArgs (m' ((c.tc : Thread _ LatRefIdeal.τ).loc LatRefIdeal.main_arg0)) (m' ((c.tc : Thread _ LatRefIdeal.τ).loc LatRefIdeal.main_arg17)) (m' ((c.tc : Thread _ LatRefIdeal.τ).loc LatRefIdeal.main_arg1)) (m' ((c.tc : Thread _ LatRefIdeal.τ).loc LatRefIdeal.main_arg2)) (m' ((c.tc : Thread _ LatRefIdeal.τ).loc LatRefIdeal.main_arg3)) (m' ((c.tc : Thread _ LatRefIdeal.τ).loc LatRefIdeal.main_arg7))
      (m' ((c.tc : Thread _ LatRefIdeal.τ).loc LatRefIdeal.main_arg4)) (m' ((c.tc : Thread _ LatRefIdeal.τ).loc LatRefIdeal.main_arg5)) (m' ((c.tc : Thread _ LatRefIdeal.τ).loc LatRefIdeal.main_arg6)) (m' ((c.tc : Thread _ LatRefIdeal.τ).loc LatRefIdeal.main_arg8)) (m' ((c.tc : Thread _ LatRefIdeal.τ).loc LatRefIdeal.main_arg9)) (m' ((c.tc : Thread _ LatRefIdeal.τ).loc LatRefIdeal.main_arg10))
      (m' ((c.tc : Thread _ LatRefIdeal.τ).loc LatRefIdeal.main_arg11)) (m' ((c.tc : Thread _ LatRefIdeal.τ).loc LatRefIdeal.main_arg13)) (m' ((c.tc : Thread _ LatRefIdeal.τ).loc LatRefIdeal.main_arg15)) (m' ((c.tc : Thread _ LatRefIdeal.τ).loc LatRefIdeal.main_arg12)) (m' ((c.tc : Thread _ LatRefIdeal.τ).loc LatRefIdeal.main_arg14)) (m' ((c.tc : Thread _ LatRefIdeal.τ).loc LatRefIdeal.main_arg16)) D := by
    rw [a0, a1, a2, a3, a4, a5, a6, a7, a8, a9, a10, a11, a12, a13, a14, a15, a16, a17]
    exact A
  have K := (h.1 c).1
  exact ⟨(K 19).trans ((LatFinal.dx_final H).trans ((LatRefIdeal.Read.val_main_v244_eq _).trans (LatRefVal.dx_val B)).symm),
    (K 20).trans ((LatFinal.wuq_final H).trans ((LatRefIdeal.Read.val_main_v247_eq _).trans (LatRefVal.wuq_val B)).symm),
    (K 21).trans ((LatFinal.wbin_final H).trans ((LatRefIdeal.Read.val_main_v215_eq _).trans (LatRefVal.wbin_val B)).symm),
    (K 22).trans ((LatFinal.wukv_final H).trans ((LatRefIdeal.Read.val_main_v250_eq _).trans (LatRefVal.wukv_val B)).symm),
    (K 23).trans ((LatFinal.wdkv_final H).trans ((LatRefIdeal.Read.val_main_v241_eq _).trans (LatRefVal.wdkv_val B)).symm),
    (K 24).trans ((LatFinal.qn_final H).trans ((LatRefIdeal.Read.val_main_v251_eq _).trans (LatRefVal.qn_val B)).symm),
    (K 25).trans ((LatFinal.bn_final H).trans ((LatRefIdeal.Read.val_main_v252_eq _).trans (LatRefVal.bn_val B)).symm),
    (K 26).trans ((LatFinal.ckvn_final H).trans ((LatRefIdeal.Read.val_main_v253_eq _).trans (LatRefVal.ckvn_val B)).symm),
    (K 27).trans ((LatFinal.kvn_final H).trans ((LatRefIdeal.Read.val_main_v254_eq _).trans (LatRefVal.kvn_val B)).symm), h.2.1 c⟩

end Cert.LatClaim

end
-- ==== Proof.lean ====
module

public import proofs.«01_k».proof.Proof.Gen.TailIdeal.Value
public import proofs.«01_k».proof.Proof.Gen.TailRefIdeal.Run
public import proofs.«01_k».proof.Proof.Gen.TailRefIdeal.Read
public import proofs.«01_k».proof.Proof.Gen.AttnRefIdeal.Run
public import proofs.«01_k».proof.Proof.Gen.AttnRefIdeal.Read
public import proofs.«01_k».proof.Defs
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.Conv.Frame
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_tail
public import proofs.«01_k».proof.Proof.Gen.Pre_finite_attention
public import proofs.«01_k».proof.Proof.Gen.Pre_finite_conv
public import proofs.«01_k».proof.Proof.Gen.Pre_finite_latent
public import proofs.«01_k».proof.Proof.TailClaim
public import proofs.«01_k».proof.Proof.AttnClaim
public import proofs.«01_k».proof.Proof.ConvClaim
public import proofs.«01_k».proof.Proof.LatClaim
public import Idealize.ShloMosaic.Adequacy
public import Idealize.ShloMosaic.Init

@[expose] public section

noncomputable section

namespace Cert.Proof

theorem claim : Cert.Claim := ⟨Cert.Tail.Gen.facts, Cert.TailIdeal.Gen.facts, Cert.TailRefIdeal.Gen.facts,
  Cert.Attn.Gen.facts, Cert.AttnIdeal.Gen.facts, Cert.AttnRefIdeal.Gen.facts,
  Cert.Conv.Gen.facts, Cert.ConvIdeal.Gen.facts, Cert.ConvRefIdeal.Gen.facts,
  Cert.Lat.Gen.facts, Cert.LatIdeal.Gen.facts, Cert.LatRefIdeal.Gen.facts,
  Cert.Pre_finite_tail.Gen.facts, Cert.Pre_finite_attention.Gen.facts, Cert.Pre_finite_conv.Gen.facts, Cert.Pre_finite_latent.Gen.facts,
  TailClaim.frame_kernel, TailClaim.frame_ideal, TailClaim.frame_ideal_pre, TailClaim.frame_reference, TailClaim.frame_reference_pre,
  AttnClaim.frame_kernel, AttnClaim.frame_ideal, AttnClaim.frame_ideal_pre, AttnClaim.frame_reference, AttnClaim.frame_reference_pre,
  ConvClaim.frame_kernel, ConvClaim.frame_ideal, ConvClaim.frame_ideal_pre, ConvClaim.frame_reference, ConvClaim.frame_reference_pre,
  LatClaim.frame_kernel, LatClaim.frame_ideal, LatClaim.frame_ideal_pre, LatClaim.frame_reference, LatClaim.frame_reference_pre,
  TailClaim.preserves, TailClaim.algebraic,
  AttnClaim.preserves, AttnClaim.algebraic,
  ConvClaim.preserves, ConvClaim.algebraic,
  LatClaim.preserves, LatClaim.algebraic⟩

end Cert.Proof

end
